-- ==== Defs.lean ====
def Pre_Kernel [hPre_balanced_Kernel : Cert.Pre_balanced_Kernel.Facts] (m : (ℓ : Loc Cert.Kernel.nD Cert.Kernel.τ Cert.Kernel.sig) → Buf (Elt Bits) ℓ) : Prop :=
  ∀ c : Dev Cert.Kernel.nD,
    (Cert.Pre_balanced_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_balanced_Kernel : Cert.Pre_balanced_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_balanced_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_balanced_ReferenceIdeal [hPre_balanced_ReferenceIdeal : Cert.Pre_balanced_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_balanced_Kernel : Cert.Pre_balanced_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_balanced_ReferenceIdeal [hReferenceIdeal : Cert.ReferenceIdeal.Facts] [hPre_balanced_ReferenceIdeal : Cert.Pre_balanced_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![2048]⟩ ⟨1, ![4096]⟩ (Layout.meshBlock [2, 4, 4] ![[0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![2048, 1024]⟩ ⟨2, ![4096, 1024]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_balanced_Kernel : Cert.Pre_balanced_Kernel.Facts) (hPre_balanced_ReferenceIdeal : Cert.Pre_balanced_ReferenceIdeal.Facts),
    quiescent_Kernel (hKernel := hKernel) (hPre_balanced_Kernel := hPre_balanced_Kernel)
    ∧ quiescent_KernelIdeal (hKernelIdeal := hKernelIdeal) (hPre_balanced_Kernel := hPre_balanced_Kernel)
    ∧ quiescent_ReferenceIdeal (hReferenceIdeal := hReferenceIdeal)
    ∧ quiescent_ReferenceIdeal_pre_balanced_ReferenceIdeal (hReferenceIdeal := hReferenceIdeal) (hPre_balanced_ReferenceIdeal := hPre_balanced_ReferenceIdeal)
    ∧ preserves_Kernel_KernelIdeal
    ∧ algebraic_KernelIdeal_ReferenceIdeal (hKernelIdeal := hKernelIdeal) (hReferenceIdeal := hReferenceIdeal) (hPre_balanced_Kernel := hPre_balanced_Kernel)
-- ==== Pre_balanced_Kernel.lean ====
abbrev S2048x1024 : Shape := ⟨2, ![2048, 1024]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S2048x1024 .f32) (main_arg1 : IVec S2048 32) : IVec S_ 1 :=
  let main_c : IVec S_ 32 := constantI S_ 32 0#32
  let main_v0 : IVec S2048 32 := broadcastInDim S2048 ![] bcast_S_S2048 main_c
  let main_v1 : IVec S2048 1 := cmpi .eq main_arg1 main_v0
  let main_c_0 : IVec S_ 32 := constantI S_ 32 1#32
  let main_v2 : IVec S2048 32 := broadcastInDim S2048 ![] bcast_S_S2048 main_c_0
  let main_v3 : IVec S2048 1 := cmpi .eq main_arg1 main_v2
  let main_v4 : IVec S2048 1 := ori main_v1 main_v3
  let main_c_1 : IVec S_ 1 := constantI S_ 1 1#1
  let main_v5 : IVec S_ 1 := (fun x v => Host.reduce IntOp.andi x v reducesTo_S2048_S_d0 h_S_) main_v4 main_c_1
  let main_c_2 : IVec S_ 32 := constantI S_ 32 0#32
  let main_v6 : IVec S_ 32 := (fun x v => Host.reduce IntOp.addi x v reducesTo_S2048_S_d0 h_S_) main_arg1 main_c_2
  let main_c_3 : IVec S_ 32 := constantI S_ 32 1024#32
  let main_v7 : IVec S_ 1 := cmpi .eq main_v6 main_c_3
  let main_v8 : IVec S_ 1 := andi main_v5 main_v7
  main_v8
-- ==== Pre_balanced_ReferenceIdeal.lean ====
abbrev S4096x1024 : Shape := ⟨2, ![4096, 1024]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x1024 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .eq main_arg1 main_v0
  let main_c_0 : IVec S_ 32 := constantI S_ 32 1#32
  let main_v2 : IVec S4096 32 := broadcastInDim S4096 ![] bcast_S_S4096 main_c_0
  let main_v3 : IVec S4096 1 := cmpi .eq main_arg1 main_v2
  let main_v4 : IVec S4096 1 := ori main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S_ 32 := (fun x v => Host.reduce IntOp.addi x v reducesTo_S4096_S_d0 h_S_) main_arg1 main_c_2
  let main_c_3 : IVec S_ 32 := constantI S_ 32 1024#32
  let main_v7 : IVec S_ 1 := cmpi .eq main_v6 main_c_3
  let main_v8 : IVec S_ 1 := andi main_v5 main_v7
  main_v8
-- ==== Kernel.lean ====
abbrev S2048x1024 : Shape := ⟨2, ![2048, 1024]⟩
abbrev S2048 : Shape := ⟨1, ![2048]⟩
abbrev S16x128 : Shape := ⟨2, ![16, 128]⟩
abbrev S16384x128 : Shape := ⟨2, ![16384, 128]⟩
abbrev S17408x128 : Shape := ⟨2, ![17408, 128]⟩
abbrev S19 : Shape := ⟨1, ![19]⟩
abbrev S7 : Shape := ⟨1, ![7]⟩
abbrev S_ : Shape := ⟨0, ![]⟩
abbrev S1x16x128 : Shape := ⟨3, ![1, 16, 128]⟩
abbrev S1 : Shape := ⟨1, ![1]⟩
abbrev S1x1x1 : Shape := ⟨3, ![1, 1, 1]⟩
abbrev S8x1024 : Shape := ⟨2, ![8, 1024]⟩
abbrev S64x128 : Shape := ⟨2, ![64, 128]⟩
abbrev S8x128 : Shape := ⟨2, ![8, 128]⟩
abbrev S1x1 : Shape := ⟨2, ![1, 1]⟩
abbrev S256x128 : Shape := ⟨2, ![256, 128]⟩
abbrev S1024x128 : Shape := ⟨2, ![1024, 128]⟩
abbrev S512x128 : Shape := ⟨2, ![512, 128]⟩
abbrev S128x128 : Shape := ⟨2, ![128, 128]⟩
abbrev S32x128 : Shape := ⟨2, ![32, 128]⟩

abbrev nBuf : Space → Nat
  | .hbm => 4
  | .vmem => 7
  | .smem => 1
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S16x128, .i32⟩
  | .hbm, ⟨3, _⟩ => ⟨S2048x1024, .f32⟩
  | .local _ .vmem, ⟨0, _⟩ => ⟨S2048x1024, .f32⟩
  | .local _ .vmem, ⟨1, _⟩ => ⟨S16x128, .i32⟩
  | .local _ .vmem, ⟨2, _⟩ => ⟨S2048x1024, .f32⟩
  | .local _ .vmem, ⟨3, _⟩ => ⟨S16384x128, .f32⟩
  | .local _ .vmem, ⟨4, _⟩ => ⟨S17408x128, .f32⟩
  | .local _ .vmem, ⟨5, _⟩ => ⟨S17408x128, .bf16⟩
  | .local _ .vmem, ⟨6, _⟩ => ⟨S16384x128, .bf16⟩
  | .local _ .smem, ⟨0, _⟩ => ⟨S16x128, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_7 : BitVec 32 := 16#32
  let v30 : BitVec 32 := Scalar.muli v9 c16_i32_7
  let v31 : BitVec 32 := Scalar.addi c0_i32 v30
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v32 : BitVec 32 := Scalar.muli v5 c4_i32_8
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v34 : BitVec 32 := Scalar.muli v8 c1_i32_9
  let v35 : BitVec 32 := Scalar.addi v33 v34
  v35.toNat
@[reducible] def k0_t1_loop : Scf.Loop 32 :=
  let c0_i32_13 : BitVec 32 := 0#32
  let c16_i32_14 : BitVec 32 := 16#32
  let v36 : BitVec 32 := Scalar.addi c0_i32_13 c16_i32_14
  let c1_i32_15 : BitVec 32 := 1#32
  ⟨c0_i32_13, v36, c1_i32_15⟩
def k0_mult1 (k0_t1 : Fin k0_t1_loop.trips) : BitVec 32 :=
  let c0_i32_731 : BitVec 32 := 0#32
  let c0_i32_13 : BitVec 32 := 0#32
  let c1_i32_15 : BitVec 32 := 1#32
  let arg13 : BitVec 32 := Scf.iv c0_i32_13 c1_i32_15 k0_t1
  let c8_i32_730 : BitVec 32 := 8#32
  let v1142 : BitVec 32 := Scalar.muli arg13 c8_i32_730
  let v1143 : BitVec 32 := Scalar.addi c0_i32_731 v1142
  v1143
def k0_off1 (k0_t1 : Fin k0_t1_loop.trips) : Fin 2 → Nat :=
  let c0_i32_731 : BitVec 32 := 0#32
  let c0_i32_13 : BitVec 32 := 0#32
  let c1_i32_15 : BitVec 32 := 1#32
  let arg13 : BitVec 32 := Scf.iv c0_i32_13 c1_i32_15 k0_t1
  let c8_i32_730 : BitVec 32 := 8#32
  let v1142 : BitVec 32 := Scalar.muli arg13 c8_i32_730
  let v1143 : BitVec 32 := Scalar.addi c0_i32_731 v1142
  let v1144 : BitVec 32 := v1143
  let v1145 : Index := Scalar.indexCast v1144
  let c0_732 : Index := 0#32
  ![v1145.toNat, 0]
def k0_off2 (k0_t1 : Fin k0_t1_loop.trips) : Fin 2 → Nat :=
  let c0_735 : Index := 0#32
  let c0_i32_13 : BitVec 32 := 0#32
  let c1_i32_15 : BitVec 32 := 1#32
  let arg13 : BitVec 32 := Scf.iv c0_i32_13 c1_i32_15 k0_t1
  let c8_i32_733 : BitVec 32 := 8#32
  let v1150 : BitVec 32 := Scalar.muli arg13 c8_i32_733
  let c0_i32_734 : BitVec 32 := 0#32
  let v1151 : BitVec 32 := Scalar.addi v1150 c0_i32_734
  let v1152 : Index := Scalar.indexCast v1151
  ![0, v1152.toNat]
def k0_mult2 (arg14 : BitVec 32) : BitVec 32 :=
  let c8_i32_789 : BitVec 32 := 8#32
  let v1269 : BitVec 32 := Scalar.muli arg14 c8_i32_789
  v1269
def k0_cond1 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1155 : BitVec 32 := Scalar.extui v1154
  let c0_i32_736 : BitVec 32 := 0#32
  let v1156 : BitVec 1 := Scalar.cmpi .ne v1155 c0_i32_736
  v1156

def k0_off3 (arg14 : BitVec 32) : Fin 2 → Nat :=
  let c8_i32_789 : BitVec 32 := 8#32
  let v1269 : BitVec 32 := Scalar.muli arg14 c8_i32_789
  let v1270 : BitVec 32 := v1269
  let v1271 : Index := Scalar.indexCast v1270
  let c0_790 : Index := 0#32
  ![v1271.toNat, 0]
def k0_mult3 (d0 : Dev nD) (v18 : BitVec 32) (arg15 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_789 : BitVec 32 := 8#32
  let v1270 : BitVec 32 := Scalar.muli v1269 c8_i32_789
  v1270
def k0_cond2 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let true_737 : BitVec 1 := 1#1
  let v1157 : BitVec 1 := Scalar.xori v1154 true_737
  let v1158 : BitVec 32 := Scalar.extui v1157
  let c0_i32_738 : BitVec 32 := 0#32
  let v1159 : BitVec 1 := Scalar.cmpi .ne v1158 c0_i32_738
  v1159

def k0_off4 (d0 : Dev nD) (v18 : BitVec 32) (arg15 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_789 : BitVec 32 := 8#32
  let v1270 : BitVec 32 := Scalar.muli v1269 c8_i32_789
  let v1271 : BitVec 32 := v1270
  let v1272 : Index := Scalar.indexCast v1271
  let c0_790 : Index := 0#32
  ![v1272.toNat, 0]

def k0_chk1 (d0 : Dev nD) (v18 : BitVec 32) (arg14 : BitVec 32) (arg15 : BitVec 32) (v1153 : BitVec 32) : Prop :=
  (∀ (k0_h1 : k0_cond1 d0 v1153 = 1#1), 8 ∣ (k0_mult2 arg14).toNat) ∧
  (∀ (k0_h1 : k0_cond1 d0 v1153 = 1#1), ∀ a, (k0_off3 arg14) a + S8x128.size a ≤ S17408x128.size a) ∧
  (∀ (k0_h2 : k0_cond2 d0 v1153 = 1#1), 8 ∣ (k0_mult3 d0 v18 arg15).toNat) ∧
  (∀ (k0_h2 : k0_cond2 d0 v1153 = 1#1), ∀ a, (k0_off4 d0 v18 arg15) a + S8x128.size a ≤ S16384x128.size a)
theorem k0_mult2_dvd : ∀ (d0 : Dev nD) (v18 : BitVec 32) (arg14 : BitVec 32) (arg15 : BitVec 32) (v1153 : BitVec 32) (k0_hw1 : k0_chk1 d0 v18 arg14 arg15 v1153), ∀ (k0_h1 : k0_cond1 d0 v1153 = 1#1), 8 ∣ (k0_mult2 arg14).toNat := fun d0 v18 arg14 arg15 v1153 k0_hw1 k0_h1 => k0_hw1.1 k0_h1
theorem k0_off3_inb : ∀ (d0 : Dev nD) (v18 : BitVec 32) (arg14 : BitVec 32) (arg15 : BitVec 32) (v1153 : BitVec 32) (k0_hw1 : k0_chk1 d0 v18 arg14 arg15 v1153), ∀ (k0_h1 : k0_cond1 d0 v1153 = 1#1), ∀ a, (k0_off3 arg14) a + S8x128.size a ≤ S17408x128.size a := fun d0 v18 arg14 arg15 v1153 k0_hw1 k0_h1 => k0_hw1.2.1 k0_h1
theorem k0_mult3_dvd : ∀ (d0 : Dev nD) (v18 : BitVec 32) (arg14 : BitVec 32) (arg15 : BitVec 32) (v1153 : BitVec 32) (k0_hw1 : k0_chk1 d0 v18 arg14 arg15 v1153), ∀ (k0_h2 : k0_cond2 d0 v1153 = 1#1), 8 ∣ (k0_mult3 d0 v18 arg15).toNat := fun d0 v18 arg14 arg15 v1153 k0_hw1 k0_h2 => k0_hw1.2.2.1 k0_h2
theorem k0_off4_inb : ∀ (d0 : Dev nD) (v18 : BitVec 32) (arg14 : BitVec 32) (arg15 : BitVec 32) (v1153 : BitVec 32) (k0_hw1 : k0_chk1 d0 v18 arg14 arg15 v1153), ∀ (k0_h2 : k0_cond2 d0 v1153 = 1#1), ∀ a, (k0_off4 d0 v18 arg15) a + S8x128.size a ≤ S16384x128.size a := fun d0 v18 arg14 arg15 v1153 k0_hw1 k0_h2 => k0_hw1.2.2.2 k0_h2

def k0_off5 (k0_t1 : Fin k0_t1_loop.trips) : Fin 2 → Nat :=
  let c0_742 : Index := 0#32
  let c0_i32_13 : BitVec 32 := 0#32
  let c1_i32_15 : BitVec 32 := 1#32
  let arg13 : BitVec 32 := Scf.iv c0_i32_13 c1_i32_15 k0_t1
  let c8_i32_740 : BitVec 32 := 8#32
  let v1165 : BitVec 32 := Scalar.muli arg13 c8_i32_740
  let c1_i32_741 : BitVec 32 := 1#32
  let v1166 : BitVec 32 := Scalar.addi v1165 c1_i32_741
  let v1167 : Index := Scalar.indexCast v1166
  ![0, v1167.toNat]
def k0_mult4 (d0 : Dev nD) (arg14 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_789 : BitVec 32 := 8#32
  let v1269 : BitVec 32 := Scalar.muli v1161 c8_i32_789
  v1269
def k0_cond3 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let v1170 : BitVec 32 := Scalar.extui v1169
  let c0_i32_743 : BitVec 32 := 0#32
  let v1171 : BitVec 1 := Scalar.cmpi .ne v1170 c0_i32_743
  v1171

def k0_off6 (d0 : Dev nD) (arg14 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_789 : BitVec 32 := 8#32
  let v1269 : BitVec 32 := Scalar.muli v1161 c8_i32_789
  let v1270 : BitVec 32 := v1269
  let v1271 : Index := Scalar.indexCast v1270
  let c0_790 : Index := 0#32
  ![v1271.toNat, 0]
def k0_mult5 (d0 : Dev nD) (v18 : BitVec 32) (arg15 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_739 : BitVec 32 := 1#32
  let v1162 : BitVec 32 := Scalar.addi arg15 c1_i32_739
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_789 : BitVec 32 := 8#32
  let v1270 : BitVec 32 := Scalar.muli v1269 c8_i32_789
  v1270
def k0_cond4 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let true_744 : BitVec 1 := 1#1
  let v1172 : BitVec 1 := Scalar.xori v1169 true_744
  let v1173 : BitVec 32 := Scalar.extui v1172
  let c0_i32_745 : BitVec 32 := 0#32
  let v1174 : BitVec 1 := Scalar.cmpi .ne v1173 c0_i32_745
  v1174

def k0_off7 (d0 : Dev nD) (v18 : BitVec 32) (arg15 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_739 : BitVec 32 := 1#32
  let v1162 : BitVec 32 := Scalar.addi arg15 c1_i32_739
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_789 : BitVec 32 := 8#32
  let v1270 : BitVec 32 := Scalar.muli v1269 c8_i32_789
  let v1271 : BitVec 32 := v1270
  let v1272 : Index := Scalar.indexCast v1271
  let c0_790 : Index := 0#32
  ![v1272.toNat, 0]

def k0_chk2 (d0 : Dev nD) (v18 : BitVec 32) (arg14 : BitVec 32) (arg15 : BitVec 32) (v1153 : BitVec 32) (v1168 : BitVec 32) : Prop :=
  (∀ (k0_h3 : k0_cond3 d0 v1168 = 1#1), 8 ∣ (k0_mult4 d0 arg14 v1153).toNat) ∧
  (∀ (k0_h3 : k0_cond3 d0 v1168 = 1#1), ∀ a, (k0_off6 d0 arg14 v1153) a + S8x128.size a ≤ S17408x128.size a) ∧
  (∀ (k0_h4 : k0_cond4 d0 v1168 = 1#1), 8 ∣ (k0_mult5 d0 v18 arg15 v1153).toNat) ∧
  (∀ (k0_h4 : k0_cond4 d0 v1168 = 1#1), ∀ a, (k0_off7 d0 v18 arg15 v1153) a + S8x128.size a ≤ S16384x128.size a)
theorem k0_mult4_dvd : ∀ (d0 : Dev nD) (v18 : BitVec 32) (arg14 : BitVec 32) (arg15 : BitVec 32) (v1153 : BitVec 32) (v1168 : BitVec 32) (k0_hw2 : k0_chk2 d0 v18 arg14 arg15 v1153 v1168), ∀ (k0_h3 : k0_cond3 d0 v1168 = 1#1), 8 ∣ (k0_mult4 d0 arg14 v1153).toNat := fun d0 v18 arg14 arg15 v1153 v1168 k0_hw2 k0_h3 => k0_hw2.1 k0_h3
theorem k0_off6_inb : ∀ (d0 : Dev nD) (v18 : BitVec 32) (arg14 : BitVec 32) (arg15 : BitVec 32) (v1153 : BitVec 32) (v1168 : BitVec 32) (k0_hw2 : k0_chk2 d0 v18 arg14 arg15 v1153 v1168), ∀ (k0_h3 : k0_cond3 d0 v1168 = 1#1), ∀ a, (k0_off6 d0 arg14 v1153) a + S8x128.size a ≤ S17408x128.size a := fun d0 v18 arg14 arg15 v1153 v1168 k0_hw2 k0_h3 => k0_hw2.2.1 k0_h3
theorem k0_mult5_dvd : ∀ (d0 : Dev nD) (v18 : BitVec 32) (arg14 : BitVec 32) (arg15 : BitVec 32) (v1153 : BitVec 32) (v1168 : BitVec 32) (k0_hw2 : k0_chk2 d0 v18 arg14 arg15 v1153 v1168), ∀ (k0_h4 : k0_cond4 d0 v1168 = 1#1), 8 ∣ (k0_mult5 d0 v18 arg15 v1153).toNat := fun d0 v18 arg14 arg15 v1153 v1168 k0_hw2 k0_h4 => k0_hw2.2.2.1 k0_h4
theorem k0_off7_inb : ∀ (d0 : Dev nD) (v18 : BitVec 32) (arg14 : BitVec 32) (arg15 : BitVec 32) (v1153 : BitVec 32) (v1168 : BitVec 32) (k0_hw2 : k0_chk2 d0 v18 arg14 arg15 v1153 v1168), ∀ (k0_h4 : k0_cond4 d0 v1168 = 1#1), ∀ a, (k0_off7 d0 v18 arg15 v1153) a + S8x128.size a ≤ S16384x128.size a := fun d0 v18 arg14 arg15 v1153 v1168 k0_hw2 k0_h4 => k0_hw2.2.2.2 k0_h4

def k0_off8 (k0_t1 : Fin k0_t1_loop.trips) : Fin 2 → Nat :=
  let c0_749 : Index := 0#32
  let c0_i32_13 : BitVec 32 := 0#32
  let c1_i32_15 : BitVec 32 := 1#32
  let arg13 : BitVec 32 := Scf.iv c0_i32_13 c1_i32_15 k0_t1
  let c8_i32_747 : BitVec 32 := 8#32
  let v1180 : BitVec 32 := Scalar.muli arg13 c8_i32_747
  let c2_i32_748 : BitVec 32 := 2#32
  let v1181 : BitVec 32 := Scalar.addi v1180 c2_i32_748
  let v1182 : Index := Scalar.indexCast v1181
  ![0, v1182.toNat]
def k0_mult6 (d0 : Dev nD) (arg14 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_789 : BitVec 32 := 8#32
  let v1269 : BitVec 32 := Scalar.muli v1176 c8_i32_789
  v1269
def k0_cond5 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let v1185 : BitVec 32 := Scalar.extui v1184
  let c0_i32_750 : BitVec 32 := 0#32
  let v1186 : BitVec 1 := Scalar.cmpi .ne v1185 c0_i32_750
  v1186

def k0_off9 (d0 : Dev nD) (arg14 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_789 : BitVec 32 := 8#32
  let v1269 : BitVec 32 := Scalar.muli v1176 c8_i32_789
  let v1270 : BitVec 32 := v1269
  let v1271 : Index := Scalar.indexCast v1270
  let c0_790 : Index := 0#32
  ![v1271.toNat, 0]
def k0_mult7 (d0 : Dev nD) (v18 : BitVec 32) (arg15 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_739 : BitVec 32 := 1#32
  let v1162 : BitVec 32 := Scalar.addi arg15 c1_i32_739
  let v1154 : BitVec 1 := Scalar.cmpi .ne v1153 v2
  let v1160 : BitVec 32 := Scalar.extui v1154
  let v1163 : BitVec 32 := Scalar.subi v1162 v1160
  let c1_i32_746 : BitVec 32 := 1#32
  let v1177 : BitVec 32 := Scalar.addi v1163 c1_i32_746
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_789 : BitVec 32 := 8#32
  let v1270 : BitVec 32 := Scalar.muli v1269 c8_i32_789
  v1270
def k0_cond6 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let true_751 : BitVec 1 := 1#1
  let v1187 : BitVec 1 := Scalar.xori v1184 true_751
  let v1188 : BitVec 32 := Scalar.extui v1187
  let c0_i32_752 : BitVec 32 := 0#32
  let v1189 : BitVec 1 := Scalar.cmpi .ne v1188 c0_i32_752
  v1189

def k0_off10 (d0 : Dev nD) (v18 : BitVec 32) (arg15 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_739 : BitVec 32 := 1#32
  let v1162 : BitVec 32 := Scalar.addi arg15 c1_i32_739
  let v1154 : BitVec 1 := Scalar.cmpi .ne v1153 v2
  let v1160 : BitVec 32 := Scalar.extui v1154
  let v1163 : BitVec 32 := Scalar.subi v1162 v1160
  let c1_i32_746 : BitVec 32 := 1#32
  let v1177 : BitVec 32 := Scalar.addi v1163 c1_i32_746
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_789 : BitVec 32 := 8#32
  let v1270 : BitVec 32 := Scalar.muli v1269 c8_i32_789
  let v1271 : BitVec 32 := v1270
  let v1272 : Index := Scalar.indexCast v1271
  let c0_790 : Index := 0#32
  ![v1272.toNat, 0]

def k0_chk3 (d0 : Dev nD) (v18 : BitVec 32) (arg14 : BitVec 32) (arg15 : BitVec 32) (v1153 : BitVec 32) (v1168 : BitVec 32) (v1183 : BitVec 32) : Prop :=
  (∀ (k0_h5 : k0_cond5 d0 v1183 = 1#1), 8 ∣ (k0_mult6 d0 arg14 v1153 v1168).toNat) ∧
  (∀ (k0_h5 : k0_cond5 d0 v1183 = 1#1), ∀ a, (k0_off9 d0 arg14 v1153 v1168) a + S8x128.size a ≤ S17408x128.size a) ∧
  (∀ (k0_h6 : k0_cond6 d0 v1183 = 1#1), 8 ∣ (k0_mult7 d0 v18 arg15 v1153 v1168).toNat) ∧
  (∀ (k0_h6 : k0_cond6 d0 v1183 = 1#1), ∀ a, (k0_off10 d0 v18 arg15 v1153 v1168) a + S8x128.size a ≤ S16384x128.size a)
theorem k0_mult6_dvd : ∀ (d0 : Dev nD) (v18 : BitVec 32) (arg14 : BitVec 32) (arg15 : BitVec 32) (v1153 : BitVec 32) (v1168 : BitVec 32) (v1183 : BitVec 32) (k0_hw3 : k0_chk3 d0 v18 arg14 arg15 v1153 v1168 v1183), ∀ (k0_h5 : k0_cond5 d0 v1183 = 1#1), 8 ∣ (k0_mult6 d0 arg14 v1153 v1168).toNat := fun d0 v18 arg14 arg15 v1153 v1168 v1183 k0_hw3 k0_h5 => k0_hw3.1 k0_h5
theorem k0_off9_inb : ∀ (d0 : Dev nD) (v18 : BitVec 32) (arg14 : BitVec 32) (arg15 : BitVec 32) (v1153 : BitVec 32) (v1168 : BitVec 32) (v1183 : BitVec 32) (k0_hw3 : k0_chk3 d0 v18 arg14 arg15 v1153 v1168 v1183), ∀ (k0_h5 : k0_cond5 d0 v1183 = 1#1), ∀ a, (k0_off9 d0 arg14 v1153 v1168) a + S8x128.size a ≤ S17408x128.size a := fun d0 v18 arg14 arg15 v1153 v1168 v1183 k0_hw3 k0_h5 => k0_hw3.2.1 k0_h5
theorem k0_mult7_dvd : ∀ (d0 : Dev nD) (v18 : BitVec 32) (arg14 : BitVec 32) (arg15 : BitVec 32) (v1153 : BitVec 32) (v1168 : BitVec 32) (v1183 : BitVec 32) (k0_hw3 : k0_chk3 d0 v18 arg14 arg15 v1153 v1168 v1183), ∀ (k0_h6 : k0_cond6 d0 v1183 = 1#1), 8 ∣ (k0_mult7 d0 v18 arg15 v1153 v1168).toNat := fun d0 v18 arg14 arg15 v1153 v1168 v1183 k0_hw3 k0_h6 => k0_hw3.2.2.1 k0_h6
theorem k0_off10_inb : ∀ (d0 : Dev nD) (v18 : BitVec 32) (arg14 : BitVec 32) (arg15 : BitVec 32) (v1153 : BitVec 32) (v1168 : BitVec 32) (v1183 : BitVec 32) (k0_hw3 : k0_chk3 d0 v18 arg14 arg15 v1153 v1168 v1183), ∀ (k0_h6 : k0_cond6 d0 v1183 = 1#1), ∀ a, (k0_off10 d0 v18 arg15 v1153 v1168) a + S8x128.size a ≤ S16384x128.size a := fun d0 v18 arg14 arg15 v1153 v1168 v1183 k0_hw3 k0_h6 => k0_hw3.2.2.2 k0_h6

def k0_off11 (k0_t1 : Fin k0_t1_loop.trips) : Fin 2 → Nat :=
  let c0_756 : Index := 0#32
  let c0_i32_13 : BitVec 32 := 0#32
  let c1_i32_15 : BitVec 32 := 1#32
  let arg13 : BitVec 32 := Scf.iv c0_i32_13 c1_i32_15 k0_t1
  let c8_i32_754 : BitVec 32 := 8#32
  let v1195 : BitVec 32 := Scalar.muli arg13 c8_i32_754
  let c3_i32_755 : BitVec 32 := 3#32
  let v1196 : BitVec 32 := Scalar.addi v1195 c3_i32_755
  let v1197 : Index := Scalar.indexCast v1196
  ![0, v1197.toNat]
def k0_mult8 (d0 : Dev nD) (arg14 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_789 : BitVec 32 := 8#32
  let v1269 : BitVec 32 := Scalar.muli v1191 c8_i32_789
  v1269
def k0_cond7 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let v1200 : BitVec 32 := Scalar.extui v1199
  let c0_i32_757 : BitVec 32 := 0#32
  let v1201 : BitVec 1 := Scalar.cmpi .ne v1200 c0_i32_757
  v1201

def k0_off12 (d0 : Dev nD) (arg14 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_789 : BitVec 32 := 8#32
  let v1269 : BitVec 32 := Scalar.muli v1191 c8_i32_789
  let v1270 : BitVec 32 := v1269
  let v1271 : Index := Scalar.indexCast v1270
  let c0_790 : Index := 0#32
  ![v1271.toNat, 0]
def k0_mult9 (d0 : Dev nD) (v18 : BitVec 32) (arg15 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_739 : BitVec 32 := 1#32
  let v1162 : BitVec 32 := Scalar.addi arg15 c1_i32_739
  let v1154 : BitVec 1 := Scalar.cmpi .ne v1153 v2
  let v1160 : BitVec 32 := Scalar.extui v1154
  let v1163 : BitVec 32 := Scalar.subi v1162 v1160
  let c1_i32_746 : BitVec 32 := 1#32
  let v1177 : BitVec 32 := Scalar.addi v1163 c1_i32_746
  let v1169 : BitVec 1 := Scalar.cmpi .ne v1168 v2
  let v1175 : BitVec 32 := Scalar.extui v1169
  let v1178 : BitVec 32 := Scalar.subi v1177 v1175
  let c1_i32_753 : BitVec 32 := 1#32
  let v1192 : BitVec 32 := Scalar.addi v1178 c1_i32_753
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_789 : BitVec 32 := 8#32
  let v1270 : BitVec 32 := Scalar.muli v1269 c8_i32_789
  v1270
def k0_cond8 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let true_758 : BitVec 1 := 1#1
  let v1202 : BitVec 1 := Scalar.xori v1199 true_758
  let v1203 : BitVec 32 := Scalar.extui v1202
  let c0_i32_759 : BitVec 32 := 0#32
  let v1204 : BitVec 1 := Scalar.cmpi .ne v1203 c0_i32_759
  v1204

def k0_off13 (d0 : Dev nD) (v18 : BitVec 32) (arg15 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_739 : BitVec 32 := 1#32
  let v1162 : BitVec 32 := Scalar.addi arg15 c1_i32_739
  let v1154 : BitVec 1 := Scalar.cmpi .ne v1153 v2
  let v1160 : BitVec 32 := Scalar.extui v1154
  let v1163 : BitVec 32 := Scalar.subi v1162 v1160
  let c1_i32_746 : BitVec 32 := 1#32
  let v1177 : BitVec 32 := Scalar.addi v1163 c1_i32_746
  let v1169 : BitVec 1 := Scalar.cmpi .ne v1168 v2
  let v1175 : BitVec 32 := Scalar.extui v1169
  let v1178 : BitVec 32 := Scalar.subi v1177 v1175
  let c1_i32_753 : BitVec 32 := 1#32
  let v1192 : BitVec 32 := Scalar.addi v1178 c1_i32_753
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_789 : BitVec 32 := 8#32
  let v1270 : BitVec 32 := Scalar.muli v1269 c8_i32_789
  let v1271 : BitVec 32 := v1270
  let v1272 : Index := Scalar.indexCast v1271
  let c0_790 : Index := 0#32
  ![v1272.toNat, 0]

def k0_chk4 (d0 : Dev nD) (v18 : BitVec 32) (arg14 : BitVec 32) (arg15 : BitVec 32) (v1153 : BitVec 32) (v1168 : BitVec 32) (v1183 : BitVec 32) (v1198 : BitVec 32) : Prop :=
  (∀ (k0_h7 : k0_cond7 d0 v1198 = 1#1), 8 ∣ (k0_mult8 d0 arg14 v1153 v1168 v1183).toNat) ∧
  (∀ (k0_h7 : k0_cond7 d0 v1198 = 1#1), ∀ a, (k0_off12 d0 arg14 v1153 v1168 v1183) a + S8x128.size a ≤ S17408x128.size a) ∧
  (∀ (k0_h8 : k0_cond8 d0 v1198 = 1#1), 8 ∣ (k0_mult9 d0 v18 arg15 v1153 v1168 v1183).toNat) ∧
  (∀ (k0_h8 : k0_cond8 d0 v1198 = 1#1), ∀ a, (k0_off13 d0 v18 arg15 v1153 v1168 v1183) a + S8x128.size a ≤ S16384x128.size a)
theorem k0_mult8_dvd : ∀ (d0 : Dev nD) (v18 : BitVec 32) (arg14 : BitVec 32) (arg15 : BitVec 32) (v1153 : BitVec 32) (v1168 : BitVec 32) (v1183 : BitVec 32) (v1198 : BitVec 32) (k0_hw4 : k0_chk4 d0 v18 arg14 arg15 v1153 v1168 v1183 v1198), ∀ (k0_h7 : k0_cond7 d0 v1198 = 1#1), 8 ∣ (k0_mult8 d0 arg14 v1153 v1168 v1183).toNat := fun d0 v18 arg14 arg15 v1153 v1168 v1183 v1198 k0_hw4 k0_h7 => k0_hw4.1 k0_h7
theorem k0_off12_inb : ∀ (d0 : Dev nD) (v18 : BitVec 32) (arg14 : BitVec 32) (arg15 : BitVec 32) (v1153 : BitVec 32) (v1168 : BitVec 32) (v1183 : BitVec 32) (v1198 : BitVec 32) (k0_hw4 : k0_chk4 d0 v18 arg14 arg15 v1153 v1168 v1183 v1198), ∀ (k0_h7 : k0_cond7 d0 v1198 = 1#1), ∀ a, (k0_off12 d0 arg14 v1153 v1168 v1183) a + S8x128.size a ≤ S17408x128.size a := fun d0 v18 arg14 arg15 v1153 v1168 v1183 v1198 k0_hw4 k0_h7 => k0_hw4.2.1 k0_h7
theorem k0_mult9_dvd : ∀ (d0 : Dev nD) (v18 : BitVec 32) (arg14 : BitVec 32) (arg15 : BitVec 32) (v1153 : BitVec 32) (v1168 : BitVec 32) (v1183 : BitVec 32) (v1198 : BitVec 32) (k0_hw4 : k0_chk4 d0 v18 arg14 arg15 v1153 v1168 v1183 v1198), ∀ (k0_h8 : k0_cond8 d0 v1198 = 1#1), 8 ∣ (k0_mult9 d0 v18 arg15 v1153 v1168 v1183).toNat := fun d0 v18 arg14 arg15 v1153 v1168 v1183 v1198 k0_hw4 k0_h8 => k0_hw4.2.2.1 k0_h8
theorem k0_off13_inb : ∀ (d0 : Dev nD) (v18 : BitVec 32) (arg14 : BitVec 32) (arg15 : BitVec 32) (v1153 : BitVec 32) (v1168 : BitVec 32) (v1183 : BitVec 32) (v1198 : BitVec 32) (k0_hw4 : k0_chk4 d0 v18 arg14 arg15 v1153 v1168 v1183 v1198), ∀ (k0_h8 : k0_cond8 d0 v1198 = 1#1), ∀ a, (k0_off13 d0 v18 arg15 v1153 v1168 v1183) a + S8x128.size a ≤ S16384x128.size a := fun d0 v18 arg14 arg15 v1153 v1168 v1183 v1198 k0_hw4 k0_h8 => k0_hw4.2.2.2 k0_h8

def k0_off14 (k0_t1 : Fin k0_t1_loop.trips) : Fin 2 → Nat :=
  let c0_763 : Index := 0#32
  let c0_i32_13 : BitVec 32 := 0#32
  let c1_i32_15 : BitVec 32 := 1#32
  let arg13 : BitVec 32 := Scf.iv c0_i32_13 c1_i32_15 k0_t1
  let c8_i32_761 : BitVec 32 := 8#32
  let v1210 : BitVec 32 := Scalar.muli arg13 c8_i32_761
  let c4_i32_762 : BitVec 32 := 4#32
  let v1211 : BitVec 32 := Scalar.addi v1210 c4_i32_762
  let v1212 : Index := Scalar.indexCast v1211
  ![0, v1212.toNat]
def k0_mult10 (d0 : Dev nD) (arg14 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_789 : BitVec 32 := 8#32
  let v1269 : BitVec 32 := Scalar.muli v1206 c8_i32_789
  v1269
def k0_cond9 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let v1215 : BitVec 32 := Scalar.extui v1214
  let c0_i32_764 : BitVec 32 := 0#32
  let v1216 : BitVec 1 := Scalar.cmpi .ne v1215 c0_i32_764
  v1216

def k0_off15 (d0 : Dev nD) (arg14 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_789 : BitVec 32 := 8#32
  let v1269 : BitVec 32 := Scalar.muli v1206 c8_i32_789
  let v1270 : BitVec 32 := v1269
  let v1271 : Index := Scalar.indexCast v1270
  let c0_790 : Index := 0#32
  ![v1271.toNat, 0]
def k0_mult11 (d0 : Dev nD) (v18 : BitVec 32) (arg15 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_739 : BitVec 32 := 1#32
  let v1162 : BitVec 32 := Scalar.addi arg15 c1_i32_739
  let v1154 : BitVec 1 := Scalar.cmpi .ne v1153 v2
  let v1160 : BitVec 32 := Scalar.extui v1154
  let v1163 : BitVec 32 := Scalar.subi v1162 v1160
  let c1_i32_746 : BitVec 32 := 1#32
  let v1177 : BitVec 32 := Scalar.addi v1163 c1_i32_746
  let v1169 : BitVec 1 := Scalar.cmpi .ne v1168 v2
  let v1175 : BitVec 32 := Scalar.extui v1169
  let v1178 : BitVec 32 := Scalar.subi v1177 v1175
  let c1_i32_753 : BitVec 32 := 1#32
  let v1192 : BitVec 32 := Scalar.addi v1178 c1_i32_753
  let v1184 : BitVec 1 := Scalar.cmpi .ne v1183 v2
  let v1190 : BitVec 32 := Scalar.extui v1184
  let v1193 : BitVec 32 := Scalar.subi v1192 v1190
  let c1_i32_760 : BitVec 32 := 1#32
  let v1207 : BitVec 32 := Scalar.addi v1193 c1_i32_760
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_789 : BitVec 32 := 8#32
  let v1270 : BitVec 32 := Scalar.muli v1269 c8_i32_789
  v1270
def k0_cond10 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let true_765 : BitVec 1 := 1#1
  let v1217 : BitVec 1 := Scalar.xori v1214 true_765
  let v1218 : BitVec 32 := Scalar.extui v1217
  let c0_i32_766 : BitVec 32 := 0#32
  let v1219 : BitVec 1 := Scalar.cmpi .ne v1218 c0_i32_766
  v1219

def k0_off16 (d0 : Dev nD) (v18 : BitVec 32) (arg15 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_739 : BitVec 32 := 1#32
  let v1162 : BitVec 32 := Scalar.addi arg15 c1_i32_739
  let v1154 : BitVec 1 := Scalar.cmpi .ne v1153 v2
  let v1160 : BitVec 32 := Scalar.extui v1154
  let v1163 : BitVec 32 := Scalar.subi v1162 v1160
  let c1_i32_746 : BitVec 32 := 1#32
  let v1177 : BitVec 32 := Scalar.addi v1163 c1_i32_746
  let v1169 : BitVec 1 := Scalar.cmpi .ne v1168 v2
  let v1175 : BitVec 32 := Scalar.extui v1169
  let v1178 : BitVec 32 := Scalar.subi v1177 v1175
  let c1_i32_753 : BitVec 32 := 1#32
  let v1192 : BitVec 32 := Scalar.addi v1178 c1_i32_753
  let v1184 : BitVec 1 := Scalar.cmpi .ne v1183 v2
  let v1190 : BitVec 32 := Scalar.extui v1184
  let v1193 : BitVec 32 := Scalar.subi v1192 v1190
  let c1_i32_760 : BitVec 32 := 1#32
  let v1207 : BitVec 32 := Scalar.addi v1193 c1_i32_760
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_789 : BitVec 32 := 8#32
  let v1270 : BitVec 32 := Scalar.muli v1269 c8_i32_789
  let v1271 : BitVec 32 := v1270
  let v1272 : Index := Scalar.indexCast v1271
  let c0_790 : Index := 0#32
  ![v1272.toNat, 0]

def k0_chk5 (d0 : Dev nD) (v18 : BitVec 32) (arg14 : BitVec 32) (arg15 : BitVec 32) (v1153 : BitVec 32) (v1168 : BitVec 32) (v1183 : BitVec 32) (v1198 : BitVec 32) (v1213 : BitVec 32) : Prop :=
  (∀ (k0_h9 : k0_cond9 d0 v1213 = 1#1), 8 ∣ (k0_mult10 d0 arg14 v1153 v1168 v1183 v1198).toNat) ∧
  (∀ (k0_h9 : k0_cond9 d0 v1213 = 1#1), ∀ a, (k0_off15 d0 arg14 v1153 v1168 v1183 v1198) a + S8x128.size a ≤ S17408x128.size a) ∧
  (∀ (k0_h10 : k0_cond10 d0 v1213 = 1#1), 8 ∣ (k0_mult11 d0 v18 arg15 v1153 v1168 v1183 v1198).toNat) ∧
  (∀ (k0_h10 : k0_cond10 d0 v1213 = 1#1), ∀ a, (k0_off16 d0 v18 arg15 v1153 v1168 v1183 v1198) a + S8x128.size a ≤ S16384x128.size a)
theorem k0_mult10_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw5 : k0_chk5 d0 v18 arg14 arg15 v1153 v1168 v1183 v1198 v1213), ∀ (k0_h9 : k0_cond9 d0 v1213 = 1#1), 8 ∣ (k0_mult10 d0 arg14 v1153 v1168 v1183 v1198).toNat := fun d0 v18 arg14 arg15 v1153 v1168 v1183 v1198 v1213 k0_hw5 k0_h9 => k0_hw5.1 k0_h9
theorem k0_off15_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw5 : k0_chk5 d0 v18 arg14 arg15 v1153 v1168 v1183 v1198 v1213), ∀ (k0_h9 : k0_cond9 d0 v1213 = 1#1), ∀ a, (k0_off15 d0 arg14 v1153 v1168 v1183 v1198) a + S8x128.size a ≤ S17408x128.size a := fun d0 v18 arg14 arg15 v1153 v1168 v1183 v1198 v1213 k0_hw5 k0_h9 => k0_hw5.2.1 k0_h9
theorem k0_mult11_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw5 : k0_chk5 d0 v18 arg14 arg15 v1153 v1168 v1183 v1198 v1213), ∀ (k0_h10 : k0_cond10 d0 v1213 = 1#1), 8 ∣ (k0_mult11 d0 v18 arg15 v1153 v1168 v1183 v1198).toNat := fun d0 v18 arg14 arg15 v1153 v1168 v1183 v1198 v1213 k0_hw5 k0_h10 => k0_hw5.2.2.1 k0_h10
theorem k0_off16_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw5 : k0_chk5 d0 v18 arg14 arg15 v1153 v1168 v1183 v1198 v1213), ∀ (k0_h10 : k0_cond10 d0 v1213 = 1#1), ∀ a, (k0_off16 d0 v18 arg15 v1153 v1168 v1183 v1198) a + S8x128.size a ≤ S16384x128.size a := fun d0 v18 arg14 arg15 v1153 v1168 v1183 v1198 v1213 k0_hw5 k0_h10 => k0_hw5.2.2.2 k0_h10

def k0_off17 (k0_t1 : Fin k0_t1_loop.trips) : Fin 2 → Nat :=
  let c0_770 : Index := 0#32
  let c0_i32_13 : BitVec 32 := 0#32
  let c1_i32_15 : BitVec 32 := 1#32
  let arg13 : BitVec 32 := Scf.iv c0_i32_13 c1_i32_15 k0_t1
  let c8_i32_768 : BitVec 32 := 8#32
  let v1225 : BitVec 32 := Scalar.muli arg13 c8_i32_768
  let c5_i32_769 : BitVec 32 := 5#32
  let v1226 : BitVec 32 := Scalar.addi v1225 c5_i32_769
  let v1227 : Index := Scalar.indexCast v1226
  ![0, v1227.toNat]
def k0_mult12 (d0 : Dev nD) (arg14 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_789 : BitVec 32 := 8#32
  let v1269 : BitVec 32 := Scalar.muli v1221 c8_i32_789
  v1269
def k0_cond11 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let v1230 : BitVec 32 := Scalar.extui v1229
  let c0_i32_771 : BitVec 32 := 0#32
  let v1231 : BitVec 1 := Scalar.cmpi .ne v1230 c0_i32_771
  v1231

def k0_off18 (d0 : Dev nD) (arg14 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_789 : BitVec 32 := 8#32
  let v1269 : BitVec 32 := Scalar.muli v1221 c8_i32_789
  let v1270 : BitVec 32 := v1269
  let v1271 : Index := Scalar.indexCast v1270
  let c0_790 : Index := 0#32
  ![v1271.toNat, 0]
def k0_mult13 (d0 : Dev nD) (v18 : BitVec 32) (arg15 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_739 : BitVec 32 := 1#32
  let v1162 : BitVec 32 := Scalar.addi arg15 c1_i32_739
  let v1154 : BitVec 1 := Scalar.cmpi .ne v1153 v2
  let v1160 : BitVec 32 := Scalar.extui v1154
  let v1163 : BitVec 32 := Scalar.subi v1162 v1160
  let c1_i32_746 : BitVec 32 := 1#32
  let v1177 : BitVec 32 := Scalar.addi v1163 c1_i32_746
  let v1169 : BitVec 1 := Scalar.cmpi .ne v1168 v2
  let v1175 : BitVec 32 := Scalar.extui v1169
  let v1178 : BitVec 32 := Scalar.subi v1177 v1175
  let c1_i32_753 : BitVec 32 := 1#32
  let v1192 : BitVec 32 := Scalar.addi v1178 c1_i32_753
  let v1184 : BitVec 1 := Scalar.cmpi .ne v1183 v2
  let v1190 : BitVec 32 := Scalar.extui v1184
  let v1193 : BitVec 32 := Scalar.subi v1192 v1190
  let c1_i32_760 : BitVec 32 := 1#32
  let v1207 : BitVec 32 := Scalar.addi v1193 c1_i32_760
  let v1199 : BitVec 1 := Scalar.cmpi .ne v1198 v2
  let v1205 : BitVec 32 := Scalar.extui v1199
  let v1208 : BitVec 32 := Scalar.subi v1207 v1205
  let c1_i32_767 : BitVec 32 := 1#32
  let v1222 : BitVec 32 := Scalar.addi v1208 c1_i32_767
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_789 : BitVec 32 := 8#32
  let v1270 : BitVec 32 := Scalar.muli v1269 c8_i32_789
  v1270
def k0_cond12 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let true_772 : BitVec 1 := 1#1
  let v1232 : BitVec 1 := Scalar.xori v1229 true_772
  let v1233 : BitVec 32 := Scalar.extui v1232
  let c0_i32_773 : BitVec 32 := 0#32
  let v1234 : BitVec 1 := Scalar.cmpi .ne v1233 c0_i32_773
  v1234

def k0_off19 (d0 : Dev nD) (v18 : BitVec 32) (arg15 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_739 : BitVec 32 := 1#32
  let v1162 : BitVec 32 := Scalar.addi arg15 c1_i32_739
  let v1154 : BitVec 1 := Scalar.cmpi .ne v1153 v2
  let v1160 : BitVec 32 := Scalar.extui v1154
  let v1163 : BitVec 32 := Scalar.subi v1162 v1160
  let c1_i32_746 : BitVec 32 := 1#32
  let v1177 : BitVec 32 := Scalar.addi v1163 c1_i32_746
  let v1169 : BitVec 1 := Scalar.cmpi .ne v1168 v2
  let v1175 : BitVec 32 := Scalar.extui v1169
  let v1178 : BitVec 32 := Scalar.subi v1177 v1175
  let c1_i32_753 : BitVec 32 := 1#32
  let v1192 : BitVec 32 := Scalar.addi v1178 c1_i32_753
  let v1184 : BitVec 1 := Scalar.cmpi .ne v1183 v2
  let v1190 : BitVec 32 := Scalar.extui v1184
  let v1193 : BitVec 32 := Scalar.subi v1192 v1190
  let c1_i32_760 : BitVec 32 := 1#32
  let v1207 : BitVec 32 := Scalar.addi v1193 c1_i32_760
  let v1199 : BitVec 1 := Scalar.cmpi .ne v1198 v2
  let v1205 : BitVec 32 := Scalar.extui v1199
  let v1208 : BitVec 32 := Scalar.subi v1207 v1205
  let c1_i32_767 : BitVec 32 := 1#32
  let v1222 : BitVec 32 := Scalar.addi v1208 c1_i32_767
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_789 : BitVec 32 := 8#32
  let v1270 : BitVec 32 := Scalar.muli v1269 c8_i32_789
  let v1271 : BitVec 32 := v1270
  let v1272 : Index := Scalar.indexCast v1271
  let c0_790 : Index := 0#32
  ![v1272.toNat, 0]

def k0_chk6 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) : Prop :=
  (∀ (k0_h11 : k0_cond11 d0 v1228 = 1#1), 8 ∣ (k0_mult12 d0 arg14 v1153 v1168 v1183 v1198 v1213).toNat) ∧
  (∀ (k0_h11 : k0_cond11 d0 v1228 = 1#1), ∀ a, (k0_off18 d0 arg14 v1153 v1168 v1183 v1198 v1213) a + S8x128.size a ≤ S17408x128.size a) ∧
  (∀ (k0_h12 : k0_cond12 d0 v1228 = 1#1), 8 ∣ (k0_mult13 d0 v18 arg15 v1153 v1168 v1183 v1198 v1213).toNat) ∧
  (∀ (k0_h12 : k0_cond12 d0 v1228 = 1#1), ∀ a, (k0_off19 d0 v18 arg15 v1153 v1168 v1183 v1198 v1213) a + S8x128.size a ≤ S16384x128.size a)
theorem k0_mult12_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw6 : k0_chk6 d0 v18 arg14 arg15 v1153 v1168 v1183 v1198 v1213 v1228), ∀ (k0_h11 : k0_cond11 d0 v1228 = 1#1), 8 ∣ (k0_mult12 d0 arg14 v1153 v1168 v1183 v1198 v1213).toNat := fun d0 v18 arg14 arg15 v1153 v1168 v1183 v1198 v1213 v1228 k0_hw6 k0_h11 => k0_hw6.1 k0_h11
theorem k0_off18_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw6 : k0_chk6 d0 v18 arg14 arg15 v1153 v1168 v1183 v1198 v1213 v1228), ∀ (k0_h11 : k0_cond11 d0 v1228 = 1#1), ∀ a, (k0_off18 d0 arg14 v1153 v1168 v1183 v1198 v1213) a + S8x128.size a ≤ S17408x128.size a := fun d0 v18 arg14 arg15 v1153 v1168 v1183 v1198 v1213 v1228 k0_hw6 k0_h11 => k0_hw6.2.1 k0_h11
theorem k0_mult13_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw6 : k0_chk6 d0 v18 arg14 arg15 v1153 v1168 v1183 v1198 v1213 v1228), ∀ (k0_h12 : k0_cond12 d0 v1228 = 1#1), 8 ∣ (k0_mult13 d0 v18 arg15 v1153 v1168 v1183 v1198 v1213).toNat := fun d0 v18 arg14 arg15 v1153 v1168 v1183 v1198 v1213 v1228 k0_hw6 k0_h12 => k0_hw6.2.2.1 k0_h12
theorem k0_off19_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw6 : k0_chk6 d0 v18 arg14 arg15 v1153 v1168 v1183 v1198 v1213 v1228), ∀ (k0_h12 : k0_cond12 d0 v1228 = 1#1), ∀ a, (k0_off19 d0 v18 arg15 v1153 v1168 v1183 v1198 v1213) a + S8x128.size a ≤ S16384x128.size a := fun d0 v18 arg14 arg15 v1153 v1168 v1183 v1198 v1213 v1228 k0_hw6 k0_h12 => k0_hw6.2.2.2 k0_h12

def k0_off20 (k0_t1 : Fin k0_t1_loop.trips) : Fin 2 → Nat :=
  let c0_777 : Index := 0#32
  let c0_i32_13 : BitVec 32 := 0#32
  let c1_i32_15 : BitVec 32 := 1#32
  let arg13 : BitVec 32 := Scf.iv c0_i32_13 c1_i32_15 k0_t1
  let c8_i32_775 : BitVec 32 := 8#32
  let v1240 : BitVec 32 := Scalar.muli arg13 c8_i32_775
  let c6_i32_776 : BitVec 32 := 6#32
  let v1241 : BitVec 32 := Scalar.addi v1240 c6_i32_776
  let v1242 : Index := Scalar.indexCast v1241
  ![0, v1242.toNat]
def k0_mult14 (d0 : Dev nD) (arg14 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_789 : BitVec 32 := 8#32
  let v1269 : BitVec 32 := Scalar.muli v1236 c8_i32_789
  v1269
def k0_cond13 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let v1245 : BitVec 32 := Scalar.extui v1244
  let c0_i32_778 : BitVec 32 := 0#32
  let v1246 : BitVec 1 := Scalar.cmpi .ne v1245 c0_i32_778
  v1246

def k0_off21 (d0 : Dev nD) (arg14 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_789 : BitVec 32 := 8#32
  let v1269 : BitVec 32 := Scalar.muli v1236 c8_i32_789
  let v1270 : BitVec 32 := v1269
  let v1271 : Index := Scalar.indexCast v1270
  let c0_790 : Index := 0#32
  ![v1271.toNat, 0]
def k0_mult15 (d0 : Dev nD) (v18 : BitVec 32) (arg15 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_739 : BitVec 32 := 1#32
  let v1162 : BitVec 32 := Scalar.addi arg15 c1_i32_739
  let v1154 : BitVec 1 := Scalar.cmpi .ne v1153 v2
  let v1160 : BitVec 32 := Scalar.extui v1154
  let v1163 : BitVec 32 := Scalar.subi v1162 v1160
  let c1_i32_746 : BitVec 32 := 1#32
  let v1177 : BitVec 32 := Scalar.addi v1163 c1_i32_746
  let v1169 : BitVec 1 := Scalar.cmpi .ne v1168 v2
  let v1175 : BitVec 32 := Scalar.extui v1169
  let v1178 : BitVec 32 := Scalar.subi v1177 v1175
  let c1_i32_753 : BitVec 32 := 1#32
  let v1192 : BitVec 32 := Scalar.addi v1178 c1_i32_753
  let v1184 : BitVec 1 := Scalar.cmpi .ne v1183 v2
  let v1190 : BitVec 32 := Scalar.extui v1184
  let v1193 : BitVec 32 := Scalar.subi v1192 v1190
  let c1_i32_760 : BitVec 32 := 1#32
  let v1207 : BitVec 32 := Scalar.addi v1193 c1_i32_760
  let v1199 : BitVec 1 := Scalar.cmpi .ne v1198 v2
  let v1205 : BitVec 32 := Scalar.extui v1199
  let v1208 : BitVec 32 := Scalar.subi v1207 v1205
  let c1_i32_767 : BitVec 32 := 1#32
  let v1222 : BitVec 32 := Scalar.addi v1208 c1_i32_767
  let v1214 : BitVec 1 := Scalar.cmpi .ne v1213 v2
  let v1220 : BitVec 32 := Scalar.extui v1214
  let v1223 : BitVec 32 := Scalar.subi v1222 v1220
  let c1_i32_774 : BitVec 32 := 1#32
  let v1237 : BitVec 32 := Scalar.addi v1223 c1_i32_774
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_789 : BitVec 32 := 8#32
  let v1270 : BitVec 32 := Scalar.muli v1269 c8_i32_789
  v1270
def k0_cond14 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let true_779 : BitVec 1 := 1#1
  let v1247 : BitVec 1 := Scalar.xori v1244 true_779
  let v1248 : BitVec 32 := Scalar.extui v1247
  let c0_i32_780 : BitVec 32 := 0#32
  let v1249 : BitVec 1 := Scalar.cmpi .ne v1248 c0_i32_780
  v1249

def k0_off22 (d0 : Dev nD) (v18 : BitVec 32) (arg15 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_739 : BitVec 32 := 1#32
  let v1162 : BitVec 32 := Scalar.addi arg15 c1_i32_739
  let v1154 : BitVec 1 := Scalar.cmpi .ne v1153 v2
  let v1160 : BitVec 32 := Scalar.extui v1154
  let v1163 : BitVec 32 := Scalar.subi v1162 v1160
  let c1_i32_746 : BitVec 32 := 1#32
  let v1177 : BitVec 32 := Scalar.addi v1163 c1_i32_746
  let v1169 : BitVec 1 := Scalar.cmpi .ne v1168 v2
  let v1175 : BitVec 32 := Scalar.extui v1169
  let v1178 : BitVec 32 := Scalar.subi v1177 v1175
  let c1_i32_753 : BitVec 32 := 1#32
  let v1192 : BitVec 32 := Scalar.addi v1178 c1_i32_753
  let v1184 : BitVec 1 := Scalar.cmpi .ne v1183 v2
  let v1190 : BitVec 32 := Scalar.extui v1184
  let v1193 : BitVec 32 := Scalar.subi v1192 v1190
  let c1_i32_760 : BitVec 32 := 1#32
  let v1207 : BitVec 32 := Scalar.addi v1193 c1_i32_760
  let v1199 : BitVec 1 := Scalar.cmpi .ne v1198 v2
  let v1205 : BitVec 32 := Scalar.extui v1199
  let v1208 : BitVec 32 := Scalar.subi v1207 v1205
  let c1_i32_767 : BitVec 32 := 1#32
  let v1222 : BitVec 32 := Scalar.addi v1208 c1_i32_767
  let v1214 : BitVec 1 := Scalar.cmpi .ne v1213 v2
  let v1220 : BitVec 32 := Scalar.extui v1214
  let v1223 : BitVec 32 := Scalar.subi v1222 v1220
  let c1_i32_774 : BitVec 32 := 1#32
  let v1237 : BitVec 32 := Scalar.addi v1223 c1_i32_774
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_789 : BitVec 32 := 8#32
  let v1270 : BitVec 32 := Scalar.muli v1269 c8_i32_789
  let v1271 : BitVec 32 := v1270
  let v1272 : Index := Scalar.indexCast v1271
  let c0_790 : Index := 0#32
  ![v1272.toNat, 0]

def k0_chk7 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) : Prop :=
  (∀ (k0_h13 : k0_cond13 d0 v1243 = 1#1), 8 ∣ (k0_mult14 d0 arg14 v1153 v1168 v1183 v1198 v1213 v1228).toNat) ∧
  (∀ (k0_h13 : k0_cond13 d0 v1243 = 1#1), ∀ a, (k0_off21 d0 arg14 v1153 v1168 v1183 v1198 v1213 v1228) a + S8x128.size a ≤ S17408x128.size a) ∧
  (∀ (k0_h14 : k0_cond14 d0 v1243 = 1#1), 8 ∣ (k0_mult15 d0 v18 arg15 v1153 v1168 v1183 v1198 v1213 v1228).toNat) ∧
  (∀ (k0_h14 : k0_cond14 d0 v1243 = 1#1), ∀ a, (k0_off22 d0 v18 arg15 v1153 v1168 v1183 v1198 v1213 v1228) a + S8x128.size a ≤ S16384x128.size a)
theorem k0_mult14_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw7 : k0_chk7 d0 v18 arg14 arg15 v1153 v1168 v1183 v1198 v1213 v1228 v1243), ∀ (k0_h13 : k0_cond13 d0 v1243 = 1#1), 8 ∣ (k0_mult14 d0 arg14 v1153 v1168 v1183 v1198 v1213 v1228).toNat := fun d0 v18 arg14 arg15 v1153 v1168 v1183 v1198 v1213 v1228 v1243 k0_hw7 k0_h13 => k0_hw7.1 k0_h13
theorem k0_off21_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw7 : k0_chk7 d0 v18 arg14 arg15 v1153 v1168 v1183 v1198 v1213 v1228 v1243), ∀ (k0_h13 : k0_cond13 d0 v1243 = 1#1), ∀ a, (k0_off21 d0 arg14 v1153 v1168 v1183 v1198 v1213 v1228) a + S8x128.size a ≤ S17408x128.size a := fun d0 v18 arg14 arg15 v1153 v1168 v1183 v1198 v1213 v1228 v1243 k0_hw7 k0_h13 => k0_hw7.2.1 k0_h13
theorem k0_mult15_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw7 : k0_chk7 d0 v18 arg14 arg15 v1153 v1168 v1183 v1198 v1213 v1228 v1243), ∀ (k0_h14 : k0_cond14 d0 v1243 = 1#1), 8 ∣ (k0_mult15 d0 v18 arg15 v1153 v1168 v1183 v1198 v1213 v1228).toNat := fun d0 v18 arg14 arg15 v1153 v1168 v1183 v1198 v1213 v1228 v1243 k0_hw7 k0_h14 => k0_hw7.2.2.1 k0_h14
theorem k0_off22_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw7 : k0_chk7 d0 v18 arg14 arg15 v1153 v1168 v1183 v1198 v1213 v1228 v1243), ∀ (k0_h14 : k0_cond14 d0 v1243 = 1#1), ∀ a, (k0_off22 d0 v18 arg15 v1153 v1168 v1183 v1198 v1213 v1228) a + S8x128.size a ≤ S16384x128.size a := fun d0 v18 arg14 arg15 v1153 v1168 v1183 v1198 v1213 v1228 v1243 k0_hw7 k0_h14 => k0_hw7.2.2.2 k0_h14

def k0_off23 (k0_t1 : Fin k0_t1_loop.trips) : Fin 2 → Nat :=
  let c0_784 : Index := 0#32
  let c0_i32_13 : BitVec 32 := 0#32
  let c1_i32_15 : BitVec 32 := 1#32
  let arg13 : BitVec 32 := Scf.iv c0_i32_13 c1_i32_15 k0_t1
  let c8_i32_782 : BitVec 32 := 8#32
  let v1255 : BitVec 32 := Scalar.muli arg13 c8_i32_782
  let c7_i32_783 : BitVec 32 := 7#32
  let v1256 : BitVec 32 := Scalar.addi v1255 c7_i32_783
  let v1257 : Index := Scalar.indexCast v1256
  ![0, v1257.toNat]
def k0_mult16 (d0 : Dev nD) (arg14 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_789 : BitVec 32 := 8#32
  let v1269 : BitVec 32 := Scalar.muli v1251 c8_i32_789
  v1269
def k0_cond15 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let v1260 : BitVec 32 := Scalar.extui v1259
  let c0_i32_785 : BitVec 32 := 0#32
  let v1261 : BitVec 1 := Scalar.cmpi .ne v1260 c0_i32_785
  v1261

def k0_off24 (d0 : Dev nD) (arg14 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_789 : BitVec 32 := 8#32
  let v1269 : BitVec 32 := Scalar.muli v1251 c8_i32_789
  let v1270 : BitVec 32 := v1269
  let v1271 : Index := Scalar.indexCast v1270
  let c0_790 : Index := 0#32
  ![v1271.toNat, 0]
def k0_mult17 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_739 : BitVec 32 := 1#32
  let v1162 : BitVec 32 := Scalar.addi arg15 c1_i32_739
  let v1154 : BitVec 1 := Scalar.cmpi .ne v1153 v2
  let v1160 : BitVec 32 := Scalar.extui v1154
  let v1163 : BitVec 32 := Scalar.subi v1162 v1160
  let c1_i32_746 : BitVec 32 := 1#32
  let v1177 : BitVec 32 := Scalar.addi v1163 c1_i32_746
  let v1169 : BitVec 1 := Scalar.cmpi .ne v1168 v2
  let v1175 : BitVec 32 := Scalar.extui v1169
  let v1178 : BitVec 32 := Scalar.subi v1177 v1175
  let c1_i32_753 : BitVec 32 := 1#32
  let v1192 : BitVec 32 := Scalar.addi v1178 c1_i32_753
  let v1184 : BitVec 1 := Scalar.cmpi .ne v1183 v2
  let v1190 : BitVec 32 := Scalar.extui v1184
  let v1193 : BitVec 32 := Scalar.subi v1192 v1190
  let c1_i32_760 : BitVec 32 := 1#32
  let v1207 : BitVec 32 := Scalar.addi v1193 c1_i32_760
  let v1199 : BitVec 1 := Scalar.cmpi .ne v1198 v2
  let v1205 : BitVec 32 := Scalar.extui v1199
  let v1208 : BitVec 32 := Scalar.subi v1207 v1205
  let c1_i32_767 : BitVec 32 := 1#32
  let v1222 : BitVec 32 := Scalar.addi v1208 c1_i32_767
  let v1214 : BitVec 1 := Scalar.cmpi .ne v1213 v2
  let v1220 : BitVec 32 := Scalar.extui v1214
  let v1223 : BitVec 32 := Scalar.subi v1222 v1220
  let c1_i32_774 : BitVec 32 := 1#32
  let v1237 : BitVec 32 := Scalar.addi v1223 c1_i32_774
  let v1229 : BitVec 1 := Scalar.cmpi .ne v1228 v2
  let v1235 : BitVec 32 := Scalar.extui v1229
  let v1238 : BitVec 32 := Scalar.subi v1237 v1235
  let c1_i32_781 : BitVec 32 := 1#32
  let v1252 : BitVec 32 := Scalar.addi v1238 c1_i32_781
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_789 : BitVec 32 := 8#32
  let v1270 : BitVec 32 := Scalar.muli v1269 c8_i32_789
  v1270
def k0_cond16 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let true_786 : BitVec 1 := 1#1
  let v1262 : BitVec 1 := Scalar.xori v1259 true_786
  let v1263 : BitVec 32 := Scalar.extui v1262
  let c0_i32_787 : BitVec 32 := 0#32
  let v1264 : BitVec 1 := Scalar.cmpi .ne v1263 c0_i32_787
  v1264

def k0_off25 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_739 : BitVec 32 := 1#32
  let v1162 : BitVec 32 := Scalar.addi arg15 c1_i32_739
  let v1154 : BitVec 1 := Scalar.cmpi .ne v1153 v2
  let v1160 : BitVec 32 := Scalar.extui v1154
  let v1163 : BitVec 32 := Scalar.subi v1162 v1160
  let c1_i32_746 : BitVec 32 := 1#32
  let v1177 : BitVec 32 := Scalar.addi v1163 c1_i32_746
  let v1169 : BitVec 1 := Scalar.cmpi .ne v1168 v2
  let v1175 : BitVec 32 := Scalar.extui v1169
  let v1178 : BitVec 32 := Scalar.subi v1177 v1175
  let c1_i32_753 : BitVec 32 := 1#32
  let v1192 : BitVec 32 := Scalar.addi v1178 c1_i32_753
  let v1184 : BitVec 1 := Scalar.cmpi .ne v1183 v2
  let v1190 : BitVec 32 := Scalar.extui v1184
  let v1193 : BitVec 32 := Scalar.subi v1192 v1190
  let c1_i32_760 : BitVec 32 := 1#32
  let v1207 : BitVec 32 := Scalar.addi v1193 c1_i32_760
  let v1199 : BitVec 1 := Scalar.cmpi .ne v1198 v2
  let v1205 : BitVec 32 := Scalar.extui v1199
  let v1208 : BitVec 32 := Scalar.subi v1207 v1205
  let c1_i32_767 : BitVec 32 := 1#32
  let v1222 : BitVec 32 := Scalar.addi v1208 c1_i32_767
  let v1214 : BitVec 1 := Scalar.cmpi .ne v1213 v2
  let v1220 : BitVec 32 := Scalar.extui v1214
  let v1223 : BitVec 32 := Scalar.subi v1222 v1220
  let c1_i32_774 : BitVec 32 := 1#32
  let v1237 : BitVec 32 := Scalar.addi v1223 c1_i32_774
  let v1229 : BitVec 1 := Scalar.cmpi .ne v1228 v2
  let v1235 : BitVec 32 := Scalar.extui v1229
  let v1238 : BitVec 32 := Scalar.subi v1237 v1235
  let c1_i32_781 : BitVec 32 := 1#32
  let v1252 : BitVec 32 := Scalar.addi v1238 c1_i32_781
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_789 : BitVec 32 := 8#32
  let v1270 : BitVec 32 := Scalar.muli v1269 c8_i32_789
  let v1271 : BitVec 32 := v1270
  let v1272 : Index := Scalar.indexCast v1271
  let c0_790 : Index := 0#32
  ![v1272.toNat, 0]

def k0_chk8 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) : Prop :=
  (∀ (k0_h15 : k0_cond15 d0 v1258 = 1#1), 8 ∣ (k0_mult16 d0 arg14 v1153 v1168 v1183 v1198 v1213 v1228 v1243).toNat) ∧
  (∀ (k0_h15 : k0_cond15 d0 v1258 = 1#1), ∀ a, (k0_off24 d0 arg14 v1153 v1168 v1183 v1198 v1213 v1228 v1243) a + S8x128.size a ≤ S17408x128.size a) ∧
  (∀ (k0_h16 : k0_cond16 d0 v1258 = 1#1), 8 ∣ (k0_mult17 d0 v18 arg15 v1153 v1168 v1183 v1198 v1213 v1228 v1243).toNat) ∧
  (∀ (k0_h16 : k0_cond16 d0 v1258 = 1#1), ∀ a, (k0_off25 d0 v18 arg15 v1153 v1168 v1183 v1198 v1213 v1228 v1243) a + S8x128.size a ≤ S16384x128.size a)
theorem k0_mult16_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw8 : k0_chk8 d0 v18 arg14 arg15 v1153 v1168 v1183 v1198 v1213 v1228 v1243 v1258), ∀ (k0_h15 : k0_cond15 d0 v1258 = 1#1), 8 ∣ (k0_mult16 d0 arg14 v1153 v1168 v1183 v1198 v1213 v1228 v1243).toNat := fun d0 v18 arg14 arg15 v1153 v1168 v1183 v1198 v1213 v1228 v1243 v1258 k0_hw8 k0_h15 => k0_hw8.1 k0_h15
theorem k0_off24_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw8 : k0_chk8 d0 v18 arg14 arg15 v1153 v1168 v1183 v1198 v1213 v1228 v1243 v1258), ∀ (k0_h15 : k0_cond15 d0 v1258 = 1#1), ∀ a, (k0_off24 d0 arg14 v1153 v1168 v1183 v1198 v1213 v1228 v1243) a + S8x128.size a ≤ S17408x128.size a := fun d0 v18 arg14 arg15 v1153 v1168 v1183 v1198 v1213 v1228 v1243 v1258 k0_hw8 k0_h15 => k0_hw8.2.1 k0_h15
theorem k0_mult17_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw8 : k0_chk8 d0 v18 arg14 arg15 v1153 v1168 v1183 v1198 v1213 v1228 v1243 v1258), ∀ (k0_h16 : k0_cond16 d0 v1258 = 1#1), 8 ∣ (k0_mult17 d0 v18 arg15 v1153 v1168 v1183 v1198 v1213 v1228 v1243).toNat := fun d0 v18 arg14 arg15 v1153 v1168 v1183 v1198 v1213 v1228 v1243 v1258 k0_hw8 k0_h16 => k0_hw8.2.2.1 k0_h16
theorem k0_off25_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw8 : k0_chk8 d0 v18 arg14 arg15 v1153 v1168 v1183 v1198 v1213 v1228 v1243 v1258), ∀ (k0_h16 : k0_cond16 d0 v1258 = 1#1), ∀ a, (k0_off25 d0 v18 arg15 v1153 v1168 v1183 v1198 v1213 v1228 v1243) a + S8x128.size a ≤ S16384x128.size a := fun d0 v18 arg14 arg15 v1153 v1168 v1183 v1198 v1213 v1228 v1243 v1258 k0_hw8 k0_h16 => k0_hw8.2.2.2 k0_h16

def k0_dev2 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1147 : BitVec 32 := Scalar.muli v9 c16_i32_736
  let v1148 : BitVec 32 := Scalar.addi c0_i32_737 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1149 : BitVec 32 := Scalar.muli v5 c4_i32_738
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1151 : BitVec 32 := Scalar.muli v8 c1_i32_739
  let v1152 : BitVec 32 := Scalar.addi v1150 v1151
  v1152.toNat
def k0_dev3 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev4 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev5 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
@[reducible] def k0_t2_loop : Scf.Loop 32 :=
  let c0_i32_30 : BitVec 32 := 0#32
  let c16_i32_31 : BitVec 32 := 16#32
  let v58 : BitVec 32 := Scalar.addi c0_i32_30 c16_i32_31
  let c1_i32_32 : BitVec 32 := 1#32
  ⟨c0_i32_30, v58, c1_i32_32⟩
def k0_mult18 (k0_t2 : Fin k0_t2_loop.trips) : BitVec 32 :=
  let c128_i32_731 : BitVec 32 := 128#32
  let c0_i32_30 : BitVec 32 := 0#32
  let c1_i32_32 : BitVec 32 := 1#32
  let arg13 : BitVec 32 := Scf.iv c0_i32_30 c1_i32_32 k0_t2
  let c8_i32_730 : BitVec 32 := 8#32
  let v1142 : BitVec 32 := Scalar.muli arg13 c8_i32_730
  let v1143 : BitVec 32 := Scalar.addi c128_i32_731 v1142
  v1143
def k0_off26 (k0_t2 : Fin k0_t2_loop.trips) : Fin 2 → Nat :=
  let c128_i32_731 : BitVec 32 := 128#32
  let c0_i32_30 : BitVec 32 := 0#32
  let c1_i32_32 : BitVec 32 := 1#32
  let arg13 : BitVec 32 := Scf.iv c0_i32_30 c1_i32_32 k0_t2
  let c8_i32_730 : BitVec 32 := 8#32
  let v1142 : BitVec 32 := Scalar.muli arg13 c8_i32_730
  let v1143 : BitVec 32 := Scalar.addi c128_i32_731 v1142
  let v1144 : BitVec 32 := v1143
  let v1145 : Index := Scalar.indexCast v1144
  let c0_732 : Index := 0#32
  ![v1145.toNat, 0]
def k0_off27 (k0_t2 : Fin k0_t2_loop.trips) : Fin 2 → Nat :=
  let c1 : Index := 1#32
  let c0_i32_30 : BitVec 32 := 0#32
  let c1_i32_32 : BitVec 32 := 1#32
  let arg13 : BitVec 32 := Scf.iv c0_i32_30 c1_i32_32 k0_t2
  let c8_i32_733 : BitVec 32 := 8#32
  let v1150 : BitVec 32 := Scalar.muli arg13 c8_i32_733
  let c0_i32_734 : BitVec 32 := 0#32
  let v1151 : BitVec 32 := Scalar.addi v1150 c0_i32_734
  let v1152 : Index := Scalar.indexCast v1151
  ![1, v1152.toNat]
def k0_mult19 (arg14 : BitVec 32) : BitVec 32 :=
  let c8_i32_788 : BitVec 32 := 8#32
  let v1269 : BitVec 32 := Scalar.muli arg14 c8_i32_788
  v1269
def k0_cond21 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1155 : BitVec 32 := Scalar.extui v1154
  let c0_i32_735 : BitVec 32 := 0#32
  let v1156 : BitVec 1 := Scalar.cmpi .ne v1155 c0_i32_735
  v1156

def k0_off28 (arg14 : BitVec 32) : Fin 2 → Nat :=
  let c8_i32_788 : BitVec 32 := 8#32
  let v1269 : BitVec 32 := Scalar.muli arg14 c8_i32_788
  let v1270 : BitVec 32 := v1269
  let v1271 : Index := Scalar.indexCast v1270
  let c0_789 : Index := 0#32
  ![v1271.toNat, 0]
def k0_mult20 (d0 : Dev nD) (v18 : BitVec 32) (arg15 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  v1270
def k0_cond22 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let true_736 : BitVec 1 := 1#1
  let v1157 : BitVec 1 := Scalar.xori v1154 true_736
  let v1158 : BitVec 32 := Scalar.extui v1157
  let c0_i32_737 : BitVec 32 := 0#32
  let v1159 : BitVec 1 := Scalar.cmpi .ne v1158 c0_i32_737
  v1159

def k0_off29 (d0 : Dev nD) (v18 : BitVec 32) (arg15 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk9 (d0 : Dev nD) (v18 : BitVec 32) (arg14 : BitVec 32) (arg15 : BitVec 32) (v1153 : BitVec 32) : Prop :=
  (∀ (k0_h21 : k0_cond21 d0 v1153 = 1#1), 8 ∣ (k0_mult19 arg14).toNat) ∧
  (∀ (k0_h21 : k0_cond21 d0 v1153 = 1#1), ∀ a, (k0_off28 arg14) a + S8x128.size a ≤ S17408x128.size a) ∧
  (∀ (k0_h22 : k0_cond22 d0 v1153 = 1#1), 8 ∣ (k0_mult20 d0 v18 arg15).toNat) ∧
  (∀ (k0_h22 : k0_cond22 d0 v1153 = 1#1), ∀ a, (k0_off29 d0 v18 arg15) a + S8x128.size a ≤ S16384x128.size a)
theorem k0_mult19_dvd : ∀ (d0 : Dev nD) (v18 : BitVec 32) (arg14 : BitVec 32) (arg15 : BitVec 32) (v1153 : BitVec 32) (k0_hw9 : k0_chk9 d0 v18 arg14 arg15 v1153), ∀ (k0_h21 : k0_cond21 d0 v1153 = 1#1), 8 ∣ (k0_mult19 arg14).toNat := fun d0 v18 arg14 arg15 v1153 k0_hw9 k0_h21 => k0_hw9.1 k0_h21
theorem k0_off28_inb : ∀ (d0 : Dev nD) (v18 : BitVec 32) (arg14 : BitVec 32) (arg15 : BitVec 32) (v1153 : BitVec 32) (k0_hw9 : k0_chk9 d0 v18 arg14 arg15 v1153), ∀ (k0_h21 : k0_cond21 d0 v1153 = 1#1), ∀ a, (k0_off28 arg14) a + S8x128.size a ≤ S17408x128.size a := fun d0 v18 arg14 arg15 v1153 k0_hw9 k0_h21 => k0_hw9.2.1 k0_h21
theorem k0_mult20_dvd : ∀ (d0 : Dev nD) (v18 : BitVec 32) (arg14 : BitVec 32) (arg15 : BitVec 32) (v1153 : BitVec 32) (k0_hw9 : k0_chk9 d0 v18 arg14 arg15 v1153), ∀ (k0_h22 : k0_cond22 d0 v1153 = 1#1), 8 ∣ (k0_mult20 d0 v18 arg15).toNat := fun d0 v18 arg14 arg15 v1153 k0_hw9 k0_h22 => k0_hw9.2.2.1 k0_h22
theorem k0_off29_inb : ∀ (d0 : Dev nD) (v18 : BitVec 32) (arg14 : BitVec 32) (arg15 : BitVec 32) (v1153 : BitVec 32) (k0_hw9 : k0_chk9 d0 v18 arg14 arg15 v1153), ∀ (k0_h22 : k0_cond22 d0 v1153 = 1#1), ∀ a, (k0_off29 d0 v18 arg15) a + S8x128.size a ≤ S16384x128.size a := fun d0 v18 arg14 arg15 v1153 k0_hw9 k0_h22 => k0_hw9.2.2.2 k0_h22

def k0_off30 (k0_t2 : Fin k0_t2_loop.trips) : Fin 2 → Nat :=
  let c1_741 : Index := 1#32
  let c0_i32_30 : BitVec 32 := 0#32
  let c1_i32_32 : BitVec 32 := 1#32
  let arg13 : BitVec 32 := Scf.iv c0_i32_30 c1_i32_32 k0_t2
  let c8_i32_739 : BitVec 32 := 8#32
  let v1165 : BitVec 32 := Scalar.muli arg13 c8_i32_739
  let c1_i32_740 : BitVec 32 := 1#32
  let v1166 : BitVec 32 := Scalar.addi v1165 c1_i32_740
  let v1167 : Index := Scalar.indexCast v1166
  ![1, v1167.toNat]
def k0_mult21 (d0 : Dev nD) (arg14 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  v1269
def k0_cond23 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let v1170 : BitVec 32 := Scalar.extui v1169
  let c0_i32_742 : BitVec 32 := 0#32
  let v1171 : BitVec 1 := Scalar.cmpi .ne v1170 c0_i32_742
  v1171

def k0_off31 (d0 : Dev nD) (arg14 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  let v1270 : BitVec 32 := v1269
  let v1271 : Index := Scalar.indexCast v1270
  let c0_789 : Index := 0#32
  ![v1271.toNat, 0]
def k0_mult22 (d0 : Dev nD) (v18 : BitVec 32) (arg15 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  v1270
def k0_cond24 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let true_743 : BitVec 1 := 1#1
  let v1172 : BitVec 1 := Scalar.xori v1169 true_743
  let v1173 : BitVec 32 := Scalar.extui v1172
  let c0_i32_744 : BitVec 32 := 0#32
  let v1174 : BitVec 1 := Scalar.cmpi .ne v1173 c0_i32_744
  v1174

def k0_off32 (d0 : Dev nD) (v18 : BitVec 32) (arg15 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk10 (d0 : Dev nD) (v18 : BitVec 32) (arg14 : BitVec 32) (arg15 : BitVec 32) (v1153 : BitVec 32) (v1168 : BitVec 32) : Prop :=
  (∀ (k0_h23 : k0_cond23 d0 v1168 = 1#1), 8 ∣ (k0_mult21 d0 arg14 v1153).toNat) ∧
  (∀ (k0_h23 : k0_cond23 d0 v1168 = 1#1), ∀ a, (k0_off31 d0 arg14 v1153) a + S8x128.size a ≤ S17408x128.size a) ∧
  (∀ (k0_h24 : k0_cond24 d0 v1168 = 1#1), 8 ∣ (k0_mult22 d0 v18 arg15 v1153).toNat) ∧
  (∀ (k0_h24 : k0_cond24 d0 v1168 = 1#1), ∀ a, (k0_off32 d0 v18 arg15 v1153) a + S8x128.size a ≤ S16384x128.size a)
theorem k0_mult21_dvd : ∀ (d0 : Dev nD) (v18 : BitVec 32) (arg14 : BitVec 32) (arg15 : BitVec 32) (v1153 : BitVec 32) (v1168 : BitVec 32) (k0_hw10 : k0_chk10 d0 v18 arg14 arg15 v1153 v1168), ∀ (k0_h23 : k0_cond23 d0 v1168 = 1#1), 8 ∣ (k0_mult21 d0 arg14 v1153).toNat := fun d0 v18 arg14 arg15 v1153 v1168 k0_hw10 k0_h23 => k0_hw10.1 k0_h23
theorem k0_off31_inb : ∀ (d0 : Dev nD) (v18 : BitVec 32) (arg14 : BitVec 32) (arg15 : BitVec 32) (v1153 : BitVec 32) (v1168 : BitVec 32) (k0_hw10 : k0_chk10 d0 v18 arg14 arg15 v1153 v1168), ∀ (k0_h23 : k0_cond23 d0 v1168 = 1#1), ∀ a, (k0_off31 d0 arg14 v1153) a + S8x128.size a ≤ S17408x128.size a := fun d0 v18 arg14 arg15 v1153 v1168 k0_hw10 k0_h23 => k0_hw10.2.1 k0_h23
theorem k0_mult22_dvd : ∀ (d0 : Dev nD) (v18 : BitVec 32) (arg14 : BitVec 32) (arg15 : BitVec 32) (v1153 : BitVec 32) (v1168 : BitVec 32) (k0_hw10 : k0_chk10 d0 v18 arg14 arg15 v1153 v1168), ∀ (k0_h24 : k0_cond24 d0 v1168 = 1#1), 8 ∣ (k0_mult22 d0 v18 arg15 v1153).toNat := fun d0 v18 arg14 arg15 v1153 v1168 k0_hw10 k0_h24 => k0_hw10.2.2.1 k0_h24
theorem k0_off32_inb : ∀ (d0 : Dev nD) (v18 : BitVec 32) (arg14 : BitVec 32) (arg15 : BitVec 32) (v1153 : BitVec 32) (v1168 : BitVec 32) (k0_hw10 : k0_chk10 d0 v18 arg14 arg15 v1153 v1168), ∀ (k0_h24 : k0_cond24 d0 v1168 = 1#1), ∀ a, (k0_off32 d0 v18 arg15 v1153) a + S8x128.size a ≤ S16384x128.size a := fun d0 v18 arg14 arg15 v1153 v1168 k0_hw10 k0_h24 => k0_hw10.2.2.2 k0_h24

def k0_off33 (k0_t2 : Fin k0_t2_loop.trips) : Fin 2 → Nat :=
  let c1_748 : Index := 1#32
  let c0_i32_30 : BitVec 32 := 0#32
  let c1_i32_32 : BitVec 32 := 1#32
  let arg13 : BitVec 32 := Scf.iv c0_i32_30 c1_i32_32 k0_t2
  let c8_i32_746 : BitVec 32 := 8#32
  let v1180 : BitVec 32 := Scalar.muli arg13 c8_i32_746
  let c2_i32_747 : BitVec 32 := 2#32
  let v1181 : BitVec 32 := Scalar.addi v1180 c2_i32_747
  let v1182 : Index := Scalar.indexCast v1181
  ![1, v1182.toNat]
def k0_mult23 (d0 : Dev nD) (arg14 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  v1269
def k0_cond25 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let v1185 : BitVec 32 := Scalar.extui v1184
  let c0_i32_749 : BitVec 32 := 0#32
  let v1186 : BitVec 1 := Scalar.cmpi .ne v1185 c0_i32_749
  v1186

def k0_off34 (d0 : Dev nD) (arg14 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  let v1270 : BitVec 32 := v1269
  let v1271 : Index := Scalar.indexCast v1270
  let c0_789 : Index := 0#32
  ![v1271.toNat, 0]
def k0_mult24 (d0 : Dev nD) (v18 : BitVec 32) (arg15 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  v1270
def k0_cond26 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let true_750 : BitVec 1 := 1#1
  let v1187 : BitVec 1 := Scalar.xori v1184 true_750
  let v1188 : BitVec 32 := Scalar.extui v1187
  let c0_i32_751 : BitVec 32 := 0#32
  let v1189 : BitVec 1 := Scalar.cmpi .ne v1188 c0_i32_751
  v1189

def k0_off35 (d0 : Dev nD) (v18 : BitVec 32) (arg15 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk11 (d0 : Dev nD) (v18 : BitVec 32) (arg14 : BitVec 32) (arg15 : BitVec 32) (v1153 : BitVec 32) (v1168 : BitVec 32) (v1183 : BitVec 32) : Prop :=
  (∀ (k0_h25 : k0_cond25 d0 v1183 = 1#1), 8 ∣ (k0_mult23 d0 arg14 v1153 v1168).toNat) ∧
  (∀ (k0_h25 : k0_cond25 d0 v1183 = 1#1), ∀ a, (k0_off34 d0 arg14 v1153 v1168) a + S8x128.size a ≤ S17408x128.size a) ∧
  (∀ (k0_h26 : k0_cond26 d0 v1183 = 1#1), 8 ∣ (k0_mult24 d0 v18 arg15 v1153 v1168).toNat) ∧
  (∀ (k0_h26 : k0_cond26 d0 v1183 = 1#1), ∀ a, (k0_off35 d0 v18 arg15 v1153 v1168) a + S8x128.size a ≤ S16384x128.size a)
theorem k0_mult23_dvd : ∀ (d0 : Dev nD) (v18 : BitVec 32) (arg14 : BitVec 32) (arg15 : BitVec 32) (v1153 : BitVec 32) (v1168 : BitVec 32) (v1183 : BitVec 32) (k0_hw11 : k0_chk11 d0 v18 arg14 arg15 v1153 v1168 v1183), ∀ (k0_h25 : k0_cond25 d0 v1183 = 1#1), 8 ∣ (k0_mult23 d0 arg14 v1153 v1168).toNat := fun d0 v18 arg14 arg15 v1153 v1168 v1183 k0_hw11 k0_h25 => k0_hw11.1 k0_h25
theorem k0_off34_inb : ∀ (d0 : Dev nD) (v18 : BitVec 32) (arg14 : BitVec 32) (arg15 : BitVec 32) (v1153 : BitVec 32) (v1168 : BitVec 32) (v1183 : BitVec 32) (k0_hw11 : k0_chk11 d0 v18 arg14 arg15 v1153 v1168 v1183), ∀ (k0_h25 : k0_cond25 d0 v1183 = 1#1), ∀ a, (k0_off34 d0 arg14 v1153 v1168) a + S8x128.size a ≤ S17408x128.size a := fun d0 v18 arg14 arg15 v1153 v1168 v1183 k0_hw11 k0_h25 => k0_hw11.2.1 k0_h25
theorem k0_mult24_dvd : ∀ (d0 : Dev nD) (v18 : BitVec 32) (arg14 : BitVec 32) (arg15 : BitVec 32) (v1153 : BitVec 32) (v1168 : BitVec 32) (v1183 : BitVec 32) (k0_hw11 : k0_chk11 d0 v18 arg14 arg15 v1153 v1168 v1183), ∀ (k0_h26 : k0_cond26 d0 v1183 = 1#1), 8 ∣ (k0_mult24 d0 v18 arg15 v1153 v1168).toNat := fun d0 v18 arg14 arg15 v1153 v1168 v1183 k0_hw11 k0_h26 => k0_hw11.2.2.1 k0_h26
theorem k0_off35_inb : ∀ (d0 : Dev nD) (v18 : BitVec 32) (arg14 : BitVec 32) (arg15 : BitVec 32) (v1153 : BitVec 32) (v1168 : BitVec 32) (v1183 : BitVec 32) (k0_hw11 : k0_chk11 d0 v18 arg14 arg15 v1153 v1168 v1183), ∀ (k0_h26 : k0_cond26 d0 v1183 = 1#1), ∀ a, (k0_off35 d0 v18 arg15 v1153 v1168) a + S8x128.size a ≤ S16384x128.size a := fun d0 v18 arg14 arg15 v1153 v1168 v1183 k0_hw11 k0_h26 => k0_hw11.2.2.2 k0_h26

def k0_off36 (k0_t2 : Fin k0_t2_loop.trips) : Fin 2 → Nat :=
  let c1_755 : Index := 1#32
  let c0_i32_30 : BitVec 32 := 0#32
  let c1_i32_32 : BitVec 32 := 1#32
  let arg13 : BitVec 32 := Scf.iv c0_i32_30 c1_i32_32 k0_t2
  let c8_i32_753 : BitVec 32 := 8#32
  let v1195 : BitVec 32 := Scalar.muli arg13 c8_i32_753
  let c3_i32_754 : BitVec 32 := 3#32
  let v1196 : BitVec 32 := Scalar.addi v1195 c3_i32_754
  let v1197 : Index := Scalar.indexCast v1196
  ![1, v1197.toNat]
def k0_mult25 (d0 : Dev nD) (arg14 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  v1269
def k0_cond27 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let v1200 : BitVec 32 := Scalar.extui v1199
  let c0_i32_756 : BitVec 32 := 0#32
  let v1201 : BitVec 1 := Scalar.cmpi .ne v1200 c0_i32_756
  v1201

def k0_off37 (d0 : Dev nD) (arg14 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  let v1270 : BitVec 32 := v1269
  let v1271 : Index := Scalar.indexCast v1270
  let c0_789 : Index := 0#32
  ![v1271.toNat, 0]
def k0_mult26 (d0 : Dev nD) (v18 : BitVec 32) (arg15 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  v1270
def k0_cond28 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let true_757 : BitVec 1 := 1#1
  let v1202 : BitVec 1 := Scalar.xori v1199 true_757
  let v1203 : BitVec 32 := Scalar.extui v1202
  let c0_i32_758 : BitVec 32 := 0#32
  let v1204 : BitVec 1 := Scalar.cmpi .ne v1203 c0_i32_758
  v1204

def k0_off38 (d0 : Dev nD) (v18 : BitVec 32) (arg15 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk12 (d0 : Dev nD) (v18 : BitVec 32) (arg14 : BitVec 32) (arg15 : BitVec 32) (v1153 : BitVec 32) (v1168 : BitVec 32) (v1183 : BitVec 32) (v1198 : BitVec 32) : Prop :=
  (∀ (k0_h27 : k0_cond27 d0 v1198 = 1#1), 8 ∣ (k0_mult25 d0 arg14 v1153 v1168 v1183).toNat) ∧
  (∀ (k0_h27 : k0_cond27 d0 v1198 = 1#1), ∀ a, (k0_off37 d0 arg14 v1153 v1168 v1183) a + S8x128.size a ≤ S17408x128.size a) ∧
  (∀ (k0_h28 : k0_cond28 d0 v1198 = 1#1), 8 ∣ (k0_mult26 d0 v18 arg15 v1153 v1168 v1183).toNat) ∧
  (∀ (k0_h28 : k0_cond28 d0 v1198 = 1#1), ∀ a, (k0_off38 d0 v18 arg15 v1153 v1168 v1183) a + S8x128.size a ≤ S16384x128.size a)
theorem k0_mult25_dvd : ∀ (d0 : Dev nD) (v18 : BitVec 32) (arg14 : BitVec 32) (arg15 : BitVec 32) (v1153 : BitVec 32) (v1168 : BitVec 32) (v1183 : BitVec 32) (v1198 : BitVec 32) (k0_hw12 : k0_chk12 d0 v18 arg14 arg15 v1153 v1168 v1183 v1198), ∀ (k0_h27 : k0_cond27 d0 v1198 = 1#1), 8 ∣ (k0_mult25 d0 arg14 v1153 v1168 v1183).toNat := fun d0 v18 arg14 arg15 v1153 v1168 v1183 v1198 k0_hw12 k0_h27 => k0_hw12.1 k0_h27
theorem k0_off37_inb : ∀ (d0 : Dev nD) (v18 : BitVec 32) (arg14 : BitVec 32) (arg15 : BitVec 32) (v1153 : BitVec 32) (v1168 : BitVec 32) (v1183 : BitVec 32) (v1198 : BitVec 32) (k0_hw12 : k0_chk12 d0 v18 arg14 arg15 v1153 v1168 v1183 v1198), ∀ (k0_h27 : k0_cond27 d0 v1198 = 1#1), ∀ a, (k0_off37 d0 arg14 v1153 v1168 v1183) a + S8x128.size a ≤ S17408x128.size a := fun d0 v18 arg14 arg15 v1153 v1168 v1183 v1198 k0_hw12 k0_h27 => k0_hw12.2.1 k0_h27
theorem k0_mult26_dvd : ∀ (d0 : Dev nD) (v18 : BitVec 32) (arg14 : BitVec 32) (arg15 : BitVec 32) (v1153 : BitVec 32) (v1168 : BitVec 32) (v1183 : BitVec 32) (v1198 : BitVec 32) (k0_hw12 : k0_chk12 d0 v18 arg14 arg15 v1153 v1168 v1183 v1198), ∀ (k0_h28 : k0_cond28 d0 v1198 = 1#1), 8 ∣ (k0_mult26 d0 v18 arg15 v1153 v1168 v1183).toNat := fun d0 v18 arg14 arg15 v1153 v1168 v1183 v1198 k0_hw12 k0_h28 => k0_hw12.2.2.1 k0_h28
theorem k0_off38_inb : ∀ (d0 : Dev nD) (v18 : BitVec 32) (arg14 : BitVec 32) (arg15 : BitVec 32) (v1153 : BitVec 32) (v1168 : BitVec 32) (v1183 : BitVec 32) (v1198 : BitVec 32) (k0_hw12 : k0_chk12 d0 v18 arg14 arg15 v1153 v1168 v1183 v1198), ∀ (k0_h28 : k0_cond28 d0 v1198 = 1#1), ∀ a, (k0_off38 d0 v18 arg15 v1153 v1168 v1183) a + S8x128.size a ≤ S16384x128.size a := fun d0 v18 arg14 arg15 v1153 v1168 v1183 v1198 k0_hw12 k0_h28 => k0_hw12.2.2.2 k0_h28

def k0_off39 (k0_t2 : Fin k0_t2_loop.trips) : Fin 2 → Nat :=
  let c1_762 : Index := 1#32
  let c0_i32_30 : BitVec 32 := 0#32
  let c1_i32_32 : BitVec 32 := 1#32
  let arg13 : BitVec 32 := Scf.iv c0_i32_30 c1_i32_32 k0_t2
  let c8_i32_760 : BitVec 32 := 8#32
  let v1210 : BitVec 32 := Scalar.muli arg13 c8_i32_760
  let c4_i32_761 : BitVec 32 := 4#32
  let v1211 : BitVec 32 := Scalar.addi v1210 c4_i32_761
  let v1212 : Index := Scalar.indexCast v1211
  ![1, v1212.toNat]
def k0_mult27 (d0 : Dev nD) (arg14 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  v1269
def k0_cond29 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let v1215 : BitVec 32 := Scalar.extui v1214
  let c0_i32_763 : BitVec 32 := 0#32
  let v1216 : BitVec 1 := Scalar.cmpi .ne v1215 c0_i32_763
  v1216

def k0_off40 (d0 : Dev nD) (arg14 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  let v1270 : BitVec 32 := v1269
  let v1271 : Index := Scalar.indexCast v1270
  let c0_789 : Index := 0#32
  ![v1271.toNat, 0]
def k0_mult28 (d0 : Dev nD) (v18 : BitVec 32) (arg15 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  v1270
def k0_cond30 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let true_764 : BitVec 1 := 1#1
  let v1217 : BitVec 1 := Scalar.xori v1214 true_764
  let v1218 : BitVec 32 := Scalar.extui v1217
  let c0_i32_765 : BitVec 32 := 0#32
  let v1219 : BitVec 1 := Scalar.cmpi .ne v1218 c0_i32_765
  v1219

def k0_off41 (d0 : Dev nD) (v18 : BitVec 32) (arg15 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk13 (d0 : Dev nD) (v18 : BitVec 32) (arg14 : BitVec 32) (arg15 : BitVec 32) (v1153 : BitVec 32) (v1168 : BitVec 32) (v1183 : BitVec 32) (v1198 : BitVec 32) (v1213 : BitVec 32) : Prop :=
  (∀ (k0_h29 : k0_cond29 d0 v1213 = 1#1), 8 ∣ (k0_mult27 d0 arg14 v1153 v1168 v1183 v1198).toNat) ∧
  (∀ (k0_h29 : k0_cond29 d0 v1213 = 1#1), ∀ a, (k0_off40 d0 arg14 v1153 v1168 v1183 v1198) a + S8x128.size a ≤ S17408x128.size a) ∧
  (∀ (k0_h30 : k0_cond30 d0 v1213 = 1#1), 8 ∣ (k0_mult28 d0 v18 arg15 v1153 v1168 v1183 v1198).toNat) ∧
  (∀ (k0_h30 : k0_cond30 d0 v1213 = 1#1), ∀ a, (k0_off41 d0 v18 arg15 v1153 v1168 v1183 v1198) a + S8x128.size a ≤ S16384x128.size a)
theorem k0_mult27_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw13 : k0_chk13 d0 v18 arg14 arg15 v1153 v1168 v1183 v1198 v1213), ∀ (k0_h29 : k0_cond29 d0 v1213 = 1#1), 8 ∣ (k0_mult27 d0 arg14 v1153 v1168 v1183 v1198).toNat := fun d0 v18 arg14 arg15 v1153 v1168 v1183 v1198 v1213 k0_hw13 k0_h29 => k0_hw13.1 k0_h29
theorem k0_off40_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw13 : k0_chk13 d0 v18 arg14 arg15 v1153 v1168 v1183 v1198 v1213), ∀ (k0_h29 : k0_cond29 d0 v1213 = 1#1), ∀ a, (k0_off40 d0 arg14 v1153 v1168 v1183 v1198) a + S8x128.size a ≤ S17408x128.size a := fun d0 v18 arg14 arg15 v1153 v1168 v1183 v1198 v1213 k0_hw13 k0_h29 => k0_hw13.2.1 k0_h29
theorem k0_mult28_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw13 : k0_chk13 d0 v18 arg14 arg15 v1153 v1168 v1183 v1198 v1213), ∀ (k0_h30 : k0_cond30 d0 v1213 = 1#1), 8 ∣ (k0_mult28 d0 v18 arg15 v1153 v1168 v1183 v1198).toNat := fun d0 v18 arg14 arg15 v1153 v1168 v1183 v1198 v1213 k0_hw13 k0_h30 => k0_hw13.2.2.1 k0_h30
theorem k0_off41_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw13 : k0_chk13 d0 v18 arg14 arg15 v1153 v1168 v1183 v1198 v1213), ∀ (k0_h30 : k0_cond30 d0 v1213 = 1#1), ∀ a, (k0_off41 d0 v18 arg15 v1153 v1168 v1183 v1198) a + S8x128.size a ≤ S16384x128.size a := fun d0 v18 arg14 arg15 v1153 v1168 v1183 v1198 v1213 k0_hw13 k0_h30 => k0_hw13.2.2.2 k0_h30

def k0_off42 (k0_t2 : Fin k0_t2_loop.trips) : Fin 2 → Nat :=
  let c1_769 : Index := 1#32
  let c0_i32_30 : BitVec 32 := 0#32
  let c1_i32_32 : BitVec 32 := 1#32
  let arg13 : BitVec 32 := Scf.iv c0_i32_30 c1_i32_32 k0_t2
  let c8_i32_767 : BitVec 32 := 8#32
  let v1225 : BitVec 32 := Scalar.muli arg13 c8_i32_767
  let c5_i32_768 : BitVec 32 := 5#32
  let v1226 : BitVec 32 := Scalar.addi v1225 c5_i32_768
  let v1227 : Index := Scalar.indexCast v1226
  ![1, v1227.toNat]
def k0_mult29 (d0 : Dev nD) (arg14 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  v1269
def k0_cond31 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let v1230 : BitVec 32 := Scalar.extui v1229
  let c0_i32_770 : BitVec 32 := 0#32
  let v1231 : BitVec 1 := Scalar.cmpi .ne v1230 c0_i32_770
  v1231

def k0_off43 (d0 : Dev nD) (arg14 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  let v1270 : BitVec 32 := v1269
  let v1271 : Index := Scalar.indexCast v1270
  let c0_789 : Index := 0#32
  ![v1271.toNat, 0]
def k0_mult30 (d0 : Dev nD) (v18 : BitVec 32) (arg15 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  v1270
def k0_cond32 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let true_771 : BitVec 1 := 1#1
  let v1232 : BitVec 1 := Scalar.xori v1229 true_771
  let v1233 : BitVec 32 := Scalar.extui v1232
  let c0_i32_772 : BitVec 32 := 0#32
  let v1234 : BitVec 1 := Scalar.cmpi .ne v1233 c0_i32_772
  v1234

def k0_off44 (d0 : Dev nD) (v18 : BitVec 32) (arg15 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk14 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) : Prop :=
  (∀ (k0_h31 : k0_cond31 d0 v1228 = 1#1), 8 ∣ (k0_mult29 d0 arg14 v1153 v1168 v1183 v1198 v1213).toNat) ∧
  (∀ (k0_h31 : k0_cond31 d0 v1228 = 1#1), ∀ a, (k0_off43 d0 arg14 v1153 v1168 v1183 v1198 v1213) a + S8x128.size a ≤ S17408x128.size a) ∧
  (∀ (k0_h32 : k0_cond32 d0 v1228 = 1#1), 8 ∣ (k0_mult30 d0 v18 arg15 v1153 v1168 v1183 v1198 v1213).toNat) ∧
  (∀ (k0_h32 : k0_cond32 d0 v1228 = 1#1), ∀ a, (k0_off44 d0 v18 arg15 v1153 v1168 v1183 v1198 v1213) a + S8x128.size a ≤ S16384x128.size a)
theorem k0_mult29_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw14 : k0_chk14 d0 v18 arg14 arg15 v1153 v1168 v1183 v1198 v1213 v1228), ∀ (k0_h31 : k0_cond31 d0 v1228 = 1#1), 8 ∣ (k0_mult29 d0 arg14 v1153 v1168 v1183 v1198 v1213).toNat := fun d0 v18 arg14 arg15 v1153 v1168 v1183 v1198 v1213 v1228 k0_hw14 k0_h31 => k0_hw14.1 k0_h31
theorem k0_off43_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw14 : k0_chk14 d0 v18 arg14 arg15 v1153 v1168 v1183 v1198 v1213 v1228), ∀ (k0_h31 : k0_cond31 d0 v1228 = 1#1), ∀ a, (k0_off43 d0 arg14 v1153 v1168 v1183 v1198 v1213) a + S8x128.size a ≤ S17408x128.size a := fun d0 v18 arg14 arg15 v1153 v1168 v1183 v1198 v1213 v1228 k0_hw14 k0_h31 => k0_hw14.2.1 k0_h31
theorem k0_mult30_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw14 : k0_chk14 d0 v18 arg14 arg15 v1153 v1168 v1183 v1198 v1213 v1228), ∀ (k0_h32 : k0_cond32 d0 v1228 = 1#1), 8 ∣ (k0_mult30 d0 v18 arg15 v1153 v1168 v1183 v1198 v1213).toNat := fun d0 v18 arg14 arg15 v1153 v1168 v1183 v1198 v1213 v1228 k0_hw14 k0_h32 => k0_hw14.2.2.1 k0_h32
theorem k0_off44_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw14 : k0_chk14 d0 v18 arg14 arg15 v1153 v1168 v1183 v1198 v1213 v1228), ∀ (k0_h32 : k0_cond32 d0 v1228 = 1#1), ∀ a, (k0_off44 d0 v18 arg15 v1153 v1168 v1183 v1198 v1213) a + S8x128.size a ≤ S16384x128.size a := fun d0 v18 arg14 arg15 v1153 v1168 v1183 v1198 v1213 v1228 k0_hw14 k0_h32 => k0_hw14.2.2.2 k0_h32

def k0_off45 (k0_t2 : Fin k0_t2_loop.trips) : Fin 2 → Nat :=
  let c1_776 : Index := 1#32
  let c0_i32_30 : BitVec 32 := 0#32
  let c1_i32_32 : BitVec 32 := 1#32
  let arg13 : BitVec 32 := Scf.iv c0_i32_30 c1_i32_32 k0_t2
  let c8_i32_774 : BitVec 32 := 8#32
  let v1240 : BitVec 32 := Scalar.muli arg13 c8_i32_774
  let c6_i32_775 : BitVec 32 := 6#32
  let v1241 : BitVec 32 := Scalar.addi v1240 c6_i32_775
  let v1242 : Index := Scalar.indexCast v1241
  ![1, v1242.toNat]
def k0_mult31 (d0 : Dev nD) (arg14 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  v1269
def k0_cond33 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let v1245 : BitVec 32 := Scalar.extui v1244
  let c0_i32_777 : BitVec 32 := 0#32
  let v1246 : BitVec 1 := Scalar.cmpi .ne v1245 c0_i32_777
  v1246

def k0_off46 (d0 : Dev nD) (arg14 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  let v1270 : BitVec 32 := v1269
  let v1271 : Index := Scalar.indexCast v1270
  let c0_789 : Index := 0#32
  ![v1271.toNat, 0]
def k0_mult32 (d0 : Dev nD) (v18 : BitVec 32) (arg15 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  v1270
def k0_cond34 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let true_778 : BitVec 1 := 1#1
  let v1247 : BitVec 1 := Scalar.xori v1244 true_778
  let v1248 : BitVec 32 := Scalar.extui v1247
  let c0_i32_779 : BitVec 32 := 0#32
  let v1249 : BitVec 1 := Scalar.cmpi .ne v1248 c0_i32_779
  v1249

def k0_off47 (d0 : Dev nD) (v18 : BitVec 32) (arg15 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk15 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) : Prop :=
  (∀ (k0_h33 : k0_cond33 d0 v1243 = 1#1), 8 ∣ (k0_mult31 d0 arg14 v1153 v1168 v1183 v1198 v1213 v1228).toNat) ∧
  (∀ (k0_h33 : k0_cond33 d0 v1243 = 1#1), ∀ a, (k0_off46 d0 arg14 v1153 v1168 v1183 v1198 v1213 v1228) a + S8x128.size a ≤ S17408x128.size a) ∧
  (∀ (k0_h34 : k0_cond34 d0 v1243 = 1#1), 8 ∣ (k0_mult32 d0 v18 arg15 v1153 v1168 v1183 v1198 v1213 v1228).toNat) ∧
  (∀ (k0_h34 : k0_cond34 d0 v1243 = 1#1), ∀ a, (k0_off47 d0 v18 arg15 v1153 v1168 v1183 v1198 v1213 v1228) a + S8x128.size a ≤ S16384x128.size a)
theorem k0_mult31_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw15 : k0_chk15 d0 v18 arg14 arg15 v1153 v1168 v1183 v1198 v1213 v1228 v1243), ∀ (k0_h33 : k0_cond33 d0 v1243 = 1#1), 8 ∣ (k0_mult31 d0 arg14 v1153 v1168 v1183 v1198 v1213 v1228).toNat := fun d0 v18 arg14 arg15 v1153 v1168 v1183 v1198 v1213 v1228 v1243 k0_hw15 k0_h33 => k0_hw15.1 k0_h33
theorem k0_off46_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw15 : k0_chk15 d0 v18 arg14 arg15 v1153 v1168 v1183 v1198 v1213 v1228 v1243), ∀ (k0_h33 : k0_cond33 d0 v1243 = 1#1), ∀ a, (k0_off46 d0 arg14 v1153 v1168 v1183 v1198 v1213 v1228) a + S8x128.size a ≤ S17408x128.size a := fun d0 v18 arg14 arg15 v1153 v1168 v1183 v1198 v1213 v1228 v1243 k0_hw15 k0_h33 => k0_hw15.2.1 k0_h33
theorem k0_mult32_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw15 : k0_chk15 d0 v18 arg14 arg15 v1153 v1168 v1183 v1198 v1213 v1228 v1243), ∀ (k0_h34 : k0_cond34 d0 v1243 = 1#1), 8 ∣ (k0_mult32 d0 v18 arg15 v1153 v1168 v1183 v1198 v1213 v1228).toNat := fun d0 v18 arg14 arg15 v1153 v1168 v1183 v1198 v1213 v1228 v1243 k0_hw15 k0_h34 => k0_hw15.2.2.1 k0_h34
theorem k0_off47_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw15 : k0_chk15 d0 v18 arg14 arg15 v1153 v1168 v1183 v1198 v1213 v1228 v1243), ∀ (k0_h34 : k0_cond34 d0 v1243 = 1#1), ∀ a, (k0_off47 d0 v18 arg15 v1153 v1168 v1183 v1198 v1213 v1228) a + S8x128.size a ≤ S16384x128.size a := fun d0 v18 arg14 arg15 v1153 v1168 v1183 v1198 v1213 v1228 v1243 k0_hw15 k0_h34 => k0_hw15.2.2.2 k0_h34

def k0_off48 (k0_t2 : Fin k0_t2_loop.trips) : Fin 2 → Nat :=
  let c1_783 : Index := 1#32
  let c0_i32_30 : BitVec 32 := 0#32
  let c1_i32_32 : BitVec 32 := 1#32
  let arg13 : BitVec 32 := Scf.iv c0_i32_30 c1_i32_32 k0_t2
  let c8_i32_781 : BitVec 32 := 8#32
  let v1255 : BitVec 32 := Scalar.muli arg13 c8_i32_781
  let c7_i32_782 : BitVec 32 := 7#32
  let v1256 : BitVec 32 := Scalar.addi v1255 c7_i32_782
  let v1257 : Index := Scalar.indexCast v1256
  ![1, v1257.toNat]
def k0_mult33 (d0 : Dev nD) (arg14 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  v1269
def k0_cond35 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let v1260 : BitVec 32 := Scalar.extui v1259
  let c0_i32_784 : BitVec 32 := 0#32
  let v1261 : BitVec 1 := Scalar.cmpi .ne v1260 c0_i32_784
  v1261

def k0_off49 (d0 : Dev nD) (arg14 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  let v1270 : BitVec 32 := v1269
  let v1271 : Index := Scalar.indexCast v1270
  let c0_789 : Index := 0#32
  ![v1271.toNat, 0]
def k0_mult34 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  v1270
def k0_cond36 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let true_785 : BitVec 1 := 1#1
  let v1262 : BitVec 1 := Scalar.xori v1259 true_785
  let v1263 : BitVec 32 := Scalar.extui v1262
  let c0_i32_786 : BitVec 32 := 0#32
  let v1264 : BitVec 1 := Scalar.cmpi .ne v1263 c0_i32_786
  v1264

def k0_off50 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk16 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) : Prop :=
  (∀ (k0_h35 : k0_cond35 d0 v1258 = 1#1), 8 ∣ (k0_mult33 d0 arg14 v1153 v1168 v1183 v1198 v1213 v1228 v1243).toNat) ∧
  (∀ (k0_h35 : k0_cond35 d0 v1258 = 1#1), ∀ a, (k0_off49 d0 arg14 v1153 v1168 v1183 v1198 v1213 v1228 v1243) a + S8x128.size a ≤ S17408x128.size a) ∧
  (∀ (k0_h36 : k0_cond36 d0 v1258 = 1#1), 8 ∣ (k0_mult34 d0 v18 arg15 v1153 v1168 v1183 v1198 v1213 v1228 v1243).toNat) ∧
  (∀ (k0_h36 : k0_cond36 d0 v1258 = 1#1), ∀ a, (k0_off50 d0 v18 arg15 v1153 v1168 v1183 v1198 v1213 v1228 v1243) a + S8x128.size a ≤ S16384x128.size a)
theorem k0_mult33_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw16 : k0_chk16 d0 v18 arg14 arg15 v1153 v1168 v1183 v1198 v1213 v1228 v1243 v1258), ∀ (k0_h35 : k0_cond35 d0 v1258 = 1#1), 8 ∣ (k0_mult33 d0 arg14 v1153 v1168 v1183 v1198 v1213 v1228 v1243).toNat := fun d0 v18 arg14 arg15 v1153 v1168 v1183 v1198 v1213 v1228 v1243 v1258 k0_hw16 k0_h35 => k0_hw16.1 k0_h35
theorem k0_off49_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw16 : k0_chk16 d0 v18 arg14 arg15 v1153 v1168 v1183 v1198 v1213 v1228 v1243 v1258), ∀ (k0_h35 : k0_cond35 d0 v1258 = 1#1), ∀ a, (k0_off49 d0 arg14 v1153 v1168 v1183 v1198 v1213 v1228 v1243) a + S8x128.size a ≤ S17408x128.size a := fun d0 v18 arg14 arg15 v1153 v1168 v1183 v1198 v1213 v1228 v1243 v1258 k0_hw16 k0_h35 => k0_hw16.2.1 k0_h35
theorem k0_mult34_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw16 : k0_chk16 d0 v18 arg14 arg15 v1153 v1168 v1183 v1198 v1213 v1228 v1243 v1258), ∀ (k0_h36 : k0_cond36 d0 v1258 = 1#1), 8 ∣ (k0_mult34 d0 v18 arg15 v1153 v1168 v1183 v1198 v1213 v1228 v1243).toNat := fun d0 v18 arg14 arg15 v1153 v1168 v1183 v1198 v1213 v1228 v1243 v1258 k0_hw16 k0_h36 => k0_hw16.2.2.1 k0_h36
theorem k0_off50_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw16 : k0_chk16 d0 v18 arg14 arg15 v1153 v1168 v1183 v1198 v1213 v1228 v1243 v1258), ∀ (k0_h36 : k0_cond36 d0 v1258 = 1#1), ∀ a, (k0_off50 d0 v18 arg15 v1153 v1168 v1183 v1198 v1213 v1228 v1243) a + S8x128.size a ≤ S16384x128.size a := fun d0 v18 arg14 arg15 v1153 v1168 v1183 v1198 v1213 v1228 v1243 v1258 k0_hw16 k0_h36 => k0_hw16.2.2.2 k0_h36

def k0_dev6 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1147 : BitVec 32 := Scalar.muli v9 c16_i32_736
  let v1148 : BitVec 32 := Scalar.addi c0_i32_737 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1149 : BitVec 32 := Scalar.muli v5 c4_i32_738
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1151 : BitVec 32 := Scalar.muli v8 c1_i32_739
  let v1152 : BitVec 32 := Scalar.addi v1150 v1151
  v1152.toNat
def k0_dev7 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev8 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev9 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev10 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
@[reducible] def k0_t3_loop : Scf.Loop 32 :=
  let c0_i32_48 : BitVec 32 := 0#32
  let c16_i32_49 : BitVec 32 := 16#32
  let v85 : BitVec 32 := Scalar.addi c0_i32_48 c16_i32_49
  let c1_i32_50 : BitVec 32 := 1#32
  ⟨c0_i32_48, v85, c1_i32_50⟩
def k0_mult35 (k0_t3 : Fin k0_t3_loop.trips) : BitVec 32 :=
  let c256_i32_731 : BitVec 32 := 256#32
  let c0_i32_48 : BitVec 32 := 0#32
  let c1_i32_50 : BitVec 32 := 1#32
  let arg13 : BitVec 32 := Scf.iv c0_i32_48 c1_i32_50 k0_t3
  let c8_i32_730 : BitVec 32 := 8#32
  let v1142 : BitVec 32 := Scalar.muli arg13 c8_i32_730
  let v1143 : BitVec 32 := Scalar.addi c256_i32_731 v1142
  v1143
def k0_off51 (k0_t3 : Fin k0_t3_loop.trips) : Fin 2 → Nat :=
  let c256_i32_731 : BitVec 32 := 256#32
  let c0_i32_48 : BitVec 32 := 0#32
  let c1_i32_50 : BitVec 32 := 1#32
  let arg13 : BitVec 32 := Scf.iv c0_i32_48 c1_i32_50 k0_t3
  let c8_i32_730 : BitVec 32 := 8#32
  let v1142 : BitVec 32 := Scalar.muli arg13 c8_i32_730
  let v1143 : BitVec 32 := Scalar.addi c256_i32_731 v1142
  let v1144 : BitVec 32 := v1143
  let v1145 : Index := Scalar.indexCast v1144
  let c0_732 : Index := 0#32
  ![v1145.toNat, 0]
def k0_off52 (k0_t3 : Fin k0_t3_loop.trips) : Fin 2 → Nat :=
  let c2 : Index := 2#32
  let c0_i32_48 : BitVec 32 := 0#32
  let c1_i32_50 : BitVec 32 := 1#32
  let arg13 : BitVec 32 := Scf.iv c0_i32_48 c1_i32_50 k0_t3
  let c8_i32_733 : BitVec 32 := 8#32
  let v1150 : BitVec 32 := Scalar.muli arg13 c8_i32_733
  let c0_i32_734 : BitVec 32 := 0#32
  let v1151 : BitVec 32 := Scalar.addi v1150 c0_i32_734
  let v1152 : Index := Scalar.indexCast v1151
  ![2, v1152.toNat]
def k0_mult36 (arg14 : BitVec 32) : BitVec 32 :=
  let c8_i32_788 : BitVec 32 := 8#32
  let v1269 : BitVec 32 := Scalar.muli arg14 c8_i32_788
  v1269
def k0_cond42 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1155 : BitVec 32 := Scalar.extui v1154
  let c0_i32_735 : BitVec 32 := 0#32
  let v1156 : BitVec 1 := Scalar.cmpi .ne v1155 c0_i32_735
  v1156

def k0_off53 (arg14 : BitVec 32) : Fin 2 → Nat :=
  let c8_i32_788 : BitVec 32 := 8#32
  let v1269 : BitVec 32 := Scalar.muli arg14 c8_i32_788
  let v1270 : BitVec 32 := v1269
  let v1271 : Index := Scalar.indexCast v1270
  let c0_789 : Index := 0#32
  ![v1271.toNat, 0]
def k0_mult37 (d0 : Dev nD) (v18 : BitVec 32) (arg15 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  v1270
def k0_cond43 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let true_736 : BitVec 1 := 1#1
  let v1157 : BitVec 1 := Scalar.xori v1154 true_736
  let v1158 : BitVec 32 := Scalar.extui v1157
  let c0_i32_737 : BitVec 32 := 0#32
  let v1159 : BitVec 1 := Scalar.cmpi .ne v1158 c0_i32_737
  v1159

def k0_off54 (d0 : Dev nD) (v18 : BitVec 32) (arg15 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk17 (d0 : Dev nD) (v18 : BitVec 32) (arg14 : BitVec 32) (arg15 : BitVec 32) (v1153 : BitVec 32) : Prop :=
  (∀ (k0_h42 : k0_cond42 d0 v1153 = 1#1), 8 ∣ (k0_mult36 arg14).toNat) ∧
  (∀ (k0_h42 : k0_cond42 d0 v1153 = 1#1), ∀ a, (k0_off53 arg14) a + S8x128.size a ≤ S17408x128.size a) ∧
  (∀ (k0_h43 : k0_cond43 d0 v1153 = 1#1), 8 ∣ (k0_mult37 d0 v18 arg15).toNat) ∧
  (∀ (k0_h43 : k0_cond43 d0 v1153 = 1#1), ∀ a, (k0_off54 d0 v18 arg15) a + S8x128.size a ≤ S16384x128.size a)
theorem k0_mult36_dvd : ∀ (d0 : Dev nD) (v18 : BitVec 32) (arg14 : BitVec 32) (arg15 : BitVec 32) (v1153 : BitVec 32) (k0_hw17 : k0_chk17 d0 v18 arg14 arg15 v1153), ∀ (k0_h42 : k0_cond42 d0 v1153 = 1#1), 8 ∣ (k0_mult36 arg14).toNat := fun d0 v18 arg14 arg15 v1153 k0_hw17 k0_h42 => k0_hw17.1 k0_h42
theorem k0_off53_inb : ∀ (d0 : Dev nD) (v18 : BitVec 32) (arg14 : BitVec 32) (arg15 : BitVec 32) (v1153 : BitVec 32) (k0_hw17 : k0_chk17 d0 v18 arg14 arg15 v1153), ∀ (k0_h42 : k0_cond42 d0 v1153 = 1#1), ∀ a, (k0_off53 arg14) a + S8x128.size a ≤ S17408x128.size a := fun d0 v18 arg14 arg15 v1153 k0_hw17 k0_h42 => k0_hw17.2.1 k0_h42
theorem k0_mult37_dvd : ∀ (d0 : Dev nD) (v18 : BitVec 32) (arg14 : BitVec 32) (arg15 : BitVec 32) (v1153 : BitVec 32) (k0_hw17 : k0_chk17 d0 v18 arg14 arg15 v1153), ∀ (k0_h43 : k0_cond43 d0 v1153 = 1#1), 8 ∣ (k0_mult37 d0 v18 arg15).toNat := fun d0 v18 arg14 arg15 v1153 k0_hw17 k0_h43 => k0_hw17.2.2.1 k0_h43
theorem k0_off54_inb : ∀ (d0 : Dev nD) (v18 : BitVec 32) (arg14 : BitVec 32) (arg15 : BitVec 32) (v1153 : BitVec 32) (k0_hw17 : k0_chk17 d0 v18 arg14 arg15 v1153), ∀ (k0_h43 : k0_cond43 d0 v1153 = 1#1), ∀ a, (k0_off54 d0 v18 arg15) a + S8x128.size a ≤ S16384x128.size a := fun d0 v18 arg14 arg15 v1153 k0_hw17 k0_h43 => k0_hw17.2.2.2 k0_h43

def k0_off55 (k0_t3 : Fin k0_t3_loop.trips) : Fin 2 → Nat :=
  let c2_741 : Index := 2#32
  let c0_i32_48 : BitVec 32 := 0#32
  let c1_i32_50 : BitVec 32 := 1#32
  let arg13 : BitVec 32 := Scf.iv c0_i32_48 c1_i32_50 k0_t3
  let c8_i32_739 : BitVec 32 := 8#32
  let v1165 : BitVec 32 := Scalar.muli arg13 c8_i32_739
  let c1_i32_740 : BitVec 32 := 1#32
  let v1166 : BitVec 32 := Scalar.addi v1165 c1_i32_740
  let v1167 : Index := Scalar.indexCast v1166
  ![2, v1167.toNat]
def k0_mult38 (d0 : Dev nD) (arg14 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  v1269
def k0_cond44 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let v1170 : BitVec 32 := Scalar.extui v1169
  let c0_i32_742 : BitVec 32 := 0#32
  let v1171 : BitVec 1 := Scalar.cmpi .ne v1170 c0_i32_742
  v1171

def k0_off56 (d0 : Dev nD) (arg14 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  let v1270 : BitVec 32 := v1269
  let v1271 : Index := Scalar.indexCast v1270
  let c0_789 : Index := 0#32
  ![v1271.toNat, 0]
def k0_mult39 (d0 : Dev nD) (v18 : BitVec 32) (arg15 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  v1270
def k0_cond45 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let true_743 : BitVec 1 := 1#1
  let v1172 : BitVec 1 := Scalar.xori v1169 true_743
  let v1173 : BitVec 32 := Scalar.extui v1172
  let c0_i32_744 : BitVec 32 := 0#32
  let v1174 : BitVec 1 := Scalar.cmpi .ne v1173 c0_i32_744
  v1174

def k0_off57 (d0 : Dev nD) (v18 : BitVec 32) (arg15 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk18 (d0 : Dev nD) (v18 : BitVec 32) (arg14 : BitVec 32) (arg15 : BitVec 32) (v1153 : BitVec 32) (v1168 : BitVec 32) : Prop :=
  (∀ (k0_h44 : k0_cond44 d0 v1168 = 1#1), 8 ∣ (k0_mult38 d0 arg14 v1153).toNat) ∧
  (∀ (k0_h44 : k0_cond44 d0 v1168 = 1#1), ∀ a, (k0_off56 d0 arg14 v1153) a + S8x128.size a ≤ S17408x128.size a) ∧
  (∀ (k0_h45 : k0_cond45 d0 v1168 = 1#1), 8 ∣ (k0_mult39 d0 v18 arg15 v1153).toNat) ∧
  (∀ (k0_h45 : k0_cond45 d0 v1168 = 1#1), ∀ a, (k0_off57 d0 v18 arg15 v1153) a + S8x128.size a ≤ S16384x128.size a)
theorem k0_mult38_dvd : ∀ (d0 : Dev nD) (v18 : BitVec 32) (arg14 : BitVec 32) (arg15 : BitVec 32) (v1153 : BitVec 32) (v1168 : BitVec 32) (k0_hw18 : k0_chk18 d0 v18 arg14 arg15 v1153 v1168), ∀ (k0_h44 : k0_cond44 d0 v1168 = 1#1), 8 ∣ (k0_mult38 d0 arg14 v1153).toNat := fun d0 v18 arg14 arg15 v1153 v1168 k0_hw18 k0_h44 => k0_hw18.1 k0_h44
theorem k0_off56_inb : ∀ (d0 : Dev nD) (v18 : BitVec 32) (arg14 : BitVec 32) (arg15 : BitVec 32) (v1153 : BitVec 32) (v1168 : BitVec 32) (k0_hw18 : k0_chk18 d0 v18 arg14 arg15 v1153 v1168), ∀ (k0_h44 : k0_cond44 d0 v1168 = 1#1), ∀ a, (k0_off56 d0 arg14 v1153) a + S8x128.size a ≤ S17408x128.size a := fun d0 v18 arg14 arg15 v1153 v1168 k0_hw18 k0_h44 => k0_hw18.2.1 k0_h44
theorem k0_mult39_dvd : ∀ (d0 : Dev nD) (v18 : BitVec 32) (arg14 : BitVec 32) (arg15 : BitVec 32) (v1153 : BitVec 32) (v1168 : BitVec 32) (k0_hw18 : k0_chk18 d0 v18 arg14 arg15 v1153 v1168), ∀ (k0_h45 : k0_cond45 d0 v1168 = 1#1), 8 ∣ (k0_mult39 d0 v18 arg15 v1153).toNat := fun d0 v18 arg14 arg15 v1153 v1168 k0_hw18 k0_h45 => k0_hw18.2.2.1 k0_h45
theorem k0_off57_inb : ∀ (d0 : Dev nD) (v18 : BitVec 32) (arg14 : BitVec 32) (arg15 : BitVec 32) (v1153 : BitVec 32) (v1168 : BitVec 32) (k0_hw18 : k0_chk18 d0 v18 arg14 arg15 v1153 v1168), ∀ (k0_h45 : k0_cond45 d0 v1168 = 1#1), ∀ a, (k0_off57 d0 v18 arg15 v1153) a + S8x128.size a ≤ S16384x128.size a := fun d0 v18 arg14 arg15 v1153 v1168 k0_hw18 k0_h45 => k0_hw18.2.2.2 k0_h45

def k0_off58 (k0_t3 : Fin k0_t3_loop.trips) : Fin 2 → Nat :=
  let c2_748 : Index := 2#32
  let c0_i32_48 : BitVec 32 := 0#32
  let c1_i32_50 : BitVec 32 := 1#32
  let arg13 : BitVec 32 := Scf.iv c0_i32_48 c1_i32_50 k0_t3
  let c8_i32_746 : BitVec 32 := 8#32
  let v1180 : BitVec 32 := Scalar.muli arg13 c8_i32_746
  let c2_i32_747 : BitVec 32 := 2#32
  let v1181 : BitVec 32 := Scalar.addi v1180 c2_i32_747
  let v1182 : Index := Scalar.indexCast v1181
  ![2, v1182.toNat]
def k0_mult40 (d0 : Dev nD) (arg14 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  v1269
def k0_cond46 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let v1185 : BitVec 32 := Scalar.extui v1184
  let c0_i32_749 : BitVec 32 := 0#32
  let v1186 : BitVec 1 := Scalar.cmpi .ne v1185 c0_i32_749
  v1186

def k0_off59 (d0 : Dev nD) (arg14 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  let v1270 : BitVec 32 := v1269
  let v1271 : Index := Scalar.indexCast v1270
  let c0_789 : Index := 0#32
  ![v1271.toNat, 0]
def k0_mult41 (d0 : Dev nD) (v18 : BitVec 32) (arg15 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  v1270
def k0_cond47 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let true_750 : BitVec 1 := 1#1
  let v1187 : BitVec 1 := Scalar.xori v1184 true_750
  let v1188 : BitVec 32 := Scalar.extui v1187
  let c0_i32_751 : BitVec 32 := 0#32
  let v1189 : BitVec 1 := Scalar.cmpi .ne v1188 c0_i32_751
  v1189

def k0_off60 (d0 : Dev nD) (v18 : BitVec 32) (arg15 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk19 (d0 : Dev nD) (v18 : BitVec 32) (arg14 : BitVec 32) (arg15 : BitVec 32) (v1153 : BitVec 32) (v1168 : BitVec 32) (v1183 : BitVec 32) : Prop :=
  (∀ (k0_h46 : k0_cond46 d0 v1183 = 1#1), 8 ∣ (k0_mult40 d0 arg14 v1153 v1168).toNat) ∧
  (∀ (k0_h46 : k0_cond46 d0 v1183 = 1#1), ∀ a, (k0_off59 d0 arg14 v1153 v1168) a + S8x128.size a ≤ S17408x128.size a) ∧
  (∀ (k0_h47 : k0_cond47 d0 v1183 = 1#1), 8 ∣ (k0_mult41 d0 v18 arg15 v1153 v1168).toNat) ∧
  (∀ (k0_h47 : k0_cond47 d0 v1183 = 1#1), ∀ a, (k0_off60 d0 v18 arg15 v1153 v1168) a + S8x128.size a ≤ S16384x128.size a)
theorem k0_mult40_dvd : ∀ (d0 : Dev nD) (v18 : BitVec 32) (arg14 : BitVec 32) (arg15 : BitVec 32) (v1153 : BitVec 32) (v1168 : BitVec 32) (v1183 : BitVec 32) (k0_hw19 : k0_chk19 d0 v18 arg14 arg15 v1153 v1168 v1183), ∀ (k0_h46 : k0_cond46 d0 v1183 = 1#1), 8 ∣ (k0_mult40 d0 arg14 v1153 v1168).toNat := fun d0 v18 arg14 arg15 v1153 v1168 v1183 k0_hw19 k0_h46 => k0_hw19.1 k0_h46
theorem k0_off59_inb : ∀ (d0 : Dev nD) (v18 : BitVec 32) (arg14 : BitVec 32) (arg15 : BitVec 32) (v1153 : BitVec 32) (v1168 : BitVec 32) (v1183 : BitVec 32) (k0_hw19 : k0_chk19 d0 v18 arg14 arg15 v1153 v1168 v1183), ∀ (k0_h46 : k0_cond46 d0 v1183 = 1#1), ∀ a, (k0_off59 d0 arg14 v1153 v1168) a + S8x128.size a ≤ S17408x128.size a := fun d0 v18 arg14 arg15 v1153 v1168 v1183 k0_hw19 k0_h46 => k0_hw19.2.1 k0_h46
theorem k0_mult41_dvd : ∀ (d0 : Dev nD) (v18 : BitVec 32) (arg14 : BitVec 32) (arg15 : BitVec 32) (v1153 : BitVec 32) (v1168 : BitVec 32) (v1183 : BitVec 32) (k0_hw19 : k0_chk19 d0 v18 arg14 arg15 v1153 v1168 v1183), ∀ (k0_h47 : k0_cond47 d0 v1183 = 1#1), 8 ∣ (k0_mult41 d0 v18 arg15 v1153 v1168).toNat := fun d0 v18 arg14 arg15 v1153 v1168 v1183 k0_hw19 k0_h47 => k0_hw19.2.2.1 k0_h47
theorem k0_off60_inb : ∀ (d0 : Dev nD) (v18 : BitVec 32) (arg14 : BitVec 32) (arg15 : BitVec 32) (v1153 : BitVec 32) (v1168 : BitVec 32) (v1183 : BitVec 32) (k0_hw19 : k0_chk19 d0 v18 arg14 arg15 v1153 v1168 v1183), ∀ (k0_h47 : k0_cond47 d0 v1183 = 1#1), ∀ a, (k0_off60 d0 v18 arg15 v1153 v1168) a + S8x128.size a ≤ S16384x128.size a := fun d0 v18 arg14 arg15 v1153 v1168 v1183 k0_hw19 k0_h47 => k0_hw19.2.2.2 k0_h47

def k0_off61 (k0_t3 : Fin k0_t3_loop.trips) : Fin 2 → Nat :=
  let c2_755 : Index := 2#32
  let c0_i32_48 : BitVec 32 := 0#32
  let c1_i32_50 : BitVec 32 := 1#32
  let arg13 : BitVec 32 := Scf.iv c0_i32_48 c1_i32_50 k0_t3
  let c8_i32_753 : BitVec 32 := 8#32
  let v1195 : BitVec 32 := Scalar.muli arg13 c8_i32_753
  let c3_i32_754 : BitVec 32 := 3#32
  let v1196 : BitVec 32 := Scalar.addi v1195 c3_i32_754
  let v1197 : Index := Scalar.indexCast v1196
  ![2, v1197.toNat]
def k0_mult42 (d0 : Dev nD) (arg14 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  v1269
def k0_cond48 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let v1200 : BitVec 32 := Scalar.extui v1199
  let c0_i32_756 : BitVec 32 := 0#32
  let v1201 : BitVec 1 := Scalar.cmpi .ne v1200 c0_i32_756
  v1201

def k0_off62 (d0 : Dev nD) (arg14 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  let v1270 : BitVec 32 := v1269
  let v1271 : Index := Scalar.indexCast v1270
  let c0_789 : Index := 0#32
  ![v1271.toNat, 0]
def k0_mult43 (d0 : Dev nD) (v18 : BitVec 32) (arg15 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  v1270
def k0_cond49 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let true_757 : BitVec 1 := 1#1
  let v1202 : BitVec 1 := Scalar.xori v1199 true_757
  let v1203 : BitVec 32 := Scalar.extui v1202
  let c0_i32_758 : BitVec 32 := 0#32
  let v1204 : BitVec 1 := Scalar.cmpi .ne v1203 c0_i32_758
  v1204

def k0_off63 (d0 : Dev nD) (v18 : BitVec 32) (arg15 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk20 (d0 : Dev nD) (v18 : BitVec 32) (arg14 : BitVec 32) (arg15 : BitVec 32) (v1153 : BitVec 32) (v1168 : BitVec 32) (v1183 : BitVec 32) (v1198 : BitVec 32) : Prop :=
  (∀ (k0_h48 : k0_cond48 d0 v1198 = 1#1), 8 ∣ (k0_mult42 d0 arg14 v1153 v1168 v1183).toNat) ∧
  (∀ (k0_h48 : k0_cond48 d0 v1198 = 1#1), ∀ a, (k0_off62 d0 arg14 v1153 v1168 v1183) a + S8x128.size a ≤ S17408x128.size a) ∧
  (∀ (k0_h49 : k0_cond49 d0 v1198 = 1#1), 8 ∣ (k0_mult43 d0 v18 arg15 v1153 v1168 v1183).toNat) ∧
  (∀ (k0_h49 : k0_cond49 d0 v1198 = 1#1), ∀ a, (k0_off63 d0 v18 arg15 v1153 v1168 v1183) a + S8x128.size a ≤ S16384x128.size a)
theorem k0_mult42_dvd : ∀ (d0 : Dev nD) (v18 : BitVec 32) (arg14 : BitVec 32) (arg15 : BitVec 32) (v1153 : BitVec 32) (v1168 : BitVec 32) (v1183 : BitVec 32) (v1198 : BitVec 32) (k0_hw20 : k0_chk20 d0 v18 arg14 arg15 v1153 v1168 v1183 v1198), ∀ (k0_h48 : k0_cond48 d0 v1198 = 1#1), 8 ∣ (k0_mult42 d0 arg14 v1153 v1168 v1183).toNat := fun d0 v18 arg14 arg15 v1153 v1168 v1183 v1198 k0_hw20 k0_h48 => k0_hw20.1 k0_h48
theorem k0_off62_inb : ∀ (d0 : Dev nD) (v18 : BitVec 32) (arg14 : BitVec 32) (arg15 : BitVec 32) (v1153 : BitVec 32) (v1168 : BitVec 32) (v1183 : BitVec 32) (v1198 : BitVec 32) (k0_hw20 : k0_chk20 d0 v18 arg14 arg15 v1153 v1168 v1183 v1198), ∀ (k0_h48 : k0_cond48 d0 v1198 = 1#1), ∀ a, (k0_off62 d0 arg14 v1153 v1168 v1183) a + S8x128.size a ≤ S17408x128.size a := fun d0 v18 arg14 arg15 v1153 v1168 v1183 v1198 k0_hw20 k0_h48 => k0_hw20.2.1 k0_h48
theorem k0_mult43_dvd : ∀ (d0 : Dev nD) (v18 : BitVec 32) (arg14 : BitVec 32) (arg15 : BitVec 32) (v1153 : BitVec 32) (v1168 : BitVec 32) (v1183 : BitVec 32) (v1198 : BitVec 32) (k0_hw20 : k0_chk20 d0 v18 arg14 arg15 v1153 v1168 v1183 v1198), ∀ (k0_h49 : k0_cond49 d0 v1198 = 1#1), 8 ∣ (k0_mult43 d0 v18 arg15 v1153 v1168 v1183).toNat := fun d0 v18 arg14 arg15 v1153 v1168 v1183 v1198 k0_hw20 k0_h49 => k0_hw20.2.2.1 k0_h49
theorem k0_off63_inb : ∀ (d0 : Dev nD) (v18 : BitVec 32) (arg14 : BitVec 32) (arg15 : BitVec 32) (v1153 : BitVec 32) (v1168 : BitVec 32) (v1183 : BitVec 32) (v1198 : BitVec 32) (k0_hw20 : k0_chk20 d0 v18 arg14 arg15 v1153 v1168 v1183 v1198), ∀ (k0_h49 : k0_cond49 d0 v1198 = 1#1), ∀ a, (k0_off63 d0 v18 arg15 v1153 v1168 v1183) a + S8x128.size a ≤ S16384x128.size a := fun d0 v18 arg14 arg15 v1153 v1168 v1183 v1198 k0_hw20 k0_h49 => k0_hw20.2.2.2 k0_h49

def k0_off64 (k0_t3 : Fin k0_t3_loop.trips) : Fin 2 → Nat :=
  let c2_762 : Index := 2#32
  let c0_i32_48 : BitVec 32 := 0#32
  let c1_i32_50 : BitVec 32 := 1#32
  let arg13 : BitVec 32 := Scf.iv c0_i32_48 c1_i32_50 k0_t3
  let c8_i32_760 : BitVec 32 := 8#32
  let v1210 : BitVec 32 := Scalar.muli arg13 c8_i32_760
  let c4_i32_761 : BitVec 32 := 4#32
  let v1211 : BitVec 32 := Scalar.addi v1210 c4_i32_761
  let v1212 : Index := Scalar.indexCast v1211
  ![2, v1212.toNat]
def k0_mult44 (d0 : Dev nD) (arg14 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  v1269
def k0_cond50 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let v1215 : BitVec 32 := Scalar.extui v1214
  let c0_i32_763 : BitVec 32 := 0#32
  let v1216 : BitVec 1 := Scalar.cmpi .ne v1215 c0_i32_763
  v1216

def k0_off65 (d0 : Dev nD) (arg14 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  let v1270 : BitVec 32 := v1269
  let v1271 : Index := Scalar.indexCast v1270
  let c0_789 : Index := 0#32
  ![v1271.toNat, 0]
def k0_mult45 (d0 : Dev nD) (v18 : BitVec 32) (arg15 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  v1270
def k0_cond51 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let true_764 : BitVec 1 := 1#1
  let v1217 : BitVec 1 := Scalar.xori v1214 true_764
  let v1218 : BitVec 32 := Scalar.extui v1217
  let c0_i32_765 : BitVec 32 := 0#32
  let v1219 : BitVec 1 := Scalar.cmpi .ne v1218 c0_i32_765
  v1219

def k0_off66 (d0 : Dev nD) (v18 : BitVec 32) (arg15 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk21 (d0 : Dev nD) (v18 : BitVec 32) (arg14 : BitVec 32) (arg15 : BitVec 32) (v1153 : BitVec 32) (v1168 : BitVec 32) (v1183 : BitVec 32) (v1198 : BitVec 32) (v1213 : BitVec 32) : Prop :=
  (∀ (k0_h50 : k0_cond50 d0 v1213 = 1#1), 8 ∣ (k0_mult44 d0 arg14 v1153 v1168 v1183 v1198).toNat) ∧
  (∀ (k0_h50 : k0_cond50 d0 v1213 = 1#1), ∀ a, (k0_off65 d0 arg14 v1153 v1168 v1183 v1198) a + S8x128.size a ≤ S17408x128.size a) ∧
  (∀ (k0_h51 : k0_cond51 d0 v1213 = 1#1), 8 ∣ (k0_mult45 d0 v18 arg15 v1153 v1168 v1183 v1198).toNat) ∧
  (∀ (k0_h51 : k0_cond51 d0 v1213 = 1#1), ∀ a, (k0_off66 d0 v18 arg15 v1153 v1168 v1183 v1198) a + S8x128.size a ≤ S16384x128.size a)
theorem k0_mult44_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw21 : k0_chk21 d0 v18 arg14 arg15 v1153 v1168 v1183 v1198 v1213), ∀ (k0_h50 : k0_cond50 d0 v1213 = 1#1), 8 ∣ (k0_mult44 d0 arg14 v1153 v1168 v1183 v1198).toNat := fun d0 v18 arg14 arg15 v1153 v1168 v1183 v1198 v1213 k0_hw21 k0_h50 => k0_hw21.1 k0_h50
theorem k0_off65_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw21 : k0_chk21 d0 v18 arg14 arg15 v1153 v1168 v1183 v1198 v1213), ∀ (k0_h50 : k0_cond50 d0 v1213 = 1#1), ∀ a, (k0_off65 d0 arg14 v1153 v1168 v1183 v1198) a + S8x128.size a ≤ S17408x128.size a := fun d0 v18 arg14 arg15 v1153 v1168 v1183 v1198 v1213 k0_hw21 k0_h50 => k0_hw21.2.1 k0_h50
theorem k0_mult45_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw21 : k0_chk21 d0 v18 arg14 arg15 v1153 v1168 v1183 v1198 v1213), ∀ (k0_h51 : k0_cond51 d0 v1213 = 1#1), 8 ∣ (k0_mult45 d0 v18 arg15 v1153 v1168 v1183 v1198).toNat := fun d0 v18 arg14 arg15 v1153 v1168 v1183 v1198 v1213 k0_hw21 k0_h51 => k0_hw21.2.2.1 k0_h51
theorem k0_off66_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw21 : k0_chk21 d0 v18 arg14 arg15 v1153 v1168 v1183 v1198 v1213), ∀ (k0_h51 : k0_cond51 d0 v1213 = 1#1), ∀ a, (k0_off66 d0 v18 arg15 v1153 v1168 v1183 v1198) a + S8x128.size a ≤ S16384x128.size a := fun d0 v18 arg14 arg15 v1153 v1168 v1183 v1198 v1213 k0_hw21 k0_h51 => k0_hw21.2.2.2 k0_h51

def k0_off67 (k0_t3 : Fin k0_t3_loop.trips) : Fin 2 → Nat :=
  let c2_769 : Index := 2#32
  let c0_i32_48 : BitVec 32 := 0#32
  let c1_i32_50 : BitVec 32 := 1#32
  let arg13 : BitVec 32 := Scf.iv c0_i32_48 c1_i32_50 k0_t3
  let c8_i32_767 : BitVec 32 := 8#32
  let v1225 : BitVec 32 := Scalar.muli arg13 c8_i32_767
  let c5_i32_768 : BitVec 32 := 5#32
  let v1226 : BitVec 32 := Scalar.addi v1225 c5_i32_768
  let v1227 : Index := Scalar.indexCast v1226
  ![2, v1227.toNat]
def k0_mult46 (d0 : Dev nD) (arg14 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  v1269
def k0_cond52 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let v1230 : BitVec 32 := Scalar.extui v1229
  let c0_i32_770 : BitVec 32 := 0#32
  let v1231 : BitVec 1 := Scalar.cmpi .ne v1230 c0_i32_770
  v1231

def k0_off68 (d0 : Dev nD) (arg14 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  let v1270 : BitVec 32 := v1269
  let v1271 : Index := Scalar.indexCast v1270
  let c0_789 : Index := 0#32
  ![v1271.toNat, 0]
def k0_mult47 (d0 : Dev nD) (v18 : BitVec 32) (arg15 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  v1270
def k0_cond53 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let true_771 : BitVec 1 := 1#1
  let v1232 : BitVec 1 := Scalar.xori v1229 true_771
  let v1233 : BitVec 32 := Scalar.extui v1232
  let c0_i32_772 : BitVec 32 := 0#32
  let v1234 : BitVec 1 := Scalar.cmpi .ne v1233 c0_i32_772
  v1234

def k0_off69 (d0 : Dev nD) (v18 : BitVec 32) (arg15 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk22 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) : Prop :=
  (∀ (k0_h52 : k0_cond52 d0 v1228 = 1#1), 8 ∣ (k0_mult46 d0 arg14 v1153 v1168 v1183 v1198 v1213).toNat) ∧
  (∀ (k0_h52 : k0_cond52 d0 v1228 = 1#1), ∀ a, (k0_off68 d0 arg14 v1153 v1168 v1183 v1198 v1213) a + S8x128.size a ≤ S17408x128.size a) ∧
  (∀ (k0_h53 : k0_cond53 d0 v1228 = 1#1), 8 ∣ (k0_mult47 d0 v18 arg15 v1153 v1168 v1183 v1198 v1213).toNat) ∧
  (∀ (k0_h53 : k0_cond53 d0 v1228 = 1#1), ∀ a, (k0_off69 d0 v18 arg15 v1153 v1168 v1183 v1198 v1213) a + S8x128.size a ≤ S16384x128.size a)
theorem k0_mult46_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw22 : k0_chk22 d0 v18 arg14 arg15 v1153 v1168 v1183 v1198 v1213 v1228), ∀ (k0_h52 : k0_cond52 d0 v1228 = 1#1), 8 ∣ (k0_mult46 d0 arg14 v1153 v1168 v1183 v1198 v1213).toNat := fun d0 v18 arg14 arg15 v1153 v1168 v1183 v1198 v1213 v1228 k0_hw22 k0_h52 => k0_hw22.1 k0_h52
theorem k0_off68_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw22 : k0_chk22 d0 v18 arg14 arg15 v1153 v1168 v1183 v1198 v1213 v1228), ∀ (k0_h52 : k0_cond52 d0 v1228 = 1#1), ∀ a, (k0_off68 d0 arg14 v1153 v1168 v1183 v1198 v1213) a + S8x128.size a ≤ S17408x128.size a := fun d0 v18 arg14 arg15 v1153 v1168 v1183 v1198 v1213 v1228 k0_hw22 k0_h52 => k0_hw22.2.1 k0_h52
theorem k0_mult47_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw22 : k0_chk22 d0 v18 arg14 arg15 v1153 v1168 v1183 v1198 v1213 v1228), ∀ (k0_h53 : k0_cond53 d0 v1228 = 1#1), 8 ∣ (k0_mult47 d0 v18 arg15 v1153 v1168 v1183 v1198 v1213).toNat := fun d0 v18 arg14 arg15 v1153 v1168 v1183 v1198 v1213 v1228 k0_hw22 k0_h53 => k0_hw22.2.2.1 k0_h53
theorem k0_off69_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw22 : k0_chk22 d0 v18 arg14 arg15 v1153 v1168 v1183 v1198 v1213 v1228), ∀ (k0_h53 : k0_cond53 d0 v1228 = 1#1), ∀ a, (k0_off69 d0 v18 arg15 v1153 v1168 v1183 v1198 v1213) a + S8x128.size a ≤ S16384x128.size a := fun d0 v18 arg14 arg15 v1153 v1168 v1183 v1198 v1213 v1228 k0_hw22 k0_h53 => k0_hw22.2.2.2 k0_h53

def k0_off70 (k0_t3 : Fin k0_t3_loop.trips) : Fin 2 → Nat :=
  let c2_776 : Index := 2#32
  let c0_i32_48 : BitVec 32 := 0#32
  let c1_i32_50 : BitVec 32 := 1#32
  let arg13 : BitVec 32 := Scf.iv c0_i32_48 c1_i32_50 k0_t3
  let c8_i32_774 : BitVec 32 := 8#32
  let v1240 : BitVec 32 := Scalar.muli arg13 c8_i32_774
  let c6_i32_775 : BitVec 32 := 6#32
  let v1241 : BitVec 32 := Scalar.addi v1240 c6_i32_775
  let v1242 : Index := Scalar.indexCast v1241
  ![2, v1242.toNat]
def k0_mult48 (d0 : Dev nD) (arg14 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  v1269
def k0_cond54 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let v1245 : BitVec 32 := Scalar.extui v1244
  let c0_i32_777 : BitVec 32 := 0#32
  let v1246 : BitVec 1 := Scalar.cmpi .ne v1245 c0_i32_777
  v1246

def k0_off71 (d0 : Dev nD) (arg14 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  let v1270 : BitVec 32 := v1269
  let v1271 : Index := Scalar.indexCast v1270
  let c0_789 : Index := 0#32
  ![v1271.toNat, 0]
def k0_mult49 (d0 : Dev nD) (v18 : BitVec 32) (arg15 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  v1270
def k0_cond55 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let true_778 : BitVec 1 := 1#1
  let v1247 : BitVec 1 := Scalar.xori v1244 true_778
  let v1248 : BitVec 32 := Scalar.extui v1247
  let c0_i32_779 : BitVec 32 := 0#32
  let v1249 : BitVec 1 := Scalar.cmpi .ne v1248 c0_i32_779
  v1249

def k0_off72 (d0 : Dev nD) (v18 : BitVec 32) (arg15 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk23 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) : Prop :=
  (∀ (k0_h54 : k0_cond54 d0 v1243 = 1#1), 8 ∣ (k0_mult48 d0 arg14 v1153 v1168 v1183 v1198 v1213 v1228).toNat) ∧
  (∀ (k0_h54 : k0_cond54 d0 v1243 = 1#1), ∀ a, (k0_off71 d0 arg14 v1153 v1168 v1183 v1198 v1213 v1228) a + S8x128.size a ≤ S17408x128.size a) ∧
  (∀ (k0_h55 : k0_cond55 d0 v1243 = 1#1), 8 ∣ (k0_mult49 d0 v18 arg15 v1153 v1168 v1183 v1198 v1213 v1228).toNat) ∧
  (∀ (k0_h55 : k0_cond55 d0 v1243 = 1#1), ∀ a, (k0_off72 d0 v18 arg15 v1153 v1168 v1183 v1198 v1213 v1228) a + S8x128.size a ≤ S16384x128.size a)
theorem k0_mult48_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw23 : k0_chk23 d0 v18 arg14 arg15 v1153 v1168 v1183 v1198 v1213 v1228 v1243), ∀ (k0_h54 : k0_cond54 d0 v1243 = 1#1), 8 ∣ (k0_mult48 d0 arg14 v1153 v1168 v1183 v1198 v1213 v1228).toNat := fun d0 v18 arg14 arg15 v1153 v1168 v1183 v1198 v1213 v1228 v1243 k0_hw23 k0_h54 => k0_hw23.1 k0_h54
theorem k0_off71_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw23 : k0_chk23 d0 v18 arg14 arg15 v1153 v1168 v1183 v1198 v1213 v1228 v1243), ∀ (k0_h54 : k0_cond54 d0 v1243 = 1#1), ∀ a, (k0_off71 d0 arg14 v1153 v1168 v1183 v1198 v1213 v1228) a + S8x128.size a ≤ S17408x128.size a := fun d0 v18 arg14 arg15 v1153 v1168 v1183 v1198 v1213 v1228 v1243 k0_hw23 k0_h54 => k0_hw23.2.1 k0_h54
theorem k0_mult49_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw23 : k0_chk23 d0 v18 arg14 arg15 v1153 v1168 v1183 v1198 v1213 v1228 v1243), ∀ (k0_h55 : k0_cond55 d0 v1243 = 1#1), 8 ∣ (k0_mult49 d0 v18 arg15 v1153 v1168 v1183 v1198 v1213 v1228).toNat := fun d0 v18 arg14 arg15 v1153 v1168 v1183 v1198 v1213 v1228 v1243 k0_hw23 k0_h55 => k0_hw23.2.2.1 k0_h55
theorem k0_off72_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw23 : k0_chk23 d0 v18 arg14 arg15 v1153 v1168 v1183 v1198 v1213 v1228 v1243), ∀ (k0_h55 : k0_cond55 d0 v1243 = 1#1), ∀ a, (k0_off72 d0 v18 arg15 v1153 v1168 v1183 v1198 v1213 v1228) a + S8x128.size a ≤ S16384x128.size a := fun d0 v18 arg14 arg15 v1153 v1168 v1183 v1198 v1213 v1228 v1243 k0_hw23 k0_h55 => k0_hw23.2.2.2 k0_h55

def k0_off73 (k0_t3 : Fin k0_t3_loop.trips) : Fin 2 → Nat :=
  let c2_783 : Index := 2#32
  let c0_i32_48 : BitVec 32 := 0#32
  let c1_i32_50 : BitVec 32 := 1#32
  let arg13 : BitVec 32 := Scf.iv c0_i32_48 c1_i32_50 k0_t3
  let c8_i32_781 : BitVec 32 := 8#32
  let v1255 : BitVec 32 := Scalar.muli arg13 c8_i32_781
  let c7_i32_782 : BitVec 32 := 7#32
  let v1256 : BitVec 32 := Scalar.addi v1255 c7_i32_782
  let v1257 : Index := Scalar.indexCast v1256
  ![2, v1257.toNat]
def k0_mult50 (d0 : Dev nD) (arg14 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  v1269
def k0_cond56 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let v1260 : BitVec 32 := Scalar.extui v1259
  let c0_i32_784 : BitVec 32 := 0#32
  let v1261 : BitVec 1 := Scalar.cmpi .ne v1260 c0_i32_784
  v1261

def k0_off74 (d0 : Dev nD) (arg14 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  let v1270 : BitVec 32 := v1269
  let v1271 : Index := Scalar.indexCast v1270
  let c0_789 : Index := 0#32
  ![v1271.toNat, 0]
def k0_mult51 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  v1270
def k0_cond57 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let true_785 : BitVec 1 := 1#1
  let v1262 : BitVec 1 := Scalar.xori v1259 true_785
  let v1263 : BitVec 32 := Scalar.extui v1262
  let c0_i32_786 : BitVec 32 := 0#32
  let v1264 : BitVec 1 := Scalar.cmpi .ne v1263 c0_i32_786
  v1264

def k0_off75 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk24 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) : Prop :=
  (∀ (k0_h56 : k0_cond56 d0 v1258 = 1#1), 8 ∣ (k0_mult50 d0 arg14 v1153 v1168 v1183 v1198 v1213 v1228 v1243).toNat) ∧
  (∀ (k0_h56 : k0_cond56 d0 v1258 = 1#1), ∀ a, (k0_off74 d0 arg14 v1153 v1168 v1183 v1198 v1213 v1228 v1243) a + S8x128.size a ≤ S17408x128.size a) ∧
  (∀ (k0_h57 : k0_cond57 d0 v1258 = 1#1), 8 ∣ (k0_mult51 d0 v18 arg15 v1153 v1168 v1183 v1198 v1213 v1228 v1243).toNat) ∧
  (∀ (k0_h57 : k0_cond57 d0 v1258 = 1#1), ∀ a, (k0_off75 d0 v18 arg15 v1153 v1168 v1183 v1198 v1213 v1228 v1243) a + S8x128.size a ≤ S16384x128.size a)
theorem k0_mult50_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw24 : k0_chk24 d0 v18 arg14 arg15 v1153 v1168 v1183 v1198 v1213 v1228 v1243 v1258), ∀ (k0_h56 : k0_cond56 d0 v1258 = 1#1), 8 ∣ (k0_mult50 d0 arg14 v1153 v1168 v1183 v1198 v1213 v1228 v1243).toNat := fun d0 v18 arg14 arg15 v1153 v1168 v1183 v1198 v1213 v1228 v1243 v1258 k0_hw24 k0_h56 => k0_hw24.1 k0_h56
theorem k0_off74_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw24 : k0_chk24 d0 v18 arg14 arg15 v1153 v1168 v1183 v1198 v1213 v1228 v1243 v1258), ∀ (k0_h56 : k0_cond56 d0 v1258 = 1#1), ∀ a, (k0_off74 d0 arg14 v1153 v1168 v1183 v1198 v1213 v1228 v1243) a + S8x128.size a ≤ S17408x128.size a := fun d0 v18 arg14 arg15 v1153 v1168 v1183 v1198 v1213 v1228 v1243 v1258 k0_hw24 k0_h56 => k0_hw24.2.1 k0_h56
theorem k0_mult51_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw24 : k0_chk24 d0 v18 arg14 arg15 v1153 v1168 v1183 v1198 v1213 v1228 v1243 v1258), ∀ (k0_h57 : k0_cond57 d0 v1258 = 1#1), 8 ∣ (k0_mult51 d0 v18 arg15 v1153 v1168 v1183 v1198 v1213 v1228 v1243).toNat := fun d0 v18 arg14 arg15 v1153 v1168 v1183 v1198 v1213 v1228 v1243 v1258 k0_hw24 k0_h57 => k0_hw24.2.2.1 k0_h57
theorem k0_off75_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw24 : k0_chk24 d0 v18 arg14 arg15 v1153 v1168 v1183 v1198 v1213 v1228 v1243 v1258), ∀ (k0_h57 : k0_cond57 d0 v1258 = 1#1), ∀ a, (k0_off75 d0 v18 arg15 v1153 v1168 v1183 v1198 v1213 v1228 v1243) a + S8x128.size a ≤ S16384x128.size a := fun d0 v18 arg14 arg15 v1153 v1168 v1183 v1198 v1213 v1228 v1243 v1258 k0_hw24 k0_h57 => k0_hw24.2.2.2 k0_h57

def k0_dev11 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1147 : BitVec 32 := Scalar.muli v9 c16_i32_736
  let v1148 : BitVec 32 := Scalar.addi c0_i32_737 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1149 : BitVec 32 := Scalar.muli v5 c4_i32_738
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1151 : BitVec 32 := Scalar.muli v8 c1_i32_739
  let v1152 : BitVec 32 := Scalar.addi v1150 v1151
  v1152.toNat
def k0_dev12 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev13 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev14 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev15 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev16 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
@[reducible] def k0_t4_loop : Scf.Loop 32 :=
  let c0_i32_69 : BitVec 32 := 0#32
  let c16_i32_70 : BitVec 32 := 16#32
  let v117 : BitVec 32 := Scalar.addi c0_i32_69 c16_i32_70
  let c1_i32_71 : BitVec 32 := 1#32
  ⟨c0_i32_69, v117, c1_i32_71⟩
def k0_mult52 (k0_t4 : Fin k0_t4_loop.trips) : BitVec 32 :=
  let c384_i32_731 : BitVec 32 := 384#32
  let c0_i32_69 : BitVec 32 := 0#32
  let c1_i32_71 : BitVec 32 := 1#32
  let arg13 : BitVec 32 := Scf.iv c0_i32_69 c1_i32_71 k0_t4
  let c8_i32_730 : BitVec 32 := 8#32
  let v1142 : BitVec 32 := Scalar.muli arg13 c8_i32_730
  let v1143 : BitVec 32 := Scalar.addi c384_i32_731 v1142
  v1143
def k0_off76 (k0_t4 : Fin k0_t4_loop.trips) : Fin 2 → Nat :=
  let c384_i32_731 : BitVec 32 := 384#32
  let c0_i32_69 : BitVec 32 := 0#32
  let c1_i32_71 : BitVec 32 := 1#32
  let arg13 : BitVec 32 := Scf.iv c0_i32_69 c1_i32_71 k0_t4
  let c8_i32_730 : BitVec 32 := 8#32
  let v1142 : BitVec 32 := Scalar.muli arg13 c8_i32_730
  let v1143 : BitVec 32 := Scalar.addi c384_i32_731 v1142
  let v1144 : BitVec 32 := v1143
  let v1145 : Index := Scalar.indexCast v1144
  let c0_732 : Index := 0#32
  ![v1145.toNat, 0]
def k0_off77 (k0_t4 : Fin k0_t4_loop.trips) : Fin 2 → Nat :=
  let c3 : Index := 3#32
  let c0_i32_69 : BitVec 32 := 0#32
  let c1_i32_71 : BitVec 32 := 1#32
  let arg13 : BitVec 32 := Scf.iv c0_i32_69 c1_i32_71 k0_t4
  let c8_i32_733 : BitVec 32 := 8#32
  let v1150 : BitVec 32 := Scalar.muli arg13 c8_i32_733
  let c0_i32_734 : BitVec 32 := 0#32
  let v1151 : BitVec 32 := Scalar.addi v1150 c0_i32_734
  let v1152 : Index := Scalar.indexCast v1151
  ![3, v1152.toNat]
def k0_mult53 (arg14 : BitVec 32) : BitVec 32 :=
  let c8_i32_788 : BitVec 32 := 8#32
  let v1269 : BitVec 32 := Scalar.muli arg14 c8_i32_788
  v1269
def k0_cond64 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1155 : BitVec 32 := Scalar.extui v1154
  let c0_i32_735 : BitVec 32 := 0#32
  let v1156 : BitVec 1 := Scalar.cmpi .ne v1155 c0_i32_735
  v1156

def k0_off78 (arg14 : BitVec 32) : Fin 2 → Nat :=
  let c8_i32_788 : BitVec 32 := 8#32
  let v1269 : BitVec 32 := Scalar.muli arg14 c8_i32_788
  let v1270 : BitVec 32 := v1269
  let v1271 : Index := Scalar.indexCast v1270
  let c0_789 : Index := 0#32
  ![v1271.toNat, 0]
def k0_mult54 (d0 : Dev nD) (v18 : BitVec 32) (arg15 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  v1270
def k0_cond65 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let true_736 : BitVec 1 := 1#1
  let v1157 : BitVec 1 := Scalar.xori v1154 true_736
  let v1158 : BitVec 32 := Scalar.extui v1157
  let c0_i32_737 : BitVec 32 := 0#32
  let v1159 : BitVec 1 := Scalar.cmpi .ne v1158 c0_i32_737
  v1159

def k0_off79 (d0 : Dev nD) (v18 : BitVec 32) (arg15 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk25 (d0 : Dev nD) (v18 : BitVec 32) (arg14 : BitVec 32) (arg15 : BitVec 32) (v1153 : BitVec 32) : Prop :=
  (∀ (k0_h64 : k0_cond64 d0 v1153 = 1#1), 8 ∣ (k0_mult53 arg14).toNat) ∧
  (∀ (k0_h64 : k0_cond64 d0 v1153 = 1#1), ∀ a, (k0_off78 arg14) a + S8x128.size a ≤ S17408x128.size a) ∧
  (∀ (k0_h65 : k0_cond65 d0 v1153 = 1#1), 8 ∣ (k0_mult54 d0 v18 arg15).toNat) ∧
  (∀ (k0_h65 : k0_cond65 d0 v1153 = 1#1), ∀ a, (k0_off79 d0 v18 arg15) a + S8x128.size a ≤ S16384x128.size a)
theorem k0_mult53_dvd : ∀ (d0 : Dev nD) (v18 : BitVec 32) (arg14 : BitVec 32) (arg15 : BitVec 32) (v1153 : BitVec 32) (k0_hw25 : k0_chk25 d0 v18 arg14 arg15 v1153), ∀ (k0_h64 : k0_cond64 d0 v1153 = 1#1), 8 ∣ (k0_mult53 arg14).toNat := fun d0 v18 arg14 arg15 v1153 k0_hw25 k0_h64 => k0_hw25.1 k0_h64
theorem k0_off78_inb : ∀ (d0 : Dev nD) (v18 : BitVec 32) (arg14 : BitVec 32) (arg15 : BitVec 32) (v1153 : BitVec 32) (k0_hw25 : k0_chk25 d0 v18 arg14 arg15 v1153), ∀ (k0_h64 : k0_cond64 d0 v1153 = 1#1), ∀ a, (k0_off78 arg14) a + S8x128.size a ≤ S17408x128.size a := fun d0 v18 arg14 arg15 v1153 k0_hw25 k0_h64 => k0_hw25.2.1 k0_h64
theorem k0_mult54_dvd : ∀ (d0 : Dev nD) (v18 : BitVec 32) (arg14 : BitVec 32) (arg15 : BitVec 32) (v1153 : BitVec 32) (k0_hw25 : k0_chk25 d0 v18 arg14 arg15 v1153), ∀ (k0_h65 : k0_cond65 d0 v1153 = 1#1), 8 ∣ (k0_mult54 d0 v18 arg15).toNat := fun d0 v18 arg14 arg15 v1153 k0_hw25 k0_h65 => k0_hw25.2.2.1 k0_h65
theorem k0_off79_inb : ∀ (d0 : Dev nD) (v18 : BitVec 32) (arg14 : BitVec 32) (arg15 : BitVec 32) (v1153 : BitVec 32) (k0_hw25 : k0_chk25 d0 v18 arg14 arg15 v1153), ∀ (k0_h65 : k0_cond65 d0 v1153 = 1#1), ∀ a, (k0_off79 d0 v18 arg15) a + S8x128.size a ≤ S16384x128.size a := fun d0 v18 arg14 arg15 v1153 k0_hw25 k0_h65 => k0_hw25.2.2.2 k0_h65

def k0_off80 (k0_t4 : Fin k0_t4_loop.trips) : Fin 2 → Nat :=
  let c3_741 : Index := 3#32
  let c0_i32_69 : BitVec 32 := 0#32
  let c1_i32_71 : BitVec 32 := 1#32
  let arg13 : BitVec 32 := Scf.iv c0_i32_69 c1_i32_71 k0_t4
  let c8_i32_739 : BitVec 32 := 8#32
  let v1165 : BitVec 32 := Scalar.muli arg13 c8_i32_739
  let c1_i32_740 : BitVec 32 := 1#32
  let v1166 : BitVec 32 := Scalar.addi v1165 c1_i32_740
  let v1167 : Index := Scalar.indexCast v1166
  ![3, v1167.toNat]
def k0_mult55 (d0 : Dev nD) (arg14 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  v1269
def k0_cond66 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let v1170 : BitVec 32 := Scalar.extui v1169
  let c0_i32_742 : BitVec 32 := 0#32
  let v1171 : BitVec 1 := Scalar.cmpi .ne v1170 c0_i32_742
  v1171

def k0_off81 (d0 : Dev nD) (arg14 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  let v1270 : BitVec 32 := v1269
  let v1271 : Index := Scalar.indexCast v1270
  let c0_789 : Index := 0#32
  ![v1271.toNat, 0]
def k0_mult56 (d0 : Dev nD) (v18 : BitVec 32) (arg15 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  v1270
def k0_cond67 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let true_743 : BitVec 1 := 1#1
  let v1172 : BitVec 1 := Scalar.xori v1169 true_743
  let v1173 : BitVec 32 := Scalar.extui v1172
  let c0_i32_744 : BitVec 32 := 0#32
  let v1174 : BitVec 1 := Scalar.cmpi .ne v1173 c0_i32_744
  v1174

def k0_off82 (d0 : Dev nD) (v18 : BitVec 32) (arg15 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk26 (d0 : Dev nD) (v18 : BitVec 32) (arg14 : BitVec 32) (arg15 : BitVec 32) (v1153 : BitVec 32) (v1168 : BitVec 32) : Prop :=
  (∀ (k0_h66 : k0_cond66 d0 v1168 = 1#1), 8 ∣ (k0_mult55 d0 arg14 v1153).toNat) ∧
  (∀ (k0_h66 : k0_cond66 d0 v1168 = 1#1), ∀ a, (k0_off81 d0 arg14 v1153) a + S8x128.size a ≤ S17408x128.size a) ∧
  (∀ (k0_h67 : k0_cond67 d0 v1168 = 1#1), 8 ∣ (k0_mult56 d0 v18 arg15 v1153).toNat) ∧
  (∀ (k0_h67 : k0_cond67 d0 v1168 = 1#1), ∀ a, (k0_off82 d0 v18 arg15 v1153) a + S8x128.size a ≤ S16384x128.size a)
theorem k0_mult55_dvd : ∀ (d0 : Dev nD) (v18 : BitVec 32) (arg14 : BitVec 32) (arg15 : BitVec 32) (v1153 : BitVec 32) (v1168 : BitVec 32) (k0_hw26 : k0_chk26 d0 v18 arg14 arg15 v1153 v1168), ∀ (k0_h66 : k0_cond66 d0 v1168 = 1#1), 8 ∣ (k0_mult55 d0 arg14 v1153).toNat := fun d0 v18 arg14 arg15 v1153 v1168 k0_hw26 k0_h66 => k0_hw26.1 k0_h66
theorem k0_off81_inb : ∀ (d0 : Dev nD) (v18 : BitVec 32) (arg14 : BitVec 32) (arg15 : BitVec 32) (v1153 : BitVec 32) (v1168 : BitVec 32) (k0_hw26 : k0_chk26 d0 v18 arg14 arg15 v1153 v1168), ∀ (k0_h66 : k0_cond66 d0 v1168 = 1#1), ∀ a, (k0_off81 d0 arg14 v1153) a + S8x128.size a ≤ S17408x128.size a := fun d0 v18 arg14 arg15 v1153 v1168 k0_hw26 k0_h66 => k0_hw26.2.1 k0_h66
theorem k0_mult56_dvd : ∀ (d0 : Dev nD) (v18 : BitVec 32) (arg14 : BitVec 32) (arg15 : BitVec 32) (v1153 : BitVec 32) (v1168 : BitVec 32) (k0_hw26 : k0_chk26 d0 v18 arg14 arg15 v1153 v1168), ∀ (k0_h67 : k0_cond67 d0 v1168 = 1#1), 8 ∣ (k0_mult56 d0 v18 arg15 v1153).toNat := fun d0 v18 arg14 arg15 v1153 v1168 k0_hw26 k0_h67 => k0_hw26.2.2.1 k0_h67
theorem k0_off82_inb : ∀ (d0 : Dev nD) (v18 : BitVec 32) (arg14 : BitVec 32) (arg15 : BitVec 32) (v1153 : BitVec 32) (v1168 : BitVec 32) (k0_hw26 : k0_chk26 d0 v18 arg14 arg15 v1153 v1168), ∀ (k0_h67 : k0_cond67 d0 v1168 = 1#1), ∀ a, (k0_off82 d0 v18 arg15 v1153) a + S8x128.size a ≤ S16384x128.size a := fun d0 v18 arg14 arg15 v1153 v1168 k0_hw26 k0_h67 => k0_hw26.2.2.2 k0_h67

def k0_off83 (k0_t4 : Fin k0_t4_loop.trips) : Fin 2 → Nat :=
  let c3_748 : Index := 3#32
  let c0_i32_69 : BitVec 32 := 0#32
  let c1_i32_71 : BitVec 32 := 1#32
  let arg13 : BitVec 32 := Scf.iv c0_i32_69 c1_i32_71 k0_t4
  let c8_i32_746 : BitVec 32 := 8#32
  let v1180 : BitVec 32 := Scalar.muli arg13 c8_i32_746
  let c2_i32_747 : BitVec 32 := 2#32
  let v1181 : BitVec 32 := Scalar.addi v1180 c2_i32_747
  let v1182 : Index := Scalar.indexCast v1181
  ![3, v1182.toNat]
def k0_mult57 (d0 : Dev nD) (arg14 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  v1269
def k0_cond68 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let v1185 : BitVec 32 := Scalar.extui v1184
  let c0_i32_749 : BitVec 32 := 0#32
  let v1186 : BitVec 1 := Scalar.cmpi .ne v1185 c0_i32_749
  v1186

def k0_off84 (d0 : Dev nD) (arg14 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  let v1270 : BitVec 32 := v1269
  let v1271 : Index := Scalar.indexCast v1270
  let c0_789 : Index := 0#32
  ![v1271.toNat, 0]
def k0_mult58 (d0 : Dev nD) (v18 : BitVec 32) (arg15 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  v1270
def k0_cond69 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let true_750 : BitVec 1 := 1#1
  let v1187 : BitVec 1 := Scalar.xori v1184 true_750
  let v1188 : BitVec 32 := Scalar.extui v1187
  let c0_i32_751 : BitVec 32 := 0#32
  let v1189 : BitVec 1 := Scalar.cmpi .ne v1188 c0_i32_751
  v1189

def k0_off85 (d0 : Dev nD) (v18 : BitVec 32) (arg15 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk27 (d0 : Dev nD) (v18 : BitVec 32) (arg14 : BitVec 32) (arg15 : BitVec 32) (v1153 : BitVec 32) (v1168 : BitVec 32) (v1183 : BitVec 32) : Prop :=
  (∀ (k0_h68 : k0_cond68 d0 v1183 = 1#1), 8 ∣ (k0_mult57 d0 arg14 v1153 v1168).toNat) ∧
  (∀ (k0_h68 : k0_cond68 d0 v1183 = 1#1), ∀ a, (k0_off84 d0 arg14 v1153 v1168) a + S8x128.size a ≤ S17408x128.size a) ∧
  (∀ (k0_h69 : k0_cond69 d0 v1183 = 1#1), 8 ∣ (k0_mult58 d0 v18 arg15 v1153 v1168).toNat) ∧
  (∀ (k0_h69 : k0_cond69 d0 v1183 = 1#1), ∀ a, (k0_off85 d0 v18 arg15 v1153 v1168) a + S8x128.size a ≤ S16384x128.size a)
theorem k0_mult57_dvd : ∀ (d0 : Dev nD) (v18 : BitVec 32) (arg14 : BitVec 32) (arg15 : BitVec 32) (v1153 : BitVec 32) (v1168 : BitVec 32) (v1183 : BitVec 32) (k0_hw27 : k0_chk27 d0 v18 arg14 arg15 v1153 v1168 v1183), ∀ (k0_h68 : k0_cond68 d0 v1183 = 1#1), 8 ∣ (k0_mult57 d0 arg14 v1153 v1168).toNat := fun d0 v18 arg14 arg15 v1153 v1168 v1183 k0_hw27 k0_h68 => k0_hw27.1 k0_h68
theorem k0_off84_inb : ∀ (d0 : Dev nD) (v18 : BitVec 32) (arg14 : BitVec 32) (arg15 : BitVec 32) (v1153 : BitVec 32) (v1168 : BitVec 32) (v1183 : BitVec 32) (k0_hw27 : k0_chk27 d0 v18 arg14 arg15 v1153 v1168 v1183), ∀ (k0_h68 : k0_cond68 d0 v1183 = 1#1), ∀ a, (k0_off84 d0 arg14 v1153 v1168) a + S8x128.size a ≤ S17408x128.size a := fun d0 v18 arg14 arg15 v1153 v1168 v1183 k0_hw27 k0_h68 => k0_hw27.2.1 k0_h68
theorem k0_mult58_dvd : ∀ (d0 : Dev nD) (v18 : BitVec 32) (arg14 : BitVec 32) (arg15 : BitVec 32) (v1153 : BitVec 32) (v1168 : BitVec 32) (v1183 : BitVec 32) (k0_hw27 : k0_chk27 d0 v18 arg14 arg15 v1153 v1168 v1183), ∀ (k0_h69 : k0_cond69 d0 v1183 = 1#1), 8 ∣ (k0_mult58 d0 v18 arg15 v1153 v1168).toNat := fun d0 v18 arg14 arg15 v1153 v1168 v1183 k0_hw27 k0_h69 => k0_hw27.2.2.1 k0_h69
theorem k0_off85_inb : ∀ (d0 : Dev nD) (v18 : BitVec 32) (arg14 : BitVec 32) (arg15 : BitVec 32) (v1153 : BitVec 32) (v1168 : BitVec 32) (v1183 : BitVec 32) (k0_hw27 : k0_chk27 d0 v18 arg14 arg15 v1153 v1168 v1183), ∀ (k0_h69 : k0_cond69 d0 v1183 = 1#1), ∀ a, (k0_off85 d0 v18 arg15 v1153 v1168) a + S8x128.size a ≤ S16384x128.size a := fun d0 v18 arg14 arg15 v1153 v1168 v1183 k0_hw27 k0_h69 => k0_hw27.2.2.2 k0_h69

def k0_off86 (k0_t4 : Fin k0_t4_loop.trips) : Fin 2 → Nat :=
  let c3_755 : Index := 3#32
  let c0_i32_69 : BitVec 32 := 0#32
  let c1_i32_71 : BitVec 32 := 1#32
  let arg13 : BitVec 32 := Scf.iv c0_i32_69 c1_i32_71 k0_t4
  let c8_i32_753 : BitVec 32 := 8#32
  let v1195 : BitVec 32 := Scalar.muli arg13 c8_i32_753
  let c3_i32_754 : BitVec 32 := 3#32
  let v1196 : BitVec 32 := Scalar.addi v1195 c3_i32_754
  let v1197 : Index := Scalar.indexCast v1196
  ![3, v1197.toNat]
def k0_mult59 (d0 : Dev nD) (arg14 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  v1269
def k0_cond70 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let v1200 : BitVec 32 := Scalar.extui v1199
  let c0_i32_756 : BitVec 32 := 0#32
  let v1201 : BitVec 1 := Scalar.cmpi .ne v1200 c0_i32_756
  v1201

def k0_off87 (d0 : Dev nD) (arg14 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  let v1270 : BitVec 32 := v1269
  let v1271 : Index := Scalar.indexCast v1270
  let c0_789 : Index := 0#32
  ![v1271.toNat, 0]
def k0_mult60 (d0 : Dev nD) (v18 : BitVec 32) (arg15 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  v1270
def k0_cond71 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let true_757 : BitVec 1 := 1#1
  let v1202 : BitVec 1 := Scalar.xori v1199 true_757
  let v1203 : BitVec 32 := Scalar.extui v1202
  let c0_i32_758 : BitVec 32 := 0#32
  let v1204 : BitVec 1 := Scalar.cmpi .ne v1203 c0_i32_758
  v1204

def k0_off88 (d0 : Dev nD) (v18 : BitVec 32) (arg15 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk28 (d0 : Dev nD) (v18 : BitVec 32) (arg14 : BitVec 32) (arg15 : BitVec 32) (v1153 : BitVec 32) (v1168 : BitVec 32) (v1183 : BitVec 32) (v1198 : BitVec 32) : Prop :=
  (∀ (k0_h70 : k0_cond70 d0 v1198 = 1#1), 8 ∣ (k0_mult59 d0 arg14 v1153 v1168 v1183).toNat) ∧
  (∀ (k0_h70 : k0_cond70 d0 v1198 = 1#1), ∀ a, (k0_off87 d0 arg14 v1153 v1168 v1183) a + S8x128.size a ≤ S17408x128.size a) ∧
  (∀ (k0_h71 : k0_cond71 d0 v1198 = 1#1), 8 ∣ (k0_mult60 d0 v18 arg15 v1153 v1168 v1183).toNat) ∧
  (∀ (k0_h71 : k0_cond71 d0 v1198 = 1#1), ∀ a, (k0_off88 d0 v18 arg15 v1153 v1168 v1183) a + S8x128.size a ≤ S16384x128.size a)
theorem k0_mult59_dvd : ∀ (d0 : Dev nD) (v18 : BitVec 32) (arg14 : BitVec 32) (arg15 : BitVec 32) (v1153 : BitVec 32) (v1168 : BitVec 32) (v1183 : BitVec 32) (v1198 : BitVec 32) (k0_hw28 : k0_chk28 d0 v18 arg14 arg15 v1153 v1168 v1183 v1198), ∀ (k0_h70 : k0_cond70 d0 v1198 = 1#1), 8 ∣ (k0_mult59 d0 arg14 v1153 v1168 v1183).toNat := fun d0 v18 arg14 arg15 v1153 v1168 v1183 v1198 k0_hw28 k0_h70 => k0_hw28.1 k0_h70
theorem k0_off87_inb : ∀ (d0 : Dev nD) (v18 : BitVec 32) (arg14 : BitVec 32) (arg15 : BitVec 32) (v1153 : BitVec 32) (v1168 : BitVec 32) (v1183 : BitVec 32) (v1198 : BitVec 32) (k0_hw28 : k0_chk28 d0 v18 arg14 arg15 v1153 v1168 v1183 v1198), ∀ (k0_h70 : k0_cond70 d0 v1198 = 1#1), ∀ a, (k0_off87 d0 arg14 v1153 v1168 v1183) a + S8x128.size a ≤ S17408x128.size a := fun d0 v18 arg14 arg15 v1153 v1168 v1183 v1198 k0_hw28 k0_h70 => k0_hw28.2.1 k0_h70
theorem k0_mult60_dvd : ∀ (d0 : Dev nD) (v18 : BitVec 32) (arg14 : BitVec 32) (arg15 : BitVec 32) (v1153 : BitVec 32) (v1168 : BitVec 32) (v1183 : BitVec 32) (v1198 : BitVec 32) (k0_hw28 : k0_chk28 d0 v18 arg14 arg15 v1153 v1168 v1183 v1198), ∀ (k0_h71 : k0_cond71 d0 v1198 = 1#1), 8 ∣ (k0_mult60 d0 v18 arg15 v1153 v1168 v1183).toNat := fun d0 v18 arg14 arg15 v1153 v1168 v1183 v1198 k0_hw28 k0_h71 => k0_hw28.2.2.1 k0_h71
theorem k0_off88_inb : ∀ (d0 : Dev nD) (v18 : BitVec 32) (arg14 : BitVec 32) (arg15 : BitVec 32) (v1153 : BitVec 32) (v1168 : BitVec 32) (v1183 : BitVec 32) (v1198 : BitVec 32) (k0_hw28 : k0_chk28 d0 v18 arg14 arg15 v1153 v1168 v1183 v1198), ∀ (k0_h71 : k0_cond71 d0 v1198 = 1#1), ∀ a, (k0_off88 d0 v18 arg15 v1153 v1168 v1183) a + S8x128.size a ≤ S16384x128.size a := fun d0 v18 arg14 arg15 v1153 v1168 v1183 v1198 k0_hw28 k0_h71 => k0_hw28.2.2.2 k0_h71

def k0_off89 (k0_t4 : Fin k0_t4_loop.trips) : Fin 2 → Nat :=
  let c3_762 : Index := 3#32
  let c0_i32_69 : BitVec 32 := 0#32
  let c1_i32_71 : BitVec 32 := 1#32
  let arg13 : BitVec 32 := Scf.iv c0_i32_69 c1_i32_71 k0_t4
  let c8_i32_760 : BitVec 32 := 8#32
  let v1210 : BitVec 32 := Scalar.muli arg13 c8_i32_760
  let c4_i32_761 : BitVec 32 := 4#32
  let v1211 : BitVec 32 := Scalar.addi v1210 c4_i32_761
  let v1212 : Index := Scalar.indexCast v1211
  ![3, v1212.toNat]
def k0_mult61 (d0 : Dev nD) (arg14 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  v1269
def k0_cond72 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let v1215 : BitVec 32 := Scalar.extui v1214
  let c0_i32_763 : BitVec 32 := 0#32
  let v1216 : BitVec 1 := Scalar.cmpi .ne v1215 c0_i32_763
  v1216

def k0_off90 (d0 : Dev nD) (arg14 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  let v1270 : BitVec 32 := v1269
  let v1271 : Index := Scalar.indexCast v1270
  let c0_789 : Index := 0#32
  ![v1271.toNat, 0]
def k0_mult62 (d0 : Dev nD) (v18 : BitVec 32) (arg15 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  v1270
def k0_cond73 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let true_764 : BitVec 1 := 1#1
  let v1217 : BitVec 1 := Scalar.xori v1214 true_764
  let v1218 : BitVec 32 := Scalar.extui v1217
  let c0_i32_765 : BitVec 32 := 0#32
  let v1219 : BitVec 1 := Scalar.cmpi .ne v1218 c0_i32_765
  v1219

def k0_off91 (d0 : Dev nD) (v18 : BitVec 32) (arg15 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk29 (d0 : Dev nD) (v18 : BitVec 32) (arg14 : BitVec 32) (arg15 : BitVec 32) (v1153 : BitVec 32) (v1168 : BitVec 32) (v1183 : BitVec 32) (v1198 : BitVec 32) (v1213 : BitVec 32) : Prop :=
  (∀ (k0_h72 : k0_cond72 d0 v1213 = 1#1), 8 ∣ (k0_mult61 d0 arg14 v1153 v1168 v1183 v1198).toNat) ∧
  (∀ (k0_h72 : k0_cond72 d0 v1213 = 1#1), ∀ a, (k0_off90 d0 arg14 v1153 v1168 v1183 v1198) a + S8x128.size a ≤ S17408x128.size a) ∧
  (∀ (k0_h73 : k0_cond73 d0 v1213 = 1#1), 8 ∣ (k0_mult62 d0 v18 arg15 v1153 v1168 v1183 v1198).toNat) ∧
  (∀ (k0_h73 : k0_cond73 d0 v1213 = 1#1), ∀ a, (k0_off91 d0 v18 arg15 v1153 v1168 v1183 v1198) a + S8x128.size a ≤ S16384x128.size a)
theorem k0_mult61_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw29 : k0_chk29 d0 v18 arg14 arg15 v1153 v1168 v1183 v1198 v1213), ∀ (k0_h72 : k0_cond72 d0 v1213 = 1#1), 8 ∣ (k0_mult61 d0 arg14 v1153 v1168 v1183 v1198).toNat := fun d0 v18 arg14 arg15 v1153 v1168 v1183 v1198 v1213 k0_hw29 k0_h72 => k0_hw29.1 k0_h72
theorem k0_off90_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw29 : k0_chk29 d0 v18 arg14 arg15 v1153 v1168 v1183 v1198 v1213), ∀ (k0_h72 : k0_cond72 d0 v1213 = 1#1), ∀ a, (k0_off90 d0 arg14 v1153 v1168 v1183 v1198) a + S8x128.size a ≤ S17408x128.size a := fun d0 v18 arg14 arg15 v1153 v1168 v1183 v1198 v1213 k0_hw29 k0_h72 => k0_hw29.2.1 k0_h72
theorem k0_mult62_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw29 : k0_chk29 d0 v18 arg14 arg15 v1153 v1168 v1183 v1198 v1213), ∀ (k0_h73 : k0_cond73 d0 v1213 = 1#1), 8 ∣ (k0_mult62 d0 v18 arg15 v1153 v1168 v1183 v1198).toNat := fun d0 v18 arg14 arg15 v1153 v1168 v1183 v1198 v1213 k0_hw29 k0_h73 => k0_hw29.2.2.1 k0_h73
theorem k0_off91_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw29 : k0_chk29 d0 v18 arg14 arg15 v1153 v1168 v1183 v1198 v1213), ∀ (k0_h73 : k0_cond73 d0 v1213 = 1#1), ∀ a, (k0_off91 d0 v18 arg15 v1153 v1168 v1183 v1198) a + S8x128.size a ≤ S16384x128.size a := fun d0 v18 arg14 arg15 v1153 v1168 v1183 v1198 v1213 k0_hw29 k0_h73 => k0_hw29.2.2.2 k0_h73

def k0_off92 (k0_t4 : Fin k0_t4_loop.trips) : Fin 2 → Nat :=
  let c3_769 : Index := 3#32
  let c0_i32_69 : BitVec 32 := 0#32
  let c1_i32_71 : BitVec 32 := 1#32
  let arg13 : BitVec 32 := Scf.iv c0_i32_69 c1_i32_71 k0_t4
  let c8_i32_767 : BitVec 32 := 8#32
  let v1225 : BitVec 32 := Scalar.muli arg13 c8_i32_767
  let c5_i32_768 : BitVec 32 := 5#32
  let v1226 : BitVec 32 := Scalar.addi v1225 c5_i32_768
  let v1227 : Index := Scalar.indexCast v1226
  ![3, v1227.toNat]
def k0_mult63 (d0 : Dev nD) (arg14 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  v1269
def k0_cond74 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let v1230 : BitVec 32 := Scalar.extui v1229
  let c0_i32_770 : BitVec 32 := 0#32
  let v1231 : BitVec 1 := Scalar.cmpi .ne v1230 c0_i32_770
  v1231

def k0_off93 (d0 : Dev nD) (arg14 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  let v1270 : BitVec 32 := v1269
  let v1271 : Index := Scalar.indexCast v1270
  let c0_789 : Index := 0#32
  ![v1271.toNat, 0]
def k0_mult64 (d0 : Dev nD) (v18 : BitVec 32) (arg15 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  v1270
def k0_cond75 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let true_771 : BitVec 1 := 1#1
  let v1232 : BitVec 1 := Scalar.xori v1229 true_771
  let v1233 : BitVec 32 := Scalar.extui v1232
  let c0_i32_772 : BitVec 32 := 0#32
  let v1234 : BitVec 1 := Scalar.cmpi .ne v1233 c0_i32_772
  v1234

def k0_off94 (d0 : Dev nD) (v18 : BitVec 32) (arg15 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk30 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) : Prop :=
  (∀ (k0_h74 : k0_cond74 d0 v1228 = 1#1), 8 ∣ (k0_mult63 d0 arg14 v1153 v1168 v1183 v1198 v1213).toNat) ∧
  (∀ (k0_h74 : k0_cond74 d0 v1228 = 1#1), ∀ a, (k0_off93 d0 arg14 v1153 v1168 v1183 v1198 v1213) a + S8x128.size a ≤ S17408x128.size a) ∧
  (∀ (k0_h75 : k0_cond75 d0 v1228 = 1#1), 8 ∣ (k0_mult64 d0 v18 arg15 v1153 v1168 v1183 v1198 v1213).toNat) ∧
  (∀ (k0_h75 : k0_cond75 d0 v1228 = 1#1), ∀ a, (k0_off94 d0 v18 arg15 v1153 v1168 v1183 v1198 v1213) a + S8x128.size a ≤ S16384x128.size a)
theorem k0_mult63_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw30 : k0_chk30 d0 v18 arg14 arg15 v1153 v1168 v1183 v1198 v1213 v1228), ∀ (k0_h74 : k0_cond74 d0 v1228 = 1#1), 8 ∣ (k0_mult63 d0 arg14 v1153 v1168 v1183 v1198 v1213).toNat := fun d0 v18 arg14 arg15 v1153 v1168 v1183 v1198 v1213 v1228 k0_hw30 k0_h74 => k0_hw30.1 k0_h74
theorem k0_off93_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw30 : k0_chk30 d0 v18 arg14 arg15 v1153 v1168 v1183 v1198 v1213 v1228), ∀ (k0_h74 : k0_cond74 d0 v1228 = 1#1), ∀ a, (k0_off93 d0 arg14 v1153 v1168 v1183 v1198 v1213) a + S8x128.size a ≤ S17408x128.size a := fun d0 v18 arg14 arg15 v1153 v1168 v1183 v1198 v1213 v1228 k0_hw30 k0_h74 => k0_hw30.2.1 k0_h74
theorem k0_mult64_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw30 : k0_chk30 d0 v18 arg14 arg15 v1153 v1168 v1183 v1198 v1213 v1228), ∀ (k0_h75 : k0_cond75 d0 v1228 = 1#1), 8 ∣ (k0_mult64 d0 v18 arg15 v1153 v1168 v1183 v1198 v1213).toNat := fun d0 v18 arg14 arg15 v1153 v1168 v1183 v1198 v1213 v1228 k0_hw30 k0_h75 => k0_hw30.2.2.1 k0_h75
theorem k0_off94_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw30 : k0_chk30 d0 v18 arg14 arg15 v1153 v1168 v1183 v1198 v1213 v1228), ∀ (k0_h75 : k0_cond75 d0 v1228 = 1#1), ∀ a, (k0_off94 d0 v18 arg15 v1153 v1168 v1183 v1198 v1213) a + S8x128.size a ≤ S16384x128.size a := fun d0 v18 arg14 arg15 v1153 v1168 v1183 v1198 v1213 v1228 k0_hw30 k0_h75 => k0_hw30.2.2.2 k0_h75

def k0_off95 (k0_t4 : Fin k0_t4_loop.trips) : Fin 2 → Nat :=
  let c3_776 : Index := 3#32
  let c0_i32_69 : BitVec 32 := 0#32
  let c1_i32_71 : BitVec 32 := 1#32
  let arg13 : BitVec 32 := Scf.iv c0_i32_69 c1_i32_71 k0_t4
  let c8_i32_774 : BitVec 32 := 8#32
  let v1240 : BitVec 32 := Scalar.muli arg13 c8_i32_774
  let c6_i32_775 : BitVec 32 := 6#32
  let v1241 : BitVec 32 := Scalar.addi v1240 c6_i32_775
  let v1242 : Index := Scalar.indexCast v1241
  ![3, v1242.toNat]
def k0_mult65 (d0 : Dev nD) (arg14 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  v1269
def k0_cond76 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let v1245 : BitVec 32 := Scalar.extui v1244
  let c0_i32_777 : BitVec 32 := 0#32
  let v1246 : BitVec 1 := Scalar.cmpi .ne v1245 c0_i32_777
  v1246

def k0_off96 (d0 : Dev nD) (arg14 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  let v1270 : BitVec 32 := v1269
  let v1271 : Index := Scalar.indexCast v1270
  let c0_789 : Index := 0#32
  ![v1271.toNat, 0]
def k0_mult66 (d0 : Dev nD) (v18 : BitVec 32) (arg15 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  v1270
def k0_cond77 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let true_778 : BitVec 1 := 1#1
  let v1247 : BitVec 1 := Scalar.xori v1244 true_778
  let v1248 : BitVec 32 := Scalar.extui v1247
  let c0_i32_779 : BitVec 32 := 0#32
  let v1249 : BitVec 1 := Scalar.cmpi .ne v1248 c0_i32_779
  v1249

def k0_off97 (d0 : Dev nD) (v18 : BitVec 32) (arg15 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk31 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) : Prop :=
  (∀ (k0_h76 : k0_cond76 d0 v1243 = 1#1), 8 ∣ (k0_mult65 d0 arg14 v1153 v1168 v1183 v1198 v1213 v1228).toNat) ∧
  (∀ (k0_h76 : k0_cond76 d0 v1243 = 1#1), ∀ a, (k0_off96 d0 arg14 v1153 v1168 v1183 v1198 v1213 v1228) a + S8x128.size a ≤ S17408x128.size a) ∧
  (∀ (k0_h77 : k0_cond77 d0 v1243 = 1#1), 8 ∣ (k0_mult66 d0 v18 arg15 v1153 v1168 v1183 v1198 v1213 v1228).toNat) ∧
  (∀ (k0_h77 : k0_cond77 d0 v1243 = 1#1), ∀ a, (k0_off97 d0 v18 arg15 v1153 v1168 v1183 v1198 v1213 v1228) a + S8x128.size a ≤ S16384x128.size a)
theorem k0_mult65_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw31 : k0_chk31 d0 v18 arg14 arg15 v1153 v1168 v1183 v1198 v1213 v1228 v1243), ∀ (k0_h76 : k0_cond76 d0 v1243 = 1#1), 8 ∣ (k0_mult65 d0 arg14 v1153 v1168 v1183 v1198 v1213 v1228).toNat := fun d0 v18 arg14 arg15 v1153 v1168 v1183 v1198 v1213 v1228 v1243 k0_hw31 k0_h76 => k0_hw31.1 k0_h76
theorem k0_off96_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw31 : k0_chk31 d0 v18 arg14 arg15 v1153 v1168 v1183 v1198 v1213 v1228 v1243), ∀ (k0_h76 : k0_cond76 d0 v1243 = 1#1), ∀ a, (k0_off96 d0 arg14 v1153 v1168 v1183 v1198 v1213 v1228) a + S8x128.size a ≤ S17408x128.size a := fun d0 v18 arg14 arg15 v1153 v1168 v1183 v1198 v1213 v1228 v1243 k0_hw31 k0_h76 => k0_hw31.2.1 k0_h76
theorem k0_mult66_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw31 : k0_chk31 d0 v18 arg14 arg15 v1153 v1168 v1183 v1198 v1213 v1228 v1243), ∀ (k0_h77 : k0_cond77 d0 v1243 = 1#1), 8 ∣ (k0_mult66 d0 v18 arg15 v1153 v1168 v1183 v1198 v1213 v1228).toNat := fun d0 v18 arg14 arg15 v1153 v1168 v1183 v1198 v1213 v1228 v1243 k0_hw31 k0_h77 => k0_hw31.2.2.1 k0_h77
theorem k0_off97_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw31 : k0_chk31 d0 v18 arg14 arg15 v1153 v1168 v1183 v1198 v1213 v1228 v1243), ∀ (k0_h77 : k0_cond77 d0 v1243 = 1#1), ∀ a, (k0_off97 d0 v18 arg15 v1153 v1168 v1183 v1198 v1213 v1228) a + S8x128.size a ≤ S16384x128.size a := fun d0 v18 arg14 arg15 v1153 v1168 v1183 v1198 v1213 v1228 v1243 k0_hw31 k0_h77 => k0_hw31.2.2.2 k0_h77

def k0_off98 (k0_t4 : Fin k0_t4_loop.trips) : Fin 2 → Nat :=
  let c3_783 : Index := 3#32
  let c0_i32_69 : BitVec 32 := 0#32
  let c1_i32_71 : BitVec 32 := 1#32
  let arg13 : BitVec 32 := Scf.iv c0_i32_69 c1_i32_71 k0_t4
  let c8_i32_781 : BitVec 32 := 8#32
  let v1255 : BitVec 32 := Scalar.muli arg13 c8_i32_781
  let c7_i32_782 : BitVec 32 := 7#32
  let v1256 : BitVec 32 := Scalar.addi v1255 c7_i32_782
  let v1257 : Index := Scalar.indexCast v1256
  ![3, v1257.toNat]
def k0_mult67 (d0 : Dev nD) (arg14 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  v1269
def k0_cond78 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let v1260 : BitVec 32 := Scalar.extui v1259
  let c0_i32_784 : BitVec 32 := 0#32
  let v1261 : BitVec 1 := Scalar.cmpi .ne v1260 c0_i32_784
  v1261

def k0_off99 (d0 : Dev nD) (arg14 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  let v1270 : BitVec 32 := v1269
  let v1271 : Index := Scalar.indexCast v1270
  let c0_789 : Index := 0#32
  ![v1271.toNat, 0]
def k0_mult68 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  v1270
def k0_cond79 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let true_785 : BitVec 1 := 1#1
  let v1262 : BitVec 1 := Scalar.xori v1259 true_785
  let v1263 : BitVec 32 := Scalar.extui v1262
  let c0_i32_786 : BitVec 32 := 0#32
  let v1264 : BitVec 1 := Scalar.cmpi .ne v1263 c0_i32_786
  v1264

def k0_off100 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk32 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) : Prop :=
  (∀ (k0_h78 : k0_cond78 d0 v1258 = 1#1), 8 ∣ (k0_mult67 d0 arg14 v1153 v1168 v1183 v1198 v1213 v1228 v1243).toNat) ∧
  (∀ (k0_h78 : k0_cond78 d0 v1258 = 1#1), ∀ a, (k0_off99 d0 arg14 v1153 v1168 v1183 v1198 v1213 v1228 v1243) a + S8x128.size a ≤ S17408x128.size a) ∧
  (∀ (k0_h79 : k0_cond79 d0 v1258 = 1#1), 8 ∣ (k0_mult68 d0 v18 arg15 v1153 v1168 v1183 v1198 v1213 v1228 v1243).toNat) ∧
  (∀ (k0_h79 : k0_cond79 d0 v1258 = 1#1), ∀ a, (k0_off100 d0 v18 arg15 v1153 v1168 v1183 v1198 v1213 v1228 v1243) a + S8x128.size a ≤ S16384x128.size a)
theorem k0_mult67_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw32 : k0_chk32 d0 v18 arg14 arg15 v1153 v1168 v1183 v1198 v1213 v1228 v1243 v1258), ∀ (k0_h78 : k0_cond78 d0 v1258 = 1#1), 8 ∣ (k0_mult67 d0 arg14 v1153 v1168 v1183 v1198 v1213 v1228 v1243).toNat := fun d0 v18 arg14 arg15 v1153 v1168 v1183 v1198 v1213 v1228 v1243 v1258 k0_hw32 k0_h78 => k0_hw32.1 k0_h78
theorem k0_off99_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw32 : k0_chk32 d0 v18 arg14 arg15 v1153 v1168 v1183 v1198 v1213 v1228 v1243 v1258), ∀ (k0_h78 : k0_cond78 d0 v1258 = 1#1), ∀ a, (k0_off99 d0 arg14 v1153 v1168 v1183 v1198 v1213 v1228 v1243) a + S8x128.size a ≤ S17408x128.size a := fun d0 v18 arg14 arg15 v1153 v1168 v1183 v1198 v1213 v1228 v1243 v1258 k0_hw32 k0_h78 => k0_hw32.2.1 k0_h78
theorem k0_mult68_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw32 : k0_chk32 d0 v18 arg14 arg15 v1153 v1168 v1183 v1198 v1213 v1228 v1243 v1258), ∀ (k0_h79 : k0_cond79 d0 v1258 = 1#1), 8 ∣ (k0_mult68 d0 v18 arg15 v1153 v1168 v1183 v1198 v1213 v1228 v1243).toNat := fun d0 v18 arg14 arg15 v1153 v1168 v1183 v1198 v1213 v1228 v1243 v1258 k0_hw32 k0_h79 => k0_hw32.2.2.1 k0_h79
theorem k0_off100_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw32 : k0_chk32 d0 v18 arg14 arg15 v1153 v1168 v1183 v1198 v1213 v1228 v1243 v1258), ∀ (k0_h79 : k0_cond79 d0 v1258 = 1#1), ∀ a, (k0_off100 d0 v18 arg15 v1153 v1168 v1183 v1198 v1213 v1228 v1243) a + S8x128.size a ≤ S16384x128.size a := fun d0 v18 arg14 arg15 v1153 v1168 v1183 v1198 v1213 v1228 v1243 v1258 k0_hw32 k0_h79 => k0_hw32.2.2.2 k0_h79

def k0_dev17 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1147 : BitVec 32 := Scalar.muli v9 c16_i32_736
  let v1148 : BitVec 32 := Scalar.addi c0_i32_737 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1149 : BitVec 32 := Scalar.muli v5 c4_i32_738
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1151 : BitVec 32 := Scalar.muli v8 c1_i32_739
  let v1152 : BitVec 32 := Scalar.addi v1150 v1151
  v1152.toNat
def k0_dev18 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev19 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev20 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev21 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev22 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev23 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
@[reducible] def k0_t5_loop : Scf.Loop 32 :=
  let c0_i32_93 : BitVec 32 := 0#32
  let c16_i32_94 : BitVec 32 := 16#32
  let v154 : BitVec 32 := Scalar.addi c0_i32_93 c16_i32_94
  let c1_i32_95 : BitVec 32 := 1#32
  ⟨c0_i32_93, v154, c1_i32_95⟩
def k0_mult69 (k0_t5 : Fin k0_t5_loop.trips) : BitVec 32 :=
  let c512_i32_731 : BitVec 32 := 512#32
  let c0_i32_93 : BitVec 32 := 0#32
  let c1_i32_95 : BitVec 32 := 1#32
  let arg13 : BitVec 32 := Scf.iv c0_i32_93 c1_i32_95 k0_t5
  let c8_i32_730 : BitVec 32 := 8#32
  let v1142 : BitVec 32 := Scalar.muli arg13 c8_i32_730
  let v1143 : BitVec 32 := Scalar.addi c512_i32_731 v1142
  v1143
def k0_off101 (k0_t5 : Fin k0_t5_loop.trips) : Fin 2 → Nat :=
  let c512_i32_731 : BitVec 32 := 512#32
  let c0_i32_93 : BitVec 32 := 0#32
  let c1_i32_95 : BitVec 32 := 1#32
  let arg13 : BitVec 32 := Scf.iv c0_i32_93 c1_i32_95 k0_t5
  let c8_i32_730 : BitVec 32 := 8#32
  let v1142 : BitVec 32 := Scalar.muli arg13 c8_i32_730
  let v1143 : BitVec 32 := Scalar.addi c512_i32_731 v1142
  let v1144 : BitVec 32 := v1143
  let v1145 : Index := Scalar.indexCast v1144
  let c0_732 : Index := 0#32
  ![v1145.toNat, 0]
def k0_off102 (k0_t5 : Fin k0_t5_loop.trips) : Fin 2 → Nat :=
  let c4 : Index := 4#32
  let c0_i32_93 : BitVec 32 := 0#32
  let c1_i32_95 : BitVec 32 := 1#32
  let arg13 : BitVec 32 := Scf.iv c0_i32_93 c1_i32_95 k0_t5
  let c8_i32_733 : BitVec 32 := 8#32
  let v1150 : BitVec 32 := Scalar.muli arg13 c8_i32_733
  let c0_i32_734 : BitVec 32 := 0#32
  let v1151 : BitVec 32 := Scalar.addi v1150 c0_i32_734
  let v1152 : Index := Scalar.indexCast v1151
  ![4, v1152.toNat]
def k0_mult70 (arg14 : BitVec 32) : BitVec 32 :=
  let c8_i32_788 : BitVec 32 := 8#32
  let v1269 : BitVec 32 := Scalar.muli arg14 c8_i32_788
  v1269
def k0_cond87 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1155 : BitVec 32 := Scalar.extui v1154
  let c0_i32_735 : BitVec 32 := 0#32
  let v1156 : BitVec 1 := Scalar.cmpi .ne v1155 c0_i32_735
  v1156

def k0_off103 (arg14 : BitVec 32) : Fin 2 → Nat :=
  let c8_i32_788 : BitVec 32 := 8#32
  let v1269 : BitVec 32 := Scalar.muli arg14 c8_i32_788
  let v1270 : BitVec 32 := v1269
  let v1271 : Index := Scalar.indexCast v1270
  let c0_789 : Index := 0#32
  ![v1271.toNat, 0]
def k0_mult71 (d0 : Dev nD) (v18 : BitVec 32) (arg15 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  v1270
def k0_cond88 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let true_736 : BitVec 1 := 1#1
  let v1157 : BitVec 1 := Scalar.xori v1154 true_736
  let v1158 : BitVec 32 := Scalar.extui v1157
  let c0_i32_737 : BitVec 32 := 0#32
  let v1159 : BitVec 1 := Scalar.cmpi .ne v1158 c0_i32_737
  v1159

def k0_off104 (d0 : Dev nD) (v18 : BitVec 32) (arg15 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk33 (d0 : Dev nD) (v18 : BitVec 32) (arg14 : BitVec 32) (arg15 : BitVec 32) (v1153 : BitVec 32) : Prop :=
  (∀ (k0_h87 : k0_cond87 d0 v1153 = 1#1), 8 ∣ (k0_mult70 arg14).toNat) ∧
  (∀ (k0_h87 : k0_cond87 d0 v1153 = 1#1), ∀ a, (k0_off103 arg14) a + S8x128.size a ≤ S17408x128.size a) ∧
  (∀ (k0_h88 : k0_cond88 d0 v1153 = 1#1), 8 ∣ (k0_mult71 d0 v18 arg15).toNat) ∧
  (∀ (k0_h88 : k0_cond88 d0 v1153 = 1#1), ∀ a, (k0_off104 d0 v18 arg15) a + S8x128.size a ≤ S16384x128.size a)
theorem k0_mult70_dvd : ∀ (d0 : Dev nD) (v18 : BitVec 32) (arg14 : BitVec 32) (arg15 : BitVec 32) (v1153 : BitVec 32) (k0_hw33 : k0_chk33 d0 v18 arg14 arg15 v1153), ∀ (k0_h87 : k0_cond87 d0 v1153 = 1#1), 8 ∣ (k0_mult70 arg14).toNat := fun d0 v18 arg14 arg15 v1153 k0_hw33 k0_h87 => k0_hw33.1 k0_h87
theorem k0_off103_inb : ∀ (d0 : Dev nD) (v18 : BitVec 32) (arg14 : BitVec 32) (arg15 : BitVec 32) (v1153 : BitVec 32) (k0_hw33 : k0_chk33 d0 v18 arg14 arg15 v1153), ∀ (k0_h87 : k0_cond87 d0 v1153 = 1#1), ∀ a, (k0_off103 arg14) a + S8x128.size a ≤ S17408x128.size a := fun d0 v18 arg14 arg15 v1153 k0_hw33 k0_h87 => k0_hw33.2.1 k0_h87
theorem k0_mult71_dvd : ∀ (d0 : Dev nD) (v18 : BitVec 32) (arg14 : BitVec 32) (arg15 : BitVec 32) (v1153 : BitVec 32) (k0_hw33 : k0_chk33 d0 v18 arg14 arg15 v1153), ∀ (k0_h88 : k0_cond88 d0 v1153 = 1#1), 8 ∣ (k0_mult71 d0 v18 arg15).toNat := fun d0 v18 arg14 arg15 v1153 k0_hw33 k0_h88 => k0_hw33.2.2.1 k0_h88
theorem k0_off104_inb : ∀ (d0 : Dev nD) (v18 : BitVec 32) (arg14 : BitVec 32) (arg15 : BitVec 32) (v1153 : BitVec 32) (k0_hw33 : k0_chk33 d0 v18 arg14 arg15 v1153), ∀ (k0_h88 : k0_cond88 d0 v1153 = 1#1), ∀ a, (k0_off104 d0 v18 arg15) a + S8x128.size a ≤ S16384x128.size a := fun d0 v18 arg14 arg15 v1153 k0_hw33 k0_h88 => k0_hw33.2.2.2 k0_h88

def k0_off105 (k0_t5 : Fin k0_t5_loop.trips) : Fin 2 → Nat :=
  let c4_741 : Index := 4#32
  let c0_i32_93 : BitVec 32 := 0#32
  let c1_i32_95 : BitVec 32 := 1#32
  let arg13 : BitVec 32 := Scf.iv c0_i32_93 c1_i32_95 k0_t5
  let c8_i32_739 : BitVec 32 := 8#32
  let v1165 : BitVec 32 := Scalar.muli arg13 c8_i32_739
  let c1_i32_740 : BitVec 32 := 1#32
  let v1166 : BitVec 32 := Scalar.addi v1165 c1_i32_740
  let v1167 : Index := Scalar.indexCast v1166
  ![4, v1167.toNat]
def k0_mult72 (d0 : Dev nD) (arg14 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  v1269
def k0_cond89 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let v1170 : BitVec 32 := Scalar.extui v1169
  let c0_i32_742 : BitVec 32 := 0#32
  let v1171 : BitVec 1 := Scalar.cmpi .ne v1170 c0_i32_742
  v1171

def k0_off106 (d0 : Dev nD) (arg14 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  let v1270 : BitVec 32 := v1269
  let v1271 : Index := Scalar.indexCast v1270
  let c0_789 : Index := 0#32
  ![v1271.toNat, 0]
def k0_mult73 (d0 : Dev nD) (v18 : BitVec 32) (arg15 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  v1270
def k0_cond90 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let true_743 : BitVec 1 := 1#1
  let v1172 : BitVec 1 := Scalar.xori v1169 true_743
  let v1173 : BitVec 32 := Scalar.extui v1172
  let c0_i32_744 : BitVec 32 := 0#32
  let v1174 : BitVec 1 := Scalar.cmpi .ne v1173 c0_i32_744
  v1174

def k0_off107 (d0 : Dev nD) (v18 : BitVec 32) (arg15 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk34 (d0 : Dev nD) (v18 : BitVec 32) (arg14 : BitVec 32) (arg15 : BitVec 32) (v1153 : BitVec 32) (v1168 : BitVec 32) : Prop :=
  (∀ (k0_h89 : k0_cond89 d0 v1168 = 1#1), 8 ∣ (k0_mult72 d0 arg14 v1153).toNat) ∧
  (∀ (k0_h89 : k0_cond89 d0 v1168 = 1#1), ∀ a, (k0_off106 d0 arg14 v1153) a + S8x128.size a ≤ S17408x128.size a) ∧
  (∀ (k0_h90 : k0_cond90 d0 v1168 = 1#1), 8 ∣ (k0_mult73 d0 v18 arg15 v1153).toNat) ∧
  (∀ (k0_h90 : k0_cond90 d0 v1168 = 1#1), ∀ a, (k0_off107 d0 v18 arg15 v1153) a + S8x128.size a ≤ S16384x128.size a)
theorem k0_mult72_dvd : ∀ (d0 : Dev nD) (v18 : BitVec 32) (arg14 : BitVec 32) (arg15 : BitVec 32) (v1153 : BitVec 32) (v1168 : BitVec 32) (k0_hw34 : k0_chk34 d0 v18 arg14 arg15 v1153 v1168), ∀ (k0_h89 : k0_cond89 d0 v1168 = 1#1), 8 ∣ (k0_mult72 d0 arg14 v1153).toNat := fun d0 v18 arg14 arg15 v1153 v1168 k0_hw34 k0_h89 => k0_hw34.1 k0_h89
theorem k0_off106_inb : ∀ (d0 : Dev nD) (v18 : BitVec 32) (arg14 : BitVec 32) (arg15 : BitVec 32) (v1153 : BitVec 32) (v1168 : BitVec 32) (k0_hw34 : k0_chk34 d0 v18 arg14 arg15 v1153 v1168), ∀ (k0_h89 : k0_cond89 d0 v1168 = 1#1), ∀ a, (k0_off106 d0 arg14 v1153) a + S8x128.size a ≤ S17408x128.size a := fun d0 v18 arg14 arg15 v1153 v1168 k0_hw34 k0_h89 => k0_hw34.2.1 k0_h89
theorem k0_mult73_dvd : ∀ (d0 : Dev nD) (v18 : BitVec 32) (arg14 : BitVec 32) (arg15 : BitVec 32) (v1153 : BitVec 32) (v1168 : BitVec 32) (k0_hw34 : k0_chk34 d0 v18 arg14 arg15 v1153 v1168), ∀ (k0_h90 : k0_cond90 d0 v1168 = 1#1), 8 ∣ (k0_mult73 d0 v18 arg15 v1153).toNat := fun d0 v18 arg14 arg15 v1153 v1168 k0_hw34 k0_h90 => k0_hw34.2.2.1 k0_h90
theorem k0_off107_inb : ∀ (d0 : Dev nD) (v18 : BitVec 32) (arg14 : BitVec 32) (arg15 : BitVec 32) (v1153 : BitVec 32) (v1168 : BitVec 32) (k0_hw34 : k0_chk34 d0 v18 arg14 arg15 v1153 v1168), ∀ (k0_h90 : k0_cond90 d0 v1168 = 1#1), ∀ a, (k0_off107 d0 v18 arg15 v1153) a + S8x128.size a ≤ S16384x128.size a := fun d0 v18 arg14 arg15 v1153 v1168 k0_hw34 k0_h90 => k0_hw34.2.2.2 k0_h90

def k0_off108 (k0_t5 : Fin k0_t5_loop.trips) : Fin 2 → Nat :=
  let c4_748 : Index := 4#32
  let c0_i32_93 : BitVec 32 := 0#32
  let c1_i32_95 : BitVec 32 := 1#32
  let arg13 : BitVec 32 := Scf.iv c0_i32_93 c1_i32_95 k0_t5
  let c8_i32_746 : BitVec 32 := 8#32
  let v1180 : BitVec 32 := Scalar.muli arg13 c8_i32_746
  let c2_i32_747 : BitVec 32 := 2#32
  let v1181 : BitVec 32 := Scalar.addi v1180 c2_i32_747
  let v1182 : Index := Scalar.indexCast v1181
  ![4, v1182.toNat]
def k0_mult74 (d0 : Dev nD) (arg14 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  v1269
def k0_cond91 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let v1185 : BitVec 32 := Scalar.extui v1184
  let c0_i32_749 : BitVec 32 := 0#32
  let v1186 : BitVec 1 := Scalar.cmpi .ne v1185 c0_i32_749
  v1186

def k0_off109 (d0 : Dev nD) (arg14 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  let v1270 : BitVec 32 := v1269
  let v1271 : Index := Scalar.indexCast v1270
  let c0_789 : Index := 0#32
  ![v1271.toNat, 0]
def k0_mult75 (d0 : Dev nD) (v18 : BitVec 32) (arg15 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  v1270
def k0_cond92 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let true_750 : BitVec 1 := 1#1
  let v1187 : BitVec 1 := Scalar.xori v1184 true_750
  let v1188 : BitVec 32 := Scalar.extui v1187
  let c0_i32_751 : BitVec 32 := 0#32
  let v1189 : BitVec 1 := Scalar.cmpi .ne v1188 c0_i32_751
  v1189

def k0_off110 (d0 : Dev nD) (v18 : BitVec 32) (arg15 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk35 (d0 : Dev nD) (v18 : BitVec 32) (arg14 : BitVec 32) (arg15 : BitVec 32) (v1153 : BitVec 32) (v1168 : BitVec 32) (v1183 : BitVec 32) : Prop :=
  (∀ (k0_h91 : k0_cond91 d0 v1183 = 1#1), 8 ∣ (k0_mult74 d0 arg14 v1153 v1168).toNat) ∧
  (∀ (k0_h91 : k0_cond91 d0 v1183 = 1#1), ∀ a, (k0_off109 d0 arg14 v1153 v1168) a + S8x128.size a ≤ S17408x128.size a) ∧
  (∀ (k0_h92 : k0_cond92 d0 v1183 = 1#1), 8 ∣ (k0_mult75 d0 v18 arg15 v1153 v1168).toNat) ∧
  (∀ (k0_h92 : k0_cond92 d0 v1183 = 1#1), ∀ a, (k0_off110 d0 v18 arg15 v1153 v1168) a + S8x128.size a ≤ S16384x128.size a)
theorem k0_mult74_dvd : ∀ (d0 : Dev nD) (v18 : BitVec 32) (arg14 : BitVec 32) (arg15 : BitVec 32) (v1153 : BitVec 32) (v1168 : BitVec 32) (v1183 : BitVec 32) (k0_hw35 : k0_chk35 d0 v18 arg14 arg15 v1153 v1168 v1183), ∀ (k0_h91 : k0_cond91 d0 v1183 = 1#1), 8 ∣ (k0_mult74 d0 arg14 v1153 v1168).toNat := fun d0 v18 arg14 arg15 v1153 v1168 v1183 k0_hw35 k0_h91 => k0_hw35.1 k0_h91
theorem k0_off109_inb : ∀ (d0 : Dev nD) (v18 : BitVec 32) (arg14 : BitVec 32) (arg15 : BitVec 32) (v1153 : BitVec 32) (v1168 : BitVec 32) (v1183 : BitVec 32) (k0_hw35 : k0_chk35 d0 v18 arg14 arg15 v1153 v1168 v1183), ∀ (k0_h91 : k0_cond91 d0 v1183 = 1#1), ∀ a, (k0_off109 d0 arg14 v1153 v1168) a + S8x128.size a ≤ S17408x128.size a := fun d0 v18 arg14 arg15 v1153 v1168 v1183 k0_hw35 k0_h91 => k0_hw35.2.1 k0_h91
theorem k0_mult75_dvd : ∀ (d0 : Dev nD) (v18 : BitVec 32) (arg14 : BitVec 32) (arg15 : BitVec 32) (v1153 : BitVec 32) (v1168 : BitVec 32) (v1183 : BitVec 32) (k0_hw35 : k0_chk35 d0 v18 arg14 arg15 v1153 v1168 v1183), ∀ (k0_h92 : k0_cond92 d0 v1183 = 1#1), 8 ∣ (k0_mult75 d0 v18 arg15 v1153 v1168).toNat := fun d0 v18 arg14 arg15 v1153 v1168 v1183 k0_hw35 k0_h92 => k0_hw35.2.2.1 k0_h92
theorem k0_off110_inb : ∀ (d0 : Dev nD) (v18 : BitVec 32) (arg14 : BitVec 32) (arg15 : BitVec 32) (v1153 : BitVec 32) (v1168 : BitVec 32) (v1183 : BitVec 32) (k0_hw35 : k0_chk35 d0 v18 arg14 arg15 v1153 v1168 v1183), ∀ (k0_h92 : k0_cond92 d0 v1183 = 1#1), ∀ a, (k0_off110 d0 v18 arg15 v1153 v1168) a + S8x128.size a ≤ S16384x128.size a := fun d0 v18 arg14 arg15 v1153 v1168 v1183 k0_hw35 k0_h92 => k0_hw35.2.2.2 k0_h92

def k0_off111 (k0_t5 : Fin k0_t5_loop.trips) : Fin 2 → Nat :=
  let c4_755 : Index := 4#32
  let c0_i32_93 : BitVec 32 := 0#32
  let c1_i32_95 : BitVec 32 := 1#32
  let arg13 : BitVec 32 := Scf.iv c0_i32_93 c1_i32_95 k0_t5
  let c8_i32_753 : BitVec 32 := 8#32
  let v1195 : BitVec 32 := Scalar.muli arg13 c8_i32_753
  let c3_i32_754 : BitVec 32 := 3#32
  let v1196 : BitVec 32 := Scalar.addi v1195 c3_i32_754
  let v1197 : Index := Scalar.indexCast v1196
  ![4, v1197.toNat]
def k0_mult76 (d0 : Dev nD) (arg14 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  v1269
def k0_cond93 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let v1200 : BitVec 32 := Scalar.extui v1199
  let c0_i32_756 : BitVec 32 := 0#32
  let v1201 : BitVec 1 := Scalar.cmpi .ne v1200 c0_i32_756
  v1201

def k0_off112 (d0 : Dev nD) (arg14 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  let v1270 : BitVec 32 := v1269
  let v1271 : Index := Scalar.indexCast v1270
  let c0_789 : Index := 0#32
  ![v1271.toNat, 0]
def k0_mult77 (d0 : Dev nD) (v18 : BitVec 32) (arg15 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  v1270
def k0_cond94 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let true_757 : BitVec 1 := 1#1
  let v1202 : BitVec 1 := Scalar.xori v1199 true_757
  let v1203 : BitVec 32 := Scalar.extui v1202
  let c0_i32_758 : BitVec 32 := 0#32
  let v1204 : BitVec 1 := Scalar.cmpi .ne v1203 c0_i32_758
  v1204

def k0_off113 (d0 : Dev nD) (v18 : BitVec 32) (arg15 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk36 (d0 : Dev nD) (v18 : BitVec 32) (arg14 : BitVec 32) (arg15 : BitVec 32) (v1153 : BitVec 32) (v1168 : BitVec 32) (v1183 : BitVec 32) (v1198 : BitVec 32) : Prop :=
  (∀ (k0_h93 : k0_cond93 d0 v1198 = 1#1), 8 ∣ (k0_mult76 d0 arg14 v1153 v1168 v1183).toNat) ∧
  (∀ (k0_h93 : k0_cond93 d0 v1198 = 1#1), ∀ a, (k0_off112 d0 arg14 v1153 v1168 v1183) a + S8x128.size a ≤ S17408x128.size a) ∧
  (∀ (k0_h94 : k0_cond94 d0 v1198 = 1#1), 8 ∣ (k0_mult77 d0 v18 arg15 v1153 v1168 v1183).toNat) ∧
  (∀ (k0_h94 : k0_cond94 d0 v1198 = 1#1), ∀ a, (k0_off113 d0 v18 arg15 v1153 v1168 v1183) a + S8x128.size a ≤ S16384x128.size a)
theorem k0_mult76_dvd : ∀ (d0 : Dev nD) (v18 : BitVec 32) (arg14 : BitVec 32) (arg15 : BitVec 32) (v1153 : BitVec 32) (v1168 : BitVec 32) (v1183 : BitVec 32) (v1198 : BitVec 32) (k0_hw36 : k0_chk36 d0 v18 arg14 arg15 v1153 v1168 v1183 v1198), ∀ (k0_h93 : k0_cond93 d0 v1198 = 1#1), 8 ∣ (k0_mult76 d0 arg14 v1153 v1168 v1183).toNat := fun d0 v18 arg14 arg15 v1153 v1168 v1183 v1198 k0_hw36 k0_h93 => k0_hw36.1 k0_h93
theorem k0_off112_inb : ∀ (d0 : Dev nD) (v18 : BitVec 32) (arg14 : BitVec 32) (arg15 : BitVec 32) (v1153 : BitVec 32) (v1168 : BitVec 32) (v1183 : BitVec 32) (v1198 : BitVec 32) (k0_hw36 : k0_chk36 d0 v18 arg14 arg15 v1153 v1168 v1183 v1198), ∀ (k0_h93 : k0_cond93 d0 v1198 = 1#1), ∀ a, (k0_off112 d0 arg14 v1153 v1168 v1183) a + S8x128.size a ≤ S17408x128.size a := fun d0 v18 arg14 arg15 v1153 v1168 v1183 v1198 k0_hw36 k0_h93 => k0_hw36.2.1 k0_h93
theorem k0_mult77_dvd : ∀ (d0 : Dev nD) (v18 : BitVec 32) (arg14 : BitVec 32) (arg15 : BitVec 32) (v1153 : BitVec 32) (v1168 : BitVec 32) (v1183 : BitVec 32) (v1198 : BitVec 32) (k0_hw36 : k0_chk36 d0 v18 arg14 arg15 v1153 v1168 v1183 v1198), ∀ (k0_h94 : k0_cond94 d0 v1198 = 1#1), 8 ∣ (k0_mult77 d0 v18 arg15 v1153 v1168 v1183).toNat := fun d0 v18 arg14 arg15 v1153 v1168 v1183 v1198 k0_hw36 k0_h94 => k0_hw36.2.2.1 k0_h94
theorem k0_off113_inb : ∀ (d0 : Dev nD) (v18 : BitVec 32) (arg14 : BitVec 32) (arg15 : BitVec 32) (v1153 : BitVec 32) (v1168 : BitVec 32) (v1183 : BitVec 32) (v1198 : BitVec 32) (k0_hw36 : k0_chk36 d0 v18 arg14 arg15 v1153 v1168 v1183 v1198), ∀ (k0_h94 : k0_cond94 d0 v1198 = 1#1), ∀ a, (k0_off113 d0 v18 arg15 v1153 v1168 v1183) a + S8x128.size a ≤ S16384x128.size a := fun d0 v18 arg14 arg15 v1153 v1168 v1183 v1198 k0_hw36 k0_h94 => k0_hw36.2.2.2 k0_h94

def k0_off114 (k0_t5 : Fin k0_t5_loop.trips) : Fin 2 → Nat :=
  let c4_762 : Index := 4#32
  let c0_i32_93 : BitVec 32 := 0#32
  let c1_i32_95 : BitVec 32 := 1#32
  let arg13 : BitVec 32 := Scf.iv c0_i32_93 c1_i32_95 k0_t5
  let c8_i32_760 : BitVec 32 := 8#32
  let v1210 : BitVec 32 := Scalar.muli arg13 c8_i32_760
  let c4_i32_761 : BitVec 32 := 4#32
  let v1211 : BitVec 32 := Scalar.addi v1210 c4_i32_761
  let v1212 : Index := Scalar.indexCast v1211
  ![4, v1212.toNat]
def k0_mult78 (d0 : Dev nD) (arg14 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  v1269
def k0_cond95 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let v1215 : BitVec 32 := Scalar.extui v1214
  let c0_i32_763 : BitVec 32 := 0#32
  let v1216 : BitVec 1 := Scalar.cmpi .ne v1215 c0_i32_763
  v1216

def k0_off115 (d0 : Dev nD) (arg14 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  let v1270 : BitVec 32 := v1269
  let v1271 : Index := Scalar.indexCast v1270
  let c0_789 : Index := 0#32
  ![v1271.toNat, 0]
def k0_mult79 (d0 : Dev nD) (v18 : BitVec 32) (arg15 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  v1270
def k0_cond96 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let true_764 : BitVec 1 := 1#1
  let v1217 : BitVec 1 := Scalar.xori v1214 true_764
  let v1218 : BitVec 32 := Scalar.extui v1217
  let c0_i32_765 : BitVec 32 := 0#32
  let v1219 : BitVec 1 := Scalar.cmpi .ne v1218 c0_i32_765
  v1219

def k0_off116 (d0 : Dev nD) (v18 : BitVec 32) (arg15 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk37 (d0 : Dev nD) (v18 : BitVec 32) (arg14 : BitVec 32) (arg15 : BitVec 32) (v1153 : BitVec 32) (v1168 : BitVec 32) (v1183 : BitVec 32) (v1198 : BitVec 32) (v1213 : BitVec 32) : Prop :=
  (∀ (k0_h95 : k0_cond95 d0 v1213 = 1#1), 8 ∣ (k0_mult78 d0 arg14 v1153 v1168 v1183 v1198).toNat) ∧
  (∀ (k0_h95 : k0_cond95 d0 v1213 = 1#1), ∀ a, (k0_off115 d0 arg14 v1153 v1168 v1183 v1198) a + S8x128.size a ≤ S17408x128.size a) ∧
  (∀ (k0_h96 : k0_cond96 d0 v1213 = 1#1), 8 ∣ (k0_mult79 d0 v18 arg15 v1153 v1168 v1183 v1198).toNat) ∧
  (∀ (k0_h96 : k0_cond96 d0 v1213 = 1#1), ∀ a, (k0_off116 d0 v18 arg15 v1153 v1168 v1183 v1198) a + S8x128.size a ≤ S16384x128.size a)
theorem k0_mult78_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw37 : k0_chk37 d0 v18 arg14 arg15 v1153 v1168 v1183 v1198 v1213), ∀ (k0_h95 : k0_cond95 d0 v1213 = 1#1), 8 ∣ (k0_mult78 d0 arg14 v1153 v1168 v1183 v1198).toNat := fun d0 v18 arg14 arg15 v1153 v1168 v1183 v1198 v1213 k0_hw37 k0_h95 => k0_hw37.1 k0_h95
theorem k0_off115_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw37 : k0_chk37 d0 v18 arg14 arg15 v1153 v1168 v1183 v1198 v1213), ∀ (k0_h95 : k0_cond95 d0 v1213 = 1#1), ∀ a, (k0_off115 d0 arg14 v1153 v1168 v1183 v1198) a + S8x128.size a ≤ S17408x128.size a := fun d0 v18 arg14 arg15 v1153 v1168 v1183 v1198 v1213 k0_hw37 k0_h95 => k0_hw37.2.1 k0_h95
theorem k0_mult79_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw37 : k0_chk37 d0 v18 arg14 arg15 v1153 v1168 v1183 v1198 v1213), ∀ (k0_h96 : k0_cond96 d0 v1213 = 1#1), 8 ∣ (k0_mult79 d0 v18 arg15 v1153 v1168 v1183 v1198).toNat := fun d0 v18 arg14 arg15 v1153 v1168 v1183 v1198 v1213 k0_hw37 k0_h96 => k0_hw37.2.2.1 k0_h96
theorem k0_off116_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw37 : k0_chk37 d0 v18 arg14 arg15 v1153 v1168 v1183 v1198 v1213), ∀ (k0_h96 : k0_cond96 d0 v1213 = 1#1), ∀ a, (k0_off116 d0 v18 arg15 v1153 v1168 v1183 v1198) a + S8x128.size a ≤ S16384x128.size a := fun d0 v18 arg14 arg15 v1153 v1168 v1183 v1198 v1213 k0_hw37 k0_h96 => k0_hw37.2.2.2 k0_h96

def k0_off117 (k0_t5 : Fin k0_t5_loop.trips) : Fin 2 → Nat :=
  let c4_769 : Index := 4#32
  let c0_i32_93 : BitVec 32 := 0#32
  let c1_i32_95 : BitVec 32 := 1#32
  let arg13 : BitVec 32 := Scf.iv c0_i32_93 c1_i32_95 k0_t5
  let c8_i32_767 : BitVec 32 := 8#32
  let v1225 : BitVec 32 := Scalar.muli arg13 c8_i32_767
  let c5_i32_768 : BitVec 32 := 5#32
  let v1226 : BitVec 32 := Scalar.addi v1225 c5_i32_768
  let v1227 : Index := Scalar.indexCast v1226
  ![4, v1227.toNat]
def k0_mult80 (d0 : Dev nD) (arg14 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  v1269
def k0_cond97 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let v1230 : BitVec 32 := Scalar.extui v1229
  let c0_i32_770 : BitVec 32 := 0#32
  let v1231 : BitVec 1 := Scalar.cmpi .ne v1230 c0_i32_770
  v1231

def k0_off118 (d0 : Dev nD) (arg14 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  let v1270 : BitVec 32 := v1269
  let v1271 : Index := Scalar.indexCast v1270
  let c0_789 : Index := 0#32
  ![v1271.toNat, 0]
def k0_mult81 (d0 : Dev nD) (v18 : BitVec 32) (arg15 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  v1270
def k0_cond98 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let true_771 : BitVec 1 := 1#1
  let v1232 : BitVec 1 := Scalar.xori v1229 true_771
  let v1233 : BitVec 32 := Scalar.extui v1232
  let c0_i32_772 : BitVec 32 := 0#32
  let v1234 : BitVec 1 := Scalar.cmpi .ne v1233 c0_i32_772
  v1234

def k0_off119 (d0 : Dev nD) (v18 : BitVec 32) (arg15 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk38 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) : Prop :=
  (∀ (k0_h97 : k0_cond97 d0 v1228 = 1#1), 8 ∣ (k0_mult80 d0 arg14 v1153 v1168 v1183 v1198 v1213).toNat) ∧
  (∀ (k0_h97 : k0_cond97 d0 v1228 = 1#1), ∀ a, (k0_off118 d0 arg14 v1153 v1168 v1183 v1198 v1213) a + S8x128.size a ≤ S17408x128.size a) ∧
  (∀ (k0_h98 : k0_cond98 d0 v1228 = 1#1), 8 ∣ (k0_mult81 d0 v18 arg15 v1153 v1168 v1183 v1198 v1213).toNat) ∧
  (∀ (k0_h98 : k0_cond98 d0 v1228 = 1#1), ∀ a, (k0_off119 d0 v18 arg15 v1153 v1168 v1183 v1198 v1213) a + S8x128.size a ≤ S16384x128.size a)
theorem k0_mult80_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw38 : k0_chk38 d0 v18 arg14 arg15 v1153 v1168 v1183 v1198 v1213 v1228), ∀ (k0_h97 : k0_cond97 d0 v1228 = 1#1), 8 ∣ (k0_mult80 d0 arg14 v1153 v1168 v1183 v1198 v1213).toNat := fun d0 v18 arg14 arg15 v1153 v1168 v1183 v1198 v1213 v1228 k0_hw38 k0_h97 => k0_hw38.1 k0_h97
theorem k0_off118_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw38 : k0_chk38 d0 v18 arg14 arg15 v1153 v1168 v1183 v1198 v1213 v1228), ∀ (k0_h97 : k0_cond97 d0 v1228 = 1#1), ∀ a, (k0_off118 d0 arg14 v1153 v1168 v1183 v1198 v1213) a + S8x128.size a ≤ S17408x128.size a := fun d0 v18 arg14 arg15 v1153 v1168 v1183 v1198 v1213 v1228 k0_hw38 k0_h97 => k0_hw38.2.1 k0_h97
theorem k0_mult81_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw38 : k0_chk38 d0 v18 arg14 arg15 v1153 v1168 v1183 v1198 v1213 v1228), ∀ (k0_h98 : k0_cond98 d0 v1228 = 1#1), 8 ∣ (k0_mult81 d0 v18 arg15 v1153 v1168 v1183 v1198 v1213).toNat := fun d0 v18 arg14 arg15 v1153 v1168 v1183 v1198 v1213 v1228 k0_hw38 k0_h98 => k0_hw38.2.2.1 k0_h98
theorem k0_off119_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw38 : k0_chk38 d0 v18 arg14 arg15 v1153 v1168 v1183 v1198 v1213 v1228), ∀ (k0_h98 : k0_cond98 d0 v1228 = 1#1), ∀ a, (k0_off119 d0 v18 arg15 v1153 v1168 v1183 v1198 v1213) a + S8x128.size a ≤ S16384x128.size a := fun d0 v18 arg14 arg15 v1153 v1168 v1183 v1198 v1213 v1228 k0_hw38 k0_h98 => k0_hw38.2.2.2 k0_h98

def k0_off120 (k0_t5 : Fin k0_t5_loop.trips) : Fin 2 → Nat :=
  let c4_776 : Index := 4#32
  let c0_i32_93 : BitVec 32 := 0#32
  let c1_i32_95 : BitVec 32 := 1#32
  let arg13 : BitVec 32 := Scf.iv c0_i32_93 c1_i32_95 k0_t5
  let c8_i32_774 : BitVec 32 := 8#32
  let v1240 : BitVec 32 := Scalar.muli arg13 c8_i32_774
  let c6_i32_775 : BitVec 32 := 6#32
  let v1241 : BitVec 32 := Scalar.addi v1240 c6_i32_775
  let v1242 : Index := Scalar.indexCast v1241
  ![4, v1242.toNat]
def k0_mult82 (d0 : Dev nD) (arg14 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  v1269
def k0_cond99 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let v1245 : BitVec 32 := Scalar.extui v1244
  let c0_i32_777 : BitVec 32 := 0#32
  let v1246 : BitVec 1 := Scalar.cmpi .ne v1245 c0_i32_777
  v1246

def k0_off121 (d0 : Dev nD) (arg14 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  let v1270 : BitVec 32 := v1269
  let v1271 : Index := Scalar.indexCast v1270
  let c0_789 : Index := 0#32
  ![v1271.toNat, 0]
def k0_mult83 (d0 : Dev nD) (v18 : BitVec 32) (arg15 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  v1270
def k0_cond100 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let true_778 : BitVec 1 := 1#1
  let v1247 : BitVec 1 := Scalar.xori v1244 true_778
  let v1248 : BitVec 32 := Scalar.extui v1247
  let c0_i32_779 : BitVec 32 := 0#32
  let v1249 : BitVec 1 := Scalar.cmpi .ne v1248 c0_i32_779
  v1249

def k0_off122 (d0 : Dev nD) (v18 : BitVec 32) (arg15 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk39 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) : Prop :=
  (∀ (k0_h99 : k0_cond99 d0 v1243 = 1#1), 8 ∣ (k0_mult82 d0 arg14 v1153 v1168 v1183 v1198 v1213 v1228).toNat) ∧
  (∀ (k0_h99 : k0_cond99 d0 v1243 = 1#1), ∀ a, (k0_off121 d0 arg14 v1153 v1168 v1183 v1198 v1213 v1228) a + S8x128.size a ≤ S17408x128.size a) ∧
  (∀ (k0_h100 : k0_cond100 d0 v1243 = 1#1), 8 ∣ (k0_mult83 d0 v18 arg15 v1153 v1168 v1183 v1198 v1213 v1228).toNat) ∧
  (∀ (k0_h100 : k0_cond100 d0 v1243 = 1#1), ∀ a, (k0_off122 d0 v18 arg15 v1153 v1168 v1183 v1198 v1213 v1228) a + S8x128.size a ≤ S16384x128.size a)
theorem k0_mult82_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw39 : k0_chk39 d0 v18 arg14 arg15 v1153 v1168 v1183 v1198 v1213 v1228 v1243), ∀ (k0_h99 : k0_cond99 d0 v1243 = 1#1), 8 ∣ (k0_mult82 d0 arg14 v1153 v1168 v1183 v1198 v1213 v1228).toNat := fun d0 v18 arg14 arg15 v1153 v1168 v1183 v1198 v1213 v1228 v1243 k0_hw39 k0_h99 => k0_hw39.1 k0_h99
theorem k0_off121_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw39 : k0_chk39 d0 v18 arg14 arg15 v1153 v1168 v1183 v1198 v1213 v1228 v1243), ∀ (k0_h99 : k0_cond99 d0 v1243 = 1#1), ∀ a, (k0_off121 d0 arg14 v1153 v1168 v1183 v1198 v1213 v1228) a + S8x128.size a ≤ S17408x128.size a := fun d0 v18 arg14 arg15 v1153 v1168 v1183 v1198 v1213 v1228 v1243 k0_hw39 k0_h99 => k0_hw39.2.1 k0_h99
theorem k0_mult83_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw39 : k0_chk39 d0 v18 arg14 arg15 v1153 v1168 v1183 v1198 v1213 v1228 v1243), ∀ (k0_h100 : k0_cond100 d0 v1243 = 1#1), 8 ∣ (k0_mult83 d0 v18 arg15 v1153 v1168 v1183 v1198 v1213 v1228).toNat := fun d0 v18 arg14 arg15 v1153 v1168 v1183 v1198 v1213 v1228 v1243 k0_hw39 k0_h100 => k0_hw39.2.2.1 k0_h100
theorem k0_off122_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw39 : k0_chk39 d0 v18 arg14 arg15 v1153 v1168 v1183 v1198 v1213 v1228 v1243), ∀ (k0_h100 : k0_cond100 d0 v1243 = 1#1), ∀ a, (k0_off122 d0 v18 arg15 v1153 v1168 v1183 v1198 v1213 v1228) a + S8x128.size a ≤ S16384x128.size a := fun d0 v18 arg14 arg15 v1153 v1168 v1183 v1198 v1213 v1228 v1243 k0_hw39 k0_h100 => k0_hw39.2.2.2 k0_h100

def k0_off123 (k0_t5 : Fin k0_t5_loop.trips) : Fin 2 → Nat :=
  let c4_783 : Index := 4#32
  let c0_i32_93 : BitVec 32 := 0#32
  let c1_i32_95 : BitVec 32 := 1#32
  let arg13 : BitVec 32 := Scf.iv c0_i32_93 c1_i32_95 k0_t5
  let c8_i32_781 : BitVec 32 := 8#32
  let v1255 : BitVec 32 := Scalar.muli arg13 c8_i32_781
  let c7_i32_782 : BitVec 32 := 7#32
  let v1256 : BitVec 32 := Scalar.addi v1255 c7_i32_782
  let v1257 : Index := Scalar.indexCast v1256
  ![4, v1257.toNat]
def k0_mult84 (d0 : Dev nD) (arg14 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  v1269
def k0_cond101 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let v1260 : BitVec 32 := Scalar.extui v1259
  let c0_i32_784 : BitVec 32 := 0#32
  let v1261 : BitVec 1 := Scalar.cmpi .ne v1260 c0_i32_784
  v1261

def k0_off124 (d0 : Dev nD) (arg14 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  let v1270 : BitVec 32 := v1269
  let v1271 : Index := Scalar.indexCast v1270
  let c0_789 : Index := 0#32
  ![v1271.toNat, 0]
def k0_mult85 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  v1270
def k0_cond102 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let true_785 : BitVec 1 := 1#1
  let v1262 : BitVec 1 := Scalar.xori v1259 true_785
  let v1263 : BitVec 32 := Scalar.extui v1262
  let c0_i32_786 : BitVec 32 := 0#32
  let v1264 : BitVec 1 := Scalar.cmpi .ne v1263 c0_i32_786
  v1264

def k0_off125 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk40 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) : Prop :=
  (∀ (k0_h101 : k0_cond101 d0 v1258 = 1#1), 8 ∣ (k0_mult84 d0 arg14 v1153 v1168 v1183 v1198 v1213 v1228 v1243).toNat) ∧
  (∀ (k0_h101 : k0_cond101 d0 v1258 = 1#1), ∀ a, (k0_off124 d0 arg14 v1153 v1168 v1183 v1198 v1213 v1228 v1243) a + S8x128.size a ≤ S17408x128.size a) ∧
  (∀ (k0_h102 : k0_cond102 d0 v1258 = 1#1), 8 ∣ (k0_mult85 d0 v18 arg15 v1153 v1168 v1183 v1198 v1213 v1228 v1243).toNat) ∧
  (∀ (k0_h102 : k0_cond102 d0 v1258 = 1#1), ∀ a, (k0_off125 d0 v18 arg15 v1153 v1168 v1183 v1198 v1213 v1228 v1243) a + S8x128.size a ≤ S16384x128.size a)
theorem k0_mult84_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw40 : k0_chk40 d0 v18 arg14 arg15 v1153 v1168 v1183 v1198 v1213 v1228 v1243 v1258), ∀ (k0_h101 : k0_cond101 d0 v1258 = 1#1), 8 ∣ (k0_mult84 d0 arg14 v1153 v1168 v1183 v1198 v1213 v1228 v1243).toNat := fun d0 v18 arg14 arg15 v1153 v1168 v1183 v1198 v1213 v1228 v1243 v1258 k0_hw40 k0_h101 => k0_hw40.1 k0_h101
theorem k0_off124_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw40 : k0_chk40 d0 v18 arg14 arg15 v1153 v1168 v1183 v1198 v1213 v1228 v1243 v1258), ∀ (k0_h101 : k0_cond101 d0 v1258 = 1#1), ∀ a, (k0_off124 d0 arg14 v1153 v1168 v1183 v1198 v1213 v1228 v1243) a + S8x128.size a ≤ S17408x128.size a := fun d0 v18 arg14 arg15 v1153 v1168 v1183 v1198 v1213 v1228 v1243 v1258 k0_hw40 k0_h101 => k0_hw40.2.1 k0_h101
theorem k0_mult85_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw40 : k0_chk40 d0 v18 arg14 arg15 v1153 v1168 v1183 v1198 v1213 v1228 v1243 v1258), ∀ (k0_h102 : k0_cond102 d0 v1258 = 1#1), 8 ∣ (k0_mult85 d0 v18 arg15 v1153 v1168 v1183 v1198 v1213 v1228 v1243).toNat := fun d0 v18 arg14 arg15 v1153 v1168 v1183 v1198 v1213 v1228 v1243 v1258 k0_hw40 k0_h102 => k0_hw40.2.2.1 k0_h102
theorem k0_off125_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw40 : k0_chk40 d0 v18 arg14 arg15 v1153 v1168 v1183 v1198 v1213 v1228 v1243 v1258), ∀ (k0_h102 : k0_cond102 d0 v1258 = 1#1), ∀ a, (k0_off125 d0 v18 arg15 v1153 v1168 v1183 v1198 v1213 v1228 v1243) a + S8x128.size a ≤ S16384x128.size a := fun d0 v18 arg14 arg15 v1153 v1168 v1183 v1198 v1213 v1228 v1243 v1258 k0_hw40 k0_h102 => k0_hw40.2.2.2 k0_h102

def k0_dev24 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1147 : BitVec 32 := Scalar.muli v9 c16_i32_736
  let v1148 : BitVec 32 := Scalar.addi c0_i32_737 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1149 : BitVec 32 := Scalar.muli v5 c4_i32_738
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1151 : BitVec 32 := Scalar.muli v8 c1_i32_739
  let v1152 : BitVec 32 := Scalar.addi v1150 v1151
  v1152.toNat
def k0_dev25 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev26 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev27 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev28 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev29 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev30 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev31 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
@[reducible] def k0_t6_loop : Scf.Loop 32 :=
  let c0_i32_120 : BitVec 32 := 0#32
  let c16_i32_121 : BitVec 32 := 16#32
  let v196 : BitVec 32 := Scalar.addi c0_i32_120 c16_i32_121
  let c1_i32_122 : BitVec 32 := 1#32
  ⟨c0_i32_120, v196, c1_i32_122⟩
def k0_mult86 (k0_t6 : Fin k0_t6_loop.trips) : BitVec 32 :=
  let c640_i32_731 : BitVec 32 := 640#32
  let c0_i32_120 : BitVec 32 := 0#32
  let c1_i32_122 : BitVec 32 := 1#32
  let arg13 : BitVec 32 := Scf.iv c0_i32_120 c1_i32_122 k0_t6
  let c8_i32_730 : BitVec 32 := 8#32
  let v1142 : BitVec 32 := Scalar.muli arg13 c8_i32_730
  let v1143 : BitVec 32 := Scalar.addi c640_i32_731 v1142
  v1143
def k0_off126 (k0_t6 : Fin k0_t6_loop.trips) : Fin 2 → Nat :=
  let c640_i32_731 : BitVec 32 := 640#32
  let c0_i32_120 : BitVec 32 := 0#32
  let c1_i32_122 : BitVec 32 := 1#32
  let arg13 : BitVec 32 := Scf.iv c0_i32_120 c1_i32_122 k0_t6
  let c8_i32_730 : BitVec 32 := 8#32
  let v1142 : BitVec 32 := Scalar.muli arg13 c8_i32_730
  let v1143 : BitVec 32 := Scalar.addi c640_i32_731 v1142
  let v1144 : BitVec 32 := v1143
  let v1145 : Index := Scalar.indexCast v1144
  let c0_732 : Index := 0#32
  ![v1145.toNat, 0]
def k0_off127 (k0_t6 : Fin k0_t6_loop.trips) : Fin 2 → Nat :=
  let c5 : Index := 5#32
  let c0_i32_120 : BitVec 32 := 0#32
  let c1_i32_122 : BitVec 32 := 1#32
  let arg13 : BitVec 32 := Scf.iv c0_i32_120 c1_i32_122 k0_t6
  let c8_i32_733 : BitVec 32 := 8#32
  let v1150 : BitVec 32 := Scalar.muli arg13 c8_i32_733
  let c0_i32_734 : BitVec 32 := 0#32
  let v1151 : BitVec 32 := Scalar.addi v1150 c0_i32_734
  let v1152 : Index := Scalar.indexCast v1151
  ![5, v1152.toNat]
def k0_mult87 (arg14 : BitVec 32) : BitVec 32 :=
  let c8_i32_788 : BitVec 32 := 8#32
  let v1269 : BitVec 32 := Scalar.muli arg14 c8_i32_788
  v1269
def k0_cond111 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1155 : BitVec 32 := Scalar.extui v1154
  let c0_i32_735 : BitVec 32 := 0#32
  let v1156 : BitVec 1 := Scalar.cmpi .ne v1155 c0_i32_735
  v1156

def k0_off128 (arg14 : BitVec 32) : Fin 2 → Nat :=
  let c8_i32_788 : BitVec 32 := 8#32
  let v1269 : BitVec 32 := Scalar.muli arg14 c8_i32_788
  let v1270 : BitVec 32 := v1269
  let v1271 : Index := Scalar.indexCast v1270
  let c0_789 : Index := 0#32
  ![v1271.toNat, 0]
def k0_mult88 (d0 : Dev nD) (v18 : BitVec 32) (arg15 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  v1270
def k0_cond112 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let true_736 : BitVec 1 := 1#1
  let v1157 : BitVec 1 := Scalar.xori v1154 true_736
  let v1158 : BitVec 32 := Scalar.extui v1157
  let c0_i32_737 : BitVec 32 := 0#32
  let v1159 : BitVec 1 := Scalar.cmpi .ne v1158 c0_i32_737
  v1159

def k0_off129 (d0 : Dev nD) (v18 : BitVec 32) (arg15 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk41 (d0 : Dev nD) (v18 : BitVec 32) (arg14 : BitVec 32) (arg15 : BitVec 32) (v1153 : BitVec 32) : Prop :=
  (∀ (k0_h111 : k0_cond111 d0 v1153 = 1#1), 8 ∣ (k0_mult87 arg14).toNat) ∧
  (∀ (k0_h111 : k0_cond111 d0 v1153 = 1#1), ∀ a, (k0_off128 arg14) a + S8x128.size a ≤ S17408x128.size a) ∧
  (∀ (k0_h112 : k0_cond112 d0 v1153 = 1#1), 8 ∣ (k0_mult88 d0 v18 arg15).toNat) ∧
  (∀ (k0_h112 : k0_cond112 d0 v1153 = 1#1), ∀ a, (k0_off129 d0 v18 arg15) a + S8x128.size a ≤ S16384x128.size a)
theorem k0_mult87_dvd : ∀ (d0 : Dev nD) (v18 : BitVec 32) (arg14 : BitVec 32) (arg15 : BitVec 32) (v1153 : BitVec 32) (k0_hw41 : k0_chk41 d0 v18 arg14 arg15 v1153), ∀ (k0_h111 : k0_cond111 d0 v1153 = 1#1), 8 ∣ (k0_mult87 arg14).toNat := fun d0 v18 arg14 arg15 v1153 k0_hw41 k0_h111 => k0_hw41.1 k0_h111
theorem k0_off128_inb : ∀ (d0 : Dev nD) (v18 : BitVec 32) (arg14 : BitVec 32) (arg15 : BitVec 32) (v1153 : BitVec 32) (k0_hw41 : k0_chk41 d0 v18 arg14 arg15 v1153), ∀ (k0_h111 : k0_cond111 d0 v1153 = 1#1), ∀ a, (k0_off128 arg14) a + S8x128.size a ≤ S17408x128.size a := fun d0 v18 arg14 arg15 v1153 k0_hw41 k0_h111 => k0_hw41.2.1 k0_h111
theorem k0_mult88_dvd : ∀ (d0 : Dev nD) (v18 : BitVec 32) (arg14 : BitVec 32) (arg15 : BitVec 32) (v1153 : BitVec 32) (k0_hw41 : k0_chk41 d0 v18 arg14 arg15 v1153), ∀ (k0_h112 : k0_cond112 d0 v1153 = 1#1), 8 ∣ (k0_mult88 d0 v18 arg15).toNat := fun d0 v18 arg14 arg15 v1153 k0_hw41 k0_h112 => k0_hw41.2.2.1 k0_h112
theorem k0_off129_inb : ∀ (d0 : Dev nD) (v18 : BitVec 32) (arg14 : BitVec 32) (arg15 : BitVec 32) (v1153 : BitVec 32) (k0_hw41 : k0_chk41 d0 v18 arg14 arg15 v1153), ∀ (k0_h112 : k0_cond112 d0 v1153 = 1#1), ∀ a, (k0_off129 d0 v18 arg15) a + S8x128.size a ≤ S16384x128.size a := fun d0 v18 arg14 arg15 v1153 k0_hw41 k0_h112 => k0_hw41.2.2.2 k0_h112

def k0_off130 (k0_t6 : Fin k0_t6_loop.trips) : Fin 2 → Nat :=
  let c5_741 : Index := 5#32
  let c0_i32_120 : BitVec 32 := 0#32
  let c1_i32_122 : BitVec 32 := 1#32
  let arg13 : BitVec 32 := Scf.iv c0_i32_120 c1_i32_122 k0_t6
  let c8_i32_739 : BitVec 32 := 8#32
  let v1165 : BitVec 32 := Scalar.muli arg13 c8_i32_739
  let c1_i32_740 : BitVec 32 := 1#32
  let v1166 : BitVec 32 := Scalar.addi v1165 c1_i32_740
  let v1167 : Index := Scalar.indexCast v1166
  ![5, v1167.toNat]
def k0_mult89 (d0 : Dev nD) (arg14 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  v1269
def k0_cond113 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let v1170 : BitVec 32 := Scalar.extui v1169
  let c0_i32_742 : BitVec 32 := 0#32
  let v1171 : BitVec 1 := Scalar.cmpi .ne v1170 c0_i32_742
  v1171

def k0_off131 (d0 : Dev nD) (arg14 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  let v1270 : BitVec 32 := v1269
  let v1271 : Index := Scalar.indexCast v1270
  let c0_789 : Index := 0#32
  ![v1271.toNat, 0]
def k0_mult90 (d0 : Dev nD) (v18 : BitVec 32) (arg15 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  v1270
def k0_cond114 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let true_743 : BitVec 1 := 1#1
  let v1172 : BitVec 1 := Scalar.xori v1169 true_743
  let v1173 : BitVec 32 := Scalar.extui v1172
  let c0_i32_744 : BitVec 32 := 0#32
  let v1174 : BitVec 1 := Scalar.cmpi .ne v1173 c0_i32_744
  v1174

def k0_off132 (d0 : Dev nD) (v18 : BitVec 32) (arg15 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk42 (d0 : Dev nD) (v18 : BitVec 32) (arg14 : BitVec 32) (arg15 : BitVec 32) (v1153 : BitVec 32) (v1168 : BitVec 32) : Prop :=
  (∀ (k0_h113 : k0_cond113 d0 v1168 = 1#1), 8 ∣ (k0_mult89 d0 arg14 v1153).toNat) ∧
  (∀ (k0_h113 : k0_cond113 d0 v1168 = 1#1), ∀ a, (k0_off131 d0 arg14 v1153) a + S8x128.size a ≤ S17408x128.size a) ∧
  (∀ (k0_h114 : k0_cond114 d0 v1168 = 1#1), 8 ∣ (k0_mult90 d0 v18 arg15 v1153).toNat) ∧
  (∀ (k0_h114 : k0_cond114 d0 v1168 = 1#1), ∀ a, (k0_off132 d0 v18 arg15 v1153) a + S8x128.size a ≤ S16384x128.size a)
theorem k0_mult89_dvd : ∀ (d0 : Dev nD) (v18 : BitVec 32) (arg14 : BitVec 32) (arg15 : BitVec 32) (v1153 : BitVec 32) (v1168 : BitVec 32) (k0_hw42 : k0_chk42 d0 v18 arg14 arg15 v1153 v1168), ∀ (k0_h113 : k0_cond113 d0 v1168 = 1#1), 8 ∣ (k0_mult89 d0 arg14 v1153).toNat := fun d0 v18 arg14 arg15 v1153 v1168 k0_hw42 k0_h113 => k0_hw42.1 k0_h113
theorem k0_off131_inb : ∀ (d0 : Dev nD) (v18 : BitVec 32) (arg14 : BitVec 32) (arg15 : BitVec 32) (v1153 : BitVec 32) (v1168 : BitVec 32) (k0_hw42 : k0_chk42 d0 v18 arg14 arg15 v1153 v1168), ∀ (k0_h113 : k0_cond113 d0 v1168 = 1#1), ∀ a, (k0_off131 d0 arg14 v1153) a + S8x128.size a ≤ S17408x128.size a := fun d0 v18 arg14 arg15 v1153 v1168 k0_hw42 k0_h113 => k0_hw42.2.1 k0_h113
theorem k0_mult90_dvd : ∀ (d0 : Dev nD) (v18 : BitVec 32) (arg14 : BitVec 32) (arg15 : BitVec 32) (v1153 : BitVec 32) (v1168 : BitVec 32) (k0_hw42 : k0_chk42 d0 v18 arg14 arg15 v1153 v1168), ∀ (k0_h114 : k0_cond114 d0 v1168 = 1#1), 8 ∣ (k0_mult90 d0 v18 arg15 v1153).toNat := fun d0 v18 arg14 arg15 v1153 v1168 k0_hw42 k0_h114 => k0_hw42.2.2.1 k0_h114
theorem k0_off132_inb : ∀ (d0 : Dev nD) (v18 : BitVec 32) (arg14 : BitVec 32) (arg15 : BitVec 32) (v1153 : BitVec 32) (v1168 : BitVec 32) (k0_hw42 : k0_chk42 d0 v18 arg14 arg15 v1153 v1168), ∀ (k0_h114 : k0_cond114 d0 v1168 = 1#1), ∀ a, (k0_off132 d0 v18 arg15 v1153) a + S8x128.size a ≤ S16384x128.size a := fun d0 v18 arg14 arg15 v1153 v1168 k0_hw42 k0_h114 => k0_hw42.2.2.2 k0_h114

def k0_off133 (k0_t6 : Fin k0_t6_loop.trips) : Fin 2 → Nat :=
  let c5_748 : Index := 5#32
  let c0_i32_120 : BitVec 32 := 0#32
  let c1_i32_122 : BitVec 32 := 1#32
  let arg13 : BitVec 32 := Scf.iv c0_i32_120 c1_i32_122 k0_t6
  let c8_i32_746 : BitVec 32 := 8#32
  let v1180 : BitVec 32 := Scalar.muli arg13 c8_i32_746
  let c2_i32_747 : BitVec 32 := 2#32
  let v1181 : BitVec 32 := Scalar.addi v1180 c2_i32_747
  let v1182 : Index := Scalar.indexCast v1181
  ![5, v1182.toNat]
def k0_mult91 (d0 : Dev nD) (arg14 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  v1269
def k0_cond115 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let v1185 : BitVec 32 := Scalar.extui v1184
  let c0_i32_749 : BitVec 32 := 0#32
  let v1186 : BitVec 1 := Scalar.cmpi .ne v1185 c0_i32_749
  v1186

def k0_off134 (d0 : Dev nD) (arg14 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  let v1270 : BitVec 32 := v1269
  let v1271 : Index := Scalar.indexCast v1270
  let c0_789 : Index := 0#32
  ![v1271.toNat, 0]
def k0_mult92 (d0 : Dev nD) (v18 : BitVec 32) (arg15 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  v1270
def k0_cond116 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let true_750 : BitVec 1 := 1#1
  let v1187 : BitVec 1 := Scalar.xori v1184 true_750
  let v1188 : BitVec 32 := Scalar.extui v1187
  let c0_i32_751 : BitVec 32 := 0#32
  let v1189 : BitVec 1 := Scalar.cmpi .ne v1188 c0_i32_751
  v1189

def k0_off135 (d0 : Dev nD) (v18 : BitVec 32) (arg15 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk43 (d0 : Dev nD) (v18 : BitVec 32) (arg14 : BitVec 32) (arg15 : BitVec 32) (v1153 : BitVec 32) (v1168 : BitVec 32) (v1183 : BitVec 32) : Prop :=
  (∀ (k0_h115 : k0_cond115 d0 v1183 = 1#1), 8 ∣ (k0_mult91 d0 arg14 v1153 v1168).toNat) ∧
  (∀ (k0_h115 : k0_cond115 d0 v1183 = 1#1), ∀ a, (k0_off134 d0 arg14 v1153 v1168) a + S8x128.size a ≤ S17408x128.size a) ∧
  (∀ (k0_h116 : k0_cond116 d0 v1183 = 1#1), 8 ∣ (k0_mult92 d0 v18 arg15 v1153 v1168).toNat) ∧
  (∀ (k0_h116 : k0_cond116 d0 v1183 = 1#1), ∀ a, (k0_off135 d0 v18 arg15 v1153 v1168) a + S8x128.size a ≤ S16384x128.size a)
theorem k0_mult91_dvd : ∀ (d0 : Dev nD) (v18 : BitVec 32) (arg14 : BitVec 32) (arg15 : BitVec 32) (v1153 : BitVec 32) (v1168 : BitVec 32) (v1183 : BitVec 32) (k0_hw43 : k0_chk43 d0 v18 arg14 arg15 v1153 v1168 v1183), ∀ (k0_h115 : k0_cond115 d0 v1183 = 1#1), 8 ∣ (k0_mult91 d0 arg14 v1153 v1168).toNat := fun d0 v18 arg14 arg15 v1153 v1168 v1183 k0_hw43 k0_h115 => k0_hw43.1 k0_h115
theorem k0_off134_inb : ∀ (d0 : Dev nD) (v18 : BitVec 32) (arg14 : BitVec 32) (arg15 : BitVec 32) (v1153 : BitVec 32) (v1168 : BitVec 32) (v1183 : BitVec 32) (k0_hw43 : k0_chk43 d0 v18 arg14 arg15 v1153 v1168 v1183), ∀ (k0_h115 : k0_cond115 d0 v1183 = 1#1), ∀ a, (k0_off134 d0 arg14 v1153 v1168) a + S8x128.size a ≤ S17408x128.size a := fun d0 v18 arg14 arg15 v1153 v1168 v1183 k0_hw43 k0_h115 => k0_hw43.2.1 k0_h115
theorem k0_mult92_dvd : ∀ (d0 : Dev nD) (v18 : BitVec 32) (arg14 : BitVec 32) (arg15 : BitVec 32) (v1153 : BitVec 32) (v1168 : BitVec 32) (v1183 : BitVec 32) (k0_hw43 : k0_chk43 d0 v18 arg14 arg15 v1153 v1168 v1183), ∀ (k0_h116 : k0_cond116 d0 v1183 = 1#1), 8 ∣ (k0_mult92 d0 v18 arg15 v1153 v1168).toNat := fun d0 v18 arg14 arg15 v1153 v1168 v1183 k0_hw43 k0_h116 => k0_hw43.2.2.1 k0_h116
theorem k0_off135_inb : ∀ (d0 : Dev nD) (v18 : BitVec 32) (arg14 : BitVec 32) (arg15 : BitVec 32) (v1153 : BitVec 32) (v1168 : BitVec 32) (v1183 : BitVec 32) (k0_hw43 : k0_chk43 d0 v18 arg14 arg15 v1153 v1168 v1183), ∀ (k0_h116 : k0_cond116 d0 v1183 = 1#1), ∀ a, (k0_off135 d0 v18 arg15 v1153 v1168) a + S8x128.size a ≤ S16384x128.size a := fun d0 v18 arg14 arg15 v1153 v1168 v1183 k0_hw43 k0_h116 => k0_hw43.2.2.2 k0_h116

def k0_off136 (k0_t6 : Fin k0_t6_loop.trips) : Fin 2 → Nat :=
  let c5_755 : Index := 5#32
  let c0_i32_120 : BitVec 32 := 0#32
  let c1_i32_122 : BitVec 32 := 1#32
  let arg13 : BitVec 32 := Scf.iv c0_i32_120 c1_i32_122 k0_t6
  let c8_i32_753 : BitVec 32 := 8#32
  let v1195 : BitVec 32 := Scalar.muli arg13 c8_i32_753
  let c3_i32_754 : BitVec 32 := 3#32
  let v1196 : BitVec 32 := Scalar.addi v1195 c3_i32_754
  let v1197 : Index := Scalar.indexCast v1196
  ![5, v1197.toNat]
def k0_mult93 (d0 : Dev nD) (arg14 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  v1269
def k0_cond117 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let v1200 : BitVec 32 := Scalar.extui v1199
  let c0_i32_756 : BitVec 32 := 0#32
  let v1201 : BitVec 1 := Scalar.cmpi .ne v1200 c0_i32_756
  v1201

def k0_off137 (d0 : Dev nD) (arg14 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  let v1270 : BitVec 32 := v1269
  let v1271 : Index := Scalar.indexCast v1270
  let c0_789 : Index := 0#32
  ![v1271.toNat, 0]
def k0_mult94 (d0 : Dev nD) (v18 : BitVec 32) (arg15 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  v1270
def k0_cond118 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let true_757 : BitVec 1 := 1#1
  let v1202 : BitVec 1 := Scalar.xori v1199 true_757
  let v1203 : BitVec 32 := Scalar.extui v1202
  let c0_i32_758 : BitVec 32 := 0#32
  let v1204 : BitVec 1 := Scalar.cmpi .ne v1203 c0_i32_758
  v1204

def k0_off138 (d0 : Dev nD) (v18 : BitVec 32) (arg15 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk44 (d0 : Dev nD) (v18 : BitVec 32) (arg14 : BitVec 32) (arg15 : BitVec 32) (v1153 : BitVec 32) (v1168 : BitVec 32) (v1183 : BitVec 32) (v1198 : BitVec 32) : Prop :=
  (∀ (k0_h117 : k0_cond117 d0 v1198 = 1#1), 8 ∣ (k0_mult93 d0 arg14 v1153 v1168 v1183).toNat) ∧
  (∀ (k0_h117 : k0_cond117 d0 v1198 = 1#1), ∀ a, (k0_off137 d0 arg14 v1153 v1168 v1183) a + S8x128.size a ≤ S17408x128.size a) ∧
  (∀ (k0_h118 : k0_cond118 d0 v1198 = 1#1), 8 ∣ (k0_mult94 d0 v18 arg15 v1153 v1168 v1183).toNat) ∧
  (∀ (k0_h118 : k0_cond118 d0 v1198 = 1#1), ∀ a, (k0_off138 d0 v18 arg15 v1153 v1168 v1183) a + S8x128.size a ≤ S16384x128.size a)
theorem k0_mult93_dvd : ∀ (d0 : Dev nD) (v18 : BitVec 32) (arg14 : BitVec 32) (arg15 : BitVec 32) (v1153 : BitVec 32) (v1168 : BitVec 32) (v1183 : BitVec 32) (v1198 : BitVec 32) (k0_hw44 : k0_chk44 d0 v18 arg14 arg15 v1153 v1168 v1183 v1198), ∀ (k0_h117 : k0_cond117 d0 v1198 = 1#1), 8 ∣ (k0_mult93 d0 arg14 v1153 v1168 v1183).toNat := fun d0 v18 arg14 arg15 v1153 v1168 v1183 v1198 k0_hw44 k0_h117 => k0_hw44.1 k0_h117
theorem k0_off137_inb : ∀ (d0 : Dev nD) (v18 : BitVec 32) (arg14 : BitVec 32) (arg15 : BitVec 32) (v1153 : BitVec 32) (v1168 : BitVec 32) (v1183 : BitVec 32) (v1198 : BitVec 32) (k0_hw44 : k0_chk44 d0 v18 arg14 arg15 v1153 v1168 v1183 v1198), ∀ (k0_h117 : k0_cond117 d0 v1198 = 1#1), ∀ a, (k0_off137 d0 arg14 v1153 v1168 v1183) a + S8x128.size a ≤ S17408x128.size a := fun d0 v18 arg14 arg15 v1153 v1168 v1183 v1198 k0_hw44 k0_h117 => k0_hw44.2.1 k0_h117
theorem k0_mult94_dvd : ∀ (d0 : Dev nD) (v18 : BitVec 32) (arg14 : BitVec 32) (arg15 : BitVec 32) (v1153 : BitVec 32) (v1168 : BitVec 32) (v1183 : BitVec 32) (v1198 : BitVec 32) (k0_hw44 : k0_chk44 d0 v18 arg14 arg15 v1153 v1168 v1183 v1198), ∀ (k0_h118 : k0_cond118 d0 v1198 = 1#1), 8 ∣ (k0_mult94 d0 v18 arg15 v1153 v1168 v1183).toNat := fun d0 v18 arg14 arg15 v1153 v1168 v1183 v1198 k0_hw44 k0_h118 => k0_hw44.2.2.1 k0_h118
theorem k0_off138_inb : ∀ (d0 : Dev nD) (v18 : BitVec 32) (arg14 : BitVec 32) (arg15 : BitVec 32) (v1153 : BitVec 32) (v1168 : BitVec 32) (v1183 : BitVec 32) (v1198 : BitVec 32) (k0_hw44 : k0_chk44 d0 v18 arg14 arg15 v1153 v1168 v1183 v1198), ∀ (k0_h118 : k0_cond118 d0 v1198 = 1#1), ∀ a, (k0_off138 d0 v18 arg15 v1153 v1168 v1183) a + S8x128.size a ≤ S16384x128.size a := fun d0 v18 arg14 arg15 v1153 v1168 v1183 v1198 k0_hw44 k0_h118 => k0_hw44.2.2.2 k0_h118

def k0_off139 (k0_t6 : Fin k0_t6_loop.trips) : Fin 2 → Nat :=
  let c5_762 : Index := 5#32
  let c0_i32_120 : BitVec 32 := 0#32
  let c1_i32_122 : BitVec 32 := 1#32
  let arg13 : BitVec 32 := Scf.iv c0_i32_120 c1_i32_122 k0_t6
  let c8_i32_760 : BitVec 32 := 8#32
  let v1210 : BitVec 32 := Scalar.muli arg13 c8_i32_760
  let c4_i32_761 : BitVec 32 := 4#32
  let v1211 : BitVec 32 := Scalar.addi v1210 c4_i32_761
  let v1212 : Index := Scalar.indexCast v1211
  ![5, v1212.toNat]
def k0_mult95 (d0 : Dev nD) (arg14 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  v1269
def k0_cond119 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let v1215 : BitVec 32 := Scalar.extui v1214
  let c0_i32_763 : BitVec 32 := 0#32
  let v1216 : BitVec 1 := Scalar.cmpi .ne v1215 c0_i32_763
  v1216

def k0_off140 (d0 : Dev nD) (arg14 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  let v1270 : BitVec 32 := v1269
  let v1271 : Index := Scalar.indexCast v1270
  let c0_789 : Index := 0#32
  ![v1271.toNat, 0]
def k0_mult96 (d0 : Dev nD) (v18 : BitVec 32) (arg15 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  v1270
def k0_cond120 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let true_764 : BitVec 1 := 1#1
  let v1217 : BitVec 1 := Scalar.xori v1214 true_764
  let v1218 : BitVec 32 := Scalar.extui v1217
  let c0_i32_765 : BitVec 32 := 0#32
  let v1219 : BitVec 1 := Scalar.cmpi .ne v1218 c0_i32_765
  v1219

def k0_off141 (d0 : Dev nD) (v18 : BitVec 32) (arg15 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk45 (d0 : Dev nD) (v18 : BitVec 32) (arg14 : BitVec 32) (arg15 : BitVec 32) (v1153 : BitVec 32) (v1168 : BitVec 32) (v1183 : BitVec 32) (v1198 : BitVec 32) (v1213 : BitVec 32) : Prop :=
  (∀ (k0_h119 : k0_cond119 d0 v1213 = 1#1), 8 ∣ (k0_mult95 d0 arg14 v1153 v1168 v1183 v1198).toNat) ∧
  (∀ (k0_h119 : k0_cond119 d0 v1213 = 1#1), ∀ a, (k0_off140 d0 arg14 v1153 v1168 v1183 v1198) a + S8x128.size a ≤ S17408x128.size a) ∧
  (∀ (k0_h120 : k0_cond120 d0 v1213 = 1#1), 8 ∣ (k0_mult96 d0 v18 arg15 v1153 v1168 v1183 v1198).toNat) ∧
  (∀ (k0_h120 : k0_cond120 d0 v1213 = 1#1), ∀ a, (k0_off141 d0 v18 arg15 v1153 v1168 v1183 v1198) a + S8x128.size a ≤ S16384x128.size a)
theorem k0_mult95_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw45 : k0_chk45 d0 v18 arg14 arg15 v1153 v1168 v1183 v1198 v1213), ∀ (k0_h119 : k0_cond119 d0 v1213 = 1#1), 8 ∣ (k0_mult95 d0 arg14 v1153 v1168 v1183 v1198).toNat := fun d0 v18 arg14 arg15 v1153 v1168 v1183 v1198 v1213 k0_hw45 k0_h119 => k0_hw45.1 k0_h119
theorem k0_off140_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw45 : k0_chk45 d0 v18 arg14 arg15 v1153 v1168 v1183 v1198 v1213), ∀ (k0_h119 : k0_cond119 d0 v1213 = 1#1), ∀ a, (k0_off140 d0 arg14 v1153 v1168 v1183 v1198) a + S8x128.size a ≤ S17408x128.size a := fun d0 v18 arg14 arg15 v1153 v1168 v1183 v1198 v1213 k0_hw45 k0_h119 => k0_hw45.2.1 k0_h119
theorem k0_mult96_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw45 : k0_chk45 d0 v18 arg14 arg15 v1153 v1168 v1183 v1198 v1213), ∀ (k0_h120 : k0_cond120 d0 v1213 = 1#1), 8 ∣ (k0_mult96 d0 v18 arg15 v1153 v1168 v1183 v1198).toNat := fun d0 v18 arg14 arg15 v1153 v1168 v1183 v1198 v1213 k0_hw45 k0_h120 => k0_hw45.2.2.1 k0_h120
theorem k0_off141_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw45 : k0_chk45 d0 v18 arg14 arg15 v1153 v1168 v1183 v1198 v1213), ∀ (k0_h120 : k0_cond120 d0 v1213 = 1#1), ∀ a, (k0_off141 d0 v18 arg15 v1153 v1168 v1183 v1198) a + S8x128.size a ≤ S16384x128.size a := fun d0 v18 arg14 arg15 v1153 v1168 v1183 v1198 v1213 k0_hw45 k0_h120 => k0_hw45.2.2.2 k0_h120

def k0_off142 (k0_t6 : Fin k0_t6_loop.trips) : Fin 2 → Nat :=
  let c5_769 : Index := 5#32
  let c0_i32_120 : BitVec 32 := 0#32
  let c1_i32_122 : BitVec 32 := 1#32
  let arg13 : BitVec 32 := Scf.iv c0_i32_120 c1_i32_122 k0_t6
  let c8_i32_767 : BitVec 32 := 8#32
  let v1225 : BitVec 32 := Scalar.muli arg13 c8_i32_767
  let c5_i32_768 : BitVec 32 := 5#32
  let v1226 : BitVec 32 := Scalar.addi v1225 c5_i32_768
  let v1227 : Index := Scalar.indexCast v1226
  ![5, v1227.toNat]
def k0_mult97 (d0 : Dev nD) (arg14 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  v1269
def k0_cond121 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let v1230 : BitVec 32 := Scalar.extui v1229
  let c0_i32_770 : BitVec 32 := 0#32
  let v1231 : BitVec 1 := Scalar.cmpi .ne v1230 c0_i32_770
  v1231

def k0_off143 (d0 : Dev nD) (arg14 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  let v1270 : BitVec 32 := v1269
  let v1271 : Index := Scalar.indexCast v1270
  let c0_789 : Index := 0#32
  ![v1271.toNat, 0]
def k0_mult98 (d0 : Dev nD) (v18 : BitVec 32) (arg15 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  v1270
def k0_cond122 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let true_771 : BitVec 1 := 1#1
  let v1232 : BitVec 1 := Scalar.xori v1229 true_771
  let v1233 : BitVec 32 := Scalar.extui v1232
  let c0_i32_772 : BitVec 32 := 0#32
  let v1234 : BitVec 1 := Scalar.cmpi .ne v1233 c0_i32_772
  v1234

def k0_off144 (d0 : Dev nD) (v18 : BitVec 32) (arg15 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk46 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) : Prop :=
  (∀ (k0_h121 : k0_cond121 d0 v1228 = 1#1), 8 ∣ (k0_mult97 d0 arg14 v1153 v1168 v1183 v1198 v1213).toNat) ∧
  (∀ (k0_h121 : k0_cond121 d0 v1228 = 1#1), ∀ a, (k0_off143 d0 arg14 v1153 v1168 v1183 v1198 v1213) a + S8x128.size a ≤ S17408x128.size a) ∧
  (∀ (k0_h122 : k0_cond122 d0 v1228 = 1#1), 8 ∣ (k0_mult98 d0 v18 arg15 v1153 v1168 v1183 v1198 v1213).toNat) ∧
  (∀ (k0_h122 : k0_cond122 d0 v1228 = 1#1), ∀ a, (k0_off144 d0 v18 arg15 v1153 v1168 v1183 v1198 v1213) a + S8x128.size a ≤ S16384x128.size a)
theorem k0_mult97_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw46 : k0_chk46 d0 v18 arg14 arg15 v1153 v1168 v1183 v1198 v1213 v1228), ∀ (k0_h121 : k0_cond121 d0 v1228 = 1#1), 8 ∣ (k0_mult97 d0 arg14 v1153 v1168 v1183 v1198 v1213).toNat := fun d0 v18 arg14 arg15 v1153 v1168 v1183 v1198 v1213 v1228 k0_hw46 k0_h121 => k0_hw46.1 k0_h121
theorem k0_off143_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw46 : k0_chk46 d0 v18 arg14 arg15 v1153 v1168 v1183 v1198 v1213 v1228), ∀ (k0_h121 : k0_cond121 d0 v1228 = 1#1), ∀ a, (k0_off143 d0 arg14 v1153 v1168 v1183 v1198 v1213) a + S8x128.size a ≤ S17408x128.size a := fun d0 v18 arg14 arg15 v1153 v1168 v1183 v1198 v1213 v1228 k0_hw46 k0_h121 => k0_hw46.2.1 k0_h121
theorem k0_mult98_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw46 : k0_chk46 d0 v18 arg14 arg15 v1153 v1168 v1183 v1198 v1213 v1228), ∀ (k0_h122 : k0_cond122 d0 v1228 = 1#1), 8 ∣ (k0_mult98 d0 v18 arg15 v1153 v1168 v1183 v1198 v1213).toNat := fun d0 v18 arg14 arg15 v1153 v1168 v1183 v1198 v1213 v1228 k0_hw46 k0_h122 => k0_hw46.2.2.1 k0_h122
theorem k0_off144_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw46 : k0_chk46 d0 v18 arg14 arg15 v1153 v1168 v1183 v1198 v1213 v1228), ∀ (k0_h122 : k0_cond122 d0 v1228 = 1#1), ∀ a, (k0_off144 d0 v18 arg15 v1153 v1168 v1183 v1198 v1213) a + S8x128.size a ≤ S16384x128.size a := fun d0 v18 arg14 arg15 v1153 v1168 v1183 v1198 v1213 v1228 k0_hw46 k0_h122 => k0_hw46.2.2.2 k0_h122

def k0_off145 (k0_t6 : Fin k0_t6_loop.trips) : Fin 2 → Nat :=
  let c5_776 : Index := 5#32
  let c0_i32_120 : BitVec 32 := 0#32
  let c1_i32_122 : BitVec 32 := 1#32
  let arg13 : BitVec 32 := Scf.iv c0_i32_120 c1_i32_122 k0_t6
  let c8_i32_774 : BitVec 32 := 8#32
  let v1240 : BitVec 32 := Scalar.muli arg13 c8_i32_774
  let c6_i32_775 : BitVec 32 := 6#32
  let v1241 : BitVec 32 := Scalar.addi v1240 c6_i32_775
  let v1242 : Index := Scalar.indexCast v1241
  ![5, v1242.toNat]
def k0_mult99 (d0 : Dev nD) (arg14 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  v1269
def k0_cond123 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let v1245 : BitVec 32 := Scalar.extui v1244
  let c0_i32_777 : BitVec 32 := 0#32
  let v1246 : BitVec 1 := Scalar.cmpi .ne v1245 c0_i32_777
  v1246

def k0_off146 (d0 : Dev nD) (arg14 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  let v1270 : BitVec 32 := v1269
  let v1271 : Index := Scalar.indexCast v1270
  let c0_789 : Index := 0#32
  ![v1271.toNat, 0]
def k0_mult100 (d0 : Dev nD) (v18 : BitVec 32) (arg15 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  v1270
def k0_cond124 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let true_778 : BitVec 1 := 1#1
  let v1247 : BitVec 1 := Scalar.xori v1244 true_778
  let v1248 : BitVec 32 := Scalar.extui v1247
  let c0_i32_779 : BitVec 32 := 0#32
  let v1249 : BitVec 1 := Scalar.cmpi .ne v1248 c0_i32_779
  v1249

def k0_off147 (d0 : Dev nD) (v18 : BitVec 32) (arg15 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk47 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) : Prop :=
  (∀ (k0_h123 : k0_cond123 d0 v1243 = 1#1), 8 ∣ (k0_mult99 d0 arg14 v1153 v1168 v1183 v1198 v1213 v1228).toNat) ∧
  (∀ (k0_h123 : k0_cond123 d0 v1243 = 1#1), ∀ a, (k0_off146 d0 arg14 v1153 v1168 v1183 v1198 v1213 v1228) a + S8x128.size a ≤ S17408x128.size a) ∧
  (∀ (k0_h124 : k0_cond124 d0 v1243 = 1#1), 8 ∣ (k0_mult100 d0 v18 arg15 v1153 v1168 v1183 v1198 v1213 v1228).toNat) ∧
  (∀ (k0_h124 : k0_cond124 d0 v1243 = 1#1), ∀ a, (k0_off147 d0 v18 arg15 v1153 v1168 v1183 v1198 v1213 v1228) a + S8x128.size a ≤ S16384x128.size a)
theorem k0_mult99_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw47 : k0_chk47 d0 v18 arg14 arg15 v1153 v1168 v1183 v1198 v1213 v1228 v1243), ∀ (k0_h123 : k0_cond123 d0 v1243 = 1#1), 8 ∣ (k0_mult99 d0 arg14 v1153 v1168 v1183 v1198 v1213 v1228).toNat := fun d0 v18 arg14 arg15 v1153 v1168 v1183 v1198 v1213 v1228 v1243 k0_hw47 k0_h123 => k0_hw47.1 k0_h123
theorem k0_off146_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw47 : k0_chk47 d0 v18 arg14 arg15 v1153 v1168 v1183 v1198 v1213 v1228 v1243), ∀ (k0_h123 : k0_cond123 d0 v1243 = 1#1), ∀ a, (k0_off146 d0 arg14 v1153 v1168 v1183 v1198 v1213 v1228) a + S8x128.size a ≤ S17408x128.size a := fun d0 v18 arg14 arg15 v1153 v1168 v1183 v1198 v1213 v1228 v1243 k0_hw47 k0_h123 => k0_hw47.2.1 k0_h123
theorem k0_mult100_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw47 : k0_chk47 d0 v18 arg14 arg15 v1153 v1168 v1183 v1198 v1213 v1228 v1243), ∀ (k0_h124 : k0_cond124 d0 v1243 = 1#1), 8 ∣ (k0_mult100 d0 v18 arg15 v1153 v1168 v1183 v1198 v1213 v1228).toNat := fun d0 v18 arg14 arg15 v1153 v1168 v1183 v1198 v1213 v1228 v1243 k0_hw47 k0_h124 => k0_hw47.2.2.1 k0_h124
theorem k0_off147_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw47 : k0_chk47 d0 v18 arg14 arg15 v1153 v1168 v1183 v1198 v1213 v1228 v1243), ∀ (k0_h124 : k0_cond124 d0 v1243 = 1#1), ∀ a, (k0_off147 d0 v18 arg15 v1153 v1168 v1183 v1198 v1213 v1228) a + S8x128.size a ≤ S16384x128.size a := fun d0 v18 arg14 arg15 v1153 v1168 v1183 v1198 v1213 v1228 v1243 k0_hw47 k0_h124 => k0_hw47.2.2.2 k0_h124

def k0_off148 (k0_t6 : Fin k0_t6_loop.trips) : Fin 2 → Nat :=
  let c5_783 : Index := 5#32
  let c0_i32_120 : BitVec 32 := 0#32
  let c1_i32_122 : BitVec 32 := 1#32
  let arg13 : BitVec 32 := Scf.iv c0_i32_120 c1_i32_122 k0_t6
  let c8_i32_781 : BitVec 32 := 8#32
  let v1255 : BitVec 32 := Scalar.muli arg13 c8_i32_781
  let c7_i32_782 : BitVec 32 := 7#32
  let v1256 : BitVec 32 := Scalar.addi v1255 c7_i32_782
  let v1257 : Index := Scalar.indexCast v1256
  ![5, v1257.toNat]
def k0_mult101 (d0 : Dev nD) (arg14 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  v1269
def k0_cond125 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let v1260 : BitVec 32 := Scalar.extui v1259
  let c0_i32_784 : BitVec 32 := 0#32
  let v1261 : BitVec 1 := Scalar.cmpi .ne v1260 c0_i32_784
  v1261

def k0_off149 (d0 : Dev nD) (arg14 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  let v1270 : BitVec 32 := v1269
  let v1271 : Index := Scalar.indexCast v1270
  let c0_789 : Index := 0#32
  ![v1271.toNat, 0]
def k0_mult102 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  v1270
def k0_cond126 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let true_785 : BitVec 1 := 1#1
  let v1262 : BitVec 1 := Scalar.xori v1259 true_785
  let v1263 : BitVec 32 := Scalar.extui v1262
  let c0_i32_786 : BitVec 32 := 0#32
  let v1264 : BitVec 1 := Scalar.cmpi .ne v1263 c0_i32_786
  v1264

def k0_off150 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk48 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) : Prop :=
  (∀ (k0_h125 : k0_cond125 d0 v1258 = 1#1), 8 ∣ (k0_mult101 d0 arg14 v1153 v1168 v1183 v1198 v1213 v1228 v1243).toNat) ∧
  (∀ (k0_h125 : k0_cond125 d0 v1258 = 1#1), ∀ a, (k0_off149 d0 arg14 v1153 v1168 v1183 v1198 v1213 v1228 v1243) a + S8x128.size a ≤ S17408x128.size a) ∧
  (∀ (k0_h126 : k0_cond126 d0 v1258 = 1#1), 8 ∣ (k0_mult102 d0 v18 arg15 v1153 v1168 v1183 v1198 v1213 v1228 v1243).toNat) ∧
  (∀ (k0_h126 : k0_cond126 d0 v1258 = 1#1), ∀ a, (k0_off150 d0 v18 arg15 v1153 v1168 v1183 v1198 v1213 v1228 v1243) a + S8x128.size a ≤ S16384x128.size a)
theorem k0_mult101_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw48 : k0_chk48 d0 v18 arg14 arg15 v1153 v1168 v1183 v1198 v1213 v1228 v1243 v1258), ∀ (k0_h125 : k0_cond125 d0 v1258 = 1#1), 8 ∣ (k0_mult101 d0 arg14 v1153 v1168 v1183 v1198 v1213 v1228 v1243).toNat := fun d0 v18 arg14 arg15 v1153 v1168 v1183 v1198 v1213 v1228 v1243 v1258 k0_hw48 k0_h125 => k0_hw48.1 k0_h125
theorem k0_off149_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw48 : k0_chk48 d0 v18 arg14 arg15 v1153 v1168 v1183 v1198 v1213 v1228 v1243 v1258), ∀ (k0_h125 : k0_cond125 d0 v1258 = 1#1), ∀ a, (k0_off149 d0 arg14 v1153 v1168 v1183 v1198 v1213 v1228 v1243) a + S8x128.size a ≤ S17408x128.size a := fun d0 v18 arg14 arg15 v1153 v1168 v1183 v1198 v1213 v1228 v1243 v1258 k0_hw48 k0_h125 => k0_hw48.2.1 k0_h125
theorem k0_mult102_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw48 : k0_chk48 d0 v18 arg14 arg15 v1153 v1168 v1183 v1198 v1213 v1228 v1243 v1258), ∀ (k0_h126 : k0_cond126 d0 v1258 = 1#1), 8 ∣ (k0_mult102 d0 v18 arg15 v1153 v1168 v1183 v1198 v1213 v1228 v1243).toNat := fun d0 v18 arg14 arg15 v1153 v1168 v1183 v1198 v1213 v1228 v1243 v1258 k0_hw48 k0_h126 => k0_hw48.2.2.1 k0_h126
theorem k0_off150_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw48 : k0_chk48 d0 v18 arg14 arg15 v1153 v1168 v1183 v1198 v1213 v1228 v1243 v1258), ∀ (k0_h126 : k0_cond126 d0 v1258 = 1#1), ∀ a, (k0_off150 d0 v18 arg15 v1153 v1168 v1183 v1198 v1213 v1228 v1243) a + S8x128.size a ≤ S16384x128.size a := fun d0 v18 arg14 arg15 v1153 v1168 v1183 v1198 v1213 v1228 v1243 v1258 k0_hw48 k0_h126 => k0_hw48.2.2.2 k0_h126

def k0_dev32 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1147 : BitVec 32 := Scalar.muli v9 c16_i32_736
  let v1148 : BitVec 32 := Scalar.addi c0_i32_737 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1149 : BitVec 32 := Scalar.muli v5 c4_i32_738
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1151 : BitVec 32 := Scalar.muli v8 c1_i32_739
  let v1152 : BitVec 32 := Scalar.addi v1150 v1151
  v1152.toNat
def k0_dev33 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev34 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev35 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev36 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev37 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev38 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev39 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev40 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
@[reducible] def k0_t7_loop : Scf.Loop 32 :=
  let c0_i32_150 : BitVec 32 := 0#32
  let c16_i32_151 : BitVec 32 := 16#32
  let v243 : BitVec 32 := Scalar.addi c0_i32_150 c16_i32_151
  let c1_i32_152 : BitVec 32 := 1#32
  ⟨c0_i32_150, v243, c1_i32_152⟩
def k0_mult103 (k0_t7 : Fin k0_t7_loop.trips) : BitVec 32 :=
  let c768_i32_731 : BitVec 32 := 768#32
  let c0_i32_150 : BitVec 32 := 0#32
  let c1_i32_152 : BitVec 32 := 1#32
  let arg13 : BitVec 32 := Scf.iv c0_i32_150 c1_i32_152 k0_t7
  let c8_i32_730 : BitVec 32 := 8#32
  let v1142 : BitVec 32 := Scalar.muli arg13 c8_i32_730
  let v1143 : BitVec 32 := Scalar.addi c768_i32_731 v1142
  v1143
def k0_off151 (k0_t7 : Fin k0_t7_loop.trips) : Fin 2 → Nat :=
  let c768_i32_731 : BitVec 32 := 768#32
  let c0_i32_150 : BitVec 32 := 0#32
  let c1_i32_152 : BitVec 32 := 1#32
  let arg13 : BitVec 32 := Scf.iv c0_i32_150 c1_i32_152 k0_t7
  let c8_i32_730 : BitVec 32 := 8#32
  let v1142 : BitVec 32 := Scalar.muli arg13 c8_i32_730
  let v1143 : BitVec 32 := Scalar.addi c768_i32_731 v1142
  let v1144 : BitVec 32 := v1143
  let v1145 : Index := Scalar.indexCast v1144
  let c0_732 : Index := 0#32
  ![v1145.toNat, 0]
def k0_off152 (k0_t7 : Fin k0_t7_loop.trips) : Fin 2 → Nat :=
  let c6 : Index := 6#32
  let c0_i32_150 : BitVec 32 := 0#32
  let c1_i32_152 : BitVec 32 := 1#32
  let arg13 : BitVec 32 := Scf.iv c0_i32_150 c1_i32_152 k0_t7
  let c8_i32_733 : BitVec 32 := 8#32
  let v1150 : BitVec 32 := Scalar.muli arg13 c8_i32_733
  let c0_i32_734 : BitVec 32 := 0#32
  let v1151 : BitVec 32 := Scalar.addi v1150 c0_i32_734
  let v1152 : Index := Scalar.indexCast v1151
  ![6, v1152.toNat]
def k0_mult104 (arg14 : BitVec 32) : BitVec 32 :=
  let c8_i32_788 : BitVec 32 := 8#32
  let v1269 : BitVec 32 := Scalar.muli arg14 c8_i32_788
  v1269
def k0_cond136 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1155 : BitVec 32 := Scalar.extui v1154
  let c0_i32_735 : BitVec 32 := 0#32
  let v1156 : BitVec 1 := Scalar.cmpi .ne v1155 c0_i32_735
  v1156

def k0_off153 (arg14 : BitVec 32) : Fin 2 → Nat :=
  let c8_i32_788 : BitVec 32 := 8#32
  let v1269 : BitVec 32 := Scalar.muli arg14 c8_i32_788
  let v1270 : BitVec 32 := v1269
  let v1271 : Index := Scalar.indexCast v1270
  let c0_789 : Index := 0#32
  ![v1271.toNat, 0]
def k0_mult105 (d0 : Dev nD) (v18 : BitVec 32) (arg15 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  v1270
def k0_cond137 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let true_736 : BitVec 1 := 1#1
  let v1157 : BitVec 1 := Scalar.xori v1154 true_736
  let v1158 : BitVec 32 := Scalar.extui v1157
  let c0_i32_737 : BitVec 32 := 0#32
  let v1159 : BitVec 1 := Scalar.cmpi .ne v1158 c0_i32_737
  v1159

def k0_off154 (d0 : Dev nD) (v18 : BitVec 32) (arg15 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk49 (d0 : Dev nD) (v18 : BitVec 32) (arg14 : BitVec 32) (arg15 : BitVec 32) (v1153 : BitVec 32) : Prop :=
  (∀ (k0_h136 : k0_cond136 d0 v1153 = 1#1), 8 ∣ (k0_mult104 arg14).toNat) ∧
  (∀ (k0_h136 : k0_cond136 d0 v1153 = 1#1), ∀ a, (k0_off153 arg14) a + S8x128.size a ≤ S17408x128.size a) ∧
  (∀ (k0_h137 : k0_cond137 d0 v1153 = 1#1), 8 ∣ (k0_mult105 d0 v18 arg15).toNat) ∧
  (∀ (k0_h137 : k0_cond137 d0 v1153 = 1#1), ∀ a, (k0_off154 d0 v18 arg15) a + S8x128.size a ≤ S16384x128.size a)
theorem k0_mult104_dvd : ∀ (d0 : Dev nD) (v18 : BitVec 32) (arg14 : BitVec 32) (arg15 : BitVec 32) (v1153 : BitVec 32) (k0_hw49 : k0_chk49 d0 v18 arg14 arg15 v1153), ∀ (k0_h136 : k0_cond136 d0 v1153 = 1#1), 8 ∣ (k0_mult104 arg14).toNat := fun d0 v18 arg14 arg15 v1153 k0_hw49 k0_h136 => k0_hw49.1 k0_h136
theorem k0_off153_inb : ∀ (d0 : Dev nD) (v18 : BitVec 32) (arg14 : BitVec 32) (arg15 : BitVec 32) (v1153 : BitVec 32) (k0_hw49 : k0_chk49 d0 v18 arg14 arg15 v1153), ∀ (k0_h136 : k0_cond136 d0 v1153 = 1#1), ∀ a, (k0_off153 arg14) a + S8x128.size a ≤ S17408x128.size a := fun d0 v18 arg14 arg15 v1153 k0_hw49 k0_h136 => k0_hw49.2.1 k0_h136
theorem k0_mult105_dvd : ∀ (d0 : Dev nD) (v18 : BitVec 32) (arg14 : BitVec 32) (arg15 : BitVec 32) (v1153 : BitVec 32) (k0_hw49 : k0_chk49 d0 v18 arg14 arg15 v1153), ∀ (k0_h137 : k0_cond137 d0 v1153 = 1#1), 8 ∣ (k0_mult105 d0 v18 arg15).toNat := fun d0 v18 arg14 arg15 v1153 k0_hw49 k0_h137 => k0_hw49.2.2.1 k0_h137
theorem k0_off154_inb : ∀ (d0 : Dev nD) (v18 : BitVec 32) (arg14 : BitVec 32) (arg15 : BitVec 32) (v1153 : BitVec 32) (k0_hw49 : k0_chk49 d0 v18 arg14 arg15 v1153), ∀ (k0_h137 : k0_cond137 d0 v1153 = 1#1), ∀ a, (k0_off154 d0 v18 arg15) a + S8x128.size a ≤ S16384x128.size a := fun d0 v18 arg14 arg15 v1153 k0_hw49 k0_h137 => k0_hw49.2.2.2 k0_h137

def k0_off155 (k0_t7 : Fin k0_t7_loop.trips) : Fin 2 → Nat :=
  let c6_741 : Index := 6#32
  let c0_i32_150 : BitVec 32 := 0#32
  let c1_i32_152 : BitVec 32 := 1#32
  let arg13 : BitVec 32 := Scf.iv c0_i32_150 c1_i32_152 k0_t7
  let c8_i32_739 : BitVec 32 := 8#32
  let v1165 : BitVec 32 := Scalar.muli arg13 c8_i32_739
  let c1_i32_740 : BitVec 32 := 1#32
  let v1166 : BitVec 32 := Scalar.addi v1165 c1_i32_740
  let v1167 : Index := Scalar.indexCast v1166
  ![6, v1167.toNat]
def k0_mult106 (d0 : Dev nD) (arg14 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  v1269
def k0_cond138 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let v1170 : BitVec 32 := Scalar.extui v1169
  let c0_i32_742 : BitVec 32 := 0#32
  let v1171 : BitVec 1 := Scalar.cmpi .ne v1170 c0_i32_742
  v1171

def k0_off156 (d0 : Dev nD) (arg14 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  let v1270 : BitVec 32 := v1269
  let v1271 : Index := Scalar.indexCast v1270
  let c0_789 : Index := 0#32
  ![v1271.toNat, 0]
def k0_mult107 (d0 : Dev nD) (v18 : BitVec 32) (arg15 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  v1270
def k0_cond139 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let true_743 : BitVec 1 := 1#1
  let v1172 : BitVec 1 := Scalar.xori v1169 true_743
  let v1173 : BitVec 32 := Scalar.extui v1172
  let c0_i32_744 : BitVec 32 := 0#32
  let v1174 : BitVec 1 := Scalar.cmpi .ne v1173 c0_i32_744
  v1174

def k0_off157 (d0 : Dev nD) (v18 : BitVec 32) (arg15 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk50 (d0 : Dev nD) (v18 : BitVec 32) (arg14 : BitVec 32) (arg15 : BitVec 32) (v1153 : BitVec 32) (v1168 : BitVec 32) : Prop :=
  (∀ (k0_h138 : k0_cond138 d0 v1168 = 1#1), 8 ∣ (k0_mult106 d0 arg14 v1153).toNat) ∧
  (∀ (k0_h138 : k0_cond138 d0 v1168 = 1#1), ∀ a, (k0_off156 d0 arg14 v1153) a + S8x128.size a ≤ S17408x128.size a) ∧
  (∀ (k0_h139 : k0_cond139 d0 v1168 = 1#1), 8 ∣ (k0_mult107 d0 v18 arg15 v1153).toNat) ∧
  (∀ (k0_h139 : k0_cond139 d0 v1168 = 1#1), ∀ a, (k0_off157 d0 v18 arg15 v1153) a + S8x128.size a ≤ S16384x128.size a)
theorem k0_mult106_dvd : ∀ (d0 : Dev nD) (v18 : BitVec 32) (arg14 : BitVec 32) (arg15 : BitVec 32) (v1153 : BitVec 32) (v1168 : BitVec 32) (k0_hw50 : k0_chk50 d0 v18 arg14 arg15 v1153 v1168), ∀ (k0_h138 : k0_cond138 d0 v1168 = 1#1), 8 ∣ (k0_mult106 d0 arg14 v1153).toNat := fun d0 v18 arg14 arg15 v1153 v1168 k0_hw50 k0_h138 => k0_hw50.1 k0_h138
theorem k0_off156_inb : ∀ (d0 : Dev nD) (v18 : BitVec 32) (arg14 : BitVec 32) (arg15 : BitVec 32) (v1153 : BitVec 32) (v1168 : BitVec 32) (k0_hw50 : k0_chk50 d0 v18 arg14 arg15 v1153 v1168), ∀ (k0_h138 : k0_cond138 d0 v1168 = 1#1), ∀ a, (k0_off156 d0 arg14 v1153) a + S8x128.size a ≤ S17408x128.size a := fun d0 v18 arg14 arg15 v1153 v1168 k0_hw50 k0_h138 => k0_hw50.2.1 k0_h138
theorem k0_mult107_dvd : ∀ (d0 : Dev nD) (v18 : BitVec 32) (arg14 : BitVec 32) (arg15 : BitVec 32) (v1153 : BitVec 32) (v1168 : BitVec 32) (k0_hw50 : k0_chk50 d0 v18 arg14 arg15 v1153 v1168), ∀ (k0_h139 : k0_cond139 d0 v1168 = 1#1), 8 ∣ (k0_mult107 d0 v18 arg15 v1153).toNat := fun d0 v18 arg14 arg15 v1153 v1168 k0_hw50 k0_h139 => k0_hw50.2.2.1 k0_h139
theorem k0_off157_inb : ∀ (d0 : Dev nD) (v18 : BitVec 32) (arg14 : BitVec 32) (arg15 : BitVec 32) (v1153 : BitVec 32) (v1168 : BitVec 32) (k0_hw50 : k0_chk50 d0 v18 arg14 arg15 v1153 v1168), ∀ (k0_h139 : k0_cond139 d0 v1168 = 1#1), ∀ a, (k0_off157 d0 v18 arg15 v1153) a + S8x128.size a ≤ S16384x128.size a := fun d0 v18 arg14 arg15 v1153 v1168 k0_hw50 k0_h139 => k0_hw50.2.2.2 k0_h139

def k0_off158 (k0_t7 : Fin k0_t7_loop.trips) : Fin 2 → Nat :=
  let c6_748 : Index := 6#32
  let c0_i32_150 : BitVec 32 := 0#32
  let c1_i32_152 : BitVec 32 := 1#32
  let arg13 : BitVec 32 := Scf.iv c0_i32_150 c1_i32_152 k0_t7
  let c8_i32_746 : BitVec 32 := 8#32
  let v1180 : BitVec 32 := Scalar.muli arg13 c8_i32_746
  let c2_i32_747 : BitVec 32 := 2#32
  let v1181 : BitVec 32 := Scalar.addi v1180 c2_i32_747
  let v1182 : Index := Scalar.indexCast v1181
  ![6, v1182.toNat]
def k0_mult108 (d0 : Dev nD) (arg14 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  v1269
def k0_cond140 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let v1185 : BitVec 32 := Scalar.extui v1184
  let c0_i32_749 : BitVec 32 := 0#32
  let v1186 : BitVec 1 := Scalar.cmpi .ne v1185 c0_i32_749
  v1186

def k0_off159 (d0 : Dev nD) (arg14 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  let v1270 : BitVec 32 := v1269
  let v1271 : Index := Scalar.indexCast v1270
  let c0_789 : Index := 0#32
  ![v1271.toNat, 0]
def k0_mult109 (d0 : Dev nD) (v18 : BitVec 32) (arg15 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  v1270
def k0_cond141 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let true_750 : BitVec 1 := 1#1
  let v1187 : BitVec 1 := Scalar.xori v1184 true_750
  let v1188 : BitVec 32 := Scalar.extui v1187
  let c0_i32_751 : BitVec 32 := 0#32
  let v1189 : BitVec 1 := Scalar.cmpi .ne v1188 c0_i32_751
  v1189

def k0_off160 (d0 : Dev nD) (v18 : BitVec 32) (arg15 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk51 (d0 : Dev nD) (v18 : BitVec 32) (arg14 : BitVec 32) (arg15 : BitVec 32) (v1153 : BitVec 32) (v1168 : BitVec 32) (v1183 : BitVec 32) : Prop :=
  (∀ (k0_h140 : k0_cond140 d0 v1183 = 1#1), 8 ∣ (k0_mult108 d0 arg14 v1153 v1168).toNat) ∧
  (∀ (k0_h140 : k0_cond140 d0 v1183 = 1#1), ∀ a, (k0_off159 d0 arg14 v1153 v1168) a + S8x128.size a ≤ S17408x128.size a) ∧
  (∀ (k0_h141 : k0_cond141 d0 v1183 = 1#1), 8 ∣ (k0_mult109 d0 v18 arg15 v1153 v1168).toNat) ∧
  (∀ (k0_h141 : k0_cond141 d0 v1183 = 1#1), ∀ a, (k0_off160 d0 v18 arg15 v1153 v1168) a + S8x128.size a ≤ S16384x128.size a)
theorem k0_mult108_dvd : ∀ (d0 : Dev nD) (v18 : BitVec 32) (arg14 : BitVec 32) (arg15 : BitVec 32) (v1153 : BitVec 32) (v1168 : BitVec 32) (v1183 : BitVec 32) (k0_hw51 : k0_chk51 d0 v18 arg14 arg15 v1153 v1168 v1183), ∀ (k0_h140 : k0_cond140 d0 v1183 = 1#1), 8 ∣ (k0_mult108 d0 arg14 v1153 v1168).toNat := fun d0 v18 arg14 arg15 v1153 v1168 v1183 k0_hw51 k0_h140 => k0_hw51.1 k0_h140
theorem k0_off159_inb : ∀ (d0 : Dev nD) (v18 : BitVec 32) (arg14 : BitVec 32) (arg15 : BitVec 32) (v1153 : BitVec 32) (v1168 : BitVec 32) (v1183 : BitVec 32) (k0_hw51 : k0_chk51 d0 v18 arg14 arg15 v1153 v1168 v1183), ∀ (k0_h140 : k0_cond140 d0 v1183 = 1#1), ∀ a, (k0_off159 d0 arg14 v1153 v1168) a + S8x128.size a ≤ S17408x128.size a := fun d0 v18 arg14 arg15 v1153 v1168 v1183 k0_hw51 k0_h140 => k0_hw51.2.1 k0_h140
theorem k0_mult109_dvd : ∀ (d0 : Dev nD) (v18 : BitVec 32) (arg14 : BitVec 32) (arg15 : BitVec 32) (v1153 : BitVec 32) (v1168 : BitVec 32) (v1183 : BitVec 32) (k0_hw51 : k0_chk51 d0 v18 arg14 arg15 v1153 v1168 v1183), ∀ (k0_h141 : k0_cond141 d0 v1183 = 1#1), 8 ∣ (k0_mult109 d0 v18 arg15 v1153 v1168).toNat := fun d0 v18 arg14 arg15 v1153 v1168 v1183 k0_hw51 k0_h141 => k0_hw51.2.2.1 k0_h141
theorem k0_off160_inb : ∀ (d0 : Dev nD) (v18 : BitVec 32) (arg14 : BitVec 32) (arg15 : BitVec 32) (v1153 : BitVec 32) (v1168 : BitVec 32) (v1183 : BitVec 32) (k0_hw51 : k0_chk51 d0 v18 arg14 arg15 v1153 v1168 v1183), ∀ (k0_h141 : k0_cond141 d0 v1183 = 1#1), ∀ a, (k0_off160 d0 v18 arg15 v1153 v1168) a + S8x128.size a ≤ S16384x128.size a := fun d0 v18 arg14 arg15 v1153 v1168 v1183 k0_hw51 k0_h141 => k0_hw51.2.2.2 k0_h141

def k0_off161 (k0_t7 : Fin k0_t7_loop.trips) : Fin 2 → Nat :=
  let c6_755 : Index := 6#32
  let c0_i32_150 : BitVec 32 := 0#32
  let c1_i32_152 : BitVec 32 := 1#32
  let arg13 : BitVec 32 := Scf.iv c0_i32_150 c1_i32_152 k0_t7
  let c8_i32_753 : BitVec 32 := 8#32
  let v1195 : BitVec 32 := Scalar.muli arg13 c8_i32_753
  let c3_i32_754 : BitVec 32 := 3#32
  let v1196 : BitVec 32 := Scalar.addi v1195 c3_i32_754
  let v1197 : Index := Scalar.indexCast v1196
  ![6, v1197.toNat]
def k0_mult110 (d0 : Dev nD) (arg14 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  v1269
def k0_cond142 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let v1200 : BitVec 32 := Scalar.extui v1199
  let c0_i32_756 : BitVec 32 := 0#32
  let v1201 : BitVec 1 := Scalar.cmpi .ne v1200 c0_i32_756
  v1201

def k0_off162 (d0 : Dev nD) (arg14 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  let v1270 : BitVec 32 := v1269
  let v1271 : Index := Scalar.indexCast v1270
  let c0_789 : Index := 0#32
  ![v1271.toNat, 0]
def k0_mult111 (d0 : Dev nD) (v18 : BitVec 32) (arg15 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  v1270
def k0_cond143 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let true_757 : BitVec 1 := 1#1
  let v1202 : BitVec 1 := Scalar.xori v1199 true_757
  let v1203 : BitVec 32 := Scalar.extui v1202
  let c0_i32_758 : BitVec 32 := 0#32
  let v1204 : BitVec 1 := Scalar.cmpi .ne v1203 c0_i32_758
  v1204

def k0_off163 (d0 : Dev nD) (v18 : BitVec 32) (arg15 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk52 (d0 : Dev nD) (v18 : BitVec 32) (arg14 : BitVec 32) (arg15 : BitVec 32) (v1153 : BitVec 32) (v1168 : BitVec 32) (v1183 : BitVec 32) (v1198 : BitVec 32) : Prop :=
  (∀ (k0_h142 : k0_cond142 d0 v1198 = 1#1), 8 ∣ (k0_mult110 d0 arg14 v1153 v1168 v1183).toNat) ∧
  (∀ (k0_h142 : k0_cond142 d0 v1198 = 1#1), ∀ a, (k0_off162 d0 arg14 v1153 v1168 v1183) a + S8x128.size a ≤ S17408x128.size a) ∧
  (∀ (k0_h143 : k0_cond143 d0 v1198 = 1#1), 8 ∣ (k0_mult111 d0 v18 arg15 v1153 v1168 v1183).toNat) ∧
  (∀ (k0_h143 : k0_cond143 d0 v1198 = 1#1), ∀ a, (k0_off163 d0 v18 arg15 v1153 v1168 v1183) a + S8x128.size a ≤ S16384x128.size a)
theorem k0_mult110_dvd : ∀ (d0 : Dev nD) (v18 : BitVec 32) (arg14 : BitVec 32) (arg15 : BitVec 32) (v1153 : BitVec 32) (v1168 : BitVec 32) (v1183 : BitVec 32) (v1198 : BitVec 32) (k0_hw52 : k0_chk52 d0 v18 arg14 arg15 v1153 v1168 v1183 v1198), ∀ (k0_h142 : k0_cond142 d0 v1198 = 1#1), 8 ∣ (k0_mult110 d0 arg14 v1153 v1168 v1183).toNat := fun d0 v18 arg14 arg15 v1153 v1168 v1183 v1198 k0_hw52 k0_h142 => k0_hw52.1 k0_h142
theorem k0_off162_inb : ∀ (d0 : Dev nD) (v18 : BitVec 32) (arg14 : BitVec 32) (arg15 : BitVec 32) (v1153 : BitVec 32) (v1168 : BitVec 32) (v1183 : BitVec 32) (v1198 : BitVec 32) (k0_hw52 : k0_chk52 d0 v18 arg14 arg15 v1153 v1168 v1183 v1198), ∀ (k0_h142 : k0_cond142 d0 v1198 = 1#1), ∀ a, (k0_off162 d0 arg14 v1153 v1168 v1183) a + S8x128.size a ≤ S17408x128.size a := fun d0 v18 arg14 arg15 v1153 v1168 v1183 v1198 k0_hw52 k0_h142 => k0_hw52.2.1 k0_h142
theorem k0_mult111_dvd : ∀ (d0 : Dev nD) (v18 : BitVec 32) (arg14 : BitVec 32) (arg15 : BitVec 32) (v1153 : BitVec 32) (v1168 : BitVec 32) (v1183 : BitVec 32) (v1198 : BitVec 32) (k0_hw52 : k0_chk52 d0 v18 arg14 arg15 v1153 v1168 v1183 v1198), ∀ (k0_h143 : k0_cond143 d0 v1198 = 1#1), 8 ∣ (k0_mult111 d0 v18 arg15 v1153 v1168 v1183).toNat := fun d0 v18 arg14 arg15 v1153 v1168 v1183 v1198 k0_hw52 k0_h143 => k0_hw52.2.2.1 k0_h143
theorem k0_off163_inb : ∀ (d0 : Dev nD) (v18 : BitVec 32) (arg14 : BitVec 32) (arg15 : BitVec 32) (v1153 : BitVec 32) (v1168 : BitVec 32) (v1183 : BitVec 32) (v1198 : BitVec 32) (k0_hw52 : k0_chk52 d0 v18 arg14 arg15 v1153 v1168 v1183 v1198), ∀ (k0_h143 : k0_cond143 d0 v1198 = 1#1), ∀ a, (k0_off163 d0 v18 arg15 v1153 v1168 v1183) a + S8x128.size a ≤ S16384x128.size a := fun d0 v18 arg14 arg15 v1153 v1168 v1183 v1198 k0_hw52 k0_h143 => k0_hw52.2.2.2 k0_h143

def k0_off164 (k0_t7 : Fin k0_t7_loop.trips) : Fin 2 → Nat :=
  let c6_762 : Index := 6#32
  let c0_i32_150 : BitVec 32 := 0#32
  let c1_i32_152 : BitVec 32 := 1#32
  let arg13 : BitVec 32 := Scf.iv c0_i32_150 c1_i32_152 k0_t7
  let c8_i32_760 : BitVec 32 := 8#32
  let v1210 : BitVec 32 := Scalar.muli arg13 c8_i32_760
  let c4_i32_761 : BitVec 32 := 4#32
  let v1211 : BitVec 32 := Scalar.addi v1210 c4_i32_761
  let v1212 : Index := Scalar.indexCast v1211
  ![6, v1212.toNat]
def k0_mult112 (d0 : Dev nD) (arg14 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  v1269
def k0_cond144 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let v1215 : BitVec 32 := Scalar.extui v1214
  let c0_i32_763 : BitVec 32 := 0#32
  let v1216 : BitVec 1 := Scalar.cmpi .ne v1215 c0_i32_763
  v1216

def k0_off165 (d0 : Dev nD) (arg14 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  let v1270 : BitVec 32 := v1269
  let v1271 : Index := Scalar.indexCast v1270
  let c0_789 : Index := 0#32
  ![v1271.toNat, 0]
def k0_mult113 (d0 : Dev nD) (v18 : BitVec 32) (arg15 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  v1270
def k0_cond145 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let true_764 : BitVec 1 := 1#1
  let v1217 : BitVec 1 := Scalar.xori v1214 true_764
  let v1218 : BitVec 32 := Scalar.extui v1217
  let c0_i32_765 : BitVec 32 := 0#32
  let v1219 : BitVec 1 := Scalar.cmpi .ne v1218 c0_i32_765
  v1219

def k0_off166 (d0 : Dev nD) (v18 : BitVec 32) (arg15 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk53 (d0 : Dev nD) (v18 : BitVec 32) (arg14 : BitVec 32) (arg15 : BitVec 32) (v1153 : BitVec 32) (v1168 : BitVec 32) (v1183 : BitVec 32) (v1198 : BitVec 32) (v1213 : BitVec 32) : Prop :=
  (∀ (k0_h144 : k0_cond144 d0 v1213 = 1#1), 8 ∣ (k0_mult112 d0 arg14 v1153 v1168 v1183 v1198).toNat) ∧
  (∀ (k0_h144 : k0_cond144 d0 v1213 = 1#1), ∀ a, (k0_off165 d0 arg14 v1153 v1168 v1183 v1198) a + S8x128.size a ≤ S17408x128.size a) ∧
  (∀ (k0_h145 : k0_cond145 d0 v1213 = 1#1), 8 ∣ (k0_mult113 d0 v18 arg15 v1153 v1168 v1183 v1198).toNat) ∧
  (∀ (k0_h145 : k0_cond145 d0 v1213 = 1#1), ∀ a, (k0_off166 d0 v18 arg15 v1153 v1168 v1183 v1198) a + S8x128.size a ≤ S16384x128.size a)
theorem k0_mult112_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw53 : k0_chk53 d0 v18 arg14 arg15 v1153 v1168 v1183 v1198 v1213), ∀ (k0_h144 : k0_cond144 d0 v1213 = 1#1), 8 ∣ (k0_mult112 d0 arg14 v1153 v1168 v1183 v1198).toNat := fun d0 v18 arg14 arg15 v1153 v1168 v1183 v1198 v1213 k0_hw53 k0_h144 => k0_hw53.1 k0_h144
theorem k0_off165_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw53 : k0_chk53 d0 v18 arg14 arg15 v1153 v1168 v1183 v1198 v1213), ∀ (k0_h144 : k0_cond144 d0 v1213 = 1#1), ∀ a, (k0_off165 d0 arg14 v1153 v1168 v1183 v1198) a + S8x128.size a ≤ S17408x128.size a := fun d0 v18 arg14 arg15 v1153 v1168 v1183 v1198 v1213 k0_hw53 k0_h144 => k0_hw53.2.1 k0_h144
theorem k0_mult113_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw53 : k0_chk53 d0 v18 arg14 arg15 v1153 v1168 v1183 v1198 v1213), ∀ (k0_h145 : k0_cond145 d0 v1213 = 1#1), 8 ∣ (k0_mult113 d0 v18 arg15 v1153 v1168 v1183 v1198).toNat := fun d0 v18 arg14 arg15 v1153 v1168 v1183 v1198 v1213 k0_hw53 k0_h145 => k0_hw53.2.2.1 k0_h145
theorem k0_off166_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw53 : k0_chk53 d0 v18 arg14 arg15 v1153 v1168 v1183 v1198 v1213), ∀ (k0_h145 : k0_cond145 d0 v1213 = 1#1), ∀ a, (k0_off166 d0 v18 arg15 v1153 v1168 v1183 v1198) a + S8x128.size a ≤ S16384x128.size a := fun d0 v18 arg14 arg15 v1153 v1168 v1183 v1198 v1213 k0_hw53 k0_h145 => k0_hw53.2.2.2 k0_h145

def k0_off167 (k0_t7 : Fin k0_t7_loop.trips) : Fin 2 → Nat :=
  let c6_769 : Index := 6#32
  let c0_i32_150 : BitVec 32 := 0#32
  let c1_i32_152 : BitVec 32 := 1#32
  let arg13 : BitVec 32 := Scf.iv c0_i32_150 c1_i32_152 k0_t7
  let c8_i32_767 : BitVec 32 := 8#32
  let v1225 : BitVec 32 := Scalar.muli arg13 c8_i32_767
  let c5_i32_768 : BitVec 32 := 5#32
  let v1226 : BitVec 32 := Scalar.addi v1225 c5_i32_768
  let v1227 : Index := Scalar.indexCast v1226
  ![6, v1227.toNat]
def k0_mult114 (d0 : Dev nD) (arg14 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  v1269
def k0_cond146 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let v1230 : BitVec 32 := Scalar.extui v1229
  let c0_i32_770 : BitVec 32 := 0#32
  let v1231 : BitVec 1 := Scalar.cmpi .ne v1230 c0_i32_770
  v1231

def k0_off168 (d0 : Dev nD) (arg14 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  let v1270 : BitVec 32 := v1269
  let v1271 : Index := Scalar.indexCast v1270
  let c0_789 : Index := 0#32
  ![v1271.toNat, 0]
def k0_mult115 (d0 : Dev nD) (v18 : BitVec 32) (arg15 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  v1270
def k0_cond147 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let true_771 : BitVec 1 := 1#1
  let v1232 : BitVec 1 := Scalar.xori v1229 true_771
  let v1233 : BitVec 32 := Scalar.extui v1232
  let c0_i32_772 : BitVec 32 := 0#32
  let v1234 : BitVec 1 := Scalar.cmpi .ne v1233 c0_i32_772
  v1234

def k0_off169 (d0 : Dev nD) (v18 : BitVec 32) (arg15 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk54 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) : Prop :=
  (∀ (k0_h146 : k0_cond146 d0 v1228 = 1#1), 8 ∣ (k0_mult114 d0 arg14 v1153 v1168 v1183 v1198 v1213).toNat) ∧
  (∀ (k0_h146 : k0_cond146 d0 v1228 = 1#1), ∀ a, (k0_off168 d0 arg14 v1153 v1168 v1183 v1198 v1213) a + S8x128.size a ≤ S17408x128.size a) ∧
  (∀ (k0_h147 : k0_cond147 d0 v1228 = 1#1), 8 ∣ (k0_mult115 d0 v18 arg15 v1153 v1168 v1183 v1198 v1213).toNat) ∧
  (∀ (k0_h147 : k0_cond147 d0 v1228 = 1#1), ∀ a, (k0_off169 d0 v18 arg15 v1153 v1168 v1183 v1198 v1213) a + S8x128.size a ≤ S16384x128.size a)
theorem k0_mult114_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw54 : k0_chk54 d0 v18 arg14 arg15 v1153 v1168 v1183 v1198 v1213 v1228), ∀ (k0_h146 : k0_cond146 d0 v1228 = 1#1), 8 ∣ (k0_mult114 d0 arg14 v1153 v1168 v1183 v1198 v1213).toNat := fun d0 v18 arg14 arg15 v1153 v1168 v1183 v1198 v1213 v1228 k0_hw54 k0_h146 => k0_hw54.1 k0_h146
theorem k0_off168_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw54 : k0_chk54 d0 v18 arg14 arg15 v1153 v1168 v1183 v1198 v1213 v1228), ∀ (k0_h146 : k0_cond146 d0 v1228 = 1#1), ∀ a, (k0_off168 d0 arg14 v1153 v1168 v1183 v1198 v1213) a + S8x128.size a ≤ S17408x128.size a := fun d0 v18 arg14 arg15 v1153 v1168 v1183 v1198 v1213 v1228 k0_hw54 k0_h146 => k0_hw54.2.1 k0_h146
theorem k0_mult115_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw54 : k0_chk54 d0 v18 arg14 arg15 v1153 v1168 v1183 v1198 v1213 v1228), ∀ (k0_h147 : k0_cond147 d0 v1228 = 1#1), 8 ∣ (k0_mult115 d0 v18 arg15 v1153 v1168 v1183 v1198 v1213).toNat := fun d0 v18 arg14 arg15 v1153 v1168 v1183 v1198 v1213 v1228 k0_hw54 k0_h147 => k0_hw54.2.2.1 k0_h147
theorem k0_off169_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw54 : k0_chk54 d0 v18 arg14 arg15 v1153 v1168 v1183 v1198 v1213 v1228), ∀ (k0_h147 : k0_cond147 d0 v1228 = 1#1), ∀ a, (k0_off169 d0 v18 arg15 v1153 v1168 v1183 v1198 v1213) a + S8x128.size a ≤ S16384x128.size a := fun d0 v18 arg14 arg15 v1153 v1168 v1183 v1198 v1213 v1228 k0_hw54 k0_h147 => k0_hw54.2.2.2 k0_h147

def k0_off170 (k0_t7 : Fin k0_t7_loop.trips) : Fin 2 → Nat :=
  let c6_776 : Index := 6#32
  let c0_i32_150 : BitVec 32 := 0#32
  let c1_i32_152 : BitVec 32 := 1#32
  let arg13 : BitVec 32 := Scf.iv c0_i32_150 c1_i32_152 k0_t7
  let c8_i32_774 : BitVec 32 := 8#32
  let v1240 : BitVec 32 := Scalar.muli arg13 c8_i32_774
  let c6_i32_775 : BitVec 32 := 6#32
  let v1241 : BitVec 32 := Scalar.addi v1240 c6_i32_775
  let v1242 : Index := Scalar.indexCast v1241
  ![6, v1242.toNat]
def k0_mult116 (d0 : Dev nD) (arg14 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  v1269
def k0_cond148 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let v1245 : BitVec 32 := Scalar.extui v1244
  let c0_i32_777 : BitVec 32 := 0#32
  let v1246 : BitVec 1 := Scalar.cmpi .ne v1245 c0_i32_777
  v1246

def k0_off171 (d0 : Dev nD) (arg14 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  let v1270 : BitVec 32 := v1269
  let v1271 : Index := Scalar.indexCast v1270
  let c0_789 : Index := 0#32
  ![v1271.toNat, 0]
def k0_mult117 (d0 : Dev nD) (v18 : BitVec 32) (arg15 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  v1270
def k0_cond149 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let true_778 : BitVec 1 := 1#1
  let v1247 : BitVec 1 := Scalar.xori v1244 true_778
  let v1248 : BitVec 32 := Scalar.extui v1247
  let c0_i32_779 : BitVec 32 := 0#32
  let v1249 : BitVec 1 := Scalar.cmpi .ne v1248 c0_i32_779
  v1249

def k0_off172 (d0 : Dev nD) (v18 : BitVec 32) (arg15 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk55 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) : Prop :=
  (∀ (k0_h148 : k0_cond148 d0 v1243 = 1#1), 8 ∣ (k0_mult116 d0 arg14 v1153 v1168 v1183 v1198 v1213 v1228).toNat) ∧
  (∀ (k0_h148 : k0_cond148 d0 v1243 = 1#1), ∀ a, (k0_off171 d0 arg14 v1153 v1168 v1183 v1198 v1213 v1228) a + S8x128.size a ≤ S17408x128.size a) ∧
  (∀ (k0_h149 : k0_cond149 d0 v1243 = 1#1), 8 ∣ (k0_mult117 d0 v18 arg15 v1153 v1168 v1183 v1198 v1213 v1228).toNat) ∧
  (∀ (k0_h149 : k0_cond149 d0 v1243 = 1#1), ∀ a, (k0_off172 d0 v18 arg15 v1153 v1168 v1183 v1198 v1213 v1228) a + S8x128.size a ≤ S16384x128.size a)
theorem k0_mult116_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw55 : k0_chk55 d0 v18 arg14 arg15 v1153 v1168 v1183 v1198 v1213 v1228 v1243), ∀ (k0_h148 : k0_cond148 d0 v1243 = 1#1), 8 ∣ (k0_mult116 d0 arg14 v1153 v1168 v1183 v1198 v1213 v1228).toNat := fun d0 v18 arg14 arg15 v1153 v1168 v1183 v1198 v1213 v1228 v1243 k0_hw55 k0_h148 => k0_hw55.1 k0_h148
theorem k0_off171_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw55 : k0_chk55 d0 v18 arg14 arg15 v1153 v1168 v1183 v1198 v1213 v1228 v1243), ∀ (k0_h148 : k0_cond148 d0 v1243 = 1#1), ∀ a, (k0_off171 d0 arg14 v1153 v1168 v1183 v1198 v1213 v1228) a + S8x128.size a ≤ S17408x128.size a := fun d0 v18 arg14 arg15 v1153 v1168 v1183 v1198 v1213 v1228 v1243 k0_hw55 k0_h148 => k0_hw55.2.1 k0_h148
theorem k0_mult117_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw55 : k0_chk55 d0 v18 arg14 arg15 v1153 v1168 v1183 v1198 v1213 v1228 v1243), ∀ (k0_h149 : k0_cond149 d0 v1243 = 1#1), 8 ∣ (k0_mult117 d0 v18 arg15 v1153 v1168 v1183 v1198 v1213 v1228).toNat := fun d0 v18 arg14 arg15 v1153 v1168 v1183 v1198 v1213 v1228 v1243 k0_hw55 k0_h149 => k0_hw55.2.2.1 k0_h149
theorem k0_off172_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw55 : k0_chk55 d0 v18 arg14 arg15 v1153 v1168 v1183 v1198 v1213 v1228 v1243), ∀ (k0_h149 : k0_cond149 d0 v1243 = 1#1), ∀ a, (k0_off172 d0 v18 arg15 v1153 v1168 v1183 v1198 v1213 v1228) a + S8x128.size a ≤ S16384x128.size a := fun d0 v18 arg14 arg15 v1153 v1168 v1183 v1198 v1213 v1228 v1243 k0_hw55 k0_h149 => k0_hw55.2.2.2 k0_h149

def k0_off173 (k0_t7 : Fin k0_t7_loop.trips) : Fin 2 → Nat :=
  let c6_783 : Index := 6#32
  let c0_i32_150 : BitVec 32 := 0#32
  let c1_i32_152 : BitVec 32 := 1#32
  let arg13 : BitVec 32 := Scf.iv c0_i32_150 c1_i32_152 k0_t7
  let c8_i32_781 : BitVec 32 := 8#32
  let v1255 : BitVec 32 := Scalar.muli arg13 c8_i32_781
  let c7_i32_782 : BitVec 32 := 7#32
  let v1256 : BitVec 32 := Scalar.addi v1255 c7_i32_782
  let v1257 : Index := Scalar.indexCast v1256
  ![6, v1257.toNat]
def k0_mult118 (d0 : Dev nD) (arg14 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  v1269
def k0_cond150 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let v1260 : BitVec 32 := Scalar.extui v1259
  let c0_i32_784 : BitVec 32 := 0#32
  let v1261 : BitVec 1 := Scalar.cmpi .ne v1260 c0_i32_784
  v1261

def k0_off174 (d0 : Dev nD) (arg14 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  let v1270 : BitVec 32 := v1269
  let v1271 : Index := Scalar.indexCast v1270
  let c0_789 : Index := 0#32
  ![v1271.toNat, 0]
def k0_mult119 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  v1270
def k0_cond151 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let true_785 : BitVec 1 := 1#1
  let v1262 : BitVec 1 := Scalar.xori v1259 true_785
  let v1263 : BitVec 32 := Scalar.extui v1262
  let c0_i32_786 : BitVec 32 := 0#32
  let v1264 : BitVec 1 := Scalar.cmpi .ne v1263 c0_i32_786
  v1264

def k0_off175 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk56 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) : Prop :=
  (∀ (k0_h150 : k0_cond150 d0 v1258 = 1#1), 8 ∣ (k0_mult118 d0 arg14 v1153 v1168 v1183 v1198 v1213 v1228 v1243).toNat) ∧
  (∀ (k0_h150 : k0_cond150 d0 v1258 = 1#1), ∀ a, (k0_off174 d0 arg14 v1153 v1168 v1183 v1198 v1213 v1228 v1243) a + S8x128.size a ≤ S17408x128.size a) ∧
  (∀ (k0_h151 : k0_cond151 d0 v1258 = 1#1), 8 ∣ (k0_mult119 d0 v18 arg15 v1153 v1168 v1183 v1198 v1213 v1228 v1243).toNat) ∧
  (∀ (k0_h151 : k0_cond151 d0 v1258 = 1#1), ∀ a, (k0_off175 d0 v18 arg15 v1153 v1168 v1183 v1198 v1213 v1228 v1243) a + S8x128.size a ≤ S16384x128.size a)
theorem k0_mult118_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw56 : k0_chk56 d0 v18 arg14 arg15 v1153 v1168 v1183 v1198 v1213 v1228 v1243 v1258), ∀ (k0_h150 : k0_cond150 d0 v1258 = 1#1), 8 ∣ (k0_mult118 d0 arg14 v1153 v1168 v1183 v1198 v1213 v1228 v1243).toNat := fun d0 v18 arg14 arg15 v1153 v1168 v1183 v1198 v1213 v1228 v1243 v1258 k0_hw56 k0_h150 => k0_hw56.1 k0_h150
theorem k0_off174_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw56 : k0_chk56 d0 v18 arg14 arg15 v1153 v1168 v1183 v1198 v1213 v1228 v1243 v1258), ∀ (k0_h150 : k0_cond150 d0 v1258 = 1#1), ∀ a, (k0_off174 d0 arg14 v1153 v1168 v1183 v1198 v1213 v1228 v1243) a + S8x128.size a ≤ S17408x128.size a := fun d0 v18 arg14 arg15 v1153 v1168 v1183 v1198 v1213 v1228 v1243 v1258 k0_hw56 k0_h150 => k0_hw56.2.1 k0_h150
theorem k0_mult119_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw56 : k0_chk56 d0 v18 arg14 arg15 v1153 v1168 v1183 v1198 v1213 v1228 v1243 v1258), ∀ (k0_h151 : k0_cond151 d0 v1258 = 1#1), 8 ∣ (k0_mult119 d0 v18 arg15 v1153 v1168 v1183 v1198 v1213 v1228 v1243).toNat := fun d0 v18 arg14 arg15 v1153 v1168 v1183 v1198 v1213 v1228 v1243 v1258 k0_hw56 k0_h151 => k0_hw56.2.2.1 k0_h151
theorem k0_off175_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw56 : k0_chk56 d0 v18 arg14 arg15 v1153 v1168 v1183 v1198 v1213 v1228 v1243 v1258), ∀ (k0_h151 : k0_cond151 d0 v1258 = 1#1), ∀ a, (k0_off175 d0 v18 arg15 v1153 v1168 v1183 v1198 v1213 v1228 v1243) a + S8x128.size a ≤ S16384x128.size a := fun d0 v18 arg14 arg15 v1153 v1168 v1183 v1198 v1213 v1228 v1243 v1258 k0_hw56 k0_h151 => k0_hw56.2.2.2 k0_h151

def k0_dev41 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1147 : BitVec 32 := Scalar.muli v9 c16_i32_736
  let v1148 : BitVec 32 := Scalar.addi c0_i32_737 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1149 : BitVec 32 := Scalar.muli v5 c4_i32_738
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1151 : BitVec 32 := Scalar.muli v8 c1_i32_739
  let v1152 : BitVec 32 := Scalar.addi v1150 v1151
  v1152.toNat
def k0_dev42 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev43 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev44 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev45 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev46 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev47 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev48 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev49 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev50 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
@[reducible] def k0_t8_loop : Scf.Loop 32 :=
  let c0_i32_183 : BitVec 32 := 0#32
  let c16_i32_184 : BitVec 32 := 16#32
  let v295 : BitVec 32 := Scalar.addi c0_i32_183 c16_i32_184
  let c1_i32_185 : BitVec 32 := 1#32
  ⟨c0_i32_183, v295, c1_i32_185⟩
def k0_mult120 (k0_t8 : Fin k0_t8_loop.trips) : BitVec 32 :=
  let c896_i32_731 : BitVec 32 := 896#32
  let c0_i32_183 : BitVec 32 := 0#32
  let c1_i32_185 : BitVec 32 := 1#32
  let arg13 : BitVec 32 := Scf.iv c0_i32_183 c1_i32_185 k0_t8
  let c8_i32_730 : BitVec 32 := 8#32
  let v1142 : BitVec 32 := Scalar.muli arg13 c8_i32_730
  let v1143 : BitVec 32 := Scalar.addi c896_i32_731 v1142
  v1143
def k0_off176 (k0_t8 : Fin k0_t8_loop.trips) : Fin 2 → Nat :=
  let c896_i32_731 : BitVec 32 := 896#32
  let c0_i32_183 : BitVec 32 := 0#32
  let c1_i32_185 : BitVec 32 := 1#32
  let arg13 : BitVec 32 := Scf.iv c0_i32_183 c1_i32_185 k0_t8
  let c8_i32_730 : BitVec 32 := 8#32
  let v1142 : BitVec 32 := Scalar.muli arg13 c8_i32_730
  let v1143 : BitVec 32 := Scalar.addi c896_i32_731 v1142
  let v1144 : BitVec 32 := v1143
  let v1145 : Index := Scalar.indexCast v1144
  let c0_732 : Index := 0#32
  ![v1145.toNat, 0]
def k0_off177 (k0_t8 : Fin k0_t8_loop.trips) : Fin 2 → Nat :=
  let c7 : Index := 7#32
  let c0_i32_183 : BitVec 32 := 0#32
  let c1_i32_185 : BitVec 32 := 1#32
  let arg13 : BitVec 32 := Scf.iv c0_i32_183 c1_i32_185 k0_t8
  let c8_i32_733 : BitVec 32 := 8#32
  let v1150 : BitVec 32 := Scalar.muli arg13 c8_i32_733
  let c0_i32_734 : BitVec 32 := 0#32
  let v1151 : BitVec 32 := Scalar.addi v1150 c0_i32_734
  let v1152 : Index := Scalar.indexCast v1151
  ![7, v1152.toNat]
def k0_mult121 (arg14 : BitVec 32) : BitVec 32 :=
  let c8_i32_788 : BitVec 32 := 8#32
  let v1269 : BitVec 32 := Scalar.muli arg14 c8_i32_788
  v1269
def k0_cond162 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1155 : BitVec 32 := Scalar.extui v1154
  let c0_i32_735 : BitVec 32 := 0#32
  let v1156 : BitVec 1 := Scalar.cmpi .ne v1155 c0_i32_735
  v1156

def k0_off178 (arg14 : BitVec 32) : Fin 2 → Nat :=
  let c8_i32_788 : BitVec 32 := 8#32
  let v1269 : BitVec 32 := Scalar.muli arg14 c8_i32_788
  let v1270 : BitVec 32 := v1269
  let v1271 : Index := Scalar.indexCast v1270
  let c0_789 : Index := 0#32
  ![v1271.toNat, 0]
def k0_mult122 (d0 : Dev nD) (v18 : BitVec 32) (arg15 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  v1270
def k0_cond163 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let true_736 : BitVec 1 := 1#1
  let v1157 : BitVec 1 := Scalar.xori v1154 true_736
  let v1158 : BitVec 32 := Scalar.extui v1157
  let c0_i32_737 : BitVec 32 := 0#32
  let v1159 : BitVec 1 := Scalar.cmpi .ne v1158 c0_i32_737
  v1159

def k0_off179 (d0 : Dev nD) (v18 : BitVec 32) (arg15 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk57 (d0 : Dev nD) (v18 : BitVec 32) (arg14 : BitVec 32) (arg15 : BitVec 32) (v1153 : BitVec 32) : Prop :=
  (∀ (k0_h162 : k0_cond162 d0 v1153 = 1#1), 8 ∣ (k0_mult121 arg14).toNat) ∧
  (∀ (k0_h162 : k0_cond162 d0 v1153 = 1#1), ∀ a, (k0_off178 arg14) a + S8x128.size a ≤ S17408x128.size a) ∧
  (∀ (k0_h163 : k0_cond163 d0 v1153 = 1#1), 8 ∣ (k0_mult122 d0 v18 arg15).toNat) ∧
  (∀ (k0_h163 : k0_cond163 d0 v1153 = 1#1), ∀ a, (k0_off179 d0 v18 arg15) a + S8x128.size a ≤ S16384x128.size a)
theorem k0_mult121_dvd : ∀ (d0 : Dev nD) (v18 : BitVec 32) (arg14 : BitVec 32) (arg15 : BitVec 32) (v1153 : BitVec 32) (k0_hw57 : k0_chk57 d0 v18 arg14 arg15 v1153), ∀ (k0_h162 : k0_cond162 d0 v1153 = 1#1), 8 ∣ (k0_mult121 arg14).toNat := fun d0 v18 arg14 arg15 v1153 k0_hw57 k0_h162 => k0_hw57.1 k0_h162
theorem k0_off178_inb : ∀ (d0 : Dev nD) (v18 : BitVec 32) (arg14 : BitVec 32) (arg15 : BitVec 32) (v1153 : BitVec 32) (k0_hw57 : k0_chk57 d0 v18 arg14 arg15 v1153), ∀ (k0_h162 : k0_cond162 d0 v1153 = 1#1), ∀ a, (k0_off178 arg14) a + S8x128.size a ≤ S17408x128.size a := fun d0 v18 arg14 arg15 v1153 k0_hw57 k0_h162 => k0_hw57.2.1 k0_h162
theorem k0_mult122_dvd : ∀ (d0 : Dev nD) (v18 : BitVec 32) (arg14 : BitVec 32) (arg15 : BitVec 32) (v1153 : BitVec 32) (k0_hw57 : k0_chk57 d0 v18 arg14 arg15 v1153), ∀ (k0_h163 : k0_cond163 d0 v1153 = 1#1), 8 ∣ (k0_mult122 d0 v18 arg15).toNat := fun d0 v18 arg14 arg15 v1153 k0_hw57 k0_h163 => k0_hw57.2.2.1 k0_h163
theorem k0_off179_inb : ∀ (d0 : Dev nD) (v18 : BitVec 32) (arg14 : BitVec 32) (arg15 : BitVec 32) (v1153 : BitVec 32) (k0_hw57 : k0_chk57 d0 v18 arg14 arg15 v1153), ∀ (k0_h163 : k0_cond163 d0 v1153 = 1#1), ∀ a, (k0_off179 d0 v18 arg15) a + S8x128.size a ≤ S16384x128.size a := fun d0 v18 arg14 arg15 v1153 k0_hw57 k0_h163 => k0_hw57.2.2.2 k0_h163

def k0_off180 (k0_t8 : Fin k0_t8_loop.trips) : Fin 2 → Nat :=
  let c7_741 : Index := 7#32
  let c0_i32_183 : BitVec 32 := 0#32
  let c1_i32_185 : BitVec 32 := 1#32
  let arg13 : BitVec 32 := Scf.iv c0_i32_183 c1_i32_185 k0_t8
  let c8_i32_739 : BitVec 32 := 8#32
  let v1165 : BitVec 32 := Scalar.muli arg13 c8_i32_739
  let c1_i32_740 : BitVec 32 := 1#32
  let v1166 : BitVec 32 := Scalar.addi v1165 c1_i32_740
  let v1167 : Index := Scalar.indexCast v1166
  ![7, v1167.toNat]
def k0_mult123 (d0 : Dev nD) (arg14 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  v1269
def k0_cond164 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let v1170 : BitVec 32 := Scalar.extui v1169
  let c0_i32_742 : BitVec 32 := 0#32
  let v1171 : BitVec 1 := Scalar.cmpi .ne v1170 c0_i32_742
  v1171

def k0_off181 (d0 : Dev nD) (arg14 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  let v1270 : BitVec 32 := v1269
  let v1271 : Index := Scalar.indexCast v1270
  let c0_789 : Index := 0#32
  ![v1271.toNat, 0]
def k0_mult124 (d0 : Dev nD) (v18 : BitVec 32) (arg15 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  v1270
def k0_cond165 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let true_743 : BitVec 1 := 1#1
  let v1172 : BitVec 1 := Scalar.xori v1169 true_743
  let v1173 : BitVec 32 := Scalar.extui v1172
  let c0_i32_744 : BitVec 32 := 0#32
  let v1174 : BitVec 1 := Scalar.cmpi .ne v1173 c0_i32_744
  v1174

def k0_off182 (d0 : Dev nD) (v18 : BitVec 32) (arg15 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk58 (d0 : Dev nD) (v18 : BitVec 32) (arg14 : BitVec 32) (arg15 : BitVec 32) (v1153 : BitVec 32) (v1168 : BitVec 32) : Prop :=
  (∀ (k0_h164 : k0_cond164 d0 v1168 = 1#1), 8 ∣ (k0_mult123 d0 arg14 v1153).toNat) ∧
  (∀ (k0_h164 : k0_cond164 d0 v1168 = 1#1), ∀ a, (k0_off181 d0 arg14 v1153) a + S8x128.size a ≤ S17408x128.size a) ∧
  (∀ (k0_h165 : k0_cond165 d0 v1168 = 1#1), 8 ∣ (k0_mult124 d0 v18 arg15 v1153).toNat) ∧
  (∀ (k0_h165 : k0_cond165 d0 v1168 = 1#1), ∀ a, (k0_off182 d0 v18 arg15 v1153) a + S8x128.size a ≤ S16384x128.size a)
theorem k0_mult123_dvd : ∀ (d0 : Dev nD) (v18 : BitVec 32) (arg14 : BitVec 32) (arg15 : BitVec 32) (v1153 : BitVec 32) (v1168 : BitVec 32) (k0_hw58 : k0_chk58 d0 v18 arg14 arg15 v1153 v1168), ∀ (k0_h164 : k0_cond164 d0 v1168 = 1#1), 8 ∣ (k0_mult123 d0 arg14 v1153).toNat := fun d0 v18 arg14 arg15 v1153 v1168 k0_hw58 k0_h164 => k0_hw58.1 k0_h164
theorem k0_off181_inb : ∀ (d0 : Dev nD) (v18 : BitVec 32) (arg14 : BitVec 32) (arg15 : BitVec 32) (v1153 : BitVec 32) (v1168 : BitVec 32) (k0_hw58 : k0_chk58 d0 v18 arg14 arg15 v1153 v1168), ∀ (k0_h164 : k0_cond164 d0 v1168 = 1#1), ∀ a, (k0_off181 d0 arg14 v1153) a + S8x128.size a ≤ S17408x128.size a := fun d0 v18 arg14 arg15 v1153 v1168 k0_hw58 k0_h164 => k0_hw58.2.1 k0_h164
theorem k0_mult124_dvd : ∀ (d0 : Dev nD) (v18 : BitVec 32) (arg14 : BitVec 32) (arg15 : BitVec 32) (v1153 : BitVec 32) (v1168 : BitVec 32) (k0_hw58 : k0_chk58 d0 v18 arg14 arg15 v1153 v1168), ∀ (k0_h165 : k0_cond165 d0 v1168 = 1#1), 8 ∣ (k0_mult124 d0 v18 arg15 v1153).toNat := fun d0 v18 arg14 arg15 v1153 v1168 k0_hw58 k0_h165 => k0_hw58.2.2.1 k0_h165
theorem k0_off182_inb : ∀ (d0 : Dev nD) (v18 : BitVec 32) (arg14 : BitVec 32) (arg15 : BitVec 32) (v1153 : BitVec 32) (v1168 : BitVec 32) (k0_hw58 : k0_chk58 d0 v18 arg14 arg15 v1153 v1168), ∀ (k0_h165 : k0_cond165 d0 v1168 = 1#1), ∀ a, (k0_off182 d0 v18 arg15 v1153) a + S8x128.size a ≤ S16384x128.size a := fun d0 v18 arg14 arg15 v1153 v1168 k0_hw58 k0_h165 => k0_hw58.2.2.2 k0_h165

def k0_off183 (k0_t8 : Fin k0_t8_loop.trips) : Fin 2 → Nat :=
  let c7_748 : Index := 7#32
  let c0_i32_183 : BitVec 32 := 0#32
  let c1_i32_185 : BitVec 32 := 1#32
  let arg13 : BitVec 32 := Scf.iv c0_i32_183 c1_i32_185 k0_t8
  let c8_i32_746 : BitVec 32 := 8#32
  let v1180 : BitVec 32 := Scalar.muli arg13 c8_i32_746
  let c2_i32_747 : BitVec 32 := 2#32
  let v1181 : BitVec 32 := Scalar.addi v1180 c2_i32_747
  let v1182 : Index := Scalar.indexCast v1181
  ![7, v1182.toNat]
def k0_mult125 (d0 : Dev nD) (arg14 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  v1269
def k0_cond166 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let v1185 : BitVec 32 := Scalar.extui v1184
  let c0_i32_749 : BitVec 32 := 0#32
  let v1186 : BitVec 1 := Scalar.cmpi .ne v1185 c0_i32_749
  v1186

def k0_off184 (d0 : Dev nD) (arg14 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  let v1270 : BitVec 32 := v1269
  let v1271 : Index := Scalar.indexCast v1270
  let c0_789 : Index := 0#32
  ![v1271.toNat, 0]
def k0_mult126 (d0 : Dev nD) (v18 : BitVec 32) (arg15 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  v1270
def k0_cond167 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let true_750 : BitVec 1 := 1#1
  let v1187 : BitVec 1 := Scalar.xori v1184 true_750
  let v1188 : BitVec 32 := Scalar.extui v1187
  let c0_i32_751 : BitVec 32 := 0#32
  let v1189 : BitVec 1 := Scalar.cmpi .ne v1188 c0_i32_751
  v1189

def k0_off185 (d0 : Dev nD) (v18 : BitVec 32) (arg15 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk59 (d0 : Dev nD) (v18 : BitVec 32) (arg14 : BitVec 32) (arg15 : BitVec 32) (v1153 : BitVec 32) (v1168 : BitVec 32) (v1183 : BitVec 32) : Prop :=
  (∀ (k0_h166 : k0_cond166 d0 v1183 = 1#1), 8 ∣ (k0_mult125 d0 arg14 v1153 v1168).toNat) ∧
  (∀ (k0_h166 : k0_cond166 d0 v1183 = 1#1), ∀ a, (k0_off184 d0 arg14 v1153 v1168) a + S8x128.size a ≤ S17408x128.size a) ∧
  (∀ (k0_h167 : k0_cond167 d0 v1183 = 1#1), 8 ∣ (k0_mult126 d0 v18 arg15 v1153 v1168).toNat) ∧
  (∀ (k0_h167 : k0_cond167 d0 v1183 = 1#1), ∀ a, (k0_off185 d0 v18 arg15 v1153 v1168) a + S8x128.size a ≤ S16384x128.size a)
theorem k0_mult125_dvd : ∀ (d0 : Dev nD) (v18 : BitVec 32) (arg14 : BitVec 32) (arg15 : BitVec 32) (v1153 : BitVec 32) (v1168 : BitVec 32) (v1183 : BitVec 32) (k0_hw59 : k0_chk59 d0 v18 arg14 arg15 v1153 v1168 v1183), ∀ (k0_h166 : k0_cond166 d0 v1183 = 1#1), 8 ∣ (k0_mult125 d0 arg14 v1153 v1168).toNat := fun d0 v18 arg14 arg15 v1153 v1168 v1183 k0_hw59 k0_h166 => k0_hw59.1 k0_h166
theorem k0_off184_inb : ∀ (d0 : Dev nD) (v18 : BitVec 32) (arg14 : BitVec 32) (arg15 : BitVec 32) (v1153 : BitVec 32) (v1168 : BitVec 32) (v1183 : BitVec 32) (k0_hw59 : k0_chk59 d0 v18 arg14 arg15 v1153 v1168 v1183), ∀ (k0_h166 : k0_cond166 d0 v1183 = 1#1), ∀ a, (k0_off184 d0 arg14 v1153 v1168) a + S8x128.size a ≤ S17408x128.size a := fun d0 v18 arg14 arg15 v1153 v1168 v1183 k0_hw59 k0_h166 => k0_hw59.2.1 k0_h166
theorem k0_mult126_dvd : ∀ (d0 : Dev nD) (v18 : BitVec 32) (arg14 : BitVec 32) (arg15 : BitVec 32) (v1153 : BitVec 32) (v1168 : BitVec 32) (v1183 : BitVec 32) (k0_hw59 : k0_chk59 d0 v18 arg14 arg15 v1153 v1168 v1183), ∀ (k0_h167 : k0_cond167 d0 v1183 = 1#1), 8 ∣ (k0_mult126 d0 v18 arg15 v1153 v1168).toNat := fun d0 v18 arg14 arg15 v1153 v1168 v1183 k0_hw59 k0_h167 => k0_hw59.2.2.1 k0_h167
theorem k0_off185_inb : ∀ (d0 : Dev nD) (v18 : BitVec 32) (arg14 : BitVec 32) (arg15 : BitVec 32) (v1153 : BitVec 32) (v1168 : BitVec 32) (v1183 : BitVec 32) (k0_hw59 : k0_chk59 d0 v18 arg14 arg15 v1153 v1168 v1183), ∀ (k0_h167 : k0_cond167 d0 v1183 = 1#1), ∀ a, (k0_off185 d0 v18 arg15 v1153 v1168) a + S8x128.size a ≤ S16384x128.size a := fun d0 v18 arg14 arg15 v1153 v1168 v1183 k0_hw59 k0_h167 => k0_hw59.2.2.2 k0_h167

def k0_off186 (k0_t8 : Fin k0_t8_loop.trips) : Fin 2 → Nat :=
  let c7_755 : Index := 7#32
  let c0_i32_183 : BitVec 32 := 0#32
  let c1_i32_185 : BitVec 32 := 1#32
  let arg13 : BitVec 32 := Scf.iv c0_i32_183 c1_i32_185 k0_t8
  let c8_i32_753 : BitVec 32 := 8#32
  let v1195 : BitVec 32 := Scalar.muli arg13 c8_i32_753
  let c3_i32_754 : BitVec 32 := 3#32
  let v1196 : BitVec 32 := Scalar.addi v1195 c3_i32_754
  let v1197 : Index := Scalar.indexCast v1196
  ![7, v1197.toNat]
def k0_mult127 (d0 : Dev nD) (arg14 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  v1269
def k0_cond168 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let v1200 : BitVec 32 := Scalar.extui v1199
  let c0_i32_756 : BitVec 32 := 0#32
  let v1201 : BitVec 1 := Scalar.cmpi .ne v1200 c0_i32_756
  v1201

def k0_off187 (d0 : Dev nD) (arg14 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  let v1270 : BitVec 32 := v1269
  let v1271 : Index := Scalar.indexCast v1270
  let c0_789 : Index := 0#32
  ![v1271.toNat, 0]
def k0_mult128 (d0 : Dev nD) (v18 : BitVec 32) (arg15 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  v1270
def k0_cond169 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let true_757 : BitVec 1 := 1#1
  let v1202 : BitVec 1 := Scalar.xori v1199 true_757
  let v1203 : BitVec 32 := Scalar.extui v1202
  let c0_i32_758 : BitVec 32 := 0#32
  let v1204 : BitVec 1 := Scalar.cmpi .ne v1203 c0_i32_758
  v1204

def k0_off188 (d0 : Dev nD) (v18 : BitVec 32) (arg15 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk60 (d0 : Dev nD) (v18 : BitVec 32) (arg14 : BitVec 32) (arg15 : BitVec 32) (v1153 : BitVec 32) (v1168 : BitVec 32) (v1183 : BitVec 32) (v1198 : BitVec 32) : Prop :=
  (∀ (k0_h168 : k0_cond168 d0 v1198 = 1#1), 8 ∣ (k0_mult127 d0 arg14 v1153 v1168 v1183).toNat) ∧
  (∀ (k0_h168 : k0_cond168 d0 v1198 = 1#1), ∀ a, (k0_off187 d0 arg14 v1153 v1168 v1183) a + S8x128.size a ≤ S17408x128.size a) ∧
  (∀ (k0_h169 : k0_cond169 d0 v1198 = 1#1), 8 ∣ (k0_mult128 d0 v18 arg15 v1153 v1168 v1183).toNat) ∧
  (∀ (k0_h169 : k0_cond169 d0 v1198 = 1#1), ∀ a, (k0_off188 d0 v18 arg15 v1153 v1168 v1183) a + S8x128.size a ≤ S16384x128.size a)
theorem k0_mult127_dvd : ∀ (d0 : Dev nD) (v18 : BitVec 32) (arg14 : BitVec 32) (arg15 : BitVec 32) (v1153 : BitVec 32) (v1168 : BitVec 32) (v1183 : BitVec 32) (v1198 : BitVec 32) (k0_hw60 : k0_chk60 d0 v18 arg14 arg15 v1153 v1168 v1183 v1198), ∀ (k0_h168 : k0_cond168 d0 v1198 = 1#1), 8 ∣ (k0_mult127 d0 arg14 v1153 v1168 v1183).toNat := fun d0 v18 arg14 arg15 v1153 v1168 v1183 v1198 k0_hw60 k0_h168 => k0_hw60.1 k0_h168
theorem k0_off187_inb : ∀ (d0 : Dev nD) (v18 : BitVec 32) (arg14 : BitVec 32) (arg15 : BitVec 32) (v1153 : BitVec 32) (v1168 : BitVec 32) (v1183 : BitVec 32) (v1198 : BitVec 32) (k0_hw60 : k0_chk60 d0 v18 arg14 arg15 v1153 v1168 v1183 v1198), ∀ (k0_h168 : k0_cond168 d0 v1198 = 1#1), ∀ a, (k0_off187 d0 arg14 v1153 v1168 v1183) a + S8x128.size a ≤ S17408x128.size a := fun d0 v18 arg14 arg15 v1153 v1168 v1183 v1198 k0_hw60 k0_h168 => k0_hw60.2.1 k0_h168
theorem k0_mult128_dvd : ∀ (d0 : Dev nD) (v18 : BitVec 32) (arg14 : BitVec 32) (arg15 : BitVec 32) (v1153 : BitVec 32) (v1168 : BitVec 32) (v1183 : BitVec 32) (v1198 : BitVec 32) (k0_hw60 : k0_chk60 d0 v18 arg14 arg15 v1153 v1168 v1183 v1198), ∀ (k0_h169 : k0_cond169 d0 v1198 = 1#1), 8 ∣ (k0_mult128 d0 v18 arg15 v1153 v1168 v1183).toNat := fun d0 v18 arg14 arg15 v1153 v1168 v1183 v1198 k0_hw60 k0_h169 => k0_hw60.2.2.1 k0_h169
theorem k0_off188_inb : ∀ (d0 : Dev nD) (v18 : BitVec 32) (arg14 : BitVec 32) (arg15 : BitVec 32) (v1153 : BitVec 32) (v1168 : BitVec 32) (v1183 : BitVec 32) (v1198 : BitVec 32) (k0_hw60 : k0_chk60 d0 v18 arg14 arg15 v1153 v1168 v1183 v1198), ∀ (k0_h169 : k0_cond169 d0 v1198 = 1#1), ∀ a, (k0_off188 d0 v18 arg15 v1153 v1168 v1183) a + S8x128.size a ≤ S16384x128.size a := fun d0 v18 arg14 arg15 v1153 v1168 v1183 v1198 k0_hw60 k0_h169 => k0_hw60.2.2.2 k0_h169

def k0_off189 (k0_t8 : Fin k0_t8_loop.trips) : Fin 2 → Nat :=
  let c7_762 : Index := 7#32
  let c0_i32_183 : BitVec 32 := 0#32
  let c1_i32_185 : BitVec 32 := 1#32
  let arg13 : BitVec 32 := Scf.iv c0_i32_183 c1_i32_185 k0_t8
  let c8_i32_760 : BitVec 32 := 8#32
  let v1210 : BitVec 32 := Scalar.muli arg13 c8_i32_760
  let c4_i32_761 : BitVec 32 := 4#32
  let v1211 : BitVec 32 := Scalar.addi v1210 c4_i32_761
  let v1212 : Index := Scalar.indexCast v1211
  ![7, v1212.toNat]
def k0_mult129 (d0 : Dev nD) (arg14 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  v1269
def k0_cond170 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let v1215 : BitVec 32 := Scalar.extui v1214
  let c0_i32_763 : BitVec 32 := 0#32
  let v1216 : BitVec 1 := Scalar.cmpi .ne v1215 c0_i32_763
  v1216

def k0_off190 (d0 : Dev nD) (arg14 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  let v1270 : BitVec 32 := v1269
  let v1271 : Index := Scalar.indexCast v1270
  let c0_789 : Index := 0#32
  ![v1271.toNat, 0]
def k0_mult130 (d0 : Dev nD) (v18 : BitVec 32) (arg15 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  v1270
def k0_cond171 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let true_764 : BitVec 1 := 1#1
  let v1217 : BitVec 1 := Scalar.xori v1214 true_764
  let v1218 : BitVec 32 := Scalar.extui v1217
  let c0_i32_765 : BitVec 32 := 0#32
  let v1219 : BitVec 1 := Scalar.cmpi .ne v1218 c0_i32_765
  v1219

def k0_off191 (d0 : Dev nD) (v18 : BitVec 32) (arg15 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk61 (d0 : Dev nD) (v18 : BitVec 32) (arg14 : BitVec 32) (arg15 : BitVec 32) (v1153 : BitVec 32) (v1168 : BitVec 32) (v1183 : BitVec 32) (v1198 : BitVec 32) (v1213 : BitVec 32) : Prop :=
  (∀ (k0_h170 : k0_cond170 d0 v1213 = 1#1), 8 ∣ (k0_mult129 d0 arg14 v1153 v1168 v1183 v1198).toNat) ∧
  (∀ (k0_h170 : k0_cond170 d0 v1213 = 1#1), ∀ a, (k0_off190 d0 arg14 v1153 v1168 v1183 v1198) a + S8x128.size a ≤ S17408x128.size a) ∧
  (∀ (k0_h171 : k0_cond171 d0 v1213 = 1#1), 8 ∣ (k0_mult130 d0 v18 arg15 v1153 v1168 v1183 v1198).toNat) ∧
  (∀ (k0_h171 : k0_cond171 d0 v1213 = 1#1), ∀ a, (k0_off191 d0 v18 arg15 v1153 v1168 v1183 v1198) a + S8x128.size a ≤ S16384x128.size a)
theorem k0_mult129_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw61 : k0_chk61 d0 v18 arg14 arg15 v1153 v1168 v1183 v1198 v1213), ∀ (k0_h170 : k0_cond170 d0 v1213 = 1#1), 8 ∣ (k0_mult129 d0 arg14 v1153 v1168 v1183 v1198).toNat := fun d0 v18 arg14 arg15 v1153 v1168 v1183 v1198 v1213 k0_hw61 k0_h170 => k0_hw61.1 k0_h170
theorem k0_off190_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw61 : k0_chk61 d0 v18 arg14 arg15 v1153 v1168 v1183 v1198 v1213), ∀ (k0_h170 : k0_cond170 d0 v1213 = 1#1), ∀ a, (k0_off190 d0 arg14 v1153 v1168 v1183 v1198) a + S8x128.size a ≤ S17408x128.size a := fun d0 v18 arg14 arg15 v1153 v1168 v1183 v1198 v1213 k0_hw61 k0_h170 => k0_hw61.2.1 k0_h170
theorem k0_mult130_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw61 : k0_chk61 d0 v18 arg14 arg15 v1153 v1168 v1183 v1198 v1213), ∀ (k0_h171 : k0_cond171 d0 v1213 = 1#1), 8 ∣ (k0_mult130 d0 v18 arg15 v1153 v1168 v1183 v1198).toNat := fun d0 v18 arg14 arg15 v1153 v1168 v1183 v1198 v1213 k0_hw61 k0_h171 => k0_hw61.2.2.1 k0_h171
theorem k0_off191_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw61 : k0_chk61 d0 v18 arg14 arg15 v1153 v1168 v1183 v1198 v1213), ∀ (k0_h171 : k0_cond171 d0 v1213 = 1#1), ∀ a, (k0_off191 d0 v18 arg15 v1153 v1168 v1183 v1198) a + S8x128.size a ≤ S16384x128.size a := fun d0 v18 arg14 arg15 v1153 v1168 v1183 v1198 v1213 k0_hw61 k0_h171 => k0_hw61.2.2.2 k0_h171

def k0_off192 (k0_t8 : Fin k0_t8_loop.trips) : Fin 2 → Nat :=
  let c7_769 : Index := 7#32
  let c0_i32_183 : BitVec 32 := 0#32
  let c1_i32_185 : BitVec 32 := 1#32
  let arg13 : BitVec 32 := Scf.iv c0_i32_183 c1_i32_185 k0_t8
  let c8_i32_767 : BitVec 32 := 8#32
  let v1225 : BitVec 32 := Scalar.muli arg13 c8_i32_767
  let c5_i32_768 : BitVec 32 := 5#32
  let v1226 : BitVec 32 := Scalar.addi v1225 c5_i32_768
  let v1227 : Index := Scalar.indexCast v1226
  ![7, v1227.toNat]
def k0_mult131 (d0 : Dev nD) (arg14 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  v1269
def k0_cond172 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let v1230 : BitVec 32 := Scalar.extui v1229
  let c0_i32_770 : BitVec 32 := 0#32
  let v1231 : BitVec 1 := Scalar.cmpi .ne v1230 c0_i32_770
  v1231

def k0_off193 (d0 : Dev nD) (arg14 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  let v1270 : BitVec 32 := v1269
  let v1271 : Index := Scalar.indexCast v1270
  let c0_789 : Index := 0#32
  ![v1271.toNat, 0]
def k0_mult132 (d0 : Dev nD) (v18 : BitVec 32) (arg15 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  v1270
def k0_cond173 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let true_771 : BitVec 1 := 1#1
  let v1232 : BitVec 1 := Scalar.xori v1229 true_771
  let v1233 : BitVec 32 := Scalar.extui v1232
  let c0_i32_772 : BitVec 32 := 0#32
  let v1234 : BitVec 1 := Scalar.cmpi .ne v1233 c0_i32_772
  v1234

def k0_off194 (d0 : Dev nD) (v18 : BitVec 32) (arg15 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk62 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) : Prop :=
  (∀ (k0_h172 : k0_cond172 d0 v1228 = 1#1), 8 ∣ (k0_mult131 d0 arg14 v1153 v1168 v1183 v1198 v1213).toNat) ∧
  (∀ (k0_h172 : k0_cond172 d0 v1228 = 1#1), ∀ a, (k0_off193 d0 arg14 v1153 v1168 v1183 v1198 v1213) a + S8x128.size a ≤ S17408x128.size a) ∧
  (∀ (k0_h173 : k0_cond173 d0 v1228 = 1#1), 8 ∣ (k0_mult132 d0 v18 arg15 v1153 v1168 v1183 v1198 v1213).toNat) ∧
  (∀ (k0_h173 : k0_cond173 d0 v1228 = 1#1), ∀ a, (k0_off194 d0 v18 arg15 v1153 v1168 v1183 v1198 v1213) a + S8x128.size a ≤ S16384x128.size a)
theorem k0_mult131_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw62 : k0_chk62 d0 v18 arg14 arg15 v1153 v1168 v1183 v1198 v1213 v1228), ∀ (k0_h172 : k0_cond172 d0 v1228 = 1#1), 8 ∣ (k0_mult131 d0 arg14 v1153 v1168 v1183 v1198 v1213).toNat := fun d0 v18 arg14 arg15 v1153 v1168 v1183 v1198 v1213 v1228 k0_hw62 k0_h172 => k0_hw62.1 k0_h172
theorem k0_off193_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw62 : k0_chk62 d0 v18 arg14 arg15 v1153 v1168 v1183 v1198 v1213 v1228), ∀ (k0_h172 : k0_cond172 d0 v1228 = 1#1), ∀ a, (k0_off193 d0 arg14 v1153 v1168 v1183 v1198 v1213) a + S8x128.size a ≤ S17408x128.size a := fun d0 v18 arg14 arg15 v1153 v1168 v1183 v1198 v1213 v1228 k0_hw62 k0_h172 => k0_hw62.2.1 k0_h172
theorem k0_mult132_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw62 : k0_chk62 d0 v18 arg14 arg15 v1153 v1168 v1183 v1198 v1213 v1228), ∀ (k0_h173 : k0_cond173 d0 v1228 = 1#1), 8 ∣ (k0_mult132 d0 v18 arg15 v1153 v1168 v1183 v1198 v1213).toNat := fun d0 v18 arg14 arg15 v1153 v1168 v1183 v1198 v1213 v1228 k0_hw62 k0_h173 => k0_hw62.2.2.1 k0_h173
theorem k0_off194_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw62 : k0_chk62 d0 v18 arg14 arg15 v1153 v1168 v1183 v1198 v1213 v1228), ∀ (k0_h173 : k0_cond173 d0 v1228 = 1#1), ∀ a, (k0_off194 d0 v18 arg15 v1153 v1168 v1183 v1198 v1213) a + S8x128.size a ≤ S16384x128.size a := fun d0 v18 arg14 arg15 v1153 v1168 v1183 v1198 v1213 v1228 k0_hw62 k0_h173 => k0_hw62.2.2.2 k0_h173

def k0_off195 (k0_t8 : Fin k0_t8_loop.trips) : Fin 2 → Nat :=
  let c7_776 : Index := 7#32
  let c0_i32_183 : BitVec 32 := 0#32
  let c1_i32_185 : BitVec 32 := 1#32
  let arg13 : BitVec 32 := Scf.iv c0_i32_183 c1_i32_185 k0_t8
  let c8_i32_774 : BitVec 32 := 8#32
  let v1240 : BitVec 32 := Scalar.muli arg13 c8_i32_774
  let c6_i32_775 : BitVec 32 := 6#32
  let v1241 : BitVec 32 := Scalar.addi v1240 c6_i32_775
  let v1242 : Index := Scalar.indexCast v1241
  ![7, v1242.toNat]
def k0_mult133 (d0 : Dev nD) (arg14 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  v1269
def k0_cond174 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let v1245 : BitVec 32 := Scalar.extui v1244
  let c0_i32_777 : BitVec 32 := 0#32
  let v1246 : BitVec 1 := Scalar.cmpi .ne v1245 c0_i32_777
  v1246

def k0_off196 (d0 : Dev nD) (arg14 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  let v1270 : BitVec 32 := v1269
  let v1271 : Index := Scalar.indexCast v1270
  let c0_789 : Index := 0#32
  ![v1271.toNat, 0]
def k0_mult134 (d0 : Dev nD) (v18 : BitVec 32) (arg15 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  v1270
def k0_cond175 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let true_778 : BitVec 1 := 1#1
  let v1247 : BitVec 1 := Scalar.xori v1244 true_778
  let v1248 : BitVec 32 := Scalar.extui v1247
  let c0_i32_779 : BitVec 32 := 0#32
  let v1249 : BitVec 1 := Scalar.cmpi .ne v1248 c0_i32_779
  v1249

def k0_off197 (d0 : Dev nD) (v18 : BitVec 32) (arg15 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk63 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) : Prop :=
  (∀ (k0_h174 : k0_cond174 d0 v1243 = 1#1), 8 ∣ (k0_mult133 d0 arg14 v1153 v1168 v1183 v1198 v1213 v1228).toNat) ∧
  (∀ (k0_h174 : k0_cond174 d0 v1243 = 1#1), ∀ a, (k0_off196 d0 arg14 v1153 v1168 v1183 v1198 v1213 v1228) a + S8x128.size a ≤ S17408x128.size a) ∧
  (∀ (k0_h175 : k0_cond175 d0 v1243 = 1#1), 8 ∣ (k0_mult134 d0 v18 arg15 v1153 v1168 v1183 v1198 v1213 v1228).toNat) ∧
  (∀ (k0_h175 : k0_cond175 d0 v1243 = 1#1), ∀ a, (k0_off197 d0 v18 arg15 v1153 v1168 v1183 v1198 v1213 v1228) a + S8x128.size a ≤ S16384x128.size a)
theorem k0_mult133_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw63 : k0_chk63 d0 v18 arg14 arg15 v1153 v1168 v1183 v1198 v1213 v1228 v1243), ∀ (k0_h174 : k0_cond174 d0 v1243 = 1#1), 8 ∣ (k0_mult133 d0 arg14 v1153 v1168 v1183 v1198 v1213 v1228).toNat := fun d0 v18 arg14 arg15 v1153 v1168 v1183 v1198 v1213 v1228 v1243 k0_hw63 k0_h174 => k0_hw63.1 k0_h174
theorem k0_off196_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw63 : k0_chk63 d0 v18 arg14 arg15 v1153 v1168 v1183 v1198 v1213 v1228 v1243), ∀ (k0_h174 : k0_cond174 d0 v1243 = 1#1), ∀ a, (k0_off196 d0 arg14 v1153 v1168 v1183 v1198 v1213 v1228) a + S8x128.size a ≤ S17408x128.size a := fun d0 v18 arg14 arg15 v1153 v1168 v1183 v1198 v1213 v1228 v1243 k0_hw63 k0_h174 => k0_hw63.2.1 k0_h174
theorem k0_mult134_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw63 : k0_chk63 d0 v18 arg14 arg15 v1153 v1168 v1183 v1198 v1213 v1228 v1243), ∀ (k0_h175 : k0_cond175 d0 v1243 = 1#1), 8 ∣ (k0_mult134 d0 v18 arg15 v1153 v1168 v1183 v1198 v1213 v1228).toNat := fun d0 v18 arg14 arg15 v1153 v1168 v1183 v1198 v1213 v1228 v1243 k0_hw63 k0_h175 => k0_hw63.2.2.1 k0_h175
theorem k0_off197_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw63 : k0_chk63 d0 v18 arg14 arg15 v1153 v1168 v1183 v1198 v1213 v1228 v1243), ∀ (k0_h175 : k0_cond175 d0 v1243 = 1#1), ∀ a, (k0_off197 d0 v18 arg15 v1153 v1168 v1183 v1198 v1213 v1228) a + S8x128.size a ≤ S16384x128.size a := fun d0 v18 arg14 arg15 v1153 v1168 v1183 v1198 v1213 v1228 v1243 k0_hw63 k0_h175 => k0_hw63.2.2.2 k0_h175

def k0_off198 (k0_t8 : Fin k0_t8_loop.trips) : Fin 2 → Nat :=
  let c7_783 : Index := 7#32
  let c0_i32_183 : BitVec 32 := 0#32
  let c1_i32_185 : BitVec 32 := 1#32
  let arg13 : BitVec 32 := Scf.iv c0_i32_183 c1_i32_185 k0_t8
  let c8_i32_781 : BitVec 32 := 8#32
  let v1255 : BitVec 32 := Scalar.muli arg13 c8_i32_781
  let c7_i32_782 : BitVec 32 := 7#32
  let v1256 : BitVec 32 := Scalar.addi v1255 c7_i32_782
  let v1257 : Index := Scalar.indexCast v1256
  ![7, v1257.toNat]
def k0_mult135 (d0 : Dev nD) (arg14 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  v1269
def k0_cond176 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let v1260 : BitVec 32 := Scalar.extui v1259
  let c0_i32_784 : BitVec 32 := 0#32
  let v1261 : BitVec 1 := Scalar.cmpi .ne v1260 c0_i32_784
  v1261

def k0_off199 (d0 : Dev nD) (arg14 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  let v1270 : BitVec 32 := v1269
  let v1271 : Index := Scalar.indexCast v1270
  let c0_789 : Index := 0#32
  ![v1271.toNat, 0]
def k0_mult136 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  v1270
def k0_cond177 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let true_785 : BitVec 1 := 1#1
  let v1262 : BitVec 1 := Scalar.xori v1259 true_785
  let v1263 : BitVec 32 := Scalar.extui v1262
  let c0_i32_786 : BitVec 32 := 0#32
  let v1264 : BitVec 1 := Scalar.cmpi .ne v1263 c0_i32_786
  v1264

def k0_off200 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk64 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) : Prop :=
  (∀ (k0_h176 : k0_cond176 d0 v1258 = 1#1), 8 ∣ (k0_mult135 d0 arg14 v1153 v1168 v1183 v1198 v1213 v1228 v1243).toNat) ∧
  (∀ (k0_h176 : k0_cond176 d0 v1258 = 1#1), ∀ a, (k0_off199 d0 arg14 v1153 v1168 v1183 v1198 v1213 v1228 v1243) a + S8x128.size a ≤ S17408x128.size a) ∧
  (∀ (k0_h177 : k0_cond177 d0 v1258 = 1#1), 8 ∣ (k0_mult136 d0 v18 arg15 v1153 v1168 v1183 v1198 v1213 v1228 v1243).toNat) ∧
  (∀ (k0_h177 : k0_cond177 d0 v1258 = 1#1), ∀ a, (k0_off200 d0 v18 arg15 v1153 v1168 v1183 v1198 v1213 v1228 v1243) a + S8x128.size a ≤ S16384x128.size a)
theorem k0_mult135_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw64 : k0_chk64 d0 v18 arg14 arg15 v1153 v1168 v1183 v1198 v1213 v1228 v1243 v1258), ∀ (k0_h176 : k0_cond176 d0 v1258 = 1#1), 8 ∣ (k0_mult135 d0 arg14 v1153 v1168 v1183 v1198 v1213 v1228 v1243).toNat := fun d0 v18 arg14 arg15 v1153 v1168 v1183 v1198 v1213 v1228 v1243 v1258 k0_hw64 k0_h176 => k0_hw64.1 k0_h176
theorem k0_off199_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw64 : k0_chk64 d0 v18 arg14 arg15 v1153 v1168 v1183 v1198 v1213 v1228 v1243 v1258), ∀ (k0_h176 : k0_cond176 d0 v1258 = 1#1), ∀ a, (k0_off199 d0 arg14 v1153 v1168 v1183 v1198 v1213 v1228 v1243) a + S8x128.size a ≤ S17408x128.size a := fun d0 v18 arg14 arg15 v1153 v1168 v1183 v1198 v1213 v1228 v1243 v1258 k0_hw64 k0_h176 => k0_hw64.2.1 k0_h176
theorem k0_mult136_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw64 : k0_chk64 d0 v18 arg14 arg15 v1153 v1168 v1183 v1198 v1213 v1228 v1243 v1258), ∀ (k0_h177 : k0_cond177 d0 v1258 = 1#1), 8 ∣ (k0_mult136 d0 v18 arg15 v1153 v1168 v1183 v1198 v1213 v1228 v1243).toNat := fun d0 v18 arg14 arg15 v1153 v1168 v1183 v1198 v1213 v1228 v1243 v1258 k0_hw64 k0_h177 => k0_hw64.2.2.1 k0_h177
theorem k0_off200_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw64 : k0_chk64 d0 v18 arg14 arg15 v1153 v1168 v1183 v1198 v1213 v1228 v1243 v1258), ∀ (k0_h177 : k0_cond177 d0 v1258 = 1#1), ∀ a, (k0_off200 d0 v18 arg15 v1153 v1168 v1183 v1198 v1213 v1228 v1243) a + S8x128.size a ≤ S16384x128.size a := fun d0 v18 arg14 arg15 v1153 v1168 v1183 v1198 v1213 v1228 v1243 v1258 k0_hw64 k0_h177 => k0_hw64.2.2.2 k0_h177

def k0_dev51 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1147 : BitVec 32 := Scalar.muli v9 c16_i32_736
  let v1148 : BitVec 32 := Scalar.addi c0_i32_737 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1149 : BitVec 32 := Scalar.muli v5 c4_i32_738
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1151 : BitVec 32 := Scalar.muli v8 c1_i32_739
  let v1152 : BitVec 32 := Scalar.addi v1150 v1151
  v1152.toNat
def k0_dev52 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev53 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev54 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev55 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev56 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev57 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev58 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev59 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev60 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev61 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
@[reducible] def k0_t9_loop : Scf.Loop 32 :=
  let c0_i32_219 : BitVec 32 := 0#32
  let c16_i32_220 : BitVec 32 := 16#32
  let v352 : BitVec 32 := Scalar.addi c0_i32_219 c16_i32_220
  let c1_i32_221 : BitVec 32 := 1#32
  ⟨c0_i32_219, v352, c1_i32_221⟩
def k0_mult137 (k0_t9 : Fin k0_t9_loop.trips) : BitVec 32 :=
  let c1024_i32_731 : BitVec 32 := 1024#32
  let c0_i32_219 : BitVec 32 := 0#32
  let c1_i32_221 : BitVec 32 := 1#32
  let arg13 : BitVec 32 := Scf.iv c0_i32_219 c1_i32_221 k0_t9
  let c8_i32_730 : BitVec 32 := 8#32
  let v1142 : BitVec 32 := Scalar.muli arg13 c8_i32_730
  let v1143 : BitVec 32 := Scalar.addi c1024_i32_731 v1142
  v1143
def k0_off201 (k0_t9 : Fin k0_t9_loop.trips) : Fin 2 → Nat :=
  let c1024_i32_731 : BitVec 32 := 1024#32
  let c0_i32_219 : BitVec 32 := 0#32
  let c1_i32_221 : BitVec 32 := 1#32
  let arg13 : BitVec 32 := Scf.iv c0_i32_219 c1_i32_221 k0_t9
  let c8_i32_730 : BitVec 32 := 8#32
  let v1142 : BitVec 32 := Scalar.muli arg13 c8_i32_730
  let v1143 : BitVec 32 := Scalar.addi c1024_i32_731 v1142
  let v1144 : BitVec 32 := v1143
  let v1145 : Index := Scalar.indexCast v1144
  let c0_732 : Index := 0#32
  ![v1145.toNat, 0]
def k0_off202 (k0_t9 : Fin k0_t9_loop.trips) : Fin 2 → Nat :=
  let c8 : Index := 8#32
  let c0_i32_219 : BitVec 32 := 0#32
  let c1_i32_221 : BitVec 32 := 1#32
  let arg13 : BitVec 32 := Scf.iv c0_i32_219 c1_i32_221 k0_t9
  let c8_i32_733 : BitVec 32 := 8#32
  let v1150 : BitVec 32 := Scalar.muli arg13 c8_i32_733
  let c0_i32_734 : BitVec 32 := 0#32
  let v1151 : BitVec 32 := Scalar.addi v1150 c0_i32_734
  let v1152 : Index := Scalar.indexCast v1151
  ![8, v1152.toNat]
def k0_mult138 (arg14 : BitVec 32) : BitVec 32 :=
  let c8_i32_788 : BitVec 32 := 8#32
  let v1269 : BitVec 32 := Scalar.muli arg14 c8_i32_788
  v1269
def k0_cond189 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1155 : BitVec 32 := Scalar.extui v1154
  let c0_i32_735 : BitVec 32 := 0#32
  let v1156 : BitVec 1 := Scalar.cmpi .ne v1155 c0_i32_735
  v1156

def k0_off203 (arg14 : BitVec 32) : Fin 2 → Nat :=
  let c8_i32_788 : BitVec 32 := 8#32
  let v1269 : BitVec 32 := Scalar.muli arg14 c8_i32_788
  let v1270 : BitVec 32 := v1269
  let v1271 : Index := Scalar.indexCast v1270
  let c0_789 : Index := 0#32
  ![v1271.toNat, 0]
def k0_mult139 (d0 : Dev nD) (v18 : BitVec 32) (arg15 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  v1270
def k0_cond190 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let true_736 : BitVec 1 := 1#1
  let v1157 : BitVec 1 := Scalar.xori v1154 true_736
  let v1158 : BitVec 32 := Scalar.extui v1157
  let c0_i32_737 : BitVec 32 := 0#32
  let v1159 : BitVec 1 := Scalar.cmpi .ne v1158 c0_i32_737
  v1159

def k0_off204 (d0 : Dev nD) (v18 : BitVec 32) (arg15 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk65 (d0 : Dev nD) (v18 : BitVec 32) (arg14 : BitVec 32) (arg15 : BitVec 32) (v1153 : BitVec 32) : Prop :=
  (∀ (k0_h189 : k0_cond189 d0 v1153 = 1#1), 8 ∣ (k0_mult138 arg14).toNat) ∧
  (∀ (k0_h189 : k0_cond189 d0 v1153 = 1#1), ∀ a, (k0_off203 arg14) a + S8x128.size a ≤ S17408x128.size a) ∧
  (∀ (k0_h190 : k0_cond190 d0 v1153 = 1#1), 8 ∣ (k0_mult139 d0 v18 arg15).toNat) ∧
  (∀ (k0_h190 : k0_cond190 d0 v1153 = 1#1), ∀ a, (k0_off204 d0 v18 arg15) a + S8x128.size a ≤ S16384x128.size a)
theorem k0_mult138_dvd : ∀ (d0 : Dev nD) (v18 : BitVec 32) (arg14 : BitVec 32) (arg15 : BitVec 32) (v1153 : BitVec 32) (k0_hw65 : k0_chk65 d0 v18 arg14 arg15 v1153), ∀ (k0_h189 : k0_cond189 d0 v1153 = 1#1), 8 ∣ (k0_mult138 arg14).toNat := fun d0 v18 arg14 arg15 v1153 k0_hw65 k0_h189 => k0_hw65.1 k0_h189
theorem k0_off203_inb : ∀ (d0 : Dev nD) (v18 : BitVec 32) (arg14 : BitVec 32) (arg15 : BitVec 32) (v1153 : BitVec 32) (k0_hw65 : k0_chk65 d0 v18 arg14 arg15 v1153), ∀ (k0_h189 : k0_cond189 d0 v1153 = 1#1), ∀ a, (k0_off203 arg14) a + S8x128.size a ≤ S17408x128.size a := fun d0 v18 arg14 arg15 v1153 k0_hw65 k0_h189 => k0_hw65.2.1 k0_h189
theorem k0_mult139_dvd : ∀ (d0 : Dev nD) (v18 : BitVec 32) (arg14 : BitVec 32) (arg15 : BitVec 32) (v1153 : BitVec 32) (k0_hw65 : k0_chk65 d0 v18 arg14 arg15 v1153), ∀ (k0_h190 : k0_cond190 d0 v1153 = 1#1), 8 ∣ (k0_mult139 d0 v18 arg15).toNat := fun d0 v18 arg14 arg15 v1153 k0_hw65 k0_h190 => k0_hw65.2.2.1 k0_h190
theorem k0_off204_inb : ∀ (d0 : Dev nD) (v18 : BitVec 32) (arg14 : BitVec 32) (arg15 : BitVec 32) (v1153 : BitVec 32) (k0_hw65 : k0_chk65 d0 v18 arg14 arg15 v1153), ∀ (k0_h190 : k0_cond190 d0 v1153 = 1#1), ∀ a, (k0_off204 d0 v18 arg15) a + S8x128.size a ≤ S16384x128.size a := fun d0 v18 arg14 arg15 v1153 k0_hw65 k0_h190 => k0_hw65.2.2.2 k0_h190

def k0_off205 (k0_t9 : Fin k0_t9_loop.trips) : Fin 2 → Nat :=
  let c8_741 : Index := 8#32
  let c0_i32_219 : BitVec 32 := 0#32
  let c1_i32_221 : BitVec 32 := 1#32
  let arg13 : BitVec 32 := Scf.iv c0_i32_219 c1_i32_221 k0_t9
  let c8_i32_739 : BitVec 32 := 8#32
  let v1165 : BitVec 32 := Scalar.muli arg13 c8_i32_739
  let c1_i32_740 : BitVec 32 := 1#32
  let v1166 : BitVec 32 := Scalar.addi v1165 c1_i32_740
  let v1167 : Index := Scalar.indexCast v1166
  ![8, v1167.toNat]
def k0_mult140 (d0 : Dev nD) (arg14 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  v1269
def k0_cond191 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let v1170 : BitVec 32 := Scalar.extui v1169
  let c0_i32_742 : BitVec 32 := 0#32
  let v1171 : BitVec 1 := Scalar.cmpi .ne v1170 c0_i32_742
  v1171

def k0_off206 (d0 : Dev nD) (arg14 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  let v1270 : BitVec 32 := v1269
  let v1271 : Index := Scalar.indexCast v1270
  let c0_789 : Index := 0#32
  ![v1271.toNat, 0]
def k0_mult141 (d0 : Dev nD) (v18 : BitVec 32) (arg15 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  v1270
def k0_cond192 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let true_743 : BitVec 1 := 1#1
  let v1172 : BitVec 1 := Scalar.xori v1169 true_743
  let v1173 : BitVec 32 := Scalar.extui v1172
  let c0_i32_744 : BitVec 32 := 0#32
  let v1174 : BitVec 1 := Scalar.cmpi .ne v1173 c0_i32_744
  v1174

def k0_off207 (d0 : Dev nD) (v18 : BitVec 32) (arg15 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk66 (d0 : Dev nD) (v18 : BitVec 32) (arg14 : BitVec 32) (arg15 : BitVec 32) (v1153 : BitVec 32) (v1168 : BitVec 32) : Prop :=
  (∀ (k0_h191 : k0_cond191 d0 v1168 = 1#1), 8 ∣ (k0_mult140 d0 arg14 v1153).toNat) ∧
  (∀ (k0_h191 : k0_cond191 d0 v1168 = 1#1), ∀ a, (k0_off206 d0 arg14 v1153) a + S8x128.size a ≤ S17408x128.size a) ∧
  (∀ (k0_h192 : k0_cond192 d0 v1168 = 1#1), 8 ∣ (k0_mult141 d0 v18 arg15 v1153).toNat) ∧
  (∀ (k0_h192 : k0_cond192 d0 v1168 = 1#1), ∀ a, (k0_off207 d0 v18 arg15 v1153) a + S8x128.size a ≤ S16384x128.size a)
theorem k0_mult140_dvd : ∀ (d0 : Dev nD) (v18 : BitVec 32) (arg14 : BitVec 32) (arg15 : BitVec 32) (v1153 : BitVec 32) (v1168 : BitVec 32) (k0_hw66 : k0_chk66 d0 v18 arg14 arg15 v1153 v1168), ∀ (k0_h191 : k0_cond191 d0 v1168 = 1#1), 8 ∣ (k0_mult140 d0 arg14 v1153).toNat := fun d0 v18 arg14 arg15 v1153 v1168 k0_hw66 k0_h191 => k0_hw66.1 k0_h191
theorem k0_off206_inb : ∀ (d0 : Dev nD) (v18 : BitVec 32) (arg14 : BitVec 32) (arg15 : BitVec 32) (v1153 : BitVec 32) (v1168 : BitVec 32) (k0_hw66 : k0_chk66 d0 v18 arg14 arg15 v1153 v1168), ∀ (k0_h191 : k0_cond191 d0 v1168 = 1#1), ∀ a, (k0_off206 d0 arg14 v1153) a + S8x128.size a ≤ S17408x128.size a := fun d0 v18 arg14 arg15 v1153 v1168 k0_hw66 k0_h191 => k0_hw66.2.1 k0_h191
theorem k0_mult141_dvd : ∀ (d0 : Dev nD) (v18 : BitVec 32) (arg14 : BitVec 32) (arg15 : BitVec 32) (v1153 : BitVec 32) (v1168 : BitVec 32) (k0_hw66 : k0_chk66 d0 v18 arg14 arg15 v1153 v1168), ∀ (k0_h192 : k0_cond192 d0 v1168 = 1#1), 8 ∣ (k0_mult141 d0 v18 arg15 v1153).toNat := fun d0 v18 arg14 arg15 v1153 v1168 k0_hw66 k0_h192 => k0_hw66.2.2.1 k0_h192
theorem k0_off207_inb : ∀ (d0 : Dev nD) (v18 : BitVec 32) (arg14 : BitVec 32) (arg15 : BitVec 32) (v1153 : BitVec 32) (v1168 : BitVec 32) (k0_hw66 : k0_chk66 d0 v18 arg14 arg15 v1153 v1168), ∀ (k0_h192 : k0_cond192 d0 v1168 = 1#1), ∀ a, (k0_off207 d0 v18 arg15 v1153) a + S8x128.size a ≤ S16384x128.size a := fun d0 v18 arg14 arg15 v1153 v1168 k0_hw66 k0_h192 => k0_hw66.2.2.2 k0_h192

def k0_off208 (k0_t9 : Fin k0_t9_loop.trips) : Fin 2 → Nat :=
  let c8_748 : Index := 8#32
  let c0_i32_219 : BitVec 32 := 0#32
  let c1_i32_221 : BitVec 32 := 1#32
  let arg13 : BitVec 32 := Scf.iv c0_i32_219 c1_i32_221 k0_t9
  let c8_i32_746 : BitVec 32 := 8#32
  let v1180 : BitVec 32 := Scalar.muli arg13 c8_i32_746
  let c2_i32_747 : BitVec 32 := 2#32
  let v1181 : BitVec 32 := Scalar.addi v1180 c2_i32_747
  let v1182 : Index := Scalar.indexCast v1181
  ![8, v1182.toNat]
def k0_mult142 (d0 : Dev nD) (arg14 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  v1269
def k0_cond193 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let v1185 : BitVec 32 := Scalar.extui v1184
  let c0_i32_749 : BitVec 32 := 0#32
  let v1186 : BitVec 1 := Scalar.cmpi .ne v1185 c0_i32_749
  v1186

def k0_off209 (d0 : Dev nD) (arg14 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  let v1270 : BitVec 32 := v1269
  let v1271 : Index := Scalar.indexCast v1270
  let c0_789 : Index := 0#32
  ![v1271.toNat, 0]
def k0_mult143 (d0 : Dev nD) (v18 : BitVec 32) (arg15 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  v1270
def k0_cond194 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let true_750 : BitVec 1 := 1#1
  let v1187 : BitVec 1 := Scalar.xori v1184 true_750
  let v1188 : BitVec 32 := Scalar.extui v1187
  let c0_i32_751 : BitVec 32 := 0#32
  let v1189 : BitVec 1 := Scalar.cmpi .ne v1188 c0_i32_751
  v1189

def k0_off210 (d0 : Dev nD) (v18 : BitVec 32) (arg15 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk67 (d0 : Dev nD) (v18 : BitVec 32) (arg14 : BitVec 32) (arg15 : BitVec 32) (v1153 : BitVec 32) (v1168 : BitVec 32) (v1183 : BitVec 32) : Prop :=
  (∀ (k0_h193 : k0_cond193 d0 v1183 = 1#1), 8 ∣ (k0_mult142 d0 arg14 v1153 v1168).toNat) ∧
  (∀ (k0_h193 : k0_cond193 d0 v1183 = 1#1), ∀ a, (k0_off209 d0 arg14 v1153 v1168) a + S8x128.size a ≤ S17408x128.size a) ∧
  (∀ (k0_h194 : k0_cond194 d0 v1183 = 1#1), 8 ∣ (k0_mult143 d0 v18 arg15 v1153 v1168).toNat) ∧
  (∀ (k0_h194 : k0_cond194 d0 v1183 = 1#1), ∀ a, (k0_off210 d0 v18 arg15 v1153 v1168) a + S8x128.size a ≤ S16384x128.size a)
theorem k0_mult142_dvd : ∀ (d0 : Dev nD) (v18 : BitVec 32) (arg14 : BitVec 32) (arg15 : BitVec 32) (v1153 : BitVec 32) (v1168 : BitVec 32) (v1183 : BitVec 32) (k0_hw67 : k0_chk67 d0 v18 arg14 arg15 v1153 v1168 v1183), ∀ (k0_h193 : k0_cond193 d0 v1183 = 1#1), 8 ∣ (k0_mult142 d0 arg14 v1153 v1168).toNat := fun d0 v18 arg14 arg15 v1153 v1168 v1183 k0_hw67 k0_h193 => k0_hw67.1 k0_h193
theorem k0_off209_inb : ∀ (d0 : Dev nD) (v18 : BitVec 32) (arg14 : BitVec 32) (arg15 : BitVec 32) (v1153 : BitVec 32) (v1168 : BitVec 32) (v1183 : BitVec 32) (k0_hw67 : k0_chk67 d0 v18 arg14 arg15 v1153 v1168 v1183), ∀ (k0_h193 : k0_cond193 d0 v1183 = 1#1), ∀ a, (k0_off209 d0 arg14 v1153 v1168) a + S8x128.size a ≤ S17408x128.size a := fun d0 v18 arg14 arg15 v1153 v1168 v1183 k0_hw67 k0_h193 => k0_hw67.2.1 k0_h193
theorem k0_mult143_dvd : ∀ (d0 : Dev nD) (v18 : BitVec 32) (arg14 : BitVec 32) (arg15 : BitVec 32) (v1153 : BitVec 32) (v1168 : BitVec 32) (v1183 : BitVec 32) (k0_hw67 : k0_chk67 d0 v18 arg14 arg15 v1153 v1168 v1183), ∀ (k0_h194 : k0_cond194 d0 v1183 = 1#1), 8 ∣ (k0_mult143 d0 v18 arg15 v1153 v1168).toNat := fun d0 v18 arg14 arg15 v1153 v1168 v1183 k0_hw67 k0_h194 => k0_hw67.2.2.1 k0_h194
theorem k0_off210_inb : ∀ (d0 : Dev nD) (v18 : BitVec 32) (arg14 : BitVec 32) (arg15 : BitVec 32) (v1153 : BitVec 32) (v1168 : BitVec 32) (v1183 : BitVec 32) (k0_hw67 : k0_chk67 d0 v18 arg14 arg15 v1153 v1168 v1183), ∀ (k0_h194 : k0_cond194 d0 v1183 = 1#1), ∀ a, (k0_off210 d0 v18 arg15 v1153 v1168) a + S8x128.size a ≤ S16384x128.size a := fun d0 v18 arg14 arg15 v1153 v1168 v1183 k0_hw67 k0_h194 => k0_hw67.2.2.2 k0_h194

def k0_off211 (k0_t9 : Fin k0_t9_loop.trips) : Fin 2 → Nat :=
  let c8_755 : Index := 8#32
  let c0_i32_219 : BitVec 32 := 0#32
  let c1_i32_221 : BitVec 32 := 1#32
  let arg13 : BitVec 32 := Scf.iv c0_i32_219 c1_i32_221 k0_t9
  let c8_i32_753 : BitVec 32 := 8#32
  let v1195 : BitVec 32 := Scalar.muli arg13 c8_i32_753
  let c3_i32_754 : BitVec 32 := 3#32
  let v1196 : BitVec 32 := Scalar.addi v1195 c3_i32_754
  let v1197 : Index := Scalar.indexCast v1196
  ![8, v1197.toNat]
def k0_mult144 (d0 : Dev nD) (arg14 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  v1269
def k0_cond195 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let v1200 : BitVec 32 := Scalar.extui v1199
  let c0_i32_756 : BitVec 32 := 0#32
  let v1201 : BitVec 1 := Scalar.cmpi .ne v1200 c0_i32_756
  v1201

def k0_off212 (d0 : Dev nD) (arg14 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  let v1270 : BitVec 32 := v1269
  let v1271 : Index := Scalar.indexCast v1270
  let c0_789 : Index := 0#32
  ![v1271.toNat, 0]
def k0_mult145 (d0 : Dev nD) (v18 : BitVec 32) (arg15 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  v1270
def k0_cond196 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let true_757 : BitVec 1 := 1#1
  let v1202 : BitVec 1 := Scalar.xori v1199 true_757
  let v1203 : BitVec 32 := Scalar.extui v1202
  let c0_i32_758 : BitVec 32 := 0#32
  let v1204 : BitVec 1 := Scalar.cmpi .ne v1203 c0_i32_758
  v1204

def k0_off213 (d0 : Dev nD) (v18 : BitVec 32) (arg15 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk68 (d0 : Dev nD) (v18 : BitVec 32) (arg14 : BitVec 32) (arg15 : BitVec 32) (v1153 : BitVec 32) (v1168 : BitVec 32) (v1183 : BitVec 32) (v1198 : BitVec 32) : Prop :=
  (∀ (k0_h195 : k0_cond195 d0 v1198 = 1#1), 8 ∣ (k0_mult144 d0 arg14 v1153 v1168 v1183).toNat) ∧
  (∀ (k0_h195 : k0_cond195 d0 v1198 = 1#1), ∀ a, (k0_off212 d0 arg14 v1153 v1168 v1183) a + S8x128.size a ≤ S17408x128.size a) ∧
  (∀ (k0_h196 : k0_cond196 d0 v1198 = 1#1), 8 ∣ (k0_mult145 d0 v18 arg15 v1153 v1168 v1183).toNat) ∧
  (∀ (k0_h196 : k0_cond196 d0 v1198 = 1#1), ∀ a, (k0_off213 d0 v18 arg15 v1153 v1168 v1183) a + S8x128.size a ≤ S16384x128.size a)
theorem k0_mult144_dvd : ∀ (d0 : Dev nD) (v18 : BitVec 32) (arg14 : BitVec 32) (arg15 : BitVec 32) (v1153 : BitVec 32) (v1168 : BitVec 32) (v1183 : BitVec 32) (v1198 : BitVec 32) (k0_hw68 : k0_chk68 d0 v18 arg14 arg15 v1153 v1168 v1183 v1198), ∀ (k0_h195 : k0_cond195 d0 v1198 = 1#1), 8 ∣ (k0_mult144 d0 arg14 v1153 v1168 v1183).toNat := fun d0 v18 arg14 arg15 v1153 v1168 v1183 v1198 k0_hw68 k0_h195 => k0_hw68.1 k0_h195
theorem k0_off212_inb : ∀ (d0 : Dev nD) (v18 : BitVec 32) (arg14 : BitVec 32) (arg15 : BitVec 32) (v1153 : BitVec 32) (v1168 : BitVec 32) (v1183 : BitVec 32) (v1198 : BitVec 32) (k0_hw68 : k0_chk68 d0 v18 arg14 arg15 v1153 v1168 v1183 v1198), ∀ (k0_h195 : k0_cond195 d0 v1198 = 1#1), ∀ a, (k0_off212 d0 arg14 v1153 v1168 v1183) a + S8x128.size a ≤ S17408x128.size a := fun d0 v18 arg14 arg15 v1153 v1168 v1183 v1198 k0_hw68 k0_h195 => k0_hw68.2.1 k0_h195
theorem k0_mult145_dvd : ∀ (d0 : Dev nD) (v18 : BitVec 32) (arg14 : BitVec 32) (arg15 : BitVec 32) (v1153 : BitVec 32) (v1168 : BitVec 32) (v1183 : BitVec 32) (v1198 : BitVec 32) (k0_hw68 : k0_chk68 d0 v18 arg14 arg15 v1153 v1168 v1183 v1198), ∀ (k0_h196 : k0_cond196 d0 v1198 = 1#1), 8 ∣ (k0_mult145 d0 v18 arg15 v1153 v1168 v1183).toNat := fun d0 v18 arg14 arg15 v1153 v1168 v1183 v1198 k0_hw68 k0_h196 => k0_hw68.2.2.1 k0_h196
theorem k0_off213_inb : ∀ (d0 : Dev nD) (v18 : BitVec 32) (arg14 : BitVec 32) (arg15 : BitVec 32) (v1153 : BitVec 32) (v1168 : BitVec 32) (v1183 : BitVec 32) (v1198 : BitVec 32) (k0_hw68 : k0_chk68 d0 v18 arg14 arg15 v1153 v1168 v1183 v1198), ∀ (k0_h196 : k0_cond196 d0 v1198 = 1#1), ∀ a, (k0_off213 d0 v18 arg15 v1153 v1168 v1183) a + S8x128.size a ≤ S16384x128.size a := fun d0 v18 arg14 arg15 v1153 v1168 v1183 v1198 k0_hw68 k0_h196 => k0_hw68.2.2.2 k0_h196

def k0_off214 (k0_t9 : Fin k0_t9_loop.trips) : Fin 2 → Nat :=
  let c8_762 : Index := 8#32
  let c0_i32_219 : BitVec 32 := 0#32
  let c1_i32_221 : BitVec 32 := 1#32
  let arg13 : BitVec 32 := Scf.iv c0_i32_219 c1_i32_221 k0_t9
  let c8_i32_760 : BitVec 32 := 8#32
  let v1210 : BitVec 32 := Scalar.muli arg13 c8_i32_760
  let c4_i32_761 : BitVec 32 := 4#32
  let v1211 : BitVec 32 := Scalar.addi v1210 c4_i32_761
  let v1212 : Index := Scalar.indexCast v1211
  ![8, v1212.toNat]
def k0_mult146 (d0 : Dev nD) (arg14 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  v1269
def k0_cond197 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let v1215 : BitVec 32 := Scalar.extui v1214
  let c0_i32_763 : BitVec 32 := 0#32
  let v1216 : BitVec 1 := Scalar.cmpi .ne v1215 c0_i32_763
  v1216

def k0_off215 (d0 : Dev nD) (arg14 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  let v1270 : BitVec 32 := v1269
  let v1271 : Index := Scalar.indexCast v1270
  let c0_789 : Index := 0#32
  ![v1271.toNat, 0]
def k0_mult147 (d0 : Dev nD) (v18 : BitVec 32) (arg15 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  v1270
def k0_cond198 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let true_764 : BitVec 1 := 1#1
  let v1217 : BitVec 1 := Scalar.xori v1214 true_764
  let v1218 : BitVec 32 := Scalar.extui v1217
  let c0_i32_765 : BitVec 32 := 0#32
  let v1219 : BitVec 1 := Scalar.cmpi .ne v1218 c0_i32_765
  v1219

def k0_off216 (d0 : Dev nD) (v18 : BitVec 32) (arg15 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk69 (d0 : Dev nD) (v18 : BitVec 32) (arg14 : BitVec 32) (arg15 : BitVec 32) (v1153 : BitVec 32) (v1168 : BitVec 32) (v1183 : BitVec 32) (v1198 : BitVec 32) (v1213 : BitVec 32) : Prop :=
  (∀ (k0_h197 : k0_cond197 d0 v1213 = 1#1), 8 ∣ (k0_mult146 d0 arg14 v1153 v1168 v1183 v1198).toNat) ∧
  (∀ (k0_h197 : k0_cond197 d0 v1213 = 1#1), ∀ a, (k0_off215 d0 arg14 v1153 v1168 v1183 v1198) a + S8x128.size a ≤ S17408x128.size a) ∧
  (∀ (k0_h198 : k0_cond198 d0 v1213 = 1#1), 8 ∣ (k0_mult147 d0 v18 arg15 v1153 v1168 v1183 v1198).toNat) ∧
  (∀ (k0_h198 : k0_cond198 d0 v1213 = 1#1), ∀ a, (k0_off216 d0 v18 arg15 v1153 v1168 v1183 v1198) a + S8x128.size a ≤ S16384x128.size a)
theorem k0_mult146_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw69 : k0_chk69 d0 v18 arg14 arg15 v1153 v1168 v1183 v1198 v1213), ∀ (k0_h197 : k0_cond197 d0 v1213 = 1#1), 8 ∣ (k0_mult146 d0 arg14 v1153 v1168 v1183 v1198).toNat := fun d0 v18 arg14 arg15 v1153 v1168 v1183 v1198 v1213 k0_hw69 k0_h197 => k0_hw69.1 k0_h197
theorem k0_off215_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw69 : k0_chk69 d0 v18 arg14 arg15 v1153 v1168 v1183 v1198 v1213), ∀ (k0_h197 : k0_cond197 d0 v1213 = 1#1), ∀ a, (k0_off215 d0 arg14 v1153 v1168 v1183 v1198) a + S8x128.size a ≤ S17408x128.size a := fun d0 v18 arg14 arg15 v1153 v1168 v1183 v1198 v1213 k0_hw69 k0_h197 => k0_hw69.2.1 k0_h197
theorem k0_mult147_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw69 : k0_chk69 d0 v18 arg14 arg15 v1153 v1168 v1183 v1198 v1213), ∀ (k0_h198 : k0_cond198 d0 v1213 = 1#1), 8 ∣ (k0_mult147 d0 v18 arg15 v1153 v1168 v1183 v1198).toNat := fun d0 v18 arg14 arg15 v1153 v1168 v1183 v1198 v1213 k0_hw69 k0_h198 => k0_hw69.2.2.1 k0_h198
theorem k0_off216_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw69 : k0_chk69 d0 v18 arg14 arg15 v1153 v1168 v1183 v1198 v1213), ∀ (k0_h198 : k0_cond198 d0 v1213 = 1#1), ∀ a, (k0_off216 d0 v18 arg15 v1153 v1168 v1183 v1198) a + S8x128.size a ≤ S16384x128.size a := fun d0 v18 arg14 arg15 v1153 v1168 v1183 v1198 v1213 k0_hw69 k0_h198 => k0_hw69.2.2.2 k0_h198

def k0_off217 (k0_t9 : Fin k0_t9_loop.trips) : Fin 2 → Nat :=
  let c8_769 : Index := 8#32
  let c0_i32_219 : BitVec 32 := 0#32
  let c1_i32_221 : BitVec 32 := 1#32
  let arg13 : BitVec 32 := Scf.iv c0_i32_219 c1_i32_221 k0_t9
  let c8_i32_767 : BitVec 32 := 8#32
  let v1225 : BitVec 32 := Scalar.muli arg13 c8_i32_767
  let c5_i32_768 : BitVec 32 := 5#32
  let v1226 : BitVec 32 := Scalar.addi v1225 c5_i32_768
  let v1227 : Index := Scalar.indexCast v1226
  ![8, v1227.toNat]
def k0_mult148 (d0 : Dev nD) (arg14 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  v1269
def k0_cond199 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let v1230 : BitVec 32 := Scalar.extui v1229
  let c0_i32_770 : BitVec 32 := 0#32
  let v1231 : BitVec 1 := Scalar.cmpi .ne v1230 c0_i32_770
  v1231

def k0_off218 (d0 : Dev nD) (arg14 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  let v1270 : BitVec 32 := v1269
  let v1271 : Index := Scalar.indexCast v1270
  let c0_789 : Index := 0#32
  ![v1271.toNat, 0]
def k0_mult149 (d0 : Dev nD) (v18 : BitVec 32) (arg15 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  v1270
def k0_cond200 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let true_771 : BitVec 1 := 1#1
  let v1232 : BitVec 1 := Scalar.xori v1229 true_771
  let v1233 : BitVec 32 := Scalar.extui v1232
  let c0_i32_772 : BitVec 32 := 0#32
  let v1234 : BitVec 1 := Scalar.cmpi .ne v1233 c0_i32_772
  v1234

def k0_off219 (d0 : Dev nD) (v18 : BitVec 32) (arg15 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk70 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) : Prop :=
  (∀ (k0_h199 : k0_cond199 d0 v1228 = 1#1), 8 ∣ (k0_mult148 d0 arg14 v1153 v1168 v1183 v1198 v1213).toNat) ∧
  (∀ (k0_h199 : k0_cond199 d0 v1228 = 1#1), ∀ a, (k0_off218 d0 arg14 v1153 v1168 v1183 v1198 v1213) a + S8x128.size a ≤ S17408x128.size a) ∧
  (∀ (k0_h200 : k0_cond200 d0 v1228 = 1#1), 8 ∣ (k0_mult149 d0 v18 arg15 v1153 v1168 v1183 v1198 v1213).toNat) ∧
  (∀ (k0_h200 : k0_cond200 d0 v1228 = 1#1), ∀ a, (k0_off219 d0 v18 arg15 v1153 v1168 v1183 v1198 v1213) a + S8x128.size a ≤ S16384x128.size a)
theorem k0_mult148_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw70 : k0_chk70 d0 v18 arg14 arg15 v1153 v1168 v1183 v1198 v1213 v1228), ∀ (k0_h199 : k0_cond199 d0 v1228 = 1#1), 8 ∣ (k0_mult148 d0 arg14 v1153 v1168 v1183 v1198 v1213).toNat := fun d0 v18 arg14 arg15 v1153 v1168 v1183 v1198 v1213 v1228 k0_hw70 k0_h199 => k0_hw70.1 k0_h199
theorem k0_off218_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw70 : k0_chk70 d0 v18 arg14 arg15 v1153 v1168 v1183 v1198 v1213 v1228), ∀ (k0_h199 : k0_cond199 d0 v1228 = 1#1), ∀ a, (k0_off218 d0 arg14 v1153 v1168 v1183 v1198 v1213) a + S8x128.size a ≤ S17408x128.size a := fun d0 v18 arg14 arg15 v1153 v1168 v1183 v1198 v1213 v1228 k0_hw70 k0_h199 => k0_hw70.2.1 k0_h199
theorem k0_mult149_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw70 : k0_chk70 d0 v18 arg14 arg15 v1153 v1168 v1183 v1198 v1213 v1228), ∀ (k0_h200 : k0_cond200 d0 v1228 = 1#1), 8 ∣ (k0_mult149 d0 v18 arg15 v1153 v1168 v1183 v1198 v1213).toNat := fun d0 v18 arg14 arg15 v1153 v1168 v1183 v1198 v1213 v1228 k0_hw70 k0_h200 => k0_hw70.2.2.1 k0_h200
theorem k0_off219_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw70 : k0_chk70 d0 v18 arg14 arg15 v1153 v1168 v1183 v1198 v1213 v1228), ∀ (k0_h200 : k0_cond200 d0 v1228 = 1#1), ∀ a, (k0_off219 d0 v18 arg15 v1153 v1168 v1183 v1198 v1213) a + S8x128.size a ≤ S16384x128.size a := fun d0 v18 arg14 arg15 v1153 v1168 v1183 v1198 v1213 v1228 k0_hw70 k0_h200 => k0_hw70.2.2.2 k0_h200

def k0_off220 (k0_t9 : Fin k0_t9_loop.trips) : Fin 2 → Nat :=
  let c8_776 : Index := 8#32
  let c0_i32_219 : BitVec 32 := 0#32
  let c1_i32_221 : BitVec 32 := 1#32
  let arg13 : BitVec 32 := Scf.iv c0_i32_219 c1_i32_221 k0_t9
  let c8_i32_774 : BitVec 32 := 8#32
  let v1240 : BitVec 32 := Scalar.muli arg13 c8_i32_774
  let c6_i32_775 : BitVec 32 := 6#32
  let v1241 : BitVec 32 := Scalar.addi v1240 c6_i32_775
  let v1242 : Index := Scalar.indexCast v1241
  ![8, v1242.toNat]
def k0_mult150 (d0 : Dev nD) (arg14 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  v1269
def k0_cond201 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let v1245 : BitVec 32 := Scalar.extui v1244
  let c0_i32_777 : BitVec 32 := 0#32
  let v1246 : BitVec 1 := Scalar.cmpi .ne v1245 c0_i32_777
  v1246

def k0_off221 (d0 : Dev nD) (arg14 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  let v1270 : BitVec 32 := v1269
  let v1271 : Index := Scalar.indexCast v1270
  let c0_789 : Index := 0#32
  ![v1271.toNat, 0]
def k0_mult151 (d0 : Dev nD) (v18 : BitVec 32) (arg15 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  v1270
def k0_cond202 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let true_778 : BitVec 1 := 1#1
  let v1247 : BitVec 1 := Scalar.xori v1244 true_778
  let v1248 : BitVec 32 := Scalar.extui v1247
  let c0_i32_779 : BitVec 32 := 0#32
  let v1249 : BitVec 1 := Scalar.cmpi .ne v1248 c0_i32_779
  v1249

def k0_off222 (d0 : Dev nD) (v18 : BitVec 32) (arg15 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk71 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) : Prop :=
  (∀ (k0_h201 : k0_cond201 d0 v1243 = 1#1), 8 ∣ (k0_mult150 d0 arg14 v1153 v1168 v1183 v1198 v1213 v1228).toNat) ∧
  (∀ (k0_h201 : k0_cond201 d0 v1243 = 1#1), ∀ a, (k0_off221 d0 arg14 v1153 v1168 v1183 v1198 v1213 v1228) a + S8x128.size a ≤ S17408x128.size a) ∧
  (∀ (k0_h202 : k0_cond202 d0 v1243 = 1#1), 8 ∣ (k0_mult151 d0 v18 arg15 v1153 v1168 v1183 v1198 v1213 v1228).toNat) ∧
  (∀ (k0_h202 : k0_cond202 d0 v1243 = 1#1), ∀ a, (k0_off222 d0 v18 arg15 v1153 v1168 v1183 v1198 v1213 v1228) a + S8x128.size a ≤ S16384x128.size a)
theorem k0_mult150_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw71 : k0_chk71 d0 v18 arg14 arg15 v1153 v1168 v1183 v1198 v1213 v1228 v1243), ∀ (k0_h201 : k0_cond201 d0 v1243 = 1#1), 8 ∣ (k0_mult150 d0 arg14 v1153 v1168 v1183 v1198 v1213 v1228).toNat := fun d0 v18 arg14 arg15 v1153 v1168 v1183 v1198 v1213 v1228 v1243 k0_hw71 k0_h201 => k0_hw71.1 k0_h201
theorem k0_off221_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw71 : k0_chk71 d0 v18 arg14 arg15 v1153 v1168 v1183 v1198 v1213 v1228 v1243), ∀ (k0_h201 : k0_cond201 d0 v1243 = 1#1), ∀ a, (k0_off221 d0 arg14 v1153 v1168 v1183 v1198 v1213 v1228) a + S8x128.size a ≤ S17408x128.size a := fun d0 v18 arg14 arg15 v1153 v1168 v1183 v1198 v1213 v1228 v1243 k0_hw71 k0_h201 => k0_hw71.2.1 k0_h201
theorem k0_mult151_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw71 : k0_chk71 d0 v18 arg14 arg15 v1153 v1168 v1183 v1198 v1213 v1228 v1243), ∀ (k0_h202 : k0_cond202 d0 v1243 = 1#1), 8 ∣ (k0_mult151 d0 v18 arg15 v1153 v1168 v1183 v1198 v1213 v1228).toNat := fun d0 v18 arg14 arg15 v1153 v1168 v1183 v1198 v1213 v1228 v1243 k0_hw71 k0_h202 => k0_hw71.2.2.1 k0_h202
theorem k0_off222_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw71 : k0_chk71 d0 v18 arg14 arg15 v1153 v1168 v1183 v1198 v1213 v1228 v1243), ∀ (k0_h202 : k0_cond202 d0 v1243 = 1#1), ∀ a, (k0_off222 d0 v18 arg15 v1153 v1168 v1183 v1198 v1213 v1228) a + S8x128.size a ≤ S16384x128.size a := fun d0 v18 arg14 arg15 v1153 v1168 v1183 v1198 v1213 v1228 v1243 k0_hw71 k0_h202 => k0_hw71.2.2.2 k0_h202

def k0_off223 (k0_t9 : Fin k0_t9_loop.trips) : Fin 2 → Nat :=
  let c8_783 : Index := 8#32
  let c0_i32_219 : BitVec 32 := 0#32
  let c1_i32_221 : BitVec 32 := 1#32
  let arg13 : BitVec 32 := Scf.iv c0_i32_219 c1_i32_221 k0_t9
  let c8_i32_781 : BitVec 32 := 8#32
  let v1255 : BitVec 32 := Scalar.muli arg13 c8_i32_781
  let c7_i32_782 : BitVec 32 := 7#32
  let v1256 : BitVec 32 := Scalar.addi v1255 c7_i32_782
  let v1257 : Index := Scalar.indexCast v1256
  ![8, v1257.toNat]
def k0_mult152 (d0 : Dev nD) (arg14 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  v1269
def k0_cond203 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let v1260 : BitVec 32 := Scalar.extui v1259
  let c0_i32_784 : BitVec 32 := 0#32
  let v1261 : BitVec 1 := Scalar.cmpi .ne v1260 c0_i32_784
  v1261

def k0_off224 (d0 : Dev nD) (arg14 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  let v1270 : BitVec 32 := v1269
  let v1271 : Index := Scalar.indexCast v1270
  let c0_789 : Index := 0#32
  ![v1271.toNat, 0]
def k0_mult153 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  v1270
def k0_cond204 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let true_785 : BitVec 1 := 1#1
  let v1262 : BitVec 1 := Scalar.xori v1259 true_785
  let v1263 : BitVec 32 := Scalar.extui v1262
  let c0_i32_786 : BitVec 32 := 0#32
  let v1264 : BitVec 1 := Scalar.cmpi .ne v1263 c0_i32_786
  v1264

def k0_off225 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk72 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) : Prop :=
  (∀ (k0_h203 : k0_cond203 d0 v1258 = 1#1), 8 ∣ (k0_mult152 d0 arg14 v1153 v1168 v1183 v1198 v1213 v1228 v1243).toNat) ∧
  (∀ (k0_h203 : k0_cond203 d0 v1258 = 1#1), ∀ a, (k0_off224 d0 arg14 v1153 v1168 v1183 v1198 v1213 v1228 v1243) a + S8x128.size a ≤ S17408x128.size a) ∧
  (∀ (k0_h204 : k0_cond204 d0 v1258 = 1#1), 8 ∣ (k0_mult153 d0 v18 arg15 v1153 v1168 v1183 v1198 v1213 v1228 v1243).toNat) ∧
  (∀ (k0_h204 : k0_cond204 d0 v1258 = 1#1), ∀ a, (k0_off225 d0 v18 arg15 v1153 v1168 v1183 v1198 v1213 v1228 v1243) a + S8x128.size a ≤ S16384x128.size a)
theorem k0_mult152_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw72 : k0_chk72 d0 v18 arg14 arg15 v1153 v1168 v1183 v1198 v1213 v1228 v1243 v1258), ∀ (k0_h203 : k0_cond203 d0 v1258 = 1#1), 8 ∣ (k0_mult152 d0 arg14 v1153 v1168 v1183 v1198 v1213 v1228 v1243).toNat := fun d0 v18 arg14 arg15 v1153 v1168 v1183 v1198 v1213 v1228 v1243 v1258 k0_hw72 k0_h203 => k0_hw72.1 k0_h203
theorem k0_off224_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw72 : k0_chk72 d0 v18 arg14 arg15 v1153 v1168 v1183 v1198 v1213 v1228 v1243 v1258), ∀ (k0_h203 : k0_cond203 d0 v1258 = 1#1), ∀ a, (k0_off224 d0 arg14 v1153 v1168 v1183 v1198 v1213 v1228 v1243) a + S8x128.size a ≤ S17408x128.size a := fun d0 v18 arg14 arg15 v1153 v1168 v1183 v1198 v1213 v1228 v1243 v1258 k0_hw72 k0_h203 => k0_hw72.2.1 k0_h203
theorem k0_mult153_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw72 : k0_chk72 d0 v18 arg14 arg15 v1153 v1168 v1183 v1198 v1213 v1228 v1243 v1258), ∀ (k0_h204 : k0_cond204 d0 v1258 = 1#1), 8 ∣ (k0_mult153 d0 v18 arg15 v1153 v1168 v1183 v1198 v1213 v1228 v1243).toNat := fun d0 v18 arg14 arg15 v1153 v1168 v1183 v1198 v1213 v1228 v1243 v1258 k0_hw72 k0_h204 => k0_hw72.2.2.1 k0_h204
theorem k0_off225_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw72 : k0_chk72 d0 v18 arg14 arg15 v1153 v1168 v1183 v1198 v1213 v1228 v1243 v1258), ∀ (k0_h204 : k0_cond204 d0 v1258 = 1#1), ∀ a, (k0_off225 d0 v18 arg15 v1153 v1168 v1183 v1198 v1213 v1228 v1243) a + S8x128.size a ≤ S16384x128.size a := fun d0 v18 arg14 arg15 v1153 v1168 v1183 v1198 v1213 v1228 v1243 v1258 k0_hw72 k0_h204 => k0_hw72.2.2.2 k0_h204

def k0_dev62 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1147 : BitVec 32 := Scalar.muli v9 c16_i32_736
  let v1148 : BitVec 32 := Scalar.addi c0_i32_737 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1149 : BitVec 32 := Scalar.muli v5 c4_i32_738
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1151 : BitVec 32 := Scalar.muli v8 c1_i32_739
  let v1152 : BitVec 32 := Scalar.addi v1150 v1151
  v1152.toNat
def k0_dev63 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev64 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev65 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev66 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev67 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev68 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev69 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev70 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev71 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev72 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev73 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
@[reducible] def k0_t10_loop : Scf.Loop 32 :=
  let c0_i32_258 : BitVec 32 := 0#32
  let c16_i32_259 : BitVec 32 := 16#32
  let v414 : BitVec 32 := Scalar.addi c0_i32_258 c16_i32_259
  let c1_i32_260 : BitVec 32 := 1#32
  ⟨c0_i32_258, v414, c1_i32_260⟩
def k0_mult154 (k0_t10 : Fin k0_t10_loop.trips) : BitVec 32 :=
  let c1152_i32_731 : BitVec 32 := 1152#32
  let c0_i32_258 : BitVec 32 := 0#32
  let c1_i32_260 : BitVec 32 := 1#32
  let arg13 : BitVec 32 := Scf.iv c0_i32_258 c1_i32_260 k0_t10
  let c8_i32_730 : BitVec 32 := 8#32
  let v1142 : BitVec 32 := Scalar.muli arg13 c8_i32_730
  let v1143 : BitVec 32 := Scalar.addi c1152_i32_731 v1142
  v1143
def k0_off226 (k0_t10 : Fin k0_t10_loop.trips) : Fin 2 → Nat :=
  let c1152_i32_731 : BitVec 32 := 1152#32
  let c0_i32_258 : BitVec 32 := 0#32
  let c1_i32_260 : BitVec 32 := 1#32
  let arg13 : BitVec 32 := Scf.iv c0_i32_258 c1_i32_260 k0_t10
  let c8_i32_730 : BitVec 32 := 8#32
  let v1142 : BitVec 32 := Scalar.muli arg13 c8_i32_730
  let v1143 : BitVec 32 := Scalar.addi c1152_i32_731 v1142
  let v1144 : BitVec 32 := v1143
  let v1145 : Index := Scalar.indexCast v1144
  let c0_732 : Index := 0#32
  ![v1145.toNat, 0]
def k0_off227 (k0_t10 : Fin k0_t10_loop.trips) : Fin 2 → Nat :=
  let c9 : Index := 9#32
  let c0_i32_258 : BitVec 32 := 0#32
  let c1_i32_260 : BitVec 32 := 1#32
  let arg13 : BitVec 32 := Scf.iv c0_i32_258 c1_i32_260 k0_t10
  let c8_i32_733 : BitVec 32 := 8#32
  let v1150 : BitVec 32 := Scalar.muli arg13 c8_i32_733
  let c0_i32_734 : BitVec 32 := 0#32
  let v1151 : BitVec 32 := Scalar.addi v1150 c0_i32_734
  let v1152 : Index := Scalar.indexCast v1151
  ![9, v1152.toNat]
def k0_mult155 (arg14 : BitVec 32) : BitVec 32 :=
  let c8_i32_788 : BitVec 32 := 8#32
  let v1269 : BitVec 32 := Scalar.muli arg14 c8_i32_788
  v1269
def k0_cond217 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1155 : BitVec 32 := Scalar.extui v1154
  let c0_i32_735 : BitVec 32 := 0#32
  let v1156 : BitVec 1 := Scalar.cmpi .ne v1155 c0_i32_735
  v1156

def k0_off228 (arg14 : BitVec 32) : Fin 2 → Nat :=
  let c8_i32_788 : BitVec 32 := 8#32
  let v1269 : BitVec 32 := Scalar.muli arg14 c8_i32_788
  let v1270 : BitVec 32 := v1269
  let v1271 : Index := Scalar.indexCast v1270
  let c0_789 : Index := 0#32
  ![v1271.toNat, 0]
def k0_mult156 (d0 : Dev nD) (v18 : BitVec 32) (arg15 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  v1270
def k0_cond218 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let true_736 : BitVec 1 := 1#1
  let v1157 : BitVec 1 := Scalar.xori v1154 true_736
  let v1158 : BitVec 32 := Scalar.extui v1157
  let c0_i32_737 : BitVec 32 := 0#32
  let v1159 : BitVec 1 := Scalar.cmpi .ne v1158 c0_i32_737
  v1159

def k0_off229 (d0 : Dev nD) (v18 : BitVec 32) (arg15 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk73 (d0 : Dev nD) (v18 : BitVec 32) (arg14 : BitVec 32) (arg15 : BitVec 32) (v1153 : BitVec 32) : Prop :=
  (∀ (k0_h217 : k0_cond217 d0 v1153 = 1#1), 8 ∣ (k0_mult155 arg14).toNat) ∧
  (∀ (k0_h217 : k0_cond217 d0 v1153 = 1#1), ∀ a, (k0_off228 arg14) a + S8x128.size a ≤ S17408x128.size a) ∧
  (∀ (k0_h218 : k0_cond218 d0 v1153 = 1#1), 8 ∣ (k0_mult156 d0 v18 arg15).toNat) ∧
  (∀ (k0_h218 : k0_cond218 d0 v1153 = 1#1), ∀ a, (k0_off229 d0 v18 arg15) a + S8x128.size a ≤ S16384x128.size a)
theorem k0_mult155_dvd : ∀ (d0 : Dev nD) (v18 : BitVec 32) (arg14 : BitVec 32) (arg15 : BitVec 32) (v1153 : BitVec 32) (k0_hw73 : k0_chk73 d0 v18 arg14 arg15 v1153), ∀ (k0_h217 : k0_cond217 d0 v1153 = 1#1), 8 ∣ (k0_mult155 arg14).toNat := fun d0 v18 arg14 arg15 v1153 k0_hw73 k0_h217 => k0_hw73.1 k0_h217
theorem k0_off228_inb : ∀ (d0 : Dev nD) (v18 : BitVec 32) (arg14 : BitVec 32) (arg15 : BitVec 32) (v1153 : BitVec 32) (k0_hw73 : k0_chk73 d0 v18 arg14 arg15 v1153), ∀ (k0_h217 : k0_cond217 d0 v1153 = 1#1), ∀ a, (k0_off228 arg14) a + S8x128.size a ≤ S17408x128.size a := fun d0 v18 arg14 arg15 v1153 k0_hw73 k0_h217 => k0_hw73.2.1 k0_h217
theorem k0_mult156_dvd : ∀ (d0 : Dev nD) (v18 : BitVec 32) (arg14 : BitVec 32) (arg15 : BitVec 32) (v1153 : BitVec 32) (k0_hw73 : k0_chk73 d0 v18 arg14 arg15 v1153), ∀ (k0_h218 : k0_cond218 d0 v1153 = 1#1), 8 ∣ (k0_mult156 d0 v18 arg15).toNat := fun d0 v18 arg14 arg15 v1153 k0_hw73 k0_h218 => k0_hw73.2.2.1 k0_h218
theorem k0_off229_inb : ∀ (d0 : Dev nD) (v18 : BitVec 32) (arg14 : BitVec 32) (arg15 : BitVec 32) (v1153 : BitVec 32) (k0_hw73 : k0_chk73 d0 v18 arg14 arg15 v1153), ∀ (k0_h218 : k0_cond218 d0 v1153 = 1#1), ∀ a, (k0_off229 d0 v18 arg15) a + S8x128.size a ≤ S16384x128.size a := fun d0 v18 arg14 arg15 v1153 k0_hw73 k0_h218 => k0_hw73.2.2.2 k0_h218

def k0_off230 (k0_t10 : Fin k0_t10_loop.trips) : Fin 2 → Nat :=
  let c9_741 : Index := 9#32
  let c0_i32_258 : BitVec 32 := 0#32
  let c1_i32_260 : BitVec 32 := 1#32
  let arg13 : BitVec 32 := Scf.iv c0_i32_258 c1_i32_260 k0_t10
  let c8_i32_739 : BitVec 32 := 8#32
  let v1165 : BitVec 32 := Scalar.muli arg13 c8_i32_739
  let c1_i32_740 : BitVec 32 := 1#32
  let v1166 : BitVec 32 := Scalar.addi v1165 c1_i32_740
  let v1167 : Index := Scalar.indexCast v1166
  ![9, v1167.toNat]
def k0_mult157 (d0 : Dev nD) (arg14 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  v1269
def k0_cond219 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let v1170 : BitVec 32 := Scalar.extui v1169
  let c0_i32_742 : BitVec 32 := 0#32
  let v1171 : BitVec 1 := Scalar.cmpi .ne v1170 c0_i32_742
  v1171

def k0_off231 (d0 : Dev nD) (arg14 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  let v1270 : BitVec 32 := v1269
  let v1271 : Index := Scalar.indexCast v1270
  let c0_789 : Index := 0#32
  ![v1271.toNat, 0]
def k0_mult158 (d0 : Dev nD) (v18 : BitVec 32) (arg15 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  v1270
def k0_cond220 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let true_743 : BitVec 1 := 1#1
  let v1172 : BitVec 1 := Scalar.xori v1169 true_743
  let v1173 : BitVec 32 := Scalar.extui v1172
  let c0_i32_744 : BitVec 32 := 0#32
  let v1174 : BitVec 1 := Scalar.cmpi .ne v1173 c0_i32_744
  v1174

def k0_off232 (d0 : Dev nD) (v18 : BitVec 32) (arg15 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk74 (d0 : Dev nD) (v18 : BitVec 32) (arg14 : BitVec 32) (arg15 : BitVec 32) (v1153 : BitVec 32) (v1168 : BitVec 32) : Prop :=
  (∀ (k0_h219 : k0_cond219 d0 v1168 = 1#1), 8 ∣ (k0_mult157 d0 arg14 v1153).toNat) ∧
  (∀ (k0_h219 : k0_cond219 d0 v1168 = 1#1), ∀ a, (k0_off231 d0 arg14 v1153) a + S8x128.size a ≤ S17408x128.size a) ∧
  (∀ (k0_h220 : k0_cond220 d0 v1168 = 1#1), 8 ∣ (k0_mult158 d0 v18 arg15 v1153).toNat) ∧
  (∀ (k0_h220 : k0_cond220 d0 v1168 = 1#1), ∀ a, (k0_off232 d0 v18 arg15 v1153) a + S8x128.size a ≤ S16384x128.size a)
theorem k0_mult157_dvd : ∀ (d0 : Dev nD) (v18 : BitVec 32) (arg14 : BitVec 32) (arg15 : BitVec 32) (v1153 : BitVec 32) (v1168 : BitVec 32) (k0_hw74 : k0_chk74 d0 v18 arg14 arg15 v1153 v1168), ∀ (k0_h219 : k0_cond219 d0 v1168 = 1#1), 8 ∣ (k0_mult157 d0 arg14 v1153).toNat := fun d0 v18 arg14 arg15 v1153 v1168 k0_hw74 k0_h219 => k0_hw74.1 k0_h219
theorem k0_off231_inb : ∀ (d0 : Dev nD) (v18 : BitVec 32) (arg14 : BitVec 32) (arg15 : BitVec 32) (v1153 : BitVec 32) (v1168 : BitVec 32) (k0_hw74 : k0_chk74 d0 v18 arg14 arg15 v1153 v1168), ∀ (k0_h219 : k0_cond219 d0 v1168 = 1#1), ∀ a, (k0_off231 d0 arg14 v1153) a + S8x128.size a ≤ S17408x128.size a := fun d0 v18 arg14 arg15 v1153 v1168 k0_hw74 k0_h219 => k0_hw74.2.1 k0_h219
theorem k0_mult158_dvd : ∀ (d0 : Dev nD) (v18 : BitVec 32) (arg14 : BitVec 32) (arg15 : BitVec 32) (v1153 : BitVec 32) (v1168 : BitVec 32) (k0_hw74 : k0_chk74 d0 v18 arg14 arg15 v1153 v1168), ∀ (k0_h220 : k0_cond220 d0 v1168 = 1#1), 8 ∣ (k0_mult158 d0 v18 arg15 v1153).toNat := fun d0 v18 arg14 arg15 v1153 v1168 k0_hw74 k0_h220 => k0_hw74.2.2.1 k0_h220
theorem k0_off232_inb : ∀ (d0 : Dev nD) (v18 : BitVec 32) (arg14 : BitVec 32) (arg15 : BitVec 32) (v1153 : BitVec 32) (v1168 : BitVec 32) (k0_hw74 : k0_chk74 d0 v18 arg14 arg15 v1153 v1168), ∀ (k0_h220 : k0_cond220 d0 v1168 = 1#1), ∀ a, (k0_off232 d0 v18 arg15 v1153) a + S8x128.size a ≤ S16384x128.size a := fun d0 v18 arg14 arg15 v1153 v1168 k0_hw74 k0_h220 => k0_hw74.2.2.2 k0_h220

def k0_off233 (k0_t10 : Fin k0_t10_loop.trips) : Fin 2 → Nat :=
  let c9_748 : Index := 9#32
  let c0_i32_258 : BitVec 32 := 0#32
  let c1_i32_260 : BitVec 32 := 1#32
  let arg13 : BitVec 32 := Scf.iv c0_i32_258 c1_i32_260 k0_t10
  let c8_i32_746 : BitVec 32 := 8#32
  let v1180 : BitVec 32 := Scalar.muli arg13 c8_i32_746
  let c2_i32_747 : BitVec 32 := 2#32
  let v1181 : BitVec 32 := Scalar.addi v1180 c2_i32_747
  let v1182 : Index := Scalar.indexCast v1181
  ![9, v1182.toNat]
def k0_mult159 (d0 : Dev nD) (arg14 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  v1269
def k0_cond221 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let v1185 : BitVec 32 := Scalar.extui v1184
  let c0_i32_749 : BitVec 32 := 0#32
  let v1186 : BitVec 1 := Scalar.cmpi .ne v1185 c0_i32_749
  v1186

def k0_off234 (d0 : Dev nD) (arg14 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  let v1270 : BitVec 32 := v1269
  let v1271 : Index := Scalar.indexCast v1270
  let c0_789 : Index := 0#32
  ![v1271.toNat, 0]
def k0_mult160 (d0 : Dev nD) (v18 : BitVec 32) (arg15 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  v1270
def k0_cond222 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let true_750 : BitVec 1 := 1#1
  let v1187 : BitVec 1 := Scalar.xori v1184 true_750
  let v1188 : BitVec 32 := Scalar.extui v1187
  let c0_i32_751 : BitVec 32 := 0#32
  let v1189 : BitVec 1 := Scalar.cmpi .ne v1188 c0_i32_751
  v1189

def k0_off235 (d0 : Dev nD) (v18 : BitVec 32) (arg15 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk75 (d0 : Dev nD) (v18 : BitVec 32) (arg14 : BitVec 32) (arg15 : BitVec 32) (v1153 : BitVec 32) (v1168 : BitVec 32) (v1183 : BitVec 32) : Prop :=
  (∀ (k0_h221 : k0_cond221 d0 v1183 = 1#1), 8 ∣ (k0_mult159 d0 arg14 v1153 v1168).toNat) ∧
  (∀ (k0_h221 : k0_cond221 d0 v1183 = 1#1), ∀ a, (k0_off234 d0 arg14 v1153 v1168) a + S8x128.size a ≤ S17408x128.size a) ∧
  (∀ (k0_h222 : k0_cond222 d0 v1183 = 1#1), 8 ∣ (k0_mult160 d0 v18 arg15 v1153 v1168).toNat) ∧
  (∀ (k0_h222 : k0_cond222 d0 v1183 = 1#1), ∀ a, (k0_off235 d0 v18 arg15 v1153 v1168) a + S8x128.size a ≤ S16384x128.size a)
theorem k0_mult159_dvd : ∀ (d0 : Dev nD) (v18 : BitVec 32) (arg14 : BitVec 32) (arg15 : BitVec 32) (v1153 : BitVec 32) (v1168 : BitVec 32) (v1183 : BitVec 32) (k0_hw75 : k0_chk75 d0 v18 arg14 arg15 v1153 v1168 v1183), ∀ (k0_h221 : k0_cond221 d0 v1183 = 1#1), 8 ∣ (k0_mult159 d0 arg14 v1153 v1168).toNat := fun d0 v18 arg14 arg15 v1153 v1168 v1183 k0_hw75 k0_h221 => k0_hw75.1 k0_h221
theorem k0_off234_inb : ∀ (d0 : Dev nD) (v18 : BitVec 32) (arg14 : BitVec 32) (arg15 : BitVec 32) (v1153 : BitVec 32) (v1168 : BitVec 32) (v1183 : BitVec 32) (k0_hw75 : k0_chk75 d0 v18 arg14 arg15 v1153 v1168 v1183), ∀ (k0_h221 : k0_cond221 d0 v1183 = 1#1), ∀ a, (k0_off234 d0 arg14 v1153 v1168) a + S8x128.size a ≤ S17408x128.size a := fun d0 v18 arg14 arg15 v1153 v1168 v1183 k0_hw75 k0_h221 => k0_hw75.2.1 k0_h221
theorem k0_mult160_dvd : ∀ (d0 : Dev nD) (v18 : BitVec 32) (arg14 : BitVec 32) (arg15 : BitVec 32) (v1153 : BitVec 32) (v1168 : BitVec 32) (v1183 : BitVec 32) (k0_hw75 : k0_chk75 d0 v18 arg14 arg15 v1153 v1168 v1183), ∀ (k0_h222 : k0_cond222 d0 v1183 = 1#1), 8 ∣ (k0_mult160 d0 v18 arg15 v1153 v1168).toNat := fun d0 v18 arg14 arg15 v1153 v1168 v1183 k0_hw75 k0_h222 => k0_hw75.2.2.1 k0_h222
theorem k0_off235_inb : ∀ (d0 : Dev nD) (v18 : BitVec 32) (arg14 : BitVec 32) (arg15 : BitVec 32) (v1153 : BitVec 32) (v1168 : BitVec 32) (v1183 : BitVec 32) (k0_hw75 : k0_chk75 d0 v18 arg14 arg15 v1153 v1168 v1183), ∀ (k0_h222 : k0_cond222 d0 v1183 = 1#1), ∀ a, (k0_off235 d0 v18 arg15 v1153 v1168) a + S8x128.size a ≤ S16384x128.size a := fun d0 v18 arg14 arg15 v1153 v1168 v1183 k0_hw75 k0_h222 => k0_hw75.2.2.2 k0_h222

def k0_off236 (k0_t10 : Fin k0_t10_loop.trips) : Fin 2 → Nat :=
  let c9_755 : Index := 9#32
  let c0_i32_258 : BitVec 32 := 0#32
  let c1_i32_260 : BitVec 32 := 1#32
  let arg13 : BitVec 32 := Scf.iv c0_i32_258 c1_i32_260 k0_t10
  let c8_i32_753 : BitVec 32 := 8#32
  let v1195 : BitVec 32 := Scalar.muli arg13 c8_i32_753
  let c3_i32_754 : BitVec 32 := 3#32
  let v1196 : BitVec 32 := Scalar.addi v1195 c3_i32_754
  let v1197 : Index := Scalar.indexCast v1196
  ![9, v1197.toNat]
def k0_mult161 (d0 : Dev nD) (arg14 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  v1269
def k0_cond223 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let v1200 : BitVec 32 := Scalar.extui v1199
  let c0_i32_756 : BitVec 32 := 0#32
  let v1201 : BitVec 1 := Scalar.cmpi .ne v1200 c0_i32_756
  v1201

def k0_off237 (d0 : Dev nD) (arg14 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  let v1270 : BitVec 32 := v1269
  let v1271 : Index := Scalar.indexCast v1270
  let c0_789 : Index := 0#32
  ![v1271.toNat, 0]
def k0_mult162 (d0 : Dev nD) (v18 : BitVec 32) (arg15 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  v1270
def k0_cond224 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let true_757 : BitVec 1 := 1#1
  let v1202 : BitVec 1 := Scalar.xori v1199 true_757
  let v1203 : BitVec 32 := Scalar.extui v1202
  let c0_i32_758 : BitVec 32 := 0#32
  let v1204 : BitVec 1 := Scalar.cmpi .ne v1203 c0_i32_758
  v1204

def k0_off238 (d0 : Dev nD) (v18 : BitVec 32) (arg15 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk76 (d0 : Dev nD) (v18 : BitVec 32) (arg14 : BitVec 32) (arg15 : BitVec 32) (v1153 : BitVec 32) (v1168 : BitVec 32) (v1183 : BitVec 32) (v1198 : BitVec 32) : Prop :=
  (∀ (k0_h223 : k0_cond223 d0 v1198 = 1#1), 8 ∣ (k0_mult161 d0 arg14 v1153 v1168 v1183).toNat) ∧
  (∀ (k0_h223 : k0_cond223 d0 v1198 = 1#1), ∀ a, (k0_off237 d0 arg14 v1153 v1168 v1183) a + S8x128.size a ≤ S17408x128.size a) ∧
  (∀ (k0_h224 : k0_cond224 d0 v1198 = 1#1), 8 ∣ (k0_mult162 d0 v18 arg15 v1153 v1168 v1183).toNat) ∧
  (∀ (k0_h224 : k0_cond224 d0 v1198 = 1#1), ∀ a, (k0_off238 d0 v18 arg15 v1153 v1168 v1183) a + S8x128.size a ≤ S16384x128.size a)
theorem k0_mult161_dvd : ∀ (d0 : Dev nD) (v18 : BitVec 32) (arg14 : BitVec 32) (arg15 : BitVec 32) (v1153 : BitVec 32) (v1168 : BitVec 32) (v1183 : BitVec 32) (v1198 : BitVec 32) (k0_hw76 : k0_chk76 d0 v18 arg14 arg15 v1153 v1168 v1183 v1198), ∀ (k0_h223 : k0_cond223 d0 v1198 = 1#1), 8 ∣ (k0_mult161 d0 arg14 v1153 v1168 v1183).toNat := fun d0 v18 arg14 arg15 v1153 v1168 v1183 v1198 k0_hw76 k0_h223 => k0_hw76.1 k0_h223
theorem k0_off237_inb : ∀ (d0 : Dev nD) (v18 : BitVec 32) (arg14 : BitVec 32) (arg15 : BitVec 32) (v1153 : BitVec 32) (v1168 : BitVec 32) (v1183 : BitVec 32) (v1198 : BitVec 32) (k0_hw76 : k0_chk76 d0 v18 arg14 arg15 v1153 v1168 v1183 v1198), ∀ (k0_h223 : k0_cond223 d0 v1198 = 1#1), ∀ a, (k0_off237 d0 arg14 v1153 v1168 v1183) a + S8x128.size a ≤ S17408x128.size a := fun d0 v18 arg14 arg15 v1153 v1168 v1183 v1198 k0_hw76 k0_h223 => k0_hw76.2.1 k0_h223
theorem k0_mult162_dvd : ∀ (d0 : Dev nD) (v18 : BitVec 32) (arg14 : BitVec 32) (arg15 : BitVec 32) (v1153 : BitVec 32) (v1168 : BitVec 32) (v1183 : BitVec 32) (v1198 : BitVec 32) (k0_hw76 : k0_chk76 d0 v18 arg14 arg15 v1153 v1168 v1183 v1198), ∀ (k0_h224 : k0_cond224 d0 v1198 = 1#1), 8 ∣ (k0_mult162 d0 v18 arg15 v1153 v1168 v1183).toNat := fun d0 v18 arg14 arg15 v1153 v1168 v1183 v1198 k0_hw76 k0_h224 => k0_hw76.2.2.1 k0_h224
theorem k0_off238_inb : ∀ (d0 : Dev nD) (v18 : BitVec 32) (arg14 : BitVec 32) (arg15 : BitVec 32) (v1153 : BitVec 32) (v1168 : BitVec 32) (v1183 : BitVec 32) (v1198 : BitVec 32) (k0_hw76 : k0_chk76 d0 v18 arg14 arg15 v1153 v1168 v1183 v1198), ∀ (k0_h224 : k0_cond224 d0 v1198 = 1#1), ∀ a, (k0_off238 d0 v18 arg15 v1153 v1168 v1183) a + S8x128.size a ≤ S16384x128.size a := fun d0 v18 arg14 arg15 v1153 v1168 v1183 v1198 k0_hw76 k0_h224 => k0_hw76.2.2.2 k0_h224

def k0_off239 (k0_t10 : Fin k0_t10_loop.trips) : Fin 2 → Nat :=
  let c9_762 : Index := 9#32
  let c0_i32_258 : BitVec 32 := 0#32
  let c1_i32_260 : BitVec 32 := 1#32
  let arg13 : BitVec 32 := Scf.iv c0_i32_258 c1_i32_260 k0_t10
  let c8_i32_760 : BitVec 32 := 8#32
  let v1210 : BitVec 32 := Scalar.muli arg13 c8_i32_760
  let c4_i32_761 : BitVec 32 := 4#32
  let v1211 : BitVec 32 := Scalar.addi v1210 c4_i32_761
  let v1212 : Index := Scalar.indexCast v1211
  ![9, v1212.toNat]
def k0_mult163 (d0 : Dev nD) (arg14 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  v1269
def k0_cond225 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let v1215 : BitVec 32 := Scalar.extui v1214
  let c0_i32_763 : BitVec 32 := 0#32
  let v1216 : BitVec 1 := Scalar.cmpi .ne v1215 c0_i32_763
  v1216

def k0_off240 (d0 : Dev nD) (arg14 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  let v1270 : BitVec 32 := v1269
  let v1271 : Index := Scalar.indexCast v1270
  let c0_789 : Index := 0#32
  ![v1271.toNat, 0]
def k0_mult164 (d0 : Dev nD) (v18 : BitVec 32) (arg15 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  v1270
def k0_cond226 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let true_764 : BitVec 1 := 1#1
  let v1217 : BitVec 1 := Scalar.xori v1214 true_764
  let v1218 : BitVec 32 := Scalar.extui v1217
  let c0_i32_765 : BitVec 32 := 0#32
  let v1219 : BitVec 1 := Scalar.cmpi .ne v1218 c0_i32_765
  v1219

def k0_off241 (d0 : Dev nD) (v18 : BitVec 32) (arg15 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk77 (d0 : Dev nD) (v18 : BitVec 32) (arg14 : BitVec 32) (arg15 : BitVec 32) (v1153 : BitVec 32) (v1168 : BitVec 32) (v1183 : BitVec 32) (v1198 : BitVec 32) (v1213 : BitVec 32) : Prop :=
  (∀ (k0_h225 : k0_cond225 d0 v1213 = 1#1), 8 ∣ (k0_mult163 d0 arg14 v1153 v1168 v1183 v1198).toNat) ∧
  (∀ (k0_h225 : k0_cond225 d0 v1213 = 1#1), ∀ a, (k0_off240 d0 arg14 v1153 v1168 v1183 v1198) a + S8x128.size a ≤ S17408x128.size a) ∧
  (∀ (k0_h226 : k0_cond226 d0 v1213 = 1#1), 8 ∣ (k0_mult164 d0 v18 arg15 v1153 v1168 v1183 v1198).toNat) ∧
  (∀ (k0_h226 : k0_cond226 d0 v1213 = 1#1), ∀ a, (k0_off241 d0 v18 arg15 v1153 v1168 v1183 v1198) a + S8x128.size a ≤ S16384x128.size a)
theorem k0_mult163_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw77 : k0_chk77 d0 v18 arg14 arg15 v1153 v1168 v1183 v1198 v1213), ∀ (k0_h225 : k0_cond225 d0 v1213 = 1#1), 8 ∣ (k0_mult163 d0 arg14 v1153 v1168 v1183 v1198).toNat := fun d0 v18 arg14 arg15 v1153 v1168 v1183 v1198 v1213 k0_hw77 k0_h225 => k0_hw77.1 k0_h225
theorem k0_off240_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw77 : k0_chk77 d0 v18 arg14 arg15 v1153 v1168 v1183 v1198 v1213), ∀ (k0_h225 : k0_cond225 d0 v1213 = 1#1), ∀ a, (k0_off240 d0 arg14 v1153 v1168 v1183 v1198) a + S8x128.size a ≤ S17408x128.size a := fun d0 v18 arg14 arg15 v1153 v1168 v1183 v1198 v1213 k0_hw77 k0_h225 => k0_hw77.2.1 k0_h225
theorem k0_mult164_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw77 : k0_chk77 d0 v18 arg14 arg15 v1153 v1168 v1183 v1198 v1213), ∀ (k0_h226 : k0_cond226 d0 v1213 = 1#1), 8 ∣ (k0_mult164 d0 v18 arg15 v1153 v1168 v1183 v1198).toNat := fun d0 v18 arg14 arg15 v1153 v1168 v1183 v1198 v1213 k0_hw77 k0_h226 => k0_hw77.2.2.1 k0_h226
theorem k0_off241_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw77 : k0_chk77 d0 v18 arg14 arg15 v1153 v1168 v1183 v1198 v1213), ∀ (k0_h226 : k0_cond226 d0 v1213 = 1#1), ∀ a, (k0_off241 d0 v18 arg15 v1153 v1168 v1183 v1198) a + S8x128.size a ≤ S16384x128.size a := fun d0 v18 arg14 arg15 v1153 v1168 v1183 v1198 v1213 k0_hw77 k0_h226 => k0_hw77.2.2.2 k0_h226

def k0_off242 (k0_t10 : Fin k0_t10_loop.trips) : Fin 2 → Nat :=
  let c9_769 : Index := 9#32
  let c0_i32_258 : BitVec 32 := 0#32
  let c1_i32_260 : BitVec 32 := 1#32
  let arg13 : BitVec 32 := Scf.iv c0_i32_258 c1_i32_260 k0_t10
  let c8_i32_767 : BitVec 32 := 8#32
  let v1225 : BitVec 32 := Scalar.muli arg13 c8_i32_767
  let c5_i32_768 : BitVec 32 := 5#32
  let v1226 : BitVec 32 := Scalar.addi v1225 c5_i32_768
  let v1227 : Index := Scalar.indexCast v1226
  ![9, v1227.toNat]
def k0_mult165 (d0 : Dev nD) (arg14 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  v1269
def k0_cond227 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let v1230 : BitVec 32 := Scalar.extui v1229
  let c0_i32_770 : BitVec 32 := 0#32
  let v1231 : BitVec 1 := Scalar.cmpi .ne v1230 c0_i32_770
  v1231

def k0_off243 (d0 : Dev nD) (arg14 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  let v1270 : BitVec 32 := v1269
  let v1271 : Index := Scalar.indexCast v1270
  let c0_789 : Index := 0#32
  ![v1271.toNat, 0]
def k0_mult166 (d0 : Dev nD) (v18 : BitVec 32) (arg15 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  v1270
def k0_cond228 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let true_771 : BitVec 1 := 1#1
  let v1232 : BitVec 1 := Scalar.xori v1229 true_771
  let v1233 : BitVec 32 := Scalar.extui v1232
  let c0_i32_772 : BitVec 32 := 0#32
  let v1234 : BitVec 1 := Scalar.cmpi .ne v1233 c0_i32_772
  v1234

def k0_off244 (d0 : Dev nD) (v18 : BitVec 32) (arg15 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk78 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) : Prop :=
  (∀ (k0_h227 : k0_cond227 d0 v1228 = 1#1), 8 ∣ (k0_mult165 d0 arg14 v1153 v1168 v1183 v1198 v1213).toNat) ∧
  (∀ (k0_h227 : k0_cond227 d0 v1228 = 1#1), ∀ a, (k0_off243 d0 arg14 v1153 v1168 v1183 v1198 v1213) a + S8x128.size a ≤ S17408x128.size a) ∧
  (∀ (k0_h228 : k0_cond228 d0 v1228 = 1#1), 8 ∣ (k0_mult166 d0 v18 arg15 v1153 v1168 v1183 v1198 v1213).toNat) ∧
  (∀ (k0_h228 : k0_cond228 d0 v1228 = 1#1), ∀ a, (k0_off244 d0 v18 arg15 v1153 v1168 v1183 v1198 v1213) a + S8x128.size a ≤ S16384x128.size a)
theorem k0_mult165_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw78 : k0_chk78 d0 v18 arg14 arg15 v1153 v1168 v1183 v1198 v1213 v1228), ∀ (k0_h227 : k0_cond227 d0 v1228 = 1#1), 8 ∣ (k0_mult165 d0 arg14 v1153 v1168 v1183 v1198 v1213).toNat := fun d0 v18 arg14 arg15 v1153 v1168 v1183 v1198 v1213 v1228 k0_hw78 k0_h227 => k0_hw78.1 k0_h227
theorem k0_off243_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw78 : k0_chk78 d0 v18 arg14 arg15 v1153 v1168 v1183 v1198 v1213 v1228), ∀ (k0_h227 : k0_cond227 d0 v1228 = 1#1), ∀ a, (k0_off243 d0 arg14 v1153 v1168 v1183 v1198 v1213) a + S8x128.size a ≤ S17408x128.size a := fun d0 v18 arg14 arg15 v1153 v1168 v1183 v1198 v1213 v1228 k0_hw78 k0_h227 => k0_hw78.2.1 k0_h227
theorem k0_mult166_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw78 : k0_chk78 d0 v18 arg14 arg15 v1153 v1168 v1183 v1198 v1213 v1228), ∀ (k0_h228 : k0_cond228 d0 v1228 = 1#1), 8 ∣ (k0_mult166 d0 v18 arg15 v1153 v1168 v1183 v1198 v1213).toNat := fun d0 v18 arg14 arg15 v1153 v1168 v1183 v1198 v1213 v1228 k0_hw78 k0_h228 => k0_hw78.2.2.1 k0_h228
theorem k0_off244_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw78 : k0_chk78 d0 v18 arg14 arg15 v1153 v1168 v1183 v1198 v1213 v1228), ∀ (k0_h228 : k0_cond228 d0 v1228 = 1#1), ∀ a, (k0_off244 d0 v18 arg15 v1153 v1168 v1183 v1198 v1213) a + S8x128.size a ≤ S16384x128.size a := fun d0 v18 arg14 arg15 v1153 v1168 v1183 v1198 v1213 v1228 k0_hw78 k0_h228 => k0_hw78.2.2.2 k0_h228

def k0_off245 (k0_t10 : Fin k0_t10_loop.trips) : Fin 2 → Nat :=
  let c9_776 : Index := 9#32
  let c0_i32_258 : BitVec 32 := 0#32
  let c1_i32_260 : BitVec 32 := 1#32
  let arg13 : BitVec 32 := Scf.iv c0_i32_258 c1_i32_260 k0_t10
  let c8_i32_774 : BitVec 32 := 8#32
  let v1240 : BitVec 32 := Scalar.muli arg13 c8_i32_774
  let c6_i32_775 : BitVec 32 := 6#32
  let v1241 : BitVec 32 := Scalar.addi v1240 c6_i32_775
  let v1242 : Index := Scalar.indexCast v1241
  ![9, v1242.toNat]
def k0_mult167 (d0 : Dev nD) (arg14 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  v1269
def k0_cond229 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let v1245 : BitVec 32 := Scalar.extui v1244
  let c0_i32_777 : BitVec 32 := 0#32
  let v1246 : BitVec 1 := Scalar.cmpi .ne v1245 c0_i32_777
  v1246

def k0_off246 (d0 : Dev nD) (arg14 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  let v1270 : BitVec 32 := v1269
  let v1271 : Index := Scalar.indexCast v1270
  let c0_789 : Index := 0#32
  ![v1271.toNat, 0]
def k0_mult168 (d0 : Dev nD) (v18 : BitVec 32) (arg15 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  v1270
def k0_cond230 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let true_778 : BitVec 1 := 1#1
  let v1247 : BitVec 1 := Scalar.xori v1244 true_778
  let v1248 : BitVec 32 := Scalar.extui v1247
  let c0_i32_779 : BitVec 32 := 0#32
  let v1249 : BitVec 1 := Scalar.cmpi .ne v1248 c0_i32_779
  v1249

def k0_off247 (d0 : Dev nD) (v18 : BitVec 32) (arg15 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk79 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) : Prop :=
  (∀ (k0_h229 : k0_cond229 d0 v1243 = 1#1), 8 ∣ (k0_mult167 d0 arg14 v1153 v1168 v1183 v1198 v1213 v1228).toNat) ∧
  (∀ (k0_h229 : k0_cond229 d0 v1243 = 1#1), ∀ a, (k0_off246 d0 arg14 v1153 v1168 v1183 v1198 v1213 v1228) a + S8x128.size a ≤ S17408x128.size a) ∧
  (∀ (k0_h230 : k0_cond230 d0 v1243 = 1#1), 8 ∣ (k0_mult168 d0 v18 arg15 v1153 v1168 v1183 v1198 v1213 v1228).toNat) ∧
  (∀ (k0_h230 : k0_cond230 d0 v1243 = 1#1), ∀ a, (k0_off247 d0 v18 arg15 v1153 v1168 v1183 v1198 v1213 v1228) a + S8x128.size a ≤ S16384x128.size a)
theorem k0_mult167_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw79 : k0_chk79 d0 v18 arg14 arg15 v1153 v1168 v1183 v1198 v1213 v1228 v1243), ∀ (k0_h229 : k0_cond229 d0 v1243 = 1#1), 8 ∣ (k0_mult167 d0 arg14 v1153 v1168 v1183 v1198 v1213 v1228).toNat := fun d0 v18 arg14 arg15 v1153 v1168 v1183 v1198 v1213 v1228 v1243 k0_hw79 k0_h229 => k0_hw79.1 k0_h229
theorem k0_off246_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw79 : k0_chk79 d0 v18 arg14 arg15 v1153 v1168 v1183 v1198 v1213 v1228 v1243), ∀ (k0_h229 : k0_cond229 d0 v1243 = 1#1), ∀ a, (k0_off246 d0 arg14 v1153 v1168 v1183 v1198 v1213 v1228) a + S8x128.size a ≤ S17408x128.size a := fun d0 v18 arg14 arg15 v1153 v1168 v1183 v1198 v1213 v1228 v1243 k0_hw79 k0_h229 => k0_hw79.2.1 k0_h229
theorem k0_mult168_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw79 : k0_chk79 d0 v18 arg14 arg15 v1153 v1168 v1183 v1198 v1213 v1228 v1243), ∀ (k0_h230 : k0_cond230 d0 v1243 = 1#1), 8 ∣ (k0_mult168 d0 v18 arg15 v1153 v1168 v1183 v1198 v1213 v1228).toNat := fun d0 v18 arg14 arg15 v1153 v1168 v1183 v1198 v1213 v1228 v1243 k0_hw79 k0_h230 => k0_hw79.2.2.1 k0_h230
theorem k0_off247_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw79 : k0_chk79 d0 v18 arg14 arg15 v1153 v1168 v1183 v1198 v1213 v1228 v1243), ∀ (k0_h230 : k0_cond230 d0 v1243 = 1#1), ∀ a, (k0_off247 d0 v18 arg15 v1153 v1168 v1183 v1198 v1213 v1228) a + S8x128.size a ≤ S16384x128.size a := fun d0 v18 arg14 arg15 v1153 v1168 v1183 v1198 v1213 v1228 v1243 k0_hw79 k0_h230 => k0_hw79.2.2.2 k0_h230

def k0_off248 (k0_t10 : Fin k0_t10_loop.trips) : Fin 2 → Nat :=
  let c9_783 : Index := 9#32
  let c0_i32_258 : BitVec 32 := 0#32
  let c1_i32_260 : BitVec 32 := 1#32
  let arg13 : BitVec 32 := Scf.iv c0_i32_258 c1_i32_260 k0_t10
  let c8_i32_781 : BitVec 32 := 8#32
  let v1255 : BitVec 32 := Scalar.muli arg13 c8_i32_781
  let c7_i32_782 : BitVec 32 := 7#32
  let v1256 : BitVec 32 := Scalar.addi v1255 c7_i32_782
  let v1257 : Index := Scalar.indexCast v1256
  ![9, v1257.toNat]
def k0_mult169 (d0 : Dev nD) (arg14 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  v1269
def k0_cond231 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let v1260 : BitVec 32 := Scalar.extui v1259
  let c0_i32_784 : BitVec 32 := 0#32
  let v1261 : BitVec 1 := Scalar.cmpi .ne v1260 c0_i32_784
  v1261

def k0_off249 (d0 : Dev nD) (arg14 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  let v1270 : BitVec 32 := v1269
  let v1271 : Index := Scalar.indexCast v1270
  let c0_789 : Index := 0#32
  ![v1271.toNat, 0]
def k0_mult170 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  v1270
def k0_cond232 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let true_785 : BitVec 1 := 1#1
  let v1262 : BitVec 1 := Scalar.xori v1259 true_785
  let v1263 : BitVec 32 := Scalar.extui v1262
  let c0_i32_786 : BitVec 32 := 0#32
  let v1264 : BitVec 1 := Scalar.cmpi .ne v1263 c0_i32_786
  v1264

def k0_off250 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk80 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) : Prop :=
  (∀ (k0_h231 : k0_cond231 d0 v1258 = 1#1), 8 ∣ (k0_mult169 d0 arg14 v1153 v1168 v1183 v1198 v1213 v1228 v1243).toNat) ∧
  (∀ (k0_h231 : k0_cond231 d0 v1258 = 1#1), ∀ a, (k0_off249 d0 arg14 v1153 v1168 v1183 v1198 v1213 v1228 v1243) a + S8x128.size a ≤ S17408x128.size a) ∧
  (∀ (k0_h232 : k0_cond232 d0 v1258 = 1#1), 8 ∣ (k0_mult170 d0 v18 arg15 v1153 v1168 v1183 v1198 v1213 v1228 v1243).toNat) ∧
  (∀ (k0_h232 : k0_cond232 d0 v1258 = 1#1), ∀ a, (k0_off250 d0 v18 arg15 v1153 v1168 v1183 v1198 v1213 v1228 v1243) a + S8x128.size a ≤ S16384x128.size a)
theorem k0_mult169_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw80 : k0_chk80 d0 v18 arg14 arg15 v1153 v1168 v1183 v1198 v1213 v1228 v1243 v1258), ∀ (k0_h231 : k0_cond231 d0 v1258 = 1#1), 8 ∣ (k0_mult169 d0 arg14 v1153 v1168 v1183 v1198 v1213 v1228 v1243).toNat := fun d0 v18 arg14 arg15 v1153 v1168 v1183 v1198 v1213 v1228 v1243 v1258 k0_hw80 k0_h231 => k0_hw80.1 k0_h231
theorem k0_off249_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw80 : k0_chk80 d0 v18 arg14 arg15 v1153 v1168 v1183 v1198 v1213 v1228 v1243 v1258), ∀ (k0_h231 : k0_cond231 d0 v1258 = 1#1), ∀ a, (k0_off249 d0 arg14 v1153 v1168 v1183 v1198 v1213 v1228 v1243) a + S8x128.size a ≤ S17408x128.size a := fun d0 v18 arg14 arg15 v1153 v1168 v1183 v1198 v1213 v1228 v1243 v1258 k0_hw80 k0_h231 => k0_hw80.2.1 k0_h231
theorem k0_mult170_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw80 : k0_chk80 d0 v18 arg14 arg15 v1153 v1168 v1183 v1198 v1213 v1228 v1243 v1258), ∀ (k0_h232 : k0_cond232 d0 v1258 = 1#1), 8 ∣ (k0_mult170 d0 v18 arg15 v1153 v1168 v1183 v1198 v1213 v1228 v1243).toNat := fun d0 v18 arg14 arg15 v1153 v1168 v1183 v1198 v1213 v1228 v1243 v1258 k0_hw80 k0_h232 => k0_hw80.2.2.1 k0_h232
theorem k0_off250_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw80 : k0_chk80 d0 v18 arg14 arg15 v1153 v1168 v1183 v1198 v1213 v1228 v1243 v1258), ∀ (k0_h232 : k0_cond232 d0 v1258 = 1#1), ∀ a, (k0_off250 d0 v18 arg15 v1153 v1168 v1183 v1198 v1213 v1228 v1243) a + S8x128.size a ≤ S16384x128.size a := fun d0 v18 arg14 arg15 v1153 v1168 v1183 v1198 v1213 v1228 v1243 v1258 k0_hw80 k0_h232 => k0_hw80.2.2.2 k0_h232

def k0_dev74 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1147 : BitVec 32 := Scalar.muli v9 c16_i32_736
  let v1148 : BitVec 32 := Scalar.addi c0_i32_737 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1149 : BitVec 32 := Scalar.muli v5 c4_i32_738
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1151 : BitVec 32 := Scalar.muli v8 c1_i32_739
  let v1152 : BitVec 32 := Scalar.addi v1150 v1151
  v1152.toNat
def k0_dev75 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev76 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev77 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev78 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev79 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev80 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev81 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev82 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev83 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev84 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev85 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev86 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
@[reducible] def k0_t11_loop : Scf.Loop 32 :=
  let c0_i32_300 : BitVec 32 := 0#32
  let c16_i32_301 : BitVec 32 := 16#32
  let v481 : BitVec 32 := Scalar.addi c0_i32_300 c16_i32_301
  let c1_i32_302 : BitVec 32 := 1#32
  ⟨c0_i32_300, v481, c1_i32_302⟩
def k0_mult171 (k0_t11 : Fin k0_t11_loop.trips) : BitVec 32 :=
  let c1280_i32_731 : BitVec 32 := 1280#32
  let c0_i32_300 : BitVec 32 := 0#32
  let c1_i32_302 : BitVec 32 := 1#32
  let arg13 : BitVec 32 := Scf.iv c0_i32_300 c1_i32_302 k0_t11
  let c8_i32_730 : BitVec 32 := 8#32
  let v1142 : BitVec 32 := Scalar.muli arg13 c8_i32_730
  let v1143 : BitVec 32 := Scalar.addi c1280_i32_731 v1142
  v1143
def k0_off251 (k0_t11 : Fin k0_t11_loop.trips) : Fin 2 → Nat :=
  let c1280_i32_731 : BitVec 32 := 1280#32
  let c0_i32_300 : BitVec 32 := 0#32
  let c1_i32_302 : BitVec 32 := 1#32
  let arg13 : BitVec 32 := Scf.iv c0_i32_300 c1_i32_302 k0_t11
  let c8_i32_730 : BitVec 32 := 8#32
  let v1142 : BitVec 32 := Scalar.muli arg13 c8_i32_730
  let v1143 : BitVec 32 := Scalar.addi c1280_i32_731 v1142
  let v1144 : BitVec 32 := v1143
  let v1145 : Index := Scalar.indexCast v1144
  let c0_732 : Index := 0#32
  ![v1145.toNat, 0]
def k0_off252 (k0_t11 : Fin k0_t11_loop.trips) : Fin 2 → Nat :=
  let c10 : Index := 10#32
  let c0_i32_300 : BitVec 32 := 0#32
  let c1_i32_302 : BitVec 32 := 1#32
  let arg13 : BitVec 32 := Scf.iv c0_i32_300 c1_i32_302 k0_t11
  let c8_i32_733 : BitVec 32 := 8#32
  let v1150 : BitVec 32 := Scalar.muli arg13 c8_i32_733
  let c0_i32_734 : BitVec 32 := 0#32
  let v1151 : BitVec 32 := Scalar.addi v1150 c0_i32_734
  let v1152 : Index := Scalar.indexCast v1151
  ![10, v1152.toNat]
def k0_mult172 (arg14 : BitVec 32) : BitVec 32 :=
  let c8_i32_788 : BitVec 32 := 8#32
  let v1269 : BitVec 32 := Scalar.muli arg14 c8_i32_788
  v1269
def k0_cond246 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1155 : BitVec 32 := Scalar.extui v1154
  let c0_i32_735 : BitVec 32 := 0#32
  let v1156 : BitVec 1 := Scalar.cmpi .ne v1155 c0_i32_735
  v1156

def k0_off253 (arg14 : BitVec 32) : Fin 2 → Nat :=
  let c8_i32_788 : BitVec 32 := 8#32
  let v1269 : BitVec 32 := Scalar.muli arg14 c8_i32_788
  let v1270 : BitVec 32 := v1269
  let v1271 : Index := Scalar.indexCast v1270
  let c0_789 : Index := 0#32
  ![v1271.toNat, 0]
def k0_mult173 (d0 : Dev nD) (v18 : BitVec 32) (arg15 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  v1270
def k0_cond247 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let true_736 : BitVec 1 := 1#1
  let v1157 : BitVec 1 := Scalar.xori v1154 true_736
  let v1158 : BitVec 32 := Scalar.extui v1157
  let c0_i32_737 : BitVec 32 := 0#32
  let v1159 : BitVec 1 := Scalar.cmpi .ne v1158 c0_i32_737
  v1159

def k0_off254 (d0 : Dev nD) (v18 : BitVec 32) (arg15 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk81 (d0 : Dev nD) (v18 : BitVec 32) (arg14 : BitVec 32) (arg15 : BitVec 32) (v1153 : BitVec 32) : Prop :=
  (∀ (k0_h246 : k0_cond246 d0 v1153 = 1#1), 8 ∣ (k0_mult172 arg14).toNat) ∧
  (∀ (k0_h246 : k0_cond246 d0 v1153 = 1#1), ∀ a, (k0_off253 arg14) a + S8x128.size a ≤ S17408x128.size a) ∧
  (∀ (k0_h247 : k0_cond247 d0 v1153 = 1#1), 8 ∣ (k0_mult173 d0 v18 arg15).toNat) ∧
  (∀ (k0_h247 : k0_cond247 d0 v1153 = 1#1), ∀ a, (k0_off254 d0 v18 arg15) a + S8x128.size a ≤ S16384x128.size a)
theorem k0_mult172_dvd : ∀ (d0 : Dev nD) (v18 : BitVec 32) (arg14 : BitVec 32) (arg15 : BitVec 32) (v1153 : BitVec 32) (k0_hw81 : k0_chk81 d0 v18 arg14 arg15 v1153), ∀ (k0_h246 : k0_cond246 d0 v1153 = 1#1), 8 ∣ (k0_mult172 arg14).toNat := fun d0 v18 arg14 arg15 v1153 k0_hw81 k0_h246 => k0_hw81.1 k0_h246
theorem k0_off253_inb : ∀ (d0 : Dev nD) (v18 : BitVec 32) (arg14 : BitVec 32) (arg15 : BitVec 32) (v1153 : BitVec 32) (k0_hw81 : k0_chk81 d0 v18 arg14 arg15 v1153), ∀ (k0_h246 : k0_cond246 d0 v1153 = 1#1), ∀ a, (k0_off253 arg14) a + S8x128.size a ≤ S17408x128.size a := fun d0 v18 arg14 arg15 v1153 k0_hw81 k0_h246 => k0_hw81.2.1 k0_h246
theorem k0_mult173_dvd : ∀ (d0 : Dev nD) (v18 : BitVec 32) (arg14 : BitVec 32) (arg15 : BitVec 32) (v1153 : BitVec 32) (k0_hw81 : k0_chk81 d0 v18 arg14 arg15 v1153), ∀ (k0_h247 : k0_cond247 d0 v1153 = 1#1), 8 ∣ (k0_mult173 d0 v18 arg15).toNat := fun d0 v18 arg14 arg15 v1153 k0_hw81 k0_h247 => k0_hw81.2.2.1 k0_h247
theorem k0_off254_inb : ∀ (d0 : Dev nD) (v18 : BitVec 32) (arg14 : BitVec 32) (arg15 : BitVec 32) (v1153 : BitVec 32) (k0_hw81 : k0_chk81 d0 v18 arg14 arg15 v1153), ∀ (k0_h247 : k0_cond247 d0 v1153 = 1#1), ∀ a, (k0_off254 d0 v18 arg15) a + S8x128.size a ≤ S16384x128.size a := fun d0 v18 arg14 arg15 v1153 k0_hw81 k0_h247 => k0_hw81.2.2.2 k0_h247

def k0_off255 (k0_t11 : Fin k0_t11_loop.trips) : Fin 2 → Nat :=
  let c10_741 : Index := 10#32
  let c0_i32_300 : BitVec 32 := 0#32
  let c1_i32_302 : BitVec 32 := 1#32
  let arg13 : BitVec 32 := Scf.iv c0_i32_300 c1_i32_302 k0_t11
  let c8_i32_739 : BitVec 32 := 8#32
  let v1165 : BitVec 32 := Scalar.muli arg13 c8_i32_739
  let c1_i32_740 : BitVec 32 := 1#32
  let v1166 : BitVec 32 := Scalar.addi v1165 c1_i32_740
  let v1167 : Index := Scalar.indexCast v1166
  ![10, v1167.toNat]
def k0_mult174 (d0 : Dev nD) (arg14 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  v1269
def k0_cond248 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let v1170 : BitVec 32 := Scalar.extui v1169
  let c0_i32_742 : BitVec 32 := 0#32
  let v1171 : BitVec 1 := Scalar.cmpi .ne v1170 c0_i32_742
  v1171

def k0_off256 (d0 : Dev nD) (arg14 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  let v1270 : BitVec 32 := v1269
  let v1271 : Index := Scalar.indexCast v1270
  let c0_789 : Index := 0#32
  ![v1271.toNat, 0]
def k0_mult175 (d0 : Dev nD) (v18 : BitVec 32) (arg15 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  v1270
def k0_cond249 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let true_743 : BitVec 1 := 1#1
  let v1172 : BitVec 1 := Scalar.xori v1169 true_743
  let v1173 : BitVec 32 := Scalar.extui v1172
  let c0_i32_744 : BitVec 32 := 0#32
  let v1174 : BitVec 1 := Scalar.cmpi .ne v1173 c0_i32_744
  v1174

def k0_off257 (d0 : Dev nD) (v18 : BitVec 32) (arg15 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk82 (d0 : Dev nD) (v18 : BitVec 32) (arg14 : BitVec 32) (arg15 : BitVec 32) (v1153 : BitVec 32) (v1168 : BitVec 32) : Prop :=
  (∀ (k0_h248 : k0_cond248 d0 v1168 = 1#1), 8 ∣ (k0_mult174 d0 arg14 v1153).toNat) ∧
  (∀ (k0_h248 : k0_cond248 d0 v1168 = 1#1), ∀ a, (k0_off256 d0 arg14 v1153) a + S8x128.size a ≤ S17408x128.size a) ∧
  (∀ (k0_h249 : k0_cond249 d0 v1168 = 1#1), 8 ∣ (k0_mult175 d0 v18 arg15 v1153).toNat) ∧
  (∀ (k0_h249 : k0_cond249 d0 v1168 = 1#1), ∀ a, (k0_off257 d0 v18 arg15 v1153) a + S8x128.size a ≤ S16384x128.size a)
theorem k0_mult174_dvd : ∀ (d0 : Dev nD) (v18 : BitVec 32) (arg14 : BitVec 32) (arg15 : BitVec 32) (v1153 : BitVec 32) (v1168 : BitVec 32) (k0_hw82 : k0_chk82 d0 v18 arg14 arg15 v1153 v1168), ∀ (k0_h248 : k0_cond248 d0 v1168 = 1#1), 8 ∣ (k0_mult174 d0 arg14 v1153).toNat := fun d0 v18 arg14 arg15 v1153 v1168 k0_hw82 k0_h248 => k0_hw82.1 k0_h248
theorem k0_off256_inb : ∀ (d0 : Dev nD) (v18 : BitVec 32) (arg14 : BitVec 32) (arg15 : BitVec 32) (v1153 : BitVec 32) (v1168 : BitVec 32) (k0_hw82 : k0_chk82 d0 v18 arg14 arg15 v1153 v1168), ∀ (k0_h248 : k0_cond248 d0 v1168 = 1#1), ∀ a, (k0_off256 d0 arg14 v1153) a + S8x128.size a ≤ S17408x128.size a := fun d0 v18 arg14 arg15 v1153 v1168 k0_hw82 k0_h248 => k0_hw82.2.1 k0_h248
theorem k0_mult175_dvd : ∀ (d0 : Dev nD) (v18 : BitVec 32) (arg14 : BitVec 32) (arg15 : BitVec 32) (v1153 : BitVec 32) (v1168 : BitVec 32) (k0_hw82 : k0_chk82 d0 v18 arg14 arg15 v1153 v1168), ∀ (k0_h249 : k0_cond249 d0 v1168 = 1#1), 8 ∣ (k0_mult175 d0 v18 arg15 v1153).toNat := fun d0 v18 arg14 arg15 v1153 v1168 k0_hw82 k0_h249 => k0_hw82.2.2.1 k0_h249
theorem k0_off257_inb : ∀ (d0 : Dev nD) (v18 : BitVec 32) (arg14 : BitVec 32) (arg15 : BitVec 32) (v1153 : BitVec 32) (v1168 : BitVec 32) (k0_hw82 : k0_chk82 d0 v18 arg14 arg15 v1153 v1168), ∀ (k0_h249 : k0_cond249 d0 v1168 = 1#1), ∀ a, (k0_off257 d0 v18 arg15 v1153) a + S8x128.size a ≤ S16384x128.size a := fun d0 v18 arg14 arg15 v1153 v1168 k0_hw82 k0_h249 => k0_hw82.2.2.2 k0_h249

def k0_off258 (k0_t11 : Fin k0_t11_loop.trips) : Fin 2 → Nat :=
  let c10_748 : Index := 10#32
  let c0_i32_300 : BitVec 32 := 0#32
  let c1_i32_302 : BitVec 32 := 1#32
  let arg13 : BitVec 32 := Scf.iv c0_i32_300 c1_i32_302 k0_t11
  let c8_i32_746 : BitVec 32 := 8#32
  let v1180 : BitVec 32 := Scalar.muli arg13 c8_i32_746
  let c2_i32_747 : BitVec 32 := 2#32
  let v1181 : BitVec 32 := Scalar.addi v1180 c2_i32_747
  let v1182 : Index := Scalar.indexCast v1181
  ![10, v1182.toNat]
def k0_mult176 (d0 : Dev nD) (arg14 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  v1269
def k0_cond250 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let v1185 : BitVec 32 := Scalar.extui v1184
  let c0_i32_749 : BitVec 32 := 0#32
  let v1186 : BitVec 1 := Scalar.cmpi .ne v1185 c0_i32_749
  v1186

def k0_off259 (d0 : Dev nD) (arg14 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  let v1270 : BitVec 32 := v1269
  let v1271 : Index := Scalar.indexCast v1270
  let c0_789 : Index := 0#32
  ![v1271.toNat, 0]
def k0_mult177 (d0 : Dev nD) (v18 : BitVec 32) (arg15 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  v1270
def k0_cond251 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let true_750 : BitVec 1 := 1#1
  let v1187 : BitVec 1 := Scalar.xori v1184 true_750
  let v1188 : BitVec 32 := Scalar.extui v1187
  let c0_i32_751 : BitVec 32 := 0#32
  let v1189 : BitVec 1 := Scalar.cmpi .ne v1188 c0_i32_751
  v1189

def k0_off260 (d0 : Dev nD) (v18 : BitVec 32) (arg15 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk83 (d0 : Dev nD) (v18 : BitVec 32) (arg14 : BitVec 32) (arg15 : BitVec 32) (v1153 : BitVec 32) (v1168 : BitVec 32) (v1183 : BitVec 32) : Prop :=
  (∀ (k0_h250 : k0_cond250 d0 v1183 = 1#1), 8 ∣ (k0_mult176 d0 arg14 v1153 v1168).toNat) ∧
  (∀ (k0_h250 : k0_cond250 d0 v1183 = 1#1), ∀ a, (k0_off259 d0 arg14 v1153 v1168) a + S8x128.size a ≤ S17408x128.size a) ∧
  (∀ (k0_h251 : k0_cond251 d0 v1183 = 1#1), 8 ∣ (k0_mult177 d0 v18 arg15 v1153 v1168).toNat) ∧
  (∀ (k0_h251 : k0_cond251 d0 v1183 = 1#1), ∀ a, (k0_off260 d0 v18 arg15 v1153 v1168) a + S8x128.size a ≤ S16384x128.size a)
theorem k0_mult176_dvd : ∀ (d0 : Dev nD) (v18 : BitVec 32) (arg14 : BitVec 32) (arg15 : BitVec 32) (v1153 : BitVec 32) (v1168 : BitVec 32) (v1183 : BitVec 32) (k0_hw83 : k0_chk83 d0 v18 arg14 arg15 v1153 v1168 v1183), ∀ (k0_h250 : k0_cond250 d0 v1183 = 1#1), 8 ∣ (k0_mult176 d0 arg14 v1153 v1168).toNat := fun d0 v18 arg14 arg15 v1153 v1168 v1183 k0_hw83 k0_h250 => k0_hw83.1 k0_h250
theorem k0_off259_inb : ∀ (d0 : Dev nD) (v18 : BitVec 32) (arg14 : BitVec 32) (arg15 : BitVec 32) (v1153 : BitVec 32) (v1168 : BitVec 32) (v1183 : BitVec 32) (k0_hw83 : k0_chk83 d0 v18 arg14 arg15 v1153 v1168 v1183), ∀ (k0_h250 : k0_cond250 d0 v1183 = 1#1), ∀ a, (k0_off259 d0 arg14 v1153 v1168) a + S8x128.size a ≤ S17408x128.size a := fun d0 v18 arg14 arg15 v1153 v1168 v1183 k0_hw83 k0_h250 => k0_hw83.2.1 k0_h250
theorem k0_mult177_dvd : ∀ (d0 : Dev nD) (v18 : BitVec 32) (arg14 : BitVec 32) (arg15 : BitVec 32) (v1153 : BitVec 32) (v1168 : BitVec 32) (v1183 : BitVec 32) (k0_hw83 : k0_chk83 d0 v18 arg14 arg15 v1153 v1168 v1183), ∀ (k0_h251 : k0_cond251 d0 v1183 = 1#1), 8 ∣ (k0_mult177 d0 v18 arg15 v1153 v1168).toNat := fun d0 v18 arg14 arg15 v1153 v1168 v1183 k0_hw83 k0_h251 => k0_hw83.2.2.1 k0_h251
theorem k0_off260_inb : ∀ (d0 : Dev nD) (v18 : BitVec 32) (arg14 : BitVec 32) (arg15 : BitVec 32) (v1153 : BitVec 32) (v1168 : BitVec 32) (v1183 : BitVec 32) (k0_hw83 : k0_chk83 d0 v18 arg14 arg15 v1153 v1168 v1183), ∀ (k0_h251 : k0_cond251 d0 v1183 = 1#1), ∀ a, (k0_off260 d0 v18 arg15 v1153 v1168) a + S8x128.size a ≤ S16384x128.size a := fun d0 v18 arg14 arg15 v1153 v1168 v1183 k0_hw83 k0_h251 => k0_hw83.2.2.2 k0_h251

def k0_off261 (k0_t11 : Fin k0_t11_loop.trips) : Fin 2 → Nat :=
  let c10_755 : Index := 10#32
  let c0_i32_300 : BitVec 32 := 0#32
  let c1_i32_302 : BitVec 32 := 1#32
  let arg13 : BitVec 32 := Scf.iv c0_i32_300 c1_i32_302 k0_t11
  let c8_i32_753 : BitVec 32 := 8#32
  let v1195 : BitVec 32 := Scalar.muli arg13 c8_i32_753
  let c3_i32_754 : BitVec 32 := 3#32
  let v1196 : BitVec 32 := Scalar.addi v1195 c3_i32_754
  let v1197 : Index := Scalar.indexCast v1196
  ![10, v1197.toNat]
def k0_mult178 (d0 : Dev nD) (arg14 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  v1269
def k0_cond252 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let v1200 : BitVec 32 := Scalar.extui v1199
  let c0_i32_756 : BitVec 32 := 0#32
  let v1201 : BitVec 1 := Scalar.cmpi .ne v1200 c0_i32_756
  v1201

def k0_off262 (d0 : Dev nD) (arg14 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  let v1270 : BitVec 32 := v1269
  let v1271 : Index := Scalar.indexCast v1270
  let c0_789 : Index := 0#32
  ![v1271.toNat, 0]
def k0_mult179 (d0 : Dev nD) (v18 : BitVec 32) (arg15 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  v1270
def k0_cond253 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let true_757 : BitVec 1 := 1#1
  let v1202 : BitVec 1 := Scalar.xori v1199 true_757
  let v1203 : BitVec 32 := Scalar.extui v1202
  let c0_i32_758 : BitVec 32 := 0#32
  let v1204 : BitVec 1 := Scalar.cmpi .ne v1203 c0_i32_758
  v1204

def k0_off263 (d0 : Dev nD) (v18 : BitVec 32) (arg15 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk84 (d0 : Dev nD) (v18 : BitVec 32) (arg14 : BitVec 32) (arg15 : BitVec 32) (v1153 : BitVec 32) (v1168 : BitVec 32) (v1183 : BitVec 32) (v1198 : BitVec 32) : Prop :=
  (∀ (k0_h252 : k0_cond252 d0 v1198 = 1#1), 8 ∣ (k0_mult178 d0 arg14 v1153 v1168 v1183).toNat) ∧
  (∀ (k0_h252 : k0_cond252 d0 v1198 = 1#1), ∀ a, (k0_off262 d0 arg14 v1153 v1168 v1183) a + S8x128.size a ≤ S17408x128.size a) ∧
  (∀ (k0_h253 : k0_cond253 d0 v1198 = 1#1), 8 ∣ (k0_mult179 d0 v18 arg15 v1153 v1168 v1183).toNat) ∧
  (∀ (k0_h253 : k0_cond253 d0 v1198 = 1#1), ∀ a, (k0_off263 d0 v18 arg15 v1153 v1168 v1183) a + S8x128.size a ≤ S16384x128.size a)
theorem k0_mult178_dvd : ∀ (d0 : Dev nD) (v18 : BitVec 32) (arg14 : BitVec 32) (arg15 : BitVec 32) (v1153 : BitVec 32) (v1168 : BitVec 32) (v1183 : BitVec 32) (v1198 : BitVec 32) (k0_hw84 : k0_chk84 d0 v18 arg14 arg15 v1153 v1168 v1183 v1198), ∀ (k0_h252 : k0_cond252 d0 v1198 = 1#1), 8 ∣ (k0_mult178 d0 arg14 v1153 v1168 v1183).toNat := fun d0 v18 arg14 arg15 v1153 v1168 v1183 v1198 k0_hw84 k0_h252 => k0_hw84.1 k0_h252
theorem k0_off262_inb : ∀ (d0 : Dev nD) (v18 : BitVec 32) (arg14 : BitVec 32) (arg15 : BitVec 32) (v1153 : BitVec 32) (v1168 : BitVec 32) (v1183 : BitVec 32) (v1198 : BitVec 32) (k0_hw84 : k0_chk84 d0 v18 arg14 arg15 v1153 v1168 v1183 v1198), ∀ (k0_h252 : k0_cond252 d0 v1198 = 1#1), ∀ a, (k0_off262 d0 arg14 v1153 v1168 v1183) a + S8x128.size a ≤ S17408x128.size a := fun d0 v18 arg14 arg15 v1153 v1168 v1183 v1198 k0_hw84 k0_h252 => k0_hw84.2.1 k0_h252
theorem k0_mult179_dvd : ∀ (d0 : Dev nD) (v18 : BitVec 32) (arg14 : BitVec 32) (arg15 : BitVec 32) (v1153 : BitVec 32) (v1168 : BitVec 32) (v1183 : BitVec 32) (v1198 : BitVec 32) (k0_hw84 : k0_chk84 d0 v18 arg14 arg15 v1153 v1168 v1183 v1198), ∀ (k0_h253 : k0_cond253 d0 v1198 = 1#1), 8 ∣ (k0_mult179 d0 v18 arg15 v1153 v1168 v1183).toNat := fun d0 v18 arg14 arg15 v1153 v1168 v1183 v1198 k0_hw84 k0_h253 => k0_hw84.2.2.1 k0_h253
theorem k0_off263_inb : ∀ (d0 : Dev nD) (v18 : BitVec 32) (arg14 : BitVec 32) (arg15 : BitVec 32) (v1153 : BitVec 32) (v1168 : BitVec 32) (v1183 : BitVec 32) (v1198 : BitVec 32) (k0_hw84 : k0_chk84 d0 v18 arg14 arg15 v1153 v1168 v1183 v1198), ∀ (k0_h253 : k0_cond253 d0 v1198 = 1#1), ∀ a, (k0_off263 d0 v18 arg15 v1153 v1168 v1183) a + S8x128.size a ≤ S16384x128.size a := fun d0 v18 arg14 arg15 v1153 v1168 v1183 v1198 k0_hw84 k0_h253 => k0_hw84.2.2.2 k0_h253

def k0_off264 (k0_t11 : Fin k0_t11_loop.trips) : Fin 2 → Nat :=
  let c10_762 : Index := 10#32
  let c0_i32_300 : BitVec 32 := 0#32
  let c1_i32_302 : BitVec 32 := 1#32
  let arg13 : BitVec 32 := Scf.iv c0_i32_300 c1_i32_302 k0_t11
  let c8_i32_760 : BitVec 32 := 8#32
  let v1210 : BitVec 32 := Scalar.muli arg13 c8_i32_760
  let c4_i32_761 : BitVec 32 := 4#32
  let v1211 : BitVec 32 := Scalar.addi v1210 c4_i32_761
  let v1212 : Index := Scalar.indexCast v1211
  ![10, v1212.toNat]
def k0_mult180 (d0 : Dev nD) (arg14 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  v1269
def k0_cond254 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let v1215 : BitVec 32 := Scalar.extui v1214
  let c0_i32_763 : BitVec 32 := 0#32
  let v1216 : BitVec 1 := Scalar.cmpi .ne v1215 c0_i32_763
  v1216

def k0_off265 (d0 : Dev nD) (arg14 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  let v1270 : BitVec 32 := v1269
  let v1271 : Index := Scalar.indexCast v1270
  let c0_789 : Index := 0#32
  ![v1271.toNat, 0]
def k0_mult181 (d0 : Dev nD) (v18 : BitVec 32) (arg15 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  v1270
def k0_cond255 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let true_764 : BitVec 1 := 1#1
  let v1217 : BitVec 1 := Scalar.xori v1214 true_764
  let v1218 : BitVec 32 := Scalar.extui v1217
  let c0_i32_765 : BitVec 32 := 0#32
  let v1219 : BitVec 1 := Scalar.cmpi .ne v1218 c0_i32_765
  v1219

def k0_off266 (d0 : Dev nD) (v18 : BitVec 32) (arg15 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk85 (d0 : Dev nD) (v18 : BitVec 32) (arg14 : BitVec 32) (arg15 : BitVec 32) (v1153 : BitVec 32) (v1168 : BitVec 32) (v1183 : BitVec 32) (v1198 : BitVec 32) (v1213 : BitVec 32) : Prop :=
  (∀ (k0_h254 : k0_cond254 d0 v1213 = 1#1), 8 ∣ (k0_mult180 d0 arg14 v1153 v1168 v1183 v1198).toNat) ∧
  (∀ (k0_h254 : k0_cond254 d0 v1213 = 1#1), ∀ a, (k0_off265 d0 arg14 v1153 v1168 v1183 v1198) a + S8x128.size a ≤ S17408x128.size a) ∧
  (∀ (k0_h255 : k0_cond255 d0 v1213 = 1#1), 8 ∣ (k0_mult181 d0 v18 arg15 v1153 v1168 v1183 v1198).toNat) ∧
  (∀ (k0_h255 : k0_cond255 d0 v1213 = 1#1), ∀ a, (k0_off266 d0 v18 arg15 v1153 v1168 v1183 v1198) a + S8x128.size a ≤ S16384x128.size a)
theorem k0_mult180_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw85 : k0_chk85 d0 v18 arg14 arg15 v1153 v1168 v1183 v1198 v1213), ∀ (k0_h254 : k0_cond254 d0 v1213 = 1#1), 8 ∣ (k0_mult180 d0 arg14 v1153 v1168 v1183 v1198).toNat := fun d0 v18 arg14 arg15 v1153 v1168 v1183 v1198 v1213 k0_hw85 k0_h254 => k0_hw85.1 k0_h254
theorem k0_off265_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw85 : k0_chk85 d0 v18 arg14 arg15 v1153 v1168 v1183 v1198 v1213), ∀ (k0_h254 : k0_cond254 d0 v1213 = 1#1), ∀ a, (k0_off265 d0 arg14 v1153 v1168 v1183 v1198) a + S8x128.size a ≤ S17408x128.size a := fun d0 v18 arg14 arg15 v1153 v1168 v1183 v1198 v1213 k0_hw85 k0_h254 => k0_hw85.2.1 k0_h254
theorem k0_mult181_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw85 : k0_chk85 d0 v18 arg14 arg15 v1153 v1168 v1183 v1198 v1213), ∀ (k0_h255 : k0_cond255 d0 v1213 = 1#1), 8 ∣ (k0_mult181 d0 v18 arg15 v1153 v1168 v1183 v1198).toNat := fun d0 v18 arg14 arg15 v1153 v1168 v1183 v1198 v1213 k0_hw85 k0_h255 => k0_hw85.2.2.1 k0_h255
theorem k0_off266_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw85 : k0_chk85 d0 v18 arg14 arg15 v1153 v1168 v1183 v1198 v1213), ∀ (k0_h255 : k0_cond255 d0 v1213 = 1#1), ∀ a, (k0_off266 d0 v18 arg15 v1153 v1168 v1183 v1198) a + S8x128.size a ≤ S16384x128.size a := fun d0 v18 arg14 arg15 v1153 v1168 v1183 v1198 v1213 k0_hw85 k0_h255 => k0_hw85.2.2.2 k0_h255

def k0_off267 (k0_t11 : Fin k0_t11_loop.trips) : Fin 2 → Nat :=
  let c10_769 : Index := 10#32
  let c0_i32_300 : BitVec 32 := 0#32
  let c1_i32_302 : BitVec 32 := 1#32
  let arg13 : BitVec 32 := Scf.iv c0_i32_300 c1_i32_302 k0_t11
  let c8_i32_767 : BitVec 32 := 8#32
  let v1225 : BitVec 32 := Scalar.muli arg13 c8_i32_767
  let c5_i32_768 : BitVec 32 := 5#32
  let v1226 : BitVec 32 := Scalar.addi v1225 c5_i32_768
  let v1227 : Index := Scalar.indexCast v1226
  ![10, v1227.toNat]
def k0_mult182 (d0 : Dev nD) (arg14 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  v1269
def k0_cond256 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let v1230 : BitVec 32 := Scalar.extui v1229
  let c0_i32_770 : BitVec 32 := 0#32
  let v1231 : BitVec 1 := Scalar.cmpi .ne v1230 c0_i32_770
  v1231

def k0_off268 (d0 : Dev nD) (arg14 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  let v1270 : BitVec 32 := v1269
  let v1271 : Index := Scalar.indexCast v1270
  let c0_789 : Index := 0#32
  ![v1271.toNat, 0]
def k0_mult183 (d0 : Dev nD) (v18 : BitVec 32) (arg15 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  v1270
def k0_cond257 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let true_771 : BitVec 1 := 1#1
  let v1232 : BitVec 1 := Scalar.xori v1229 true_771
  let v1233 : BitVec 32 := Scalar.extui v1232
  let c0_i32_772 : BitVec 32 := 0#32
  let v1234 : BitVec 1 := Scalar.cmpi .ne v1233 c0_i32_772
  v1234

def k0_off269 (d0 : Dev nD) (v18 : BitVec 32) (arg15 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk86 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) : Prop :=
  (∀ (k0_h256 : k0_cond256 d0 v1228 = 1#1), 8 ∣ (k0_mult182 d0 arg14 v1153 v1168 v1183 v1198 v1213).toNat) ∧
  (∀ (k0_h256 : k0_cond256 d0 v1228 = 1#1), ∀ a, (k0_off268 d0 arg14 v1153 v1168 v1183 v1198 v1213) a + S8x128.size a ≤ S17408x128.size a) ∧
  (∀ (k0_h257 : k0_cond257 d0 v1228 = 1#1), 8 ∣ (k0_mult183 d0 v18 arg15 v1153 v1168 v1183 v1198 v1213).toNat) ∧
  (∀ (k0_h257 : k0_cond257 d0 v1228 = 1#1), ∀ a, (k0_off269 d0 v18 arg15 v1153 v1168 v1183 v1198 v1213) a + S8x128.size a ≤ S16384x128.size a)
theorem k0_mult182_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw86 : k0_chk86 d0 v18 arg14 arg15 v1153 v1168 v1183 v1198 v1213 v1228), ∀ (k0_h256 : k0_cond256 d0 v1228 = 1#1), 8 ∣ (k0_mult182 d0 arg14 v1153 v1168 v1183 v1198 v1213).toNat := fun d0 v18 arg14 arg15 v1153 v1168 v1183 v1198 v1213 v1228 k0_hw86 k0_h256 => k0_hw86.1 k0_h256
theorem k0_off268_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw86 : k0_chk86 d0 v18 arg14 arg15 v1153 v1168 v1183 v1198 v1213 v1228), ∀ (k0_h256 : k0_cond256 d0 v1228 = 1#1), ∀ a, (k0_off268 d0 arg14 v1153 v1168 v1183 v1198 v1213) a + S8x128.size a ≤ S17408x128.size a := fun d0 v18 arg14 arg15 v1153 v1168 v1183 v1198 v1213 v1228 k0_hw86 k0_h256 => k0_hw86.2.1 k0_h256
theorem k0_mult183_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw86 : k0_chk86 d0 v18 arg14 arg15 v1153 v1168 v1183 v1198 v1213 v1228), ∀ (k0_h257 : k0_cond257 d0 v1228 = 1#1), 8 ∣ (k0_mult183 d0 v18 arg15 v1153 v1168 v1183 v1198 v1213).toNat := fun d0 v18 arg14 arg15 v1153 v1168 v1183 v1198 v1213 v1228 k0_hw86 k0_h257 => k0_hw86.2.2.1 k0_h257
theorem k0_off269_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw86 : k0_chk86 d0 v18 arg14 arg15 v1153 v1168 v1183 v1198 v1213 v1228), ∀ (k0_h257 : k0_cond257 d0 v1228 = 1#1), ∀ a, (k0_off269 d0 v18 arg15 v1153 v1168 v1183 v1198 v1213) a + S8x128.size a ≤ S16384x128.size a := fun d0 v18 arg14 arg15 v1153 v1168 v1183 v1198 v1213 v1228 k0_hw86 k0_h257 => k0_hw86.2.2.2 k0_h257

def k0_off270 (k0_t11 : Fin k0_t11_loop.trips) : Fin 2 → Nat :=
  let c10_776 : Index := 10#32
  let c0_i32_300 : BitVec 32 := 0#32
  let c1_i32_302 : BitVec 32 := 1#32
  let arg13 : BitVec 32 := Scf.iv c0_i32_300 c1_i32_302 k0_t11
  let c8_i32_774 : BitVec 32 := 8#32
  let v1240 : BitVec 32 := Scalar.muli arg13 c8_i32_774
  let c6_i32_775 : BitVec 32 := 6#32
  let v1241 : BitVec 32 := Scalar.addi v1240 c6_i32_775
  let v1242 : Index := Scalar.indexCast v1241
  ![10, v1242.toNat]
def k0_mult184 (d0 : Dev nD) (arg14 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  v1269
def k0_cond258 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let v1245 : BitVec 32 := Scalar.extui v1244
  let c0_i32_777 : BitVec 32 := 0#32
  let v1246 : BitVec 1 := Scalar.cmpi .ne v1245 c0_i32_777
  v1246

def k0_off271 (d0 : Dev nD) (arg14 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  let v1270 : BitVec 32 := v1269
  let v1271 : Index := Scalar.indexCast v1270
  let c0_789 : Index := 0#32
  ![v1271.toNat, 0]
def k0_mult185 (d0 : Dev nD) (v18 : BitVec 32) (arg15 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  v1270
def k0_cond259 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let true_778 : BitVec 1 := 1#1
  let v1247 : BitVec 1 := Scalar.xori v1244 true_778
  let v1248 : BitVec 32 := Scalar.extui v1247
  let c0_i32_779 : BitVec 32 := 0#32
  let v1249 : BitVec 1 := Scalar.cmpi .ne v1248 c0_i32_779
  v1249

def k0_off272 (d0 : Dev nD) (v18 : BitVec 32) (arg15 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk87 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) : Prop :=
  (∀ (k0_h258 : k0_cond258 d0 v1243 = 1#1), 8 ∣ (k0_mult184 d0 arg14 v1153 v1168 v1183 v1198 v1213 v1228).toNat) ∧
  (∀ (k0_h258 : k0_cond258 d0 v1243 = 1#1), ∀ a, (k0_off271 d0 arg14 v1153 v1168 v1183 v1198 v1213 v1228) a + S8x128.size a ≤ S17408x128.size a) ∧
  (∀ (k0_h259 : k0_cond259 d0 v1243 = 1#1), 8 ∣ (k0_mult185 d0 v18 arg15 v1153 v1168 v1183 v1198 v1213 v1228).toNat) ∧
  (∀ (k0_h259 : k0_cond259 d0 v1243 = 1#1), ∀ a, (k0_off272 d0 v18 arg15 v1153 v1168 v1183 v1198 v1213 v1228) a + S8x128.size a ≤ S16384x128.size a)
theorem k0_mult184_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw87 : k0_chk87 d0 v18 arg14 arg15 v1153 v1168 v1183 v1198 v1213 v1228 v1243), ∀ (k0_h258 : k0_cond258 d0 v1243 = 1#1), 8 ∣ (k0_mult184 d0 arg14 v1153 v1168 v1183 v1198 v1213 v1228).toNat := fun d0 v18 arg14 arg15 v1153 v1168 v1183 v1198 v1213 v1228 v1243 k0_hw87 k0_h258 => k0_hw87.1 k0_h258
theorem k0_off271_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw87 : k0_chk87 d0 v18 arg14 arg15 v1153 v1168 v1183 v1198 v1213 v1228 v1243), ∀ (k0_h258 : k0_cond258 d0 v1243 = 1#1), ∀ a, (k0_off271 d0 arg14 v1153 v1168 v1183 v1198 v1213 v1228) a + S8x128.size a ≤ S17408x128.size a := fun d0 v18 arg14 arg15 v1153 v1168 v1183 v1198 v1213 v1228 v1243 k0_hw87 k0_h258 => k0_hw87.2.1 k0_h258
theorem k0_mult185_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw87 : k0_chk87 d0 v18 arg14 arg15 v1153 v1168 v1183 v1198 v1213 v1228 v1243), ∀ (k0_h259 : k0_cond259 d0 v1243 = 1#1), 8 ∣ (k0_mult185 d0 v18 arg15 v1153 v1168 v1183 v1198 v1213 v1228).toNat := fun d0 v18 arg14 arg15 v1153 v1168 v1183 v1198 v1213 v1228 v1243 k0_hw87 k0_h259 => k0_hw87.2.2.1 k0_h259
theorem k0_off272_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw87 : k0_chk87 d0 v18 arg14 arg15 v1153 v1168 v1183 v1198 v1213 v1228 v1243), ∀ (k0_h259 : k0_cond259 d0 v1243 = 1#1), ∀ a, (k0_off272 d0 v18 arg15 v1153 v1168 v1183 v1198 v1213 v1228) a + S8x128.size a ≤ S16384x128.size a := fun d0 v18 arg14 arg15 v1153 v1168 v1183 v1198 v1213 v1228 v1243 k0_hw87 k0_h259 => k0_hw87.2.2.2 k0_h259

def k0_off273 (k0_t11 : Fin k0_t11_loop.trips) : Fin 2 → Nat :=
  let c10_783 : Index := 10#32
  let c0_i32_300 : BitVec 32 := 0#32
  let c1_i32_302 : BitVec 32 := 1#32
  let arg13 : BitVec 32 := Scf.iv c0_i32_300 c1_i32_302 k0_t11
  let c8_i32_781 : BitVec 32 := 8#32
  let v1255 : BitVec 32 := Scalar.muli arg13 c8_i32_781
  let c7_i32_782 : BitVec 32 := 7#32
  let v1256 : BitVec 32 := Scalar.addi v1255 c7_i32_782
  let v1257 : Index := Scalar.indexCast v1256
  ![10, v1257.toNat]
def k0_mult186 (d0 : Dev nD) (arg14 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  v1269
def k0_cond260 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let v1260 : BitVec 32 := Scalar.extui v1259
  let c0_i32_784 : BitVec 32 := 0#32
  let v1261 : BitVec 1 := Scalar.cmpi .ne v1260 c0_i32_784
  v1261

def k0_off274 (d0 : Dev nD) (arg14 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  let v1270 : BitVec 32 := v1269
  let v1271 : Index := Scalar.indexCast v1270
  let c0_789 : Index := 0#32
  ![v1271.toNat, 0]
def k0_mult187 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  v1270
def k0_cond261 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let true_785 : BitVec 1 := 1#1
  let v1262 : BitVec 1 := Scalar.xori v1259 true_785
  let v1263 : BitVec 32 := Scalar.extui v1262
  let c0_i32_786 : BitVec 32 := 0#32
  let v1264 : BitVec 1 := Scalar.cmpi .ne v1263 c0_i32_786
  v1264

def k0_off275 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk88 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) : Prop :=
  (∀ (k0_h260 : k0_cond260 d0 v1258 = 1#1), 8 ∣ (k0_mult186 d0 arg14 v1153 v1168 v1183 v1198 v1213 v1228 v1243).toNat) ∧
  (∀ (k0_h260 : k0_cond260 d0 v1258 = 1#1), ∀ a, (k0_off274 d0 arg14 v1153 v1168 v1183 v1198 v1213 v1228 v1243) a + S8x128.size a ≤ S17408x128.size a) ∧
  (∀ (k0_h261 : k0_cond261 d0 v1258 = 1#1), 8 ∣ (k0_mult187 d0 v18 arg15 v1153 v1168 v1183 v1198 v1213 v1228 v1243).toNat) ∧
  (∀ (k0_h261 : k0_cond261 d0 v1258 = 1#1), ∀ a, (k0_off275 d0 v18 arg15 v1153 v1168 v1183 v1198 v1213 v1228 v1243) a + S8x128.size a ≤ S16384x128.size a)
theorem k0_mult186_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw88 : k0_chk88 d0 v18 arg14 arg15 v1153 v1168 v1183 v1198 v1213 v1228 v1243 v1258), ∀ (k0_h260 : k0_cond260 d0 v1258 = 1#1), 8 ∣ (k0_mult186 d0 arg14 v1153 v1168 v1183 v1198 v1213 v1228 v1243).toNat := fun d0 v18 arg14 arg15 v1153 v1168 v1183 v1198 v1213 v1228 v1243 v1258 k0_hw88 k0_h260 => k0_hw88.1 k0_h260
theorem k0_off274_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw88 : k0_chk88 d0 v18 arg14 arg15 v1153 v1168 v1183 v1198 v1213 v1228 v1243 v1258), ∀ (k0_h260 : k0_cond260 d0 v1258 = 1#1), ∀ a, (k0_off274 d0 arg14 v1153 v1168 v1183 v1198 v1213 v1228 v1243) a + S8x128.size a ≤ S17408x128.size a := fun d0 v18 arg14 arg15 v1153 v1168 v1183 v1198 v1213 v1228 v1243 v1258 k0_hw88 k0_h260 => k0_hw88.2.1 k0_h260
theorem k0_mult187_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw88 : k0_chk88 d0 v18 arg14 arg15 v1153 v1168 v1183 v1198 v1213 v1228 v1243 v1258), ∀ (k0_h261 : k0_cond261 d0 v1258 = 1#1), 8 ∣ (k0_mult187 d0 v18 arg15 v1153 v1168 v1183 v1198 v1213 v1228 v1243).toNat := fun d0 v18 arg14 arg15 v1153 v1168 v1183 v1198 v1213 v1228 v1243 v1258 k0_hw88 k0_h261 => k0_hw88.2.2.1 k0_h261
theorem k0_off275_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw88 : k0_chk88 d0 v18 arg14 arg15 v1153 v1168 v1183 v1198 v1213 v1228 v1243 v1258), ∀ (k0_h261 : k0_cond261 d0 v1258 = 1#1), ∀ a, (k0_off275 d0 v18 arg15 v1153 v1168 v1183 v1198 v1213 v1228 v1243) a + S8x128.size a ≤ S16384x128.size a := fun d0 v18 arg14 arg15 v1153 v1168 v1183 v1198 v1213 v1228 v1243 v1258 k0_hw88 k0_h261 => k0_hw88.2.2.2 k0_h261

def k0_dev87 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1147 : BitVec 32 := Scalar.muli v9 c16_i32_736
  let v1148 : BitVec 32 := Scalar.addi c0_i32_737 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1149 : BitVec 32 := Scalar.muli v5 c4_i32_738
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1151 : BitVec 32 := Scalar.muli v8 c1_i32_739
  let v1152 : BitVec 32 := Scalar.addi v1150 v1151
  v1152.toNat
def k0_dev88 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev89 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev90 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev91 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev92 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev93 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev94 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev95 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev96 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev97 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev98 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev99 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev100 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
@[reducible] def k0_t12_loop : Scf.Loop 32 :=
  let c0_i32_345 : BitVec 32 := 0#32
  let c16_i32_346 : BitVec 32 := 16#32
  let v553 : BitVec 32 := Scalar.addi c0_i32_345 c16_i32_346
  let c1_i32_347 : BitVec 32 := 1#32
  ⟨c0_i32_345, v553, c1_i32_347⟩
def k0_mult188 (k0_t12 : Fin k0_t12_loop.trips) : BitVec 32 :=
  let c1408_i32_731 : BitVec 32 := 1408#32
  let c0_i32_345 : BitVec 32 := 0#32
  let c1_i32_347 : BitVec 32 := 1#32
  let arg13 : BitVec 32 := Scf.iv c0_i32_345 c1_i32_347 k0_t12
  let c8_i32_730 : BitVec 32 := 8#32
  let v1142 : BitVec 32 := Scalar.muli arg13 c8_i32_730
  let v1143 : BitVec 32 := Scalar.addi c1408_i32_731 v1142
  v1143
def k0_off276 (k0_t12 : Fin k0_t12_loop.trips) : Fin 2 → Nat :=
  let c1408_i32_731 : BitVec 32 := 1408#32
  let c0_i32_345 : BitVec 32 := 0#32
  let c1_i32_347 : BitVec 32 := 1#32
  let arg13 : BitVec 32 := Scf.iv c0_i32_345 c1_i32_347 k0_t12
  let c8_i32_730 : BitVec 32 := 8#32
  let v1142 : BitVec 32 := Scalar.muli arg13 c8_i32_730
  let v1143 : BitVec 32 := Scalar.addi c1408_i32_731 v1142
  let v1144 : BitVec 32 := v1143
  let v1145 : Index := Scalar.indexCast v1144
  let c0_732 : Index := 0#32
  ![v1145.toNat, 0]
def k0_off277 (k0_t12 : Fin k0_t12_loop.trips) : Fin 2 → Nat :=
  let c11 : Index := 11#32
  let c0_i32_345 : BitVec 32 := 0#32
  let c1_i32_347 : BitVec 32 := 1#32
  let arg13 : BitVec 32 := Scf.iv c0_i32_345 c1_i32_347 k0_t12
  let c8_i32_733 : BitVec 32 := 8#32
  let v1150 : BitVec 32 := Scalar.muli arg13 c8_i32_733
  let c0_i32_734 : BitVec 32 := 0#32
  let v1151 : BitVec 32 := Scalar.addi v1150 c0_i32_734
  let v1152 : Index := Scalar.indexCast v1151
  ![11, v1152.toNat]
def k0_mult189 (arg14 : BitVec 32) : BitVec 32 :=
  let c8_i32_788 : BitVec 32 := 8#32
  let v1269 : BitVec 32 := Scalar.muli arg14 c8_i32_788
  v1269
def k0_cond276 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1155 : BitVec 32 := Scalar.extui v1154
  let c0_i32_735 : BitVec 32 := 0#32
  let v1156 : BitVec 1 := Scalar.cmpi .ne v1155 c0_i32_735
  v1156

def k0_off278 (arg14 : BitVec 32) : Fin 2 → Nat :=
  let c8_i32_788 : BitVec 32 := 8#32
  let v1269 : BitVec 32 := Scalar.muli arg14 c8_i32_788
  let v1270 : BitVec 32 := v1269
  let v1271 : Index := Scalar.indexCast v1270
  let c0_789 : Index := 0#32
  ![v1271.toNat, 0]
def k0_mult190 (d0 : Dev nD) (v18 : BitVec 32) (arg15 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  v1270
def k0_cond277 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let true_736 : BitVec 1 := 1#1
  let v1157 : BitVec 1 := Scalar.xori v1154 true_736
  let v1158 : BitVec 32 := Scalar.extui v1157
  let c0_i32_737 : BitVec 32 := 0#32
  let v1159 : BitVec 1 := Scalar.cmpi .ne v1158 c0_i32_737
  v1159

def k0_off279 (d0 : Dev nD) (v18 : BitVec 32) (arg15 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk89 (d0 : Dev nD) (v18 : BitVec 32) (arg14 : BitVec 32) (arg15 : BitVec 32) (v1153 : BitVec 32) : Prop :=
  (∀ (k0_h276 : k0_cond276 d0 v1153 = 1#1), 8 ∣ (k0_mult189 arg14).toNat) ∧
  (∀ (k0_h276 : k0_cond276 d0 v1153 = 1#1), ∀ a, (k0_off278 arg14) a + S8x128.size a ≤ S17408x128.size a) ∧
  (∀ (k0_h277 : k0_cond277 d0 v1153 = 1#1), 8 ∣ (k0_mult190 d0 v18 arg15).toNat) ∧
  (∀ (k0_h277 : k0_cond277 d0 v1153 = 1#1), ∀ a, (k0_off279 d0 v18 arg15) a + S8x128.size a ≤ S16384x128.size a)
theorem k0_mult189_dvd : ∀ (d0 : Dev nD) (v18 : BitVec 32) (arg14 : BitVec 32) (arg15 : BitVec 32) (v1153 : BitVec 32) (k0_hw89 : k0_chk89 d0 v18 arg14 arg15 v1153), ∀ (k0_h276 : k0_cond276 d0 v1153 = 1#1), 8 ∣ (k0_mult189 arg14).toNat := fun d0 v18 arg14 arg15 v1153 k0_hw89 k0_h276 => k0_hw89.1 k0_h276
theorem k0_off278_inb : ∀ (d0 : Dev nD) (v18 : BitVec 32) (arg14 : BitVec 32) (arg15 : BitVec 32) (v1153 : BitVec 32) (k0_hw89 : k0_chk89 d0 v18 arg14 arg15 v1153), ∀ (k0_h276 : k0_cond276 d0 v1153 = 1#1), ∀ a, (k0_off278 arg14) a + S8x128.size a ≤ S17408x128.size a := fun d0 v18 arg14 arg15 v1153 k0_hw89 k0_h276 => k0_hw89.2.1 k0_h276
theorem k0_mult190_dvd : ∀ (d0 : Dev nD) (v18 : BitVec 32) (arg14 : BitVec 32) (arg15 : BitVec 32) (v1153 : BitVec 32) (k0_hw89 : k0_chk89 d0 v18 arg14 arg15 v1153), ∀ (k0_h277 : k0_cond277 d0 v1153 = 1#1), 8 ∣ (k0_mult190 d0 v18 arg15).toNat := fun d0 v18 arg14 arg15 v1153 k0_hw89 k0_h277 => k0_hw89.2.2.1 k0_h277
theorem k0_off279_inb : ∀ (d0 : Dev nD) (v18 : BitVec 32) (arg14 : BitVec 32) (arg15 : BitVec 32) (v1153 : BitVec 32) (k0_hw89 : k0_chk89 d0 v18 arg14 arg15 v1153), ∀ (k0_h277 : k0_cond277 d0 v1153 = 1#1), ∀ a, (k0_off279 d0 v18 arg15) a + S8x128.size a ≤ S16384x128.size a := fun d0 v18 arg14 arg15 v1153 k0_hw89 k0_h277 => k0_hw89.2.2.2 k0_h277

def k0_off280 (k0_t12 : Fin k0_t12_loop.trips) : Fin 2 → Nat :=
  let c11_741 : Index := 11#32
  let c0_i32_345 : BitVec 32 := 0#32
  let c1_i32_347 : BitVec 32 := 1#32
  let arg13 : BitVec 32 := Scf.iv c0_i32_345 c1_i32_347 k0_t12
  let c8_i32_739 : BitVec 32 := 8#32
  let v1165 : BitVec 32 := Scalar.muli arg13 c8_i32_739
  let c1_i32_740 : BitVec 32 := 1#32
  let v1166 : BitVec 32 := Scalar.addi v1165 c1_i32_740
  let v1167 : Index := Scalar.indexCast v1166
  ![11, v1167.toNat]
def k0_mult191 (d0 : Dev nD) (arg14 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  v1269
def k0_cond278 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let v1170 : BitVec 32 := Scalar.extui v1169
  let c0_i32_742 : BitVec 32 := 0#32
  let v1171 : BitVec 1 := Scalar.cmpi .ne v1170 c0_i32_742
  v1171

def k0_off281 (d0 : Dev nD) (arg14 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  let v1270 : BitVec 32 := v1269
  let v1271 : Index := Scalar.indexCast v1270
  let c0_789 : Index := 0#32
  ![v1271.toNat, 0]
def k0_mult192 (d0 : Dev nD) (v18 : BitVec 32) (arg15 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  v1270
def k0_cond279 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let true_743 : BitVec 1 := 1#1
  let v1172 : BitVec 1 := Scalar.xori v1169 true_743
  let v1173 : BitVec 32 := Scalar.extui v1172
  let c0_i32_744 : BitVec 32 := 0#32
  let v1174 : BitVec 1 := Scalar.cmpi .ne v1173 c0_i32_744
  v1174

def k0_off282 (d0 : Dev nD) (v18 : BitVec 32) (arg15 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk90 (d0 : Dev nD) (v18 : BitVec 32) (arg14 : BitVec 32) (arg15 : BitVec 32) (v1153 : BitVec 32) (v1168 : BitVec 32) : Prop :=
  (∀ (k0_h278 : k0_cond278 d0 v1168 = 1#1), 8 ∣ (k0_mult191 d0 arg14 v1153).toNat) ∧
  (∀ (k0_h278 : k0_cond278 d0 v1168 = 1#1), ∀ a, (k0_off281 d0 arg14 v1153) a + S8x128.size a ≤ S17408x128.size a) ∧
  (∀ (k0_h279 : k0_cond279 d0 v1168 = 1#1), 8 ∣ (k0_mult192 d0 v18 arg15 v1153).toNat) ∧
  (∀ (k0_h279 : k0_cond279 d0 v1168 = 1#1), ∀ a, (k0_off282 d0 v18 arg15 v1153) a + S8x128.size a ≤ S16384x128.size a)
theorem k0_mult191_dvd : ∀ (d0 : Dev nD) (v18 : BitVec 32) (arg14 : BitVec 32) (arg15 : BitVec 32) (v1153 : BitVec 32) (v1168 : BitVec 32) (k0_hw90 : k0_chk90 d0 v18 arg14 arg15 v1153 v1168), ∀ (k0_h278 : k0_cond278 d0 v1168 = 1#1), 8 ∣ (k0_mult191 d0 arg14 v1153).toNat := fun d0 v18 arg14 arg15 v1153 v1168 k0_hw90 k0_h278 => k0_hw90.1 k0_h278
theorem k0_off281_inb : ∀ (d0 : Dev nD) (v18 : BitVec 32) (arg14 : BitVec 32) (arg15 : BitVec 32) (v1153 : BitVec 32) (v1168 : BitVec 32) (k0_hw90 : k0_chk90 d0 v18 arg14 arg15 v1153 v1168), ∀ (k0_h278 : k0_cond278 d0 v1168 = 1#1), ∀ a, (k0_off281 d0 arg14 v1153) a + S8x128.size a ≤ S17408x128.size a := fun d0 v18 arg14 arg15 v1153 v1168 k0_hw90 k0_h278 => k0_hw90.2.1 k0_h278
theorem k0_mult192_dvd : ∀ (d0 : Dev nD) (v18 : BitVec 32) (arg14 : BitVec 32) (arg15 : BitVec 32) (v1153 : BitVec 32) (v1168 : BitVec 32) (k0_hw90 : k0_chk90 d0 v18 arg14 arg15 v1153 v1168), ∀ (k0_h279 : k0_cond279 d0 v1168 = 1#1), 8 ∣ (k0_mult192 d0 v18 arg15 v1153).toNat := fun d0 v18 arg14 arg15 v1153 v1168 k0_hw90 k0_h279 => k0_hw90.2.2.1 k0_h279
theorem k0_off282_inb : ∀ (d0 : Dev nD) (v18 : BitVec 32) (arg14 : BitVec 32) (arg15 : BitVec 32) (v1153 : BitVec 32) (v1168 : BitVec 32) (k0_hw90 : k0_chk90 d0 v18 arg14 arg15 v1153 v1168), ∀ (k0_h279 : k0_cond279 d0 v1168 = 1#1), ∀ a, (k0_off282 d0 v18 arg15 v1153) a + S8x128.size a ≤ S16384x128.size a := fun d0 v18 arg14 arg15 v1153 v1168 k0_hw90 k0_h279 => k0_hw90.2.2.2 k0_h279

def k0_off283 (k0_t12 : Fin k0_t12_loop.trips) : Fin 2 → Nat :=
  let c11_748 : Index := 11#32
  let c0_i32_345 : BitVec 32 := 0#32
  let c1_i32_347 : BitVec 32 := 1#32
  let arg13 : BitVec 32 := Scf.iv c0_i32_345 c1_i32_347 k0_t12
  let c8_i32_746 : BitVec 32 := 8#32
  let v1180 : BitVec 32 := Scalar.muli arg13 c8_i32_746
  let c2_i32_747 : BitVec 32 := 2#32
  let v1181 : BitVec 32 := Scalar.addi v1180 c2_i32_747
  let v1182 : Index := Scalar.indexCast v1181
  ![11, v1182.toNat]
def k0_mult193 (d0 : Dev nD) (arg14 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  v1269
def k0_cond280 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let v1185 : BitVec 32 := Scalar.extui v1184
  let c0_i32_749 : BitVec 32 := 0#32
  let v1186 : BitVec 1 := Scalar.cmpi .ne v1185 c0_i32_749
  v1186

def k0_off284 (d0 : Dev nD) (arg14 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  let v1270 : BitVec 32 := v1269
  let v1271 : Index := Scalar.indexCast v1270
  let c0_789 : Index := 0#32
  ![v1271.toNat, 0]
def k0_mult194 (d0 : Dev nD) (v18 : BitVec 32) (arg15 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  v1270
def k0_cond281 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let true_750 : BitVec 1 := 1#1
  let v1187 : BitVec 1 := Scalar.xori v1184 true_750
  let v1188 : BitVec 32 := Scalar.extui v1187
  let c0_i32_751 : BitVec 32 := 0#32
  let v1189 : BitVec 1 := Scalar.cmpi .ne v1188 c0_i32_751
  v1189

def k0_off285 (d0 : Dev nD) (v18 : BitVec 32) (arg15 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk91 (d0 : Dev nD) (v18 : BitVec 32) (arg14 : BitVec 32) (arg15 : BitVec 32) (v1153 : BitVec 32) (v1168 : BitVec 32) (v1183 : BitVec 32) : Prop :=
  (∀ (k0_h280 : k0_cond280 d0 v1183 = 1#1), 8 ∣ (k0_mult193 d0 arg14 v1153 v1168).toNat) ∧
  (∀ (k0_h280 : k0_cond280 d0 v1183 = 1#1), ∀ a, (k0_off284 d0 arg14 v1153 v1168) a + S8x128.size a ≤ S17408x128.size a) ∧
  (∀ (k0_h281 : k0_cond281 d0 v1183 = 1#1), 8 ∣ (k0_mult194 d0 v18 arg15 v1153 v1168).toNat) ∧
  (∀ (k0_h281 : k0_cond281 d0 v1183 = 1#1), ∀ a, (k0_off285 d0 v18 arg15 v1153 v1168) a + S8x128.size a ≤ S16384x128.size a)
theorem k0_mult193_dvd : ∀ (d0 : Dev nD) (v18 : BitVec 32) (arg14 : BitVec 32) (arg15 : BitVec 32) (v1153 : BitVec 32) (v1168 : BitVec 32) (v1183 : BitVec 32) (k0_hw91 : k0_chk91 d0 v18 arg14 arg15 v1153 v1168 v1183), ∀ (k0_h280 : k0_cond280 d0 v1183 = 1#1), 8 ∣ (k0_mult193 d0 arg14 v1153 v1168).toNat := fun d0 v18 arg14 arg15 v1153 v1168 v1183 k0_hw91 k0_h280 => k0_hw91.1 k0_h280
theorem k0_off284_inb : ∀ (d0 : Dev nD) (v18 : BitVec 32) (arg14 : BitVec 32) (arg15 : BitVec 32) (v1153 : BitVec 32) (v1168 : BitVec 32) (v1183 : BitVec 32) (k0_hw91 : k0_chk91 d0 v18 arg14 arg15 v1153 v1168 v1183), ∀ (k0_h280 : k0_cond280 d0 v1183 = 1#1), ∀ a, (k0_off284 d0 arg14 v1153 v1168) a + S8x128.size a ≤ S17408x128.size a := fun d0 v18 arg14 arg15 v1153 v1168 v1183 k0_hw91 k0_h280 => k0_hw91.2.1 k0_h280
theorem k0_mult194_dvd : ∀ (d0 : Dev nD) (v18 : BitVec 32) (arg14 : BitVec 32) (arg15 : BitVec 32) (v1153 : BitVec 32) (v1168 : BitVec 32) (v1183 : BitVec 32) (k0_hw91 : k0_chk91 d0 v18 arg14 arg15 v1153 v1168 v1183), ∀ (k0_h281 : k0_cond281 d0 v1183 = 1#1), 8 ∣ (k0_mult194 d0 v18 arg15 v1153 v1168).toNat := fun d0 v18 arg14 arg15 v1153 v1168 v1183 k0_hw91 k0_h281 => k0_hw91.2.2.1 k0_h281
theorem k0_off285_inb : ∀ (d0 : Dev nD) (v18 : BitVec 32) (arg14 : BitVec 32) (arg15 : BitVec 32) (v1153 : BitVec 32) (v1168 : BitVec 32) (v1183 : BitVec 32) (k0_hw91 : k0_chk91 d0 v18 arg14 arg15 v1153 v1168 v1183), ∀ (k0_h281 : k0_cond281 d0 v1183 = 1#1), ∀ a, (k0_off285 d0 v18 arg15 v1153 v1168) a + S8x128.size a ≤ S16384x128.size a := fun d0 v18 arg14 arg15 v1153 v1168 v1183 k0_hw91 k0_h281 => k0_hw91.2.2.2 k0_h281

def k0_off286 (k0_t12 : Fin k0_t12_loop.trips) : Fin 2 → Nat :=
  let c11_755 : Index := 11#32
  let c0_i32_345 : BitVec 32 := 0#32
  let c1_i32_347 : BitVec 32 := 1#32
  let arg13 : BitVec 32 := Scf.iv c0_i32_345 c1_i32_347 k0_t12
  let c8_i32_753 : BitVec 32 := 8#32
  let v1195 : BitVec 32 := Scalar.muli arg13 c8_i32_753
  let c3_i32_754 : BitVec 32 := 3#32
  let v1196 : BitVec 32 := Scalar.addi v1195 c3_i32_754
  let v1197 : Index := Scalar.indexCast v1196
  ![11, v1197.toNat]
def k0_mult195 (d0 : Dev nD) (arg14 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  v1269
def k0_cond282 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let v1200 : BitVec 32 := Scalar.extui v1199
  let c0_i32_756 : BitVec 32 := 0#32
  let v1201 : BitVec 1 := Scalar.cmpi .ne v1200 c0_i32_756
  v1201

def k0_off287 (d0 : Dev nD) (arg14 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  let v1270 : BitVec 32 := v1269
  let v1271 : Index := Scalar.indexCast v1270
  let c0_789 : Index := 0#32
  ![v1271.toNat, 0]
def k0_mult196 (d0 : Dev nD) (v18 : BitVec 32) (arg15 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  v1270
def k0_cond283 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let true_757 : BitVec 1 := 1#1
  let v1202 : BitVec 1 := Scalar.xori v1199 true_757
  let v1203 : BitVec 32 := Scalar.extui v1202
  let c0_i32_758 : BitVec 32 := 0#32
  let v1204 : BitVec 1 := Scalar.cmpi .ne v1203 c0_i32_758
  v1204

def k0_off288 (d0 : Dev nD) (v18 : BitVec 32) (arg15 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk92 (d0 : Dev nD) (v18 : BitVec 32) (arg14 : BitVec 32) (arg15 : BitVec 32) (v1153 : BitVec 32) (v1168 : BitVec 32) (v1183 : BitVec 32) (v1198 : BitVec 32) : Prop :=
  (∀ (k0_h282 : k0_cond282 d0 v1198 = 1#1), 8 ∣ (k0_mult195 d0 arg14 v1153 v1168 v1183).toNat) ∧
  (∀ (k0_h282 : k0_cond282 d0 v1198 = 1#1), ∀ a, (k0_off287 d0 arg14 v1153 v1168 v1183) a + S8x128.size a ≤ S17408x128.size a) ∧
  (∀ (k0_h283 : k0_cond283 d0 v1198 = 1#1), 8 ∣ (k0_mult196 d0 v18 arg15 v1153 v1168 v1183).toNat) ∧
  (∀ (k0_h283 : k0_cond283 d0 v1198 = 1#1), ∀ a, (k0_off288 d0 v18 arg15 v1153 v1168 v1183) a + S8x128.size a ≤ S16384x128.size a)
theorem k0_mult195_dvd : ∀ (d0 : Dev nD) (v18 : BitVec 32) (arg14 : BitVec 32) (arg15 : BitVec 32) (v1153 : BitVec 32) (v1168 : BitVec 32) (v1183 : BitVec 32) (v1198 : BitVec 32) (k0_hw92 : k0_chk92 d0 v18 arg14 arg15 v1153 v1168 v1183 v1198), ∀ (k0_h282 : k0_cond282 d0 v1198 = 1#1), 8 ∣ (k0_mult195 d0 arg14 v1153 v1168 v1183).toNat := fun d0 v18 arg14 arg15 v1153 v1168 v1183 v1198 k0_hw92 k0_h282 => k0_hw92.1 k0_h282
theorem k0_off287_inb : ∀ (d0 : Dev nD) (v18 : BitVec 32) (arg14 : BitVec 32) (arg15 : BitVec 32) (v1153 : BitVec 32) (v1168 : BitVec 32) (v1183 : BitVec 32) (v1198 : BitVec 32) (k0_hw92 : k0_chk92 d0 v18 arg14 arg15 v1153 v1168 v1183 v1198), ∀ (k0_h282 : k0_cond282 d0 v1198 = 1#1), ∀ a, (k0_off287 d0 arg14 v1153 v1168 v1183) a + S8x128.size a ≤ S17408x128.size a := fun d0 v18 arg14 arg15 v1153 v1168 v1183 v1198 k0_hw92 k0_h282 => k0_hw92.2.1 k0_h282
theorem k0_mult196_dvd : ∀ (d0 : Dev nD) (v18 : BitVec 32) (arg14 : BitVec 32) (arg15 : BitVec 32) (v1153 : BitVec 32) (v1168 : BitVec 32) (v1183 : BitVec 32) (v1198 : BitVec 32) (k0_hw92 : k0_chk92 d0 v18 arg14 arg15 v1153 v1168 v1183 v1198), ∀ (k0_h283 : k0_cond283 d0 v1198 = 1#1), 8 ∣ (k0_mult196 d0 v18 arg15 v1153 v1168 v1183).toNat := fun d0 v18 arg14 arg15 v1153 v1168 v1183 v1198 k0_hw92 k0_h283 => k0_hw92.2.2.1 k0_h283
theorem k0_off288_inb : ∀ (d0 : Dev nD) (v18 : BitVec 32) (arg14 : BitVec 32) (arg15 : BitVec 32) (v1153 : BitVec 32) (v1168 : BitVec 32) (v1183 : BitVec 32) (v1198 : BitVec 32) (k0_hw92 : k0_chk92 d0 v18 arg14 arg15 v1153 v1168 v1183 v1198), ∀ (k0_h283 : k0_cond283 d0 v1198 = 1#1), ∀ a, (k0_off288 d0 v18 arg15 v1153 v1168 v1183) a + S8x128.size a ≤ S16384x128.size a := fun d0 v18 arg14 arg15 v1153 v1168 v1183 v1198 k0_hw92 k0_h283 => k0_hw92.2.2.2 k0_h283

def k0_off289 (k0_t12 : Fin k0_t12_loop.trips) : Fin 2 → Nat :=
  let c11_762 : Index := 11#32
  let c0_i32_345 : BitVec 32 := 0#32
  let c1_i32_347 : BitVec 32 := 1#32
  let arg13 : BitVec 32 := Scf.iv c0_i32_345 c1_i32_347 k0_t12
  let c8_i32_760 : BitVec 32 := 8#32
  let v1210 : BitVec 32 := Scalar.muli arg13 c8_i32_760
  let c4_i32_761 : BitVec 32 := 4#32
  let v1211 : BitVec 32 := Scalar.addi v1210 c4_i32_761
  let v1212 : Index := Scalar.indexCast v1211
  ![11, v1212.toNat]
def k0_mult197 (d0 : Dev nD) (arg14 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  v1269
def k0_cond284 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let v1215 : BitVec 32 := Scalar.extui v1214
  let c0_i32_763 : BitVec 32 := 0#32
  let v1216 : BitVec 1 := Scalar.cmpi .ne v1215 c0_i32_763
  v1216

def k0_off290 (d0 : Dev nD) (arg14 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  let v1270 : BitVec 32 := v1269
  let v1271 : Index := Scalar.indexCast v1270
  let c0_789 : Index := 0#32
  ![v1271.toNat, 0]
def k0_mult198 (d0 : Dev nD) (v18 : BitVec 32) (arg15 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  v1270
def k0_cond285 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let true_764 : BitVec 1 := 1#1
  let v1217 : BitVec 1 := Scalar.xori v1214 true_764
  let v1218 : BitVec 32 := Scalar.extui v1217
  let c0_i32_765 : BitVec 32 := 0#32
  let v1219 : BitVec 1 := Scalar.cmpi .ne v1218 c0_i32_765
  v1219

def k0_off291 (d0 : Dev nD) (v18 : BitVec 32) (arg15 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk93 (d0 : Dev nD) (v18 : BitVec 32) (arg14 : BitVec 32) (arg15 : BitVec 32) (v1153 : BitVec 32) (v1168 : BitVec 32) (v1183 : BitVec 32) (v1198 : BitVec 32) (v1213 : BitVec 32) : Prop :=
  (∀ (k0_h284 : k0_cond284 d0 v1213 = 1#1), 8 ∣ (k0_mult197 d0 arg14 v1153 v1168 v1183 v1198).toNat) ∧
  (∀ (k0_h284 : k0_cond284 d0 v1213 = 1#1), ∀ a, (k0_off290 d0 arg14 v1153 v1168 v1183 v1198) a + S8x128.size a ≤ S17408x128.size a) ∧
  (∀ (k0_h285 : k0_cond285 d0 v1213 = 1#1), 8 ∣ (k0_mult198 d0 v18 arg15 v1153 v1168 v1183 v1198).toNat) ∧
  (∀ (k0_h285 : k0_cond285 d0 v1213 = 1#1), ∀ a, (k0_off291 d0 v18 arg15 v1153 v1168 v1183 v1198) a + S8x128.size a ≤ S16384x128.size a)
theorem k0_mult197_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw93 : k0_chk93 d0 v18 arg14 arg15 v1153 v1168 v1183 v1198 v1213), ∀ (k0_h284 : k0_cond284 d0 v1213 = 1#1), 8 ∣ (k0_mult197 d0 arg14 v1153 v1168 v1183 v1198).toNat := fun d0 v18 arg14 arg15 v1153 v1168 v1183 v1198 v1213 k0_hw93 k0_h284 => k0_hw93.1 k0_h284
theorem k0_off290_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw93 : k0_chk93 d0 v18 arg14 arg15 v1153 v1168 v1183 v1198 v1213), ∀ (k0_h284 : k0_cond284 d0 v1213 = 1#1), ∀ a, (k0_off290 d0 arg14 v1153 v1168 v1183 v1198) a + S8x128.size a ≤ S17408x128.size a := fun d0 v18 arg14 arg15 v1153 v1168 v1183 v1198 v1213 k0_hw93 k0_h284 => k0_hw93.2.1 k0_h284
theorem k0_mult198_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw93 : k0_chk93 d0 v18 arg14 arg15 v1153 v1168 v1183 v1198 v1213), ∀ (k0_h285 : k0_cond285 d0 v1213 = 1#1), 8 ∣ (k0_mult198 d0 v18 arg15 v1153 v1168 v1183 v1198).toNat := fun d0 v18 arg14 arg15 v1153 v1168 v1183 v1198 v1213 k0_hw93 k0_h285 => k0_hw93.2.2.1 k0_h285
theorem k0_off291_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw93 : k0_chk93 d0 v18 arg14 arg15 v1153 v1168 v1183 v1198 v1213), ∀ (k0_h285 : k0_cond285 d0 v1213 = 1#1), ∀ a, (k0_off291 d0 v18 arg15 v1153 v1168 v1183 v1198) a + S8x128.size a ≤ S16384x128.size a := fun d0 v18 arg14 arg15 v1153 v1168 v1183 v1198 v1213 k0_hw93 k0_h285 => k0_hw93.2.2.2 k0_h285

def k0_off292 (k0_t12 : Fin k0_t12_loop.trips) : Fin 2 → Nat :=
  let c11_769 : Index := 11#32
  let c0_i32_345 : BitVec 32 := 0#32
  let c1_i32_347 : BitVec 32 := 1#32
  let arg13 : BitVec 32 := Scf.iv c0_i32_345 c1_i32_347 k0_t12
  let c8_i32_767 : BitVec 32 := 8#32
  let v1225 : BitVec 32 := Scalar.muli arg13 c8_i32_767
  let c5_i32_768 : BitVec 32 := 5#32
  let v1226 : BitVec 32 := Scalar.addi v1225 c5_i32_768
  let v1227 : Index := Scalar.indexCast v1226
  ![11, v1227.toNat]
def k0_mult199 (d0 : Dev nD) (arg14 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  v1269
def k0_cond286 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let v1230 : BitVec 32 := Scalar.extui v1229
  let c0_i32_770 : BitVec 32 := 0#32
  let v1231 : BitVec 1 := Scalar.cmpi .ne v1230 c0_i32_770
  v1231

def k0_off293 (d0 : Dev nD) (arg14 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  let v1270 : BitVec 32 := v1269
  let v1271 : Index := Scalar.indexCast v1270
  let c0_789 : Index := 0#32
  ![v1271.toNat, 0]
def k0_mult200 (d0 : Dev nD) (v18 : BitVec 32) (arg15 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  v1270
def k0_cond287 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let true_771 : BitVec 1 := 1#1
  let v1232 : BitVec 1 := Scalar.xori v1229 true_771
  let v1233 : BitVec 32 := Scalar.extui v1232
  let c0_i32_772 : BitVec 32 := 0#32
  let v1234 : BitVec 1 := Scalar.cmpi .ne v1233 c0_i32_772
  v1234

def k0_off294 (d0 : Dev nD) (v18 : BitVec 32) (arg15 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk94 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) : Prop :=
  (∀ (k0_h286 : k0_cond286 d0 v1228 = 1#1), 8 ∣ (k0_mult199 d0 arg14 v1153 v1168 v1183 v1198 v1213).toNat) ∧
  (∀ (k0_h286 : k0_cond286 d0 v1228 = 1#1), ∀ a, (k0_off293 d0 arg14 v1153 v1168 v1183 v1198 v1213) a + S8x128.size a ≤ S17408x128.size a) ∧
  (∀ (k0_h287 : k0_cond287 d0 v1228 = 1#1), 8 ∣ (k0_mult200 d0 v18 arg15 v1153 v1168 v1183 v1198 v1213).toNat) ∧
  (∀ (k0_h287 : k0_cond287 d0 v1228 = 1#1), ∀ a, (k0_off294 d0 v18 arg15 v1153 v1168 v1183 v1198 v1213) a + S8x128.size a ≤ S16384x128.size a)
theorem k0_mult199_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw94 : k0_chk94 d0 v18 arg14 arg15 v1153 v1168 v1183 v1198 v1213 v1228), ∀ (k0_h286 : k0_cond286 d0 v1228 = 1#1), 8 ∣ (k0_mult199 d0 arg14 v1153 v1168 v1183 v1198 v1213).toNat := fun d0 v18 arg14 arg15 v1153 v1168 v1183 v1198 v1213 v1228 k0_hw94 k0_h286 => k0_hw94.1 k0_h286
theorem k0_off293_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw94 : k0_chk94 d0 v18 arg14 arg15 v1153 v1168 v1183 v1198 v1213 v1228), ∀ (k0_h286 : k0_cond286 d0 v1228 = 1#1), ∀ a, (k0_off293 d0 arg14 v1153 v1168 v1183 v1198 v1213) a + S8x128.size a ≤ S17408x128.size a := fun d0 v18 arg14 arg15 v1153 v1168 v1183 v1198 v1213 v1228 k0_hw94 k0_h286 => k0_hw94.2.1 k0_h286
theorem k0_mult200_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw94 : k0_chk94 d0 v18 arg14 arg15 v1153 v1168 v1183 v1198 v1213 v1228), ∀ (k0_h287 : k0_cond287 d0 v1228 = 1#1), 8 ∣ (k0_mult200 d0 v18 arg15 v1153 v1168 v1183 v1198 v1213).toNat := fun d0 v18 arg14 arg15 v1153 v1168 v1183 v1198 v1213 v1228 k0_hw94 k0_h287 => k0_hw94.2.2.1 k0_h287
theorem k0_off294_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw94 : k0_chk94 d0 v18 arg14 arg15 v1153 v1168 v1183 v1198 v1213 v1228), ∀ (k0_h287 : k0_cond287 d0 v1228 = 1#1), ∀ a, (k0_off294 d0 v18 arg15 v1153 v1168 v1183 v1198 v1213) a + S8x128.size a ≤ S16384x128.size a := fun d0 v18 arg14 arg15 v1153 v1168 v1183 v1198 v1213 v1228 k0_hw94 k0_h287 => k0_hw94.2.2.2 k0_h287

def k0_off295 (k0_t12 : Fin k0_t12_loop.trips) : Fin 2 → Nat :=
  let c11_776 : Index := 11#32
  let c0_i32_345 : BitVec 32 := 0#32
  let c1_i32_347 : BitVec 32 := 1#32
  let arg13 : BitVec 32 := Scf.iv c0_i32_345 c1_i32_347 k0_t12
  let c8_i32_774 : BitVec 32 := 8#32
  let v1240 : BitVec 32 := Scalar.muli arg13 c8_i32_774
  let c6_i32_775 : BitVec 32 := 6#32
  let v1241 : BitVec 32 := Scalar.addi v1240 c6_i32_775
  let v1242 : Index := Scalar.indexCast v1241
  ![11, v1242.toNat]
def k0_mult201 (d0 : Dev nD) (arg14 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  v1269
def k0_cond288 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let v1245 : BitVec 32 := Scalar.extui v1244
  let c0_i32_777 : BitVec 32 := 0#32
  let v1246 : BitVec 1 := Scalar.cmpi .ne v1245 c0_i32_777
  v1246

def k0_off296 (d0 : Dev nD) (arg14 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  let v1270 : BitVec 32 := v1269
  let v1271 : Index := Scalar.indexCast v1270
  let c0_789 : Index := 0#32
  ![v1271.toNat, 0]
def k0_mult202 (d0 : Dev nD) (v18 : BitVec 32) (arg15 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  v1270
def k0_cond289 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let true_778 : BitVec 1 := 1#1
  let v1247 : BitVec 1 := Scalar.xori v1244 true_778
  let v1248 : BitVec 32 := Scalar.extui v1247
  let c0_i32_779 : BitVec 32 := 0#32
  let v1249 : BitVec 1 := Scalar.cmpi .ne v1248 c0_i32_779
  v1249

def k0_off297 (d0 : Dev nD) (v18 : BitVec 32) (arg15 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk95 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) : Prop :=
  (∀ (k0_h288 : k0_cond288 d0 v1243 = 1#1), 8 ∣ (k0_mult201 d0 arg14 v1153 v1168 v1183 v1198 v1213 v1228).toNat) ∧
  (∀ (k0_h288 : k0_cond288 d0 v1243 = 1#1), ∀ a, (k0_off296 d0 arg14 v1153 v1168 v1183 v1198 v1213 v1228) a + S8x128.size a ≤ S17408x128.size a) ∧
  (∀ (k0_h289 : k0_cond289 d0 v1243 = 1#1), 8 ∣ (k0_mult202 d0 v18 arg15 v1153 v1168 v1183 v1198 v1213 v1228).toNat) ∧
  (∀ (k0_h289 : k0_cond289 d0 v1243 = 1#1), ∀ a, (k0_off297 d0 v18 arg15 v1153 v1168 v1183 v1198 v1213 v1228) a + S8x128.size a ≤ S16384x128.size a)
theorem k0_mult201_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw95 : k0_chk95 d0 v18 arg14 arg15 v1153 v1168 v1183 v1198 v1213 v1228 v1243), ∀ (k0_h288 : k0_cond288 d0 v1243 = 1#1), 8 ∣ (k0_mult201 d0 arg14 v1153 v1168 v1183 v1198 v1213 v1228).toNat := fun d0 v18 arg14 arg15 v1153 v1168 v1183 v1198 v1213 v1228 v1243 k0_hw95 k0_h288 => k0_hw95.1 k0_h288
theorem k0_off296_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw95 : k0_chk95 d0 v18 arg14 arg15 v1153 v1168 v1183 v1198 v1213 v1228 v1243), ∀ (k0_h288 : k0_cond288 d0 v1243 = 1#1), ∀ a, (k0_off296 d0 arg14 v1153 v1168 v1183 v1198 v1213 v1228) a + S8x128.size a ≤ S17408x128.size a := fun d0 v18 arg14 arg15 v1153 v1168 v1183 v1198 v1213 v1228 v1243 k0_hw95 k0_h288 => k0_hw95.2.1 k0_h288
theorem k0_mult202_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw95 : k0_chk95 d0 v18 arg14 arg15 v1153 v1168 v1183 v1198 v1213 v1228 v1243), ∀ (k0_h289 : k0_cond289 d0 v1243 = 1#1), 8 ∣ (k0_mult202 d0 v18 arg15 v1153 v1168 v1183 v1198 v1213 v1228).toNat := fun d0 v18 arg14 arg15 v1153 v1168 v1183 v1198 v1213 v1228 v1243 k0_hw95 k0_h289 => k0_hw95.2.2.1 k0_h289
theorem k0_off297_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw95 : k0_chk95 d0 v18 arg14 arg15 v1153 v1168 v1183 v1198 v1213 v1228 v1243), ∀ (k0_h289 : k0_cond289 d0 v1243 = 1#1), ∀ a, (k0_off297 d0 v18 arg15 v1153 v1168 v1183 v1198 v1213 v1228) a + S8x128.size a ≤ S16384x128.size a := fun d0 v18 arg14 arg15 v1153 v1168 v1183 v1198 v1213 v1228 v1243 k0_hw95 k0_h289 => k0_hw95.2.2.2 k0_h289

def k0_off298 (k0_t12 : Fin k0_t12_loop.trips) : Fin 2 → Nat :=
  let c11_783 : Index := 11#32
  let c0_i32_345 : BitVec 32 := 0#32
  let c1_i32_347 : BitVec 32 := 1#32
  let arg13 : BitVec 32 := Scf.iv c0_i32_345 c1_i32_347 k0_t12
  let c8_i32_781 : BitVec 32 := 8#32
  let v1255 : BitVec 32 := Scalar.muli arg13 c8_i32_781
  let c7_i32_782 : BitVec 32 := 7#32
  let v1256 : BitVec 32 := Scalar.addi v1255 c7_i32_782
  let v1257 : Index := Scalar.indexCast v1256
  ![11, v1257.toNat]
def k0_mult203 (d0 : Dev nD) (arg14 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  v1269
def k0_cond290 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let v1260 : BitVec 32 := Scalar.extui v1259
  let c0_i32_784 : BitVec 32 := 0#32
  let v1261 : BitVec 1 := Scalar.cmpi .ne v1260 c0_i32_784
  v1261

def k0_off299 (d0 : Dev nD) (arg14 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  let v1270 : BitVec 32 := v1269
  let v1271 : Index := Scalar.indexCast v1270
  let c0_789 : Index := 0#32
  ![v1271.toNat, 0]
def k0_mult204 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  v1270
def k0_cond291 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let true_785 : BitVec 1 := 1#1
  let v1262 : BitVec 1 := Scalar.xori v1259 true_785
  let v1263 : BitVec 32 := Scalar.extui v1262
  let c0_i32_786 : BitVec 32 := 0#32
  let v1264 : BitVec 1 := Scalar.cmpi .ne v1263 c0_i32_786
  v1264

def k0_off300 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk96 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) : Prop :=
  (∀ (k0_h290 : k0_cond290 d0 v1258 = 1#1), 8 ∣ (k0_mult203 d0 arg14 v1153 v1168 v1183 v1198 v1213 v1228 v1243).toNat) ∧
  (∀ (k0_h290 : k0_cond290 d0 v1258 = 1#1), ∀ a, (k0_off299 d0 arg14 v1153 v1168 v1183 v1198 v1213 v1228 v1243) a + S8x128.size a ≤ S17408x128.size a) ∧
  (∀ (k0_h291 : k0_cond291 d0 v1258 = 1#1), 8 ∣ (k0_mult204 d0 v18 arg15 v1153 v1168 v1183 v1198 v1213 v1228 v1243).toNat) ∧
  (∀ (k0_h291 : k0_cond291 d0 v1258 = 1#1), ∀ a, (k0_off300 d0 v18 arg15 v1153 v1168 v1183 v1198 v1213 v1228 v1243) a + S8x128.size a ≤ S16384x128.size a)
theorem k0_mult203_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw96 : k0_chk96 d0 v18 arg14 arg15 v1153 v1168 v1183 v1198 v1213 v1228 v1243 v1258), ∀ (k0_h290 : k0_cond290 d0 v1258 = 1#1), 8 ∣ (k0_mult203 d0 arg14 v1153 v1168 v1183 v1198 v1213 v1228 v1243).toNat := fun d0 v18 arg14 arg15 v1153 v1168 v1183 v1198 v1213 v1228 v1243 v1258 k0_hw96 k0_h290 => k0_hw96.1 k0_h290
theorem k0_off299_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw96 : k0_chk96 d0 v18 arg14 arg15 v1153 v1168 v1183 v1198 v1213 v1228 v1243 v1258), ∀ (k0_h290 : k0_cond290 d0 v1258 = 1#1), ∀ a, (k0_off299 d0 arg14 v1153 v1168 v1183 v1198 v1213 v1228 v1243) a + S8x128.size a ≤ S17408x128.size a := fun d0 v18 arg14 arg15 v1153 v1168 v1183 v1198 v1213 v1228 v1243 v1258 k0_hw96 k0_h290 => k0_hw96.2.1 k0_h290
theorem k0_mult204_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw96 : k0_chk96 d0 v18 arg14 arg15 v1153 v1168 v1183 v1198 v1213 v1228 v1243 v1258), ∀ (k0_h291 : k0_cond291 d0 v1258 = 1#1), 8 ∣ (k0_mult204 d0 v18 arg15 v1153 v1168 v1183 v1198 v1213 v1228 v1243).toNat := fun d0 v18 arg14 arg15 v1153 v1168 v1183 v1198 v1213 v1228 v1243 v1258 k0_hw96 k0_h291 => k0_hw96.2.2.1 k0_h291
theorem k0_off300_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw96 : k0_chk96 d0 v18 arg14 arg15 v1153 v1168 v1183 v1198 v1213 v1228 v1243 v1258), ∀ (k0_h291 : k0_cond291 d0 v1258 = 1#1), ∀ a, (k0_off300 d0 v18 arg15 v1153 v1168 v1183 v1198 v1213 v1228 v1243) a + S8x128.size a ≤ S16384x128.size a := fun d0 v18 arg14 arg15 v1153 v1168 v1183 v1198 v1213 v1228 v1243 v1258 k0_hw96 k0_h291 => k0_hw96.2.2.2 k0_h291

def k0_dev101 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1147 : BitVec 32 := Scalar.muli v9 c16_i32_736
  let v1148 : BitVec 32 := Scalar.addi c0_i32_737 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1149 : BitVec 32 := Scalar.muli v5 c4_i32_738
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1151 : BitVec 32 := Scalar.muli v8 c1_i32_739
  let v1152 : BitVec 32 := Scalar.addi v1150 v1151
  v1152.toNat
def k0_dev102 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev103 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev104 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev105 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev106 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev107 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev108 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev109 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev110 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev111 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev112 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev113 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev114 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev115 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
@[reducible] def k0_t13_loop : Scf.Loop 32 :=
  let c0_i32_393 : BitVec 32 := 0#32
  let c16_i32_394 : BitVec 32 := 16#32
  let v630 : BitVec 32 := Scalar.addi c0_i32_393 c16_i32_394
  let c1_i32_395 : BitVec 32 := 1#32
  ⟨c0_i32_393, v630, c1_i32_395⟩
def k0_mult205 (k0_t13 : Fin k0_t13_loop.trips) : BitVec 32 :=
  let c1536_i32_731 : BitVec 32 := 1536#32
  let c0_i32_393 : BitVec 32 := 0#32
  let c1_i32_395 : BitVec 32 := 1#32
  let arg13 : BitVec 32 := Scf.iv c0_i32_393 c1_i32_395 k0_t13
  let c8_i32_730 : BitVec 32 := 8#32
  let v1142 : BitVec 32 := Scalar.muli arg13 c8_i32_730
  let v1143 : BitVec 32 := Scalar.addi c1536_i32_731 v1142
  v1143
def k0_off301 (k0_t13 : Fin k0_t13_loop.trips) : Fin 2 → Nat :=
  let c1536_i32_731 : BitVec 32 := 1536#32
  let c0_i32_393 : BitVec 32 := 0#32
  let c1_i32_395 : BitVec 32 := 1#32
  let arg13 : BitVec 32 := Scf.iv c0_i32_393 c1_i32_395 k0_t13
  let c8_i32_730 : BitVec 32 := 8#32
  let v1142 : BitVec 32 := Scalar.muli arg13 c8_i32_730
  let v1143 : BitVec 32 := Scalar.addi c1536_i32_731 v1142
  let v1144 : BitVec 32 := v1143
  let v1145 : Index := Scalar.indexCast v1144
  let c0_732 : Index := 0#32
  ![v1145.toNat, 0]
def k0_off302 (k0_t13 : Fin k0_t13_loop.trips) : Fin 2 → Nat :=
  let c12 : Index := 12#32
  let c0_i32_393 : BitVec 32 := 0#32
  let c1_i32_395 : BitVec 32 := 1#32
  let arg13 : BitVec 32 := Scf.iv c0_i32_393 c1_i32_395 k0_t13
  let c8_i32_733 : BitVec 32 := 8#32
  let v1150 : BitVec 32 := Scalar.muli arg13 c8_i32_733
  let c0_i32_734 : BitVec 32 := 0#32
  let v1151 : BitVec 32 := Scalar.addi v1150 c0_i32_734
  let v1152 : Index := Scalar.indexCast v1151
  ![12, v1152.toNat]
def k0_mult206 (arg14 : BitVec 32) : BitVec 32 :=
  let c8_i32_788 : BitVec 32 := 8#32
  let v1269 : BitVec 32 := Scalar.muli arg14 c8_i32_788
  v1269
def k0_cond307 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1155 : BitVec 32 := Scalar.extui v1154
  let c0_i32_735 : BitVec 32 := 0#32
  let v1156 : BitVec 1 := Scalar.cmpi .ne v1155 c0_i32_735
  v1156

def k0_off303 (arg14 : BitVec 32) : Fin 2 → Nat :=
  let c8_i32_788 : BitVec 32 := 8#32
  let v1269 : BitVec 32 := Scalar.muli arg14 c8_i32_788
  let v1270 : BitVec 32 := v1269
  let v1271 : Index := Scalar.indexCast v1270
  let c0_789 : Index := 0#32
  ![v1271.toNat, 0]
def k0_mult207 (d0 : Dev nD) (v18 : BitVec 32) (arg15 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  v1270
def k0_cond308 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let true_736 : BitVec 1 := 1#1
  let v1157 : BitVec 1 := Scalar.xori v1154 true_736
  let v1158 : BitVec 32 := Scalar.extui v1157
  let c0_i32_737 : BitVec 32 := 0#32
  let v1159 : BitVec 1 := Scalar.cmpi .ne v1158 c0_i32_737
  v1159

def k0_off304 (d0 : Dev nD) (v18 : BitVec 32) (arg15 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk97 (d0 : Dev nD) (v18 : BitVec 32) (arg14 : BitVec 32) (arg15 : BitVec 32) (v1153 : BitVec 32) : Prop :=
  (∀ (k0_h307 : k0_cond307 d0 v1153 = 1#1), 8 ∣ (k0_mult206 arg14).toNat) ∧
  (∀ (k0_h307 : k0_cond307 d0 v1153 = 1#1), ∀ a, (k0_off303 arg14) a + S8x128.size a ≤ S17408x128.size a) ∧
  (∀ (k0_h308 : k0_cond308 d0 v1153 = 1#1), 8 ∣ (k0_mult207 d0 v18 arg15).toNat) ∧
  (∀ (k0_h308 : k0_cond308 d0 v1153 = 1#1), ∀ a, (k0_off304 d0 v18 arg15) a + S8x128.size a ≤ S16384x128.size a)
theorem k0_mult206_dvd : ∀ (d0 : Dev nD) (v18 : BitVec 32) (arg14 : BitVec 32) (arg15 : BitVec 32) (v1153 : BitVec 32) (k0_hw97 : k0_chk97 d0 v18 arg14 arg15 v1153), ∀ (k0_h307 : k0_cond307 d0 v1153 = 1#1), 8 ∣ (k0_mult206 arg14).toNat := fun d0 v18 arg14 arg15 v1153 k0_hw97 k0_h307 => k0_hw97.1 k0_h307
theorem k0_off303_inb : ∀ (d0 : Dev nD) (v18 : BitVec 32) (arg14 : BitVec 32) (arg15 : BitVec 32) (v1153 : BitVec 32) (k0_hw97 : k0_chk97 d0 v18 arg14 arg15 v1153), ∀ (k0_h307 : k0_cond307 d0 v1153 = 1#1), ∀ a, (k0_off303 arg14) a + S8x128.size a ≤ S17408x128.size a := fun d0 v18 arg14 arg15 v1153 k0_hw97 k0_h307 => k0_hw97.2.1 k0_h307
theorem k0_mult207_dvd : ∀ (d0 : Dev nD) (v18 : BitVec 32) (arg14 : BitVec 32) (arg15 : BitVec 32) (v1153 : BitVec 32) (k0_hw97 : k0_chk97 d0 v18 arg14 arg15 v1153), ∀ (k0_h308 : k0_cond308 d0 v1153 = 1#1), 8 ∣ (k0_mult207 d0 v18 arg15).toNat := fun d0 v18 arg14 arg15 v1153 k0_hw97 k0_h308 => k0_hw97.2.2.1 k0_h308
theorem k0_off304_inb : ∀ (d0 : Dev nD) (v18 : BitVec 32) (arg14 : BitVec 32) (arg15 : BitVec 32) (v1153 : BitVec 32) (k0_hw97 : k0_chk97 d0 v18 arg14 arg15 v1153), ∀ (k0_h308 : k0_cond308 d0 v1153 = 1#1), ∀ a, (k0_off304 d0 v18 arg15) a + S8x128.size a ≤ S16384x128.size a := fun d0 v18 arg14 arg15 v1153 k0_hw97 k0_h308 => k0_hw97.2.2.2 k0_h308

def k0_off305 (k0_t13 : Fin k0_t13_loop.trips) : Fin 2 → Nat :=
  let c12_741 : Index := 12#32
  let c0_i32_393 : BitVec 32 := 0#32
  let c1_i32_395 : BitVec 32 := 1#32
  let arg13 : BitVec 32 := Scf.iv c0_i32_393 c1_i32_395 k0_t13
  let c8_i32_739 : BitVec 32 := 8#32
  let v1165 : BitVec 32 := Scalar.muli arg13 c8_i32_739
  let c1_i32_740 : BitVec 32 := 1#32
  let v1166 : BitVec 32 := Scalar.addi v1165 c1_i32_740
  let v1167 : Index := Scalar.indexCast v1166
  ![12, v1167.toNat]
def k0_mult208 (d0 : Dev nD) (arg14 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  v1269
def k0_cond309 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let v1170 : BitVec 32 := Scalar.extui v1169
  let c0_i32_742 : BitVec 32 := 0#32
  let v1171 : BitVec 1 := Scalar.cmpi .ne v1170 c0_i32_742
  v1171

def k0_off306 (d0 : Dev nD) (arg14 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  let v1270 : BitVec 32 := v1269
  let v1271 : Index := Scalar.indexCast v1270
  let c0_789 : Index := 0#32
  ![v1271.toNat, 0]
def k0_mult209 (d0 : Dev nD) (v18 : BitVec 32) (arg15 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  v1270
def k0_cond310 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let true_743 : BitVec 1 := 1#1
  let v1172 : BitVec 1 := Scalar.xori v1169 true_743
  let v1173 : BitVec 32 := Scalar.extui v1172
  let c0_i32_744 : BitVec 32 := 0#32
  let v1174 : BitVec 1 := Scalar.cmpi .ne v1173 c0_i32_744
  v1174

def k0_off307 (d0 : Dev nD) (v18 : BitVec 32) (arg15 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk98 (d0 : Dev nD) (v18 : BitVec 32) (arg14 : BitVec 32) (arg15 : BitVec 32) (v1153 : BitVec 32) (v1168 : BitVec 32) : Prop :=
  (∀ (k0_h309 : k0_cond309 d0 v1168 = 1#1), 8 ∣ (k0_mult208 d0 arg14 v1153).toNat) ∧
  (∀ (k0_h309 : k0_cond309 d0 v1168 = 1#1), ∀ a, (k0_off306 d0 arg14 v1153) a + S8x128.size a ≤ S17408x128.size a) ∧
  (∀ (k0_h310 : k0_cond310 d0 v1168 = 1#1), 8 ∣ (k0_mult209 d0 v18 arg15 v1153).toNat) ∧
  (∀ (k0_h310 : k0_cond310 d0 v1168 = 1#1), ∀ a, (k0_off307 d0 v18 arg15 v1153) a + S8x128.size a ≤ S16384x128.size a)
theorem k0_mult208_dvd : ∀ (d0 : Dev nD) (v18 : BitVec 32) (arg14 : BitVec 32) (arg15 : BitVec 32) (v1153 : BitVec 32) (v1168 : BitVec 32) (k0_hw98 : k0_chk98 d0 v18 arg14 arg15 v1153 v1168), ∀ (k0_h309 : k0_cond309 d0 v1168 = 1#1), 8 ∣ (k0_mult208 d0 arg14 v1153).toNat := fun d0 v18 arg14 arg15 v1153 v1168 k0_hw98 k0_h309 => k0_hw98.1 k0_h309
theorem k0_off306_inb : ∀ (d0 : Dev nD) (v18 : BitVec 32) (arg14 : BitVec 32) (arg15 : BitVec 32) (v1153 : BitVec 32) (v1168 : BitVec 32) (k0_hw98 : k0_chk98 d0 v18 arg14 arg15 v1153 v1168), ∀ (k0_h309 : k0_cond309 d0 v1168 = 1#1), ∀ a, (k0_off306 d0 arg14 v1153) a + S8x128.size a ≤ S17408x128.size a := fun d0 v18 arg14 arg15 v1153 v1168 k0_hw98 k0_h309 => k0_hw98.2.1 k0_h309
theorem k0_mult209_dvd : ∀ (d0 : Dev nD) (v18 : BitVec 32) (arg14 : BitVec 32) (arg15 : BitVec 32) (v1153 : BitVec 32) (v1168 : BitVec 32) (k0_hw98 : k0_chk98 d0 v18 arg14 arg15 v1153 v1168), ∀ (k0_h310 : k0_cond310 d0 v1168 = 1#1), 8 ∣ (k0_mult209 d0 v18 arg15 v1153).toNat := fun d0 v18 arg14 arg15 v1153 v1168 k0_hw98 k0_h310 => k0_hw98.2.2.1 k0_h310
theorem k0_off307_inb : ∀ (d0 : Dev nD) (v18 : BitVec 32) (arg14 : BitVec 32) (arg15 : BitVec 32) (v1153 : BitVec 32) (v1168 : BitVec 32) (k0_hw98 : k0_chk98 d0 v18 arg14 arg15 v1153 v1168), ∀ (k0_h310 : k0_cond310 d0 v1168 = 1#1), ∀ a, (k0_off307 d0 v18 arg15 v1153) a + S8x128.size a ≤ S16384x128.size a := fun d0 v18 arg14 arg15 v1153 v1168 k0_hw98 k0_h310 => k0_hw98.2.2.2 k0_h310

def k0_off308 (k0_t13 : Fin k0_t13_loop.trips) : Fin 2 → Nat :=
  let c12_748 : Index := 12#32
  let c0_i32_393 : BitVec 32 := 0#32
  let c1_i32_395 : BitVec 32 := 1#32
  let arg13 : BitVec 32 := Scf.iv c0_i32_393 c1_i32_395 k0_t13
  let c8_i32_746 : BitVec 32 := 8#32
  let v1180 : BitVec 32 := Scalar.muli arg13 c8_i32_746
  let c2_i32_747 : BitVec 32 := 2#32
  let v1181 : BitVec 32 := Scalar.addi v1180 c2_i32_747
  let v1182 : Index := Scalar.indexCast v1181
  ![12, v1182.toNat]
def k0_mult210 (d0 : Dev nD) (arg14 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  v1269
def k0_cond311 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let v1185 : BitVec 32 := Scalar.extui v1184
  let c0_i32_749 : BitVec 32 := 0#32
  let v1186 : BitVec 1 := Scalar.cmpi .ne v1185 c0_i32_749
  v1186

def k0_off309 (d0 : Dev nD) (arg14 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  let v1270 : BitVec 32 := v1269
  let v1271 : Index := Scalar.indexCast v1270
  let c0_789 : Index := 0#32
  ![v1271.toNat, 0]
def k0_mult211 (d0 : Dev nD) (v18 : BitVec 32) (arg15 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  v1270
def k0_cond312 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let true_750 : BitVec 1 := 1#1
  let v1187 : BitVec 1 := Scalar.xori v1184 true_750
  let v1188 : BitVec 32 := Scalar.extui v1187
  let c0_i32_751 : BitVec 32 := 0#32
  let v1189 : BitVec 1 := Scalar.cmpi .ne v1188 c0_i32_751
  v1189

def k0_off310 (d0 : Dev nD) (v18 : BitVec 32) (arg15 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk99 (d0 : Dev nD) (v18 : BitVec 32) (arg14 : BitVec 32) (arg15 : BitVec 32) (v1153 : BitVec 32) (v1168 : BitVec 32) (v1183 : BitVec 32) : Prop :=
  (∀ (k0_h311 : k0_cond311 d0 v1183 = 1#1), 8 ∣ (k0_mult210 d0 arg14 v1153 v1168).toNat) ∧
  (∀ (k0_h311 : k0_cond311 d0 v1183 = 1#1), ∀ a, (k0_off309 d0 arg14 v1153 v1168) a + S8x128.size a ≤ S17408x128.size a) ∧
  (∀ (k0_h312 : k0_cond312 d0 v1183 = 1#1), 8 ∣ (k0_mult211 d0 v18 arg15 v1153 v1168).toNat) ∧
  (∀ (k0_h312 : k0_cond312 d0 v1183 = 1#1), ∀ a, (k0_off310 d0 v18 arg15 v1153 v1168) a + S8x128.size a ≤ S16384x128.size a)
theorem k0_mult210_dvd : ∀ (d0 : Dev nD) (v18 : BitVec 32) (arg14 : BitVec 32) (arg15 : BitVec 32) (v1153 : BitVec 32) (v1168 : BitVec 32) (v1183 : BitVec 32) (k0_hw99 : k0_chk99 d0 v18 arg14 arg15 v1153 v1168 v1183), ∀ (k0_h311 : k0_cond311 d0 v1183 = 1#1), 8 ∣ (k0_mult210 d0 arg14 v1153 v1168).toNat := fun d0 v18 arg14 arg15 v1153 v1168 v1183 k0_hw99 k0_h311 => k0_hw99.1 k0_h311
theorem k0_off309_inb : ∀ (d0 : Dev nD) (v18 : BitVec 32) (arg14 : BitVec 32) (arg15 : BitVec 32) (v1153 : BitVec 32) (v1168 : BitVec 32) (v1183 : BitVec 32) (k0_hw99 : k0_chk99 d0 v18 arg14 arg15 v1153 v1168 v1183), ∀ (k0_h311 : k0_cond311 d0 v1183 = 1#1), ∀ a, (k0_off309 d0 arg14 v1153 v1168) a + S8x128.size a ≤ S17408x128.size a := fun d0 v18 arg14 arg15 v1153 v1168 v1183 k0_hw99 k0_h311 => k0_hw99.2.1 k0_h311
theorem k0_mult211_dvd : ∀ (d0 : Dev nD) (v18 : BitVec 32) (arg14 : BitVec 32) (arg15 : BitVec 32) (v1153 : BitVec 32) (v1168 : BitVec 32) (v1183 : BitVec 32) (k0_hw99 : k0_chk99 d0 v18 arg14 arg15 v1153 v1168 v1183), ∀ (k0_h312 : k0_cond312 d0 v1183 = 1#1), 8 ∣ (k0_mult211 d0 v18 arg15 v1153 v1168).toNat := fun d0 v18 arg14 arg15 v1153 v1168 v1183 k0_hw99 k0_h312 => k0_hw99.2.2.1 k0_h312
theorem k0_off310_inb : ∀ (d0 : Dev nD) (v18 : BitVec 32) (arg14 : BitVec 32) (arg15 : BitVec 32) (v1153 : BitVec 32) (v1168 : BitVec 32) (v1183 : BitVec 32) (k0_hw99 : k0_chk99 d0 v18 arg14 arg15 v1153 v1168 v1183), ∀ (k0_h312 : k0_cond312 d0 v1183 = 1#1), ∀ a, (k0_off310 d0 v18 arg15 v1153 v1168) a + S8x128.size a ≤ S16384x128.size a := fun d0 v18 arg14 arg15 v1153 v1168 v1183 k0_hw99 k0_h312 => k0_hw99.2.2.2 k0_h312

def k0_off311 (k0_t13 : Fin k0_t13_loop.trips) : Fin 2 → Nat :=
  let c12_755 : Index := 12#32
  let c0_i32_393 : BitVec 32 := 0#32
  let c1_i32_395 : BitVec 32 := 1#32
  let arg13 : BitVec 32 := Scf.iv c0_i32_393 c1_i32_395 k0_t13
  let c8_i32_753 : BitVec 32 := 8#32
  let v1195 : BitVec 32 := Scalar.muli arg13 c8_i32_753
  let c3_i32_754 : BitVec 32 := 3#32
  let v1196 : BitVec 32 := Scalar.addi v1195 c3_i32_754
  let v1197 : Index := Scalar.indexCast v1196
  ![12, v1197.toNat]
def k0_mult212 (d0 : Dev nD) (arg14 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  v1269
def k0_cond313 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let v1200 : BitVec 32 := Scalar.extui v1199
  let c0_i32_756 : BitVec 32 := 0#32
  let v1201 : BitVec 1 := Scalar.cmpi .ne v1200 c0_i32_756
  v1201

def k0_off312 (d0 : Dev nD) (arg14 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  let v1270 : BitVec 32 := v1269
  let v1271 : Index := Scalar.indexCast v1270
  let c0_789 : Index := 0#32
  ![v1271.toNat, 0]
def k0_mult213 (d0 : Dev nD) (v18 : BitVec 32) (arg15 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  v1270
def k0_cond314 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let true_757 : BitVec 1 := 1#1
  let v1202 : BitVec 1 := Scalar.xori v1199 true_757
  let v1203 : BitVec 32 := Scalar.extui v1202
  let c0_i32_758 : BitVec 32 := 0#32
  let v1204 : BitVec 1 := Scalar.cmpi .ne v1203 c0_i32_758
  v1204

def k0_off313 (d0 : Dev nD) (v18 : BitVec 32) (arg15 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk100 (d0 : Dev nD) (v18 : BitVec 32) (arg14 : BitVec 32) (arg15 : BitVec 32) (v1153 : BitVec 32) (v1168 : BitVec 32) (v1183 : BitVec 32) (v1198 : BitVec 32) : Prop :=
  (∀ (k0_h313 : k0_cond313 d0 v1198 = 1#1), 8 ∣ (k0_mult212 d0 arg14 v1153 v1168 v1183).toNat) ∧
  (∀ (k0_h313 : k0_cond313 d0 v1198 = 1#1), ∀ a, (k0_off312 d0 arg14 v1153 v1168 v1183) a + S8x128.size a ≤ S17408x128.size a) ∧
  (∀ (k0_h314 : k0_cond314 d0 v1198 = 1#1), 8 ∣ (k0_mult213 d0 v18 arg15 v1153 v1168 v1183).toNat) ∧
  (∀ (k0_h314 : k0_cond314 d0 v1198 = 1#1), ∀ a, (k0_off313 d0 v18 arg15 v1153 v1168 v1183) a + S8x128.size a ≤ S16384x128.size a)
theorem k0_mult212_dvd : ∀ (d0 : Dev nD) (v18 : BitVec 32) (arg14 : BitVec 32) (arg15 : BitVec 32) (v1153 : BitVec 32) (v1168 : BitVec 32) (v1183 : BitVec 32) (v1198 : BitVec 32) (k0_hw100 : k0_chk100 d0 v18 arg14 arg15 v1153 v1168 v1183 v1198), ∀ (k0_h313 : k0_cond313 d0 v1198 = 1#1), 8 ∣ (k0_mult212 d0 arg14 v1153 v1168 v1183).toNat := fun d0 v18 arg14 arg15 v1153 v1168 v1183 v1198 k0_hw100 k0_h313 => k0_hw100.1 k0_h313
theorem k0_off312_inb : ∀ (d0 : Dev nD) (v18 : BitVec 32) (arg14 : BitVec 32) (arg15 : BitVec 32) (v1153 : BitVec 32) (v1168 : BitVec 32) (v1183 : BitVec 32) (v1198 : BitVec 32) (k0_hw100 : k0_chk100 d0 v18 arg14 arg15 v1153 v1168 v1183 v1198), ∀ (k0_h313 : k0_cond313 d0 v1198 = 1#1), ∀ a, (k0_off312 d0 arg14 v1153 v1168 v1183) a + S8x128.size a ≤ S17408x128.size a := fun d0 v18 arg14 arg15 v1153 v1168 v1183 v1198 k0_hw100 k0_h313 => k0_hw100.2.1 k0_h313
theorem k0_mult213_dvd : ∀ (d0 : Dev nD) (v18 : BitVec 32) (arg14 : BitVec 32) (arg15 : BitVec 32) (v1153 : BitVec 32) (v1168 : BitVec 32) (v1183 : BitVec 32) (v1198 : BitVec 32) (k0_hw100 : k0_chk100 d0 v18 arg14 arg15 v1153 v1168 v1183 v1198), ∀ (k0_h314 : k0_cond314 d0 v1198 = 1#1), 8 ∣ (k0_mult213 d0 v18 arg15 v1153 v1168 v1183).toNat := fun d0 v18 arg14 arg15 v1153 v1168 v1183 v1198 k0_hw100 k0_h314 => k0_hw100.2.2.1 k0_h314
theorem k0_off313_inb : ∀ (d0 : Dev nD) (v18 : BitVec 32) (arg14 : BitVec 32) (arg15 : BitVec 32) (v1153 : BitVec 32) (v1168 : BitVec 32) (v1183 : BitVec 32) (v1198 : BitVec 32) (k0_hw100 : k0_chk100 d0 v18 arg14 arg15 v1153 v1168 v1183 v1198), ∀ (k0_h314 : k0_cond314 d0 v1198 = 1#1), ∀ a, (k0_off313 d0 v18 arg15 v1153 v1168 v1183) a + S8x128.size a ≤ S16384x128.size a := fun d0 v18 arg14 arg15 v1153 v1168 v1183 v1198 k0_hw100 k0_h314 => k0_hw100.2.2.2 k0_h314

def k0_off314 (k0_t13 : Fin k0_t13_loop.trips) : Fin 2 → Nat :=
  let c12_762 : Index := 12#32
  let c0_i32_393 : BitVec 32 := 0#32
  let c1_i32_395 : BitVec 32 := 1#32
  let arg13 : BitVec 32 := Scf.iv c0_i32_393 c1_i32_395 k0_t13
  let c8_i32_760 : BitVec 32 := 8#32
  let v1210 : BitVec 32 := Scalar.muli arg13 c8_i32_760
  let c4_i32_761 : BitVec 32 := 4#32
  let v1211 : BitVec 32 := Scalar.addi v1210 c4_i32_761
  let v1212 : Index := Scalar.indexCast v1211
  ![12, v1212.toNat]
def k0_mult214 (d0 : Dev nD) (arg14 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  v1269
def k0_cond315 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let v1215 : BitVec 32 := Scalar.extui v1214
  let c0_i32_763 : BitVec 32 := 0#32
  let v1216 : BitVec 1 := Scalar.cmpi .ne v1215 c0_i32_763
  v1216

def k0_off315 (d0 : Dev nD) (arg14 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  let v1270 : BitVec 32 := v1269
  let v1271 : Index := Scalar.indexCast v1270
  let c0_789 : Index := 0#32
  ![v1271.toNat, 0]
def k0_mult215 (d0 : Dev nD) (v18 : BitVec 32) (arg15 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  v1270
def k0_cond316 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let true_764 : BitVec 1 := 1#1
  let v1217 : BitVec 1 := Scalar.xori v1214 true_764
  let v1218 : BitVec 32 := Scalar.extui v1217
  let c0_i32_765 : BitVec 32 := 0#32
  let v1219 : BitVec 1 := Scalar.cmpi .ne v1218 c0_i32_765
  v1219

def k0_off316 (d0 : Dev nD) (v18 : BitVec 32) (arg15 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk101 (d0 : Dev nD) (v18 : BitVec 32) (arg14 : BitVec 32) (arg15 : BitVec 32) (v1153 : BitVec 32) (v1168 : BitVec 32) (v1183 : BitVec 32) (v1198 : BitVec 32) (v1213 : BitVec 32) : Prop :=
  (∀ (k0_h315 : k0_cond315 d0 v1213 = 1#1), 8 ∣ (k0_mult214 d0 arg14 v1153 v1168 v1183 v1198).toNat) ∧
  (∀ (k0_h315 : k0_cond315 d0 v1213 = 1#1), ∀ a, (k0_off315 d0 arg14 v1153 v1168 v1183 v1198) a + S8x128.size a ≤ S17408x128.size a) ∧
  (∀ (k0_h316 : k0_cond316 d0 v1213 = 1#1), 8 ∣ (k0_mult215 d0 v18 arg15 v1153 v1168 v1183 v1198).toNat) ∧
  (∀ (k0_h316 : k0_cond316 d0 v1213 = 1#1), ∀ a, (k0_off316 d0 v18 arg15 v1153 v1168 v1183 v1198) a + S8x128.size a ≤ S16384x128.size a)
theorem k0_mult214_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw101 : k0_chk101 d0 v18 arg14 arg15 v1153 v1168 v1183 v1198 v1213), ∀ (k0_h315 : k0_cond315 d0 v1213 = 1#1), 8 ∣ (k0_mult214 d0 arg14 v1153 v1168 v1183 v1198).toNat := fun d0 v18 arg14 arg15 v1153 v1168 v1183 v1198 v1213 k0_hw101 k0_h315 => k0_hw101.1 k0_h315
theorem k0_off315_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw101 : k0_chk101 d0 v18 arg14 arg15 v1153 v1168 v1183 v1198 v1213), ∀ (k0_h315 : k0_cond315 d0 v1213 = 1#1), ∀ a, (k0_off315 d0 arg14 v1153 v1168 v1183 v1198) a + S8x128.size a ≤ S17408x128.size a := fun d0 v18 arg14 arg15 v1153 v1168 v1183 v1198 v1213 k0_hw101 k0_h315 => k0_hw101.2.1 k0_h315
theorem k0_mult215_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw101 : k0_chk101 d0 v18 arg14 arg15 v1153 v1168 v1183 v1198 v1213), ∀ (k0_h316 : k0_cond316 d0 v1213 = 1#1), 8 ∣ (k0_mult215 d0 v18 arg15 v1153 v1168 v1183 v1198).toNat := fun d0 v18 arg14 arg15 v1153 v1168 v1183 v1198 v1213 k0_hw101 k0_h316 => k0_hw101.2.2.1 k0_h316
theorem k0_off316_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw101 : k0_chk101 d0 v18 arg14 arg15 v1153 v1168 v1183 v1198 v1213), ∀ (k0_h316 : k0_cond316 d0 v1213 = 1#1), ∀ a, (k0_off316 d0 v18 arg15 v1153 v1168 v1183 v1198) a + S8x128.size a ≤ S16384x128.size a := fun d0 v18 arg14 arg15 v1153 v1168 v1183 v1198 v1213 k0_hw101 k0_h316 => k0_hw101.2.2.2 k0_h316

def k0_off317 (k0_t13 : Fin k0_t13_loop.trips) : Fin 2 → Nat :=
  let c12_769 : Index := 12#32
  let c0_i32_393 : BitVec 32 := 0#32
  let c1_i32_395 : BitVec 32 := 1#32
  let arg13 : BitVec 32 := Scf.iv c0_i32_393 c1_i32_395 k0_t13
  let c8_i32_767 : BitVec 32 := 8#32
  let v1225 : BitVec 32 := Scalar.muli arg13 c8_i32_767
  let c5_i32_768 : BitVec 32 := 5#32
  let v1226 : BitVec 32 := Scalar.addi v1225 c5_i32_768
  let v1227 : Index := Scalar.indexCast v1226
  ![12, v1227.toNat]
def k0_mult216 (d0 : Dev nD) (arg14 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  v1269
def k0_cond317 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let v1230 : BitVec 32 := Scalar.extui v1229
  let c0_i32_770 : BitVec 32 := 0#32
  let v1231 : BitVec 1 := Scalar.cmpi .ne v1230 c0_i32_770
  v1231

def k0_off318 (d0 : Dev nD) (arg14 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  let v1270 : BitVec 32 := v1269
  let v1271 : Index := Scalar.indexCast v1270
  let c0_789 : Index := 0#32
  ![v1271.toNat, 0]
def k0_mult217 (d0 : Dev nD) (v18 : BitVec 32) (arg15 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  v1270
def k0_cond318 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let true_771 : BitVec 1 := 1#1
  let v1232 : BitVec 1 := Scalar.xori v1229 true_771
  let v1233 : BitVec 32 := Scalar.extui v1232
  let c0_i32_772 : BitVec 32 := 0#32
  let v1234 : BitVec 1 := Scalar.cmpi .ne v1233 c0_i32_772
  v1234

def k0_off319 (d0 : Dev nD) (v18 : BitVec 32) (arg15 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk102 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) : Prop :=
  (∀ (k0_h317 : k0_cond317 d0 v1228 = 1#1), 8 ∣ (k0_mult216 d0 arg14 v1153 v1168 v1183 v1198 v1213).toNat) ∧
  (∀ (k0_h317 : k0_cond317 d0 v1228 = 1#1), ∀ a, (k0_off318 d0 arg14 v1153 v1168 v1183 v1198 v1213) a + S8x128.size a ≤ S17408x128.size a) ∧
  (∀ (k0_h318 : k0_cond318 d0 v1228 = 1#1), 8 ∣ (k0_mult217 d0 v18 arg15 v1153 v1168 v1183 v1198 v1213).toNat) ∧
  (∀ (k0_h318 : k0_cond318 d0 v1228 = 1#1), ∀ a, (k0_off319 d0 v18 arg15 v1153 v1168 v1183 v1198 v1213) a + S8x128.size a ≤ S16384x128.size a)
theorem k0_mult216_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw102 : k0_chk102 d0 v18 arg14 arg15 v1153 v1168 v1183 v1198 v1213 v1228), ∀ (k0_h317 : k0_cond317 d0 v1228 = 1#1), 8 ∣ (k0_mult216 d0 arg14 v1153 v1168 v1183 v1198 v1213).toNat := fun d0 v18 arg14 arg15 v1153 v1168 v1183 v1198 v1213 v1228 k0_hw102 k0_h317 => k0_hw102.1 k0_h317
theorem k0_off318_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw102 : k0_chk102 d0 v18 arg14 arg15 v1153 v1168 v1183 v1198 v1213 v1228), ∀ (k0_h317 : k0_cond317 d0 v1228 = 1#1), ∀ a, (k0_off318 d0 arg14 v1153 v1168 v1183 v1198 v1213) a + S8x128.size a ≤ S17408x128.size a := fun d0 v18 arg14 arg15 v1153 v1168 v1183 v1198 v1213 v1228 k0_hw102 k0_h317 => k0_hw102.2.1 k0_h317
theorem k0_mult217_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw102 : k0_chk102 d0 v18 arg14 arg15 v1153 v1168 v1183 v1198 v1213 v1228), ∀ (k0_h318 : k0_cond318 d0 v1228 = 1#1), 8 ∣ (k0_mult217 d0 v18 arg15 v1153 v1168 v1183 v1198 v1213).toNat := fun d0 v18 arg14 arg15 v1153 v1168 v1183 v1198 v1213 v1228 k0_hw102 k0_h318 => k0_hw102.2.2.1 k0_h318
theorem k0_off319_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw102 : k0_chk102 d0 v18 arg14 arg15 v1153 v1168 v1183 v1198 v1213 v1228), ∀ (k0_h318 : k0_cond318 d0 v1228 = 1#1), ∀ a, (k0_off319 d0 v18 arg15 v1153 v1168 v1183 v1198 v1213) a + S8x128.size a ≤ S16384x128.size a := fun d0 v18 arg14 arg15 v1153 v1168 v1183 v1198 v1213 v1228 k0_hw102 k0_h318 => k0_hw102.2.2.2 k0_h318

def k0_off320 (k0_t13 : Fin k0_t13_loop.trips) : Fin 2 → Nat :=
  let c12_776 : Index := 12#32
  let c0_i32_393 : BitVec 32 := 0#32
  let c1_i32_395 : BitVec 32 := 1#32
  let arg13 : BitVec 32 := Scf.iv c0_i32_393 c1_i32_395 k0_t13
  let c8_i32_774 : BitVec 32 := 8#32
  let v1240 : BitVec 32 := Scalar.muli arg13 c8_i32_774
  let c6_i32_775 : BitVec 32 := 6#32
  let v1241 : BitVec 32 := Scalar.addi v1240 c6_i32_775
  let v1242 : Index := Scalar.indexCast v1241
  ![12, v1242.toNat]
def k0_mult218 (d0 : Dev nD) (arg14 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  v1269
def k0_cond319 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let v1245 : BitVec 32 := Scalar.extui v1244
  let c0_i32_777 : BitVec 32 := 0#32
  let v1246 : BitVec 1 := Scalar.cmpi .ne v1245 c0_i32_777
  v1246

def k0_off321 (d0 : Dev nD) (arg14 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  let v1270 : BitVec 32 := v1269
  let v1271 : Index := Scalar.indexCast v1270
  let c0_789 : Index := 0#32
  ![v1271.toNat, 0]
def k0_mult219 (d0 : Dev nD) (v18 : BitVec 32) (arg15 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  v1270
def k0_cond320 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let true_778 : BitVec 1 := 1#1
  let v1247 : BitVec 1 := Scalar.xori v1244 true_778
  let v1248 : BitVec 32 := Scalar.extui v1247
  let c0_i32_779 : BitVec 32 := 0#32
  let v1249 : BitVec 1 := Scalar.cmpi .ne v1248 c0_i32_779
  v1249

def k0_off322 (d0 : Dev nD) (v18 : BitVec 32) (arg15 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk103 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) : Prop :=
  (∀ (k0_h319 : k0_cond319 d0 v1243 = 1#1), 8 ∣ (k0_mult218 d0 arg14 v1153 v1168 v1183 v1198 v1213 v1228).toNat) ∧
  (∀ (k0_h319 : k0_cond319 d0 v1243 = 1#1), ∀ a, (k0_off321 d0 arg14 v1153 v1168 v1183 v1198 v1213 v1228) a + S8x128.size a ≤ S17408x128.size a) ∧
  (∀ (k0_h320 : k0_cond320 d0 v1243 = 1#1), 8 ∣ (k0_mult219 d0 v18 arg15 v1153 v1168 v1183 v1198 v1213 v1228).toNat) ∧
  (∀ (k0_h320 : k0_cond320 d0 v1243 = 1#1), ∀ a, (k0_off322 d0 v18 arg15 v1153 v1168 v1183 v1198 v1213 v1228) a + S8x128.size a ≤ S16384x128.size a)
theorem k0_mult218_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw103 : k0_chk103 d0 v18 arg14 arg15 v1153 v1168 v1183 v1198 v1213 v1228 v1243), ∀ (k0_h319 : k0_cond319 d0 v1243 = 1#1), 8 ∣ (k0_mult218 d0 arg14 v1153 v1168 v1183 v1198 v1213 v1228).toNat := fun d0 v18 arg14 arg15 v1153 v1168 v1183 v1198 v1213 v1228 v1243 k0_hw103 k0_h319 => k0_hw103.1 k0_h319
theorem k0_off321_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw103 : k0_chk103 d0 v18 arg14 arg15 v1153 v1168 v1183 v1198 v1213 v1228 v1243), ∀ (k0_h319 : k0_cond319 d0 v1243 = 1#1), ∀ a, (k0_off321 d0 arg14 v1153 v1168 v1183 v1198 v1213 v1228) a + S8x128.size a ≤ S17408x128.size a := fun d0 v18 arg14 arg15 v1153 v1168 v1183 v1198 v1213 v1228 v1243 k0_hw103 k0_h319 => k0_hw103.2.1 k0_h319
theorem k0_mult219_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw103 : k0_chk103 d0 v18 arg14 arg15 v1153 v1168 v1183 v1198 v1213 v1228 v1243), ∀ (k0_h320 : k0_cond320 d0 v1243 = 1#1), 8 ∣ (k0_mult219 d0 v18 arg15 v1153 v1168 v1183 v1198 v1213 v1228).toNat := fun d0 v18 arg14 arg15 v1153 v1168 v1183 v1198 v1213 v1228 v1243 k0_hw103 k0_h320 => k0_hw103.2.2.1 k0_h320
theorem k0_off322_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw103 : k0_chk103 d0 v18 arg14 arg15 v1153 v1168 v1183 v1198 v1213 v1228 v1243), ∀ (k0_h320 : k0_cond320 d0 v1243 = 1#1), ∀ a, (k0_off322 d0 v18 arg15 v1153 v1168 v1183 v1198 v1213 v1228) a + S8x128.size a ≤ S16384x128.size a := fun d0 v18 arg14 arg15 v1153 v1168 v1183 v1198 v1213 v1228 v1243 k0_hw103 k0_h320 => k0_hw103.2.2.2 k0_h320

def k0_off323 (k0_t13 : Fin k0_t13_loop.trips) : Fin 2 → Nat :=
  let c12_783 : Index := 12#32
  let c0_i32_393 : BitVec 32 := 0#32
  let c1_i32_395 : BitVec 32 := 1#32
  let arg13 : BitVec 32 := Scf.iv c0_i32_393 c1_i32_395 k0_t13
  let c8_i32_781 : BitVec 32 := 8#32
  let v1255 : BitVec 32 := Scalar.muli arg13 c8_i32_781
  let c7_i32_782 : BitVec 32 := 7#32
  let v1256 : BitVec 32 := Scalar.addi v1255 c7_i32_782
  let v1257 : Index := Scalar.indexCast v1256
  ![12, v1257.toNat]
def k0_mult220 (d0 : Dev nD) (arg14 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  v1269
def k0_cond321 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let v1260 : BitVec 32 := Scalar.extui v1259
  let c0_i32_784 : BitVec 32 := 0#32
  let v1261 : BitVec 1 := Scalar.cmpi .ne v1260 c0_i32_784
  v1261

def k0_off324 (d0 : Dev nD) (arg14 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  let v1270 : BitVec 32 := v1269
  let v1271 : Index := Scalar.indexCast v1270
  let c0_789 : Index := 0#32
  ![v1271.toNat, 0]
def k0_mult221 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  v1270
def k0_cond322 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let true_785 : BitVec 1 := 1#1
  let v1262 : BitVec 1 := Scalar.xori v1259 true_785
  let v1263 : BitVec 32 := Scalar.extui v1262
  let c0_i32_786 : BitVec 32 := 0#32
  let v1264 : BitVec 1 := Scalar.cmpi .ne v1263 c0_i32_786
  v1264

def k0_off325 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk104 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) : Prop :=
  (∀ (k0_h321 : k0_cond321 d0 v1258 = 1#1), 8 ∣ (k0_mult220 d0 arg14 v1153 v1168 v1183 v1198 v1213 v1228 v1243).toNat) ∧
  (∀ (k0_h321 : k0_cond321 d0 v1258 = 1#1), ∀ a, (k0_off324 d0 arg14 v1153 v1168 v1183 v1198 v1213 v1228 v1243) a + S8x128.size a ≤ S17408x128.size a) ∧
  (∀ (k0_h322 : k0_cond322 d0 v1258 = 1#1), 8 ∣ (k0_mult221 d0 v18 arg15 v1153 v1168 v1183 v1198 v1213 v1228 v1243).toNat) ∧
  (∀ (k0_h322 : k0_cond322 d0 v1258 = 1#1), ∀ a, (k0_off325 d0 v18 arg15 v1153 v1168 v1183 v1198 v1213 v1228 v1243) a + S8x128.size a ≤ S16384x128.size a)
theorem k0_mult220_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw104 : k0_chk104 d0 v18 arg14 arg15 v1153 v1168 v1183 v1198 v1213 v1228 v1243 v1258), ∀ (k0_h321 : k0_cond321 d0 v1258 = 1#1), 8 ∣ (k0_mult220 d0 arg14 v1153 v1168 v1183 v1198 v1213 v1228 v1243).toNat := fun d0 v18 arg14 arg15 v1153 v1168 v1183 v1198 v1213 v1228 v1243 v1258 k0_hw104 k0_h321 => k0_hw104.1 k0_h321
theorem k0_off324_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw104 : k0_chk104 d0 v18 arg14 arg15 v1153 v1168 v1183 v1198 v1213 v1228 v1243 v1258), ∀ (k0_h321 : k0_cond321 d0 v1258 = 1#1), ∀ a, (k0_off324 d0 arg14 v1153 v1168 v1183 v1198 v1213 v1228 v1243) a + S8x128.size a ≤ S17408x128.size a := fun d0 v18 arg14 arg15 v1153 v1168 v1183 v1198 v1213 v1228 v1243 v1258 k0_hw104 k0_h321 => k0_hw104.2.1 k0_h321
theorem k0_mult221_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw104 : k0_chk104 d0 v18 arg14 arg15 v1153 v1168 v1183 v1198 v1213 v1228 v1243 v1258), ∀ (k0_h322 : k0_cond322 d0 v1258 = 1#1), 8 ∣ (k0_mult221 d0 v18 arg15 v1153 v1168 v1183 v1198 v1213 v1228 v1243).toNat := fun d0 v18 arg14 arg15 v1153 v1168 v1183 v1198 v1213 v1228 v1243 v1258 k0_hw104 k0_h322 => k0_hw104.2.2.1 k0_h322
theorem k0_off325_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw104 : k0_chk104 d0 v18 arg14 arg15 v1153 v1168 v1183 v1198 v1213 v1228 v1243 v1258), ∀ (k0_h322 : k0_cond322 d0 v1258 = 1#1), ∀ a, (k0_off325 d0 v18 arg15 v1153 v1168 v1183 v1198 v1213 v1228 v1243) a + S8x128.size a ≤ S16384x128.size a := fun d0 v18 arg14 arg15 v1153 v1168 v1183 v1198 v1213 v1228 v1243 v1258 k0_hw104 k0_h322 => k0_hw104.2.2.2 k0_h322

def k0_dev116 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1147 : BitVec 32 := Scalar.muli v9 c16_i32_736
  let v1148 : BitVec 32 := Scalar.addi c0_i32_737 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1149 : BitVec 32 := Scalar.muli v5 c4_i32_738
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1151 : BitVec 32 := Scalar.muli v8 c1_i32_739
  let v1152 : BitVec 32 := Scalar.addi v1150 v1151
  v1152.toNat
def k0_dev117 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev118 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev119 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev120 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev121 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev122 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev123 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev124 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev125 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev126 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev127 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev128 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev129 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev130 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev131 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
@[reducible] def k0_t14_loop : Scf.Loop 32 :=
  let c0_i32_444 : BitVec 32 := 0#32
  let c16_i32_445 : BitVec 32 := 16#32
  let v712 : BitVec 32 := Scalar.addi c0_i32_444 c16_i32_445
  let c1_i32_446 : BitVec 32 := 1#32
  ⟨c0_i32_444, v712, c1_i32_446⟩
def k0_mult222 (k0_t14 : Fin k0_t14_loop.trips) : BitVec 32 :=
  let c1664_i32_731 : BitVec 32 := 1664#32
  let c0_i32_444 : BitVec 32 := 0#32
  let c1_i32_446 : BitVec 32 := 1#32
  let arg13 : BitVec 32 := Scf.iv c0_i32_444 c1_i32_446 k0_t14
  let c8_i32_730 : BitVec 32 := 8#32
  let v1142 : BitVec 32 := Scalar.muli arg13 c8_i32_730
  let v1143 : BitVec 32 := Scalar.addi c1664_i32_731 v1142
  v1143
def k0_off326 (k0_t14 : Fin k0_t14_loop.trips) : Fin 2 → Nat :=
  let c1664_i32_731 : BitVec 32 := 1664#32
  let c0_i32_444 : BitVec 32 := 0#32
  let c1_i32_446 : BitVec 32 := 1#32
  let arg13 : BitVec 32 := Scf.iv c0_i32_444 c1_i32_446 k0_t14
  let c8_i32_730 : BitVec 32 := 8#32
  let v1142 : BitVec 32 := Scalar.muli arg13 c8_i32_730
  let v1143 : BitVec 32 := Scalar.addi c1664_i32_731 v1142
  let v1144 : BitVec 32 := v1143
  let v1145 : Index := Scalar.indexCast v1144
  let c0_732 : Index := 0#32
  ![v1145.toNat, 0]
def k0_off327 (k0_t14 : Fin k0_t14_loop.trips) : Fin 2 → Nat :=
  let c13 : Index := 13#32
  let c0_i32_444 : BitVec 32 := 0#32
  let c1_i32_446 : BitVec 32 := 1#32
  let arg13 : BitVec 32 := Scf.iv c0_i32_444 c1_i32_446 k0_t14
  let c8_i32_733 : BitVec 32 := 8#32
  let v1150 : BitVec 32 := Scalar.muli arg13 c8_i32_733
  let c0_i32_734 : BitVec 32 := 0#32
  let v1151 : BitVec 32 := Scalar.addi v1150 c0_i32_734
  let v1152 : Index := Scalar.indexCast v1151
  ![13, v1152.toNat]
def k0_mult223 (arg14 : BitVec 32) : BitVec 32 :=
  let c8_i32_788 : BitVec 32 := 8#32
  let v1269 : BitVec 32 := Scalar.muli arg14 c8_i32_788
  v1269
def k0_cond339 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1155 : BitVec 32 := Scalar.extui v1154
  let c0_i32_735 : BitVec 32 := 0#32
  let v1156 : BitVec 1 := Scalar.cmpi .ne v1155 c0_i32_735
  v1156

def k0_off328 (arg14 : BitVec 32) : Fin 2 → Nat :=
  let c8_i32_788 : BitVec 32 := 8#32
  let v1269 : BitVec 32 := Scalar.muli arg14 c8_i32_788
  let v1270 : BitVec 32 := v1269
  let v1271 : Index := Scalar.indexCast v1270
  let c0_789 : Index := 0#32
  ![v1271.toNat, 0]
def k0_mult224 (d0 : Dev nD) (v18 : BitVec 32) (arg15 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  v1270
def k0_cond340 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let true_736 : BitVec 1 := 1#1
  let v1157 : BitVec 1 := Scalar.xori v1154 true_736
  let v1158 : BitVec 32 := Scalar.extui v1157
  let c0_i32_737 : BitVec 32 := 0#32
  let v1159 : BitVec 1 := Scalar.cmpi .ne v1158 c0_i32_737
  v1159

def k0_off329 (d0 : Dev nD) (v18 : BitVec 32) (arg15 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk105 (d0 : Dev nD) (v18 : BitVec 32) (arg14 : BitVec 32) (arg15 : BitVec 32) (v1153 : BitVec 32) : Prop :=
  (∀ (k0_h339 : k0_cond339 d0 v1153 = 1#1), 8 ∣ (k0_mult223 arg14).toNat) ∧
  (∀ (k0_h339 : k0_cond339 d0 v1153 = 1#1), ∀ a, (k0_off328 arg14) a + S8x128.size a ≤ S17408x128.size a) ∧
  (∀ (k0_h340 : k0_cond340 d0 v1153 = 1#1), 8 ∣ (k0_mult224 d0 v18 arg15).toNat) ∧
  (∀ (k0_h340 : k0_cond340 d0 v1153 = 1#1), ∀ a, (k0_off329 d0 v18 arg15) a + S8x128.size a ≤ S16384x128.size a)
theorem k0_mult223_dvd : ∀ (d0 : Dev nD) (v18 : BitVec 32) (arg14 : BitVec 32) (arg15 : BitVec 32) (v1153 : BitVec 32) (k0_hw105 : k0_chk105 d0 v18 arg14 arg15 v1153), ∀ (k0_h339 : k0_cond339 d0 v1153 = 1#1), 8 ∣ (k0_mult223 arg14).toNat := fun d0 v18 arg14 arg15 v1153 k0_hw105 k0_h339 => k0_hw105.1 k0_h339
theorem k0_off328_inb : ∀ (d0 : Dev nD) (v18 : BitVec 32) (arg14 : BitVec 32) (arg15 : BitVec 32) (v1153 : BitVec 32) (k0_hw105 : k0_chk105 d0 v18 arg14 arg15 v1153), ∀ (k0_h339 : k0_cond339 d0 v1153 = 1#1), ∀ a, (k0_off328 arg14) a + S8x128.size a ≤ S17408x128.size a := fun d0 v18 arg14 arg15 v1153 k0_hw105 k0_h339 => k0_hw105.2.1 k0_h339
theorem k0_mult224_dvd : ∀ (d0 : Dev nD) (v18 : BitVec 32) (arg14 : BitVec 32) (arg15 : BitVec 32) (v1153 : BitVec 32) (k0_hw105 : k0_chk105 d0 v18 arg14 arg15 v1153), ∀ (k0_h340 : k0_cond340 d0 v1153 = 1#1), 8 ∣ (k0_mult224 d0 v18 arg15).toNat := fun d0 v18 arg14 arg15 v1153 k0_hw105 k0_h340 => k0_hw105.2.2.1 k0_h340
theorem k0_off329_inb : ∀ (d0 : Dev nD) (v18 : BitVec 32) (arg14 : BitVec 32) (arg15 : BitVec 32) (v1153 : BitVec 32) (k0_hw105 : k0_chk105 d0 v18 arg14 arg15 v1153), ∀ (k0_h340 : k0_cond340 d0 v1153 = 1#1), ∀ a, (k0_off329 d0 v18 arg15) a + S8x128.size a ≤ S16384x128.size a := fun d0 v18 arg14 arg15 v1153 k0_hw105 k0_h340 => k0_hw105.2.2.2 k0_h340

def k0_off330 (k0_t14 : Fin k0_t14_loop.trips) : Fin 2 → Nat :=
  let c13_741 : Index := 13#32
  let c0_i32_444 : BitVec 32 := 0#32
  let c1_i32_446 : BitVec 32 := 1#32
  let arg13 : BitVec 32 := Scf.iv c0_i32_444 c1_i32_446 k0_t14
  let c8_i32_739 : BitVec 32 := 8#32
  let v1165 : BitVec 32 := Scalar.muli arg13 c8_i32_739
  let c1_i32_740 : BitVec 32 := 1#32
  let v1166 : BitVec 32 := Scalar.addi v1165 c1_i32_740
  let v1167 : Index := Scalar.indexCast v1166
  ![13, v1167.toNat]
def k0_mult225 (d0 : Dev nD) (arg14 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  v1269
def k0_cond341 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let v1170 : BitVec 32 := Scalar.extui v1169
  let c0_i32_742 : BitVec 32 := 0#32
  let v1171 : BitVec 1 := Scalar.cmpi .ne v1170 c0_i32_742
  v1171

def k0_off331 (d0 : Dev nD) (arg14 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  let v1270 : BitVec 32 := v1269
  let v1271 : Index := Scalar.indexCast v1270
  let c0_789 : Index := 0#32
  ![v1271.toNat, 0]
def k0_mult226 (d0 : Dev nD) (v18 : BitVec 32) (arg15 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  v1270
def k0_cond342 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let true_743 : BitVec 1 := 1#1
  let v1172 : BitVec 1 := Scalar.xori v1169 true_743
  let v1173 : BitVec 32 := Scalar.extui v1172
  let c0_i32_744 : BitVec 32 := 0#32
  let v1174 : BitVec 1 := Scalar.cmpi .ne v1173 c0_i32_744
  v1174

def k0_off332 (d0 : Dev nD) (v18 : BitVec 32) (arg15 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk106 (d0 : Dev nD) (v18 : BitVec 32) (arg14 : BitVec 32) (arg15 : BitVec 32) (v1153 : BitVec 32) (v1168 : BitVec 32) : Prop :=
  (∀ (k0_h341 : k0_cond341 d0 v1168 = 1#1), 8 ∣ (k0_mult225 d0 arg14 v1153).toNat) ∧
  (∀ (k0_h341 : k0_cond341 d0 v1168 = 1#1), ∀ a, (k0_off331 d0 arg14 v1153) a + S8x128.size a ≤ S17408x128.size a) ∧
  (∀ (k0_h342 : k0_cond342 d0 v1168 = 1#1), 8 ∣ (k0_mult226 d0 v18 arg15 v1153).toNat) ∧
  (∀ (k0_h342 : k0_cond342 d0 v1168 = 1#1), ∀ a, (k0_off332 d0 v18 arg15 v1153) a + S8x128.size a ≤ S16384x128.size a)
theorem k0_mult225_dvd : ∀ (d0 : Dev nD) (v18 : BitVec 32) (arg14 : BitVec 32) (arg15 : BitVec 32) (v1153 : BitVec 32) (v1168 : BitVec 32) (k0_hw106 : k0_chk106 d0 v18 arg14 arg15 v1153 v1168), ∀ (k0_h341 : k0_cond341 d0 v1168 = 1#1), 8 ∣ (k0_mult225 d0 arg14 v1153).toNat := fun d0 v18 arg14 arg15 v1153 v1168 k0_hw106 k0_h341 => k0_hw106.1 k0_h341
theorem k0_off331_inb : ∀ (d0 : Dev nD) (v18 : BitVec 32) (arg14 : BitVec 32) (arg15 : BitVec 32) (v1153 : BitVec 32) (v1168 : BitVec 32) (k0_hw106 : k0_chk106 d0 v18 arg14 arg15 v1153 v1168), ∀ (k0_h341 : k0_cond341 d0 v1168 = 1#1), ∀ a, (k0_off331 d0 arg14 v1153) a + S8x128.size a ≤ S17408x128.size a := fun d0 v18 arg14 arg15 v1153 v1168 k0_hw106 k0_h341 => k0_hw106.2.1 k0_h341
theorem k0_mult226_dvd : ∀ (d0 : Dev nD) (v18 : BitVec 32) (arg14 : BitVec 32) (arg15 : BitVec 32) (v1153 : BitVec 32) (v1168 : BitVec 32) (k0_hw106 : k0_chk106 d0 v18 arg14 arg15 v1153 v1168), ∀ (k0_h342 : k0_cond342 d0 v1168 = 1#1), 8 ∣ (k0_mult226 d0 v18 arg15 v1153).toNat := fun d0 v18 arg14 arg15 v1153 v1168 k0_hw106 k0_h342 => k0_hw106.2.2.1 k0_h342
theorem k0_off332_inb : ∀ (d0 : Dev nD) (v18 : BitVec 32) (arg14 : BitVec 32) (arg15 : BitVec 32) (v1153 : BitVec 32) (v1168 : BitVec 32) (k0_hw106 : k0_chk106 d0 v18 arg14 arg15 v1153 v1168), ∀ (k0_h342 : k0_cond342 d0 v1168 = 1#1), ∀ a, (k0_off332 d0 v18 arg15 v1153) a + S8x128.size a ≤ S16384x128.size a := fun d0 v18 arg14 arg15 v1153 v1168 k0_hw106 k0_h342 => k0_hw106.2.2.2 k0_h342

def k0_off333 (k0_t14 : Fin k0_t14_loop.trips) : Fin 2 → Nat :=
  let c13_748 : Index := 13#32
  let c0_i32_444 : BitVec 32 := 0#32
  let c1_i32_446 : BitVec 32 := 1#32
  let arg13 : BitVec 32 := Scf.iv c0_i32_444 c1_i32_446 k0_t14
  let c8_i32_746 : BitVec 32 := 8#32
  let v1180 : BitVec 32 := Scalar.muli arg13 c8_i32_746
  let c2_i32_747 : BitVec 32 := 2#32
  let v1181 : BitVec 32 := Scalar.addi v1180 c2_i32_747
  let v1182 : Index := Scalar.indexCast v1181
  ![13, v1182.toNat]
def k0_mult227 (d0 : Dev nD) (arg14 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  v1269
def k0_cond343 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let v1185 : BitVec 32 := Scalar.extui v1184
  let c0_i32_749 : BitVec 32 := 0#32
  let v1186 : BitVec 1 := Scalar.cmpi .ne v1185 c0_i32_749
  v1186

def k0_off334 (d0 : Dev nD) (arg14 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  let v1270 : BitVec 32 := v1269
  let v1271 : Index := Scalar.indexCast v1270
  let c0_789 : Index := 0#32
  ![v1271.toNat, 0]
def k0_mult228 (d0 : Dev nD) (v18 : BitVec 32) (arg15 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  v1270
def k0_cond344 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let true_750 : BitVec 1 := 1#1
  let v1187 : BitVec 1 := Scalar.xori v1184 true_750
  let v1188 : BitVec 32 := Scalar.extui v1187
  let c0_i32_751 : BitVec 32 := 0#32
  let v1189 : BitVec 1 := Scalar.cmpi .ne v1188 c0_i32_751
  v1189

def k0_off335 (d0 : Dev nD) (v18 : BitVec 32) (arg15 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk107 (d0 : Dev nD) (v18 : BitVec 32) (arg14 : BitVec 32) (arg15 : BitVec 32) (v1153 : BitVec 32) (v1168 : BitVec 32) (v1183 : BitVec 32) : Prop :=
  (∀ (k0_h343 : k0_cond343 d0 v1183 = 1#1), 8 ∣ (k0_mult227 d0 arg14 v1153 v1168).toNat) ∧
  (∀ (k0_h343 : k0_cond343 d0 v1183 = 1#1), ∀ a, (k0_off334 d0 arg14 v1153 v1168) a + S8x128.size a ≤ S17408x128.size a) ∧
  (∀ (k0_h344 : k0_cond344 d0 v1183 = 1#1), 8 ∣ (k0_mult228 d0 v18 arg15 v1153 v1168).toNat) ∧
  (∀ (k0_h344 : k0_cond344 d0 v1183 = 1#1), ∀ a, (k0_off335 d0 v18 arg15 v1153 v1168) a + S8x128.size a ≤ S16384x128.size a)
theorem k0_mult227_dvd : ∀ (d0 : Dev nD) (v18 : BitVec 32) (arg14 : BitVec 32) (arg15 : BitVec 32) (v1153 : BitVec 32) (v1168 : BitVec 32) (v1183 : BitVec 32) (k0_hw107 : k0_chk107 d0 v18 arg14 arg15 v1153 v1168 v1183), ∀ (k0_h343 : k0_cond343 d0 v1183 = 1#1), 8 ∣ (k0_mult227 d0 arg14 v1153 v1168).toNat := fun d0 v18 arg14 arg15 v1153 v1168 v1183 k0_hw107 k0_h343 => k0_hw107.1 k0_h343
theorem k0_off334_inb : ∀ (d0 : Dev nD) (v18 : BitVec 32) (arg14 : BitVec 32) (arg15 : BitVec 32) (v1153 : BitVec 32) (v1168 : BitVec 32) (v1183 : BitVec 32) (k0_hw107 : k0_chk107 d0 v18 arg14 arg15 v1153 v1168 v1183), ∀ (k0_h343 : k0_cond343 d0 v1183 = 1#1), ∀ a, (k0_off334 d0 arg14 v1153 v1168) a + S8x128.size a ≤ S17408x128.size a := fun d0 v18 arg14 arg15 v1153 v1168 v1183 k0_hw107 k0_h343 => k0_hw107.2.1 k0_h343
theorem k0_mult228_dvd : ∀ (d0 : Dev nD) (v18 : BitVec 32) (arg14 : BitVec 32) (arg15 : BitVec 32) (v1153 : BitVec 32) (v1168 : BitVec 32) (v1183 : BitVec 32) (k0_hw107 : k0_chk107 d0 v18 arg14 arg15 v1153 v1168 v1183), ∀ (k0_h344 : k0_cond344 d0 v1183 = 1#1), 8 ∣ (k0_mult228 d0 v18 arg15 v1153 v1168).toNat := fun d0 v18 arg14 arg15 v1153 v1168 v1183 k0_hw107 k0_h344 => k0_hw107.2.2.1 k0_h344
theorem k0_off335_inb : ∀ (d0 : Dev nD) (v18 : BitVec 32) (arg14 : BitVec 32) (arg15 : BitVec 32) (v1153 : BitVec 32) (v1168 : BitVec 32) (v1183 : BitVec 32) (k0_hw107 : k0_chk107 d0 v18 arg14 arg15 v1153 v1168 v1183), ∀ (k0_h344 : k0_cond344 d0 v1183 = 1#1), ∀ a, (k0_off335 d0 v18 arg15 v1153 v1168) a + S8x128.size a ≤ S16384x128.size a := fun d0 v18 arg14 arg15 v1153 v1168 v1183 k0_hw107 k0_h344 => k0_hw107.2.2.2 k0_h344

def k0_off336 (k0_t14 : Fin k0_t14_loop.trips) : Fin 2 → Nat :=
  let c13_755 : Index := 13#32
  let c0_i32_444 : BitVec 32 := 0#32
  let c1_i32_446 : BitVec 32 := 1#32
  let arg13 : BitVec 32 := Scf.iv c0_i32_444 c1_i32_446 k0_t14
  let c8_i32_753 : BitVec 32 := 8#32
  let v1195 : BitVec 32 := Scalar.muli arg13 c8_i32_753
  let c3_i32_754 : BitVec 32 := 3#32
  let v1196 : BitVec 32 := Scalar.addi v1195 c3_i32_754
  let v1197 : Index := Scalar.indexCast v1196
  ![13, v1197.toNat]
def k0_mult229 (d0 : Dev nD) (arg14 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  v1269
def k0_cond345 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let v1200 : BitVec 32 := Scalar.extui v1199
  let c0_i32_756 : BitVec 32 := 0#32
  let v1201 : BitVec 1 := Scalar.cmpi .ne v1200 c0_i32_756
  v1201

def k0_off337 (d0 : Dev nD) (arg14 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  let v1270 : BitVec 32 := v1269
  let v1271 : Index := Scalar.indexCast v1270
  let c0_789 : Index := 0#32
  ![v1271.toNat, 0]
def k0_mult230 (d0 : Dev nD) (v18 : BitVec 32) (arg15 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  v1270
def k0_cond346 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let true_757 : BitVec 1 := 1#1
  let v1202 : BitVec 1 := Scalar.xori v1199 true_757
  let v1203 : BitVec 32 := Scalar.extui v1202
  let c0_i32_758 : BitVec 32 := 0#32
  let v1204 : BitVec 1 := Scalar.cmpi .ne v1203 c0_i32_758
  v1204

def k0_off338 (d0 : Dev nD) (v18 : BitVec 32) (arg15 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk108 (d0 : Dev nD) (v18 : BitVec 32) (arg14 : BitVec 32) (arg15 : BitVec 32) (v1153 : BitVec 32) (v1168 : BitVec 32) (v1183 : BitVec 32) (v1198 : BitVec 32) : Prop :=
  (∀ (k0_h345 : k0_cond345 d0 v1198 = 1#1), 8 ∣ (k0_mult229 d0 arg14 v1153 v1168 v1183).toNat) ∧
  (∀ (k0_h345 : k0_cond345 d0 v1198 = 1#1), ∀ a, (k0_off337 d0 arg14 v1153 v1168 v1183) a + S8x128.size a ≤ S17408x128.size a) ∧
  (∀ (k0_h346 : k0_cond346 d0 v1198 = 1#1), 8 ∣ (k0_mult230 d0 v18 arg15 v1153 v1168 v1183).toNat) ∧
  (∀ (k0_h346 : k0_cond346 d0 v1198 = 1#1), ∀ a, (k0_off338 d0 v18 arg15 v1153 v1168 v1183) a + S8x128.size a ≤ S16384x128.size a)
theorem k0_mult229_dvd : ∀ (d0 : Dev nD) (v18 : BitVec 32) (arg14 : BitVec 32) (arg15 : BitVec 32) (v1153 : BitVec 32) (v1168 : BitVec 32) (v1183 : BitVec 32) (v1198 : BitVec 32) (k0_hw108 : k0_chk108 d0 v18 arg14 arg15 v1153 v1168 v1183 v1198), ∀ (k0_h345 : k0_cond345 d0 v1198 = 1#1), 8 ∣ (k0_mult229 d0 arg14 v1153 v1168 v1183).toNat := fun d0 v18 arg14 arg15 v1153 v1168 v1183 v1198 k0_hw108 k0_h345 => k0_hw108.1 k0_h345
theorem k0_off337_inb : ∀ (d0 : Dev nD) (v18 : BitVec 32) (arg14 : BitVec 32) (arg15 : BitVec 32) (v1153 : BitVec 32) (v1168 : BitVec 32) (v1183 : BitVec 32) (v1198 : BitVec 32) (k0_hw108 : k0_chk108 d0 v18 arg14 arg15 v1153 v1168 v1183 v1198), ∀ (k0_h345 : k0_cond345 d0 v1198 = 1#1), ∀ a, (k0_off337 d0 arg14 v1153 v1168 v1183) a + S8x128.size a ≤ S17408x128.size a := fun d0 v18 arg14 arg15 v1153 v1168 v1183 v1198 k0_hw108 k0_h345 => k0_hw108.2.1 k0_h345
theorem k0_mult230_dvd : ∀ (d0 : Dev nD) (v18 : BitVec 32) (arg14 : BitVec 32) (arg15 : BitVec 32) (v1153 : BitVec 32) (v1168 : BitVec 32) (v1183 : BitVec 32) (v1198 : BitVec 32) (k0_hw108 : k0_chk108 d0 v18 arg14 arg15 v1153 v1168 v1183 v1198), ∀ (k0_h346 : k0_cond346 d0 v1198 = 1#1), 8 ∣ (k0_mult230 d0 v18 arg15 v1153 v1168 v1183).toNat := fun d0 v18 arg14 arg15 v1153 v1168 v1183 v1198 k0_hw108 k0_h346 => k0_hw108.2.2.1 k0_h346
theorem k0_off338_inb : ∀ (d0 : Dev nD) (v18 : BitVec 32) (arg14 : BitVec 32) (arg15 : BitVec 32) (v1153 : BitVec 32) (v1168 : BitVec 32) (v1183 : BitVec 32) (v1198 : BitVec 32) (k0_hw108 : k0_chk108 d0 v18 arg14 arg15 v1153 v1168 v1183 v1198), ∀ (k0_h346 : k0_cond346 d0 v1198 = 1#1), ∀ a, (k0_off338 d0 v18 arg15 v1153 v1168 v1183) a + S8x128.size a ≤ S16384x128.size a := fun d0 v18 arg14 arg15 v1153 v1168 v1183 v1198 k0_hw108 k0_h346 => k0_hw108.2.2.2 k0_h346

def k0_off339 (k0_t14 : Fin k0_t14_loop.trips) : Fin 2 → Nat :=
  let c13_762 : Index := 13#32
  let c0_i32_444 : BitVec 32 := 0#32
  let c1_i32_446 : BitVec 32 := 1#32
  let arg13 : BitVec 32 := Scf.iv c0_i32_444 c1_i32_446 k0_t14
  let c8_i32_760 : BitVec 32 := 8#32
  let v1210 : BitVec 32 := Scalar.muli arg13 c8_i32_760
  let c4_i32_761 : BitVec 32 := 4#32
  let v1211 : BitVec 32 := Scalar.addi v1210 c4_i32_761
  let v1212 : Index := Scalar.indexCast v1211
  ![13, v1212.toNat]
def k0_mult231 (d0 : Dev nD) (arg14 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  v1269
def k0_cond347 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let v1215 : BitVec 32 := Scalar.extui v1214
  let c0_i32_763 : BitVec 32 := 0#32
  let v1216 : BitVec 1 := Scalar.cmpi .ne v1215 c0_i32_763
  v1216

def k0_off340 (d0 : Dev nD) (arg14 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  let v1270 : BitVec 32 := v1269
  let v1271 : Index := Scalar.indexCast v1270
  let c0_789 : Index := 0#32
  ![v1271.toNat, 0]
def k0_mult232 (d0 : Dev nD) (v18 : BitVec 32) (arg15 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  v1270
def k0_cond348 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let true_764 : BitVec 1 := 1#1
  let v1217 : BitVec 1 := Scalar.xori v1214 true_764
  let v1218 : BitVec 32 := Scalar.extui v1217
  let c0_i32_765 : BitVec 32 := 0#32
  let v1219 : BitVec 1 := Scalar.cmpi .ne v1218 c0_i32_765
  v1219

def k0_off341 (d0 : Dev nD) (v18 : BitVec 32) (arg15 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk109 (d0 : Dev nD) (v18 : BitVec 32) (arg14 : BitVec 32) (arg15 : BitVec 32) (v1153 : BitVec 32) (v1168 : BitVec 32) (v1183 : BitVec 32) (v1198 : BitVec 32) (v1213 : BitVec 32) : Prop :=
  (∀ (k0_h347 : k0_cond347 d0 v1213 = 1#1), 8 ∣ (k0_mult231 d0 arg14 v1153 v1168 v1183 v1198).toNat) ∧
  (∀ (k0_h347 : k0_cond347 d0 v1213 = 1#1), ∀ a, (k0_off340 d0 arg14 v1153 v1168 v1183 v1198) a + S8x128.size a ≤ S17408x128.size a) ∧
  (∀ (k0_h348 : k0_cond348 d0 v1213 = 1#1), 8 ∣ (k0_mult232 d0 v18 arg15 v1153 v1168 v1183 v1198).toNat) ∧
  (∀ (k0_h348 : k0_cond348 d0 v1213 = 1#1), ∀ a, (k0_off341 d0 v18 arg15 v1153 v1168 v1183 v1198) a + S8x128.size a ≤ S16384x128.size a)
theorem k0_mult231_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw109 : k0_chk109 d0 v18 arg14 arg15 v1153 v1168 v1183 v1198 v1213), ∀ (k0_h347 : k0_cond347 d0 v1213 = 1#1), 8 ∣ (k0_mult231 d0 arg14 v1153 v1168 v1183 v1198).toNat := fun d0 v18 arg14 arg15 v1153 v1168 v1183 v1198 v1213 k0_hw109 k0_h347 => k0_hw109.1 k0_h347
theorem k0_off340_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw109 : k0_chk109 d0 v18 arg14 arg15 v1153 v1168 v1183 v1198 v1213), ∀ (k0_h347 : k0_cond347 d0 v1213 = 1#1), ∀ a, (k0_off340 d0 arg14 v1153 v1168 v1183 v1198) a + S8x128.size a ≤ S17408x128.size a := fun d0 v18 arg14 arg15 v1153 v1168 v1183 v1198 v1213 k0_hw109 k0_h347 => k0_hw109.2.1 k0_h347
theorem k0_mult232_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw109 : k0_chk109 d0 v18 arg14 arg15 v1153 v1168 v1183 v1198 v1213), ∀ (k0_h348 : k0_cond348 d0 v1213 = 1#1), 8 ∣ (k0_mult232 d0 v18 arg15 v1153 v1168 v1183 v1198).toNat := fun d0 v18 arg14 arg15 v1153 v1168 v1183 v1198 v1213 k0_hw109 k0_h348 => k0_hw109.2.2.1 k0_h348
theorem k0_off341_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw109 : k0_chk109 d0 v18 arg14 arg15 v1153 v1168 v1183 v1198 v1213), ∀ (k0_h348 : k0_cond348 d0 v1213 = 1#1), ∀ a, (k0_off341 d0 v18 arg15 v1153 v1168 v1183 v1198) a + S8x128.size a ≤ S16384x128.size a := fun d0 v18 arg14 arg15 v1153 v1168 v1183 v1198 v1213 k0_hw109 k0_h348 => k0_hw109.2.2.2 k0_h348

def k0_off342 (k0_t14 : Fin k0_t14_loop.trips) : Fin 2 → Nat :=
  let c13_769 : Index := 13#32
  let c0_i32_444 : BitVec 32 := 0#32
  let c1_i32_446 : BitVec 32 := 1#32
  let arg13 : BitVec 32 := Scf.iv c0_i32_444 c1_i32_446 k0_t14
  let c8_i32_767 : BitVec 32 := 8#32
  let v1225 : BitVec 32 := Scalar.muli arg13 c8_i32_767
  let c5_i32_768 : BitVec 32 := 5#32
  let v1226 : BitVec 32 := Scalar.addi v1225 c5_i32_768
  let v1227 : Index := Scalar.indexCast v1226
  ![13, v1227.toNat]
def k0_mult233 (d0 : Dev nD) (arg14 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  v1269
def k0_cond349 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let v1230 : BitVec 32 := Scalar.extui v1229
  let c0_i32_770 : BitVec 32 := 0#32
  let v1231 : BitVec 1 := Scalar.cmpi .ne v1230 c0_i32_770
  v1231

def k0_off343 (d0 : Dev nD) (arg14 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  let v1270 : BitVec 32 := v1269
  let v1271 : Index := Scalar.indexCast v1270
  let c0_789 : Index := 0#32
  ![v1271.toNat, 0]
def k0_mult234 (d0 : Dev nD) (v18 : BitVec 32) (arg15 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  v1270
def k0_cond350 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let true_771 : BitVec 1 := 1#1
  let v1232 : BitVec 1 := Scalar.xori v1229 true_771
  let v1233 : BitVec 32 := Scalar.extui v1232
  let c0_i32_772 : BitVec 32 := 0#32
  let v1234 : BitVec 1 := Scalar.cmpi .ne v1233 c0_i32_772
  v1234

def k0_off344 (d0 : Dev nD) (v18 : BitVec 32) (arg15 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk110 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) : Prop :=
  (∀ (k0_h349 : k0_cond349 d0 v1228 = 1#1), 8 ∣ (k0_mult233 d0 arg14 v1153 v1168 v1183 v1198 v1213).toNat) ∧
  (∀ (k0_h349 : k0_cond349 d0 v1228 = 1#1), ∀ a, (k0_off343 d0 arg14 v1153 v1168 v1183 v1198 v1213) a + S8x128.size a ≤ S17408x128.size a) ∧
  (∀ (k0_h350 : k0_cond350 d0 v1228 = 1#1), 8 ∣ (k0_mult234 d0 v18 arg15 v1153 v1168 v1183 v1198 v1213).toNat) ∧
  (∀ (k0_h350 : k0_cond350 d0 v1228 = 1#1), ∀ a, (k0_off344 d0 v18 arg15 v1153 v1168 v1183 v1198 v1213) a + S8x128.size a ≤ S16384x128.size a)
theorem k0_mult233_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw110 : k0_chk110 d0 v18 arg14 arg15 v1153 v1168 v1183 v1198 v1213 v1228), ∀ (k0_h349 : k0_cond349 d0 v1228 = 1#1), 8 ∣ (k0_mult233 d0 arg14 v1153 v1168 v1183 v1198 v1213).toNat := fun d0 v18 arg14 arg15 v1153 v1168 v1183 v1198 v1213 v1228 k0_hw110 k0_h349 => k0_hw110.1 k0_h349
theorem k0_off343_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw110 : k0_chk110 d0 v18 arg14 arg15 v1153 v1168 v1183 v1198 v1213 v1228), ∀ (k0_h349 : k0_cond349 d0 v1228 = 1#1), ∀ a, (k0_off343 d0 arg14 v1153 v1168 v1183 v1198 v1213) a + S8x128.size a ≤ S17408x128.size a := fun d0 v18 arg14 arg15 v1153 v1168 v1183 v1198 v1213 v1228 k0_hw110 k0_h349 => k0_hw110.2.1 k0_h349
theorem k0_mult234_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw110 : k0_chk110 d0 v18 arg14 arg15 v1153 v1168 v1183 v1198 v1213 v1228), ∀ (k0_h350 : k0_cond350 d0 v1228 = 1#1), 8 ∣ (k0_mult234 d0 v18 arg15 v1153 v1168 v1183 v1198 v1213).toNat := fun d0 v18 arg14 arg15 v1153 v1168 v1183 v1198 v1213 v1228 k0_hw110 k0_h350 => k0_hw110.2.2.1 k0_h350
theorem k0_off344_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw110 : k0_chk110 d0 v18 arg14 arg15 v1153 v1168 v1183 v1198 v1213 v1228), ∀ (k0_h350 : k0_cond350 d0 v1228 = 1#1), ∀ a, (k0_off344 d0 v18 arg15 v1153 v1168 v1183 v1198 v1213) a + S8x128.size a ≤ S16384x128.size a := fun d0 v18 arg14 arg15 v1153 v1168 v1183 v1198 v1213 v1228 k0_hw110 k0_h350 => k0_hw110.2.2.2 k0_h350

def k0_off345 (k0_t14 : Fin k0_t14_loop.trips) : Fin 2 → Nat :=
  let c13_776 : Index := 13#32
  let c0_i32_444 : BitVec 32 := 0#32
  let c1_i32_446 : BitVec 32 := 1#32
  let arg13 : BitVec 32 := Scf.iv c0_i32_444 c1_i32_446 k0_t14
  let c8_i32_774 : BitVec 32 := 8#32
  let v1240 : BitVec 32 := Scalar.muli arg13 c8_i32_774
  let c6_i32_775 : BitVec 32 := 6#32
  let v1241 : BitVec 32 := Scalar.addi v1240 c6_i32_775
  let v1242 : Index := Scalar.indexCast v1241
  ![13, v1242.toNat]
def k0_mult235 (d0 : Dev nD) (arg14 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  v1269
def k0_cond351 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let v1245 : BitVec 32 := Scalar.extui v1244
  let c0_i32_777 : BitVec 32 := 0#32
  let v1246 : BitVec 1 := Scalar.cmpi .ne v1245 c0_i32_777
  v1246

def k0_off346 (d0 : Dev nD) (arg14 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  let v1270 : BitVec 32 := v1269
  let v1271 : Index := Scalar.indexCast v1270
  let c0_789 : Index := 0#32
  ![v1271.toNat, 0]
def k0_mult236 (d0 : Dev nD) (v18 : BitVec 32) (arg15 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  v1270
def k0_cond352 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let true_778 : BitVec 1 := 1#1
  let v1247 : BitVec 1 := Scalar.xori v1244 true_778
  let v1248 : BitVec 32 := Scalar.extui v1247
  let c0_i32_779 : BitVec 32 := 0#32
  let v1249 : BitVec 1 := Scalar.cmpi .ne v1248 c0_i32_779
  v1249

def k0_off347 (d0 : Dev nD) (v18 : BitVec 32) (arg15 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk111 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) : Prop :=
  (∀ (k0_h351 : k0_cond351 d0 v1243 = 1#1), 8 ∣ (k0_mult235 d0 arg14 v1153 v1168 v1183 v1198 v1213 v1228).toNat) ∧
  (∀ (k0_h351 : k0_cond351 d0 v1243 = 1#1), ∀ a, (k0_off346 d0 arg14 v1153 v1168 v1183 v1198 v1213 v1228) a + S8x128.size a ≤ S17408x128.size a) ∧
  (∀ (k0_h352 : k0_cond352 d0 v1243 = 1#1), 8 ∣ (k0_mult236 d0 v18 arg15 v1153 v1168 v1183 v1198 v1213 v1228).toNat) ∧
  (∀ (k0_h352 : k0_cond352 d0 v1243 = 1#1), ∀ a, (k0_off347 d0 v18 arg15 v1153 v1168 v1183 v1198 v1213 v1228) a + S8x128.size a ≤ S16384x128.size a)
theorem k0_mult235_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw111 : k0_chk111 d0 v18 arg14 arg15 v1153 v1168 v1183 v1198 v1213 v1228 v1243), ∀ (k0_h351 : k0_cond351 d0 v1243 = 1#1), 8 ∣ (k0_mult235 d0 arg14 v1153 v1168 v1183 v1198 v1213 v1228).toNat := fun d0 v18 arg14 arg15 v1153 v1168 v1183 v1198 v1213 v1228 v1243 k0_hw111 k0_h351 => k0_hw111.1 k0_h351
theorem k0_off346_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw111 : k0_chk111 d0 v18 arg14 arg15 v1153 v1168 v1183 v1198 v1213 v1228 v1243), ∀ (k0_h351 : k0_cond351 d0 v1243 = 1#1), ∀ a, (k0_off346 d0 arg14 v1153 v1168 v1183 v1198 v1213 v1228) a + S8x128.size a ≤ S17408x128.size a := fun d0 v18 arg14 arg15 v1153 v1168 v1183 v1198 v1213 v1228 v1243 k0_hw111 k0_h351 => k0_hw111.2.1 k0_h351
theorem k0_mult236_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw111 : k0_chk111 d0 v18 arg14 arg15 v1153 v1168 v1183 v1198 v1213 v1228 v1243), ∀ (k0_h352 : k0_cond352 d0 v1243 = 1#1), 8 ∣ (k0_mult236 d0 v18 arg15 v1153 v1168 v1183 v1198 v1213 v1228).toNat := fun d0 v18 arg14 arg15 v1153 v1168 v1183 v1198 v1213 v1228 v1243 k0_hw111 k0_h352 => k0_hw111.2.2.1 k0_h352
theorem k0_off347_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw111 : k0_chk111 d0 v18 arg14 arg15 v1153 v1168 v1183 v1198 v1213 v1228 v1243), ∀ (k0_h352 : k0_cond352 d0 v1243 = 1#1), ∀ a, (k0_off347 d0 v18 arg15 v1153 v1168 v1183 v1198 v1213 v1228) a + S8x128.size a ≤ S16384x128.size a := fun d0 v18 arg14 arg15 v1153 v1168 v1183 v1198 v1213 v1228 v1243 k0_hw111 k0_h352 => k0_hw111.2.2.2 k0_h352

def k0_off348 (k0_t14 : Fin k0_t14_loop.trips) : Fin 2 → Nat :=
  let c13_783 : Index := 13#32
  let c0_i32_444 : BitVec 32 := 0#32
  let c1_i32_446 : BitVec 32 := 1#32
  let arg13 : BitVec 32 := Scf.iv c0_i32_444 c1_i32_446 k0_t14
  let c8_i32_781 : BitVec 32 := 8#32
  let v1255 : BitVec 32 := Scalar.muli arg13 c8_i32_781
  let c7_i32_782 : BitVec 32 := 7#32
  let v1256 : BitVec 32 := Scalar.addi v1255 c7_i32_782
  let v1257 : Index := Scalar.indexCast v1256
  ![13, v1257.toNat]
def k0_mult237 (d0 : Dev nD) (arg14 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  v1269
def k0_cond353 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let v1260 : BitVec 32 := Scalar.extui v1259
  let c0_i32_784 : BitVec 32 := 0#32
  let v1261 : BitVec 1 := Scalar.cmpi .ne v1260 c0_i32_784
  v1261

def k0_off349 (d0 : Dev nD) (arg14 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  let v1270 : BitVec 32 := v1269
  let v1271 : Index := Scalar.indexCast v1270
  let c0_789 : Index := 0#32
  ![v1271.toNat, 0]
def k0_mult238 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  v1270
def k0_cond354 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let true_785 : BitVec 1 := 1#1
  let v1262 : BitVec 1 := Scalar.xori v1259 true_785
  let v1263 : BitVec 32 := Scalar.extui v1262
  let c0_i32_786 : BitVec 32 := 0#32
  let v1264 : BitVec 1 := Scalar.cmpi .ne v1263 c0_i32_786
  v1264

def k0_off350 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk112 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) : Prop :=
  (∀ (k0_h353 : k0_cond353 d0 v1258 = 1#1), 8 ∣ (k0_mult237 d0 arg14 v1153 v1168 v1183 v1198 v1213 v1228 v1243).toNat) ∧
  (∀ (k0_h353 : k0_cond353 d0 v1258 = 1#1), ∀ a, (k0_off349 d0 arg14 v1153 v1168 v1183 v1198 v1213 v1228 v1243) a + S8x128.size a ≤ S17408x128.size a) ∧
  (∀ (k0_h354 : k0_cond354 d0 v1258 = 1#1), 8 ∣ (k0_mult238 d0 v18 arg15 v1153 v1168 v1183 v1198 v1213 v1228 v1243).toNat) ∧
  (∀ (k0_h354 : k0_cond354 d0 v1258 = 1#1), ∀ a, (k0_off350 d0 v18 arg15 v1153 v1168 v1183 v1198 v1213 v1228 v1243) a + S8x128.size a ≤ S16384x128.size a)
theorem k0_mult237_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw112 : k0_chk112 d0 v18 arg14 arg15 v1153 v1168 v1183 v1198 v1213 v1228 v1243 v1258), ∀ (k0_h353 : k0_cond353 d0 v1258 = 1#1), 8 ∣ (k0_mult237 d0 arg14 v1153 v1168 v1183 v1198 v1213 v1228 v1243).toNat := fun d0 v18 arg14 arg15 v1153 v1168 v1183 v1198 v1213 v1228 v1243 v1258 k0_hw112 k0_h353 => k0_hw112.1 k0_h353
theorem k0_off349_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw112 : k0_chk112 d0 v18 arg14 arg15 v1153 v1168 v1183 v1198 v1213 v1228 v1243 v1258), ∀ (k0_h353 : k0_cond353 d0 v1258 = 1#1), ∀ a, (k0_off349 d0 arg14 v1153 v1168 v1183 v1198 v1213 v1228 v1243) a + S8x128.size a ≤ S17408x128.size a := fun d0 v18 arg14 arg15 v1153 v1168 v1183 v1198 v1213 v1228 v1243 v1258 k0_hw112 k0_h353 => k0_hw112.2.1 k0_h353
theorem k0_mult238_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw112 : k0_chk112 d0 v18 arg14 arg15 v1153 v1168 v1183 v1198 v1213 v1228 v1243 v1258), ∀ (k0_h354 : k0_cond354 d0 v1258 = 1#1), 8 ∣ (k0_mult238 d0 v18 arg15 v1153 v1168 v1183 v1198 v1213 v1228 v1243).toNat := fun d0 v18 arg14 arg15 v1153 v1168 v1183 v1198 v1213 v1228 v1243 v1258 k0_hw112 k0_h354 => k0_hw112.2.2.1 k0_h354
theorem k0_off350_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw112 : k0_chk112 d0 v18 arg14 arg15 v1153 v1168 v1183 v1198 v1213 v1228 v1243 v1258), ∀ (k0_h354 : k0_cond354 d0 v1258 = 1#1), ∀ a, (k0_off350 d0 v18 arg15 v1153 v1168 v1183 v1198 v1213 v1228 v1243) a + S8x128.size a ≤ S16384x128.size a := fun d0 v18 arg14 arg15 v1153 v1168 v1183 v1198 v1213 v1228 v1243 v1258 k0_hw112 k0_h354 => k0_hw112.2.2.2 k0_h354

def k0_dev132 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1147 : BitVec 32 := Scalar.muli v9 c16_i32_736
  let v1148 : BitVec 32 := Scalar.addi c0_i32_737 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1149 : BitVec 32 := Scalar.muli v5 c4_i32_738
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1151 : BitVec 32 := Scalar.muli v8 c1_i32_739
  let v1152 : BitVec 32 := Scalar.addi v1150 v1151
  v1152.toNat
def k0_dev133 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev134 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev135 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev136 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev137 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev138 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev139 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev140 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev141 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev142 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev143 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev144 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev145 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev146 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev147 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev148 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
@[reducible] def k0_t15_loop : Scf.Loop 32 :=
  let c0_i32_498 : BitVec 32 := 0#32
  let c16_i32_499 : BitVec 32 := 16#32
  let v799 : BitVec 32 := Scalar.addi c0_i32_498 c16_i32_499
  let c1_i32_500 : BitVec 32 := 1#32
  ⟨c0_i32_498, v799, c1_i32_500⟩
def k0_mult239 (k0_t15 : Fin k0_t15_loop.trips) : BitVec 32 :=
  let c1792_i32_731 : BitVec 32 := 1792#32
  let c0_i32_498 : BitVec 32 := 0#32
  let c1_i32_500 : BitVec 32 := 1#32
  let arg13 : BitVec 32 := Scf.iv c0_i32_498 c1_i32_500 k0_t15
  let c8_i32_730 : BitVec 32 := 8#32
  let v1142 : BitVec 32 := Scalar.muli arg13 c8_i32_730
  let v1143 : BitVec 32 := Scalar.addi c1792_i32_731 v1142
  v1143
def k0_off351 (k0_t15 : Fin k0_t15_loop.trips) : Fin 2 → Nat :=
  let c1792_i32_731 : BitVec 32 := 1792#32
  let c0_i32_498 : BitVec 32 := 0#32
  let c1_i32_500 : BitVec 32 := 1#32
  let arg13 : BitVec 32 := Scf.iv c0_i32_498 c1_i32_500 k0_t15
  let c8_i32_730 : BitVec 32 := 8#32
  let v1142 : BitVec 32 := Scalar.muli arg13 c8_i32_730
  let v1143 : BitVec 32 := Scalar.addi c1792_i32_731 v1142
  let v1144 : BitVec 32 := v1143
  let v1145 : Index := Scalar.indexCast v1144
  let c0_732 : Index := 0#32
  ![v1145.toNat, 0]
def k0_off352 (k0_t15 : Fin k0_t15_loop.trips) : Fin 2 → Nat :=
  let c14 : Index := 14#32
  let c0_i32_498 : BitVec 32 := 0#32
  let c1_i32_500 : BitVec 32 := 1#32
  let arg13 : BitVec 32 := Scf.iv c0_i32_498 c1_i32_500 k0_t15
  let c8_i32_733 : BitVec 32 := 8#32
  let v1150 : BitVec 32 := Scalar.muli arg13 c8_i32_733
  let c0_i32_734 : BitVec 32 := 0#32
  let v1151 : BitVec 32 := Scalar.addi v1150 c0_i32_734
  let v1152 : Index := Scalar.indexCast v1151
  ![14, v1152.toNat]
def k0_mult240 (arg14 : BitVec 32) : BitVec 32 :=
  let c8_i32_788 : BitVec 32 := 8#32
  let v1269 : BitVec 32 := Scalar.muli arg14 c8_i32_788
  v1269
def k0_cond372 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1155 : BitVec 32 := Scalar.extui v1154
  let c0_i32_735 : BitVec 32 := 0#32
  let v1156 : BitVec 1 := Scalar.cmpi .ne v1155 c0_i32_735
  v1156

def k0_off353 (arg14 : BitVec 32) : Fin 2 → Nat :=
  let c8_i32_788 : BitVec 32 := 8#32
  let v1269 : BitVec 32 := Scalar.muli arg14 c8_i32_788
  let v1270 : BitVec 32 := v1269
  let v1271 : Index := Scalar.indexCast v1270
  let c0_789 : Index := 0#32
  ![v1271.toNat, 0]
def k0_mult241 (d0 : Dev nD) (v18 : BitVec 32) (arg15 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  v1270
def k0_cond373 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let true_736 : BitVec 1 := 1#1
  let v1157 : BitVec 1 := Scalar.xori v1154 true_736
  let v1158 : BitVec 32 := Scalar.extui v1157
  let c0_i32_737 : BitVec 32 := 0#32
  let v1159 : BitVec 1 := Scalar.cmpi .ne v1158 c0_i32_737
  v1159

def k0_off354 (d0 : Dev nD) (v18 : BitVec 32) (arg15 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk113 (d0 : Dev nD) (v18 : BitVec 32) (arg14 : BitVec 32) (arg15 : BitVec 32) (v1153 : BitVec 32) : Prop :=
  (∀ (k0_h372 : k0_cond372 d0 v1153 = 1#1), 8 ∣ (k0_mult240 arg14).toNat) ∧
  (∀ (k0_h372 : k0_cond372 d0 v1153 = 1#1), ∀ a, (k0_off353 arg14) a + S8x128.size a ≤ S17408x128.size a) ∧
  (∀ (k0_h373 : k0_cond373 d0 v1153 = 1#1), 8 ∣ (k0_mult241 d0 v18 arg15).toNat) ∧
  (∀ (k0_h373 : k0_cond373 d0 v1153 = 1#1), ∀ a, (k0_off354 d0 v18 arg15) a + S8x128.size a ≤ S16384x128.size a)
theorem k0_mult240_dvd : ∀ (d0 : Dev nD) (v18 : BitVec 32) (arg14 : BitVec 32) (arg15 : BitVec 32) (v1153 : BitVec 32) (k0_hw113 : k0_chk113 d0 v18 arg14 arg15 v1153), ∀ (k0_h372 : k0_cond372 d0 v1153 = 1#1), 8 ∣ (k0_mult240 arg14).toNat := fun d0 v18 arg14 arg15 v1153 k0_hw113 k0_h372 => k0_hw113.1 k0_h372
theorem k0_off353_inb : ∀ (d0 : Dev nD) (v18 : BitVec 32) (arg14 : BitVec 32) (arg15 : BitVec 32) (v1153 : BitVec 32) (k0_hw113 : k0_chk113 d0 v18 arg14 arg15 v1153), ∀ (k0_h372 : k0_cond372 d0 v1153 = 1#1), ∀ a, (k0_off353 arg14) a + S8x128.size a ≤ S17408x128.size a := fun d0 v18 arg14 arg15 v1153 k0_hw113 k0_h372 => k0_hw113.2.1 k0_h372
theorem k0_mult241_dvd : ∀ (d0 : Dev nD) (v18 : BitVec 32) (arg14 : BitVec 32) (arg15 : BitVec 32) (v1153 : BitVec 32) (k0_hw113 : k0_chk113 d0 v18 arg14 arg15 v1153), ∀ (k0_h373 : k0_cond373 d0 v1153 = 1#1), 8 ∣ (k0_mult241 d0 v18 arg15).toNat := fun d0 v18 arg14 arg15 v1153 k0_hw113 k0_h373 => k0_hw113.2.2.1 k0_h373
theorem k0_off354_inb : ∀ (d0 : Dev nD) (v18 : BitVec 32) (arg14 : BitVec 32) (arg15 : BitVec 32) (v1153 : BitVec 32) (k0_hw113 : k0_chk113 d0 v18 arg14 arg15 v1153), ∀ (k0_h373 : k0_cond373 d0 v1153 = 1#1), ∀ a, (k0_off354 d0 v18 arg15) a + S8x128.size a ≤ S16384x128.size a := fun d0 v18 arg14 arg15 v1153 k0_hw113 k0_h373 => k0_hw113.2.2.2 k0_h373

def k0_off355 (k0_t15 : Fin k0_t15_loop.trips) : Fin 2 → Nat :=
  let c14_741 : Index := 14#32
  let c0_i32_498 : BitVec 32 := 0#32
  let c1_i32_500 : BitVec 32 := 1#32
  let arg13 : BitVec 32 := Scf.iv c0_i32_498 c1_i32_500 k0_t15
  let c8_i32_739 : BitVec 32 := 8#32
  let v1165 : BitVec 32 := Scalar.muli arg13 c8_i32_739
  let c1_i32_740 : BitVec 32 := 1#32
  let v1166 : BitVec 32 := Scalar.addi v1165 c1_i32_740
  let v1167 : Index := Scalar.indexCast v1166
  ![14, v1167.toNat]
def k0_mult242 (d0 : Dev nD) (arg14 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  v1269
def k0_cond374 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let v1170 : BitVec 32 := Scalar.extui v1169
  let c0_i32_742 : BitVec 32 := 0#32
  let v1171 : BitVec 1 := Scalar.cmpi .ne v1170 c0_i32_742
  v1171

def k0_off356 (d0 : Dev nD) (arg14 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  let v1270 : BitVec 32 := v1269
  let v1271 : Index := Scalar.indexCast v1270
  let c0_789 : Index := 0#32
  ![v1271.toNat, 0]
def k0_mult243 (d0 : Dev nD) (v18 : BitVec 32) (arg15 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  v1270
def k0_cond375 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let true_743 : BitVec 1 := 1#1
  let v1172 : BitVec 1 := Scalar.xori v1169 true_743
  let v1173 : BitVec 32 := Scalar.extui v1172
  let c0_i32_744 : BitVec 32 := 0#32
  let v1174 : BitVec 1 := Scalar.cmpi .ne v1173 c0_i32_744
  v1174

def k0_off357 (d0 : Dev nD) (v18 : BitVec 32) (arg15 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk114 (d0 : Dev nD) (v18 : BitVec 32) (arg14 : BitVec 32) (arg15 : BitVec 32) (v1153 : BitVec 32) (v1168 : BitVec 32) : Prop :=
  (∀ (k0_h374 : k0_cond374 d0 v1168 = 1#1), 8 ∣ (k0_mult242 d0 arg14 v1153).toNat) ∧
  (∀ (k0_h374 : k0_cond374 d0 v1168 = 1#1), ∀ a, (k0_off356 d0 arg14 v1153) a + S8x128.size a ≤ S17408x128.size a) ∧
  (∀ (k0_h375 : k0_cond375 d0 v1168 = 1#1), 8 ∣ (k0_mult243 d0 v18 arg15 v1153).toNat) ∧
  (∀ (k0_h375 : k0_cond375 d0 v1168 = 1#1), ∀ a, (k0_off357 d0 v18 arg15 v1153) a + S8x128.size a ≤ S16384x128.size a)
theorem k0_mult242_dvd : ∀ (d0 : Dev nD) (v18 : BitVec 32) (arg14 : BitVec 32) (arg15 : BitVec 32) (v1153 : BitVec 32) (v1168 : BitVec 32) (k0_hw114 : k0_chk114 d0 v18 arg14 arg15 v1153 v1168), ∀ (k0_h374 : k0_cond374 d0 v1168 = 1#1), 8 ∣ (k0_mult242 d0 arg14 v1153).toNat := fun d0 v18 arg14 arg15 v1153 v1168 k0_hw114 k0_h374 => k0_hw114.1 k0_h374
theorem k0_off356_inb : ∀ (d0 : Dev nD) (v18 : BitVec 32) (arg14 : BitVec 32) (arg15 : BitVec 32) (v1153 : BitVec 32) (v1168 : BitVec 32) (k0_hw114 : k0_chk114 d0 v18 arg14 arg15 v1153 v1168), ∀ (k0_h374 : k0_cond374 d0 v1168 = 1#1), ∀ a, (k0_off356 d0 arg14 v1153) a + S8x128.size a ≤ S17408x128.size a := fun d0 v18 arg14 arg15 v1153 v1168 k0_hw114 k0_h374 => k0_hw114.2.1 k0_h374
theorem k0_mult243_dvd : ∀ (d0 : Dev nD) (v18 : BitVec 32) (arg14 : BitVec 32) (arg15 : BitVec 32) (v1153 : BitVec 32) (v1168 : BitVec 32) (k0_hw114 : k0_chk114 d0 v18 arg14 arg15 v1153 v1168), ∀ (k0_h375 : k0_cond375 d0 v1168 = 1#1), 8 ∣ (k0_mult243 d0 v18 arg15 v1153).toNat := fun d0 v18 arg14 arg15 v1153 v1168 k0_hw114 k0_h375 => k0_hw114.2.2.1 k0_h375
theorem k0_off357_inb : ∀ (d0 : Dev nD) (v18 : BitVec 32) (arg14 : BitVec 32) (arg15 : BitVec 32) (v1153 : BitVec 32) (v1168 : BitVec 32) (k0_hw114 : k0_chk114 d0 v18 arg14 arg15 v1153 v1168), ∀ (k0_h375 : k0_cond375 d0 v1168 = 1#1), ∀ a, (k0_off357 d0 v18 arg15 v1153) a + S8x128.size a ≤ S16384x128.size a := fun d0 v18 arg14 arg15 v1153 v1168 k0_hw114 k0_h375 => k0_hw114.2.2.2 k0_h375

def k0_off358 (k0_t15 : Fin k0_t15_loop.trips) : Fin 2 → Nat :=
  let c14_748 : Index := 14#32
  let c0_i32_498 : BitVec 32 := 0#32
  let c1_i32_500 : BitVec 32 := 1#32
  let arg13 : BitVec 32 := Scf.iv c0_i32_498 c1_i32_500 k0_t15
  let c8_i32_746 : BitVec 32 := 8#32
  let v1180 : BitVec 32 := Scalar.muli arg13 c8_i32_746
  let c2_i32_747 : BitVec 32 := 2#32
  let v1181 : BitVec 32 := Scalar.addi v1180 c2_i32_747
  let v1182 : Index := Scalar.indexCast v1181
  ![14, v1182.toNat]
def k0_mult244 (d0 : Dev nD) (arg14 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  v1269
def k0_cond376 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let v1185 : BitVec 32 := Scalar.extui v1184
  let c0_i32_749 : BitVec 32 := 0#32
  let v1186 : BitVec 1 := Scalar.cmpi .ne v1185 c0_i32_749
  v1186

def k0_off359 (d0 : Dev nD) (arg14 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  let v1270 : BitVec 32 := v1269
  let v1271 : Index := Scalar.indexCast v1270
  let c0_789 : Index := 0#32
  ![v1271.toNat, 0]
def k0_mult245 (d0 : Dev nD) (v18 : BitVec 32) (arg15 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  v1270
def k0_cond377 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let true_750 : BitVec 1 := 1#1
  let v1187 : BitVec 1 := Scalar.xori v1184 true_750
  let v1188 : BitVec 32 := Scalar.extui v1187
  let c0_i32_751 : BitVec 32 := 0#32
  let v1189 : BitVec 1 := Scalar.cmpi .ne v1188 c0_i32_751
  v1189

def k0_off360 (d0 : Dev nD) (v18 : BitVec 32) (arg15 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk115 (d0 : Dev nD) (v18 : BitVec 32) (arg14 : BitVec 32) (arg15 : BitVec 32) (v1153 : BitVec 32) (v1168 : BitVec 32) (v1183 : BitVec 32) : Prop :=
  (∀ (k0_h376 : k0_cond376 d0 v1183 = 1#1), 8 ∣ (k0_mult244 d0 arg14 v1153 v1168).toNat) ∧
  (∀ (k0_h376 : k0_cond376 d0 v1183 = 1#1), ∀ a, (k0_off359 d0 arg14 v1153 v1168) a + S8x128.size a ≤ S17408x128.size a) ∧
  (∀ (k0_h377 : k0_cond377 d0 v1183 = 1#1), 8 ∣ (k0_mult245 d0 v18 arg15 v1153 v1168).toNat) ∧
  (∀ (k0_h377 : k0_cond377 d0 v1183 = 1#1), ∀ a, (k0_off360 d0 v18 arg15 v1153 v1168) a + S8x128.size a ≤ S16384x128.size a)
theorem k0_mult244_dvd : ∀ (d0 : Dev nD) (v18 : BitVec 32) (arg14 : BitVec 32) (arg15 : BitVec 32) (v1153 : BitVec 32) (v1168 : BitVec 32) (v1183 : BitVec 32) (k0_hw115 : k0_chk115 d0 v18 arg14 arg15 v1153 v1168 v1183), ∀ (k0_h376 : k0_cond376 d0 v1183 = 1#1), 8 ∣ (k0_mult244 d0 arg14 v1153 v1168).toNat := fun d0 v18 arg14 arg15 v1153 v1168 v1183 k0_hw115 k0_h376 => k0_hw115.1 k0_h376
theorem k0_off359_inb : ∀ (d0 : Dev nD) (v18 : BitVec 32) (arg14 : BitVec 32) (arg15 : BitVec 32) (v1153 : BitVec 32) (v1168 : BitVec 32) (v1183 : BitVec 32) (k0_hw115 : k0_chk115 d0 v18 arg14 arg15 v1153 v1168 v1183), ∀ (k0_h376 : k0_cond376 d0 v1183 = 1#1), ∀ a, (k0_off359 d0 arg14 v1153 v1168) a + S8x128.size a ≤ S17408x128.size a := fun d0 v18 arg14 arg15 v1153 v1168 v1183 k0_hw115 k0_h376 => k0_hw115.2.1 k0_h376
theorem k0_mult245_dvd : ∀ (d0 : Dev nD) (v18 : BitVec 32) (arg14 : BitVec 32) (arg15 : BitVec 32) (v1153 : BitVec 32) (v1168 : BitVec 32) (v1183 : BitVec 32) (k0_hw115 : k0_chk115 d0 v18 arg14 arg15 v1153 v1168 v1183), ∀ (k0_h377 : k0_cond377 d0 v1183 = 1#1), 8 ∣ (k0_mult245 d0 v18 arg15 v1153 v1168).toNat := fun d0 v18 arg14 arg15 v1153 v1168 v1183 k0_hw115 k0_h377 => k0_hw115.2.2.1 k0_h377
theorem k0_off360_inb : ∀ (d0 : Dev nD) (v18 : BitVec 32) (arg14 : BitVec 32) (arg15 : BitVec 32) (v1153 : BitVec 32) (v1168 : BitVec 32) (v1183 : BitVec 32) (k0_hw115 : k0_chk115 d0 v18 arg14 arg15 v1153 v1168 v1183), ∀ (k0_h377 : k0_cond377 d0 v1183 = 1#1), ∀ a, (k0_off360 d0 v18 arg15 v1153 v1168) a + S8x128.size a ≤ S16384x128.size a := fun d0 v18 arg14 arg15 v1153 v1168 v1183 k0_hw115 k0_h377 => k0_hw115.2.2.2 k0_h377

def k0_off361 (k0_t15 : Fin k0_t15_loop.trips) : Fin 2 → Nat :=
  let c14_755 : Index := 14#32
  let c0_i32_498 : BitVec 32 := 0#32
  let c1_i32_500 : BitVec 32 := 1#32
  let arg13 : BitVec 32 := Scf.iv c0_i32_498 c1_i32_500 k0_t15
  let c8_i32_753 : BitVec 32 := 8#32
  let v1195 : BitVec 32 := Scalar.muli arg13 c8_i32_753
  let c3_i32_754 : BitVec 32 := 3#32
  let v1196 : BitVec 32 := Scalar.addi v1195 c3_i32_754
  let v1197 : Index := Scalar.indexCast v1196
  ![14, v1197.toNat]
def k0_mult246 (d0 : Dev nD) (arg14 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  v1269
def k0_cond378 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let v1200 : BitVec 32 := Scalar.extui v1199
  let c0_i32_756 : BitVec 32 := 0#32
  let v1201 : BitVec 1 := Scalar.cmpi .ne v1200 c0_i32_756
  v1201

def k0_off362 (d0 : Dev nD) (arg14 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  let v1270 : BitVec 32 := v1269
  let v1271 : Index := Scalar.indexCast v1270
  let c0_789 : Index := 0#32
  ![v1271.toNat, 0]
def k0_mult247 (d0 : Dev nD) (v18 : BitVec 32) (arg15 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  v1270
def k0_cond379 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let true_757 : BitVec 1 := 1#1
  let v1202 : BitVec 1 := Scalar.xori v1199 true_757
  let v1203 : BitVec 32 := Scalar.extui v1202
  let c0_i32_758 : BitVec 32 := 0#32
  let v1204 : BitVec 1 := Scalar.cmpi .ne v1203 c0_i32_758
  v1204

def k0_off363 (d0 : Dev nD) (v18 : BitVec 32) (arg15 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk116 (d0 : Dev nD) (v18 : BitVec 32) (arg14 : BitVec 32) (arg15 : BitVec 32) (v1153 : BitVec 32) (v1168 : BitVec 32) (v1183 : BitVec 32) (v1198 : BitVec 32) : Prop :=
  (∀ (k0_h378 : k0_cond378 d0 v1198 = 1#1), 8 ∣ (k0_mult246 d0 arg14 v1153 v1168 v1183).toNat) ∧
  (∀ (k0_h378 : k0_cond378 d0 v1198 = 1#1), ∀ a, (k0_off362 d0 arg14 v1153 v1168 v1183) a + S8x128.size a ≤ S17408x128.size a) ∧
  (∀ (k0_h379 : k0_cond379 d0 v1198 = 1#1), 8 ∣ (k0_mult247 d0 v18 arg15 v1153 v1168 v1183).toNat) ∧
  (∀ (k0_h379 : k0_cond379 d0 v1198 = 1#1), ∀ a, (k0_off363 d0 v18 arg15 v1153 v1168 v1183) a + S8x128.size a ≤ S16384x128.size a)
theorem k0_mult246_dvd : ∀ (d0 : Dev nD) (v18 : BitVec 32) (arg14 : BitVec 32) (arg15 : BitVec 32) (v1153 : BitVec 32) (v1168 : BitVec 32) (v1183 : BitVec 32) (v1198 : BitVec 32) (k0_hw116 : k0_chk116 d0 v18 arg14 arg15 v1153 v1168 v1183 v1198), ∀ (k0_h378 : k0_cond378 d0 v1198 = 1#1), 8 ∣ (k0_mult246 d0 arg14 v1153 v1168 v1183).toNat := fun d0 v18 arg14 arg15 v1153 v1168 v1183 v1198 k0_hw116 k0_h378 => k0_hw116.1 k0_h378
theorem k0_off362_inb : ∀ (d0 : Dev nD) (v18 : BitVec 32) (arg14 : BitVec 32) (arg15 : BitVec 32) (v1153 : BitVec 32) (v1168 : BitVec 32) (v1183 : BitVec 32) (v1198 : BitVec 32) (k0_hw116 : k0_chk116 d0 v18 arg14 arg15 v1153 v1168 v1183 v1198), ∀ (k0_h378 : k0_cond378 d0 v1198 = 1#1), ∀ a, (k0_off362 d0 arg14 v1153 v1168 v1183) a + S8x128.size a ≤ S17408x128.size a := fun d0 v18 arg14 arg15 v1153 v1168 v1183 v1198 k0_hw116 k0_h378 => k0_hw116.2.1 k0_h378
theorem k0_mult247_dvd : ∀ (d0 : Dev nD) (v18 : BitVec 32) (arg14 : BitVec 32) (arg15 : BitVec 32) (v1153 : BitVec 32) (v1168 : BitVec 32) (v1183 : BitVec 32) (v1198 : BitVec 32) (k0_hw116 : k0_chk116 d0 v18 arg14 arg15 v1153 v1168 v1183 v1198), ∀ (k0_h379 : k0_cond379 d0 v1198 = 1#1), 8 ∣ (k0_mult247 d0 v18 arg15 v1153 v1168 v1183).toNat := fun d0 v18 arg14 arg15 v1153 v1168 v1183 v1198 k0_hw116 k0_h379 => k0_hw116.2.2.1 k0_h379
theorem k0_off363_inb : ∀ (d0 : Dev nD) (v18 : BitVec 32) (arg14 : BitVec 32) (arg15 : BitVec 32) (v1153 : BitVec 32) (v1168 : BitVec 32) (v1183 : BitVec 32) (v1198 : BitVec 32) (k0_hw116 : k0_chk116 d0 v18 arg14 arg15 v1153 v1168 v1183 v1198), ∀ (k0_h379 : k0_cond379 d0 v1198 = 1#1), ∀ a, (k0_off363 d0 v18 arg15 v1153 v1168 v1183) a + S8x128.size a ≤ S16384x128.size a := fun d0 v18 arg14 arg15 v1153 v1168 v1183 v1198 k0_hw116 k0_h379 => k0_hw116.2.2.2 k0_h379

def k0_off364 (k0_t15 : Fin k0_t15_loop.trips) : Fin 2 → Nat :=
  let c14_762 : Index := 14#32
  let c0_i32_498 : BitVec 32 := 0#32
  let c1_i32_500 : BitVec 32 := 1#32
  let arg13 : BitVec 32 := Scf.iv c0_i32_498 c1_i32_500 k0_t15
  let c8_i32_760 : BitVec 32 := 8#32
  let v1210 : BitVec 32 := Scalar.muli arg13 c8_i32_760
  let c4_i32_761 : BitVec 32 := 4#32
  let v1211 : BitVec 32 := Scalar.addi v1210 c4_i32_761
  let v1212 : Index := Scalar.indexCast v1211
  ![14, v1212.toNat]
def k0_mult248 (d0 : Dev nD) (arg14 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  v1269
def k0_cond380 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let v1215 : BitVec 32 := Scalar.extui v1214
  let c0_i32_763 : BitVec 32 := 0#32
  let v1216 : BitVec 1 := Scalar.cmpi .ne v1215 c0_i32_763
  v1216

def k0_off365 (d0 : Dev nD) (arg14 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  let v1270 : BitVec 32 := v1269
  let v1271 : Index := Scalar.indexCast v1270
  let c0_789 : Index := 0#32
  ![v1271.toNat, 0]
def k0_mult249 (d0 : Dev nD) (v18 : BitVec 32) (arg15 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  v1270
def k0_cond381 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let true_764 : BitVec 1 := 1#1
  let v1217 : BitVec 1 := Scalar.xori v1214 true_764
  let v1218 : BitVec 32 := Scalar.extui v1217
  let c0_i32_765 : BitVec 32 := 0#32
  let v1219 : BitVec 1 := Scalar.cmpi .ne v1218 c0_i32_765
  v1219

def k0_off366 (d0 : Dev nD) (v18 : BitVec 32) (arg15 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk117 (d0 : Dev nD) (v18 : BitVec 32) (arg14 : BitVec 32) (arg15 : BitVec 32) (v1153 : BitVec 32) (v1168 : BitVec 32) (v1183 : BitVec 32) (v1198 : BitVec 32) (v1213 : BitVec 32) : Prop :=
  (∀ (k0_h380 : k0_cond380 d0 v1213 = 1#1), 8 ∣ (k0_mult248 d0 arg14 v1153 v1168 v1183 v1198).toNat) ∧
  (∀ (k0_h380 : k0_cond380 d0 v1213 = 1#1), ∀ a, (k0_off365 d0 arg14 v1153 v1168 v1183 v1198) a + S8x128.size a ≤ S17408x128.size a) ∧
  (∀ (k0_h381 : k0_cond381 d0 v1213 = 1#1), 8 ∣ (k0_mult249 d0 v18 arg15 v1153 v1168 v1183 v1198).toNat) ∧
  (∀ (k0_h381 : k0_cond381 d0 v1213 = 1#1), ∀ a, (k0_off366 d0 v18 arg15 v1153 v1168 v1183 v1198) a + S8x128.size a ≤ S16384x128.size a)
theorem k0_mult248_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw117 : k0_chk117 d0 v18 arg14 arg15 v1153 v1168 v1183 v1198 v1213), ∀ (k0_h380 : k0_cond380 d0 v1213 = 1#1), 8 ∣ (k0_mult248 d0 arg14 v1153 v1168 v1183 v1198).toNat := fun d0 v18 arg14 arg15 v1153 v1168 v1183 v1198 v1213 k0_hw117 k0_h380 => k0_hw117.1 k0_h380
theorem k0_off365_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw117 : k0_chk117 d0 v18 arg14 arg15 v1153 v1168 v1183 v1198 v1213), ∀ (k0_h380 : k0_cond380 d0 v1213 = 1#1), ∀ a, (k0_off365 d0 arg14 v1153 v1168 v1183 v1198) a + S8x128.size a ≤ S17408x128.size a := fun d0 v18 arg14 arg15 v1153 v1168 v1183 v1198 v1213 k0_hw117 k0_h380 => k0_hw117.2.1 k0_h380
theorem k0_mult249_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw117 : k0_chk117 d0 v18 arg14 arg15 v1153 v1168 v1183 v1198 v1213), ∀ (k0_h381 : k0_cond381 d0 v1213 = 1#1), 8 ∣ (k0_mult249 d0 v18 arg15 v1153 v1168 v1183 v1198).toNat := fun d0 v18 arg14 arg15 v1153 v1168 v1183 v1198 v1213 k0_hw117 k0_h381 => k0_hw117.2.2.1 k0_h381
theorem k0_off366_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw117 : k0_chk117 d0 v18 arg14 arg15 v1153 v1168 v1183 v1198 v1213), ∀ (k0_h381 : k0_cond381 d0 v1213 = 1#1), ∀ a, (k0_off366 d0 v18 arg15 v1153 v1168 v1183 v1198) a + S8x128.size a ≤ S16384x128.size a := fun d0 v18 arg14 arg15 v1153 v1168 v1183 v1198 v1213 k0_hw117 k0_h381 => k0_hw117.2.2.2 k0_h381

def k0_off367 (k0_t15 : Fin k0_t15_loop.trips) : Fin 2 → Nat :=
  let c14_769 : Index := 14#32
  let c0_i32_498 : BitVec 32 := 0#32
  let c1_i32_500 : BitVec 32 := 1#32
  let arg13 : BitVec 32 := Scf.iv c0_i32_498 c1_i32_500 k0_t15
  let c8_i32_767 : BitVec 32 := 8#32
  let v1225 : BitVec 32 := Scalar.muli arg13 c8_i32_767
  let c5_i32_768 : BitVec 32 := 5#32
  let v1226 : BitVec 32 := Scalar.addi v1225 c5_i32_768
  let v1227 : Index := Scalar.indexCast v1226
  ![14, v1227.toNat]
def k0_mult250 (d0 : Dev nD) (arg14 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  v1269
def k0_cond382 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let v1230 : BitVec 32 := Scalar.extui v1229
  let c0_i32_770 : BitVec 32 := 0#32
  let v1231 : BitVec 1 := Scalar.cmpi .ne v1230 c0_i32_770
  v1231

def k0_off368 (d0 : Dev nD) (arg14 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  let v1270 : BitVec 32 := v1269
  let v1271 : Index := Scalar.indexCast v1270
  let c0_789 : Index := 0#32
  ![v1271.toNat, 0]
def k0_mult251 (d0 : Dev nD) (v18 : BitVec 32) (arg15 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  v1270
def k0_cond383 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let true_771 : BitVec 1 := 1#1
  let v1232 : BitVec 1 := Scalar.xori v1229 true_771
  let v1233 : BitVec 32 := Scalar.extui v1232
  let c0_i32_772 : BitVec 32 := 0#32
  let v1234 : BitVec 1 := Scalar.cmpi .ne v1233 c0_i32_772
  v1234

def k0_off369 (d0 : Dev nD) (v18 : BitVec 32) (arg15 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk118 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) : Prop :=
  (∀ (k0_h382 : k0_cond382 d0 v1228 = 1#1), 8 ∣ (k0_mult250 d0 arg14 v1153 v1168 v1183 v1198 v1213).toNat) ∧
  (∀ (k0_h382 : k0_cond382 d0 v1228 = 1#1), ∀ a, (k0_off368 d0 arg14 v1153 v1168 v1183 v1198 v1213) a + S8x128.size a ≤ S17408x128.size a) ∧
  (∀ (k0_h383 : k0_cond383 d0 v1228 = 1#1), 8 ∣ (k0_mult251 d0 v18 arg15 v1153 v1168 v1183 v1198 v1213).toNat) ∧
  (∀ (k0_h383 : k0_cond383 d0 v1228 = 1#1), ∀ a, (k0_off369 d0 v18 arg15 v1153 v1168 v1183 v1198 v1213) a + S8x128.size a ≤ S16384x128.size a)
theorem k0_mult250_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw118 : k0_chk118 d0 v18 arg14 arg15 v1153 v1168 v1183 v1198 v1213 v1228), ∀ (k0_h382 : k0_cond382 d0 v1228 = 1#1), 8 ∣ (k0_mult250 d0 arg14 v1153 v1168 v1183 v1198 v1213).toNat := fun d0 v18 arg14 arg15 v1153 v1168 v1183 v1198 v1213 v1228 k0_hw118 k0_h382 => k0_hw118.1 k0_h382
theorem k0_off368_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw118 : k0_chk118 d0 v18 arg14 arg15 v1153 v1168 v1183 v1198 v1213 v1228), ∀ (k0_h382 : k0_cond382 d0 v1228 = 1#1), ∀ a, (k0_off368 d0 arg14 v1153 v1168 v1183 v1198 v1213) a + S8x128.size a ≤ S17408x128.size a := fun d0 v18 arg14 arg15 v1153 v1168 v1183 v1198 v1213 v1228 k0_hw118 k0_h382 => k0_hw118.2.1 k0_h382
theorem k0_mult251_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw118 : k0_chk118 d0 v18 arg14 arg15 v1153 v1168 v1183 v1198 v1213 v1228), ∀ (k0_h383 : k0_cond383 d0 v1228 = 1#1), 8 ∣ (k0_mult251 d0 v18 arg15 v1153 v1168 v1183 v1198 v1213).toNat := fun d0 v18 arg14 arg15 v1153 v1168 v1183 v1198 v1213 v1228 k0_hw118 k0_h383 => k0_hw118.2.2.1 k0_h383
theorem k0_off369_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw118 : k0_chk118 d0 v18 arg14 arg15 v1153 v1168 v1183 v1198 v1213 v1228), ∀ (k0_h383 : k0_cond383 d0 v1228 = 1#1), ∀ a, (k0_off369 d0 v18 arg15 v1153 v1168 v1183 v1198 v1213) a + S8x128.size a ≤ S16384x128.size a := fun d0 v18 arg14 arg15 v1153 v1168 v1183 v1198 v1213 v1228 k0_hw118 k0_h383 => k0_hw118.2.2.2 k0_h383

def k0_off370 (k0_t15 : Fin k0_t15_loop.trips) : Fin 2 → Nat :=
  let c14_776 : Index := 14#32
  let c0_i32_498 : BitVec 32 := 0#32
  let c1_i32_500 : BitVec 32 := 1#32
  let arg13 : BitVec 32 := Scf.iv c0_i32_498 c1_i32_500 k0_t15
  let c8_i32_774 : BitVec 32 := 8#32
  let v1240 : BitVec 32 := Scalar.muli arg13 c8_i32_774
  let c6_i32_775 : BitVec 32 := 6#32
  let v1241 : BitVec 32 := Scalar.addi v1240 c6_i32_775
  let v1242 : Index := Scalar.indexCast v1241
  ![14, v1242.toNat]
def k0_mult252 (d0 : Dev nD) (arg14 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  v1269
def k0_cond384 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let v1245 : BitVec 32 := Scalar.extui v1244
  let c0_i32_777 : BitVec 32 := 0#32
  let v1246 : BitVec 1 := Scalar.cmpi .ne v1245 c0_i32_777
  v1246

def k0_off371 (d0 : Dev nD) (arg14 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  let v1270 : BitVec 32 := v1269
  let v1271 : Index := Scalar.indexCast v1270
  let c0_789 : Index := 0#32
  ![v1271.toNat, 0]
def k0_mult253 (d0 : Dev nD) (v18 : BitVec 32) (arg15 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  v1270
def k0_cond385 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let true_778 : BitVec 1 := 1#1
  let v1247 : BitVec 1 := Scalar.xori v1244 true_778
  let v1248 : BitVec 32 := Scalar.extui v1247
  let c0_i32_779 : BitVec 32 := 0#32
  let v1249 : BitVec 1 := Scalar.cmpi .ne v1248 c0_i32_779
  v1249

def k0_off372 (d0 : Dev nD) (v18 : BitVec 32) (arg15 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk119 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) : Prop :=
  (∀ (k0_h384 : k0_cond384 d0 v1243 = 1#1), 8 ∣ (k0_mult252 d0 arg14 v1153 v1168 v1183 v1198 v1213 v1228).toNat) ∧
  (∀ (k0_h384 : k0_cond384 d0 v1243 = 1#1), ∀ a, (k0_off371 d0 arg14 v1153 v1168 v1183 v1198 v1213 v1228) a + S8x128.size a ≤ S17408x128.size a) ∧
  (∀ (k0_h385 : k0_cond385 d0 v1243 = 1#1), 8 ∣ (k0_mult253 d0 v18 arg15 v1153 v1168 v1183 v1198 v1213 v1228).toNat) ∧
  (∀ (k0_h385 : k0_cond385 d0 v1243 = 1#1), ∀ a, (k0_off372 d0 v18 arg15 v1153 v1168 v1183 v1198 v1213 v1228) a + S8x128.size a ≤ S16384x128.size a)
theorem k0_mult252_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw119 : k0_chk119 d0 v18 arg14 arg15 v1153 v1168 v1183 v1198 v1213 v1228 v1243), ∀ (k0_h384 : k0_cond384 d0 v1243 = 1#1), 8 ∣ (k0_mult252 d0 arg14 v1153 v1168 v1183 v1198 v1213 v1228).toNat := fun d0 v18 arg14 arg15 v1153 v1168 v1183 v1198 v1213 v1228 v1243 k0_hw119 k0_h384 => k0_hw119.1 k0_h384
theorem k0_off371_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw119 : k0_chk119 d0 v18 arg14 arg15 v1153 v1168 v1183 v1198 v1213 v1228 v1243), ∀ (k0_h384 : k0_cond384 d0 v1243 = 1#1), ∀ a, (k0_off371 d0 arg14 v1153 v1168 v1183 v1198 v1213 v1228) a + S8x128.size a ≤ S17408x128.size a := fun d0 v18 arg14 arg15 v1153 v1168 v1183 v1198 v1213 v1228 v1243 k0_hw119 k0_h384 => k0_hw119.2.1 k0_h384
theorem k0_mult253_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw119 : k0_chk119 d0 v18 arg14 arg15 v1153 v1168 v1183 v1198 v1213 v1228 v1243), ∀ (k0_h385 : k0_cond385 d0 v1243 = 1#1), 8 ∣ (k0_mult253 d0 v18 arg15 v1153 v1168 v1183 v1198 v1213 v1228).toNat := fun d0 v18 arg14 arg15 v1153 v1168 v1183 v1198 v1213 v1228 v1243 k0_hw119 k0_h385 => k0_hw119.2.2.1 k0_h385
theorem k0_off372_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw119 : k0_chk119 d0 v18 arg14 arg15 v1153 v1168 v1183 v1198 v1213 v1228 v1243), ∀ (k0_h385 : k0_cond385 d0 v1243 = 1#1), ∀ a, (k0_off372 d0 v18 arg15 v1153 v1168 v1183 v1198 v1213 v1228) a + S8x128.size a ≤ S16384x128.size a := fun d0 v18 arg14 arg15 v1153 v1168 v1183 v1198 v1213 v1228 v1243 k0_hw119 k0_h385 => k0_hw119.2.2.2 k0_h385

def k0_off373 (k0_t15 : Fin k0_t15_loop.trips) : Fin 2 → Nat :=
  let c14_783 : Index := 14#32
  let c0_i32_498 : BitVec 32 := 0#32
  let c1_i32_500 : BitVec 32 := 1#32
  let arg13 : BitVec 32 := Scf.iv c0_i32_498 c1_i32_500 k0_t15
  let c8_i32_781 : BitVec 32 := 8#32
  let v1255 : BitVec 32 := Scalar.muli arg13 c8_i32_781
  let c7_i32_782 : BitVec 32 := 7#32
  let v1256 : BitVec 32 := Scalar.addi v1255 c7_i32_782
  let v1257 : Index := Scalar.indexCast v1256
  ![14, v1257.toNat]
def k0_mult254 (d0 : Dev nD) (arg14 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  v1269
def k0_cond386 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let v1260 : BitVec 32 := Scalar.extui v1259
  let c0_i32_784 : BitVec 32 := 0#32
  let v1261 : BitVec 1 := Scalar.cmpi .ne v1260 c0_i32_784
  v1261

def k0_off374 (d0 : Dev nD) (arg14 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  let v1270 : BitVec 32 := v1269
  let v1271 : Index := Scalar.indexCast v1270
  let c0_789 : Index := 0#32
  ![v1271.toNat, 0]
def k0_mult255 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  v1270
def k0_cond387 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let true_785 : BitVec 1 := 1#1
  let v1262 : BitVec 1 := Scalar.xori v1259 true_785
  let v1263 : BitVec 32 := Scalar.extui v1262
  let c0_i32_786 : BitVec 32 := 0#32
  let v1264 : BitVec 1 := Scalar.cmpi .ne v1263 c0_i32_786
  v1264

def k0_off375 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk120 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) : Prop :=
  (∀ (k0_h386 : k0_cond386 d0 v1258 = 1#1), 8 ∣ (k0_mult254 d0 arg14 v1153 v1168 v1183 v1198 v1213 v1228 v1243).toNat) ∧
  (∀ (k0_h386 : k0_cond386 d0 v1258 = 1#1), ∀ a, (k0_off374 d0 arg14 v1153 v1168 v1183 v1198 v1213 v1228 v1243) a + S8x128.size a ≤ S17408x128.size a) ∧
  (∀ (k0_h387 : k0_cond387 d0 v1258 = 1#1), 8 ∣ (k0_mult255 d0 v18 arg15 v1153 v1168 v1183 v1198 v1213 v1228 v1243).toNat) ∧
  (∀ (k0_h387 : k0_cond387 d0 v1258 = 1#1), ∀ a, (k0_off375 d0 v18 arg15 v1153 v1168 v1183 v1198 v1213 v1228 v1243) a + S8x128.size a ≤ S16384x128.size a)
theorem k0_mult254_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw120 : k0_chk120 d0 v18 arg14 arg15 v1153 v1168 v1183 v1198 v1213 v1228 v1243 v1258), ∀ (k0_h386 : k0_cond386 d0 v1258 = 1#1), 8 ∣ (k0_mult254 d0 arg14 v1153 v1168 v1183 v1198 v1213 v1228 v1243).toNat := fun d0 v18 arg14 arg15 v1153 v1168 v1183 v1198 v1213 v1228 v1243 v1258 k0_hw120 k0_h386 => k0_hw120.1 k0_h386
theorem k0_off374_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw120 : k0_chk120 d0 v18 arg14 arg15 v1153 v1168 v1183 v1198 v1213 v1228 v1243 v1258), ∀ (k0_h386 : k0_cond386 d0 v1258 = 1#1), ∀ a, (k0_off374 d0 arg14 v1153 v1168 v1183 v1198 v1213 v1228 v1243) a + S8x128.size a ≤ S17408x128.size a := fun d0 v18 arg14 arg15 v1153 v1168 v1183 v1198 v1213 v1228 v1243 v1258 k0_hw120 k0_h386 => k0_hw120.2.1 k0_h386
theorem k0_mult255_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw120 : k0_chk120 d0 v18 arg14 arg15 v1153 v1168 v1183 v1198 v1213 v1228 v1243 v1258), ∀ (k0_h387 : k0_cond387 d0 v1258 = 1#1), 8 ∣ (k0_mult255 d0 v18 arg15 v1153 v1168 v1183 v1198 v1213 v1228 v1243).toNat := fun d0 v18 arg14 arg15 v1153 v1168 v1183 v1198 v1213 v1228 v1243 v1258 k0_hw120 k0_h387 => k0_hw120.2.2.1 k0_h387
theorem k0_off375_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw120 : k0_chk120 d0 v18 arg14 arg15 v1153 v1168 v1183 v1198 v1213 v1228 v1243 v1258), ∀ (k0_h387 : k0_cond387 d0 v1258 = 1#1), ∀ a, (k0_off375 d0 v18 arg15 v1153 v1168 v1183 v1198 v1213 v1228 v1243) a + S8x128.size a ≤ S16384x128.size a := fun d0 v18 arg14 arg15 v1153 v1168 v1183 v1198 v1213 v1228 v1243 v1258 k0_hw120 k0_h387 => k0_hw120.2.2.2 k0_h387

def k0_dev149 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1147 : BitVec 32 := Scalar.muli v9 c16_i32_736
  let v1148 : BitVec 32 := Scalar.addi c0_i32_737 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1149 : BitVec 32 := Scalar.muli v5 c4_i32_738
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1151 : BitVec 32 := Scalar.muli v8 c1_i32_739
  let v1152 : BitVec 32 := Scalar.addi v1150 v1151
  v1152.toNat
def k0_dev150 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev151 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev152 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev153 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev154 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev155 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev156 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev157 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev158 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev159 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev160 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev161 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev162 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev163 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev164 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev165 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev166 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
@[reducible] def k0_t16_loop : Scf.Loop 32 :=
  let c0_i32_555 : BitVec 32 := 0#32
  let c16_i32_556 : BitVec 32 := 16#32
  let v891 : BitVec 32 := Scalar.addi c0_i32_555 c16_i32_556
  let c1_i32_557 : BitVec 32 := 1#32
  ⟨c0_i32_555, v891, c1_i32_557⟩
def k0_mult256 (k0_t16 : Fin k0_t16_loop.trips) : BitVec 32 :=
  let c1920_i32_731 : BitVec 32 := 1920#32
  let c0_i32_555 : BitVec 32 := 0#32
  let c1_i32_557 : BitVec 32 := 1#32
  let arg13 : BitVec 32 := Scf.iv c0_i32_555 c1_i32_557 k0_t16
  let c8_i32_730 : BitVec 32 := 8#32
  let v1142 : BitVec 32 := Scalar.muli arg13 c8_i32_730
  let v1143 : BitVec 32 := Scalar.addi c1920_i32_731 v1142
  v1143
def k0_off376 (k0_t16 : Fin k0_t16_loop.trips) : Fin 2 → Nat :=
  let c1920_i32_731 : BitVec 32 := 1920#32
  let c0_i32_555 : BitVec 32 := 0#32
  let c1_i32_557 : BitVec 32 := 1#32
  let arg13 : BitVec 32 := Scf.iv c0_i32_555 c1_i32_557 k0_t16
  let c8_i32_730 : BitVec 32 := 8#32
  let v1142 : BitVec 32 := Scalar.muli arg13 c8_i32_730
  let v1143 : BitVec 32 := Scalar.addi c1920_i32_731 v1142
  let v1144 : BitVec 32 := v1143
  let v1145 : Index := Scalar.indexCast v1144
  let c0_732 : Index := 0#32
  ![v1145.toNat, 0]
def k0_off377 (k0_t16 : Fin k0_t16_loop.trips) : Fin 2 → Nat :=
  let c15 : Index := 15#32
  let c0_i32_555 : BitVec 32 := 0#32
  let c1_i32_557 : BitVec 32 := 1#32
  let arg13 : BitVec 32 := Scf.iv c0_i32_555 c1_i32_557 k0_t16
  let c8_i32_733 : BitVec 32 := 8#32
  let v1150 : BitVec 32 := Scalar.muli arg13 c8_i32_733
  let c0_i32_734 : BitVec 32 := 0#32
  let v1151 : BitVec 32 := Scalar.addi v1150 c0_i32_734
  let v1152 : Index := Scalar.indexCast v1151
  ![15, v1152.toNat]
def k0_mult257 (arg14 : BitVec 32) : BitVec 32 :=
  let c8_i32_788 : BitVec 32 := 8#32
  let v1269 : BitVec 32 := Scalar.muli arg14 c8_i32_788
  v1269
def k0_cond406 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1155 : BitVec 32 := Scalar.extui v1154
  let c0_i32_735 : BitVec 32 := 0#32
  let v1156 : BitVec 1 := Scalar.cmpi .ne v1155 c0_i32_735
  v1156

def k0_off378 (arg14 : BitVec 32) : Fin 2 → Nat :=
  let c8_i32_788 : BitVec 32 := 8#32
  let v1269 : BitVec 32 := Scalar.muli arg14 c8_i32_788
  let v1270 : BitVec 32 := v1269
  let v1271 : Index := Scalar.indexCast v1270
  let c0_789 : Index := 0#32
  ![v1271.toNat, 0]
def k0_mult258 (d0 : Dev nD) (v18 : BitVec 32) (arg15 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  v1270
def k0_cond407 (d0 : Dev nD) (v1153 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let true_736 : BitVec 1 := 1#1
  let v1157 : BitVec 1 := Scalar.xori v1154 true_736
  let v1158 : BitVec 32 := Scalar.extui v1157
  let c0_i32_737 : BitVec 32 := 0#32
  let v1159 : BitVec 1 := Scalar.cmpi .ne v1158 c0_i32_737
  v1159

def k0_off379 (d0 : Dev nD) (v18 : BitVec 32) (arg15 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let v1269 : BitVec 32 := Scalar.addi v20 arg15
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk121 (d0 : Dev nD) (v18 : BitVec 32) (arg14 : BitVec 32) (arg15 : BitVec 32) (v1153 : BitVec 32) : Prop :=
  (∀ (k0_h406 : k0_cond406 d0 v1153 = 1#1), 8 ∣ (k0_mult257 arg14).toNat) ∧
  (∀ (k0_h406 : k0_cond406 d0 v1153 = 1#1), ∀ a, (k0_off378 arg14) a + S8x128.size a ≤ S17408x128.size a) ∧
  (∀ (k0_h407 : k0_cond407 d0 v1153 = 1#1), 8 ∣ (k0_mult258 d0 v18 arg15).toNat) ∧
  (∀ (k0_h407 : k0_cond407 d0 v1153 = 1#1), ∀ a, (k0_off379 d0 v18 arg15) a + S8x128.size a ≤ S16384x128.size a)
theorem k0_mult257_dvd : ∀ (d0 : Dev nD) (v18 : BitVec 32) (arg14 : BitVec 32) (arg15 : BitVec 32) (v1153 : BitVec 32) (k0_hw121 : k0_chk121 d0 v18 arg14 arg15 v1153), ∀ (k0_h406 : k0_cond406 d0 v1153 = 1#1), 8 ∣ (k0_mult257 arg14).toNat := fun d0 v18 arg14 arg15 v1153 k0_hw121 k0_h406 => k0_hw121.1 k0_h406
theorem k0_off378_inb : ∀ (d0 : Dev nD) (v18 : BitVec 32) (arg14 : BitVec 32) (arg15 : BitVec 32) (v1153 : BitVec 32) (k0_hw121 : k0_chk121 d0 v18 arg14 arg15 v1153), ∀ (k0_h406 : k0_cond406 d0 v1153 = 1#1), ∀ a, (k0_off378 arg14) a + S8x128.size a ≤ S17408x128.size a := fun d0 v18 arg14 arg15 v1153 k0_hw121 k0_h406 => k0_hw121.2.1 k0_h406
theorem k0_mult258_dvd : ∀ (d0 : Dev nD) (v18 : BitVec 32) (arg14 : BitVec 32) (arg15 : BitVec 32) (v1153 : BitVec 32) (k0_hw121 : k0_chk121 d0 v18 arg14 arg15 v1153), ∀ (k0_h407 : k0_cond407 d0 v1153 = 1#1), 8 ∣ (k0_mult258 d0 v18 arg15).toNat := fun d0 v18 arg14 arg15 v1153 k0_hw121 k0_h407 => k0_hw121.2.2.1 k0_h407
theorem k0_off379_inb : ∀ (d0 : Dev nD) (v18 : BitVec 32) (arg14 : BitVec 32) (arg15 : BitVec 32) (v1153 : BitVec 32) (k0_hw121 : k0_chk121 d0 v18 arg14 arg15 v1153), ∀ (k0_h407 : k0_cond407 d0 v1153 = 1#1), ∀ a, (k0_off379 d0 v18 arg15) a + S8x128.size a ≤ S16384x128.size a := fun d0 v18 arg14 arg15 v1153 k0_hw121 k0_h407 => k0_hw121.2.2.2 k0_h407

def k0_off380 (k0_t16 : Fin k0_t16_loop.trips) : Fin 2 → Nat :=
  let c15_741 : Index := 15#32
  let c0_i32_555 : BitVec 32 := 0#32
  let c1_i32_557 : BitVec 32 := 1#32
  let arg13 : BitVec 32 := Scf.iv c0_i32_555 c1_i32_557 k0_t16
  let c8_i32_739 : BitVec 32 := 8#32
  let v1165 : BitVec 32 := Scalar.muli arg13 c8_i32_739
  let c1_i32_740 : BitVec 32 := 1#32
  let v1166 : BitVec 32 := Scalar.addi v1165 c1_i32_740
  let v1167 : Index := Scalar.indexCast v1166
  ![15, v1167.toNat]
def k0_mult259 (d0 : Dev nD) (arg14 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  v1269
def k0_cond408 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let v1170 : BitVec 32 := Scalar.extui v1169
  let c0_i32_742 : BitVec 32 := 0#32
  let v1171 : BitVec 1 := Scalar.cmpi .ne v1170 c0_i32_742
  v1171

def k0_off381 (d0 : Dev nD) (arg14 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let c8_i32_788 : BitVec 32 := 8#32
  let v1269 : BitVec 32 := Scalar.muli v1161 c8_i32_788
  let v1270 : BitVec 32 := v1269
  let v1271 : Index := Scalar.indexCast v1270
  let c0_789 : Index := 0#32
  ![v1271.toNat, 0]
def k0_mult260 (d0 : Dev nD) (v18 : BitVec 32) (arg15 : BitVec 32) (v1153 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  v1270
def k0_cond409 (d0 : Dev nD) (v1168 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1169 : BitVec 1 := Scalar.cmpi .ne v1168 v2
  let true_743 : BitVec 1 := 1#1
  let v1172 : BitVec 1 := Scalar.xori v1169 true_743
  let v1173 : BitVec 32 := Scalar.extui v1172
  let c0_i32_744 : BitVec 32 := 0#32
  let v1174 : BitVec 1 := Scalar.cmpi .ne v1173 c0_i32_744
  v1174

def k0_off382 (d0 : Dev nD) (v18 : BitVec 32) (arg15 : BitVec 32) (v1153 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let v1269 : BitVec 32 := Scalar.addi v20 v1163
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk122 (d0 : Dev nD) (v18 : BitVec 32) (arg14 : BitVec 32) (arg15 : BitVec 32) (v1153 : BitVec 32) (v1168 : BitVec 32) : Prop :=
  (∀ (k0_h408 : k0_cond408 d0 v1168 = 1#1), 8 ∣ (k0_mult259 d0 arg14 v1153).toNat) ∧
  (∀ (k0_h408 : k0_cond408 d0 v1168 = 1#1), ∀ a, (k0_off381 d0 arg14 v1153) a + S8x128.size a ≤ S17408x128.size a) ∧
  (∀ (k0_h409 : k0_cond409 d0 v1168 = 1#1), 8 ∣ (k0_mult260 d0 v18 arg15 v1153).toNat) ∧
  (∀ (k0_h409 : k0_cond409 d0 v1168 = 1#1), ∀ a, (k0_off382 d0 v18 arg15 v1153) a + S8x128.size a ≤ S16384x128.size a)
theorem k0_mult259_dvd : ∀ (d0 : Dev nD) (v18 : BitVec 32) (arg14 : BitVec 32) (arg15 : BitVec 32) (v1153 : BitVec 32) (v1168 : BitVec 32) (k0_hw122 : k0_chk122 d0 v18 arg14 arg15 v1153 v1168), ∀ (k0_h408 : k0_cond408 d0 v1168 = 1#1), 8 ∣ (k0_mult259 d0 arg14 v1153).toNat := fun d0 v18 arg14 arg15 v1153 v1168 k0_hw122 k0_h408 => k0_hw122.1 k0_h408
theorem k0_off381_inb : ∀ (d0 : Dev nD) (v18 : BitVec 32) (arg14 : BitVec 32) (arg15 : BitVec 32) (v1153 : BitVec 32) (v1168 : BitVec 32) (k0_hw122 : k0_chk122 d0 v18 arg14 arg15 v1153 v1168), ∀ (k0_h408 : k0_cond408 d0 v1168 = 1#1), ∀ a, (k0_off381 d0 arg14 v1153) a + S8x128.size a ≤ S17408x128.size a := fun d0 v18 arg14 arg15 v1153 v1168 k0_hw122 k0_h408 => k0_hw122.2.1 k0_h408
theorem k0_mult260_dvd : ∀ (d0 : Dev nD) (v18 : BitVec 32) (arg14 : BitVec 32) (arg15 : BitVec 32) (v1153 : BitVec 32) (v1168 : BitVec 32) (k0_hw122 : k0_chk122 d0 v18 arg14 arg15 v1153 v1168), ∀ (k0_h409 : k0_cond409 d0 v1168 = 1#1), 8 ∣ (k0_mult260 d0 v18 arg15 v1153).toNat := fun d0 v18 arg14 arg15 v1153 v1168 k0_hw122 k0_h409 => k0_hw122.2.2.1 k0_h409
theorem k0_off382_inb : ∀ (d0 : Dev nD) (v18 : BitVec 32) (arg14 : BitVec 32) (arg15 : BitVec 32) (v1153 : BitVec 32) (v1168 : BitVec 32) (k0_hw122 : k0_chk122 d0 v18 arg14 arg15 v1153 v1168), ∀ (k0_h409 : k0_cond409 d0 v1168 = 1#1), ∀ a, (k0_off382 d0 v18 arg15 v1153) a + S8x128.size a ≤ S16384x128.size a := fun d0 v18 arg14 arg15 v1153 v1168 k0_hw122 k0_h409 => k0_hw122.2.2.2 k0_h409

def k0_off383 (k0_t16 : Fin k0_t16_loop.trips) : Fin 2 → Nat :=
  let c15_748 : Index := 15#32
  let c0_i32_555 : BitVec 32 := 0#32
  let c1_i32_557 : BitVec 32 := 1#32
  let arg13 : BitVec 32 := Scf.iv c0_i32_555 c1_i32_557 k0_t16
  let c8_i32_746 : BitVec 32 := 8#32
  let v1180 : BitVec 32 := Scalar.muli arg13 c8_i32_746
  let c2_i32_747 : BitVec 32 := 2#32
  let v1181 : BitVec 32 := Scalar.addi v1180 c2_i32_747
  let v1182 : Index := Scalar.indexCast v1181
  ![15, v1182.toNat]
def k0_mult261 (d0 : Dev nD) (arg14 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  v1269
def k0_cond410 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let v1185 : BitVec 32 := Scalar.extui v1184
  let c0_i32_749 : BitVec 32 := 0#32
  let v1186 : BitVec 1 := Scalar.cmpi .ne v1185 c0_i32_749
  v1186

def k0_off384 (d0 : Dev nD) (arg14 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let c8_i32_788 : BitVec 32 := 8#32
  let v1269 : BitVec 32 := Scalar.muli v1176 c8_i32_788
  let v1270 : BitVec 32 := v1269
  let v1271 : Index := Scalar.indexCast v1270
  let c0_789 : Index := 0#32
  ![v1271.toNat, 0]
def k0_mult262 (d0 : Dev nD) (v18 : BitVec 32) (arg15 : BitVec 32) (v1153 : BitVec 32) (v1168 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  v1270
def k0_cond411 (d0 : Dev nD) (v1183 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1184 : BitVec 1 := Scalar.cmpi .ne v1183 v2
  let true_750 : BitVec 1 := 1#1
  let v1187 : BitVec 1 := Scalar.xori v1184 true_750
  let v1188 : BitVec 32 := Scalar.extui v1187
  let c0_i32_751 : BitVec 32 := 0#32
  let v1189 : BitVec 1 := Scalar.cmpi .ne v1188 c0_i32_751
  v1189

def k0_off385 (d0 : Dev nD) (v18 : BitVec 32) (arg15 : BitVec 32) (v1153 : BitVec 32) (v1168 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let v1269 : BitVec 32 := Scalar.addi v20 v1178
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk123 (d0 : Dev nD) (v18 : BitVec 32) (arg14 : BitVec 32) (arg15 : BitVec 32) (v1153 : BitVec 32) (v1168 : BitVec 32) (v1183 : BitVec 32) : Prop :=
  (∀ (k0_h410 : k0_cond410 d0 v1183 = 1#1), 8 ∣ (k0_mult261 d0 arg14 v1153 v1168).toNat) ∧
  (∀ (k0_h410 : k0_cond410 d0 v1183 = 1#1), ∀ a, (k0_off384 d0 arg14 v1153 v1168) a + S8x128.size a ≤ S17408x128.size a) ∧
  (∀ (k0_h411 : k0_cond411 d0 v1183 = 1#1), 8 ∣ (k0_mult262 d0 v18 arg15 v1153 v1168).toNat) ∧
  (∀ (k0_h411 : k0_cond411 d0 v1183 = 1#1), ∀ a, (k0_off385 d0 v18 arg15 v1153 v1168) a + S8x128.size a ≤ S16384x128.size a)
theorem k0_mult261_dvd : ∀ (d0 : Dev nD) (v18 : BitVec 32) (arg14 : BitVec 32) (arg15 : BitVec 32) (v1153 : BitVec 32) (v1168 : BitVec 32) (v1183 : BitVec 32) (k0_hw123 : k0_chk123 d0 v18 arg14 arg15 v1153 v1168 v1183), ∀ (k0_h410 : k0_cond410 d0 v1183 = 1#1), 8 ∣ (k0_mult261 d0 arg14 v1153 v1168).toNat := fun d0 v18 arg14 arg15 v1153 v1168 v1183 k0_hw123 k0_h410 => k0_hw123.1 k0_h410
theorem k0_off384_inb : ∀ (d0 : Dev nD) (v18 : BitVec 32) (arg14 : BitVec 32) (arg15 : BitVec 32) (v1153 : BitVec 32) (v1168 : BitVec 32) (v1183 : BitVec 32) (k0_hw123 : k0_chk123 d0 v18 arg14 arg15 v1153 v1168 v1183), ∀ (k0_h410 : k0_cond410 d0 v1183 = 1#1), ∀ a, (k0_off384 d0 arg14 v1153 v1168) a + S8x128.size a ≤ S17408x128.size a := fun d0 v18 arg14 arg15 v1153 v1168 v1183 k0_hw123 k0_h410 => k0_hw123.2.1 k0_h410
theorem k0_mult262_dvd : ∀ (d0 : Dev nD) (v18 : BitVec 32) (arg14 : BitVec 32) (arg15 : BitVec 32) (v1153 : BitVec 32) (v1168 : BitVec 32) (v1183 : BitVec 32) (k0_hw123 : k0_chk123 d0 v18 arg14 arg15 v1153 v1168 v1183), ∀ (k0_h411 : k0_cond411 d0 v1183 = 1#1), 8 ∣ (k0_mult262 d0 v18 arg15 v1153 v1168).toNat := fun d0 v18 arg14 arg15 v1153 v1168 v1183 k0_hw123 k0_h411 => k0_hw123.2.2.1 k0_h411
theorem k0_off385_inb : ∀ (d0 : Dev nD) (v18 : BitVec 32) (arg14 : BitVec 32) (arg15 : BitVec 32) (v1153 : BitVec 32) (v1168 : BitVec 32) (v1183 : BitVec 32) (k0_hw123 : k0_chk123 d0 v18 arg14 arg15 v1153 v1168 v1183), ∀ (k0_h411 : k0_cond411 d0 v1183 = 1#1), ∀ a, (k0_off385 d0 v18 arg15 v1153 v1168) a + S8x128.size a ≤ S16384x128.size a := fun d0 v18 arg14 arg15 v1153 v1168 v1183 k0_hw123 k0_h411 => k0_hw123.2.2.2 k0_h411

def k0_off386 (k0_t16 : Fin k0_t16_loop.trips) : Fin 2 → Nat :=
  let c15_755 : Index := 15#32
  let c0_i32_555 : BitVec 32 := 0#32
  let c1_i32_557 : BitVec 32 := 1#32
  let arg13 : BitVec 32 := Scf.iv c0_i32_555 c1_i32_557 k0_t16
  let c8_i32_753 : BitVec 32 := 8#32
  let v1195 : BitVec 32 := Scalar.muli arg13 c8_i32_753
  let c3_i32_754 : BitVec 32 := 3#32
  let v1196 : BitVec 32 := Scalar.addi v1195 c3_i32_754
  let v1197 : Index := Scalar.indexCast v1196
  ![15, v1197.toNat]
def k0_mult263 (d0 : Dev nD) (arg14 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  v1269
def k0_cond412 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let v1200 : BitVec 32 := Scalar.extui v1199
  let c0_i32_756 : BitVec 32 := 0#32
  let v1201 : BitVec 1 := Scalar.cmpi .ne v1200 c0_i32_756
  v1201

def k0_off387 (d0 : Dev nD) (arg14 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let c8_i32_788 : BitVec 32 := 8#32
  let v1269 : BitVec 32 := Scalar.muli v1191 c8_i32_788
  let v1270 : BitVec 32 := v1269
  let v1271 : Index := Scalar.indexCast v1270
  let c0_789 : Index := 0#32
  ![v1271.toNat, 0]
def k0_mult264 (d0 : Dev nD) (v18 : BitVec 32) (arg15 : BitVec 32) (v1153 : BitVec 32) (v1168 : BitVec 32) (v1183 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  v1270
def k0_cond413 (d0 : Dev nD) (v1198 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1199 : BitVec 1 := Scalar.cmpi .ne v1198 v2
  let true_757 : BitVec 1 := 1#1
  let v1202 : BitVec 1 := Scalar.xori v1199 true_757
  let v1203 : BitVec 32 := Scalar.extui v1202
  let c0_i32_758 : BitVec 32 := 0#32
  let v1204 : BitVec 1 := Scalar.cmpi .ne v1203 c0_i32_758
  v1204

def k0_off388 (d0 : Dev nD) (v18 : BitVec 32) (arg15 : BitVec 32) (v1153 : BitVec 32) (v1168 : BitVec 32) (v1183 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let v1269 : BitVec 32 := Scalar.addi v20 v1193
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk124 (d0 : Dev nD) (v18 : BitVec 32) (arg14 : BitVec 32) (arg15 : BitVec 32) (v1153 : BitVec 32) (v1168 : BitVec 32) (v1183 : BitVec 32) (v1198 : BitVec 32) : Prop :=
  (∀ (k0_h412 : k0_cond412 d0 v1198 = 1#1), 8 ∣ (k0_mult263 d0 arg14 v1153 v1168 v1183).toNat) ∧
  (∀ (k0_h412 : k0_cond412 d0 v1198 = 1#1), ∀ a, (k0_off387 d0 arg14 v1153 v1168 v1183) a + S8x128.size a ≤ S17408x128.size a) ∧
  (∀ (k0_h413 : k0_cond413 d0 v1198 = 1#1), 8 ∣ (k0_mult264 d0 v18 arg15 v1153 v1168 v1183).toNat) ∧
  (∀ (k0_h413 : k0_cond413 d0 v1198 = 1#1), ∀ a, (k0_off388 d0 v18 arg15 v1153 v1168 v1183) a + S8x128.size a ≤ S16384x128.size a)
theorem k0_mult263_dvd : ∀ (d0 : Dev nD) (v18 : BitVec 32) (arg14 : BitVec 32) (arg15 : BitVec 32) (v1153 : BitVec 32) (v1168 : BitVec 32) (v1183 : BitVec 32) (v1198 : BitVec 32) (k0_hw124 : k0_chk124 d0 v18 arg14 arg15 v1153 v1168 v1183 v1198), ∀ (k0_h412 : k0_cond412 d0 v1198 = 1#1), 8 ∣ (k0_mult263 d0 arg14 v1153 v1168 v1183).toNat := fun d0 v18 arg14 arg15 v1153 v1168 v1183 v1198 k0_hw124 k0_h412 => k0_hw124.1 k0_h412
theorem k0_off387_inb : ∀ (d0 : Dev nD) (v18 : BitVec 32) (arg14 : BitVec 32) (arg15 : BitVec 32) (v1153 : BitVec 32) (v1168 : BitVec 32) (v1183 : BitVec 32) (v1198 : BitVec 32) (k0_hw124 : k0_chk124 d0 v18 arg14 arg15 v1153 v1168 v1183 v1198), ∀ (k0_h412 : k0_cond412 d0 v1198 = 1#1), ∀ a, (k0_off387 d0 arg14 v1153 v1168 v1183) a + S8x128.size a ≤ S17408x128.size a := fun d0 v18 arg14 arg15 v1153 v1168 v1183 v1198 k0_hw124 k0_h412 => k0_hw124.2.1 k0_h412
theorem k0_mult264_dvd : ∀ (d0 : Dev nD) (v18 : BitVec 32) (arg14 : BitVec 32) (arg15 : BitVec 32) (v1153 : BitVec 32) (v1168 : BitVec 32) (v1183 : BitVec 32) (v1198 : BitVec 32) (k0_hw124 : k0_chk124 d0 v18 arg14 arg15 v1153 v1168 v1183 v1198), ∀ (k0_h413 : k0_cond413 d0 v1198 = 1#1), 8 ∣ (k0_mult264 d0 v18 arg15 v1153 v1168 v1183).toNat := fun d0 v18 arg14 arg15 v1153 v1168 v1183 v1198 k0_hw124 k0_h413 => k0_hw124.2.2.1 k0_h413
theorem k0_off388_inb : ∀ (d0 : Dev nD) (v18 : BitVec 32) (arg14 : BitVec 32) (arg15 : BitVec 32) (v1153 : BitVec 32) (v1168 : BitVec 32) (v1183 : BitVec 32) (v1198 : BitVec 32) (k0_hw124 : k0_chk124 d0 v18 arg14 arg15 v1153 v1168 v1183 v1198), ∀ (k0_h413 : k0_cond413 d0 v1198 = 1#1), ∀ a, (k0_off388 d0 v18 arg15 v1153 v1168 v1183) a + S8x128.size a ≤ S16384x128.size a := fun d0 v18 arg14 arg15 v1153 v1168 v1183 v1198 k0_hw124 k0_h413 => k0_hw124.2.2.2 k0_h413

def k0_off389 (k0_t16 : Fin k0_t16_loop.trips) : Fin 2 → Nat :=
  let c15_762 : Index := 15#32
  let c0_i32_555 : BitVec 32 := 0#32
  let c1_i32_557 : BitVec 32 := 1#32
  let arg13 : BitVec 32 := Scf.iv c0_i32_555 c1_i32_557 k0_t16
  let c8_i32_760 : BitVec 32 := 8#32
  let v1210 : BitVec 32 := Scalar.muli arg13 c8_i32_760
  let c4_i32_761 : BitVec 32 := 4#32
  let v1211 : BitVec 32 := Scalar.addi v1210 c4_i32_761
  let v1212 : Index := Scalar.indexCast v1211
  ![15, v1212.toNat]
def k0_mult265 (d0 : Dev nD) (arg14 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  v1269
def k0_cond414 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let v1215 : BitVec 32 := Scalar.extui v1214
  let c0_i32_763 : BitVec 32 := 0#32
  let v1216 : BitVec 1 := Scalar.cmpi .ne v1215 c0_i32_763
  v1216

def k0_off390 (d0 : Dev nD) (arg14 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let c8_i32_788 : BitVec 32 := 8#32
  let v1269 : BitVec 32 := Scalar.muli v1206 c8_i32_788
  let v1270 : BitVec 32 := v1269
  let v1271 : Index := Scalar.indexCast v1270
  let c0_789 : Index := 0#32
  ![v1271.toNat, 0]
def k0_mult266 (d0 : Dev nD) (v18 : BitVec 32) (arg15 : BitVec 32) (v1153 : BitVec 32) (v1168 : BitVec 32) (v1183 : BitVec 32) (v1198 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  v1270
def k0_cond415 (d0 : Dev nD) (v1213 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1214 : BitVec 1 := Scalar.cmpi .ne v1213 v2
  let true_764 : BitVec 1 := 1#1
  let v1217 : BitVec 1 := Scalar.xori v1214 true_764
  let v1218 : BitVec 32 := Scalar.extui v1217
  let c0_i32_765 : BitVec 32 := 0#32
  let v1219 : BitVec 1 := Scalar.cmpi .ne v1218 c0_i32_765
  v1219

def k0_off391 (d0 : Dev nD) (v18 : BitVec 32) (arg15 : BitVec 32) (v1153 : BitVec 32) (v1168 : BitVec 32) (v1183 : BitVec 32) (v1198 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let v1269 : BitVec 32 := Scalar.addi v20 v1208
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk125 (d0 : Dev nD) (v18 : BitVec 32) (arg14 : BitVec 32) (arg15 : BitVec 32) (v1153 : BitVec 32) (v1168 : BitVec 32) (v1183 : BitVec 32) (v1198 : BitVec 32) (v1213 : BitVec 32) : Prop :=
  (∀ (k0_h414 : k0_cond414 d0 v1213 = 1#1), 8 ∣ (k0_mult265 d0 arg14 v1153 v1168 v1183 v1198).toNat) ∧
  (∀ (k0_h414 : k0_cond414 d0 v1213 = 1#1), ∀ a, (k0_off390 d0 arg14 v1153 v1168 v1183 v1198) a + S8x128.size a ≤ S17408x128.size a) ∧
  (∀ (k0_h415 : k0_cond415 d0 v1213 = 1#1), 8 ∣ (k0_mult266 d0 v18 arg15 v1153 v1168 v1183 v1198).toNat) ∧
  (∀ (k0_h415 : k0_cond415 d0 v1213 = 1#1), ∀ a, (k0_off391 d0 v18 arg15 v1153 v1168 v1183 v1198) a + S8x128.size a ≤ S16384x128.size a)
theorem k0_mult265_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw125 : k0_chk125 d0 v18 arg14 arg15 v1153 v1168 v1183 v1198 v1213), ∀ (k0_h414 : k0_cond414 d0 v1213 = 1#1), 8 ∣ (k0_mult265 d0 arg14 v1153 v1168 v1183 v1198).toNat := fun d0 v18 arg14 arg15 v1153 v1168 v1183 v1198 v1213 k0_hw125 k0_h414 => k0_hw125.1 k0_h414
theorem k0_off390_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw125 : k0_chk125 d0 v18 arg14 arg15 v1153 v1168 v1183 v1198 v1213), ∀ (k0_h414 : k0_cond414 d0 v1213 = 1#1), ∀ a, (k0_off390 d0 arg14 v1153 v1168 v1183 v1198) a + S8x128.size a ≤ S17408x128.size a := fun d0 v18 arg14 arg15 v1153 v1168 v1183 v1198 v1213 k0_hw125 k0_h414 => k0_hw125.2.1 k0_h414
theorem k0_mult266_dvd : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw125 : k0_chk125 d0 v18 arg14 arg15 v1153 v1168 v1183 v1198 v1213), ∀ (k0_h415 : k0_cond415 d0 v1213 = 1#1), 8 ∣ (k0_mult266 d0 v18 arg15 v1153 v1168 v1183 v1198).toNat := fun d0 v18 arg14 arg15 v1153 v1168 v1183 v1198 v1213 k0_hw125 k0_h415 => k0_hw125.2.2.1 k0_h415
theorem k0_off391_inb : ∀ (d0 : Dev nD) (v18 : BitVec 32) (arg14 : BitVec 32) (arg15 : BitVec 32) (v1153 : BitVec 32) (v1168 : BitVec 32) (v1183 : BitVec 32) (v1198 : BitVec 32) (v1213 : BitVec 32) (k0_hw125 : k0_chk125 d0 v18 arg14 arg15 v1153 v1168 v1183 v1198 v1213), ∀ (k0_h415 : k0_cond415 d0 v1213 = 1#1), ∀ a, (k0_off391 d0 v18 arg15 v1153 v1168 v1183 v1198) a + S8x128.size a ≤ S16384x128.size a := fun d0 v18 arg14 arg15 v1153 v1168 v1183 v1198 v1213 k0_hw125 k0_h415 => k0_hw125.2.2.2 k0_h415

def k0_off392 (k0_t16 : Fin k0_t16_loop.trips) : Fin 2 → Nat :=
  let c15_769 : Index := 15#32
  let c0_i32_555 : BitVec 32 := 0#32
  let c1_i32_557 : BitVec 32 := 1#32
  let arg13 : BitVec 32 := Scf.iv c0_i32_555 c1_i32_557 k0_t16
  let c8_i32_767 : BitVec 32 := 8#32
  let v1225 : BitVec 32 := Scalar.muli arg13 c8_i32_767
  let c5_i32_768 : BitVec 32 := 5#32
  let v1226 : BitVec 32 := Scalar.addi v1225 c5_i32_768
  let v1227 : Index := Scalar.indexCast v1226
  ![15, v1227.toNat]
def k0_mult267 (d0 : Dev nD) (arg14 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  v1269
def k0_cond416 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let v1230 : BitVec 32 := Scalar.extui v1229
  let c0_i32_770 : BitVec 32 := 0#32
  let v1231 : BitVec 1 := Scalar.cmpi .ne v1230 c0_i32_770
  v1231

def k0_off393 (d0 : Dev nD) (arg14 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let c8_i32_788 : BitVec 32 := 8#32
  let v1269 : BitVec 32 := Scalar.muli v1221 c8_i32_788
  let v1270 : BitVec 32 := v1269
  let v1271 : Index := Scalar.indexCast v1270
  let c0_789 : Index := 0#32
  ![v1271.toNat, 0]
def k0_mult268 (d0 : Dev nD) (v18 : BitVec 32) (arg15 : BitVec 32) (v1153 : BitVec 32) (v1168 : BitVec 32) (v1183 : BitVec 32) (v1198 : BitVec 32) (v1213 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  v1270
def k0_cond417 (d0 : Dev nD) (v1228 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1229 : BitVec 1 := Scalar.cmpi .ne v1228 v2
  let true_771 : BitVec 1 := 1#1
  let v1232 : BitVec 1 := Scalar.xori v1229 true_771
  let v1233 : BitVec 32 := Scalar.extui v1232
  let c0_i32_772 : BitVec 32 := 0#32
  let v1234 : BitVec 1 := Scalar.cmpi .ne v1233 c0_i32_772
  v1234

def k0_off394 (d0 : Dev nD) (v18 : BitVec 32) (arg15 : BitVec 32) (v1153 : BitVec 32) (v1168 : BitVec 32) (v1183 : BitVec 32) (v1198 : BitVec 32) (v1213 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let v1269 : BitVec 32 := Scalar.addi v20 v1223
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk126 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) : Prop :=
  (∀ (k0_h416 : k0_cond416 d0 v1228 = 1#1), 8 ∣ (k0_mult267 d0 arg14 v1153 v1168 v1183 v1198 v1213).toNat) ∧
  (∀ (k0_h416 : k0_cond416 d0 v1228 = 1#1), ∀ a, (k0_off393 d0 arg14 v1153 v1168 v1183 v1198 v1213) a + S8x128.size a ≤ S17408x128.size a) ∧
  (∀ (k0_h417 : k0_cond417 d0 v1228 = 1#1), 8 ∣ (k0_mult268 d0 v18 arg15 v1153 v1168 v1183 v1198 v1213).toNat) ∧
  (∀ (k0_h417 : k0_cond417 d0 v1228 = 1#1), ∀ a, (k0_off394 d0 v18 arg15 v1153 v1168 v1183 v1198 v1213) a + S8x128.size a ≤ S16384x128.size a)
theorem k0_mult267_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw126 : k0_chk126 d0 v18 arg14 arg15 v1153 v1168 v1183 v1198 v1213 v1228), ∀ (k0_h416 : k0_cond416 d0 v1228 = 1#1), 8 ∣ (k0_mult267 d0 arg14 v1153 v1168 v1183 v1198 v1213).toNat := fun d0 v18 arg14 arg15 v1153 v1168 v1183 v1198 v1213 v1228 k0_hw126 k0_h416 => k0_hw126.1 k0_h416
theorem k0_off393_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw126 : k0_chk126 d0 v18 arg14 arg15 v1153 v1168 v1183 v1198 v1213 v1228), ∀ (k0_h416 : k0_cond416 d0 v1228 = 1#1), ∀ a, (k0_off393 d0 arg14 v1153 v1168 v1183 v1198 v1213) a + S8x128.size a ≤ S17408x128.size a := fun d0 v18 arg14 arg15 v1153 v1168 v1183 v1198 v1213 v1228 k0_hw126 k0_h416 => k0_hw126.2.1 k0_h416
theorem k0_mult268_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw126 : k0_chk126 d0 v18 arg14 arg15 v1153 v1168 v1183 v1198 v1213 v1228), ∀ (k0_h417 : k0_cond417 d0 v1228 = 1#1), 8 ∣ (k0_mult268 d0 v18 arg15 v1153 v1168 v1183 v1198 v1213).toNat := fun d0 v18 arg14 arg15 v1153 v1168 v1183 v1198 v1213 v1228 k0_hw126 k0_h417 => k0_hw126.2.2.1 k0_h417
theorem k0_off394_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (k0_hw126 : k0_chk126 d0 v18 arg14 arg15 v1153 v1168 v1183 v1198 v1213 v1228), ∀ (k0_h417 : k0_cond417 d0 v1228 = 1#1), ∀ a, (k0_off394 d0 v18 arg15 v1153 v1168 v1183 v1198 v1213) a + S8x128.size a ≤ S16384x128.size a := fun d0 v18 arg14 arg15 v1153 v1168 v1183 v1198 v1213 v1228 k0_hw126 k0_h417 => k0_hw126.2.2.2 k0_h417

def k0_off395 (k0_t16 : Fin k0_t16_loop.trips) : Fin 2 → Nat :=
  let c15_776 : Index := 15#32
  let c0_i32_555 : BitVec 32 := 0#32
  let c1_i32_557 : BitVec 32 := 1#32
  let arg13 : BitVec 32 := Scf.iv c0_i32_555 c1_i32_557 k0_t16
  let c8_i32_774 : BitVec 32 := 8#32
  let v1240 : BitVec 32 := Scalar.muli arg13 c8_i32_774
  let c6_i32_775 : BitVec 32 := 6#32
  let v1241 : BitVec 32 := Scalar.addi v1240 c6_i32_775
  let v1242 : Index := Scalar.indexCast v1241
  ![15, v1242.toNat]
def k0_mult269 (d0 : Dev nD) (arg14 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  v1269
def k0_cond418 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let v1245 : BitVec 32 := Scalar.extui v1244
  let c0_i32_777 : BitVec 32 := 0#32
  let v1246 : BitVec 1 := Scalar.cmpi .ne v1245 c0_i32_777
  v1246

def k0_off396 (d0 : Dev nD) (arg14 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let c8_i32_788 : BitVec 32 := 8#32
  let v1269 : BitVec 32 := Scalar.muli v1236 c8_i32_788
  let v1270 : BitVec 32 := v1269
  let v1271 : Index := Scalar.indexCast v1270
  let c0_789 : Index := 0#32
  ![v1271.toNat, 0]
def k0_mult270 (d0 : Dev nD) (v18 : BitVec 32) (arg15 : BitVec 32) (v1153 : BitVec 32) (v1168 : BitVec 32) (v1183 : BitVec 32) (v1198 : BitVec 32) (v1213 : BitVec 32) (v1228 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  v1270
def k0_cond419 (d0 : Dev nD) (v1243 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1244 : BitVec 1 := Scalar.cmpi .ne v1243 v2
  let true_778 : BitVec 1 := 1#1
  let v1247 : BitVec 1 := Scalar.xori v1244 true_778
  let v1248 : BitVec 32 := Scalar.extui v1247
  let c0_i32_779 : BitVec 32 := 0#32
  let v1249 : BitVec 1 := Scalar.cmpi .ne v1248 c0_i32_779
  v1249

def k0_off397 (d0 : Dev nD) (v18 : BitVec 32) (arg15 : BitVec 32) (v1153 : BitVec 32) (v1168 : BitVec 32) (v1183 : BitVec 32) (v1198 : BitVec 32) (v1213 : BitVec 32) (v1228 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let v1269 : BitVec 32 := Scalar.addi v20 v1238
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk127 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) : Prop :=
  (∀ (k0_h418 : k0_cond418 d0 v1243 = 1#1), 8 ∣ (k0_mult269 d0 arg14 v1153 v1168 v1183 v1198 v1213 v1228).toNat) ∧
  (∀ (k0_h418 : k0_cond418 d0 v1243 = 1#1), ∀ a, (k0_off396 d0 arg14 v1153 v1168 v1183 v1198 v1213 v1228) a + S8x128.size a ≤ S17408x128.size a) ∧
  (∀ (k0_h419 : k0_cond419 d0 v1243 = 1#1), 8 ∣ (k0_mult270 d0 v18 arg15 v1153 v1168 v1183 v1198 v1213 v1228).toNat) ∧
  (∀ (k0_h419 : k0_cond419 d0 v1243 = 1#1), ∀ a, (k0_off397 d0 v18 arg15 v1153 v1168 v1183 v1198 v1213 v1228) a + S8x128.size a ≤ S16384x128.size a)
theorem k0_mult269_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw127 : k0_chk127 d0 v18 arg14 arg15 v1153 v1168 v1183 v1198 v1213 v1228 v1243), ∀ (k0_h418 : k0_cond418 d0 v1243 = 1#1), 8 ∣ (k0_mult269 d0 arg14 v1153 v1168 v1183 v1198 v1213 v1228).toNat := fun d0 v18 arg14 arg15 v1153 v1168 v1183 v1198 v1213 v1228 v1243 k0_hw127 k0_h418 => k0_hw127.1 k0_h418
theorem k0_off396_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw127 : k0_chk127 d0 v18 arg14 arg15 v1153 v1168 v1183 v1198 v1213 v1228 v1243), ∀ (k0_h418 : k0_cond418 d0 v1243 = 1#1), ∀ a, (k0_off396 d0 arg14 v1153 v1168 v1183 v1198 v1213 v1228) a + S8x128.size a ≤ S17408x128.size a := fun d0 v18 arg14 arg15 v1153 v1168 v1183 v1198 v1213 v1228 v1243 k0_hw127 k0_h418 => k0_hw127.2.1 k0_h418
theorem k0_mult270_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw127 : k0_chk127 d0 v18 arg14 arg15 v1153 v1168 v1183 v1198 v1213 v1228 v1243), ∀ (k0_h419 : k0_cond419 d0 v1243 = 1#1), 8 ∣ (k0_mult270 d0 v18 arg15 v1153 v1168 v1183 v1198 v1213 v1228).toNat := fun d0 v18 arg14 arg15 v1153 v1168 v1183 v1198 v1213 v1228 v1243 k0_hw127 k0_h419 => k0_hw127.2.2.1 k0_h419
theorem k0_off397_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (k0_hw127 : k0_chk127 d0 v18 arg14 arg15 v1153 v1168 v1183 v1198 v1213 v1228 v1243), ∀ (k0_h419 : k0_cond419 d0 v1243 = 1#1), ∀ a, (k0_off397 d0 v18 arg15 v1153 v1168 v1183 v1198 v1213 v1228) a + S8x128.size a ≤ S16384x128.size a := fun d0 v18 arg14 arg15 v1153 v1168 v1183 v1198 v1213 v1228 v1243 k0_hw127 k0_h419 => k0_hw127.2.2.2 k0_h419

def k0_off398 (k0_t16 : Fin k0_t16_loop.trips) : Fin 2 → Nat :=
  let c15_783 : Index := 15#32
  let c0_i32_555 : BitVec 32 := 0#32
  let c1_i32_557 : BitVec 32 := 1#32
  let arg13 : BitVec 32 := Scf.iv c0_i32_555 c1_i32_557 k0_t16
  let c8_i32_781 : BitVec 32 := 8#32
  let v1255 : BitVec 32 := Scalar.muli arg13 c8_i32_781
  let c7_i32_782 : BitVec 32 := 7#32
  let v1256 : BitVec 32 := Scalar.addi v1255 c7_i32_782
  let v1257 : Index := Scalar.indexCast v1256
  ![15, v1257.toNat]
def k0_mult271 (d0 : Dev nD) (arg14 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  v1269
def k0_cond420 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let v1260 : BitVec 32 := Scalar.extui v1259
  let c0_i32_784 : BitVec 32 := 0#32
  let v1261 : BitVec 1 := Scalar.cmpi .ne v1260 c0_i32_784
  v1261

def k0_off399 (d0 : Dev nD) (arg14 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1154 : BitVec 1 := Scalar.cmpi .ne v1153 v2
  let v1160 : BitVec 32 := Scalar.extui v1154
  let v1161 : BitVec 32 := Scalar.addi arg14 v1160
  let v1169 : BitVec 1 := Scalar.cmpi .ne v1168 v2
  let v1175 : BitVec 32 := Scalar.extui v1169
  let v1176 : BitVec 32 := Scalar.addi v1161 v1175
  let v1184 : BitVec 1 := Scalar.cmpi .ne v1183 v2
  let v1190 : BitVec 32 := Scalar.extui v1184
  let v1191 : BitVec 32 := Scalar.addi v1176 v1190
  let v1199 : BitVec 1 := Scalar.cmpi .ne v1198 v2
  let v1205 : BitVec 32 := Scalar.extui v1199
  let v1206 : BitVec 32 := Scalar.addi v1191 v1205
  let v1214 : BitVec 1 := Scalar.cmpi .ne v1213 v2
  let v1220 : BitVec 32 := Scalar.extui v1214
  let v1221 : BitVec 32 := Scalar.addi v1206 v1220
  let v1229 : BitVec 1 := Scalar.cmpi .ne v1228 v2
  let v1235 : BitVec 32 := Scalar.extui v1229
  let v1236 : BitVec 32 := Scalar.addi v1221 v1235
  let v1244 : BitVec 1 := Scalar.cmpi .ne v1243 v2
  let v1250 : BitVec 32 := Scalar.extui v1244
  let v1251 : BitVec 32 := Scalar.addi v1236 v1250
  let c8_i32_788 : BitVec 32 := 8#32
  let v1269 : BitVec 32 := Scalar.muli v1251 c8_i32_788
  let v1270 : BitVec 32 := v1269
  let v1271 : Index := Scalar.indexCast v1270
  let c0_789 : Index := 0#32
  ![v1271.toNat, 0]
def k0_mult272 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  v1270
def k0_cond421 (d0 : Dev nD) (v1258 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1259 : BitVec 1 := Scalar.cmpi .ne v1258 v2
  let true_785 : BitVec 1 := 1#1
  let v1262 : BitVec 1 := Scalar.xori v1259 true_785
  let v1263 : BitVec 32 := Scalar.extui v1262
  let c0_i32_786 : BitVec 32 := 0#32
  let v1264 : BitVec 1 := Scalar.cmpi .ne v1263 c0_i32_786
  v1264

def k0_off400 (d0 : Dev nD) (v18 : BitVec 32) (arg15 : BitVec 32) (v1153 : BitVec 32) (v1168 : BitVec 32) (v1183 : BitVec 32) (v1198 : BitVec 32) (v1213 : BitVec 32) (v1228 : BitVec 32) (v1243 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.muli v2 v18
  let c1_i32_738 : BitVec 32 := 1#32
  let v1162 : BitVec 32 := Scalar.addi arg15 c1_i32_738
  let v1154 : BitVec 1 := Scalar.cmpi .ne v1153 v2
  let v1160 : BitVec 32 := Scalar.extui v1154
  let v1163 : BitVec 32 := Scalar.subi v1162 v1160
  let c1_i32_745 : BitVec 32 := 1#32
  let v1177 : BitVec 32 := Scalar.addi v1163 c1_i32_745
  let v1169 : BitVec 1 := Scalar.cmpi .ne v1168 v2
  let v1175 : BitVec 32 := Scalar.extui v1169
  let v1178 : BitVec 32 := Scalar.subi v1177 v1175
  let c1_i32_752 : BitVec 32 := 1#32
  let v1192 : BitVec 32 := Scalar.addi v1178 c1_i32_752
  let v1184 : BitVec 1 := Scalar.cmpi .ne v1183 v2
  let v1190 : BitVec 32 := Scalar.extui v1184
  let v1193 : BitVec 32 := Scalar.subi v1192 v1190
  let c1_i32_759 : BitVec 32 := 1#32
  let v1207 : BitVec 32 := Scalar.addi v1193 c1_i32_759
  let v1199 : BitVec 1 := Scalar.cmpi .ne v1198 v2
  let v1205 : BitVec 32 := Scalar.extui v1199
  let v1208 : BitVec 32 := Scalar.subi v1207 v1205
  let c1_i32_766 : BitVec 32 := 1#32
  let v1222 : BitVec 32 := Scalar.addi v1208 c1_i32_766
  let v1214 : BitVec 1 := Scalar.cmpi .ne v1213 v2
  let v1220 : BitVec 32 := Scalar.extui v1214
  let v1223 : BitVec 32 := Scalar.subi v1222 v1220
  let c1_i32_773 : BitVec 32 := 1#32
  let v1237 : BitVec 32 := Scalar.addi v1223 c1_i32_773
  let v1229 : BitVec 1 := Scalar.cmpi .ne v1228 v2
  let v1235 : BitVec 32 := Scalar.extui v1229
  let v1238 : BitVec 32 := Scalar.subi v1237 v1235
  let c1_i32_780 : BitVec 32 := 1#32
  let v1252 : BitVec 32 := Scalar.addi v1238 c1_i32_780
  let v1244 : BitVec 1 := Scalar.cmpi .ne v1243 v2
  let v1250 : BitVec 32 := Scalar.extui v1244
  let v1253 : BitVec 32 := Scalar.subi v1252 v1250
  let v1269 : BitVec 32 := Scalar.addi v20 v1253
  let c8_i32_788 : BitVec 32 := 8#32
  let v1270 : BitVec 32 := Scalar.muli v1269 c8_i32_788
  let v1271 : BitVec 32 := v1270
  let v1272 : Index := Scalar.indexCast v1271
  let c0_789 : Index := 0#32
  ![v1272.toNat, 0]

def k0_chk128 (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) : Prop :=
  (∀ (k0_h420 : k0_cond420 d0 v1258 = 1#1), 8 ∣ (k0_mult271 d0 arg14 v1153 v1168 v1183 v1198 v1213 v1228 v1243).toNat) ∧
  (∀ (k0_h420 : k0_cond420 d0 v1258 = 1#1), ∀ a, (k0_off399 d0 arg14 v1153 v1168 v1183 v1198 v1213 v1228 v1243) a + S8x128.size a ≤ S17408x128.size a) ∧
  (∀ (k0_h421 : k0_cond421 d0 v1258 = 1#1), 8 ∣ (k0_mult272 d0 v18 arg15 v1153 v1168 v1183 v1198 v1213 v1228 v1243).toNat) ∧
  (∀ (k0_h421 : k0_cond421 d0 v1258 = 1#1), ∀ a, (k0_off400 d0 v18 arg15 v1153 v1168 v1183 v1198 v1213 v1228 v1243) a + S8x128.size a ≤ S16384x128.size a)
theorem k0_mult271_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw128 : k0_chk128 d0 v18 arg14 arg15 v1153 v1168 v1183 v1198 v1213 v1228 v1243 v1258), ∀ (k0_h420 : k0_cond420 d0 v1258 = 1#1), 8 ∣ (k0_mult271 d0 arg14 v1153 v1168 v1183 v1198 v1213 v1228 v1243).toNat := fun d0 v18 arg14 arg15 v1153 v1168 v1183 v1198 v1213 v1228 v1243 v1258 k0_hw128 k0_h420 => k0_hw128.1 k0_h420
theorem k0_off399_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw128 : k0_chk128 d0 v18 arg14 arg15 v1153 v1168 v1183 v1198 v1213 v1228 v1243 v1258), ∀ (k0_h420 : k0_cond420 d0 v1258 = 1#1), ∀ a, (k0_off399 d0 arg14 v1153 v1168 v1183 v1198 v1213 v1228 v1243) a + S8x128.size a ≤ S17408x128.size a := fun d0 v18 arg14 arg15 v1153 v1168 v1183 v1198 v1213 v1228 v1243 v1258 k0_hw128 k0_h420 => k0_hw128.2.1 k0_h420
theorem k0_mult272_dvd : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw128 : k0_chk128 d0 v18 arg14 arg15 v1153 v1168 v1183 v1198 v1213 v1228 v1243 v1258), ∀ (k0_h421 : k0_cond421 d0 v1258 = 1#1), 8 ∣ (k0_mult272 d0 v18 arg15 v1153 v1168 v1183 v1198 v1213 v1228 v1243).toNat := fun d0 v18 arg14 arg15 v1153 v1168 v1183 v1198 v1213 v1228 v1243 v1258 k0_hw128 k0_h421 => k0_hw128.2.2.1 k0_h421
theorem k0_off400_inb : ∀ (d0 : Dev nD) (v18 : BitVec 32) (arg14 : BitVec 32) (arg15 : BitVec 32) (v1153 : BitVec 32) (v1168 : BitVec 32) (v1183 : BitVec 32) (v1198 : BitVec 32) (v1213 : BitVec 32) (v1228 : BitVec 32) (v1243 : BitVec 32) (v1258 : BitVec 32) (k0_hw128 : k0_chk128 d0 v18 arg14 arg15 v1153 v1168 v1183 v1198 v1213 v1228 v1243 v1258), ∀ (k0_h421 : k0_cond421 d0 v1258 = 1#1), ∀ a, (k0_off400 d0 v18 arg15 v1153 v1168 v1183 v1198 v1213 v1228 v1243) a + S8x128.size a ≤ S16384x128.size a := fun d0 v18 arg14 arg15 v1153 v1168 v1183 v1198 v1213 v1228 v1243 v1258 k0_hw128 k0_h421 => k0_hw128.2.2.2 k0_h421

def k0_dev167 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1147 : BitVec 32 := Scalar.muli v9 c16_i32_736
  let v1148 : BitVec 32 := Scalar.addi c0_i32_737 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1149 : BitVec 32 := Scalar.muli v5 c4_i32_738
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1151 : BitVec 32 := Scalar.muli v8 c1_i32_739
  let v1152 : BitVec 32 := Scalar.addi v1150 v1151
  v1152.toNat
def k0_dev168 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev169 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev170 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev171 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev172 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev173 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev174 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev175 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev176 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev177 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev178 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev179 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev180 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev181 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev182 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev183 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v1147 : BitVec 32 := Scalar.muli v9 c16_i32_735
  let v1148 : BitVec 32 := Scalar.addi c0_i32_736 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v1149 : BitVec 32 := Scalar.muli v5 c4_i32_737
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1151 : BitVec 32 := Scalar.muli v8 c1_i32_738
  let v1152 : BitVec 32 := Scalar.addi v1150 v1151
  v1152.toNat
def k0_dev184 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_dev185 (d0 : Dev nD) : Nat :=
  let c0_i32_735 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_734 : BitVec 32 := 16#32
  let v1147 : BitVec 32 := Scalar.muli v9 c16_i32_734
  let v1148 : BitVec 32 := Scalar.addi c0_i32_735 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v1149 : BitVec 32 := Scalar.muli v5 c4_i32_736
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1151 : BitVec 32 := Scalar.muli v8 c1_i32_737
  let v1152 : BitVec 32 := Scalar.addi v1150 v1151
  v1152.toNat
def k0_mult273 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let c8_i32_730 : BitVec 32 := 8#32
  let v1142 : BitVec 32 := Scalar.muli v27 c8_i32_730
  v1142
def k0_cond441 (v18 : BitVec 32) : BitVec 1 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c1_i32_616 : BitVec 32 := 1#32
  let v988 : BitVec 1 := Scalar.cmpi .sgt v28 c1_i32_616
  let v989 : BitVec 32 := Scalar.extui v988
  let c0_i32_617 : BitVec 32 := 0#32
  let v990 : BitVec 1 := Scalar.cmpi .ne v989 c0_i32_617
  v990

def k0_off401 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let c8_i32_730 : BitVec 32 := 8#32
  let v1142 : BitVec 32 := Scalar.muli v27 c8_i32_730
  let v1143 : BitVec 32 := v1142
  let v1144 : Index := Scalar.indexCast v1143
  let c0_731 : Index := 0#32
  ![v1144.toNat, 0]
def k0_mult274 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c7_i32_730 : BitVec 32 := 7#32
  let v1142 : BitVec 32 := Scalar.shrsi v28 c7_i32_730
  let c7_i32_731 : BitVec 32 := 7#32
  let v1143 : BitVec 32 := Scalar.shli v1142 c7_i32_731
  let v1144 : BitVec 32 := Scalar.addi v27 v1143
  let c8_i32_732 : BitVec 32 := 8#32
  let v1145 : BitVec 32 := Scalar.muli v1144 c8_i32_732
  v1145
def k0_cond442 (v18 : BitVec 32) : BitVec 1 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c6_i32 : BitVec 32 := 6#32
  let v991 : BitVec 32 := Scalar.shrsi v28 c6_i32
  let c1_i32_618 : BitVec 32 := 1#32
  let v992 : BitVec 32 := Scalar.andi v991 c1_i32_618
  let c1_i32_619 : BitVec 32 := 1#32
  let v993 : BitVec 1 := Scalar.cmpi .eq v992 c1_i32_619
  let v994 : BitVec 32 := Scalar.extui v993
  let c0_i32_620 : BitVec 32 := 0#32
  let v995 : BitVec 1 := Scalar.cmpi .ne v994 c0_i32_620
  v995

def k0_mult275 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c7_i32_730 : BitVec 32 := 7#32
  let v1142 : BitVec 32 := Scalar.shrsi v28 c7_i32_730
  let c7_i32_731 : BitVec 32 := 7#32
  let v1143 : BitVec 32 := Scalar.shli v1142 c7_i32_731
  let v1144 : BitVec 32 := Scalar.addi v27 v1143
  let c8_i32_733 : BitVec 32 := 8#32
  let v1147 : BitVec 32 := Scalar.muli v1144 c8_i32_733
  v1147
def k0_off402 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c7_i32_730 : BitVec 32 := 7#32
  let v1142 : BitVec 32 := Scalar.shrsi v28 c7_i32_730
  let c7_i32_731 : BitVec 32 := 7#32
  let v1143 : BitVec 32 := Scalar.shli v1142 c7_i32_731
  let v1144 : BitVec 32 := Scalar.addi v27 v1143
  let c8_i32_733 : BitVec 32 := 8#32
  let v1147 : BitVec 32 := Scalar.muli v1144 c8_i32_733
  let v1148 : BitVec 32 := v1147
  let c0_i32_740 : BitVec 32 := 0#32
  ![v1148.toNat, 0]
def k0_off403 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c7_i32_730 : BitVec 32 := 7#32
  let v1142 : BitVec 32 := Scalar.shrsi v28 c7_i32_730
  let c7_i32_731 : BitVec 32 := 7#32
  let v1143 : BitVec 32 := Scalar.shli v1142 c7_i32_731
  let v1144 : BitVec 32 := Scalar.addi v27 v1143
  let c8_i32_732 : BitVec 32 := 8#32
  let v1145 : BitVec 32 := Scalar.muli v1144 c8_i32_732
  let v1146 : BitVec 32 := v1145
  let c0_i32_741 : BitVec 32 := 0#32
  ![v1146.toNat, 0]
def k0_dev186 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1149 : BitVec 32 := Scalar.muli v9 c16_i32_736
  let v1150 : BitVec 32 := Scalar.addi c0_i32_737 v1149
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1151 : BitVec 32 := Scalar.muli v5 c4_i32_738
  let v1152 : BitVec 32 := Scalar.addi v1150 v1151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1153 : BitVec 32 := Scalar.muli v8 c1_i32_739
  let v1154 : BitVec 32 := Scalar.addi v1152 v1153
  v1154.toNat
def k0_mult276 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c6_i32_730 : BitVec 32 := 6#32
  let v1142 : BitVec 32 := Scalar.shrsi v28 c6_i32_730
  let c6_i32_731 : BitVec 32 := 6#32
  let v1143 : BitVec 32 := Scalar.shli v1142 c6_i32_731
  let v1144 : BitVec 32 := Scalar.addi v27 v1143
  let c8_i32_732 : BitVec 32 := 8#32
  let v1145 : BitVec 32 := Scalar.muli v1144 c8_i32_732
  v1145
def k0_cond443 (v18 : BitVec 32) : BitVec 1 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c5_i32_621 : BitVec 32 := 5#32
  let v996 : BitVec 32 := Scalar.shrsi v28 c5_i32_621
  let c1_i32_622 : BitVec 32 := 1#32
  let v997 : BitVec 32 := Scalar.andi v996 c1_i32_622
  let c1_i32_623 : BitVec 32 := 1#32
  let v998 : BitVec 1 := Scalar.cmpi .eq v997 c1_i32_623
  let v999 : BitVec 32 := Scalar.extui v998
  let c0_i32_624 : BitVec 32 := 0#32
  let v1000 : BitVec 1 := Scalar.cmpi .ne v999 c0_i32_624
  v1000

def k0_mult277 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c6_i32_730 : BitVec 32 := 6#32
  let v1142 : BitVec 32 := Scalar.shrsi v28 c6_i32_730
  let c6_i32_731 : BitVec 32 := 6#32
  let v1143 : BitVec 32 := Scalar.shli v1142 c6_i32_731
  let v1144 : BitVec 32 := Scalar.addi v27 v1143
  let c8_i32_733 : BitVec 32 := 8#32
  let v1147 : BitVec 32 := Scalar.muli v1144 c8_i32_733
  v1147
def k0_off404 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c6_i32_730 : BitVec 32 := 6#32
  let v1142 : BitVec 32 := Scalar.shrsi v28 c6_i32_730
  let c6_i32_731 : BitVec 32 := 6#32
  let v1143 : BitVec 32 := Scalar.shli v1142 c6_i32_731
  let v1144 : BitVec 32 := Scalar.addi v27 v1143
  let c8_i32_733 : BitVec 32 := 8#32
  let v1147 : BitVec 32 := Scalar.muli v1144 c8_i32_733
  let v1148 : BitVec 32 := v1147
  let c0_i32_740 : BitVec 32 := 0#32
  ![v1148.toNat, 0]
def k0_off405 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c6_i32_730 : BitVec 32 := 6#32
  let v1142 : BitVec 32 := Scalar.shrsi v28 c6_i32_730
  let c6_i32_731 : BitVec 32 := 6#32
  let v1143 : BitVec 32 := Scalar.shli v1142 c6_i32_731
  let v1144 : BitVec 32 := Scalar.addi v27 v1143
  let c8_i32_732 : BitVec 32 := 8#32
  let v1145 : BitVec 32 := Scalar.muli v1144 c8_i32_732
  let v1146 : BitVec 32 := v1145
  let c0_i32_741 : BitVec 32 := 0#32
  ![v1146.toNat, 0]
def k0_dev187 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1149 : BitVec 32 := Scalar.muli v9 c16_i32_736
  let v1150 : BitVec 32 := Scalar.addi c0_i32_737 v1149
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1151 : BitVec 32 := Scalar.muli v5 c4_i32_738
  let v1152 : BitVec 32 := Scalar.addi v1150 v1151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1153 : BitVec 32 := Scalar.muli v8 c1_i32_739
  let v1154 : BitVec 32 := Scalar.addi v1152 v1153
  v1154.toNat
def k0_mult278 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c5_i32_730 : BitVec 32 := 5#32
  let v1142 : BitVec 32 := Scalar.shrsi v28 c5_i32_730
  let c5_i32_731 : BitVec 32 := 5#32
  let v1143 : BitVec 32 := Scalar.shli v1142 c5_i32_731
  let v1144 : BitVec 32 := Scalar.addi v27 v1143
  let c8_i32_732 : BitVec 32 := 8#32
  let v1145 : BitVec 32 := Scalar.muli v1144 c8_i32_732
  v1145
def k0_cond444 (v18 : BitVec 32) : BitVec 1 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c4_i32_625 : BitVec 32 := 4#32
  let v1001 : BitVec 32 := Scalar.shrsi v28 c4_i32_625
  let c1_i32_626 : BitVec 32 := 1#32
  let v1002 : BitVec 32 := Scalar.andi v1001 c1_i32_626
  let c1_i32_627 : BitVec 32 := 1#32
  let v1003 : BitVec 1 := Scalar.cmpi .eq v1002 c1_i32_627
  let v1004 : BitVec 32 := Scalar.extui v1003
  let c0_i32_628 : BitVec 32 := 0#32
  let v1005 : BitVec 1 := Scalar.cmpi .ne v1004 c0_i32_628
  v1005

def k0_mult279 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c5_i32_730 : BitVec 32 := 5#32
  let v1142 : BitVec 32 := Scalar.shrsi v28 c5_i32_730
  let c5_i32_731 : BitVec 32 := 5#32
  let v1143 : BitVec 32 := Scalar.shli v1142 c5_i32_731
  let v1144 : BitVec 32 := Scalar.addi v27 v1143
  let c8_i32_733 : BitVec 32 := 8#32
  let v1147 : BitVec 32 := Scalar.muli v1144 c8_i32_733
  v1147
def k0_off406 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c5_i32_730 : BitVec 32 := 5#32
  let v1142 : BitVec 32 := Scalar.shrsi v28 c5_i32_730
  let c5_i32_731 : BitVec 32 := 5#32
  let v1143 : BitVec 32 := Scalar.shli v1142 c5_i32_731
  let v1144 : BitVec 32 := Scalar.addi v27 v1143
  let c8_i32_733 : BitVec 32 := 8#32
  let v1147 : BitVec 32 := Scalar.muli v1144 c8_i32_733
  let v1148 : BitVec 32 := v1147
  let c0_i32_740 : BitVec 32 := 0#32
  ![v1148.toNat, 0]
def k0_off407 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c5_i32_730 : BitVec 32 := 5#32
  let v1142 : BitVec 32 := Scalar.shrsi v28 c5_i32_730
  let c5_i32_731 : BitVec 32 := 5#32
  let v1143 : BitVec 32 := Scalar.shli v1142 c5_i32_731
  let v1144 : BitVec 32 := Scalar.addi v27 v1143
  let c8_i32_732 : BitVec 32 := 8#32
  let v1145 : BitVec 32 := Scalar.muli v1144 c8_i32_732
  let v1146 : BitVec 32 := v1145
  let c0_i32_741 : BitVec 32 := 0#32
  ![v1146.toNat, 0]
def k0_dev188 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1149 : BitVec 32 := Scalar.muli v9 c16_i32_736
  let v1150 : BitVec 32 := Scalar.addi c0_i32_737 v1149
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1151 : BitVec 32 := Scalar.muli v5 c4_i32_738
  let v1152 : BitVec 32 := Scalar.addi v1150 v1151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1153 : BitVec 32 := Scalar.muli v8 c1_i32_739
  let v1154 : BitVec 32 := Scalar.addi v1152 v1153
  v1154.toNat
def k0_mult280 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c4_i32_730 : BitVec 32 := 4#32
  let v1142 : BitVec 32 := Scalar.shrsi v28 c4_i32_730
  let c4_i32_731 : BitVec 32 := 4#32
  let v1143 : BitVec 32 := Scalar.shli v1142 c4_i32_731
  let v1144 : BitVec 32 := Scalar.addi v27 v1143
  let c8_i32_732 : BitVec 32 := 8#32
  let v1145 : BitVec 32 := Scalar.muli v1144 c8_i32_732
  v1145
def k0_cond445 (v18 : BitVec 32) : BitVec 1 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c3_i32 : BitVec 32 := 3#32
  let v1006 : BitVec 32 := Scalar.shrsi v28 c3_i32
  let c1_i32_629 : BitVec 32 := 1#32
  let v1007 : BitVec 32 := Scalar.andi v1006 c1_i32_629
  let c1_i32_630 : BitVec 32 := 1#32
  let v1008 : BitVec 1 := Scalar.cmpi .eq v1007 c1_i32_630
  let v1009 : BitVec 32 := Scalar.extui v1008
  let c0_i32_631 : BitVec 32 := 0#32
  let v1010 : BitVec 1 := Scalar.cmpi .ne v1009 c0_i32_631
  v1010

def k0_mult281 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c4_i32_730 : BitVec 32 := 4#32
  let v1142 : BitVec 32 := Scalar.shrsi v28 c4_i32_730
  let c4_i32_731 : BitVec 32 := 4#32
  let v1143 : BitVec 32 := Scalar.shli v1142 c4_i32_731
  let v1144 : BitVec 32 := Scalar.addi v27 v1143
  let c8_i32_733 : BitVec 32 := 8#32
  let v1147 : BitVec 32 := Scalar.muli v1144 c8_i32_733
  v1147
def k0_off408 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c4_i32_730 : BitVec 32 := 4#32
  let v1142 : BitVec 32 := Scalar.shrsi v28 c4_i32_730
  let c4_i32_731 : BitVec 32 := 4#32
  let v1143 : BitVec 32 := Scalar.shli v1142 c4_i32_731
  let v1144 : BitVec 32 := Scalar.addi v27 v1143
  let c8_i32_733 : BitVec 32 := 8#32
  let v1147 : BitVec 32 := Scalar.muli v1144 c8_i32_733
  let v1148 : BitVec 32 := v1147
  let c0_i32_740 : BitVec 32 := 0#32
  ![v1148.toNat, 0]
def k0_off409 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c4_i32_730 : BitVec 32 := 4#32
  let v1142 : BitVec 32 := Scalar.shrsi v28 c4_i32_730
  let c4_i32_731 : BitVec 32 := 4#32
  let v1143 : BitVec 32 := Scalar.shli v1142 c4_i32_731
  let v1144 : BitVec 32 := Scalar.addi v27 v1143
  let c8_i32_732 : BitVec 32 := 8#32
  let v1145 : BitVec 32 := Scalar.muli v1144 c8_i32_732
  let v1146 : BitVec 32 := v1145
  let c0_i32_741 : BitVec 32 := 0#32
  ![v1146.toNat, 0]
def k0_dev189 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1149 : BitVec 32 := Scalar.muli v9 c16_i32_736
  let v1150 : BitVec 32 := Scalar.addi c0_i32_737 v1149
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1151 : BitVec 32 := Scalar.muli v5 c4_i32_738
  let v1152 : BitVec 32 := Scalar.addi v1150 v1151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1153 : BitVec 32 := Scalar.muli v8 c1_i32_739
  let v1154 : BitVec 32 := Scalar.addi v1152 v1153
  v1154.toNat
def k0_mult282 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c3_i32_730 : BitVec 32 := 3#32
  let v1142 : BitVec 32 := Scalar.shrsi v28 c3_i32_730
  let c3_i32_731 : BitVec 32 := 3#32
  let v1143 : BitVec 32 := Scalar.shli v1142 c3_i32_731
  let v1144 : BitVec 32 := Scalar.addi v27 v1143
  let c8_i32_732 : BitVec 32 := 8#32
  let v1145 : BitVec 32 := Scalar.muli v1144 c8_i32_732
  v1145
def k0_cond446 (v18 : BitVec 32) : BitVec 1 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c2_i32_632 : BitVec 32 := 2#32
  let v1011 : BitVec 32 := Scalar.shrsi v28 c2_i32_632
  let c1_i32_633 : BitVec 32 := 1#32
  let v1012 : BitVec 32 := Scalar.andi v1011 c1_i32_633
  let c1_i32_634 : BitVec 32 := 1#32
  let v1013 : BitVec 1 := Scalar.cmpi .eq v1012 c1_i32_634
  let v1014 : BitVec 32 := Scalar.extui v1013
  let c0_i32_635 : BitVec 32 := 0#32
  let v1015 : BitVec 1 := Scalar.cmpi .ne v1014 c0_i32_635
  v1015

def k0_mult283 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c3_i32_730 : BitVec 32 := 3#32
  let v1142 : BitVec 32 := Scalar.shrsi v28 c3_i32_730
  let c3_i32_731 : BitVec 32 := 3#32
  let v1143 : BitVec 32 := Scalar.shli v1142 c3_i32_731
  let v1144 : BitVec 32 := Scalar.addi v27 v1143
  let c8_i32_733 : BitVec 32 := 8#32
  let v1147 : BitVec 32 := Scalar.muli v1144 c8_i32_733
  v1147
def k0_off410 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c3_i32_730 : BitVec 32 := 3#32
  let v1142 : BitVec 32 := Scalar.shrsi v28 c3_i32_730
  let c3_i32_731 : BitVec 32 := 3#32
  let v1143 : BitVec 32 := Scalar.shli v1142 c3_i32_731
  let v1144 : BitVec 32 := Scalar.addi v27 v1143
  let c8_i32_733 : BitVec 32 := 8#32
  let v1147 : BitVec 32 := Scalar.muli v1144 c8_i32_733
  let v1148 : BitVec 32 := v1147
  let c0_i32_740 : BitVec 32 := 0#32
  ![v1148.toNat, 0]
def k0_off411 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c3_i32_730 : BitVec 32 := 3#32
  let v1142 : BitVec 32 := Scalar.shrsi v28 c3_i32_730
  let c3_i32_731 : BitVec 32 := 3#32
  let v1143 : BitVec 32 := Scalar.shli v1142 c3_i32_731
  let v1144 : BitVec 32 := Scalar.addi v27 v1143
  let c8_i32_732 : BitVec 32 := 8#32
  let v1145 : BitVec 32 := Scalar.muli v1144 c8_i32_732
  let v1146 : BitVec 32 := v1145
  let c0_i32_741 : BitVec 32 := 0#32
  ![v1146.toNat, 0]
def k0_dev190 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1149 : BitVec 32 := Scalar.muli v9 c16_i32_736
  let v1150 : BitVec 32 := Scalar.addi c0_i32_737 v1149
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1151 : BitVec 32 := Scalar.muli v5 c4_i32_738
  let v1152 : BitVec 32 := Scalar.addi v1150 v1151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1153 : BitVec 32 := Scalar.muli v8 c1_i32_739
  let v1154 : BitVec 32 := Scalar.addi v1152 v1153
  v1154.toNat
def k0_mult284 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c2_i32_730 : BitVec 32 := 2#32
  let v1142 : BitVec 32 := Scalar.shrsi v28 c2_i32_730
  let c2_i32_731 : BitVec 32 := 2#32
  let v1143 : BitVec 32 := Scalar.shli v1142 c2_i32_731
  let v1144 : BitVec 32 := Scalar.addi v27 v1143
  let c8_i32_732 : BitVec 32 := 8#32
  let v1145 : BitVec 32 := Scalar.muli v1144 c8_i32_732
  v1145
def k0_cond447 (v18 : BitVec 32) : BitVec 1 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c1_i32_636 : BitVec 32 := 1#32
  let v1016 : BitVec 32 := Scalar.shrsi v28 c1_i32_636
  let c1_i32_637 : BitVec 32 := 1#32
  let v1017 : BitVec 32 := Scalar.andi v1016 c1_i32_637
  let c1_i32_638 : BitVec 32 := 1#32
  let v1018 : BitVec 1 := Scalar.cmpi .eq v1017 c1_i32_638
  let v1019 : BitVec 32 := Scalar.extui v1018
  let c0_i32_639 : BitVec 32 := 0#32
  let v1020 : BitVec 1 := Scalar.cmpi .ne v1019 c0_i32_639
  v1020

def k0_mult285 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c2_i32_730 : BitVec 32 := 2#32
  let v1142 : BitVec 32 := Scalar.shrsi v28 c2_i32_730
  let c2_i32_731 : BitVec 32 := 2#32
  let v1143 : BitVec 32 := Scalar.shli v1142 c2_i32_731
  let v1144 : BitVec 32 := Scalar.addi v27 v1143
  let c8_i32_733 : BitVec 32 := 8#32
  let v1147 : BitVec 32 := Scalar.muli v1144 c8_i32_733
  v1147
def k0_off412 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c2_i32_730 : BitVec 32 := 2#32
  let v1142 : BitVec 32 := Scalar.shrsi v28 c2_i32_730
  let c2_i32_731 : BitVec 32 := 2#32
  let v1143 : BitVec 32 := Scalar.shli v1142 c2_i32_731
  let v1144 : BitVec 32 := Scalar.addi v27 v1143
  let c8_i32_733 : BitVec 32 := 8#32
  let v1147 : BitVec 32 := Scalar.muli v1144 c8_i32_733
  let v1148 : BitVec 32 := v1147
  let c0_i32_740 : BitVec 32 := 0#32
  ![v1148.toNat, 0]
def k0_off413 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c2_i32_730 : BitVec 32 := 2#32
  let v1142 : BitVec 32 := Scalar.shrsi v28 c2_i32_730
  let c2_i32_731 : BitVec 32 := 2#32
  let v1143 : BitVec 32 := Scalar.shli v1142 c2_i32_731
  let v1144 : BitVec 32 := Scalar.addi v27 v1143
  let c8_i32_732 : BitVec 32 := 8#32
  let v1145 : BitVec 32 := Scalar.muli v1144 c8_i32_732
  let v1146 : BitVec 32 := v1145
  let c0_i32_741 : BitVec 32 := 0#32
  ![v1146.toNat, 0]
def k0_dev191 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1149 : BitVec 32 := Scalar.muli v9 c16_i32_736
  let v1150 : BitVec 32 := Scalar.addi c0_i32_737 v1149
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1151 : BitVec 32 := Scalar.muli v5 c4_i32_738
  let v1152 : BitVec 32 := Scalar.addi v1150 v1151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1153 : BitVec 32 := Scalar.muli v8 c1_i32_739
  let v1154 : BitVec 32 := Scalar.addi v1152 v1153
  v1154.toNat
def k0_mult286 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c1_i32_730 : BitVec 32 := 1#32
  let v1142 : BitVec 32 := Scalar.shrsi v28 c1_i32_730
  let c1_i32_731 : BitVec 32 := 1#32
  let v1143 : BitVec 32 := Scalar.shli v1142 c1_i32_731
  let v1144 : BitVec 32 := Scalar.addi v27 v1143
  let c8_i32_732 : BitVec 32 := 8#32
  let v1145 : BitVec 32 := Scalar.muli v1144 c8_i32_732
  v1145
def k0_cond448 (v18 : BitVec 32) : BitVec 1 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c0_i32_640 : BitVec 32 := 0#32
  let v1021 : BitVec 32 := Scalar.shrsi v28 c0_i32_640
  let c1_i32_641 : BitVec 32 := 1#32
  let v1022 : BitVec 32 := Scalar.andi v1021 c1_i32_641
  let c1_i32_642 : BitVec 32 := 1#32
  let v1023 : BitVec 1 := Scalar.cmpi .eq v1022 c1_i32_642
  let v1024 : BitVec 32 := Scalar.extui v1023
  let c0_i32_643 : BitVec 32 := 0#32
  let v1025 : BitVec 1 := Scalar.cmpi .ne v1024 c0_i32_643
  v1025

def k0_mult287 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v19 : BitVec 32 := Scalar.subi c2048_i32 v18
  let v21 : BitVec 32 := Scalar.muli v2 v19
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c1_i32_730 : BitVec 32 := 1#32
  let v1142 : BitVec 32 := Scalar.shrsi v28 c1_i32_730
  let c1_i32_731 : BitVec 32 := 1#32
  let v1143 : BitVec 32 := Scalar.shli v1142 c1_i32_731
  let v1144 : BitVec 32 := Scalar.addi v27 v1143
  let v1147 : BitVec 32 := Scalar.addi v21 v1144
  let c8_i32_733 : BitVec 32 := 8#32
  let v1148 : BitVec 32 := Scalar.muli v1147 c8_i32_733
  v1148
def k0_off414 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v19 : BitVec 32 := Scalar.subi c2048_i32 v18
  let v21 : BitVec 32 := Scalar.muli v2 v19
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c1_i32_730 : BitVec 32 := 1#32
  let v1142 : BitVec 32 := Scalar.shrsi v28 c1_i32_730
  let c1_i32_731 : BitVec 32 := 1#32
  let v1143 : BitVec 32 := Scalar.shli v1142 c1_i32_731
  let v1144 : BitVec 32 := Scalar.addi v27 v1143
  let v1147 : BitVec 32 := Scalar.addi v21 v1144
  let c8_i32_733 : BitVec 32 := 8#32
  let v1148 : BitVec 32 := Scalar.muli v1147 c8_i32_733
  let v1149 : BitVec 32 := v1148
  let c0_i32_740 : BitVec 32 := 0#32
  ![v1149.toNat, 0]
def k0_off415 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c1_i32_730 : BitVec 32 := 1#32
  let v1142 : BitVec 32 := Scalar.shrsi v28 c1_i32_730
  let c1_i32_731 : BitVec 32 := 1#32
  let v1143 : BitVec 32 := Scalar.shli v1142 c1_i32_731
  let v1144 : BitVec 32 := Scalar.addi v27 v1143
  let c8_i32_732 : BitVec 32 := 8#32
  let v1145 : BitVec 32 := Scalar.muli v1144 c8_i32_732
  let v1146 : BitVec 32 := v1145
  let c0_i32_741 : BitVec 32 := 0#32
  ![v1146.toNat, 0]
def k0_dev192 (d0 : Dev nD) : Nat :=
  let c0_i32_737 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_736 : BitVec 32 := 16#32
  let v1150 : BitVec 32 := Scalar.muli v9 c16_i32_736
  let v1151 : BitVec 32 := Scalar.addi c0_i32_737 v1150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_738 : BitVec 32 := 4#32
  let v1152 : BitVec 32 := Scalar.muli v5 c4_i32_738
  let v1153 : BitVec 32 := Scalar.addi v1151 v1152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1154 : BitVec 32 := Scalar.muli v8 c1_i32_739
  let v1155 : BitVec 32 := Scalar.addi v1153 v1154
  v1155.toNat
@[reducible] def k0_t17_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c0_i32_648 : BitVec 32 := 0#32
  let c8_i32 : BitVec 32 := 8#32
  let v1028 : BitVec 32 := Scalar.addi v18 c8_i32
  let c1_i32_646 : BitVec 32 := 1#32
  let v1029 : BitVec 32 := Scalar.subi v1028 c1_i32_646
  let c3_i32_647 : BitVec 32 := 3#32
  let v1030 : BitVec 32 := Scalar.shrsi v1029 c3_i32_647
  let v1031 : BitVec 32 := Scalar.select v1026 c0_i32_648 v1030
  let c2048_i32 : BitVec 32 := 2048#32
  let v19 : BitVec 32 := Scalar.subi c2048_i32 v18
  let c3_i32_649 : BitVec 32 := 3#32
  let v1032 : BitVec 32 := Scalar.shrsi v19 c3_i32_649
  let c256_i32_650 : BitVec 32 := 256#32
  let v1033 : BitVec 32 := Scalar.select v1026 v1032 c256_i32_650
  let v1034 : BitVec 32 := Scalar.subi v1033 v1031
  let c1_i32_652 : BitVec 32 := 1#32
  let v1036 : BitVec 32 := Scalar.divsi v1034 c1_i32_652
  let v1037 : BitVec 32 := Scalar.muli v1036 c1_i32_652
  let v1038 : BitVec 32 := Scalar.addi v1031 v1037
  let c1_i32_653 : BitVec 32 := 1#32
  ⟨v1031, v1038, c1_i32_653⟩
def k0_mult288 (d0 : Dev nD) (v18 : BitVec 32) (k0_t17 : Fin (k0_t17_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c0_i32_648 : BitVec 32 := 0#32
  let c8_i32 : BitVec 32 := 8#32
  let v1028 : BitVec 32 := Scalar.addi v18 c8_i32
  let c1_i32_646 : BitVec 32 := 1#32
  let v1029 : BitVec 32 := Scalar.subi v1028 c1_i32_646
  let c3_i32_647 : BitVec 32 := 3#32
  let v1030 : BitVec 32 := Scalar.shrsi v1029 c3_i32_647
  let v1031 : BitVec 32 := Scalar.select v1026 c0_i32_648 v1030
  let c1_i32_653 : BitVec 32 := 1#32
  let arg13 : BitVec 32 := Scf.iv v1031 c1_i32_653 k0_t17
  let c8_i32_730 : BitVec 32 := 8#32
  let v1142 : BitVec 32 := Scalar.muli arg13 c8_i32_730
  let c8_i32_731 : BitVec 32 := 8#32
  let v1143 : BitVec 32 := Scalar.muli v1142 c8_i32_731
  v1143
def k0_off416 (d0 : Dev nD) (v18 : BitVec 32) (k0_t17 : Fin (k0_t17_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c0_i32_648 : BitVec 32 := 0#32
  let c8_i32 : BitVec 32 := 8#32
  let v1028 : BitVec 32 := Scalar.addi v18 c8_i32
  let c1_i32_646 : BitVec 32 := 1#32
  let v1029 : BitVec 32 := Scalar.subi v1028 c1_i32_646
  let c3_i32_647 : BitVec 32 := 3#32
  let v1030 : BitVec 32 := Scalar.shrsi v1029 c3_i32_647
  let v1031 : BitVec 32 := Scalar.select v1026 c0_i32_648 v1030
  let c1_i32_653 : BitVec 32 := 1#32
  let arg13 : BitVec 32 := Scf.iv v1031 c1_i32_653 k0_t17
  let c8_i32_730 : BitVec 32 := 8#32
  let v1142 : BitVec 32 := Scalar.muli arg13 c8_i32_730
  let c8_i32_731 : BitVec 32 := 8#32
  let v1143 : BitVec 32 := Scalar.muli v1142 c8_i32_731
  let v1144 : BitVec 32 := v1143
  let v1145 : Index := Scalar.indexCast v1144
  let c0_732 : Index := 0#32
  ![v1145.toNat, 0]
def k0_mult289 (d0 : Dev nD) (v18 : BitVec 32) (k0_t17 : Fin (k0_t17_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c0_i32_648 : BitVec 32 := 0#32
  let c8_i32 : BitVec 32 := 8#32
  let v1028 : BitVec 32 := Scalar.addi v18 c8_i32
  let c1_i32_646 : BitVec 32 := 1#32
  let v1029 : BitVec 32 := Scalar.subi v1028 c1_i32_646
  let c3_i32_647 : BitVec 32 := 3#32
  let v1030 : BitVec 32 := Scalar.shrsi v1029 c3_i32_647
  let v1031 : BitVec 32 := Scalar.select v1026 c0_i32_648 v1030
  let c1_i32_653 : BitVec 32 := 1#32
  let arg13 : BitVec 32 := Scf.iv v1031 c1_i32_653 k0_t17
  let c8_i32_733 : BitVec 32 := 8#32
  let v1148 : BitVec 32 := Scalar.muli arg13 c8_i32_733
  v1148
def k0_off417 (d0 : Dev nD) (v18 : BitVec 32) (k0_t17 : Fin (k0_t17_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c0_i32_648 : BitVec 32 := 0#32
  let c8_i32 : BitVec 32 := 8#32
  let v1028 : BitVec 32 := Scalar.addi v18 c8_i32
  let c1_i32_646 : BitVec 32 := 1#32
  let v1029 : BitVec 32 := Scalar.subi v1028 c1_i32_646
  let c3_i32_647 : BitVec 32 := 3#32
  let v1030 : BitVec 32 := Scalar.shrsi v1029 c3_i32_647
  let v1031 : BitVec 32 := Scalar.select v1026 c0_i32_648 v1030
  let c1_i32_653 : BitVec 32 := 1#32
  let arg13 : BitVec 32 := Scf.iv v1031 c1_i32_653 k0_t17
  let c8_i32_733 : BitVec 32 := 8#32
  let v1148 : BitVec 32 := Scalar.muli arg13 c8_i32_733
  let v1149 : BitVec 32 := v1148
  let v1150 : Index := Scalar.indexCast v1149
  let c0_734 : Index := 0#32
  ![v1150.toNat, 0]
@[reducible] def k0_t18_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c0_i32_648 : BitVec 32 := 0#32
  let c8_i32 : BitVec 32 := 8#32
  let v1028 : BitVec 32 := Scalar.addi v18 c8_i32
  let c1_i32_646 : BitVec 32 := 1#32
  let v1029 : BitVec 32 := Scalar.subi v1028 c1_i32_646
  let c3_i32_647 : BitVec 32 := 3#32
  let v1030 : BitVec 32 := Scalar.shrsi v1029 c3_i32_647
  let v1031 : BitVec 32 := Scalar.select v1026 c0_i32_648 v1030
  let c2048_i32 : BitVec 32 := 2048#32
  let v19 : BitVec 32 := Scalar.subi c2048_i32 v18
  let c3_i32_649 : BitVec 32 := 3#32
  let v1032 : BitVec 32 := Scalar.shrsi v19 c3_i32_649
  let c256_i32_650 : BitVec 32 := 256#32
  let v1033 : BitVec 32 := Scalar.select v1026 v1032 c256_i32_650
  let v1034 : BitVec 32 := Scalar.subi v1033 v1031
  let c1_i32_652 : BitVec 32 := 1#32
  let v1036 : BitVec 32 := Scalar.divsi v1034 c1_i32_652
  let v1037 : BitVec 32 := Scalar.muli v1036 c1_i32_652
  let v1038 : BitVec 32 := Scalar.addi v1031 v1037
  let v1035 : BitVec 32 := Scalar.addi v1031 v1034
  let c1_i32_654 : BitVec 32 := 1#32
  ⟨v1038, v1035, c1_i32_654⟩
def k0_mult290 (d0 : Dev nD) (v18 : BitVec 32) (k0_t18 : Fin (k0_t18_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c0_i32_648 : BitVec 32 := 0#32
  let c8_i32 : BitVec 32 := 8#32
  let v1028 : BitVec 32 := Scalar.addi v18 c8_i32
  let c1_i32_646 : BitVec 32 := 1#32
  let v1029 : BitVec 32 := Scalar.subi v1028 c1_i32_646
  let c3_i32_647 : BitVec 32 := 3#32
  let v1030 : BitVec 32 := Scalar.shrsi v1029 c3_i32_647
  let v1031 : BitVec 32 := Scalar.select v1026 c0_i32_648 v1030
  let c2048_i32 : BitVec 32 := 2048#32
  let v19 : BitVec 32 := Scalar.subi c2048_i32 v18
  let c3_i32_649 : BitVec 32 := 3#32
  let v1032 : BitVec 32 := Scalar.shrsi v19 c3_i32_649
  let c256_i32_650 : BitVec 32 := 256#32
  let v1033 : BitVec 32 := Scalar.select v1026 v1032 c256_i32_650
  let v1034 : BitVec 32 := Scalar.subi v1033 v1031
  let c1_i32_652 : BitVec 32 := 1#32
  let v1036 : BitVec 32 := Scalar.divsi v1034 c1_i32_652
  let v1037 : BitVec 32 := Scalar.muli v1036 c1_i32_652
  let v1038 : BitVec 32 := Scalar.addi v1031 v1037
  let c1_i32_654 : BitVec 32 := 1#32
  let arg13 : BitVec 32 := Scf.iv v1038 c1_i32_654 k0_t18
  let c8_i32_730 : BitVec 32 := 8#32
  let v1142 : BitVec 32 := Scalar.muli arg13 c8_i32_730
  let c8_i32_731 : BitVec 32 := 8#32
  let v1143 : BitVec 32 := Scalar.muli v1142 c8_i32_731
  v1143
def k0_off418 (d0 : Dev nD) (v18 : BitVec 32) (k0_t18 : Fin (k0_t18_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c0_i32_648 : BitVec 32 := 0#32
  let c8_i32 : BitVec 32 := 8#32
  let v1028 : BitVec 32 := Scalar.addi v18 c8_i32
  let c1_i32_646 : BitVec 32 := 1#32
  let v1029 : BitVec 32 := Scalar.subi v1028 c1_i32_646
  let c3_i32_647 : BitVec 32 := 3#32
  let v1030 : BitVec 32 := Scalar.shrsi v1029 c3_i32_647
  let v1031 : BitVec 32 := Scalar.select v1026 c0_i32_648 v1030
  let c2048_i32 : BitVec 32 := 2048#32
  let v19 : BitVec 32 := Scalar.subi c2048_i32 v18
  let c3_i32_649 : BitVec 32 := 3#32
  let v1032 : BitVec 32 := Scalar.shrsi v19 c3_i32_649
  let c256_i32_650 : BitVec 32 := 256#32
  let v1033 : BitVec 32 := Scalar.select v1026 v1032 c256_i32_650
  let v1034 : BitVec 32 := Scalar.subi v1033 v1031
  let c1_i32_652 : BitVec 32 := 1#32
  let v1036 : BitVec 32 := Scalar.divsi v1034 c1_i32_652
  let v1037 : BitVec 32 := Scalar.muli v1036 c1_i32_652
  let v1038 : BitVec 32 := Scalar.addi v1031 v1037
  let c1_i32_654 : BitVec 32 := 1#32
  let arg13 : BitVec 32 := Scf.iv v1038 c1_i32_654 k0_t18
  let c8_i32_730 : BitVec 32 := 8#32
  let v1142 : BitVec 32 := Scalar.muli arg13 c8_i32_730
  let c8_i32_731 : BitVec 32 := 8#32
  let v1143 : BitVec 32 := Scalar.muli v1142 c8_i32_731
  let v1144 : BitVec 32 := v1143
  let v1145 : Index := Scalar.indexCast v1144
  let c0_732 : Index := 0#32
  ![v1145.toNat, 0]
def k0_mult291 (d0 : Dev nD) (v18 : BitVec 32) (k0_t18 : Fin (k0_t18_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c0_i32_648 : BitVec 32 := 0#32
  let c8_i32 : BitVec 32 := 8#32
  let v1028 : BitVec 32 := Scalar.addi v18 c8_i32
  let c1_i32_646 : BitVec 32 := 1#32
  let v1029 : BitVec 32 := Scalar.subi v1028 c1_i32_646
  let c3_i32_647 : BitVec 32 := 3#32
  let v1030 : BitVec 32 := Scalar.shrsi v1029 c3_i32_647
  let v1031 : BitVec 32 := Scalar.select v1026 c0_i32_648 v1030
  let c2048_i32 : BitVec 32 := 2048#32
  let v19 : BitVec 32 := Scalar.subi c2048_i32 v18
  let c3_i32_649 : BitVec 32 := 3#32
  let v1032 : BitVec 32 := Scalar.shrsi v19 c3_i32_649
  let c256_i32_650 : BitVec 32 := 256#32
  let v1033 : BitVec 32 := Scalar.select v1026 v1032 c256_i32_650
  let v1034 : BitVec 32 := Scalar.subi v1033 v1031
  let c1_i32_652 : BitVec 32 := 1#32
  let v1036 : BitVec 32 := Scalar.divsi v1034 c1_i32_652
  let v1037 : BitVec 32 := Scalar.muli v1036 c1_i32_652
  let v1038 : BitVec 32 := Scalar.addi v1031 v1037
  let c1_i32_654 : BitVec 32 := 1#32
  let arg13 : BitVec 32 := Scf.iv v1038 c1_i32_654 k0_t18
  let c8_i32_733 : BitVec 32 := 8#32
  let v1148 : BitVec 32 := Scalar.muli arg13 c8_i32_733
  v1148
def k0_off419 (d0 : Dev nD) (v18 : BitVec 32) (k0_t18 : Fin (k0_t18_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c0_i32_648 : BitVec 32 := 0#32
  let c8_i32 : BitVec 32 := 8#32
  let v1028 : BitVec 32 := Scalar.addi v18 c8_i32
  let c1_i32_646 : BitVec 32 := 1#32
  let v1029 : BitVec 32 := Scalar.subi v1028 c1_i32_646
  let c3_i32_647 : BitVec 32 := 3#32
  let v1030 : BitVec 32 := Scalar.shrsi v1029 c3_i32_647
  let v1031 : BitVec 32 := Scalar.select v1026 c0_i32_648 v1030
  let c2048_i32 : BitVec 32 := 2048#32
  let v19 : BitVec 32 := Scalar.subi c2048_i32 v18
  let c3_i32_649 : BitVec 32 := 3#32
  let v1032 : BitVec 32 := Scalar.shrsi v19 c3_i32_649
  let c256_i32_650 : BitVec 32 := 256#32
  let v1033 : BitVec 32 := Scalar.select v1026 v1032 c256_i32_650
  let v1034 : BitVec 32 := Scalar.subi v1033 v1031
  let c1_i32_652 : BitVec 32 := 1#32
  let v1036 : BitVec 32 := Scalar.divsi v1034 c1_i32_652
  let v1037 : BitVec 32 := Scalar.muli v1036 c1_i32_652
  let v1038 : BitVec 32 := Scalar.addi v1031 v1037
  let c1_i32_654 : BitVec 32 := 1#32
  let arg13 : BitVec 32 := Scf.iv v1038 c1_i32_654 k0_t18
  let c8_i32_733 : BitVec 32 := 8#32
  let v1148 : BitVec 32 := Scalar.muli arg13 c8_i32_733
  let v1149 : BitVec 32 := v1148
  let v1150 : Index := Scalar.indexCast v1149
  let c0_734 : Index := 0#32
  ![v1150.toNat, 0]
def k0_mult292 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c0_i32_749 : BitVec 32 := 0#32
  let v1158 : BitVec 32 := Scalar.addi v1027 c0_i32_749
  let c8_i32_750 : BitVec 32 := 8#32
  let v1159 : BitVec 32 := Scalar.muli v1158 c8_i32_750
  v1159
def k0_cond449 (v18 : BitVec 32) : BitVec 1 :=
  let c32_i32_655 : BitVec 32 := 32#32
  let v1039 : BitVec 1 := Scalar.cmpi .sge v18 c32_i32_655
  let v1040 : BitVec 32 := Scalar.extui v1039
  let c0_i32_656 : BitVec 32 := 0#32
  let v1041 : BitVec 1 := Scalar.cmpi .ne v1040 c0_i32_656
  v1041

def k0_off420 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c0_i32_749 : BitVec 32 := 0#32
  let v1158 : BitVec 32 := Scalar.addi v1027 c0_i32_749
  let c8_i32_750 : BitVec 32 := 8#32
  let v1159 : BitVec 32 := Scalar.muli v1158 c8_i32_750
  let v1160 : BitVec 32 := v1159
  let v1161 : Index := Scalar.indexCast v1160
  let c0_751 : Index := 0#32
  ![v1161.toNat, 0]
@[reducible] def k0_t19_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c0_i32_752 : BitVec 32 := 0#32
  let v1165 : BitVec 32 := Scalar.addi v1027 c0_i32_752
  let c3_i32_753 : BitVec 32 := 3#32
  let v1166 : BitVec 32 := Scalar.shrsi v1165 c3_i32_753
  let c32_i32_754 : BitVec 32 := 32#32
  let v1167 : BitVec 32 := Scalar.addi v1027 c32_i32_754
  let c3_i32_755 : BitVec 32 := 3#32
  let v1168 : BitVec 32 := Scalar.shrsi v1167 c3_i32_755
  let v1169 : BitVec 32 := Scalar.subi v1168 v1166
  let c1_i32_757 : BitVec 32 := 1#32
  let v1171 : BitVec 32 := Scalar.divsi v1169 c1_i32_757
  let v1172 : BitVec 32 := Scalar.muli v1171 c1_i32_757
  let v1173 : BitVec 32 := Scalar.addi v1166 v1172
  let c1_i32_758 : BitVec 32 := 1#32
  ⟨v1166, v1173, c1_i32_758⟩
def k0_mult293 (d0 : Dev nD) (v18 : BitVec 32) (k0_t19 : Fin (k0_t19_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c0_i32_752 : BitVec 32 := 0#32
  let v1165 : BitVec 32 := Scalar.addi v1027 c0_i32_752
  let c3_i32_753 : BitVec 32 := 3#32
  let v1166 : BitVec 32 := Scalar.shrsi v1165 c3_i32_753
  let c1_i32_758 : BitVec 32 := 1#32
  let arg13 : BitVec 32 := Scf.iv v1166 c1_i32_758 k0_t19
  let c8_i32_760 : BitVec 32 := 8#32
  let v1174 : BitVec 32 := Scalar.muli arg13 c8_i32_760
  let c8_i32_761 : BitVec 32 := 8#32
  let v1175 : BitVec 32 := Scalar.muli v1174 c8_i32_761
  v1175
def k0_off421 (d0 : Dev nD) (v18 : BitVec 32) (k0_t19 : Fin (k0_t19_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c0_i32_752 : BitVec 32 := 0#32
  let v1165 : BitVec 32 := Scalar.addi v1027 c0_i32_752
  let c3_i32_753 : BitVec 32 := 3#32
  let v1166 : BitVec 32 := Scalar.shrsi v1165 c3_i32_753
  let c1_i32_758 : BitVec 32 := 1#32
  let arg13 : BitVec 32 := Scf.iv v1166 c1_i32_758 k0_t19
  let c8_i32_760 : BitVec 32 := 8#32
  let v1174 : BitVec 32 := Scalar.muli arg13 c8_i32_760
  let c8_i32_761 : BitVec 32 := 8#32
  let v1175 : BitVec 32 := Scalar.muli v1174 c8_i32_761
  let v1176 : BitVec 32 := v1175
  let v1177 : Index := Scalar.indexCast v1176
  let c0_762 : Index := 0#32
  ![v1177.toNat, 0]
def k0_mult294 (d0 : Dev nD) (v18 : BitVec 32) (k0_t19 : Fin (k0_t19_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c0_i32_752 : BitVec 32 := 0#32
  let v1165 : BitVec 32 := Scalar.addi v1027 c0_i32_752
  let c3_i32_753 : BitVec 32 := 3#32
  let v1166 : BitVec 32 := Scalar.shrsi v1165 c3_i32_753
  let c1_i32_758 : BitVec 32 := 1#32
  let arg13 : BitVec 32 := Scf.iv v1166 c1_i32_758 k0_t19
  let c8_i32_763 : BitVec 32 := 8#32
  let v1180 : BitVec 32 := Scalar.muli arg13 c8_i32_763
  v1180
def k0_off422 (d0 : Dev nD) (v18 : BitVec 32) (k0_t19 : Fin (k0_t19_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c0_i32_752 : BitVec 32 := 0#32
  let v1165 : BitVec 32 := Scalar.addi v1027 c0_i32_752
  let c3_i32_753 : BitVec 32 := 3#32
  let v1166 : BitVec 32 := Scalar.shrsi v1165 c3_i32_753
  let c1_i32_758 : BitVec 32 := 1#32
  let arg13 : BitVec 32 := Scf.iv v1166 c1_i32_758 k0_t19
  let c8_i32_763 : BitVec 32 := 8#32
  let v1180 : BitVec 32 := Scalar.muli arg13 c8_i32_763
  let v1181 : BitVec 32 := v1180
  let v1182 : Index := Scalar.indexCast v1181
  let c0_764 : Index := 0#32
  ![v1182.toNat, 0]
@[reducible] def k0_t20_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c0_i32_752 : BitVec 32 := 0#32
  let v1165 : BitVec 32 := Scalar.addi v1027 c0_i32_752
  let c3_i32_753 : BitVec 32 := 3#32
  let v1166 : BitVec 32 := Scalar.shrsi v1165 c3_i32_753
  let c32_i32_754 : BitVec 32 := 32#32
  let v1167 : BitVec 32 := Scalar.addi v1027 c32_i32_754
  let c3_i32_755 : BitVec 32 := 3#32
  let v1168 : BitVec 32 := Scalar.shrsi v1167 c3_i32_755
  let v1169 : BitVec 32 := Scalar.subi v1168 v1166
  let c1_i32_757 : BitVec 32 := 1#32
  let v1171 : BitVec 32 := Scalar.divsi v1169 c1_i32_757
  let v1172 : BitVec 32 := Scalar.muli v1171 c1_i32_757
  let v1173 : BitVec 32 := Scalar.addi v1166 v1172
  let v1170 : BitVec 32 := Scalar.addi v1166 v1169
  let c1_i32_759 : BitVec 32 := 1#32
  ⟨v1173, v1170, c1_i32_759⟩
def k0_mult295 (d0 : Dev nD) (v18 : BitVec 32) (k0_t20 : Fin (k0_t20_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c0_i32_752 : BitVec 32 := 0#32
  let v1165 : BitVec 32 := Scalar.addi v1027 c0_i32_752
  let c3_i32_753 : BitVec 32 := 3#32
  let v1166 : BitVec 32 := Scalar.shrsi v1165 c3_i32_753
  let c32_i32_754 : BitVec 32 := 32#32
  let v1167 : BitVec 32 := Scalar.addi v1027 c32_i32_754
  let c3_i32_755 : BitVec 32 := 3#32
  let v1168 : BitVec 32 := Scalar.shrsi v1167 c3_i32_755
  let v1169 : BitVec 32 := Scalar.subi v1168 v1166
  let c1_i32_757 : BitVec 32 := 1#32
  let v1171 : BitVec 32 := Scalar.divsi v1169 c1_i32_757
  let v1172 : BitVec 32 := Scalar.muli v1171 c1_i32_757
  let v1173 : BitVec 32 := Scalar.addi v1166 v1172
  let c1_i32_759 : BitVec 32 := 1#32
  let arg13 : BitVec 32 := Scf.iv v1173 c1_i32_759 k0_t20
  let c8_i32_760 : BitVec 32 := 8#32
  let v1174 : BitVec 32 := Scalar.muli arg13 c8_i32_760
  let c8_i32_761 : BitVec 32 := 8#32
  let v1175 : BitVec 32 := Scalar.muli v1174 c8_i32_761
  v1175
def k0_off423 (d0 : Dev nD) (v18 : BitVec 32) (k0_t20 : Fin (k0_t20_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c0_i32_752 : BitVec 32 := 0#32
  let v1165 : BitVec 32 := Scalar.addi v1027 c0_i32_752
  let c3_i32_753 : BitVec 32 := 3#32
  let v1166 : BitVec 32 := Scalar.shrsi v1165 c3_i32_753
  let c32_i32_754 : BitVec 32 := 32#32
  let v1167 : BitVec 32 := Scalar.addi v1027 c32_i32_754
  let c3_i32_755 : BitVec 32 := 3#32
  let v1168 : BitVec 32 := Scalar.shrsi v1167 c3_i32_755
  let v1169 : BitVec 32 := Scalar.subi v1168 v1166
  let c1_i32_757 : BitVec 32 := 1#32
  let v1171 : BitVec 32 := Scalar.divsi v1169 c1_i32_757
  let v1172 : BitVec 32 := Scalar.muli v1171 c1_i32_757
  let v1173 : BitVec 32 := Scalar.addi v1166 v1172
  let c1_i32_759 : BitVec 32 := 1#32
  let arg13 : BitVec 32 := Scf.iv v1173 c1_i32_759 k0_t20
  let c8_i32_760 : BitVec 32 := 8#32
  let v1174 : BitVec 32 := Scalar.muli arg13 c8_i32_760
  let c8_i32_761 : BitVec 32 := 8#32
  let v1175 : BitVec 32 := Scalar.muli v1174 c8_i32_761
  let v1176 : BitVec 32 := v1175
  let v1177 : Index := Scalar.indexCast v1176
  let c0_762 : Index := 0#32
  ![v1177.toNat, 0]
def k0_mult296 (d0 : Dev nD) (v18 : BitVec 32) (k0_t20 : Fin (k0_t20_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c0_i32_752 : BitVec 32 := 0#32
  let v1165 : BitVec 32 := Scalar.addi v1027 c0_i32_752
  let c3_i32_753 : BitVec 32 := 3#32
  let v1166 : BitVec 32 := Scalar.shrsi v1165 c3_i32_753
  let c32_i32_754 : BitVec 32 := 32#32
  let v1167 : BitVec 32 := Scalar.addi v1027 c32_i32_754
  let c3_i32_755 : BitVec 32 := 3#32
  let v1168 : BitVec 32 := Scalar.shrsi v1167 c3_i32_755
  let v1169 : BitVec 32 := Scalar.subi v1168 v1166
  let c1_i32_757 : BitVec 32 := 1#32
  let v1171 : BitVec 32 := Scalar.divsi v1169 c1_i32_757
  let v1172 : BitVec 32 := Scalar.muli v1171 c1_i32_757
  let v1173 : BitVec 32 := Scalar.addi v1166 v1172
  let c1_i32_759 : BitVec 32 := 1#32
  let arg13 : BitVec 32 := Scf.iv v1173 c1_i32_759 k0_t20
  let c8_i32_763 : BitVec 32 := 8#32
  let v1180 : BitVec 32 := Scalar.muli arg13 c8_i32_763
  v1180
def k0_off424 (d0 : Dev nD) (v18 : BitVec 32) (k0_t20 : Fin (k0_t20_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c0_i32_752 : BitVec 32 := 0#32
  let v1165 : BitVec 32 := Scalar.addi v1027 c0_i32_752
  let c3_i32_753 : BitVec 32 := 3#32
  let v1166 : BitVec 32 := Scalar.shrsi v1165 c3_i32_753
  let c32_i32_754 : BitVec 32 := 32#32
  let v1167 : BitVec 32 := Scalar.addi v1027 c32_i32_754
  let c3_i32_755 : BitVec 32 := 3#32
  let v1168 : BitVec 32 := Scalar.shrsi v1167 c3_i32_755
  let v1169 : BitVec 32 := Scalar.subi v1168 v1166
  let c1_i32_757 : BitVec 32 := 1#32
  let v1171 : BitVec 32 := Scalar.divsi v1169 c1_i32_757
  let v1172 : BitVec 32 := Scalar.muli v1171 c1_i32_757
  let v1173 : BitVec 32 := Scalar.addi v1166 v1172
  let c1_i32_759 : BitVec 32 := 1#32
  let arg13 : BitVec 32 := Scf.iv v1173 c1_i32_759 k0_t20
  let c8_i32_763 : BitVec 32 := 8#32
  let v1180 : BitVec 32 := Scalar.muli arg13 c8_i32_763
  let v1181 : BitVec 32 := v1180
  let v1182 : Index := Scalar.indexCast v1181
  let c0_764 : Index := 0#32
  ![v1182.toNat, 0]
def k0_mult297 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c32_i32_748 : BitVec 32 := 32#32
  let v1158 : BitVec 32 := Scalar.addi v1027 c32_i32_748
  let c8_i32_749 : BitVec 32 := 8#32
  let v1159 : BitVec 32 := Scalar.muli v1158 c8_i32_749
  v1159
def k0_cond450 (v18 : BitVec 32) : BitVec 1 :=
  let c64_i32_657 : BitVec 32 := 64#32
  let v1042 : BitVec 1 := Scalar.cmpi .sge v18 c64_i32_657
  let v1043 : BitVec 32 := Scalar.extui v1042
  let c0_i32_658 : BitVec 32 := 0#32
  let v1044 : BitVec 1 := Scalar.cmpi .ne v1043 c0_i32_658
  v1044

def k0_off425 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c32_i32_748 : BitVec 32 := 32#32
  let v1158 : BitVec 32 := Scalar.addi v1027 c32_i32_748
  let c8_i32_749 : BitVec 32 := 8#32
  let v1159 : BitVec 32 := Scalar.muli v1158 c8_i32_749
  let v1160 : BitVec 32 := v1159
  let v1161 : Index := Scalar.indexCast v1160
  let c0_750 : Index := 0#32
  ![v1161.toNat, 0]
@[reducible] def k0_t21_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c32_i32_751 : BitVec 32 := 32#32
  let v1165 : BitVec 32 := Scalar.addi v1027 c32_i32_751
  let c3_i32_752 : BitVec 32 := 3#32
  let v1166 : BitVec 32 := Scalar.shrsi v1165 c3_i32_752
  let c64_i32_753 : BitVec 32 := 64#32
  let v1167 : BitVec 32 := Scalar.addi v1027 c64_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_757 : BitVec 32 := 1#32
  ⟨v1166, v1173, c1_i32_757⟩
def k0_mult298 (d0 : Dev nD) (v18 : BitVec 32) (k0_t21 : Fin (k0_t21_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c32_i32_751 : BitVec 32 := 32#32
  let v1165 : BitVec 32 := Scalar.addi v1027 c32_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t21
  let c8_i32_759 : BitVec 32 := 8#32
  let v1174 : BitVec 32 := Scalar.muli arg13 c8_i32_759
  let c8_i32_760 : BitVec 32 := 8#32
  let v1175 : BitVec 32 := Scalar.muli v1174 c8_i32_760
  v1175
def k0_off426 (d0 : Dev nD) (v18 : BitVec 32) (k0_t21 : Fin (k0_t21_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c32_i32_751 : BitVec 32 := 32#32
  let v1165 : BitVec 32 := Scalar.addi v1027 c32_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t21
  let c8_i32_759 : BitVec 32 := 8#32
  let v1174 : BitVec 32 := Scalar.muli arg13 c8_i32_759
  let c8_i32_760 : BitVec 32 := 8#32
  let v1175 : BitVec 32 := Scalar.muli v1174 c8_i32_760
  let v1176 : BitVec 32 := v1175
  let v1177 : Index := Scalar.indexCast v1176
  let c0_761 : Index := 0#32
  ![v1177.toNat, 0]
def k0_mult299 (d0 : Dev nD) (v18 : BitVec 32) (k0_t21 : Fin (k0_t21_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c32_i32_751 : BitVec 32 := 32#32
  let v1165 : BitVec 32 := Scalar.addi v1027 c32_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t21
  let c8_i32_762 : BitVec 32 := 8#32
  let v1180 : BitVec 32 := Scalar.muli arg13 c8_i32_762
  v1180
def k0_off427 (d0 : Dev nD) (v18 : BitVec 32) (k0_t21 : Fin (k0_t21_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c32_i32_751 : BitVec 32 := 32#32
  let v1165 : BitVec 32 := Scalar.addi v1027 c32_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t21
  let c8_i32_762 : BitVec 32 := 8#32
  let v1180 : BitVec 32 := Scalar.muli arg13 c8_i32_762
  let v1181 : BitVec 32 := v1180
  let v1182 : Index := Scalar.indexCast v1181
  let c0_763 : Index := 0#32
  ![v1182.toNat, 0]
@[reducible] def k0_t22_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c32_i32_751 : BitVec 32 := 32#32
  let v1165 : BitVec 32 := Scalar.addi v1027 c32_i32_751
  let c3_i32_752 : BitVec 32 := 3#32
  let v1166 : BitVec 32 := Scalar.shrsi v1165 c3_i32_752
  let c64_i32_753 : BitVec 32 := 64#32
  let v1167 : BitVec 32 := Scalar.addi v1027 c64_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let v1170 : BitVec 32 := Scalar.addi v1166 v1169
  let c1_i32_758 : BitVec 32 := 1#32
  ⟨v1173, v1170, c1_i32_758⟩
def k0_mult300 (d0 : Dev nD) (v18 : BitVec 32) (k0_t22 : Fin (k0_t22_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c32_i32_751 : BitVec 32 := 32#32
  let v1165 : BitVec 32 := Scalar.addi v1027 c32_i32_751
  let c3_i32_752 : BitVec 32 := 3#32
  let v1166 : BitVec 32 := Scalar.shrsi v1165 c3_i32_752
  let c64_i32_753 : BitVec 32 := 64#32
  let v1167 : BitVec 32 := Scalar.addi v1027 c64_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t22
  let c8_i32_759 : BitVec 32 := 8#32
  let v1174 : BitVec 32 := Scalar.muli arg13 c8_i32_759
  let c8_i32_760 : BitVec 32 := 8#32
  let v1175 : BitVec 32 := Scalar.muli v1174 c8_i32_760
  v1175
def k0_off428 (d0 : Dev nD) (v18 : BitVec 32) (k0_t22 : Fin (k0_t22_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c32_i32_751 : BitVec 32 := 32#32
  let v1165 : BitVec 32 := Scalar.addi v1027 c32_i32_751
  let c3_i32_752 : BitVec 32 := 3#32
  let v1166 : BitVec 32 := Scalar.shrsi v1165 c3_i32_752
  let c64_i32_753 : BitVec 32 := 64#32
  let v1167 : BitVec 32 := Scalar.addi v1027 c64_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t22
  let c8_i32_759 : BitVec 32 := 8#32
  let v1174 : BitVec 32 := Scalar.muli arg13 c8_i32_759
  let c8_i32_760 : BitVec 32 := 8#32
  let v1175 : BitVec 32 := Scalar.muli v1174 c8_i32_760
  let v1176 : BitVec 32 := v1175
  let v1177 : Index := Scalar.indexCast v1176
  let c0_761 : Index := 0#32
  ![v1177.toNat, 0]
def k0_mult301 (d0 : Dev nD) (v18 : BitVec 32) (k0_t22 : Fin (k0_t22_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c32_i32_751 : BitVec 32 := 32#32
  let v1165 : BitVec 32 := Scalar.addi v1027 c32_i32_751
  let c3_i32_752 : BitVec 32 := 3#32
  let v1166 : BitVec 32 := Scalar.shrsi v1165 c3_i32_752
  let c64_i32_753 : BitVec 32 := 64#32
  let v1167 : BitVec 32 := Scalar.addi v1027 c64_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t22
  let c8_i32_762 : BitVec 32 := 8#32
  let v1180 : BitVec 32 := Scalar.muli arg13 c8_i32_762
  v1180
def k0_off429 (d0 : Dev nD) (v18 : BitVec 32) (k0_t22 : Fin (k0_t22_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c32_i32_751 : BitVec 32 := 32#32
  let v1165 : BitVec 32 := Scalar.addi v1027 c32_i32_751
  let c3_i32_752 : BitVec 32 := 3#32
  let v1166 : BitVec 32 := Scalar.shrsi v1165 c3_i32_752
  let c64_i32_753 : BitVec 32 := 64#32
  let v1167 : BitVec 32 := Scalar.addi v1027 c64_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t22
  let c8_i32_762 : BitVec 32 := 8#32
  let v1180 : BitVec 32 := Scalar.muli arg13 c8_i32_762
  let v1181 : BitVec 32 := v1180
  let v1182 : Index := Scalar.indexCast v1181
  let c0_763 : Index := 0#32
  ![v1182.toNat, 0]
def k0_mult302 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c64_i32_748 : BitVec 32 := 64#32
  let v1158 : BitVec 32 := Scalar.addi v1027 c64_i32_748
  let c8_i32_749 : BitVec 32 := 8#32
  let v1159 : BitVec 32 := Scalar.muli v1158 c8_i32_749
  v1159
def k0_cond451 (v18 : BitVec 32) : BitVec 1 :=
  let c96_i32_659 : BitVec 32 := 96#32
  let v1045 : BitVec 1 := Scalar.cmpi .sge v18 c96_i32_659
  let v1046 : BitVec 32 := Scalar.extui v1045
  let c0_i32_660 : BitVec 32 := 0#32
  let v1047 : BitVec 1 := Scalar.cmpi .ne v1046 c0_i32_660
  v1047

def k0_off430 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c64_i32_748 : BitVec 32 := 64#32
  let v1158 : BitVec 32 := Scalar.addi v1027 c64_i32_748
  let c8_i32_749 : BitVec 32 := 8#32
  let v1159 : BitVec 32 := Scalar.muli v1158 c8_i32_749
  let v1160 : BitVec 32 := v1159
  let v1161 : Index := Scalar.indexCast v1160
  let c0_750 : Index := 0#32
  ![v1161.toNat, 0]
@[reducible] def k0_t23_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c64_i32_751 : BitVec 32 := 64#32
  let v1165 : BitVec 32 := Scalar.addi v1027 c64_i32_751
  let c3_i32_752 : BitVec 32 := 3#32
  let v1166 : BitVec 32 := Scalar.shrsi v1165 c3_i32_752
  let c96_i32_753 : BitVec 32 := 96#32
  let v1167 : BitVec 32 := Scalar.addi v1027 c96_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_757 : BitVec 32 := 1#32
  ⟨v1166, v1173, c1_i32_757⟩
def k0_mult303 (d0 : Dev nD) (v18 : BitVec 32) (k0_t23 : Fin (k0_t23_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c64_i32_751 : BitVec 32 := 64#32
  let v1165 : BitVec 32 := Scalar.addi v1027 c64_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t23
  let c8_i32_759 : BitVec 32 := 8#32
  let v1174 : BitVec 32 := Scalar.muli arg13 c8_i32_759
  let c8_i32_760 : BitVec 32 := 8#32
  let v1175 : BitVec 32 := Scalar.muli v1174 c8_i32_760
  v1175
def k0_off431 (d0 : Dev nD) (v18 : BitVec 32) (k0_t23 : Fin (k0_t23_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c64_i32_751 : BitVec 32 := 64#32
  let v1165 : BitVec 32 := Scalar.addi v1027 c64_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t23
  let c8_i32_759 : BitVec 32 := 8#32
  let v1174 : BitVec 32 := Scalar.muli arg13 c8_i32_759
  let c8_i32_760 : BitVec 32 := 8#32
  let v1175 : BitVec 32 := Scalar.muli v1174 c8_i32_760
  let v1176 : BitVec 32 := v1175
  let v1177 : Index := Scalar.indexCast v1176
  let c0_761 : Index := 0#32
  ![v1177.toNat, 0]
def k0_mult304 (d0 : Dev nD) (v18 : BitVec 32) (k0_t23 : Fin (k0_t23_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c64_i32_751 : BitVec 32 := 64#32
  let v1165 : BitVec 32 := Scalar.addi v1027 c64_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t23
  let c8_i32_762 : BitVec 32 := 8#32
  let v1180 : BitVec 32 := Scalar.muli arg13 c8_i32_762
  v1180
def k0_off432 (d0 : Dev nD) (v18 : BitVec 32) (k0_t23 : Fin (k0_t23_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c64_i32_751 : BitVec 32 := 64#32
  let v1165 : BitVec 32 := Scalar.addi v1027 c64_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t23
  let c8_i32_762 : BitVec 32 := 8#32
  let v1180 : BitVec 32 := Scalar.muli arg13 c8_i32_762
  let v1181 : BitVec 32 := v1180
  let v1182 : Index := Scalar.indexCast v1181
  let c0_763 : Index := 0#32
  ![v1182.toNat, 0]
@[reducible] def k0_t24_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c64_i32_751 : BitVec 32 := 64#32
  let v1165 : BitVec 32 := Scalar.addi v1027 c64_i32_751
  let c3_i32_752 : BitVec 32 := 3#32
  let v1166 : BitVec 32 := Scalar.shrsi v1165 c3_i32_752
  let c96_i32_753 : BitVec 32 := 96#32
  let v1167 : BitVec 32 := Scalar.addi v1027 c96_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let v1170 : BitVec 32 := Scalar.addi v1166 v1169
  let c1_i32_758 : BitVec 32 := 1#32
  ⟨v1173, v1170, c1_i32_758⟩
def k0_mult305 (d0 : Dev nD) (v18 : BitVec 32) (k0_t24 : Fin (k0_t24_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c64_i32_751 : BitVec 32 := 64#32
  let v1165 : BitVec 32 := Scalar.addi v1027 c64_i32_751
  let c3_i32_752 : BitVec 32 := 3#32
  let v1166 : BitVec 32 := Scalar.shrsi v1165 c3_i32_752
  let c96_i32_753 : BitVec 32 := 96#32
  let v1167 : BitVec 32 := Scalar.addi v1027 c96_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t24
  let c8_i32_759 : BitVec 32 := 8#32
  let v1174 : BitVec 32 := Scalar.muli arg13 c8_i32_759
  let c8_i32_760 : BitVec 32 := 8#32
  let v1175 : BitVec 32 := Scalar.muli v1174 c8_i32_760
  v1175
def k0_off433 (d0 : Dev nD) (v18 : BitVec 32) (k0_t24 : Fin (k0_t24_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c64_i32_751 : BitVec 32 := 64#32
  let v1165 : BitVec 32 := Scalar.addi v1027 c64_i32_751
  let c3_i32_752 : BitVec 32 := 3#32
  let v1166 : BitVec 32 := Scalar.shrsi v1165 c3_i32_752
  let c96_i32_753 : BitVec 32 := 96#32
  let v1167 : BitVec 32 := Scalar.addi v1027 c96_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t24
  let c8_i32_759 : BitVec 32 := 8#32
  let v1174 : BitVec 32 := Scalar.muli arg13 c8_i32_759
  let c8_i32_760 : BitVec 32 := 8#32
  let v1175 : BitVec 32 := Scalar.muli v1174 c8_i32_760
  let v1176 : BitVec 32 := v1175
  let v1177 : Index := Scalar.indexCast v1176
  let c0_761 : Index := 0#32
  ![v1177.toNat, 0]
def k0_mult306 (d0 : Dev nD) (v18 : BitVec 32) (k0_t24 : Fin (k0_t24_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c64_i32_751 : BitVec 32 := 64#32
  let v1165 : BitVec 32 := Scalar.addi v1027 c64_i32_751
  let c3_i32_752 : BitVec 32 := 3#32
  let v1166 : BitVec 32 := Scalar.shrsi v1165 c3_i32_752
  let c96_i32_753 : BitVec 32 := 96#32
  let v1167 : BitVec 32 := Scalar.addi v1027 c96_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t24
  let c8_i32_762 : BitVec 32 := 8#32
  let v1180 : BitVec 32 := Scalar.muli arg13 c8_i32_762
  v1180
def k0_off434 (d0 : Dev nD) (v18 : BitVec 32) (k0_t24 : Fin (k0_t24_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c64_i32_751 : BitVec 32 := 64#32
  let v1165 : BitVec 32 := Scalar.addi v1027 c64_i32_751
  let c3_i32_752 : BitVec 32 := 3#32
  let v1166 : BitVec 32 := Scalar.shrsi v1165 c3_i32_752
  let c96_i32_753 : BitVec 32 := 96#32
  let v1167 : BitVec 32 := Scalar.addi v1027 c96_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t24
  let c8_i32_762 : BitVec 32 := 8#32
  let v1180 : BitVec 32 := Scalar.muli arg13 c8_i32_762
  let v1181 : BitVec 32 := v1180
  let v1182 : Index := Scalar.indexCast v1181
  let c0_763 : Index := 0#32
  ![v1182.toNat, 0]
def k0_mult307 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c96_i32_748 : BitVec 32 := 96#32
  let v1158 : BitVec 32 := Scalar.addi v1027 c96_i32_748
  let c8_i32_749 : BitVec 32 := 8#32
  let v1159 : BitVec 32 := Scalar.muli v1158 c8_i32_749
  v1159
def k0_cond452 (v18 : BitVec 32) : BitVec 1 :=
  let c128_i32_661 : BitVec 32 := 128#32
  let v1048 : BitVec 1 := Scalar.cmpi .sge v18 c128_i32_661
  let v1049 : BitVec 32 := Scalar.extui v1048
  let c0_i32_662 : BitVec 32 := 0#32
  let v1050 : BitVec 1 := Scalar.cmpi .ne v1049 c0_i32_662
  v1050

def k0_off435 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c96_i32_748 : BitVec 32 := 96#32
  let v1158 : BitVec 32 := Scalar.addi v1027 c96_i32_748
  let c8_i32_749 : BitVec 32 := 8#32
  let v1159 : BitVec 32 := Scalar.muli v1158 c8_i32_749
  let v1160 : BitVec 32 := v1159
  let v1161 : Index := Scalar.indexCast v1160
  let c0_750 : Index := 0#32
  ![v1161.toNat, 0]
@[reducible] def k0_t25_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c96_i32_751 : BitVec 32 := 96#32
  let v1165 : BitVec 32 := Scalar.addi v1027 c96_i32_751
  let c3_i32_752 : BitVec 32 := 3#32
  let v1166 : BitVec 32 := Scalar.shrsi v1165 c3_i32_752
  let c128_i32_753 : BitVec 32 := 128#32
  let v1167 : BitVec 32 := Scalar.addi v1027 c128_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_757 : BitVec 32 := 1#32
  ⟨v1166, v1173, c1_i32_757⟩
def k0_mult308 (d0 : Dev nD) (v18 : BitVec 32) (k0_t25 : Fin (k0_t25_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c96_i32_751 : BitVec 32 := 96#32
  let v1165 : BitVec 32 := Scalar.addi v1027 c96_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t25
  let c8_i32_759 : BitVec 32 := 8#32
  let v1174 : BitVec 32 := Scalar.muli arg13 c8_i32_759
  let c8_i32_760 : BitVec 32 := 8#32
  let v1175 : BitVec 32 := Scalar.muli v1174 c8_i32_760
  v1175
def k0_off436 (d0 : Dev nD) (v18 : BitVec 32) (k0_t25 : Fin (k0_t25_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c96_i32_751 : BitVec 32 := 96#32
  let v1165 : BitVec 32 := Scalar.addi v1027 c96_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t25
  let c8_i32_759 : BitVec 32 := 8#32
  let v1174 : BitVec 32 := Scalar.muli arg13 c8_i32_759
  let c8_i32_760 : BitVec 32 := 8#32
  let v1175 : BitVec 32 := Scalar.muli v1174 c8_i32_760
  let v1176 : BitVec 32 := v1175
  let v1177 : Index := Scalar.indexCast v1176
  let c0_761 : Index := 0#32
  ![v1177.toNat, 0]
def k0_mult309 (d0 : Dev nD) (v18 : BitVec 32) (k0_t25 : Fin (k0_t25_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c96_i32_751 : BitVec 32 := 96#32
  let v1165 : BitVec 32 := Scalar.addi v1027 c96_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t25
  let c8_i32_762 : BitVec 32 := 8#32
  let v1180 : BitVec 32 := Scalar.muli arg13 c8_i32_762
  v1180
def k0_off437 (d0 : Dev nD) (v18 : BitVec 32) (k0_t25 : Fin (k0_t25_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c96_i32_751 : BitVec 32 := 96#32
  let v1165 : BitVec 32 := Scalar.addi v1027 c96_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t25
  let c8_i32_762 : BitVec 32 := 8#32
  let v1180 : BitVec 32 := Scalar.muli arg13 c8_i32_762
  let v1181 : BitVec 32 := v1180
  let v1182 : Index := Scalar.indexCast v1181
  let c0_763 : Index := 0#32
  ![v1182.toNat, 0]
@[reducible] def k0_t26_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c96_i32_751 : BitVec 32 := 96#32
  let v1165 : BitVec 32 := Scalar.addi v1027 c96_i32_751
  let c3_i32_752 : BitVec 32 := 3#32
  let v1166 : BitVec 32 := Scalar.shrsi v1165 c3_i32_752
  let c128_i32_753 : BitVec 32 := 128#32
  let v1167 : BitVec 32 := Scalar.addi v1027 c128_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let v1170 : BitVec 32 := Scalar.addi v1166 v1169
  let c1_i32_758 : BitVec 32 := 1#32
  ⟨v1173, v1170, c1_i32_758⟩
def k0_mult310 (d0 : Dev nD) (v18 : BitVec 32) (k0_t26 : Fin (k0_t26_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c96_i32_751 : BitVec 32 := 96#32
  let v1165 : BitVec 32 := Scalar.addi v1027 c96_i32_751
  let c3_i32_752 : BitVec 32 := 3#32
  let v1166 : BitVec 32 := Scalar.shrsi v1165 c3_i32_752
  let c128_i32_753 : BitVec 32 := 128#32
  let v1167 : BitVec 32 := Scalar.addi v1027 c128_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t26
  let c8_i32_759 : BitVec 32 := 8#32
  let v1174 : BitVec 32 := Scalar.muli arg13 c8_i32_759
  let c8_i32_760 : BitVec 32 := 8#32
  let v1175 : BitVec 32 := Scalar.muli v1174 c8_i32_760
  v1175
def k0_off438 (d0 : Dev nD) (v18 : BitVec 32) (k0_t26 : Fin (k0_t26_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c96_i32_751 : BitVec 32 := 96#32
  let v1165 : BitVec 32 := Scalar.addi v1027 c96_i32_751
  let c3_i32_752 : BitVec 32 := 3#32
  let v1166 : BitVec 32 := Scalar.shrsi v1165 c3_i32_752
  let c128_i32_753 : BitVec 32 := 128#32
  let v1167 : BitVec 32 := Scalar.addi v1027 c128_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t26
  let c8_i32_759 : BitVec 32 := 8#32
  let v1174 : BitVec 32 := Scalar.muli arg13 c8_i32_759
  let c8_i32_760 : BitVec 32 := 8#32
  let v1175 : BitVec 32 := Scalar.muli v1174 c8_i32_760
  let v1176 : BitVec 32 := v1175
  let v1177 : Index := Scalar.indexCast v1176
  let c0_761 : Index := 0#32
  ![v1177.toNat, 0]
def k0_mult311 (d0 : Dev nD) (v18 : BitVec 32) (k0_t26 : Fin (k0_t26_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c96_i32_751 : BitVec 32 := 96#32
  let v1165 : BitVec 32 := Scalar.addi v1027 c96_i32_751
  let c3_i32_752 : BitVec 32 := 3#32
  let v1166 : BitVec 32 := Scalar.shrsi v1165 c3_i32_752
  let c128_i32_753 : BitVec 32 := 128#32
  let v1167 : BitVec 32 := Scalar.addi v1027 c128_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t26
  let c8_i32_762 : BitVec 32 := 8#32
  let v1180 : BitVec 32 := Scalar.muli arg13 c8_i32_762
  v1180
def k0_off439 (d0 : Dev nD) (v18 : BitVec 32) (k0_t26 : Fin (k0_t26_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c96_i32_751 : BitVec 32 := 96#32
  let v1165 : BitVec 32 := Scalar.addi v1027 c96_i32_751
  let c3_i32_752 : BitVec 32 := 3#32
  let v1166 : BitVec 32 := Scalar.shrsi v1165 c3_i32_752
  let c128_i32_753 : BitVec 32 := 128#32
  let v1167 : BitVec 32 := Scalar.addi v1027 c128_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t26
  let c8_i32_762 : BitVec 32 := 8#32
  let v1180 : BitVec 32 := Scalar.muli arg13 c8_i32_762
  let v1181 : BitVec 32 := v1180
  let v1182 : Index := Scalar.indexCast v1181
  let c0_763 : Index := 0#32
  ![v1182.toNat, 0]
def k0_mult312 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32_748 : BitVec 32 := 128#32
  let v1158 : BitVec 32 := Scalar.addi v1027 c128_i32_748
  let c8_i32_749 : BitVec 32 := 8#32
  let v1159 : BitVec 32 := Scalar.muli v1158 c8_i32_749
  v1159
def k0_cond453 (v18 : BitVec 32) : BitVec 1 :=
  let c256_i32_663 : BitVec 32 := 256#32
  let v1051 : BitVec 1 := Scalar.cmpi .sge v18 c256_i32_663
  let v1052 : BitVec 32 := Scalar.extui v1051
  let c0_i32_664 : BitVec 32 := 0#32
  let v1053 : BitVec 1 := Scalar.cmpi .ne v1052 c0_i32_664
  v1053

def k0_off440 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32_748 : BitVec 32 := 128#32
  let v1158 : BitVec 32 := Scalar.addi v1027 c128_i32_748
  let c8_i32_749 : BitVec 32 := 8#32
  let v1159 : BitVec 32 := Scalar.muli v1158 c8_i32_749
  let v1160 : BitVec 32 := v1159
  let v1161 : Index := Scalar.indexCast v1160
  let c0_750 : Index := 0#32
  ![v1161.toNat, 0]
@[reducible] def k0_t27_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32_751 : BitVec 32 := 128#32
  let v1165 : BitVec 32 := Scalar.addi v1027 c128_i32_751
  let c3_i32_752 : BitVec 32 := 3#32
  let v1166 : BitVec 32 := Scalar.shrsi v1165 c3_i32_752
  let c256_i32_753 : BitVec 32 := 256#32
  let v1167 : BitVec 32 := Scalar.addi v1027 c256_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_757 : BitVec 32 := 1#32
  ⟨v1166, v1173, c1_i32_757⟩
def k0_mult313 (d0 : Dev nD) (v18 : BitVec 32) (k0_t27 : Fin (k0_t27_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32_751 : BitVec 32 := 128#32
  let v1165 : BitVec 32 := Scalar.addi v1027 c128_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t27
  let c8_i32_759 : BitVec 32 := 8#32
  let v1174 : BitVec 32 := Scalar.muli arg13 c8_i32_759
  let c8_i32_760 : BitVec 32 := 8#32
  let v1175 : BitVec 32 := Scalar.muli v1174 c8_i32_760
  v1175
def k0_off441 (d0 : Dev nD) (v18 : BitVec 32) (k0_t27 : Fin (k0_t27_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32_751 : BitVec 32 := 128#32
  let v1165 : BitVec 32 := Scalar.addi v1027 c128_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t27
  let c8_i32_759 : BitVec 32 := 8#32
  let v1174 : BitVec 32 := Scalar.muli arg13 c8_i32_759
  let c8_i32_760 : BitVec 32 := 8#32
  let v1175 : BitVec 32 := Scalar.muli v1174 c8_i32_760
  let v1176 : BitVec 32 := v1175
  let v1177 : Index := Scalar.indexCast v1176
  let c0_761 : Index := 0#32
  ![v1177.toNat, 0]
def k0_mult314 (d0 : Dev nD) (v18 : BitVec 32) (k0_t27 : Fin (k0_t27_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32_751 : BitVec 32 := 128#32
  let v1165 : BitVec 32 := Scalar.addi v1027 c128_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t27
  let c8_i32_762 : BitVec 32 := 8#32
  let v1180 : BitVec 32 := Scalar.muli arg13 c8_i32_762
  v1180
def k0_off442 (d0 : Dev nD) (v18 : BitVec 32) (k0_t27 : Fin (k0_t27_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32_751 : BitVec 32 := 128#32
  let v1165 : BitVec 32 := Scalar.addi v1027 c128_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t27
  let c8_i32_762 : BitVec 32 := 8#32
  let v1180 : BitVec 32 := Scalar.muli arg13 c8_i32_762
  let v1181 : BitVec 32 := v1180
  let v1182 : Index := Scalar.indexCast v1181
  let c0_763 : Index := 0#32
  ![v1182.toNat, 0]
@[reducible] def k0_t28_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32_751 : BitVec 32 := 128#32
  let v1165 : BitVec 32 := Scalar.addi v1027 c128_i32_751
  let c3_i32_752 : BitVec 32 := 3#32
  let v1166 : BitVec 32 := Scalar.shrsi v1165 c3_i32_752
  let c256_i32_753 : BitVec 32 := 256#32
  let v1167 : BitVec 32 := Scalar.addi v1027 c256_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let v1170 : BitVec 32 := Scalar.addi v1166 v1169
  let c1_i32_758 : BitVec 32 := 1#32
  ⟨v1173, v1170, c1_i32_758⟩
def k0_mult315 (d0 : Dev nD) (v18 : BitVec 32) (k0_t28 : Fin (k0_t28_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32_751 : BitVec 32 := 128#32
  let v1165 : BitVec 32 := Scalar.addi v1027 c128_i32_751
  let c3_i32_752 : BitVec 32 := 3#32
  let v1166 : BitVec 32 := Scalar.shrsi v1165 c3_i32_752
  let c256_i32_753 : BitVec 32 := 256#32
  let v1167 : BitVec 32 := Scalar.addi v1027 c256_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t28
  let c8_i32_759 : BitVec 32 := 8#32
  let v1174 : BitVec 32 := Scalar.muli arg13 c8_i32_759
  let c8_i32_760 : BitVec 32 := 8#32
  let v1175 : BitVec 32 := Scalar.muli v1174 c8_i32_760
  v1175
def k0_off443 (d0 : Dev nD) (v18 : BitVec 32) (k0_t28 : Fin (k0_t28_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32_751 : BitVec 32 := 128#32
  let v1165 : BitVec 32 := Scalar.addi v1027 c128_i32_751
  let c3_i32_752 : BitVec 32 := 3#32
  let v1166 : BitVec 32 := Scalar.shrsi v1165 c3_i32_752
  let c256_i32_753 : BitVec 32 := 256#32
  let v1167 : BitVec 32 := Scalar.addi v1027 c256_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t28
  let c8_i32_759 : BitVec 32 := 8#32
  let v1174 : BitVec 32 := Scalar.muli arg13 c8_i32_759
  let c8_i32_760 : BitVec 32 := 8#32
  let v1175 : BitVec 32 := Scalar.muli v1174 c8_i32_760
  let v1176 : BitVec 32 := v1175
  let v1177 : Index := Scalar.indexCast v1176
  let c0_761 : Index := 0#32
  ![v1177.toNat, 0]
def k0_mult316 (d0 : Dev nD) (v18 : BitVec 32) (k0_t28 : Fin (k0_t28_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32_751 : BitVec 32 := 128#32
  let v1165 : BitVec 32 := Scalar.addi v1027 c128_i32_751
  let c3_i32_752 : BitVec 32 := 3#32
  let v1166 : BitVec 32 := Scalar.shrsi v1165 c3_i32_752
  let c256_i32_753 : BitVec 32 := 256#32
  let v1167 : BitVec 32 := Scalar.addi v1027 c256_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t28
  let c8_i32_762 : BitVec 32 := 8#32
  let v1180 : BitVec 32 := Scalar.muli arg13 c8_i32_762
  v1180
def k0_off444 (d0 : Dev nD) (v18 : BitVec 32) (k0_t28 : Fin (k0_t28_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32_751 : BitVec 32 := 128#32
  let v1165 : BitVec 32 := Scalar.addi v1027 c128_i32_751
  let c3_i32_752 : BitVec 32 := 3#32
  let v1166 : BitVec 32 := Scalar.shrsi v1165 c3_i32_752
  let c256_i32_753 : BitVec 32 := 256#32
  let v1167 : BitVec 32 := Scalar.addi v1027 c256_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t28
  let c8_i32_762 : BitVec 32 := 8#32
  let v1180 : BitVec 32 := Scalar.muli arg13 c8_i32_762
  let v1181 : BitVec 32 := v1180
  let v1182 : Index := Scalar.indexCast v1181
  let c0_763 : Index := 0#32
  ![v1182.toNat, 0]
def k0_mult317 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c256_i32_748 : BitVec 32 := 256#32
  let v1158 : BitVec 32 := Scalar.addi v1027 c256_i32_748
  let c8_i32_749 : BitVec 32 := 8#32
  let v1159 : BitVec 32 := Scalar.muli v1158 c8_i32_749
  v1159
def k0_cond454 (v18 : BitVec 32) : BitVec 1 :=
  let c384_i32_665 : BitVec 32 := 384#32
  let v1054 : BitVec 1 := Scalar.cmpi .sge v18 c384_i32_665
  let v1055 : BitVec 32 := Scalar.extui v1054
  let c0_i32_666 : BitVec 32 := 0#32
  let v1056 : BitVec 1 := Scalar.cmpi .ne v1055 c0_i32_666
  v1056

def k0_off445 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c256_i32_748 : BitVec 32 := 256#32
  let v1158 : BitVec 32 := Scalar.addi v1027 c256_i32_748
  let c8_i32_749 : BitVec 32 := 8#32
  let v1159 : BitVec 32 := Scalar.muli v1158 c8_i32_749
  let v1160 : BitVec 32 := v1159
  let v1161 : Index := Scalar.indexCast v1160
  let c0_750 : Index := 0#32
  ![v1161.toNat, 0]
@[reducible] def k0_t29_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c256_i32_751 : BitVec 32 := 256#32
  let v1165 : BitVec 32 := Scalar.addi v1027 c256_i32_751
  let c3_i32_752 : BitVec 32 := 3#32
  let v1166 : BitVec 32 := Scalar.shrsi v1165 c3_i32_752
  let c384_i32_753 : BitVec 32 := 384#32
  let v1167 : BitVec 32 := Scalar.addi v1027 c384_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_757 : BitVec 32 := 1#32
  ⟨v1166, v1173, c1_i32_757⟩
def k0_mult318 (d0 : Dev nD) (v18 : BitVec 32) (k0_t29 : Fin (k0_t29_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c256_i32_751 : BitVec 32 := 256#32
  let v1165 : BitVec 32 := Scalar.addi v1027 c256_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t29
  let c8_i32_759 : BitVec 32 := 8#32
  let v1174 : BitVec 32 := Scalar.muli arg13 c8_i32_759
  let c8_i32_760 : BitVec 32 := 8#32
  let v1175 : BitVec 32 := Scalar.muli v1174 c8_i32_760
  v1175
def k0_off446 (d0 : Dev nD) (v18 : BitVec 32) (k0_t29 : Fin (k0_t29_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c256_i32_751 : BitVec 32 := 256#32
  let v1165 : BitVec 32 := Scalar.addi v1027 c256_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t29
  let c8_i32_759 : BitVec 32 := 8#32
  let v1174 : BitVec 32 := Scalar.muli arg13 c8_i32_759
  let c8_i32_760 : BitVec 32 := 8#32
  let v1175 : BitVec 32 := Scalar.muli v1174 c8_i32_760
  let v1176 : BitVec 32 := v1175
  let v1177 : Index := Scalar.indexCast v1176
  let c0_761 : Index := 0#32
  ![v1177.toNat, 0]
def k0_mult319 (d0 : Dev nD) (v18 : BitVec 32) (k0_t29 : Fin (k0_t29_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c256_i32_751 : BitVec 32 := 256#32
  let v1165 : BitVec 32 := Scalar.addi v1027 c256_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t29
  let c8_i32_762 : BitVec 32 := 8#32
  let v1180 : BitVec 32 := Scalar.muli arg13 c8_i32_762
  v1180
def k0_off447 (d0 : Dev nD) (v18 : BitVec 32) (k0_t29 : Fin (k0_t29_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c256_i32_751 : BitVec 32 := 256#32
  let v1165 : BitVec 32 := Scalar.addi v1027 c256_i32_751
  let c3_i32_752 : BitVec 32 := 3#32
  let v1166 : BitVec 32 := Scalar.shrsi v1165 c3_i32_752
  let c1_i32_757 : BitVec 32 := 1#32
  let arg13 : BitVec 32 := Scf.iv v1166 c1_i32_757 k0_t29
  let c8_i32_762 : BitVec 32 := 8#32
  let v1180 : BitVec 32 := Scalar.muli arg13 c8_i32_762
  let v1181 : BitVec 32 := v1180
  let v1182 : Index := Scalar.indexCast v1181
  let c0_763 : Index := 0#32
  ![v1182.toNat, 0]
@[reducible] def k0_t30_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c256_i32_751 : BitVec 32 := 256#32
  let v1165 : BitVec 32 := Scalar.addi v1027 c256_i32_751
  let c3_i32_752 : BitVec 32 := 3#32
  let v1166 : BitVec 32 := Scalar.shrsi v1165 c3_i32_752
  let c384_i32_753 : BitVec 32 := 384#32
  let v1167 : BitVec 32 := Scalar.addi v1027 c384_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let v1170 : BitVec 32 := Scalar.addi v1166 v1169
  let c1_i32_758 : BitVec 32 := 1#32
  ⟨v1173, v1170, c1_i32_758⟩
def k0_mult320 (d0 : Dev nD) (v18 : BitVec 32) (k0_t30 : Fin (k0_t30_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c256_i32_751 : BitVec 32 := 256#32
  let v1165 : BitVec 32 := Scalar.addi v1027 c256_i32_751
  let c3_i32_752 : BitVec 32 := 3#32
  let v1166 : BitVec 32 := Scalar.shrsi v1165 c3_i32_752
  let c384_i32_753 : BitVec 32 := 384#32
  let v1167 : BitVec 32 := Scalar.addi v1027 c384_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t30
  let c8_i32_759 : BitVec 32 := 8#32
  let v1174 : BitVec 32 := Scalar.muli arg13 c8_i32_759
  let c8_i32_760 : BitVec 32 := 8#32
  let v1175 : BitVec 32 := Scalar.muli v1174 c8_i32_760
  v1175
def k0_off448 (d0 : Dev nD) (v18 : BitVec 32) (k0_t30 : Fin (k0_t30_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c256_i32_751 : BitVec 32 := 256#32
  let v1165 : BitVec 32 := Scalar.addi v1027 c256_i32_751
  let c3_i32_752 : BitVec 32 := 3#32
  let v1166 : BitVec 32 := Scalar.shrsi v1165 c3_i32_752
  let c384_i32_753 : BitVec 32 := 384#32
  let v1167 : BitVec 32 := Scalar.addi v1027 c384_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t30
  let c8_i32_759 : BitVec 32 := 8#32
  let v1174 : BitVec 32 := Scalar.muli arg13 c8_i32_759
  let c8_i32_760 : BitVec 32 := 8#32
  let v1175 : BitVec 32 := Scalar.muli v1174 c8_i32_760
  let v1176 : BitVec 32 := v1175
  let v1177 : Index := Scalar.indexCast v1176
  let c0_761 : Index := 0#32
  ![v1177.toNat, 0]
def k0_mult321 (d0 : Dev nD) (v18 : BitVec 32) (k0_t30 : Fin (k0_t30_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c256_i32_751 : BitVec 32 := 256#32
  let v1165 : BitVec 32 := Scalar.addi v1027 c256_i32_751
  let c3_i32_752 : BitVec 32 := 3#32
  let v1166 : BitVec 32 := Scalar.shrsi v1165 c3_i32_752
  let c384_i32_753 : BitVec 32 := 384#32
  let v1167 : BitVec 32 := Scalar.addi v1027 c384_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t30
  let c8_i32_762 : BitVec 32 := 8#32
  let v1180 : BitVec 32 := Scalar.muli arg13 c8_i32_762
  v1180
def k0_off449 (d0 : Dev nD) (v18 : BitVec 32) (k0_t30 : Fin (k0_t30_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c256_i32_751 : BitVec 32 := 256#32
  let v1165 : BitVec 32 := Scalar.addi v1027 c256_i32_751
  let c3_i32_752 : BitVec 32 := 3#32
  let v1166 : BitVec 32 := Scalar.shrsi v1165 c3_i32_752
  let c384_i32_753 : BitVec 32 := 384#32
  let v1167 : BitVec 32 := Scalar.addi v1027 c384_i32_753
  let c3_i32_754 : BitVec 32 := 3#32
  let v1168 : BitVec 32 := Scalar.shrsi v1167 c3_i32_754
  let v1169 : BitVec 32 := Scalar.subi v1168 v1166
  let c1_i32_756 : BitVec 32 := 1#32
  let v1171 : BitVec 32 := Scalar.divsi v1169 c1_i32_756
  let v1172 : BitVec 32 := Scalar.muli v1171 c1_i32_756
  let v1173 : BitVec 32 := Scalar.addi v1166 v1172
  let c1_i32_758 : BitVec 32 := 1#32
  let arg13 : BitVec 32 := Scf.iv v1173 c1_i32_758 k0_t30
  let c8_i32_762 : BitVec 32 := 8#32
  let v1180 : BitVec 32 := Scalar.muli arg13 c8_i32_762
  let v1181 : BitVec 32 := v1180
  let v1182 : Index := Scalar.indexCast v1181
  let c0_763 : Index := 0#32
  ![v1182.toNat, 0]
def k0_mult322 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c384_i32_747 : BitVec 32 := 384#32
  let v1158 : BitVec 32 := Scalar.addi v1027 c384_i32_747
  let c8_i32_748 : BitVec 32 := 8#32
  let v1159 : BitVec 32 := Scalar.muli v1158 c8_i32_748
  v1159
def k0_cond455 (v18 : BitVec 32) : BitVec 1 :=
  let c512_i32_667 : BitVec 32 := 512#32
  let v1057 : BitVec 1 := Scalar.cmpi .sge v18 c512_i32_667
  let v1058 : BitVec 32 := Scalar.extui v1057
  let c0_i32_668 : BitVec 32 := 0#32
  let v1059 : BitVec 1 := Scalar.cmpi .ne v1058 c0_i32_668
  v1059

def k0_off450 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c384_i32_747 : BitVec 32 := 384#32
  let v1158 : BitVec 32 := Scalar.addi v1027 c384_i32_747
  let c8_i32_748 : BitVec 32 := 8#32
  let v1159 : BitVec 32 := Scalar.muli v1158 c8_i32_748
  let v1160 : BitVec 32 := v1159
  let v1161 : Index := Scalar.indexCast v1160
  let c0_749 : Index := 0#32
  ![v1161.toNat, 0]
@[reducible] def k0_t31_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c384_i32_750 : BitVec 32 := 384#32
  let v1165 : BitVec 32 := Scalar.addi v1027 c384_i32_750
  let c3_i32_751 : BitVec 32 := 3#32
  let v1166 : BitVec 32 := Scalar.shrsi v1165 c3_i32_751
  let c512_i32_752 : BitVec 32 := 512#32
  let v1167 : BitVec 32 := Scalar.addi v1027 c512_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_756 : BitVec 32 := 1#32
  ⟨v1166, v1173, c1_i32_756⟩
def k0_mult323 (d0 : Dev nD) (v18 : BitVec 32) (k0_t31 : Fin (k0_t31_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c384_i32_750 : BitVec 32 := 384#32
  let v1165 : BitVec 32 := Scalar.addi v1027 c384_i32_750
  let c3_i32_751 : BitVec 32 := 3#32
  let v1166 : BitVec 32 := Scalar.shrsi v1165 c3_i32_751
  let c1_i32_756 : BitVec 32 := 1#32
  let arg13 : BitVec 32 := Scf.iv v1166 c1_i32_756 k0_t31
  let c8_i32_758 : BitVec 32 := 8#32
  let v1174 : BitVec 32 := Scalar.muli arg13 c8_i32_758
  let c8_i32_759 : BitVec 32 := 8#32
  let v1175 : BitVec 32 := Scalar.muli v1174 c8_i32_759
  v1175
def k0_off451 (d0 : Dev nD) (v18 : BitVec 32) (k0_t31 : Fin (k0_t31_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c384_i32_750 : BitVec 32 := 384#32
  let v1165 : BitVec 32 := Scalar.addi v1027 c384_i32_750
  let c3_i32_751 : BitVec 32 := 3#32
  let v1166 : BitVec 32 := Scalar.shrsi v1165 c3_i32_751
  let c1_i32_756 : BitVec 32 := 1#32
  let arg13 : BitVec 32 := Scf.iv v1166 c1_i32_756 k0_t31
  let c8_i32_758 : BitVec 32 := 8#32
  let v1174 : BitVec 32 := Scalar.muli arg13 c8_i32_758
  let c8_i32_759 : BitVec 32 := 8#32
  let v1175 : BitVec 32 := Scalar.muli v1174 c8_i32_759
  let v1176 : BitVec 32 := v1175
  let v1177 : Index := Scalar.indexCast v1176
  let c0_760 : Index := 0#32
  ![v1177.toNat, 0]
def k0_mult324 (d0 : Dev nD) (v18 : BitVec 32) (k0_t31 : Fin (k0_t31_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c384_i32_750 : BitVec 32 := 384#32
  let v1165 : BitVec 32 := Scalar.addi v1027 c384_i32_750
  let c3_i32_751 : BitVec 32 := 3#32
  let v1166 : BitVec 32 := Scalar.shrsi v1165 c3_i32_751
  let c1_i32_756 : BitVec 32 := 1#32
  let arg13 : BitVec 32 := Scf.iv v1166 c1_i32_756 k0_t31
  let c8_i32_761 : BitVec 32 := 8#32
  let v1180 : BitVec 32 := Scalar.muli arg13 c8_i32_761
  v1180
def k0_off452 (d0 : Dev nD) (v18 : BitVec 32) (k0_t31 : Fin (k0_t31_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c384_i32_750 : BitVec 32 := 384#32
  let v1165 : BitVec 32 := Scalar.addi v1027 c384_i32_750
  let c3_i32_751 : BitVec 32 := 3#32
  let v1166 : BitVec 32 := Scalar.shrsi v1165 c3_i32_751
  let c1_i32_756 : BitVec 32 := 1#32
  let arg13 : BitVec 32 := Scf.iv v1166 c1_i32_756 k0_t31
  let c8_i32_761 : BitVec 32 := 8#32
  let v1180 : BitVec 32 := Scalar.muli arg13 c8_i32_761
  let v1181 : BitVec 32 := v1180
  let v1182 : Index := Scalar.indexCast v1181
  let c0_762 : Index := 0#32
  ![v1182.toNat, 0]
@[reducible] def k0_t32_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c384_i32_750 : BitVec 32 := 384#32
  let v1165 : BitVec 32 := Scalar.addi v1027 c384_i32_750
  let c3_i32_751 : BitVec 32 := 3#32
  let v1166 : BitVec 32 := Scalar.shrsi v1165 c3_i32_751
  let c512_i32_752 : BitVec 32 := 512#32
  let v1167 : BitVec 32 := Scalar.addi v1027 c512_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let v1170 : BitVec 32 := Scalar.addi v1166 v1169
  let c1_i32_757 : BitVec 32 := 1#32
  ⟨v1173, v1170, c1_i32_757⟩
def k0_mult325 (d0 : Dev nD) (v18 : BitVec 32) (k0_t32 : Fin (k0_t32_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c384_i32_750 : BitVec 32 := 384#32
  let v1165 : BitVec 32 := Scalar.addi v1027 c384_i32_750
  let c3_i32_751 : BitVec 32 := 3#32
  let v1166 : BitVec 32 := Scalar.shrsi v1165 c3_i32_751
  let c512_i32_752 : BitVec 32 := 512#32
  let v1167 : BitVec 32 := Scalar.addi v1027 c512_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_757 : BitVec 32 := 1#32
  let arg13 : BitVec 32 := Scf.iv v1173 c1_i32_757 k0_t32
  let c8_i32_758 : BitVec 32 := 8#32
  let v1174 : BitVec 32 := Scalar.muli arg13 c8_i32_758
  let c8_i32_759 : BitVec 32 := 8#32
  let v1175 : BitVec 32 := Scalar.muli v1174 c8_i32_759
  v1175
def k0_off453 (d0 : Dev nD) (v18 : BitVec 32) (k0_t32 : Fin (k0_t32_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c384_i32_750 : BitVec 32 := 384#32
  let v1165 : BitVec 32 := Scalar.addi v1027 c384_i32_750
  let c3_i32_751 : BitVec 32 := 3#32
  let v1166 : BitVec 32 := Scalar.shrsi v1165 c3_i32_751
  let c512_i32_752 : BitVec 32 := 512#32
  let v1167 : BitVec 32 := Scalar.addi v1027 c512_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_757 : BitVec 32 := 1#32
  let arg13 : BitVec 32 := Scf.iv v1173 c1_i32_757 k0_t32
  let c8_i32_758 : BitVec 32 := 8#32
  let v1174 : BitVec 32 := Scalar.muli arg13 c8_i32_758
  let c8_i32_759 : BitVec 32 := 8#32
  let v1175 : BitVec 32 := Scalar.muli v1174 c8_i32_759
  let v1176 : BitVec 32 := v1175
  let v1177 : Index := Scalar.indexCast v1176
  let c0_760 : Index := 0#32
  ![v1177.toNat, 0]
def k0_mult326 (d0 : Dev nD) (v18 : BitVec 32) (k0_t32 : Fin (k0_t32_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c384_i32_750 : BitVec 32 := 384#32
  let v1165 : BitVec 32 := Scalar.addi v1027 c384_i32_750
  let c3_i32_751 : BitVec 32 := 3#32
  let v1166 : BitVec 32 := Scalar.shrsi v1165 c3_i32_751
  let c512_i32_752 : BitVec 32 := 512#32
  let v1167 : BitVec 32 := Scalar.addi v1027 c512_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_757 : BitVec 32 := 1#32
  let arg13 : BitVec 32 := Scf.iv v1173 c1_i32_757 k0_t32
  let c8_i32_761 : BitVec 32 := 8#32
  let v1180 : BitVec 32 := Scalar.muli arg13 c8_i32_761
  v1180
def k0_off454 (d0 : Dev nD) (v18 : BitVec 32) (k0_t32 : Fin (k0_t32_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c384_i32_750 : BitVec 32 := 384#32
  let v1165 : BitVec 32 := Scalar.addi v1027 c384_i32_750
  let c3_i32_751 : BitVec 32 := 3#32
  let v1166 : BitVec 32 := Scalar.shrsi v1165 c3_i32_751
  let c512_i32_752 : BitVec 32 := 512#32
  let v1167 : BitVec 32 := Scalar.addi v1027 c512_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_757 : BitVec 32 := 1#32
  let arg13 : BitVec 32 := Scf.iv v1173 c1_i32_757 k0_t32
  let c8_i32_761 : BitVec 32 := 8#32
  let v1180 : BitVec 32 := Scalar.muli arg13 c8_i32_761
  let v1181 : BitVec 32 := v1180
  let v1182 : Index := Scalar.indexCast v1181
  let c0_762 : Index := 0#32
  ![v1182.toNat, 0]
def k0_mult327 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c512_i32_747 : BitVec 32 := 512#32
  let v1158 : BitVec 32 := Scalar.addi v1027 c512_i32_747
  let c8_i32_748 : BitVec 32 := 8#32
  let v1159 : BitVec 32 := Scalar.muli v1158 c8_i32_748
  v1159
def k0_cond456 (v18 : BitVec 32) : BitVec 1 :=
  let c640_i32_669 : BitVec 32 := 640#32
  let v1060 : BitVec 1 := Scalar.cmpi .sge v18 c640_i32_669
  let v1061 : BitVec 32 := Scalar.extui v1060
  let c0_i32_670 : BitVec 32 := 0#32
  let v1062 : BitVec 1 := Scalar.cmpi .ne v1061 c0_i32_670
  v1062

def k0_off455 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c512_i32_747 : BitVec 32 := 512#32
  let v1158 : BitVec 32 := Scalar.addi v1027 c512_i32_747
  let c8_i32_748 : BitVec 32 := 8#32
  let v1159 : BitVec 32 := Scalar.muli v1158 c8_i32_748
  let v1160 : BitVec 32 := v1159
  let v1161 : Index := Scalar.indexCast v1160
  let c0_749 : Index := 0#32
  ![v1161.toNat, 0]
@[reducible] def k0_t33_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c512_i32_750 : BitVec 32 := 512#32
  let v1165 : BitVec 32 := Scalar.addi v1027 c512_i32_750
  let c3_i32_751 : BitVec 32 := 3#32
  let v1166 : BitVec 32 := Scalar.shrsi v1165 c3_i32_751
  let c640_i32_752 : BitVec 32 := 640#32
  let v1167 : BitVec 32 := Scalar.addi v1027 c640_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_756 : BitVec 32 := 1#32
  ⟨v1166, v1173, c1_i32_756⟩
def k0_mult328 (d0 : Dev nD) (v18 : BitVec 32) (k0_t33 : Fin (k0_t33_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c512_i32_750 : BitVec 32 := 512#32
  let v1165 : BitVec 32 := Scalar.addi v1027 c512_i32_750
  let c3_i32_751 : BitVec 32 := 3#32
  let v1166 : BitVec 32 := Scalar.shrsi v1165 c3_i32_751
  let c1_i32_756 : BitVec 32 := 1#32
  let arg13 : BitVec 32 := Scf.iv v1166 c1_i32_756 k0_t33
  let c8_i32_758 : BitVec 32 := 8#32
  let v1174 : BitVec 32 := Scalar.muli arg13 c8_i32_758
  let c8_i32_759 : BitVec 32 := 8#32
  let v1175 : BitVec 32 := Scalar.muli v1174 c8_i32_759
  v1175
def k0_off456 (d0 : Dev nD) (v18 : BitVec 32) (k0_t33 : Fin (k0_t33_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c512_i32_750 : BitVec 32 := 512#32
  let v1165 : BitVec 32 := Scalar.addi v1027 c512_i32_750
  let c3_i32_751 : BitVec 32 := 3#32
  let v1166 : BitVec 32 := Scalar.shrsi v1165 c3_i32_751
  let c1_i32_756 : BitVec 32 := 1#32
  let arg13 : BitVec 32 := Scf.iv v1166 c1_i32_756 k0_t33
  let c8_i32_758 : BitVec 32 := 8#32
  let v1174 : BitVec 32 := Scalar.muli arg13 c8_i32_758
  let c8_i32_759 : BitVec 32 := 8#32
  let v1175 : BitVec 32 := Scalar.muli v1174 c8_i32_759
  let v1176 : BitVec 32 := v1175
  let v1177 : Index := Scalar.indexCast v1176
  let c0_760 : Index := 0#32
  ![v1177.toNat, 0]
def k0_mult329 (d0 : Dev nD) (v18 : BitVec 32) (k0_t33 : Fin (k0_t33_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c512_i32_750 : BitVec 32 := 512#32
  let v1165 : BitVec 32 := Scalar.addi v1027 c512_i32_750
  let c3_i32_751 : BitVec 32 := 3#32
  let v1166 : BitVec 32 := Scalar.shrsi v1165 c3_i32_751
  let c1_i32_756 : BitVec 32 := 1#32
  let arg13 : BitVec 32 := Scf.iv v1166 c1_i32_756 k0_t33
  let c8_i32_761 : BitVec 32 := 8#32
  let v1180 : BitVec 32 := Scalar.muli arg13 c8_i32_761
  v1180
def k0_off457 (d0 : Dev nD) (v18 : BitVec 32) (k0_t33 : Fin (k0_t33_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c512_i32_750 : BitVec 32 := 512#32
  let v1165 : BitVec 32 := Scalar.addi v1027 c512_i32_750
  let c3_i32_751 : BitVec 32 := 3#32
  let v1166 : BitVec 32 := Scalar.shrsi v1165 c3_i32_751
  let c1_i32_756 : BitVec 32 := 1#32
  let arg13 : BitVec 32 := Scf.iv v1166 c1_i32_756 k0_t33
  let c8_i32_761 : BitVec 32 := 8#32
  let v1180 : BitVec 32 := Scalar.muli arg13 c8_i32_761
  let v1181 : BitVec 32 := v1180
  let v1182 : Index := Scalar.indexCast v1181
  let c0_762 : Index := 0#32
  ![v1182.toNat, 0]
@[reducible] def k0_t34_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c512_i32_750 : BitVec 32 := 512#32
  let v1165 : BitVec 32 := Scalar.addi v1027 c512_i32_750
  let c3_i32_751 : BitVec 32 := 3#32
  let v1166 : BitVec 32 := Scalar.shrsi v1165 c3_i32_751
  let c640_i32_752 : BitVec 32 := 640#32
  let v1167 : BitVec 32 := Scalar.addi v1027 c640_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let v1170 : BitVec 32 := Scalar.addi v1166 v1169
  let c1_i32_757 : BitVec 32 := 1#32
  ⟨v1173, v1170, c1_i32_757⟩
def k0_mult330 (d0 : Dev nD) (v18 : BitVec 32) (k0_t34 : Fin (k0_t34_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c512_i32_750 : BitVec 32 := 512#32
  let v1165 : BitVec 32 := Scalar.addi v1027 c512_i32_750
  let c3_i32_751 : BitVec 32 := 3#32
  let v1166 : BitVec 32 := Scalar.shrsi v1165 c3_i32_751
  let c640_i32_752 : BitVec 32 := 640#32
  let v1167 : BitVec 32 := Scalar.addi v1027 c640_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_757 : BitVec 32 := 1#32
  let arg13 : BitVec 32 := Scf.iv v1173 c1_i32_757 k0_t34
  let c8_i32_758 : BitVec 32 := 8#32
  let v1174 : BitVec 32 := Scalar.muli arg13 c8_i32_758
  let c8_i32_759 : BitVec 32 := 8#32
  let v1175 : BitVec 32 := Scalar.muli v1174 c8_i32_759
  v1175
def k0_off458 (d0 : Dev nD) (v18 : BitVec 32) (k0_t34 : Fin (k0_t34_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c512_i32_750 : BitVec 32 := 512#32
  let v1165 : BitVec 32 := Scalar.addi v1027 c512_i32_750
  let c3_i32_751 : BitVec 32 := 3#32
  let v1166 : BitVec 32 := Scalar.shrsi v1165 c3_i32_751
  let c640_i32_752 : BitVec 32 := 640#32
  let v1167 : BitVec 32 := Scalar.addi v1027 c640_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_757 : BitVec 32 := 1#32
  let arg13 : BitVec 32 := Scf.iv v1173 c1_i32_757 k0_t34
  let c8_i32_758 : BitVec 32 := 8#32
  let v1174 : BitVec 32 := Scalar.muli arg13 c8_i32_758
  let c8_i32_759 : BitVec 32 := 8#32
  let v1175 : BitVec 32 := Scalar.muli v1174 c8_i32_759
  let v1176 : BitVec 32 := v1175
  let v1177 : Index := Scalar.indexCast v1176
  let c0_760 : Index := 0#32
  ![v1177.toNat, 0]
def k0_mult331 (d0 : Dev nD) (v18 : BitVec 32) (k0_t34 : Fin (k0_t34_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c512_i32_750 : BitVec 32 := 512#32
  let v1165 : BitVec 32 := Scalar.addi v1027 c512_i32_750
  let c3_i32_751 : BitVec 32 := 3#32
  let v1166 : BitVec 32 := Scalar.shrsi v1165 c3_i32_751
  let c640_i32_752 : BitVec 32 := 640#32
  let v1167 : BitVec 32 := Scalar.addi v1027 c640_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_757 : BitVec 32 := 1#32
  let arg13 : BitVec 32 := Scf.iv v1173 c1_i32_757 k0_t34
  let c8_i32_761 : BitVec 32 := 8#32
  let v1180 : BitVec 32 := Scalar.muli arg13 c8_i32_761
  v1180
def k0_off459 (d0 : Dev nD) (v18 : BitVec 32) (k0_t34 : Fin (k0_t34_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c512_i32_750 : BitVec 32 := 512#32
  let v1165 : BitVec 32 := Scalar.addi v1027 c512_i32_750
  let c3_i32_751 : BitVec 32 := 3#32
  let v1166 : BitVec 32 := Scalar.shrsi v1165 c3_i32_751
  let c640_i32_752 : BitVec 32 := 640#32
  let v1167 : BitVec 32 := Scalar.addi v1027 c640_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_757 : BitVec 32 := 1#32
  let arg13 : BitVec 32 := Scf.iv v1173 c1_i32_757 k0_t34
  let c8_i32_761 : BitVec 32 := 8#32
  let v1180 : BitVec 32 := Scalar.muli arg13 c8_i32_761
  let v1181 : BitVec 32 := v1180
  let v1182 : Index := Scalar.indexCast v1181
  let c0_762 : Index := 0#32
  ![v1182.toNat, 0]
def k0_mult332 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c640_i32_747 : BitVec 32 := 640#32
  let v1158 : BitVec 32 := Scalar.addi v1027 c640_i32_747
  let c8_i32_748 : BitVec 32 := 8#32
  let v1159 : BitVec 32 := Scalar.muli v1158 c8_i32_748
  v1159
def k0_cond457 (v18 : BitVec 32) : BitVec 1 :=
  let c768_i32_671 : BitVec 32 := 768#32
  let v1063 : BitVec 1 := Scalar.cmpi .sge v18 c768_i32_671
  let v1064 : BitVec 32 := Scalar.extui v1063
  let c0_i32_672 : BitVec 32 := 0#32
  let v1065 : BitVec 1 := Scalar.cmpi .ne v1064 c0_i32_672
  v1065

def k0_off460 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c640_i32_747 : BitVec 32 := 640#32
  let v1158 : BitVec 32 := Scalar.addi v1027 c640_i32_747
  let c8_i32_748 : BitVec 32 := 8#32
  let v1159 : BitVec 32 := Scalar.muli v1158 c8_i32_748
  let v1160 : BitVec 32 := v1159
  let v1161 : Index := Scalar.indexCast v1160
  let c0_749 : Index := 0#32
  ![v1161.toNat, 0]
@[reducible] def k0_t35_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c640_i32_750 : BitVec 32 := 640#32
  let v1165 : BitVec 32 := Scalar.addi v1027 c640_i32_750
  let c3_i32_751 : BitVec 32 := 3#32
  let v1166 : BitVec 32 := Scalar.shrsi v1165 c3_i32_751
  let c768_i32_752 : BitVec 32 := 768#32
  let v1167 : BitVec 32 := Scalar.addi v1027 c768_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_756 : BitVec 32 := 1#32
  ⟨v1166, v1173, c1_i32_756⟩
def k0_mult333 (d0 : Dev nD) (v18 : BitVec 32) (k0_t35 : Fin (k0_t35_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c640_i32_750 : BitVec 32 := 640#32
  let v1165 : BitVec 32 := Scalar.addi v1027 c640_i32_750
  let c3_i32_751 : BitVec 32 := 3#32
  let v1166 : BitVec 32 := Scalar.shrsi v1165 c3_i32_751
  let c1_i32_756 : BitVec 32 := 1#32
  let arg13 : BitVec 32 := Scf.iv v1166 c1_i32_756 k0_t35
  let c8_i32_758 : BitVec 32 := 8#32
  let v1174 : BitVec 32 := Scalar.muli arg13 c8_i32_758
  let c8_i32_759 : BitVec 32 := 8#32
  let v1175 : BitVec 32 := Scalar.muli v1174 c8_i32_759
  v1175
def k0_off461 (d0 : Dev nD) (v18 : BitVec 32) (k0_t35 : Fin (k0_t35_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c640_i32_750 : BitVec 32 := 640#32
  let v1165 : BitVec 32 := Scalar.addi v1027 c640_i32_750
  let c3_i32_751 : BitVec 32 := 3#32
  let v1166 : BitVec 32 := Scalar.shrsi v1165 c3_i32_751
  let c1_i32_756 : BitVec 32 := 1#32
  let arg13 : BitVec 32 := Scf.iv v1166 c1_i32_756 k0_t35
  let c8_i32_758 : BitVec 32 := 8#32
  let v1174 : BitVec 32 := Scalar.muli arg13 c8_i32_758
  let c8_i32_759 : BitVec 32 := 8#32
  let v1175 : BitVec 32 := Scalar.muli v1174 c8_i32_759
  let v1176 : BitVec 32 := v1175
  let v1177 : Index := Scalar.indexCast v1176
  let c0_760 : Index := 0#32
  ![v1177.toNat, 0]
def k0_mult334 (d0 : Dev nD) (v18 : BitVec 32) (k0_t35 : Fin (k0_t35_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c640_i32_750 : BitVec 32 := 640#32
  let v1165 : BitVec 32 := Scalar.addi v1027 c640_i32_750
  let c3_i32_751 : BitVec 32 := 3#32
  let v1166 : BitVec 32 := Scalar.shrsi v1165 c3_i32_751
  let c1_i32_756 : BitVec 32 := 1#32
  let arg13 : BitVec 32 := Scf.iv v1166 c1_i32_756 k0_t35
  let c8_i32_761 : BitVec 32 := 8#32
  let v1180 : BitVec 32 := Scalar.muli arg13 c8_i32_761
  v1180
def k0_off462 (d0 : Dev nD) (v18 : BitVec 32) (k0_t35 : Fin (k0_t35_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c640_i32_750 : BitVec 32 := 640#32
  let v1165 : BitVec 32 := Scalar.addi v1027 c640_i32_750
  let c3_i32_751 : BitVec 32 := 3#32
  let v1166 : BitVec 32 := Scalar.shrsi v1165 c3_i32_751
  let c1_i32_756 : BitVec 32 := 1#32
  let arg13 : BitVec 32 := Scf.iv v1166 c1_i32_756 k0_t35
  let c8_i32_761 : BitVec 32 := 8#32
  let v1180 : BitVec 32 := Scalar.muli arg13 c8_i32_761
  let v1181 : BitVec 32 := v1180
  let v1182 : Index := Scalar.indexCast v1181
  let c0_762 : Index := 0#32
  ![v1182.toNat, 0]
@[reducible] def k0_t36_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c640_i32_750 : BitVec 32 := 640#32
  let v1165 : BitVec 32 := Scalar.addi v1027 c640_i32_750
  let c3_i32_751 : BitVec 32 := 3#32
  let v1166 : BitVec 32 := Scalar.shrsi v1165 c3_i32_751
  let c768_i32_752 : BitVec 32 := 768#32
  let v1167 : BitVec 32 := Scalar.addi v1027 c768_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let v1170 : BitVec 32 := Scalar.addi v1166 v1169
  let c1_i32_757 : BitVec 32 := 1#32
  ⟨v1173, v1170, c1_i32_757⟩
def k0_mult335 (d0 : Dev nD) (v18 : BitVec 32) (k0_t36 : Fin (k0_t36_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c640_i32_750 : BitVec 32 := 640#32
  let v1165 : BitVec 32 := Scalar.addi v1027 c640_i32_750
  let c3_i32_751 : BitVec 32 := 3#32
  let v1166 : BitVec 32 := Scalar.shrsi v1165 c3_i32_751
  let c768_i32_752 : BitVec 32 := 768#32
  let v1167 : BitVec 32 := Scalar.addi v1027 c768_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_757 : BitVec 32 := 1#32
  let arg13 : BitVec 32 := Scf.iv v1173 c1_i32_757 k0_t36
  let c8_i32_758 : BitVec 32 := 8#32
  let v1174 : BitVec 32 := Scalar.muli arg13 c8_i32_758
  let c8_i32_759 : BitVec 32 := 8#32
  let v1175 : BitVec 32 := Scalar.muli v1174 c8_i32_759
  v1175
def k0_off463 (d0 : Dev nD) (v18 : BitVec 32) (k0_t36 : Fin (k0_t36_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c640_i32_750 : BitVec 32 := 640#32
  let v1165 : BitVec 32 := Scalar.addi v1027 c640_i32_750
  let c3_i32_751 : BitVec 32 := 3#32
  let v1166 : BitVec 32 := Scalar.shrsi v1165 c3_i32_751
  let c768_i32_752 : BitVec 32 := 768#32
  let v1167 : BitVec 32 := Scalar.addi v1027 c768_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_757 : BitVec 32 := 1#32
  let arg13 : BitVec 32 := Scf.iv v1173 c1_i32_757 k0_t36
  let c8_i32_758 : BitVec 32 := 8#32
  let v1174 : BitVec 32 := Scalar.muli arg13 c8_i32_758
  let c8_i32_759 : BitVec 32 := 8#32
  let v1175 : BitVec 32 := Scalar.muli v1174 c8_i32_759
  let v1176 : BitVec 32 := v1175
  let v1177 : Index := Scalar.indexCast v1176
  let c0_760 : Index := 0#32
  ![v1177.toNat, 0]
def k0_mult336 (d0 : Dev nD) (v18 : BitVec 32) (k0_t36 : Fin (k0_t36_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c640_i32_750 : BitVec 32 := 640#32
  let v1165 : BitVec 32 := Scalar.addi v1027 c640_i32_750
  let c3_i32_751 : BitVec 32 := 3#32
  let v1166 : BitVec 32 := Scalar.shrsi v1165 c3_i32_751
  let c768_i32_752 : BitVec 32 := 768#32
  let v1167 : BitVec 32 := Scalar.addi v1027 c768_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_757 : BitVec 32 := 1#32
  let arg13 : BitVec 32 := Scf.iv v1173 c1_i32_757 k0_t36
  let c8_i32_761 : BitVec 32 := 8#32
  let v1180 : BitVec 32 := Scalar.muli arg13 c8_i32_761
  v1180
def k0_off464 (d0 : Dev nD) (v18 : BitVec 32) (k0_t36 : Fin (k0_t36_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c640_i32_750 : BitVec 32 := 640#32
  let v1165 : BitVec 32 := Scalar.addi v1027 c640_i32_750
  let c3_i32_751 : BitVec 32 := 3#32
  let v1166 : BitVec 32 := Scalar.shrsi v1165 c3_i32_751
  let c768_i32_752 : BitVec 32 := 768#32
  let v1167 : BitVec 32 := Scalar.addi v1027 c768_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_757 : BitVec 32 := 1#32
  let arg13 : BitVec 32 := Scf.iv v1173 c1_i32_757 k0_t36
  let c8_i32_761 : BitVec 32 := 8#32
  let v1180 : BitVec 32 := Scalar.muli arg13 c8_i32_761
  let v1181 : BitVec 32 := v1180
  let v1182 : Index := Scalar.indexCast v1181
  let c0_762 : Index := 0#32
  ![v1182.toNat, 0]
def k0_mult337 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c768_i32_746 : BitVec 32 := 768#32
  let v1158 : BitVec 32 := Scalar.addi v1027 c768_i32_746
  let c8_i32_747 : BitVec 32 := 8#32
  let v1159 : BitVec 32 := Scalar.muli v1158 c8_i32_747
  v1159
def k0_cond458 (v18 : BitVec 32) : BitVec 1 :=
  let c896_i32_673 : BitVec 32 := 896#32
  let v1066 : BitVec 1 := Scalar.cmpi .sge v18 c896_i32_673
  let v1067 : BitVec 32 := Scalar.extui v1066
  let c0_i32_674 : BitVec 32 := 0#32
  let v1068 : BitVec 1 := Scalar.cmpi .ne v1067 c0_i32_674
  v1068

def k0_off465 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c768_i32_746 : BitVec 32 := 768#32
  let v1158 : BitVec 32 := Scalar.addi v1027 c768_i32_746
  let c8_i32_747 : BitVec 32 := 8#32
  let v1159 : BitVec 32 := Scalar.muli v1158 c8_i32_747
  let v1160 : BitVec 32 := v1159
  let v1161 : Index := Scalar.indexCast v1160
  let c0_748 : Index := 0#32
  ![v1161.toNat, 0]
@[reducible] def k0_t37_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c768_i32_749 : BitVec 32 := 768#32
  let v1165 : BitVec 32 := Scalar.addi v1027 c768_i32_749
  let c3_i32_750 : BitVec 32 := 3#32
  let v1166 : BitVec 32 := Scalar.shrsi v1165 c3_i32_750
  let c896_i32_751 : BitVec 32 := 896#32
  let v1167 : BitVec 32 := Scalar.addi v1027 c896_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_755 : BitVec 32 := 1#32
  ⟨v1166, v1173, c1_i32_755⟩
def k0_mult338 (d0 : Dev nD) (v18 : BitVec 32) (k0_t37 : Fin (k0_t37_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c768_i32_749 : BitVec 32 := 768#32
  let v1165 : BitVec 32 := Scalar.addi v1027 c768_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t37
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off466 (d0 : Dev nD) (v18 : BitVec 32) (k0_t37 : Fin (k0_t37_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c768_i32_749 : BitVec 32 := 768#32
  let v1165 : BitVec 32 := Scalar.addi v1027 c768_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t37
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult339 (d0 : Dev nD) (v18 : BitVec 32) (k0_t37 : Fin (k0_t37_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c768_i32_749 : BitVec 32 := 768#32
  let v1165 : BitVec 32 := Scalar.addi v1027 c768_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t37
  let c8_i32_760 : BitVec 32 := 8#32
  let v1180 : BitVec 32 := Scalar.muli arg13 c8_i32_760
  v1180
def k0_off467 (d0 : Dev nD) (v18 : BitVec 32) (k0_t37 : Fin (k0_t37_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c768_i32_749 : BitVec 32 := 768#32
  let v1165 : BitVec 32 := Scalar.addi v1027 c768_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t37
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
@[reducible] def k0_t38_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c768_i32_749 : BitVec 32 := 768#32
  let v1165 : BitVec 32 := Scalar.addi v1027 c768_i32_749
  let c3_i32_750 : BitVec 32 := 3#32
  let v1166 : BitVec 32 := Scalar.shrsi v1165 c3_i32_750
  let c896_i32_751 : BitVec 32 := 896#32
  let v1167 : BitVec 32 := Scalar.addi v1027 c896_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let v1170 : BitVec 32 := Scalar.addi v1166 v1169
  let c1_i32_756 : BitVec 32 := 1#32
  ⟨v1173, v1170, c1_i32_756⟩
def k0_mult340 (d0 : Dev nD) (v18 : BitVec 32) (k0_t38 : Fin (k0_t38_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c768_i32_749 : BitVec 32 := 768#32
  let v1165 : BitVec 32 := Scalar.addi v1027 c768_i32_749
  let c3_i32_750 : BitVec 32 := 3#32
  let v1166 : BitVec 32 := Scalar.shrsi v1165 c3_i32_750
  let c896_i32_751 : BitVec 32 := 896#32
  let v1167 : BitVec 32 := Scalar.addi v1027 c896_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t38
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off468 (d0 : Dev nD) (v18 : BitVec 32) (k0_t38 : Fin (k0_t38_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c768_i32_749 : BitVec 32 := 768#32
  let v1165 : BitVec 32 := Scalar.addi v1027 c768_i32_749
  let c3_i32_750 : BitVec 32 := 3#32
  let v1166 : BitVec 32 := Scalar.shrsi v1165 c3_i32_750
  let c896_i32_751 : BitVec 32 := 896#32
  let v1167 : BitVec 32 := Scalar.addi v1027 c896_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t38
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult341 (d0 : Dev nD) (v18 : BitVec 32) (k0_t38 : Fin (k0_t38_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c768_i32_749 : BitVec 32 := 768#32
  let v1165 : BitVec 32 := Scalar.addi v1027 c768_i32_749
  let c3_i32_750 : BitVec 32 := 3#32
  let v1166 : BitVec 32 := Scalar.shrsi v1165 c3_i32_750
  let c896_i32_751 : BitVec 32 := 896#32
  let v1167 : BitVec 32 := Scalar.addi v1027 c896_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t38
  let c8_i32_760 : BitVec 32 := 8#32
  let v1180 : BitVec 32 := Scalar.muli arg13 c8_i32_760
  v1180
def k0_off469 (d0 : Dev nD) (v18 : BitVec 32) (k0_t38 : Fin (k0_t38_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c768_i32_749 : BitVec 32 := 768#32
  let v1165 : BitVec 32 := Scalar.addi v1027 c768_i32_749
  let c3_i32_750 : BitVec 32 := 3#32
  let v1166 : BitVec 32 := Scalar.shrsi v1165 c3_i32_750
  let c896_i32_751 : BitVec 32 := 896#32
  let v1167 : BitVec 32 := Scalar.addi v1027 c896_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t38
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
def k0_mult342 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c896_i32_746 : BitVec 32 := 896#32
  let v1158 : BitVec 32 := Scalar.addi v1027 c896_i32_746
  let c8_i32_747 : BitVec 32 := 8#32
  let v1159 : BitVec 32 := Scalar.muli v1158 c8_i32_747
  v1159
def k0_cond459 (v18 : BitVec 32) : BitVec 1 :=
  let c1024_i32_675 : BitVec 32 := 1024#32
  let v1069 : BitVec 1 := Scalar.cmpi .sge v18 c1024_i32_675
  let v1070 : BitVec 32 := Scalar.extui v1069
  let c0_i32_676 : BitVec 32 := 0#32
  let v1071 : BitVec 1 := Scalar.cmpi .ne v1070 c0_i32_676
  v1071

def k0_off470 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c896_i32_746 : BitVec 32 := 896#32
  let v1158 : BitVec 32 := Scalar.addi v1027 c896_i32_746
  let c8_i32_747 : BitVec 32 := 8#32
  let v1159 : BitVec 32 := Scalar.muli v1158 c8_i32_747
  let v1160 : BitVec 32 := v1159
  let v1161 : Index := Scalar.indexCast v1160
  let c0_748 : Index := 0#32
  ![v1161.toNat, 0]
@[reducible] def k0_t39_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c896_i32_749 : BitVec 32 := 896#32
  let v1165 : BitVec 32 := Scalar.addi v1027 c896_i32_749
  let c3_i32_750 : BitVec 32 := 3#32
  let v1166 : BitVec 32 := Scalar.shrsi v1165 c3_i32_750
  let c1024_i32_751 : BitVec 32 := 1024#32
  let v1167 : BitVec 32 := Scalar.addi v1027 c1024_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_755 : BitVec 32 := 1#32
  ⟨v1166, v1173, c1_i32_755⟩
def k0_mult343 (d0 : Dev nD) (v18 : BitVec 32) (k0_t39 : Fin (k0_t39_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c896_i32_749 : BitVec 32 := 896#32
  let v1165 : BitVec 32 := Scalar.addi v1027 c896_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t39
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off471 (d0 : Dev nD) (v18 : BitVec 32) (k0_t39 : Fin (k0_t39_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c896_i32_749 : BitVec 32 := 896#32
  let v1165 : BitVec 32 := Scalar.addi v1027 c896_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t39
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult344 (d0 : Dev nD) (v18 : BitVec 32) (k0_t39 : Fin (k0_t39_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c896_i32_749 : BitVec 32 := 896#32
  let v1165 : BitVec 32 := Scalar.addi v1027 c896_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t39
  let c8_i32_760 : BitVec 32 := 8#32
  let v1180 : BitVec 32 := Scalar.muli arg13 c8_i32_760
  v1180
def k0_off472 (d0 : Dev nD) (v18 : BitVec 32) (k0_t39 : Fin (k0_t39_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c896_i32_749 : BitVec 32 := 896#32
  let v1165 : BitVec 32 := Scalar.addi v1027 c896_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t39
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
@[reducible] def k0_t40_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c896_i32_749 : BitVec 32 := 896#32
  let v1165 : BitVec 32 := Scalar.addi v1027 c896_i32_749
  let c3_i32_750 : BitVec 32 := 3#32
  let v1166 : BitVec 32 := Scalar.shrsi v1165 c3_i32_750
  let c1024_i32_751 : BitVec 32 := 1024#32
  let v1167 : BitVec 32 := Scalar.addi v1027 c1024_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let v1170 : BitVec 32 := Scalar.addi v1166 v1169
  let c1_i32_756 : BitVec 32 := 1#32
  ⟨v1173, v1170, c1_i32_756⟩
def k0_mult345 (d0 : Dev nD) (v18 : BitVec 32) (k0_t40 : Fin (k0_t40_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c896_i32_749 : BitVec 32 := 896#32
  let v1165 : BitVec 32 := Scalar.addi v1027 c896_i32_749
  let c3_i32_750 : BitVec 32 := 3#32
  let v1166 : BitVec 32 := Scalar.shrsi v1165 c3_i32_750
  let c1024_i32_751 : BitVec 32 := 1024#32
  let v1167 : BitVec 32 := Scalar.addi v1027 c1024_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t40
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off473 (d0 : Dev nD) (v18 : BitVec 32) (k0_t40 : Fin (k0_t40_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c896_i32_749 : BitVec 32 := 896#32
  let v1165 : BitVec 32 := Scalar.addi v1027 c896_i32_749
  let c3_i32_750 : BitVec 32 := 3#32
  let v1166 : BitVec 32 := Scalar.shrsi v1165 c3_i32_750
  let c1024_i32_751 : BitVec 32 := 1024#32
  let v1167 : BitVec 32 := Scalar.addi v1027 c1024_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t40
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult346 (d0 : Dev nD) (v18 : BitVec 32) (k0_t40 : Fin (k0_t40_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c896_i32_749 : BitVec 32 := 896#32
  let v1165 : BitVec 32 := Scalar.addi v1027 c896_i32_749
  let c3_i32_750 : BitVec 32 := 3#32
  let v1166 : BitVec 32 := Scalar.shrsi v1165 c3_i32_750
  let c1024_i32_751 : BitVec 32 := 1024#32
  let v1167 : BitVec 32 := Scalar.addi v1027 c1024_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t40
  let c8_i32_760 : BitVec 32 := 8#32
  let v1180 : BitVec 32 := Scalar.muli arg13 c8_i32_760
  v1180
def k0_off474 (d0 : Dev nD) (v18 : BitVec 32) (k0_t40 : Fin (k0_t40_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c896_i32_749 : BitVec 32 := 896#32
  let v1165 : BitVec 32 := Scalar.addi v1027 c896_i32_749
  let c3_i32_750 : BitVec 32 := 3#32
  let v1166 : BitVec 32 := Scalar.shrsi v1165 c3_i32_750
  let c1024_i32_751 : BitVec 32 := 1024#32
  let v1167 : BitVec 32 := Scalar.addi v1027 c1024_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t40
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
def k0_mult347 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1024_i32_746 : BitVec 32 := 1024#32
  let v1158 : BitVec 32 := Scalar.addi v1027 c1024_i32_746
  let c8_i32_747 : BitVec 32 := 8#32
  let v1159 : BitVec 32 := Scalar.muli v1158 c8_i32_747
  v1159
def k0_cond460 (v18 : BitVec 32) : BitVec 1 :=
  let c1152_i32_677 : BitVec 32 := 1152#32
  let v1072 : BitVec 1 := Scalar.cmpi .sge v18 c1152_i32_677
  let v1073 : BitVec 32 := Scalar.extui v1072
  let c0_i32_678 : BitVec 32 := 0#32
  let v1074 : BitVec 1 := Scalar.cmpi .ne v1073 c0_i32_678
  v1074

def k0_off475 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1024_i32_746 : BitVec 32 := 1024#32
  let v1158 : BitVec 32 := Scalar.addi v1027 c1024_i32_746
  let c8_i32_747 : BitVec 32 := 8#32
  let v1159 : BitVec 32 := Scalar.muli v1158 c8_i32_747
  let v1160 : BitVec 32 := v1159
  let v1161 : Index := Scalar.indexCast v1160
  let c0_748 : Index := 0#32
  ![v1161.toNat, 0]
@[reducible] def k0_t41_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1024_i32_749 : BitVec 32 := 1024#32
  let v1165 : BitVec 32 := Scalar.addi v1027 c1024_i32_749
  let c3_i32_750 : BitVec 32 := 3#32
  let v1166 : BitVec 32 := Scalar.shrsi v1165 c3_i32_750
  let c1152_i32_751 : BitVec 32 := 1152#32
  let v1167 : BitVec 32 := Scalar.addi v1027 c1152_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_755 : BitVec 32 := 1#32
  ⟨v1166, v1173, c1_i32_755⟩
def k0_mult348 (d0 : Dev nD) (v18 : BitVec 32) (k0_t41 : Fin (k0_t41_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1024_i32_749 : BitVec 32 := 1024#32
  let v1165 : BitVec 32 := Scalar.addi v1027 c1024_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t41
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off476 (d0 : Dev nD) (v18 : BitVec 32) (k0_t41 : Fin (k0_t41_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1024_i32_749 : BitVec 32 := 1024#32
  let v1165 : BitVec 32 := Scalar.addi v1027 c1024_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t41
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult349 (d0 : Dev nD) (v18 : BitVec 32) (k0_t41 : Fin (k0_t41_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1024_i32_749 : BitVec 32 := 1024#32
  let v1165 : BitVec 32 := Scalar.addi v1027 c1024_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t41
  let c8_i32_760 : BitVec 32 := 8#32
  let v1180 : BitVec 32 := Scalar.muli arg13 c8_i32_760
  v1180
def k0_off477 (d0 : Dev nD) (v18 : BitVec 32) (k0_t41 : Fin (k0_t41_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1024_i32_749 : BitVec 32 := 1024#32
  let v1165 : BitVec 32 := Scalar.addi v1027 c1024_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t41
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
@[reducible] def k0_t42_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1024_i32_749 : BitVec 32 := 1024#32
  let v1165 : BitVec 32 := Scalar.addi v1027 c1024_i32_749
  let c3_i32_750 : BitVec 32 := 3#32
  let v1166 : BitVec 32 := Scalar.shrsi v1165 c3_i32_750
  let c1152_i32_751 : BitVec 32 := 1152#32
  let v1167 : BitVec 32 := Scalar.addi v1027 c1152_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let v1170 : BitVec 32 := Scalar.addi v1166 v1169
  let c1_i32_756 : BitVec 32 := 1#32
  ⟨v1173, v1170, c1_i32_756⟩
def k0_mult350 (d0 : Dev nD) (v18 : BitVec 32) (k0_t42 : Fin (k0_t42_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1024_i32_749 : BitVec 32 := 1024#32
  let v1165 : BitVec 32 := Scalar.addi v1027 c1024_i32_749
  let c3_i32_750 : BitVec 32 := 3#32
  let v1166 : BitVec 32 := Scalar.shrsi v1165 c3_i32_750
  let c1152_i32_751 : BitVec 32 := 1152#32
  let v1167 : BitVec 32 := Scalar.addi v1027 c1152_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t42
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off478 (d0 : Dev nD) (v18 : BitVec 32) (k0_t42 : Fin (k0_t42_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1024_i32_749 : BitVec 32 := 1024#32
  let v1165 : BitVec 32 := Scalar.addi v1027 c1024_i32_749
  let c3_i32_750 : BitVec 32 := 3#32
  let v1166 : BitVec 32 := Scalar.shrsi v1165 c3_i32_750
  let c1152_i32_751 : BitVec 32 := 1152#32
  let v1167 : BitVec 32 := Scalar.addi v1027 c1152_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t42
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult351 (d0 : Dev nD) (v18 : BitVec 32) (k0_t42 : Fin (k0_t42_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1024_i32_749 : BitVec 32 := 1024#32
  let v1165 : BitVec 32 := Scalar.addi v1027 c1024_i32_749
  let c3_i32_750 : BitVec 32 := 3#32
  let v1166 : BitVec 32 := Scalar.shrsi v1165 c3_i32_750
  let c1152_i32_751 : BitVec 32 := 1152#32
  let v1167 : BitVec 32 := Scalar.addi v1027 c1152_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t42
  let c8_i32_760 : BitVec 32 := 8#32
  let v1180 : BitVec 32 := Scalar.muli arg13 c8_i32_760
  v1180
def k0_off479 (d0 : Dev nD) (v18 : BitVec 32) (k0_t42 : Fin (k0_t42_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1024_i32_749 : BitVec 32 := 1024#32
  let v1165 : BitVec 32 := Scalar.addi v1027 c1024_i32_749
  let c3_i32_750 : BitVec 32 := 3#32
  let v1166 : BitVec 32 := Scalar.shrsi v1165 c3_i32_750
  let c1152_i32_751 : BitVec 32 := 1152#32
  let v1167 : BitVec 32 := Scalar.addi v1027 c1152_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t42
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
def k0_mult352 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1152_i32_746 : BitVec 32 := 1152#32
  let v1158 : BitVec 32 := Scalar.addi v1027 c1152_i32_746
  let c8_i32_747 : BitVec 32 := 8#32
  let v1159 : BitVec 32 := Scalar.muli v1158 c8_i32_747
  v1159
def k0_cond461 (v18 : BitVec 32) : BitVec 1 :=
  let c1280_i32_679 : BitVec 32 := 1280#32
  let v1075 : BitVec 1 := Scalar.cmpi .sge v18 c1280_i32_679
  let v1076 : BitVec 32 := Scalar.extui v1075
  let c0_i32_680 : BitVec 32 := 0#32
  let v1077 : BitVec 1 := Scalar.cmpi .ne v1076 c0_i32_680
  v1077

def k0_off480 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1152_i32_746 : BitVec 32 := 1152#32
  let v1158 : BitVec 32 := Scalar.addi v1027 c1152_i32_746
  let c8_i32_747 : BitVec 32 := 8#32
  let v1159 : BitVec 32 := Scalar.muli v1158 c8_i32_747
  let v1160 : BitVec 32 := v1159
  let v1161 : Index := Scalar.indexCast v1160
  let c0_748 : Index := 0#32
  ![v1161.toNat, 0]
@[reducible] def k0_t43_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1152_i32_749 : BitVec 32 := 1152#32
  let v1165 : BitVec 32 := Scalar.addi v1027 c1152_i32_749
  let c3_i32_750 : BitVec 32 := 3#32
  let v1166 : BitVec 32 := Scalar.shrsi v1165 c3_i32_750
  let c1280_i32_751 : BitVec 32 := 1280#32
  let v1167 : BitVec 32 := Scalar.addi v1027 c1280_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_755 : BitVec 32 := 1#32
  ⟨v1166, v1173, c1_i32_755⟩
def k0_mult353 (d0 : Dev nD) (v18 : BitVec 32) (k0_t43 : Fin (k0_t43_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1152_i32_749 : BitVec 32 := 1152#32
  let v1165 : BitVec 32 := Scalar.addi v1027 c1152_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t43
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off481 (d0 : Dev nD) (v18 : BitVec 32) (k0_t43 : Fin (k0_t43_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1152_i32_749 : BitVec 32 := 1152#32
  let v1165 : BitVec 32 := Scalar.addi v1027 c1152_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t43
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult354 (d0 : Dev nD) (v18 : BitVec 32) (k0_t43 : Fin (k0_t43_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1152_i32_749 : BitVec 32 := 1152#32
  let v1165 : BitVec 32 := Scalar.addi v1027 c1152_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t43
  let c8_i32_760 : BitVec 32 := 8#32
  let v1180 : BitVec 32 := Scalar.muli arg13 c8_i32_760
  v1180
def k0_off482 (d0 : Dev nD) (v18 : BitVec 32) (k0_t43 : Fin (k0_t43_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1152_i32_749 : BitVec 32 := 1152#32
  let v1165 : BitVec 32 := Scalar.addi v1027 c1152_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t43
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
@[reducible] def k0_t44_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1152_i32_749 : BitVec 32 := 1152#32
  let v1165 : BitVec 32 := Scalar.addi v1027 c1152_i32_749
  let c3_i32_750 : BitVec 32 := 3#32
  let v1166 : BitVec 32 := Scalar.shrsi v1165 c3_i32_750
  let c1280_i32_751 : BitVec 32 := 1280#32
  let v1167 : BitVec 32 := Scalar.addi v1027 c1280_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let v1170 : BitVec 32 := Scalar.addi v1166 v1169
  let c1_i32_756 : BitVec 32 := 1#32
  ⟨v1173, v1170, c1_i32_756⟩
def k0_mult355 (d0 : Dev nD) (v18 : BitVec 32) (k0_t44 : Fin (k0_t44_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1152_i32_749 : BitVec 32 := 1152#32
  let v1165 : BitVec 32 := Scalar.addi v1027 c1152_i32_749
  let c3_i32_750 : BitVec 32 := 3#32
  let v1166 : BitVec 32 := Scalar.shrsi v1165 c3_i32_750
  let c1280_i32_751 : BitVec 32 := 1280#32
  let v1167 : BitVec 32 := Scalar.addi v1027 c1280_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t44
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off483 (d0 : Dev nD) (v18 : BitVec 32) (k0_t44 : Fin (k0_t44_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1152_i32_749 : BitVec 32 := 1152#32
  let v1165 : BitVec 32 := Scalar.addi v1027 c1152_i32_749
  let c3_i32_750 : BitVec 32 := 3#32
  let v1166 : BitVec 32 := Scalar.shrsi v1165 c3_i32_750
  let c1280_i32_751 : BitVec 32 := 1280#32
  let v1167 : BitVec 32 := Scalar.addi v1027 c1280_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t44
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult356 (d0 : Dev nD) (v18 : BitVec 32) (k0_t44 : Fin (k0_t44_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1152_i32_749 : BitVec 32 := 1152#32
  let v1165 : BitVec 32 := Scalar.addi v1027 c1152_i32_749
  let c3_i32_750 : BitVec 32 := 3#32
  let v1166 : BitVec 32 := Scalar.shrsi v1165 c3_i32_750
  let c1280_i32_751 : BitVec 32 := 1280#32
  let v1167 : BitVec 32 := Scalar.addi v1027 c1280_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t44
  let c8_i32_760 : BitVec 32 := 8#32
  let v1180 : BitVec 32 := Scalar.muli arg13 c8_i32_760
  v1180
def k0_off484 (d0 : Dev nD) (v18 : BitVec 32) (k0_t44 : Fin (k0_t44_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1152_i32_749 : BitVec 32 := 1152#32
  let v1165 : BitVec 32 := Scalar.addi v1027 c1152_i32_749
  let c3_i32_750 : BitVec 32 := 3#32
  let v1166 : BitVec 32 := Scalar.shrsi v1165 c3_i32_750
  let c1280_i32_751 : BitVec 32 := 1280#32
  let v1167 : BitVec 32 := Scalar.addi v1027 c1280_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t44
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
def k0_mult357 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1280_i32_746 : BitVec 32 := 1280#32
  let v1158 : BitVec 32 := Scalar.addi v1027 c1280_i32_746
  let c8_i32_747 : BitVec 32 := 8#32
  let v1159 : BitVec 32 := Scalar.muli v1158 c8_i32_747
  v1159
def k0_cond462 (v18 : BitVec 32) : BitVec 1 :=
  let c1408_i32_681 : BitVec 32 := 1408#32
  let v1078 : BitVec 1 := Scalar.cmpi .sge v18 c1408_i32_681
  let v1079 : BitVec 32 := Scalar.extui v1078
  let c0_i32_682 : BitVec 32 := 0#32
  let v1080 : BitVec 1 := Scalar.cmpi .ne v1079 c0_i32_682
  v1080

def k0_off485 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1280_i32_746 : BitVec 32 := 1280#32
  let v1158 : BitVec 32 := Scalar.addi v1027 c1280_i32_746
  let c8_i32_747 : BitVec 32 := 8#32
  let v1159 : BitVec 32 := Scalar.muli v1158 c8_i32_747
  let v1160 : BitVec 32 := v1159
  let v1161 : Index := Scalar.indexCast v1160
  let c0_748 : Index := 0#32
  ![v1161.toNat, 0]
@[reducible] def k0_t45_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1280_i32_749 : BitVec 32 := 1280#32
  let v1165 : BitVec 32 := Scalar.addi v1027 c1280_i32_749
  let c3_i32_750 : BitVec 32 := 3#32
  let v1166 : BitVec 32 := Scalar.shrsi v1165 c3_i32_750
  let c1408_i32_751 : BitVec 32 := 1408#32
  let v1167 : BitVec 32 := Scalar.addi v1027 c1408_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_755 : BitVec 32 := 1#32
  ⟨v1166, v1173, c1_i32_755⟩
def k0_mult358 (d0 : Dev nD) (v18 : BitVec 32) (k0_t45 : Fin (k0_t45_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1280_i32_749 : BitVec 32 := 1280#32
  let v1165 : BitVec 32 := Scalar.addi v1027 c1280_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t45
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off486 (d0 : Dev nD) (v18 : BitVec 32) (k0_t45 : Fin (k0_t45_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1280_i32_749 : BitVec 32 := 1280#32
  let v1165 : BitVec 32 := Scalar.addi v1027 c1280_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t45
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult359 (d0 : Dev nD) (v18 : BitVec 32) (k0_t45 : Fin (k0_t45_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1280_i32_749 : BitVec 32 := 1280#32
  let v1165 : BitVec 32 := Scalar.addi v1027 c1280_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t45
  let c8_i32_760 : BitVec 32 := 8#32
  let v1180 : BitVec 32 := Scalar.muli arg13 c8_i32_760
  v1180
def k0_off487 (d0 : Dev nD) (v18 : BitVec 32) (k0_t45 : Fin (k0_t45_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1280_i32_749 : BitVec 32 := 1280#32
  let v1165 : BitVec 32 := Scalar.addi v1027 c1280_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t45
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
@[reducible] def k0_t46_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1280_i32_749 : BitVec 32 := 1280#32
  let v1165 : BitVec 32 := Scalar.addi v1027 c1280_i32_749
  let c3_i32_750 : BitVec 32 := 3#32
  let v1166 : BitVec 32 := Scalar.shrsi v1165 c3_i32_750
  let c1408_i32_751 : BitVec 32 := 1408#32
  let v1167 : BitVec 32 := Scalar.addi v1027 c1408_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let v1170 : BitVec 32 := Scalar.addi v1166 v1169
  let c1_i32_756 : BitVec 32 := 1#32
  ⟨v1173, v1170, c1_i32_756⟩
def k0_mult360 (d0 : Dev nD) (v18 : BitVec 32) (k0_t46 : Fin (k0_t46_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1280_i32_749 : BitVec 32 := 1280#32
  let v1165 : BitVec 32 := Scalar.addi v1027 c1280_i32_749
  let c3_i32_750 : BitVec 32 := 3#32
  let v1166 : BitVec 32 := Scalar.shrsi v1165 c3_i32_750
  let c1408_i32_751 : BitVec 32 := 1408#32
  let v1167 : BitVec 32 := Scalar.addi v1027 c1408_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t46
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off488 (d0 : Dev nD) (v18 : BitVec 32) (k0_t46 : Fin (k0_t46_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1280_i32_749 : BitVec 32 := 1280#32
  let v1165 : BitVec 32 := Scalar.addi v1027 c1280_i32_749
  let c3_i32_750 : BitVec 32 := 3#32
  let v1166 : BitVec 32 := Scalar.shrsi v1165 c3_i32_750
  let c1408_i32_751 : BitVec 32 := 1408#32
  let v1167 : BitVec 32 := Scalar.addi v1027 c1408_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t46
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult361 (d0 : Dev nD) (v18 : BitVec 32) (k0_t46 : Fin (k0_t46_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1280_i32_749 : BitVec 32 := 1280#32
  let v1165 : BitVec 32 := Scalar.addi v1027 c1280_i32_749
  let c3_i32_750 : BitVec 32 := 3#32
  let v1166 : BitVec 32 := Scalar.shrsi v1165 c3_i32_750
  let c1408_i32_751 : BitVec 32 := 1408#32
  let v1167 : BitVec 32 := Scalar.addi v1027 c1408_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t46
  let c8_i32_760 : BitVec 32 := 8#32
  let v1180 : BitVec 32 := Scalar.muli arg13 c8_i32_760
  v1180
def k0_off489 (d0 : Dev nD) (v18 : BitVec 32) (k0_t46 : Fin (k0_t46_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1280_i32_749 : BitVec 32 := 1280#32
  let v1165 : BitVec 32 := Scalar.addi v1027 c1280_i32_749
  let c3_i32_750 : BitVec 32 := 3#32
  let v1166 : BitVec 32 := Scalar.shrsi v1165 c3_i32_750
  let c1408_i32_751 : BitVec 32 := 1408#32
  let v1167 : BitVec 32 := Scalar.addi v1027 c1408_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t46
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
def k0_mult362 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1408_i32_746 : BitVec 32 := 1408#32
  let v1158 : BitVec 32 := Scalar.addi v1027 c1408_i32_746
  let c8_i32_747 : BitVec 32 := 8#32
  let v1159 : BitVec 32 := Scalar.muli v1158 c8_i32_747
  v1159
def k0_cond463 (v18 : BitVec 32) : BitVec 1 :=
  let c1536_i32_683 : BitVec 32 := 1536#32
  let v1081 : BitVec 1 := Scalar.cmpi .sge v18 c1536_i32_683
  let v1082 : BitVec 32 := Scalar.extui v1081
  let c0_i32_684 : BitVec 32 := 0#32
  let v1083 : BitVec 1 := Scalar.cmpi .ne v1082 c0_i32_684
  v1083

def k0_off490 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1408_i32_746 : BitVec 32 := 1408#32
  let v1158 : BitVec 32 := Scalar.addi v1027 c1408_i32_746
  let c8_i32_747 : BitVec 32 := 8#32
  let v1159 : BitVec 32 := Scalar.muli v1158 c8_i32_747
  let v1160 : BitVec 32 := v1159
  let v1161 : Index := Scalar.indexCast v1160
  let c0_748 : Index := 0#32
  ![v1161.toNat, 0]
@[reducible] def k0_t47_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1408_i32_749 : BitVec 32 := 1408#32
  let v1165 : BitVec 32 := Scalar.addi v1027 c1408_i32_749
  let c3_i32_750 : BitVec 32 := 3#32
  let v1166 : BitVec 32 := Scalar.shrsi v1165 c3_i32_750
  let c1536_i32_751 : BitVec 32 := 1536#32
  let v1167 : BitVec 32 := Scalar.addi v1027 c1536_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_755 : BitVec 32 := 1#32
  ⟨v1166, v1173, c1_i32_755⟩
def k0_mult363 (d0 : Dev nD) (v18 : BitVec 32) (k0_t47 : Fin (k0_t47_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1408_i32_749 : BitVec 32 := 1408#32
  let v1165 : BitVec 32 := Scalar.addi v1027 c1408_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t47
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off491 (d0 : Dev nD) (v18 : BitVec 32) (k0_t47 : Fin (k0_t47_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1408_i32_749 : BitVec 32 := 1408#32
  let v1165 : BitVec 32 := Scalar.addi v1027 c1408_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t47
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult364 (d0 : Dev nD) (v18 : BitVec 32) (k0_t47 : Fin (k0_t47_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1408_i32_749 : BitVec 32 := 1408#32
  let v1165 : BitVec 32 := Scalar.addi v1027 c1408_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t47
  let c8_i32_760 : BitVec 32 := 8#32
  let v1180 : BitVec 32 := Scalar.muli arg13 c8_i32_760
  v1180
def k0_off492 (d0 : Dev nD) (v18 : BitVec 32) (k0_t47 : Fin (k0_t47_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1408_i32_749 : BitVec 32 := 1408#32
  let v1165 : BitVec 32 := Scalar.addi v1027 c1408_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t47
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
@[reducible] def k0_t48_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1408_i32_749 : BitVec 32 := 1408#32
  let v1165 : BitVec 32 := Scalar.addi v1027 c1408_i32_749
  let c3_i32_750 : BitVec 32 := 3#32
  let v1166 : BitVec 32 := Scalar.shrsi v1165 c3_i32_750
  let c1536_i32_751 : BitVec 32 := 1536#32
  let v1167 : BitVec 32 := Scalar.addi v1027 c1536_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let v1170 : BitVec 32 := Scalar.addi v1166 v1169
  let c1_i32_756 : BitVec 32 := 1#32
  ⟨v1173, v1170, c1_i32_756⟩
def k0_mult365 (d0 : Dev nD) (v18 : BitVec 32) (k0_t48 : Fin (k0_t48_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1408_i32_749 : BitVec 32 := 1408#32
  let v1165 : BitVec 32 := Scalar.addi v1027 c1408_i32_749
  let c3_i32_750 : BitVec 32 := 3#32
  let v1166 : BitVec 32 := Scalar.shrsi v1165 c3_i32_750
  let c1536_i32_751 : BitVec 32 := 1536#32
  let v1167 : BitVec 32 := Scalar.addi v1027 c1536_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t48
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off493 (d0 : Dev nD) (v18 : BitVec 32) (k0_t48 : Fin (k0_t48_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1408_i32_749 : BitVec 32 := 1408#32
  let v1165 : BitVec 32 := Scalar.addi v1027 c1408_i32_749
  let c3_i32_750 : BitVec 32 := 3#32
  let v1166 : BitVec 32 := Scalar.shrsi v1165 c3_i32_750
  let c1536_i32_751 : BitVec 32 := 1536#32
  let v1167 : BitVec 32 := Scalar.addi v1027 c1536_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t48
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult366 (d0 : Dev nD) (v18 : BitVec 32) (k0_t48 : Fin (k0_t48_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1408_i32_749 : BitVec 32 := 1408#32
  let v1165 : BitVec 32 := Scalar.addi v1027 c1408_i32_749
  let c3_i32_750 : BitVec 32 := 3#32
  let v1166 : BitVec 32 := Scalar.shrsi v1165 c3_i32_750
  let c1536_i32_751 : BitVec 32 := 1536#32
  let v1167 : BitVec 32 := Scalar.addi v1027 c1536_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t48
  let c8_i32_760 : BitVec 32 := 8#32
  let v1180 : BitVec 32 := Scalar.muli arg13 c8_i32_760
  v1180
def k0_off494 (d0 : Dev nD) (v18 : BitVec 32) (k0_t48 : Fin (k0_t48_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1408_i32_749 : BitVec 32 := 1408#32
  let v1165 : BitVec 32 := Scalar.addi v1027 c1408_i32_749
  let c3_i32_750 : BitVec 32 := 3#32
  let v1166 : BitVec 32 := Scalar.shrsi v1165 c3_i32_750
  let c1536_i32_751 : BitVec 32 := 1536#32
  let v1167 : BitVec 32 := Scalar.addi v1027 c1536_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t48
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
def k0_mult367 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1536_i32_746 : BitVec 32 := 1536#32
  let v1158 : BitVec 32 := Scalar.addi v1027 c1536_i32_746
  let c8_i32_747 : BitVec 32 := 8#32
  let v1159 : BitVec 32 := Scalar.muli v1158 c8_i32_747
  v1159
def k0_cond464 (v18 : BitVec 32) : BitVec 1 :=
  let c1664_i32_685 : BitVec 32 := 1664#32
  let v1084 : BitVec 1 := Scalar.cmpi .sge v18 c1664_i32_685
  let v1085 : BitVec 32 := Scalar.extui v1084
  let c0_i32_686 : BitVec 32 := 0#32
  let v1086 : BitVec 1 := Scalar.cmpi .ne v1085 c0_i32_686
  v1086

def k0_off495 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1536_i32_746 : BitVec 32 := 1536#32
  let v1158 : BitVec 32 := Scalar.addi v1027 c1536_i32_746
  let c8_i32_747 : BitVec 32 := 8#32
  let v1159 : BitVec 32 := Scalar.muli v1158 c8_i32_747
  let v1160 : BitVec 32 := v1159
  let v1161 : Index := Scalar.indexCast v1160
  let c0_748 : Index := 0#32
  ![v1161.toNat, 0]
@[reducible] def k0_t49_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1536_i32_749 : BitVec 32 := 1536#32
  let v1165 : BitVec 32 := Scalar.addi v1027 c1536_i32_749
  let c3_i32_750 : BitVec 32 := 3#32
  let v1166 : BitVec 32 := Scalar.shrsi v1165 c3_i32_750
  let c1664_i32_751 : BitVec 32 := 1664#32
  let v1167 : BitVec 32 := Scalar.addi v1027 c1664_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_755 : BitVec 32 := 1#32
  ⟨v1166, v1173, c1_i32_755⟩
def k0_mult368 (d0 : Dev nD) (v18 : BitVec 32) (k0_t49 : Fin (k0_t49_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1536_i32_749 : BitVec 32 := 1536#32
  let v1165 : BitVec 32 := Scalar.addi v1027 c1536_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t49
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off496 (d0 : Dev nD) (v18 : BitVec 32) (k0_t49 : Fin (k0_t49_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1536_i32_749 : BitVec 32 := 1536#32
  let v1165 : BitVec 32 := Scalar.addi v1027 c1536_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t49
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult369 (d0 : Dev nD) (v18 : BitVec 32) (k0_t49 : Fin (k0_t49_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1536_i32_749 : BitVec 32 := 1536#32
  let v1165 : BitVec 32 := Scalar.addi v1027 c1536_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t49
  let c8_i32_760 : BitVec 32 := 8#32
  let v1180 : BitVec 32 := Scalar.muli arg13 c8_i32_760
  v1180
def k0_off497 (d0 : Dev nD) (v18 : BitVec 32) (k0_t49 : Fin (k0_t49_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1536_i32_749 : BitVec 32 := 1536#32
  let v1165 : BitVec 32 := Scalar.addi v1027 c1536_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t49
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
@[reducible] def k0_t50_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1536_i32_749 : BitVec 32 := 1536#32
  let v1165 : BitVec 32 := Scalar.addi v1027 c1536_i32_749
  let c3_i32_750 : BitVec 32 := 3#32
  let v1166 : BitVec 32 := Scalar.shrsi v1165 c3_i32_750
  let c1664_i32_751 : BitVec 32 := 1664#32
  let v1167 : BitVec 32 := Scalar.addi v1027 c1664_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let v1170 : BitVec 32 := Scalar.addi v1166 v1169
  let c1_i32_756 : BitVec 32 := 1#32
  ⟨v1173, v1170, c1_i32_756⟩
def k0_mult370 (d0 : Dev nD) (v18 : BitVec 32) (k0_t50 : Fin (k0_t50_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1536_i32_749 : BitVec 32 := 1536#32
  let v1165 : BitVec 32 := Scalar.addi v1027 c1536_i32_749
  let c3_i32_750 : BitVec 32 := 3#32
  let v1166 : BitVec 32 := Scalar.shrsi v1165 c3_i32_750
  let c1664_i32_751 : BitVec 32 := 1664#32
  let v1167 : BitVec 32 := Scalar.addi v1027 c1664_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t50
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off498 (d0 : Dev nD) (v18 : BitVec 32) (k0_t50 : Fin (k0_t50_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1536_i32_749 : BitVec 32 := 1536#32
  let v1165 : BitVec 32 := Scalar.addi v1027 c1536_i32_749
  let c3_i32_750 : BitVec 32 := 3#32
  let v1166 : BitVec 32 := Scalar.shrsi v1165 c3_i32_750
  let c1664_i32_751 : BitVec 32 := 1664#32
  let v1167 : BitVec 32 := Scalar.addi v1027 c1664_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t50
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult371 (d0 : Dev nD) (v18 : BitVec 32) (k0_t50 : Fin (k0_t50_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1536_i32_749 : BitVec 32 := 1536#32
  let v1165 : BitVec 32 := Scalar.addi v1027 c1536_i32_749
  let c3_i32_750 : BitVec 32 := 3#32
  let v1166 : BitVec 32 := Scalar.shrsi v1165 c3_i32_750
  let c1664_i32_751 : BitVec 32 := 1664#32
  let v1167 : BitVec 32 := Scalar.addi v1027 c1664_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t50
  let c8_i32_760 : BitVec 32 := 8#32
  let v1180 : BitVec 32 := Scalar.muli arg13 c8_i32_760
  v1180
def k0_off499 (d0 : Dev nD) (v18 : BitVec 32) (k0_t50 : Fin (k0_t50_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1536_i32_749 : BitVec 32 := 1536#32
  let v1165 : BitVec 32 := Scalar.addi v1027 c1536_i32_749
  let c3_i32_750 : BitVec 32 := 3#32
  let v1166 : BitVec 32 := Scalar.shrsi v1165 c3_i32_750
  let c1664_i32_751 : BitVec 32 := 1664#32
  let v1167 : BitVec 32 := Scalar.addi v1027 c1664_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t50
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
def k0_mult372 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1664_i32_747 : BitVec 32 := 1664#32
  let v1158 : BitVec 32 := Scalar.addi v1027 c1664_i32_747
  let c8_i32_748 : BitVec 32 := 8#32
  let v1159 : BitVec 32 := Scalar.muli v1158 c8_i32_748
  v1159
def k0_cond465 (v18 : BitVec 32) : BitVec 1 :=
  let c1792_i32_687 : BitVec 32 := 1792#32
  let v1087 : BitVec 1 := Scalar.cmpi .sge v18 c1792_i32_687
  let v1088 : BitVec 32 := Scalar.extui v1087
  let c0_i32_688 : BitVec 32 := 0#32
  let v1089 : BitVec 1 := Scalar.cmpi .ne v1088 c0_i32_688
  v1089

def k0_off500 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1664_i32_747 : BitVec 32 := 1664#32
  let v1158 : BitVec 32 := Scalar.addi v1027 c1664_i32_747
  let c8_i32_748 : BitVec 32 := 8#32
  let v1159 : BitVec 32 := Scalar.muli v1158 c8_i32_748
  let v1160 : BitVec 32 := v1159
  let v1161 : Index := Scalar.indexCast v1160
  let c0_749 : Index := 0#32
  ![v1161.toNat, 0]
@[reducible] def k0_t51_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1664_i32_750 : BitVec 32 := 1664#32
  let v1165 : BitVec 32 := Scalar.addi v1027 c1664_i32_750
  let c3_i32_751 : BitVec 32 := 3#32
  let v1166 : BitVec 32 := Scalar.shrsi v1165 c3_i32_751
  let c1792_i32_752 : BitVec 32 := 1792#32
  let v1167 : BitVec 32 := Scalar.addi v1027 c1792_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_756 : BitVec 32 := 1#32
  ⟨v1166, v1173, c1_i32_756⟩

variable {F : FTy → Type} [FloatOps F]

def k0_mult373 (d0 : Dev nD) (v18 : BitVec 32) (k0_t51 : Fin (k0_t51_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1664_i32_750 : BitVec 32 := 1664#32
  let v1165 : BitVec 32 := Scalar.addi v1027 c1664_i32_750
  let c3_i32_751 : BitVec 32 := 3#32
  let v1166 : BitVec 32 := Scalar.shrsi v1165 c3_i32_751
  let c1_i32_756 : BitVec 32 := 1#32
  let arg13 : BitVec 32 := Scf.iv v1166 c1_i32_756 k0_t51
  let c8_i32_758 : BitVec 32 := 8#32
  let v1174 : BitVec 32 := Scalar.muli arg13 c8_i32_758
  let c8_i32_759 : BitVec 32 := 8#32
  let v1175 : BitVec 32 := Scalar.muli v1174 c8_i32_759
  v1175
def k0_off501 (d0 : Dev nD) (v18 : BitVec 32) (k0_t51 : Fin (k0_t51_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1664_i32_750 : BitVec 32 := 1664#32
  let v1165 : BitVec 32 := Scalar.addi v1027 c1664_i32_750
  let c3_i32_751 : BitVec 32 := 3#32
  let v1166 : BitVec 32 := Scalar.shrsi v1165 c3_i32_751
  let c1_i32_756 : BitVec 32 := 1#32
  let arg13 : BitVec 32 := Scf.iv v1166 c1_i32_756 k0_t51
  let c8_i32_758 : BitVec 32 := 8#32
  let v1174 : BitVec 32 := Scalar.muli arg13 c8_i32_758
  let c8_i32_759 : BitVec 32 := 8#32
  let v1175 : BitVec 32 := Scalar.muli v1174 c8_i32_759
  let v1176 : BitVec 32 := v1175
  let v1177 : Index := Scalar.indexCast v1176
  let c0_760 : Index := 0#32
  ![v1177.toNat, 0]
def k0_mult374 (d0 : Dev nD) (v18 : BitVec 32) (k0_t51 : Fin (k0_t51_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1664_i32_750 : BitVec 32 := 1664#32
  let v1165 : BitVec 32 := Scalar.addi v1027 c1664_i32_750
  let c3_i32_751 : BitVec 32 := 3#32
  let v1166 : BitVec 32 := Scalar.shrsi v1165 c3_i32_751
  let c1_i32_756 : BitVec 32 := 1#32
  let arg13 : BitVec 32 := Scf.iv v1166 c1_i32_756 k0_t51
  let c8_i32_761 : BitVec 32 := 8#32
  let v1180 : BitVec 32 := Scalar.muli arg13 c8_i32_761
  v1180
def k0_off502 (d0 : Dev nD) (v18 : BitVec 32) (k0_t51 : Fin (k0_t51_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1664_i32_750 : BitVec 32 := 1664#32
  let v1165 : BitVec 32 := Scalar.addi v1027 c1664_i32_750
  let c3_i32_751 : BitVec 32 := 3#32
  let v1166 : BitVec 32 := Scalar.shrsi v1165 c3_i32_751
  let c1_i32_756 : BitVec 32 := 1#32
  let arg13 : BitVec 32 := Scf.iv v1166 c1_i32_756 k0_t51
  let c8_i32_761 : BitVec 32 := 8#32
  let v1180 : BitVec 32 := Scalar.muli arg13 c8_i32_761
  let v1181 : BitVec 32 := v1180
  let v1182 : Index := Scalar.indexCast v1181
  let c0_762 : Index := 0#32
  ![v1182.toNat, 0]
@[reducible] def k0_t52_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1664_i32_750 : BitVec 32 := 1664#32
  let v1165 : BitVec 32 := Scalar.addi v1027 c1664_i32_750
  let c3_i32_751 : BitVec 32 := 3#32
  let v1166 : BitVec 32 := Scalar.shrsi v1165 c3_i32_751
  let c1792_i32_752 : BitVec 32 := 1792#32
  let v1167 : BitVec 32 := Scalar.addi v1027 c1792_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let v1170 : BitVec 32 := Scalar.addi v1166 v1169
  let c1_i32_757 : BitVec 32 := 1#32
  ⟨v1173, v1170, c1_i32_757⟩
def k0_mult375 (d0 : Dev nD) (v18 : BitVec 32) (k0_t52 : Fin (k0_t52_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1664_i32_750 : BitVec 32 := 1664#32
  let v1165 : BitVec 32 := Scalar.addi v1027 c1664_i32_750
  let c3_i32_751 : BitVec 32 := 3#32
  let v1166 : BitVec 32 := Scalar.shrsi v1165 c3_i32_751
  let c1792_i32_752 : BitVec 32 := 1792#32
  let v1167 : BitVec 32 := Scalar.addi v1027 c1792_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_757 : BitVec 32 := 1#32
  let arg13 : BitVec 32 := Scf.iv v1173 c1_i32_757 k0_t52
  let c8_i32_758 : BitVec 32 := 8#32
  let v1174 : BitVec 32 := Scalar.muli arg13 c8_i32_758
  let c8_i32_759 : BitVec 32 := 8#32
  let v1175 : BitVec 32 := Scalar.muli v1174 c8_i32_759
  v1175
def k0_off503 (d0 : Dev nD) (v18 : BitVec 32) (k0_t52 : Fin (k0_t52_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1664_i32_750 : BitVec 32 := 1664#32
  let v1165 : BitVec 32 := Scalar.addi v1027 c1664_i32_750
  let c3_i32_751 : BitVec 32 := 3#32
  let v1166 : BitVec 32 := Scalar.shrsi v1165 c3_i32_751
  let c1792_i32_752 : BitVec 32 := 1792#32
  let v1167 : BitVec 32 := Scalar.addi v1027 c1792_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_757 : BitVec 32 := 1#32
  let arg13 : BitVec 32 := Scf.iv v1173 c1_i32_757 k0_t52
  let c8_i32_758 : BitVec 32 := 8#32
  let v1174 : BitVec 32 := Scalar.muli arg13 c8_i32_758
  let c8_i32_759 : BitVec 32 := 8#32
  let v1175 : BitVec 32 := Scalar.muli v1174 c8_i32_759
  let v1176 : BitVec 32 := v1175
  let v1177 : Index := Scalar.indexCast v1176
  let c0_760 : Index := 0#32
  ![v1177.toNat, 0]
def k0_mult376 (d0 : Dev nD) (v18 : BitVec 32) (k0_t52 : Fin (k0_t52_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1664_i32_750 : BitVec 32 := 1664#32
  let v1165 : BitVec 32 := Scalar.addi v1027 c1664_i32_750
  let c3_i32_751 : BitVec 32 := 3#32
  let v1166 : BitVec 32 := Scalar.shrsi v1165 c3_i32_751
  let c1792_i32_752 : BitVec 32 := 1792#32
  let v1167 : BitVec 32 := Scalar.addi v1027 c1792_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_757 : BitVec 32 := 1#32
  let arg13 : BitVec 32 := Scf.iv v1173 c1_i32_757 k0_t52
  let c8_i32_761 : BitVec 32 := 8#32
  let v1180 : BitVec 32 := Scalar.muli arg13 c8_i32_761
  v1180
def k0_off504 (d0 : Dev nD) (v18 : BitVec 32) (k0_t52 : Fin (k0_t52_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1664_i32_750 : BitVec 32 := 1664#32
  let v1165 : BitVec 32 := Scalar.addi v1027 c1664_i32_750
  let c3_i32_751 : BitVec 32 := 3#32
  let v1166 : BitVec 32 := Scalar.shrsi v1165 c3_i32_751
  let c1792_i32_752 : BitVec 32 := 1792#32
  let v1167 : BitVec 32 := Scalar.addi v1027 c1792_i32_752
  let c3_i32_753 : BitVec 32 := 3#32
  let v1168 : BitVec 32 := Scalar.shrsi v1167 c3_i32_753
  let v1169 : BitVec 32 := Scalar.subi v1168 v1166
  let c1_i32_755 : BitVec 32 := 1#32
  let v1171 : BitVec 32 := Scalar.divsi v1169 c1_i32_755
  let v1172 : BitVec 32 := Scalar.muli v1171 c1_i32_755
  let v1173 : BitVec 32 := Scalar.addi v1166 v1172
  let c1_i32_757 : BitVec 32 := 1#32
  let arg13 : BitVec 32 := Scf.iv v1173 c1_i32_757 k0_t52
  let c8_i32_761 : BitVec 32 := 8#32
  let v1180 : BitVec 32 := Scalar.muli arg13 c8_i32_761
  let v1181 : BitVec 32 := v1180
  let v1182 : Index := Scalar.indexCast v1181
  let c0_762 : Index := 0#32
  ![v1182.toNat, 0]
def k0_mult377 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1792_i32_746 : BitVec 32 := 1792#32
  let v1158 : BitVec 32 := Scalar.addi v1027 c1792_i32_746
  let c8_i32_747 : BitVec 32 := 8#32
  let v1159 : BitVec 32 := Scalar.muli v1158 c8_i32_747
  v1159
def k0_cond466 (v18 : BitVec 32) : BitVec 1 :=
  let c1920_i32_689 : BitVec 32 := 1920#32
  let v1090 : BitVec 1 := Scalar.cmpi .sge v18 c1920_i32_689
  let v1091 : BitVec 32 := Scalar.extui v1090
  let c0_i32_690 : BitVec 32 := 0#32
  let v1092 : BitVec 1 := Scalar.cmpi .ne v1091 c0_i32_690
  v1092

def k0_off505 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1792_i32_746 : BitVec 32 := 1792#32
  let v1158 : BitVec 32 := Scalar.addi v1027 c1792_i32_746
  let c8_i32_747 : BitVec 32 := 8#32
  let v1159 : BitVec 32 := Scalar.muli v1158 c8_i32_747
  let v1160 : BitVec 32 := v1159
  let v1161 : Index := Scalar.indexCast v1160
  let c0_748 : Index := 0#32
  ![v1161.toNat, 0]
@[reducible] def k0_t53_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1792_i32_749 : BitVec 32 := 1792#32
  let v1165 : BitVec 32 := Scalar.addi v1027 c1792_i32_749
  let c3_i32_750 : BitVec 32 := 3#32
  let v1166 : BitVec 32 := Scalar.shrsi v1165 c3_i32_750
  let c1920_i32_751 : BitVec 32 := 1920#32
  let v1167 : BitVec 32 := Scalar.addi v1027 c1920_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_755 : BitVec 32 := 1#32
  ⟨v1166, v1173, c1_i32_755⟩
def k0_mult378 (d0 : Dev nD) (v18 : BitVec 32) (k0_t53 : Fin (k0_t53_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1792_i32_749 : BitVec 32 := 1792#32
  let v1165 : BitVec 32 := Scalar.addi v1027 c1792_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t53
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off506 (d0 : Dev nD) (v18 : BitVec 32) (k0_t53 : Fin (k0_t53_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1792_i32_749 : BitVec 32 := 1792#32
  let v1165 : BitVec 32 := Scalar.addi v1027 c1792_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t53
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult379 (d0 : Dev nD) (v18 : BitVec 32) (k0_t53 : Fin (k0_t53_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1792_i32_749 : BitVec 32 := 1792#32
  let v1165 : BitVec 32 := Scalar.addi v1027 c1792_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t53
  let c8_i32_760 : BitVec 32 := 8#32
  let v1180 : BitVec 32 := Scalar.muli arg13 c8_i32_760
  v1180
def k0_off507 (d0 : Dev nD) (v18 : BitVec 32) (k0_t53 : Fin (k0_t53_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1792_i32_749 : BitVec 32 := 1792#32
  let v1165 : BitVec 32 := Scalar.addi v1027 c1792_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t53
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
@[reducible] def k0_t54_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1792_i32_749 : BitVec 32 := 1792#32
  let v1165 : BitVec 32 := Scalar.addi v1027 c1792_i32_749
  let c3_i32_750 : BitVec 32 := 3#32
  let v1166 : BitVec 32 := Scalar.shrsi v1165 c3_i32_750
  let c1920_i32_751 : BitVec 32 := 1920#32
  let v1167 : BitVec 32 := Scalar.addi v1027 c1920_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let v1170 : BitVec 32 := Scalar.addi v1166 v1169
  let c1_i32_756 : BitVec 32 := 1#32
  ⟨v1173, v1170, c1_i32_756⟩
def k0_mult380 (d0 : Dev nD) (v18 : BitVec 32) (k0_t54 : Fin (k0_t54_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1792_i32_749 : BitVec 32 := 1792#32
  let v1165 : BitVec 32 := Scalar.addi v1027 c1792_i32_749
  let c3_i32_750 : BitVec 32 := 3#32
  let v1166 : BitVec 32 := Scalar.shrsi v1165 c3_i32_750
  let c1920_i32_751 : BitVec 32 := 1920#32
  let v1167 : BitVec 32 := Scalar.addi v1027 c1920_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t54
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off508 (d0 : Dev nD) (v18 : BitVec 32) (k0_t54 : Fin (k0_t54_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1792_i32_749 : BitVec 32 := 1792#32
  let v1165 : BitVec 32 := Scalar.addi v1027 c1792_i32_749
  let c3_i32_750 : BitVec 32 := 3#32
  let v1166 : BitVec 32 := Scalar.shrsi v1165 c3_i32_750
  let c1920_i32_751 : BitVec 32 := 1920#32
  let v1167 : BitVec 32 := Scalar.addi v1027 c1920_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t54
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult381 (d0 : Dev nD) (v18 : BitVec 32) (k0_t54 : Fin (k0_t54_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1792_i32_749 : BitVec 32 := 1792#32
  let v1165 : BitVec 32 := Scalar.addi v1027 c1792_i32_749
  let c3_i32_750 : BitVec 32 := 3#32
  let v1166 : BitVec 32 := Scalar.shrsi v1165 c3_i32_750
  let c1920_i32_751 : BitVec 32 := 1920#32
  let v1167 : BitVec 32 := Scalar.addi v1027 c1920_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t54
  let c8_i32_760 : BitVec 32 := 8#32
  let v1180 : BitVec 32 := Scalar.muli arg13 c8_i32_760
  v1180
def k0_off509 (d0 : Dev nD) (v18 : BitVec 32) (k0_t54 : Fin (k0_t54_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1792_i32_749 : BitVec 32 := 1792#32
  let v1165 : BitVec 32 := Scalar.addi v1027 c1792_i32_749
  let c3_i32_750 : BitVec 32 := 3#32
  let v1166 : BitVec 32 := Scalar.shrsi v1165 c3_i32_750
  let c1920_i32_751 : BitVec 32 := 1920#32
  let v1167 : BitVec 32 := Scalar.addi v1027 c1920_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t54
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
def k0_mult382 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1920_i32_746 : BitVec 32 := 1920#32
  let v1158 : BitVec 32 := Scalar.addi v1027 c1920_i32_746
  let c8_i32_747 : BitVec 32 := 8#32
  let v1159 : BitVec 32 := Scalar.muli v1158 c8_i32_747
  v1159
def k0_cond467 (v18 : BitVec 32) : BitVec 1 :=
  let c2048_i32_691 : BitVec 32 := 2048#32
  let v1093 : BitVec 1 := Scalar.cmpi .sge v18 c2048_i32_691
  let v1094 : BitVec 32 := Scalar.extui v1093
  let c0_i32_692 : BitVec 32 := 0#32
  let v1095 : BitVec 1 := Scalar.cmpi .ne v1094 c0_i32_692
  v1095

def k0_off510 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1920_i32_746 : BitVec 32 := 1920#32
  let v1158 : BitVec 32 := Scalar.addi v1027 c1920_i32_746
  let c8_i32_747 : BitVec 32 := 8#32
  let v1159 : BitVec 32 := Scalar.muli v1158 c8_i32_747
  let v1160 : BitVec 32 := v1159
  let v1161 : Index := Scalar.indexCast v1160
  let c0_748 : Index := 0#32
  ![v1161.toNat, 0]
@[reducible] def k0_t55_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1920_i32_749 : BitVec 32 := 1920#32
  let v1165 : BitVec 32 := Scalar.addi v1027 c1920_i32_749
  let c3_i32_750 : BitVec 32 := 3#32
  let v1166 : BitVec 32 := Scalar.shrsi v1165 c3_i32_750
  let c2048_i32_751 : BitVec 32 := 2048#32
  let v1167 : BitVec 32 := Scalar.addi v1027 c2048_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_755 : BitVec 32 := 1#32
  ⟨v1166, v1173, c1_i32_755⟩
def k0_mult383 (d0 : Dev nD) (v18 : BitVec 32) (k0_t55 : Fin (k0_t55_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1920_i32_749 : BitVec 32 := 1920#32
  let v1165 : BitVec 32 := Scalar.addi v1027 c1920_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t55
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off511 (d0 : Dev nD) (v18 : BitVec 32) (k0_t55 : Fin (k0_t55_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1920_i32_749 : BitVec 32 := 1920#32
  let v1165 : BitVec 32 := Scalar.addi v1027 c1920_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t55
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult384 (d0 : Dev nD) (v18 : BitVec 32) (k0_t55 : Fin (k0_t55_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1920_i32_749 : BitVec 32 := 1920#32
  let v1165 : BitVec 32 := Scalar.addi v1027 c1920_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t55
  let c8_i32_760 : BitVec 32 := 8#32
  let v1180 : BitVec 32 := Scalar.muli arg13 c8_i32_760
  v1180
def k0_off512 (d0 : Dev nD) (v18 : BitVec 32) (k0_t55 : Fin (k0_t55_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1920_i32_749 : BitVec 32 := 1920#32
  let v1165 : BitVec 32 := Scalar.addi v1027 c1920_i32_749
  let c3_i32_750 : BitVec 32 := 3#32
  let v1166 : BitVec 32 := Scalar.shrsi v1165 c3_i32_750
  let c1_i32_755 : BitVec 32 := 1#32
  let arg13 : BitVec 32 := Scf.iv v1166 c1_i32_755 k0_t55
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
@[reducible] def k0_t56_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1920_i32_749 : BitVec 32 := 1920#32
  let v1165 : BitVec 32 := Scalar.addi v1027 c1920_i32_749
  let c3_i32_750 : BitVec 32 := 3#32
  let v1166 : BitVec 32 := Scalar.shrsi v1165 c3_i32_750
  let c2048_i32_751 : BitVec 32 := 2048#32
  let v1167 : BitVec 32 := Scalar.addi v1027 c2048_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let v1170 : BitVec 32 := Scalar.addi v1166 v1169
  let c1_i32_756 : BitVec 32 := 1#32
  ⟨v1173, v1170, c1_i32_756⟩
def k0_mult385 (d0 : Dev nD) (v18 : BitVec 32) (k0_t56 : Fin (k0_t56_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1920_i32_749 : BitVec 32 := 1920#32
  let v1165 : BitVec 32 := Scalar.addi v1027 c1920_i32_749
  let c3_i32_750 : BitVec 32 := 3#32
  let v1166 : BitVec 32 := Scalar.shrsi v1165 c3_i32_750
  let c2048_i32_751 : BitVec 32 := 2048#32
  let v1167 : BitVec 32 := Scalar.addi v1027 c2048_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t56
  let c8_i32_757 : BitVec 32 := 8#32
  let v1174 : BitVec 32 := Scalar.muli arg13 c8_i32_757
  let c8_i32_758 : BitVec 32 := 8#32
  let v1175 : BitVec 32 := Scalar.muli v1174 c8_i32_758
  v1175
def k0_off513 (d0 : Dev nD) (v18 : BitVec 32) (k0_t56 : Fin (k0_t56_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1920_i32_749 : BitVec 32 := 1920#32
  let v1165 : BitVec 32 := Scalar.addi v1027 c1920_i32_749
  let c3_i32_750 : BitVec 32 := 3#32
  let v1166 : BitVec 32 := Scalar.shrsi v1165 c3_i32_750
  let c2048_i32_751 : BitVec 32 := 2048#32
  let v1167 : BitVec 32 := Scalar.addi v1027 c2048_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t56
  let c8_i32_757 : BitVec 32 := 8#32
  let v1174 : BitVec 32 := Scalar.muli arg13 c8_i32_757
  let c8_i32_758 : BitVec 32 := 8#32
  let v1175 : BitVec 32 := Scalar.muli v1174 c8_i32_758
  let v1176 : BitVec 32 := v1175
  let v1177 : Index := Scalar.indexCast v1176
  let c0_759 : Index := 0#32
  ![v1177.toNat, 0]
def k0_mult386 (d0 : Dev nD) (v18 : BitVec 32) (k0_t56 : Fin (k0_t56_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1920_i32_749 : BitVec 32 := 1920#32
  let v1165 : BitVec 32 := Scalar.addi v1027 c1920_i32_749
  let c3_i32_750 : BitVec 32 := 3#32
  let v1166 : BitVec 32 := Scalar.shrsi v1165 c3_i32_750
  let c2048_i32_751 : BitVec 32 := 2048#32
  let v1167 : BitVec 32 := Scalar.addi v1027 c2048_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t56
  let c8_i32_760 : BitVec 32 := 8#32
  let v1180 : BitVec 32 := Scalar.muli arg13 c8_i32_760
  v1180
def k0_off514 (d0 : Dev nD) (v18 : BitVec 32) (k0_t56 : Fin (k0_t56_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c1920_i32_749 : BitVec 32 := 1920#32
  let v1165 : BitVec 32 := Scalar.addi v1027 c1920_i32_749
  let c3_i32_750 : BitVec 32 := 3#32
  let v1166 : BitVec 32 := Scalar.shrsi v1165 c3_i32_750
  let c2048_i32_751 : BitVec 32 := 2048#32
  let v1167 : BitVec 32 := Scalar.addi v1027 c2048_i32_751
  let c3_i32_752 : BitVec 32 := 3#32
  let v1168 : BitVec 32 := Scalar.shrsi v1167 c3_i32_752
  let v1169 : BitVec 32 := Scalar.subi v1168 v1166
  let c1_i32_754 : BitVec 32 := 1#32
  let v1171 : BitVec 32 := Scalar.divsi v1169 c1_i32_754
  let v1172 : BitVec 32 := Scalar.muli v1171 c1_i32_754
  let v1173 : BitVec 32 := Scalar.addi v1166 v1172
  let c1_i32_756 : BitVec 32 := 1#32
  let arg13 : BitVec 32 := Scf.iv v1173 c1_i32_756 k0_t56
  let c8_i32_760 : BitVec 32 := 8#32
  let v1180 : BitVec 32 := Scalar.muli arg13 c8_i32_760
  let v1181 : BitVec 32 := v1180
  let v1182 : Index := Scalar.indexCast v1181
  let c0_761 : Index := 0#32
  ![v1182.toNat, 0]
def k0_mult387 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c7_i32_730 : BitVec 32 := 7#32
  let v1142 : BitVec 32 := Scalar.shrsi v28 c7_i32_730
  let c7_i32_731 : BitVec 32 := 7#32
  let v1143 : BitVec 32 := Scalar.shli v1142 c7_i32_731
  let v1144 : BitVec 32 := Scalar.addi v27 v1143
  let c8_i32_732 : BitVec 32 := 8#32
  let v1145 : BitVec 32 := Scalar.muli v1144 c8_i32_732
  v1145
def k0_cond468 (v18 : BitVec 32) : BitVec 1 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c6_i32_693 : BitVec 32 := 6#32
  let v1096 : BitVec 32 := Scalar.shrsi v28 c6_i32_693
  let c1_i32_694 : BitVec 32 := 1#32
  let v1097 : BitVec 32 := Scalar.andi v1096 c1_i32_694
  let c1_i32_695 : BitVec 32 := 1#32
  let v1098 : BitVec 1 := Scalar.cmpi .eq v1097 c1_i32_695
  let v1099 : BitVec 32 := Scalar.extui v1098
  let c0_i32_696 : BitVec 32 := 0#32
  let v1100 : BitVec 1 := Scalar.cmpi .ne v1099 c0_i32_696
  v1100

def k0_mult388 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c7_i32_730 : BitVec 32 := 7#32
  let v1142 : BitVec 32 := Scalar.shrsi v28 c7_i32_730
  let c7_i32_731 : BitVec 32 := 7#32
  let v1143 : BitVec 32 := Scalar.shli v1142 c7_i32_731
  let v1144 : BitVec 32 := Scalar.addi v27 v1143
  let c8_i32_733 : BitVec 32 := 8#32
  let v1147 : BitVec 32 := Scalar.muli v1144 c8_i32_733
  v1147
def k0_off515 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c7_i32_730 : BitVec 32 := 7#32
  let v1142 : BitVec 32 := Scalar.shrsi v28 c7_i32_730
  let c7_i32_731 : BitVec 32 := 7#32
  let v1143 : BitVec 32 := Scalar.shli v1142 c7_i32_731
  let v1144 : BitVec 32 := Scalar.addi v27 v1143
  let c8_i32_732 : BitVec 32 := 8#32
  let v1145 : BitVec 32 := Scalar.muli v1144 c8_i32_732
  let v1146 : BitVec 32 := v1145
  let c0_i32_737 : BitVec 32 := 0#32
  ![v1146.toNat, 0]
def k0_off516 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c7_i32_730 : BitVec 32 := 7#32
  let v1142 : BitVec 32 := Scalar.shrsi v28 c7_i32_730
  let c7_i32_731 : BitVec 32 := 7#32
  let v1143 : BitVec 32 := Scalar.shli v1142 c7_i32_731
  let v1144 : BitVec 32 := Scalar.addi v27 v1143
  let c8_i32_733 : BitVec 32 := 8#32
  let v1147 : BitVec 32 := Scalar.muli v1144 c8_i32_733
  let v1148 : BitVec 32 := v1147
  let c0_i32_738 : BitVec 32 := 0#32
  ![v1148.toNat, 0]
def k0_mult389 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c7_i32_747 : BitVec 32 := 7#32
  let v1163 : BitVec 32 := Scalar.shrsi v28 c7_i32_747
  let c7_i32_748 : BitVec 32 := 7#32
  let v1164 : BitVec 32 := Scalar.shli v1163 c7_i32_748
  let v1165 : BitVec 32 := Scalar.addi v27 v1164
  let c8_i32_749 : BitVec 32 := 8#32
  let v1166 : BitVec 32 := Scalar.muli v1165 c8_i32_749
  v1166
def k0_off517 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c7_i32_747 : BitVec 32 := 7#32
  let v1163 : BitVec 32 := Scalar.shrsi v28 c7_i32_747
  let c7_i32_748 : BitVec 32 := 7#32
  let v1164 : BitVec 32 := Scalar.shli v1163 c7_i32_748
  let v1165 : BitVec 32 := Scalar.addi v27 v1164
  let c8_i32_749 : BitVec 32 := 8#32
  let v1166 : BitVec 32 := Scalar.muli v1165 c8_i32_749
  let v1167 : BitVec 32 := v1166
  let v1168 : Index := Scalar.indexCast v1167
  let c0_750 : Index := 0#32
  ![v1168.toNat, 0]
def k0_mult390 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c7_i32_747 : BitVec 32 := 7#32
  let v1163 : BitVec 32 := Scalar.shrsi v28 c7_i32_747
  let c7_i32_748 : BitVec 32 := 7#32
  let v1164 : BitVec 32 := Scalar.shli v1163 c7_i32_748
  let v1165 : BitVec 32 := Scalar.addi v27 v1164
  let v1171 : BitVec 32 := Scalar.addi v1027 v1165
  let c8_i32_751 : BitVec 32 := 8#32
  let v1172 : BitVec 32 := Scalar.muli v1171 c8_i32_751
  v1172
def k0_off518 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c7_i32_747 : BitVec 32 := 7#32
  let v1163 : BitVec 32 := Scalar.shrsi v28 c7_i32_747
  let c7_i32_748 : BitVec 32 := 7#32
  let v1164 : BitVec 32 := Scalar.shli v1163 c7_i32_748
  let v1165 : BitVec 32 := Scalar.addi v27 v1164
  let v1171 : BitVec 32 := Scalar.addi v1027 v1165
  let c8_i32_751 : BitVec 32 := 8#32
  let v1172 : BitVec 32 := Scalar.muli v1171 c8_i32_751
  let v1173 : BitVec 32 := v1172
  let v1174 : Index := Scalar.indexCast v1173
  let c0_752 : Index := 0#32
  ![v1174.toNat, 0]
def k0_mult391 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c6_i32_730 : BitVec 32 := 6#32
  let v1142 : BitVec 32 := Scalar.shrsi v28 c6_i32_730
  let c6_i32_731 : BitVec 32 := 6#32
  let v1143 : BitVec 32 := Scalar.shli v1142 c6_i32_731
  let v1144 : BitVec 32 := Scalar.addi v27 v1143
  let c8_i32_732 : BitVec 32 := 8#32
  let v1145 : BitVec 32 := Scalar.muli v1144 c8_i32_732
  v1145
def k0_cond469 (v18 : BitVec 32) : BitVec 1 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c5_i32_697 : BitVec 32 := 5#32
  let v1101 : BitVec 32 := Scalar.shrsi v28 c5_i32_697
  let c1_i32_698 : BitVec 32 := 1#32
  let v1102 : BitVec 32 := Scalar.andi v1101 c1_i32_698
  let c1_i32_699 : BitVec 32 := 1#32
  let v1103 : BitVec 1 := Scalar.cmpi .eq v1102 c1_i32_699
  let v1104 : BitVec 32 := Scalar.extui v1103
  let c0_i32_700 : BitVec 32 := 0#32
  let v1105 : BitVec 1 := Scalar.cmpi .ne v1104 c0_i32_700
  v1105

def k0_mult392 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c6_i32_730 : BitVec 32 := 6#32
  let v1142 : BitVec 32 := Scalar.shrsi v28 c6_i32_730
  let c6_i32_731 : BitVec 32 := 6#32
  let v1143 : BitVec 32 := Scalar.shli v1142 c6_i32_731
  let v1144 : BitVec 32 := Scalar.addi v27 v1143
  let c8_i32_733 : BitVec 32 := 8#32
  let v1147 : BitVec 32 := Scalar.muli v1144 c8_i32_733
  v1147
def k0_off519 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c6_i32_730 : BitVec 32 := 6#32
  let v1142 : BitVec 32 := Scalar.shrsi v28 c6_i32_730
  let c6_i32_731 : BitVec 32 := 6#32
  let v1143 : BitVec 32 := Scalar.shli v1142 c6_i32_731
  let v1144 : BitVec 32 := Scalar.addi v27 v1143
  let c8_i32_732 : BitVec 32 := 8#32
  let v1145 : BitVec 32 := Scalar.muli v1144 c8_i32_732
  let v1146 : BitVec 32 := v1145
  let c0_i32_737 : BitVec 32 := 0#32
  ![v1146.toNat, 0]
def k0_off520 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c6_i32_730 : BitVec 32 := 6#32
  let v1142 : BitVec 32 := Scalar.shrsi v28 c6_i32_730
  let c6_i32_731 : BitVec 32 := 6#32
  let v1143 : BitVec 32 := Scalar.shli v1142 c6_i32_731
  let v1144 : BitVec 32 := Scalar.addi v27 v1143
  let c8_i32_733 : BitVec 32 := 8#32
  let v1147 : BitVec 32 := Scalar.muli v1144 c8_i32_733
  let v1148 : BitVec 32 := v1147
  let c0_i32_738 : BitVec 32 := 0#32
  ![v1148.toNat, 0]
def k0_mult393 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c6_i32_747 : BitVec 32 := 6#32
  let v1163 : BitVec 32 := Scalar.shrsi v28 c6_i32_747
  let c6_i32_748 : BitVec 32 := 6#32
  let v1164 : BitVec 32 := Scalar.shli v1163 c6_i32_748
  let v1165 : BitVec 32 := Scalar.addi v27 v1164
  let c8_i32_749 : BitVec 32 := 8#32
  let v1166 : BitVec 32 := Scalar.muli v1165 c8_i32_749
  v1166
def k0_off521 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c6_i32_747 : BitVec 32 := 6#32
  let v1163 : BitVec 32 := Scalar.shrsi v28 c6_i32_747
  let c6_i32_748 : BitVec 32 := 6#32
  let v1164 : BitVec 32 := Scalar.shli v1163 c6_i32_748
  let v1165 : BitVec 32 := Scalar.addi v27 v1164
  let c8_i32_749 : BitVec 32 := 8#32
  let v1166 : BitVec 32 := Scalar.muli v1165 c8_i32_749
  let v1167 : BitVec 32 := v1166
  let v1168 : Index := Scalar.indexCast v1167
  let c0_750 : Index := 0#32
  ![v1168.toNat, 0]
def k0_mult394 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c6_i32_747 : BitVec 32 := 6#32
  let v1163 : BitVec 32 := Scalar.shrsi v28 c6_i32_747
  let c6_i32_748 : BitVec 32 := 6#32
  let v1164 : BitVec 32 := Scalar.shli v1163 c6_i32_748
  let v1165 : BitVec 32 := Scalar.addi v27 v1164
  let v1171 : BitVec 32 := Scalar.addi v1027 v1165
  let c8_i32_751 : BitVec 32 := 8#32
  let v1172 : BitVec 32 := Scalar.muli v1171 c8_i32_751
  v1172
def k0_off522 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c6_i32_747 : BitVec 32 := 6#32
  let v1163 : BitVec 32 := Scalar.shrsi v28 c6_i32_747
  let c6_i32_748 : BitVec 32 := 6#32
  let v1164 : BitVec 32 := Scalar.shli v1163 c6_i32_748
  let v1165 : BitVec 32 := Scalar.addi v27 v1164
  let v1171 : BitVec 32 := Scalar.addi v1027 v1165
  let c8_i32_751 : BitVec 32 := 8#32
  let v1172 : BitVec 32 := Scalar.muli v1171 c8_i32_751
  let v1173 : BitVec 32 := v1172
  let v1174 : Index := Scalar.indexCast v1173
  let c0_752 : Index := 0#32
  ![v1174.toNat, 0]
def k0_mult395 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c5_i32_730 : BitVec 32 := 5#32
  let v1142 : BitVec 32 := Scalar.shrsi v28 c5_i32_730
  let c5_i32_731 : BitVec 32 := 5#32
  let v1143 : BitVec 32 := Scalar.shli v1142 c5_i32_731
  let v1144 : BitVec 32 := Scalar.addi v27 v1143
  let c8_i32_732 : BitVec 32 := 8#32
  let v1145 : BitVec 32 := Scalar.muli v1144 c8_i32_732
  v1145
def k0_cond470 (v18 : BitVec 32) : BitVec 1 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c4_i32_701 : BitVec 32 := 4#32
  let v1106 : BitVec 32 := Scalar.shrsi v28 c4_i32_701
  let c1_i32_702 : BitVec 32 := 1#32
  let v1107 : BitVec 32 := Scalar.andi v1106 c1_i32_702
  let c1_i32_703 : BitVec 32 := 1#32
  let v1108 : BitVec 1 := Scalar.cmpi .eq v1107 c1_i32_703
  let v1109 : BitVec 32 := Scalar.extui v1108
  let c0_i32_704 : BitVec 32 := 0#32
  let v1110 : BitVec 1 := Scalar.cmpi .ne v1109 c0_i32_704
  v1110

def k0_mult396 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c5_i32_730 : BitVec 32 := 5#32
  let v1142 : BitVec 32 := Scalar.shrsi v28 c5_i32_730
  let c5_i32_731 : BitVec 32 := 5#32
  let v1143 : BitVec 32 := Scalar.shli v1142 c5_i32_731
  let v1144 : BitVec 32 := Scalar.addi v27 v1143
  let c8_i32_733 : BitVec 32 := 8#32
  let v1147 : BitVec 32 := Scalar.muli v1144 c8_i32_733
  v1147
def k0_off523 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c5_i32_730 : BitVec 32 := 5#32
  let v1142 : BitVec 32 := Scalar.shrsi v28 c5_i32_730
  let c5_i32_731 : BitVec 32 := 5#32
  let v1143 : BitVec 32 := Scalar.shli v1142 c5_i32_731
  let v1144 : BitVec 32 := Scalar.addi v27 v1143
  let c8_i32_732 : BitVec 32 := 8#32
  let v1145 : BitVec 32 := Scalar.muli v1144 c8_i32_732
  let v1146 : BitVec 32 := v1145
  let c0_i32_737 : BitVec 32 := 0#32
  ![v1146.toNat, 0]
def k0_off524 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c5_i32_730 : BitVec 32 := 5#32
  let v1142 : BitVec 32 := Scalar.shrsi v28 c5_i32_730
  let c5_i32_731 : BitVec 32 := 5#32
  let v1143 : BitVec 32 := Scalar.shli v1142 c5_i32_731
  let v1144 : BitVec 32 := Scalar.addi v27 v1143
  let c8_i32_733 : BitVec 32 := 8#32
  let v1147 : BitVec 32 := Scalar.muli v1144 c8_i32_733
  let v1148 : BitVec 32 := v1147
  let c0_i32_738 : BitVec 32 := 0#32
  ![v1148.toNat, 0]
def k0_mult397 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c5_i32_747 : BitVec 32 := 5#32
  let v1163 : BitVec 32 := Scalar.shrsi v28 c5_i32_747
  let c5_i32_748 : BitVec 32 := 5#32
  let v1164 : BitVec 32 := Scalar.shli v1163 c5_i32_748
  let v1165 : BitVec 32 := Scalar.addi v27 v1164
  let c8_i32_749 : BitVec 32 := 8#32
  let v1166 : BitVec 32 := Scalar.muli v1165 c8_i32_749
  v1166
def k0_off525 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c5_i32_747 : BitVec 32 := 5#32
  let v1163 : BitVec 32 := Scalar.shrsi v28 c5_i32_747
  let c5_i32_748 : BitVec 32 := 5#32
  let v1164 : BitVec 32 := Scalar.shli v1163 c5_i32_748
  let v1165 : BitVec 32 := Scalar.addi v27 v1164
  let c8_i32_749 : BitVec 32 := 8#32
  let v1166 : BitVec 32 := Scalar.muli v1165 c8_i32_749
  let v1167 : BitVec 32 := v1166
  let v1168 : Index := Scalar.indexCast v1167
  let c0_750 : Index := 0#32
  ![v1168.toNat, 0]
def k0_mult398 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c5_i32_747 : BitVec 32 := 5#32
  let v1163 : BitVec 32 := Scalar.shrsi v28 c5_i32_747
  let c5_i32_748 : BitVec 32 := 5#32
  let v1164 : BitVec 32 := Scalar.shli v1163 c5_i32_748
  let v1165 : BitVec 32 := Scalar.addi v27 v1164
  let v1171 : BitVec 32 := Scalar.addi v1027 v1165
  let c8_i32_751 : BitVec 32 := 8#32
  let v1172 : BitVec 32 := Scalar.muli v1171 c8_i32_751
  v1172
def k0_off526 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c5_i32_747 : BitVec 32 := 5#32
  let v1163 : BitVec 32 := Scalar.shrsi v28 c5_i32_747
  let c5_i32_748 : BitVec 32 := 5#32
  let v1164 : BitVec 32 := Scalar.shli v1163 c5_i32_748
  let v1165 : BitVec 32 := Scalar.addi v27 v1164
  let v1171 : BitVec 32 := Scalar.addi v1027 v1165
  let c8_i32_751 : BitVec 32 := 8#32
  let v1172 : BitVec 32 := Scalar.muli v1171 c8_i32_751
  let v1173 : BitVec 32 := v1172
  let v1174 : Index := Scalar.indexCast v1173
  let c0_752 : Index := 0#32
  ![v1174.toNat, 0]
def k0_mult399 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c4_i32_730 : BitVec 32 := 4#32
  let v1142 : BitVec 32 := Scalar.shrsi v28 c4_i32_730
  let c4_i32_731 : BitVec 32 := 4#32
  let v1143 : BitVec 32 := Scalar.shli v1142 c4_i32_731
  let v1144 : BitVec 32 := Scalar.addi v27 v1143
  let c8_i32_732 : BitVec 32 := 8#32
  let v1145 : BitVec 32 := Scalar.muli v1144 c8_i32_732
  v1145
def k0_cond471 (v18 : BitVec 32) : BitVec 1 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c3_i32_705 : BitVec 32 := 3#32
  let v1111 : BitVec 32 := Scalar.shrsi v28 c3_i32_705
  let c1_i32_706 : BitVec 32 := 1#32
  let v1112 : BitVec 32 := Scalar.andi v1111 c1_i32_706
  let c1_i32_707 : BitVec 32 := 1#32
  let v1113 : BitVec 1 := Scalar.cmpi .eq v1112 c1_i32_707
  let v1114 : BitVec 32 := Scalar.extui v1113
  let c0_i32_708 : BitVec 32 := 0#32
  let v1115 : BitVec 1 := Scalar.cmpi .ne v1114 c0_i32_708
  v1115

def k0_mult400 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c4_i32_730 : BitVec 32 := 4#32
  let v1142 : BitVec 32 := Scalar.shrsi v28 c4_i32_730
  let c4_i32_731 : BitVec 32 := 4#32
  let v1143 : BitVec 32 := Scalar.shli v1142 c4_i32_731
  let v1144 : BitVec 32 := Scalar.addi v27 v1143
  let c8_i32_733 : BitVec 32 := 8#32
  let v1147 : BitVec 32 := Scalar.muli v1144 c8_i32_733
  v1147
def k0_off527 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c4_i32_730 : BitVec 32 := 4#32
  let v1142 : BitVec 32 := Scalar.shrsi v28 c4_i32_730
  let c4_i32_731 : BitVec 32 := 4#32
  let v1143 : BitVec 32 := Scalar.shli v1142 c4_i32_731
  let v1144 : BitVec 32 := Scalar.addi v27 v1143
  let c8_i32_732 : BitVec 32 := 8#32
  let v1145 : BitVec 32 := Scalar.muli v1144 c8_i32_732
  let v1146 : BitVec 32 := v1145
  let c0_i32_737 : BitVec 32 := 0#32
  ![v1146.toNat, 0]
def k0_off528 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c4_i32_730 : BitVec 32 := 4#32
  let v1142 : BitVec 32 := Scalar.shrsi v28 c4_i32_730
  let c4_i32_731 : BitVec 32 := 4#32
  let v1143 : BitVec 32 := Scalar.shli v1142 c4_i32_731
  let v1144 : BitVec 32 := Scalar.addi v27 v1143
  let c8_i32_733 : BitVec 32 := 8#32
  let v1147 : BitVec 32 := Scalar.muli v1144 c8_i32_733
  let v1148 : BitVec 32 := v1147
  let c0_i32_738 : BitVec 32 := 0#32
  ![v1148.toNat, 0]
def k0_mult401 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c4_i32_747 : BitVec 32 := 4#32
  let v1163 : BitVec 32 := Scalar.shrsi v28 c4_i32_747
  let c4_i32_748 : BitVec 32 := 4#32
  let v1164 : BitVec 32 := Scalar.shli v1163 c4_i32_748
  let v1165 : BitVec 32 := Scalar.addi v27 v1164
  let c8_i32_749 : BitVec 32 := 8#32
  let v1166 : BitVec 32 := Scalar.muli v1165 c8_i32_749
  v1166
def k0_off529 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c4_i32_747 : BitVec 32 := 4#32
  let v1163 : BitVec 32 := Scalar.shrsi v28 c4_i32_747
  let c4_i32_748 : BitVec 32 := 4#32
  let v1164 : BitVec 32 := Scalar.shli v1163 c4_i32_748
  let v1165 : BitVec 32 := Scalar.addi v27 v1164
  let c8_i32_749 : BitVec 32 := 8#32
  let v1166 : BitVec 32 := Scalar.muli v1165 c8_i32_749
  let v1167 : BitVec 32 := v1166
  let v1168 : Index := Scalar.indexCast v1167
  let c0_750 : Index := 0#32
  ![v1168.toNat, 0]
def k0_mult402 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c4_i32_747 : BitVec 32 := 4#32
  let v1163 : BitVec 32 := Scalar.shrsi v28 c4_i32_747
  let c4_i32_748 : BitVec 32 := 4#32
  let v1164 : BitVec 32 := Scalar.shli v1163 c4_i32_748
  let v1165 : BitVec 32 := Scalar.addi v27 v1164
  let v1171 : BitVec 32 := Scalar.addi v1027 v1165
  let c8_i32_751 : BitVec 32 := 8#32
  let v1172 : BitVec 32 := Scalar.muli v1171 c8_i32_751
  v1172
def k0_off530 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c4_i32_747 : BitVec 32 := 4#32
  let v1163 : BitVec 32 := Scalar.shrsi v28 c4_i32_747
  let c4_i32_748 : BitVec 32 := 4#32
  let v1164 : BitVec 32 := Scalar.shli v1163 c4_i32_748
  let v1165 : BitVec 32 := Scalar.addi v27 v1164
  let v1171 : BitVec 32 := Scalar.addi v1027 v1165
  let c8_i32_751 : BitVec 32 := 8#32
  let v1172 : BitVec 32 := Scalar.muli v1171 c8_i32_751
  let v1173 : BitVec 32 := v1172
  let v1174 : Index := Scalar.indexCast v1173
  let c0_752 : Index := 0#32
  ![v1174.toNat, 0]
def k0_mult403 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c3_i32_730 : BitVec 32 := 3#32
  let v1142 : BitVec 32 := Scalar.shrsi v28 c3_i32_730
  let c3_i32_731 : BitVec 32 := 3#32
  let v1143 : BitVec 32 := Scalar.shli v1142 c3_i32_731
  let v1144 : BitVec 32 := Scalar.addi v27 v1143
  let c8_i32_732 : BitVec 32 := 8#32
  let v1145 : BitVec 32 := Scalar.muli v1144 c8_i32_732
  v1145
def k0_cond472 (v18 : BitVec 32) : BitVec 1 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c2_i32_709 : BitVec 32 := 2#32
  let v1116 : BitVec 32 := Scalar.shrsi v28 c2_i32_709
  let c1_i32_710 : BitVec 32 := 1#32
  let v1117 : BitVec 32 := Scalar.andi v1116 c1_i32_710
  let c1_i32_711 : BitVec 32 := 1#32
  let v1118 : BitVec 1 := Scalar.cmpi .eq v1117 c1_i32_711
  let v1119 : BitVec 32 := Scalar.extui v1118
  let c0_i32_712 : BitVec 32 := 0#32
  let v1120 : BitVec 1 := Scalar.cmpi .ne v1119 c0_i32_712
  v1120

def k0_mult404 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c3_i32_730 : BitVec 32 := 3#32
  let v1142 : BitVec 32 := Scalar.shrsi v28 c3_i32_730
  let c3_i32_731 : BitVec 32 := 3#32
  let v1143 : BitVec 32 := Scalar.shli v1142 c3_i32_731
  let v1144 : BitVec 32 := Scalar.addi v27 v1143
  let c8_i32_733 : BitVec 32 := 8#32
  let v1147 : BitVec 32 := Scalar.muli v1144 c8_i32_733
  v1147
def k0_off531 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c3_i32_730 : BitVec 32 := 3#32
  let v1142 : BitVec 32 := Scalar.shrsi v28 c3_i32_730
  let c3_i32_731 : BitVec 32 := 3#32
  let v1143 : BitVec 32 := Scalar.shli v1142 c3_i32_731
  let v1144 : BitVec 32 := Scalar.addi v27 v1143
  let c8_i32_732 : BitVec 32 := 8#32
  let v1145 : BitVec 32 := Scalar.muli v1144 c8_i32_732
  let v1146 : BitVec 32 := v1145
  let c0_i32_737 : BitVec 32 := 0#32
  ![v1146.toNat, 0]
def k0_off532 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c3_i32_730 : BitVec 32 := 3#32
  let v1142 : BitVec 32 := Scalar.shrsi v28 c3_i32_730
  let c3_i32_731 : BitVec 32 := 3#32
  let v1143 : BitVec 32 := Scalar.shli v1142 c3_i32_731
  let v1144 : BitVec 32 := Scalar.addi v27 v1143
  let c8_i32_733 : BitVec 32 := 8#32
  let v1147 : BitVec 32 := Scalar.muli v1144 c8_i32_733
  let v1148 : BitVec 32 := v1147
  let c0_i32_738 : BitVec 32 := 0#32
  ![v1148.toNat, 0]
def k0_mult405 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c3_i32_747 : BitVec 32 := 3#32
  let v1163 : BitVec 32 := Scalar.shrsi v28 c3_i32_747
  let c3_i32_748 : BitVec 32 := 3#32
  let v1164 : BitVec 32 := Scalar.shli v1163 c3_i32_748
  let v1165 : BitVec 32 := Scalar.addi v27 v1164
  let c8_i32_749 : BitVec 32 := 8#32
  let v1166 : BitVec 32 := Scalar.muli v1165 c8_i32_749
  v1166
def k0_off533 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c3_i32_747 : BitVec 32 := 3#32
  let v1163 : BitVec 32 := Scalar.shrsi v28 c3_i32_747
  let c3_i32_748 : BitVec 32 := 3#32
  let v1164 : BitVec 32 := Scalar.shli v1163 c3_i32_748
  let v1165 : BitVec 32 := Scalar.addi v27 v1164
  let c8_i32_749 : BitVec 32 := 8#32
  let v1166 : BitVec 32 := Scalar.muli v1165 c8_i32_749
  let v1167 : BitVec 32 := v1166
  let v1168 : Index := Scalar.indexCast v1167
  let c0_750 : Index := 0#32
  ![v1168.toNat, 0]
def k0_mult406 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c3_i32_747 : BitVec 32 := 3#32
  let v1163 : BitVec 32 := Scalar.shrsi v28 c3_i32_747
  let c3_i32_748 : BitVec 32 := 3#32
  let v1164 : BitVec 32 := Scalar.shli v1163 c3_i32_748
  let v1165 : BitVec 32 := Scalar.addi v27 v1164
  let v1171 : BitVec 32 := Scalar.addi v1027 v1165
  let c8_i32_751 : BitVec 32 := 8#32
  let v1172 : BitVec 32 := Scalar.muli v1171 c8_i32_751
  v1172
def k0_off534 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c3_i32_747 : BitVec 32 := 3#32
  let v1163 : BitVec 32 := Scalar.shrsi v28 c3_i32_747
  let c3_i32_748 : BitVec 32 := 3#32
  let v1164 : BitVec 32 := Scalar.shli v1163 c3_i32_748
  let v1165 : BitVec 32 := Scalar.addi v27 v1164
  let v1171 : BitVec 32 := Scalar.addi v1027 v1165
  let c8_i32_751 : BitVec 32 := 8#32
  let v1172 : BitVec 32 := Scalar.muli v1171 c8_i32_751
  let v1173 : BitVec 32 := v1172
  let v1174 : Index := Scalar.indexCast v1173
  let c0_752 : Index := 0#32
  ![v1174.toNat, 0]
def k0_mult407 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c2_i32_730 : BitVec 32 := 2#32
  let v1142 : BitVec 32 := Scalar.shrsi v28 c2_i32_730
  let c2_i32_731 : BitVec 32 := 2#32
  let v1143 : BitVec 32 := Scalar.shli v1142 c2_i32_731
  let v1144 : BitVec 32 := Scalar.addi v27 v1143
  let c8_i32_732 : BitVec 32 := 8#32
  let v1145 : BitVec 32 := Scalar.muli v1144 c8_i32_732
  v1145
def k0_cond473 (v18 : BitVec 32) : BitVec 1 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c1_i32_713 : BitVec 32 := 1#32
  let v1121 : BitVec 32 := Scalar.shrsi v28 c1_i32_713
  let c1_i32_714 : BitVec 32 := 1#32
  let v1122 : BitVec 32 := Scalar.andi v1121 c1_i32_714
  let c1_i32_715 : BitVec 32 := 1#32
  let v1123 : BitVec 1 := Scalar.cmpi .eq v1122 c1_i32_715
  let v1124 : BitVec 32 := Scalar.extui v1123
  let c0_i32_716 : BitVec 32 := 0#32
  let v1125 : BitVec 1 := Scalar.cmpi .ne v1124 c0_i32_716
  v1125

def k0_mult408 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c2_i32_730 : BitVec 32 := 2#32
  let v1142 : BitVec 32 := Scalar.shrsi v28 c2_i32_730
  let c2_i32_731 : BitVec 32 := 2#32
  let v1143 : BitVec 32 := Scalar.shli v1142 c2_i32_731
  let v1144 : BitVec 32 := Scalar.addi v27 v1143
  let c8_i32_733 : BitVec 32 := 8#32
  let v1147 : BitVec 32 := Scalar.muli v1144 c8_i32_733
  v1147
def k0_off535 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c2_i32_730 : BitVec 32 := 2#32
  let v1142 : BitVec 32 := Scalar.shrsi v28 c2_i32_730
  let c2_i32_731 : BitVec 32 := 2#32
  let v1143 : BitVec 32 := Scalar.shli v1142 c2_i32_731
  let v1144 : BitVec 32 := Scalar.addi v27 v1143
  let c8_i32_732 : BitVec 32 := 8#32
  let v1145 : BitVec 32 := Scalar.muli v1144 c8_i32_732
  let v1146 : BitVec 32 := v1145
  let c0_i32_737 : BitVec 32 := 0#32
  ![v1146.toNat, 0]
def k0_off536 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c2_i32_730 : BitVec 32 := 2#32
  let v1142 : BitVec 32 := Scalar.shrsi v28 c2_i32_730
  let c2_i32_731 : BitVec 32 := 2#32
  let v1143 : BitVec 32 := Scalar.shli v1142 c2_i32_731
  let v1144 : BitVec 32 := Scalar.addi v27 v1143
  let c8_i32_733 : BitVec 32 := 8#32
  let v1147 : BitVec 32 := Scalar.muli v1144 c8_i32_733
  let v1148 : BitVec 32 := v1147
  let c0_i32_738 : BitVec 32 := 0#32
  ![v1148.toNat, 0]
def k0_mult409 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c2_i32_747 : BitVec 32 := 2#32
  let v1163 : BitVec 32 := Scalar.shrsi v28 c2_i32_747
  let c2_i32_748 : BitVec 32 := 2#32
  let v1164 : BitVec 32 := Scalar.shli v1163 c2_i32_748
  let v1165 : BitVec 32 := Scalar.addi v27 v1164
  let c8_i32_749 : BitVec 32 := 8#32
  let v1166 : BitVec 32 := Scalar.muli v1165 c8_i32_749
  v1166
def k0_off537 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c2_i32_747 : BitVec 32 := 2#32
  let v1163 : BitVec 32 := Scalar.shrsi v28 c2_i32_747
  let c2_i32_748 : BitVec 32 := 2#32
  let v1164 : BitVec 32 := Scalar.shli v1163 c2_i32_748
  let v1165 : BitVec 32 := Scalar.addi v27 v1164
  let c8_i32_749 : BitVec 32 := 8#32
  let v1166 : BitVec 32 := Scalar.muli v1165 c8_i32_749
  let v1167 : BitVec 32 := v1166
  let v1168 : Index := Scalar.indexCast v1167
  let c0_750 : Index := 0#32
  ![v1168.toNat, 0]
def k0_mult410 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c2_i32_747 : BitVec 32 := 2#32
  let v1163 : BitVec 32 := Scalar.shrsi v28 c2_i32_747
  let c2_i32_748 : BitVec 32 := 2#32
  let v1164 : BitVec 32 := Scalar.shli v1163 c2_i32_748
  let v1165 : BitVec 32 := Scalar.addi v27 v1164
  let v1171 : BitVec 32 := Scalar.addi v1027 v1165
  let c8_i32_751 : BitVec 32 := 8#32
  let v1172 : BitVec 32 := Scalar.muli v1171 c8_i32_751
  v1172
def k0_off538 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c2_i32_747 : BitVec 32 := 2#32
  let v1163 : BitVec 32 := Scalar.shrsi v28 c2_i32_747
  let c2_i32_748 : BitVec 32 := 2#32
  let v1164 : BitVec 32 := Scalar.shli v1163 c2_i32_748
  let v1165 : BitVec 32 := Scalar.addi v27 v1164
  let v1171 : BitVec 32 := Scalar.addi v1027 v1165
  let c8_i32_751 : BitVec 32 := 8#32
  let v1172 : BitVec 32 := Scalar.muli v1171 c8_i32_751
  let v1173 : BitVec 32 := v1172
  let v1174 : Index := Scalar.indexCast v1173
  let c0_752 : Index := 0#32
  ![v1174.toNat, 0]
def k0_mult411 (v18 : BitVec 32) : BitVec 32 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c1_i32_730 : BitVec 32 := 1#32
  let v1142 : BitVec 32 := Scalar.shrsi v28 c1_i32_730
  let c1_i32_731 : BitVec 32 := 1#32
  let v1143 : BitVec 32 := Scalar.shli v1142 c1_i32_731
  let v1144 : BitVec 32 := Scalar.addi v27 v1143
  let c8_i32_732 : BitVec 32 := 8#32
  let v1145 : BitVec 32 := Scalar.muli v1144 c8_i32_732
  v1145
def k0_cond474 (v18 : BitVec 32) : BitVec 1 :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c0_i32_717 : BitVec 32 := 0#32
  let v1126 : BitVec 32 := Scalar.shrsi v28 c0_i32_717
  let c1_i32_718 : BitVec 32 := 1#32
  let v1127 : BitVec 32 := Scalar.andi v1126 c1_i32_718
  let c1_i32_719 : BitVec 32 := 1#32
  let v1128 : BitVec 1 := Scalar.cmpi .eq v1127 c1_i32_719
  let v1129 : BitVec 32 := Scalar.extui v1128
  let c0_i32_720 : BitVec 32 := 0#32
  let v1130 : BitVec 1 := Scalar.cmpi .ne v1129 c0_i32_720
  v1130

def k0_mult412 (d0 : Dev nD) (v18 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v19 : BitVec 32 := Scalar.subi c2048_i32 v18
  let v21 : BitVec 32 := Scalar.muli v2 v19
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c1_i32_730 : BitVec 32 := 1#32
  let v1142 : BitVec 32 := Scalar.shrsi v28 c1_i32_730
  let c1_i32_731 : BitVec 32 := 1#32
  let v1143 : BitVec 32 := Scalar.shli v1142 c1_i32_731
  let v1144 : BitVec 32 := Scalar.addi v27 v1143
  let v1147 : BitVec 32 := Scalar.addi v21 v1144
  let c8_i32_733 : BitVec 32 := 8#32
  let v1148 : BitVec 32 := Scalar.muli v1147 c8_i32_733
  v1148
def k0_off539 (v18 : BitVec 32) : Fin 2 → Nat :=
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c1_i32_730 : BitVec 32 := 1#32
  let v1142 : BitVec 32 := Scalar.shrsi v28 c1_i32_730
  let c1_i32_731 : BitVec 32 := 1#32
  let v1143 : BitVec 32 := Scalar.shli v1142 c1_i32_731
  let v1144 : BitVec 32 := Scalar.addi v27 v1143
  let c8_i32_732 : BitVec 32 := 8#32
  let v1145 : BitVec 32 := Scalar.muli v1144 c8_i32_732
  let v1146 : BitVec 32 := v1145
  let c0_i32_737 : BitVec 32 := 0#32
  ![v1146.toNat, 0]
def k0_off540 (d0 : Dev nD) (v18 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v19 : BitVec 32 := Scalar.subi c2048_i32 v18
  let v21 : BitVec 32 := Scalar.muli v2 v19
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v28 : BitVec 32 := Scalar.subi v18 v27
  let c1_i32_730 : BitVec 32 := 1#32
  let v1142 : BitVec 32 := Scalar.shrsi v28 c1_i32_730
  let c1_i32_731 : BitVec 32 := 1#32
  let v1143 : BitVec 32 := Scalar.shli v1142 c1_i32_731
  let v1144 : BitVec 32 := Scalar.addi v27 v1143
  let v1147 : BitVec 32 := Scalar.addi v21 v1144
  let c8_i32_733 : BitVec 32 := 8#32
  let v1148 : BitVec 32 := Scalar.muli v1147 c8_i32_733
  let v1149 : BitVec 32 := v1148
  let c0_i32_738 : BitVec 32 := 0#32
  ![v1149.toNat, 0]
@[reducible] def k0_t57_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v1131 : BitVec 32 := Scalar.addi v1027 v27
  let c3_i32_721 : BitVec 32 := 3#32
  let v1132 : BitVec 32 := Scalar.shrsi v1131 c3_i32_721
  let c256_i32_725 : BitVec 32 := 256#32
  let c8_i32_722 : BitVec 32 := 8#32
  let v1133 : BitVec 32 := Scalar.addi v18 c8_i32_722
  let c1_i32_723 : BitVec 32 := 1#32
  let v1134 : BitVec 32 := Scalar.subi v1133 c1_i32_723
  let c3_i32_724 : BitVec 32 := 3#32
  let v1135 : BitVec 32 := Scalar.shrsi v1134 c3_i32_724
  let v1136 : BitVec 32 := Scalar.select v1026 c256_i32_725 v1135
  let v1137 : BitVec 32 := Scalar.subi v1136 v1132
  let c1_i32_727 : BitVec 32 := 1#32
  let v1139 : BitVec 32 := Scalar.divsi v1137 c1_i32_727
  let v1140 : BitVec 32 := Scalar.muli v1139 c1_i32_727
  let v1141 : BitVec 32 := Scalar.addi v1132 v1140
  let c1_i32_728 : BitVec 32 := 1#32
  ⟨v1132, v1141, c1_i32_728⟩
def k0_mult413 (d0 : Dev nD) (v18 : BitVec 32) (k0_t57 : Fin (k0_t57_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v1131 : BitVec 32 := Scalar.addi v1027 v27
  let c3_i32_721 : BitVec 32 := 3#32
  let v1132 : BitVec 32 := Scalar.shrsi v1131 c3_i32_721
  let c1_i32_728 : BitVec 32 := 1#32
  let arg13 : BitVec 32 := Scf.iv v1132 c1_i32_728 k0_t57
  let c8_i32_730 : BitVec 32 := 8#32
  let v1142 : BitVec 32 := Scalar.muli arg13 c8_i32_730
  let c8_i32_731 : BitVec 32 := 8#32
  let v1143 : BitVec 32 := Scalar.muli v1142 c8_i32_731
  v1143
def k0_off541 (d0 : Dev nD) (v18 : BitVec 32) (k0_t57 : Fin (k0_t57_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v1131 : BitVec 32 := Scalar.addi v1027 v27
  let c3_i32_721 : BitVec 32 := 3#32
  let v1132 : BitVec 32 := Scalar.shrsi v1131 c3_i32_721
  let c1_i32_728 : BitVec 32 := 1#32
  let arg13 : BitVec 32 := Scf.iv v1132 c1_i32_728 k0_t57
  let c8_i32_730 : BitVec 32 := 8#32
  let v1142 : BitVec 32 := Scalar.muli arg13 c8_i32_730
  let c8_i32_731 : BitVec 32 := 8#32
  let v1143 : BitVec 32 := Scalar.muli v1142 c8_i32_731
  let v1144 : BitVec 32 := v1143
  let v1145 : Index := Scalar.indexCast v1144
  let c0_732 : Index := 0#32
  ![v1145.toNat, 0]
def k0_mult414 (d0 : Dev nD) (v18 : BitVec 32) (k0_t57 : Fin (k0_t57_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v1131 : BitVec 32 := Scalar.addi v1027 v27
  let c3_i32_721 : BitVec 32 := 3#32
  let v1132 : BitVec 32 := Scalar.shrsi v1131 c3_i32_721
  let c1_i32_728 : BitVec 32 := 1#32
  let arg13 : BitVec 32 := Scf.iv v1132 c1_i32_728 k0_t57
  let c8_i32_733 : BitVec 32 := 8#32
  let v1148 : BitVec 32 := Scalar.muli arg13 c8_i32_733
  v1148
def k0_off542 (d0 : Dev nD) (v18 : BitVec 32) (k0_t57 : Fin (k0_t57_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v1131 : BitVec 32 := Scalar.addi v1027 v27
  let c3_i32_721 : BitVec 32 := 3#32
  let v1132 : BitVec 32 := Scalar.shrsi v1131 c3_i32_721
  let c1_i32_728 : BitVec 32 := 1#32
  let arg13 : BitVec 32 := Scf.iv v1132 c1_i32_728 k0_t57
  let c8_i32_733 : BitVec 32 := 8#32
  let v1148 : BitVec 32 := Scalar.muli arg13 c8_i32_733
  let v1149 : BitVec 32 := v1148
  let v1150 : Index := Scalar.indexCast v1149
  let c0_734 : Index := 0#32
  ![v1150.toNat, 0]
@[reducible] def k0_t58_loop (d0 : Dev nD) (v18 : BitVec 32) : Scf.Loop 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v1131 : BitVec 32 := Scalar.addi v1027 v27
  let c3_i32_721 : BitVec 32 := 3#32
  let v1132 : BitVec 32 := Scalar.shrsi v1131 c3_i32_721
  let c256_i32_725 : BitVec 32 := 256#32
  let c8_i32_722 : BitVec 32 := 8#32
  let v1133 : BitVec 32 := Scalar.addi v18 c8_i32_722
  let c1_i32_723 : BitVec 32 := 1#32
  let v1134 : BitVec 32 := Scalar.subi v1133 c1_i32_723
  let c3_i32_724 : BitVec 32 := 3#32
  let v1135 : BitVec 32 := Scalar.shrsi v1134 c3_i32_724
  let v1136 : BitVec 32 := Scalar.select v1026 c256_i32_725 v1135
  let v1137 : BitVec 32 := Scalar.subi v1136 v1132
  let c1_i32_727 : BitVec 32 := 1#32
  let v1139 : BitVec 32 := Scalar.divsi v1137 c1_i32_727
  let v1140 : BitVec 32 := Scalar.muli v1139 c1_i32_727
  let v1141 : BitVec 32 := Scalar.addi v1132 v1140
  let v1138 : BitVec 32 := Scalar.addi v1132 v1137
  let c1_i32_729 : BitVec 32 := 1#32
  ⟨v1141, v1138, c1_i32_729⟩
def k0_mult415 (d0 : Dev nD) (v18 : BitVec 32) (k0_t58 : Fin (k0_t58_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v1131 : BitVec 32 := Scalar.addi v1027 v27
  let c3_i32_721 : BitVec 32 := 3#32
  let v1132 : BitVec 32 := Scalar.shrsi v1131 c3_i32_721
  let c256_i32_725 : BitVec 32 := 256#32
  let c8_i32_722 : BitVec 32 := 8#32
  let v1133 : BitVec 32 := Scalar.addi v18 c8_i32_722
  let c1_i32_723 : BitVec 32 := 1#32
  let v1134 : BitVec 32 := Scalar.subi v1133 c1_i32_723
  let c3_i32_724 : BitVec 32 := 3#32
  let v1135 : BitVec 32 := Scalar.shrsi v1134 c3_i32_724
  let v1136 : BitVec 32 := Scalar.select v1026 c256_i32_725 v1135
  let v1137 : BitVec 32 := Scalar.subi v1136 v1132
  let c1_i32_727 : BitVec 32 := 1#32
  let v1139 : BitVec 32 := Scalar.divsi v1137 c1_i32_727
  let v1140 : BitVec 32 := Scalar.muli v1139 c1_i32_727
  let v1141 : BitVec 32 := Scalar.addi v1132 v1140
  let c1_i32_729 : BitVec 32 := 1#32
  let arg13 : BitVec 32 := Scf.iv v1141 c1_i32_729 k0_t58
  let c8_i32_730 : BitVec 32 := 8#32
  let v1142 : BitVec 32 := Scalar.muli arg13 c8_i32_730
  let c8_i32_731 : BitVec 32 := 8#32
  let v1143 : BitVec 32 := Scalar.muli v1142 c8_i32_731
  v1143
def k0_off543 (d0 : Dev nD) (v18 : BitVec 32) (k0_t58 : Fin (k0_t58_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v1131 : BitVec 32 := Scalar.addi v1027 v27
  let c3_i32_721 : BitVec 32 := 3#32
  let v1132 : BitVec 32 := Scalar.shrsi v1131 c3_i32_721
  let c256_i32_725 : BitVec 32 := 256#32
  let c8_i32_722 : BitVec 32 := 8#32
  let v1133 : BitVec 32 := Scalar.addi v18 c8_i32_722
  let c1_i32_723 : BitVec 32 := 1#32
  let v1134 : BitVec 32 := Scalar.subi v1133 c1_i32_723
  let c3_i32_724 : BitVec 32 := 3#32
  let v1135 : BitVec 32 := Scalar.shrsi v1134 c3_i32_724
  let v1136 : BitVec 32 := Scalar.select v1026 c256_i32_725 v1135
  let v1137 : BitVec 32 := Scalar.subi v1136 v1132
  let c1_i32_727 : BitVec 32 := 1#32
  let v1139 : BitVec 32 := Scalar.divsi v1137 c1_i32_727
  let v1140 : BitVec 32 := Scalar.muli v1139 c1_i32_727
  let v1141 : BitVec 32 := Scalar.addi v1132 v1140
  let c1_i32_729 : BitVec 32 := 1#32
  let arg13 : BitVec 32 := Scf.iv v1141 c1_i32_729 k0_t58
  let c8_i32_730 : BitVec 32 := 8#32
  let v1142 : BitVec 32 := Scalar.muli arg13 c8_i32_730
  let c8_i32_731 : BitVec 32 := 8#32
  let v1143 : BitVec 32 := Scalar.muli v1142 c8_i32_731
  let v1144 : BitVec 32 := v1143
  let v1145 : Index := Scalar.indexCast v1144
  let c0_732 : Index := 0#32
  ![v1145.toNat, 0]
def k0_mult416 (d0 : Dev nD) (v18 : BitVec 32) (k0_t58 : Fin (k0_t58_loop d0 v18).trips) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v1131 : BitVec 32 := Scalar.addi v1027 v27
  let c3_i32_721 : BitVec 32 := 3#32
  let v1132 : BitVec 32 := Scalar.shrsi v1131 c3_i32_721
  let c256_i32_725 : BitVec 32 := 256#32
  let c8_i32_722 : BitVec 32 := 8#32
  let v1133 : BitVec 32 := Scalar.addi v18 c8_i32_722
  let c1_i32_723 : BitVec 32 := 1#32
  let v1134 : BitVec 32 := Scalar.subi v1133 c1_i32_723
  let c3_i32_724 : BitVec 32 := 3#32
  let v1135 : BitVec 32 := Scalar.shrsi v1134 c3_i32_724
  let v1136 : BitVec 32 := Scalar.select v1026 c256_i32_725 v1135
  let v1137 : BitVec 32 := Scalar.subi v1136 v1132
  let c1_i32_727 : BitVec 32 := 1#32
  let v1139 : BitVec 32 := Scalar.divsi v1137 c1_i32_727
  let v1140 : BitVec 32 := Scalar.muli v1139 c1_i32_727
  let v1141 : BitVec 32 := Scalar.addi v1132 v1140
  let c1_i32_729 : BitVec 32 := 1#32
  let arg13 : BitVec 32 := Scf.iv v1141 c1_i32_729 k0_t58
  let c8_i32_733 : BitVec 32 := 8#32
  let v1148 : BitVec 32 := Scalar.muli arg13 c8_i32_733
  v1148
def k0_off544 (d0 : Dev nD) (v18 : BitVec 32) (k0_t58 : Fin (k0_t58_loop d0 v18).trips) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_644 : BitVec 32 := 0#32
  let v1026 : BitVec 1 := Scalar.cmpi .eq v2 c0_i32_644
  let c2048_i32 : BitVec 32 := 2048#32
  let v19 : BitVec 32 := Scalar.subi c2048_i32 v18
  let c0_i32_645 : BitVec 32 := 0#32
  let v1027 : BitVec 32 := Scalar.select v1026 v19 c0_i32_645
  let c128_i32 : BitVec 32 := 128#32
  let v22 : BitVec 1 := Scalar.cmpi .sge v18 c128_i32
  let c7_i32 : BitVec 32 := 7#32
  let v23 : BitVec 32 := Scalar.shrsi v18 c7_i32
  let c7_i32_4 : BitVec 32 := 7#32
  let v24 : BitVec 32 := Scalar.shli v23 c7_i32_4
  let c5_i32 : BitVec 32 := 5#32
  let v25 : BitVec 32 := Scalar.shrsi v18 c5_i32
  let c5_i32_5 : BitVec 32 := 5#32
  let v26 : BitVec 32 := Scalar.shli v25 c5_i32_5
  let v27 : BitVec 32 := Scalar.select v22 v24 v26
  let v1131 : BitVec 32 := Scalar.addi v1027 v27
  let c3_i32_721 : BitVec 32 := 3#32
  let v1132 : BitVec 32 := Scalar.shrsi v1131 c3_i32_721
  let c256_i32_725 : BitVec 32 := 256#32
  let c8_i32_722 : BitVec 32 := 8#32
  let v1133 : BitVec 32 := Scalar.addi v18 c8_i32_722
  let c1_i32_723 : BitVec 32 := 1#32
  let v1134 : BitVec 32 := Scalar.subi v1133 c1_i32_723
  let c3_i32_724 : BitVec 32 := 3#32
  let v1135 : BitVec 32 := Scalar.shrsi v1134 c3_i32_724
  let v1136 : BitVec 32 := Scalar.select v1026 c256_i32_725 v1135
  let v1137 : BitVec 32 := Scalar.subi v1136 v1132
  let c1_i32_727 : BitVec 32 := 1#32
  let v1139 : BitVec 32 := Scalar.divsi v1137 c1_i32_727
  let v1140 : BitVec 32 := Scalar.muli v1139 c1_i32_727
  let v1141 : BitVec 32 := Scalar.addi v1132 v1140
  let c1_i32_729 : BitVec 32 := 1#32
  let arg13 : BitVec 32 := Scf.iv v1141 c1_i32_729 k0_t58
  let c8_i32_733 : BitVec 32 := 8#32
  let v1148 : BitVec 32 := Scalar.muli arg13 c8_i32_733
  let v1149 : BitVec 32 := v1148
  let v1150 : Index := Scalar.indexCast v1149
  let c0_734 : Index := 0#32
  ![v1150.toNat, 0]

def k0_chk129_0 (d0 : Dev nD) (v18 : BitVec 32) : Prop :=
  (∀ (k0_h441 : k0_cond441 v18 = 1#1), 16 ∣ (k0_mult273 v18).toNat) ∧
  (∀ (k0_h441 : k0_cond441 v18 = 1#1), ∀ a, (k0_off401 v18) a + S1024x128.size a ≤ S17408x128.size a) ∧
  (∀ (k0_h441 : k0_cond441 v18 = 1#1), ∀ (hinb : ∀ a, (k0_off401 v18) a + S1024x128.size a ≤ S17408x128.size a), (Rect.unit (s := S17408x128) (k0_off401 v18) S1024x128.size hinb).PackedRows (EltTy.packing .bf16)) ∧
  (∀ (k0_h442 : k0_cond442 v18 = 1#1), 16 ∣ (k0_mult274 v18).toNat) ∧
  (∀ (k0_h442 : k0_cond442 v18 = 1#1), 16 ∣ (k0_mult275 v18).toNat) ∧
  (∀ (k0_h442 : k0_cond442 v18 = 1#1), ∀ a, (k0_off402 v18) a + S512x128.size a ≤ S16384x128.size a) ∧
  (∀ (k0_h442 : k0_cond442 v18 = 1#1), ∀ a, (k0_off403 v18) a + S512x128.size a ≤ S17408x128.size a) ∧
  (∀ (k0_h442 : k0_cond442 v18 = 1#1), ∀ (hinb : ∀ a, (k0_off403 v18) a + S512x128.size a ≤ S17408x128.size a), (Rect.unit (s := S17408x128) (k0_off403 v18) S512x128.size hinb).WholeWords (EltTy.packing .bf16)) ∧
  (∀ (k0_h442 : k0_cond442 v18 = 1#1), ∀ (hinb : ∀ a, (k0_off402 v18) a + S512x128.size a ≤ S16384x128.size a), (Rect.unit (s := S16384x128) (k0_off402 v18) S512x128.size hinb).WholeWords (EltTy.packing .bf16)) ∧
  (∀ (k0_h443 : k0_cond443 v18 = 1#1), 16 ∣ (k0_mult276 v18).toNat) ∧
  (∀ (k0_h443 : k0_cond443 v18 = 1#1), 16 ∣ (k0_mult277 v18).toNat) ∧
  (∀ (k0_h443 : k0_cond443 v18 = 1#1), ∀ a, (k0_off404 v18) a + S256x128.size a ≤ S16384x128.size a) ∧
  (∀ (k0_h443 : k0_cond443 v18 = 1#1), ∀ a, (k0_off405 v18) a + S256x128.size a ≤ S17408x128.size a) ∧
  (∀ (k0_h443 : k0_cond443 v18 = 1#1), ∀ (hinb : ∀ a, (k0_off405 v18) a + S256x128.size a ≤ S17408x128.size a), (Rect.unit (s := S17408x128) (k0_off405 v18) S256x128.size hinb).WholeWords (EltTy.packing .bf16)) ∧
  (∀ (k0_h443 : k0_cond443 v18 = 1#1), ∀ (hinb : ∀ a, (k0_off404 v18) a + S256x128.size a ≤ S16384x128.size a), (Rect.unit (s := S16384x128) (k0_off404 v18) S256x128.size hinb).WholeWords (EltTy.packing .bf16)) ∧
  (∀ (k0_h444 : k0_cond444 v18 = 1#1), 16 ∣ (k0_mult278 v18).toNat) ∧
  (∀ (k0_h444 : k0_cond444 v18 = 1#1), 16 ∣ (k0_mult279 v18).toNat) ∧
  (∀ (k0_h444 : k0_cond444 v18 = 1#1), ∀ a, (k0_off406 v18) a + S128x128.size a ≤ S16384x128.size a) ∧
  (∀ (k0_h444 : k0_cond444 v18 = 1#1), ∀ a, (k0_off407 v18) a + S128x128.size a ≤ S17408x128.size a) ∧
  (∀ (k0_h444 : k0_cond444 v18 = 1#1), ∀ (hinb : ∀ a, (k0_off407 v18) a + S128x128.size a ≤ S17408x128.size a), (Rect.unit (s := S17408x128) (k0_off407 v18) S128x128.size hinb).WholeWords (EltTy.packing .bf16)) ∧
  (∀ (k0_h444 : k0_cond444 v18 = 1#1), ∀ (hinb : ∀ a, (k0_off406 v18) a + S128x128.size a ≤ S16384x128.size a), (Rect.unit (s := S16384x128) (k0_off406 v18) S128x128.size hinb).WholeWords (EltTy.packing .bf16)) ∧
  (∀ (k0_h445 : k0_cond445 v18 = 1#1), 16 ∣ (k0_mult280 v18).toNat) ∧
  (∀ (k0_h445 : k0_cond445 v18 = 1#1), 16 ∣ (k0_mult281 v18).toNat) ∧
  (∀ (k0_h445 : k0_cond445 v18 = 1#1), ∀ a, (k0_off408 v18) a + S64x128.size a ≤ S16384x128.size a) ∧
  (∀ (k0_h445 : k0_cond445 v18 = 1#1), ∀ a, (k0_off409 v18) a + S64x128.size a ≤ S17408x128.size a) ∧
  (∀ (k0_h445 : k0_cond445 v18 = 1#1), ∀ (hinb : ∀ a, (k0_off409 v18) a + S64x128.size a ≤ S17408x128.size a), (Rect.unit (s := S17408x128) (k0_off409 v18) S64x128.size hinb).WholeWords (EltTy.packing .bf16)) ∧
  (∀ (k0_h445 : k0_cond445 v18 = 1#1), ∀ (hinb : ∀ a, (k0_off408 v18) a + S64x128.size a ≤ S16384x128.size a), (Rect.unit (s := S16384x128) (k0_off408 v18) S64x128.size hinb).WholeWords (EltTy.packing .bf16)) ∧
  (∀ (k0_h446 : k0_cond446 v18 = 1#1), 16 ∣ (k0_mult282 v18).toNat) ∧
  (∀ (k0_h446 : k0_cond446 v18 = 1#1), 16 ∣ (k0_mult283 v18).toNat) ∧
  (∀ (k0_h446 : k0_cond446 v18 = 1#1), ∀ a, (k0_off410 v18) a + S32x128.size a ≤ S16384x128.size a) ∧
  (∀ (k0_h446 : k0_cond446 v18 = 1#1), ∀ a, (k0_off411 v18) a + S32x128.size a ≤ S17408x128.size a) ∧
  (∀ (k0_h446 : k0_cond446 v18 = 1#1), ∀ (hinb : ∀ a, (k0_off411 v18) a + S32x128.size a ≤ S17408x128.size a), (Rect.unit (s := S17408x128) (k0_off411 v18) S32x128.size hinb).WholeWords (EltTy.packing .bf16))
def k0_chk129_1 (d0 : Dev nD) (v18 : BitVec 32) : Prop :=
  (∀ (k0_h446 : k0_cond446 v18 = 1#1), ∀ (hinb : ∀ a, (k0_off410 v18) a + S32x128.size a ≤ S16384x128.size a), (Rect.unit (s := S16384x128) (k0_off410 v18) S32x128.size hinb).WholeWords (EltTy.packing .bf16)) ∧
  (∀ (k0_h447 : k0_cond447 v18 = 1#1), 16 ∣ (k0_mult284 v18).toNat) ∧
  (∀ (k0_h447 : k0_cond447 v18 = 1#1), 16 ∣ (k0_mult285 v18).toNat) ∧
  (∀ (k0_h447 : k0_cond447 v18 = 1#1), ∀ a, (k0_off412 v18) a + S16x128.size a ≤ S16384x128.size a) ∧
  (∀ (k0_h447 : k0_cond447 v18 = 1#1), ∀ a, (k0_off413 v18) a + S16x128.size a ≤ S17408x128.size a) ∧
  (∀ (k0_h447 : k0_cond447 v18 = 1#1), ∀ (hinb : ∀ a, (k0_off413 v18) a + S16x128.size a ≤ S17408x128.size a), (Rect.unit (s := S17408x128) (k0_off413 v18) S16x128.size hinb).WholeWords (EltTy.packing .bf16)) ∧
  (∀ (k0_h447 : k0_cond447 v18 = 1#1), ∀ (hinb : ∀ a, (k0_off412 v18) a + S16x128.size a ≤ S16384x128.size a), (Rect.unit (s := S16384x128) (k0_off412 v18) S16x128.size hinb).WholeWords (EltTy.packing .bf16)) ∧
  (∀ (k0_h448 : k0_cond448 v18 = 1#1), 8 ∣ (k0_mult286 v18).toNat) ∧
  (∀ (k0_h448 : k0_cond448 v18 = 1#1), 8 ∣ (k0_mult287 d0 v18).toNat) ∧
  (∀ (k0_h448 : k0_cond448 v18 = 1#1), ∀ a, (k0_off414 d0 v18) a + S8x128.size a ≤ S16384x128.size a) ∧
  (∀ (k0_h448 : k0_cond448 v18 = 1#1), ∀ a, (k0_off415 v18) a + S8x128.size a ≤ S17408x128.size a) ∧
  ((k0_t17_loop d0 v18).OK) ∧
  (∀ k0_t17 : Fin (k0_t17_loop d0 v18).trips, 8 ∣ (k0_mult288 d0 v18 k0_t17).toNat) ∧
  (∀ k0_t17 : Fin (k0_t17_loop d0 v18).trips, ∀ a, (k0_off416 d0 v18 k0_t17) a + S64x128.size a ≤ S16384x128.size a) ∧
  (∀ k0_t17 : Fin (k0_t17_loop d0 v18).trips, 8 ∣ (k0_mult289 d0 v18 k0_t17).toNat) ∧
  (∀ k0_t17 : Fin (k0_t17_loop d0 v18).trips, ∀ a, (k0_off417 d0 v18 k0_t17) a + S8x1024.size a ≤ S2048x1024.size a) ∧
  ((k0_t18_loop d0 v18).OK) ∧
  (∀ k0_t18 : Fin (k0_t18_loop d0 v18).trips, 8 ∣ (k0_mult290 d0 v18 k0_t18).toNat) ∧
  (∀ k0_t18 : Fin (k0_t18_loop d0 v18).trips, ∀ a, (k0_off418 d0 v18 k0_t18) a + S64x128.size a ≤ S16384x128.size a) ∧
  (∀ k0_t18 : Fin (k0_t18_loop d0 v18).trips, 8 ∣ (k0_mult291 d0 v18 k0_t18).toNat) ∧
  (∀ k0_t18 : Fin (k0_t18_loop d0 v18).trips, ∀ a, (k0_off419 d0 v18 k0_t18) a + S8x1024.size a ≤ S2048x1024.size a) ∧
  (∀ (k0_h449 : k0_cond449 v18 = 1#1), 8 ∣ (k0_mult292 d0 v18).toNat) ∧
  (∀ (k0_h449 : k0_cond449 v18 = 1#1), ∀ a, (k0_off420 d0 v18) a + S256x128.size a ≤ S16384x128.size a) ∧
  (∀ (k0_h449 : k0_cond449 v18 = 1#1), (k0_t19_loop d0 v18).OK) ∧
  (∀ k0_t19 : Fin (k0_t19_loop d0 v18).trips, ∀ (k0_h449 : k0_cond449 v18 = 1#1), 8 ∣ (k0_mult293 d0 v18 k0_t19).toNat) ∧
  (∀ k0_t19 : Fin (k0_t19_loop d0 v18).trips, ∀ (k0_h449 : k0_cond449 v18 = 1#1), ∀ a, (k0_off421 d0 v18 k0_t19) a + S64x128.size a ≤ S16384x128.size a) ∧
  (∀ k0_t19 : Fin (k0_t19_loop d0 v18).trips, ∀ (k0_h449 : k0_cond449 v18 = 1#1), 8 ∣ (k0_mult294 d0 v18 k0_t19).toNat) ∧
  (∀ k0_t19 : Fin (k0_t19_loop d0 v18).trips, ∀ (k0_h449 : k0_cond449 v18 = 1#1), ∀ a, (k0_off422 d0 v18 k0_t19) a + S8x1024.size a ≤ S2048x1024.size a) ∧
  (∀ (k0_h449 : k0_cond449 v18 = 1#1), (k0_t20_loop d0 v18).OK) ∧
  (∀ k0_t20 : Fin (k0_t20_loop d0 v18).trips, ∀ (k0_h449 : k0_cond449 v18 = 1#1), 8 ∣ (k0_mult295 d0 v18 k0_t20).toNat) ∧
  (∀ k0_t20 : Fin (k0_t20_loop d0 v18).trips, ∀ (k0_h449 : k0_cond449 v18 = 1#1), ∀ a, (k0_off423 d0 v18 k0_t20) a + S64x128.size a ≤ S16384x128.size a) ∧
  (∀ k0_t20 : Fin (k0_t20_loop d0 v18).trips, ∀ (k0_h449 : k0_cond449 v18 = 1#1), 8 ∣ (k0_mult296 d0 v18 k0_t20).toNat)
def k0_chk129_2 (d0 : Dev nD) (v18 : BitVec 32) : Prop :=
  (∀ k0_t20 : Fin (k0_t20_loop d0 v18).trips, ∀ (k0_h449 : k0_cond449 v18 = 1#1), ∀ a, (k0_off424 d0 v18 k0_t20) a + S8x1024.size a ≤ S2048x1024.size a) ∧
  (∀ (k0_h450 : k0_cond450 v18 = 1#1), 8 ∣ (k0_mult297 d0 v18).toNat) ∧
  (∀ (k0_h450 : k0_cond450 v18 = 1#1), ∀ a, (k0_off425 d0 v18) a + S256x128.size a ≤ S16384x128.size a) ∧
  (∀ (k0_h450 : k0_cond450 v18 = 1#1), (k0_t21_loop d0 v18).OK) ∧
  (∀ k0_t21 : Fin (k0_t21_loop d0 v18).trips, ∀ (k0_h450 : k0_cond450 v18 = 1#1), 8 ∣ (k0_mult298 d0 v18 k0_t21).toNat) ∧
  (∀ k0_t21 : Fin (k0_t21_loop d0 v18).trips, ∀ (k0_h450 : k0_cond450 v18 = 1#1), ∀ a, (k0_off426 d0 v18 k0_t21) a + S64x128.size a ≤ S16384x128.size a) ∧
  (∀ k0_t21 : Fin (k0_t21_loop d0 v18).trips, ∀ (k0_h450 : k0_cond450 v18 = 1#1), 8 ∣ (k0_mult299 d0 v18 k0_t21).toNat) ∧
  (∀ k0_t21 : Fin (k0_t21_loop d0 v18).trips, ∀ (k0_h450 : k0_cond450 v18 = 1#1), ∀ a, (k0_off427 d0 v18 k0_t21) a + S8x1024.size a ≤ S2048x1024.size a) ∧
  (∀ (k0_h450 : k0_cond450 v18 = 1#1), (k0_t22_loop d0 v18).OK) ∧
  (∀ k0_t22 : Fin (k0_t22_loop d0 v18).trips, ∀ (k0_h450 : k0_cond450 v18 = 1#1), 8 ∣ (k0_mult300 d0 v18 k0_t22).toNat) ∧
  (∀ k0_t22 : Fin (k0_t22_loop d0 v18).trips, ∀ (k0_h450 : k0_cond450 v18 = 1#1), ∀ a, (k0_off428 d0 v18 k0_t22) a + S64x128.size a ≤ S16384x128.size a) ∧
  (∀ k0_t22 : Fin (k0_t22_loop d0 v18).trips, ∀ (k0_h450 : k0_cond450 v18 = 1#1), 8 ∣ (k0_mult301 d0 v18 k0_t22).toNat) ∧
  (∀ k0_t22 : Fin (k0_t22_loop d0 v18).trips, ∀ (k0_h450 : k0_cond450 v18 = 1#1), ∀ a, (k0_off429 d0 v18 k0_t22) a + S8x1024.size a ≤ S2048x1024.size a) ∧
  (∀ (k0_h451 : k0_cond451 v18 = 1#1), 8 ∣ (k0_mult302 d0 v18).toNat) ∧
  (∀ (k0_h451 : k0_cond451 v18 = 1#1), ∀ a, (k0_off430 d0 v18) a + S256x128.size a ≤ S16384x128.size a) ∧
  (∀ (k0_h451 : k0_cond451 v18 = 1#1), (k0_t23_loop d0 v18).OK) ∧
  (∀ k0_t23 : Fin (k0_t23_loop d0 v18).trips, ∀ (k0_h451 : k0_cond451 v18 = 1#1), 8 ∣ (k0_mult303 d0 v18 k0_t23).toNat) ∧
  (∀ k0_t23 : Fin (k0_t23_loop d0 v18).trips, ∀ (k0_h451 : k0_cond451 v18 = 1#1), ∀ a, (k0_off431 d0 v18 k0_t23) a + S64x128.size a ≤ S16384x128.size a) ∧
  (∀ k0_t23 : Fin (k0_t23_loop d0 v18).trips, ∀ (k0_h451 : k0_cond451 v18 = 1#1), 8 ∣ (k0_mult304 d0 v18 k0_t23).toNat) ∧
  (∀ k0_t23 : Fin (k0_t23_loop d0 v18).trips, ∀ (k0_h451 : k0_cond451 v18 = 1#1), ∀ a, (k0_off432 d0 v18 k0_t23) a + S8x1024.size a ≤ S2048x1024.size a) ∧
  (∀ (k0_h451 : k0_cond451 v18 = 1#1), (k0_t24_loop d0 v18).OK) ∧
  (∀ k0_t24 : Fin (k0_t24_loop d0 v18).trips, ∀ (k0_h451 : k0_cond451 v18 = 1#1), 8 ∣ (k0_mult305 d0 v18 k0_t24).toNat) ∧
  (∀ k0_t24 : Fin (k0_t24_loop d0 v18).trips, ∀ (k0_h451 : k0_cond451 v18 = 1#1), ∀ a, (k0_off433 d0 v18 k0_t24) a + S64x128.size a ≤ S16384x128.size a) ∧
  (∀ k0_t24 : Fin (k0_t24_loop d0 v18).trips, ∀ (k0_h451 : k0_cond451 v18 = 1#1), 8 ∣ (k0_mult306 d0 v18 k0_t24).toNat) ∧
  (∀ k0_t24 : Fin (k0_t24_loop d0 v18).trips, ∀ (k0_h451 : k0_cond451 v18 = 1#1), ∀ a, (k0_off434 d0 v18 k0_t24) a + S8x1024.size a ≤ S2048x1024.size a) ∧
  (∀ (k0_h452 : k0_cond452 v18 = 1#1), 8 ∣ (k0_mult307 d0 v18).toNat) ∧
  (∀ (k0_h452 : k0_cond452 v18 = 1#1), ∀ a, (k0_off435 d0 v18) a + S256x128.size a ≤ S16384x128.size a) ∧
  (∀ (k0_h452 : k0_cond452 v18 = 1#1), (k0_t25_loop d0 v18).OK) ∧
  (∀ k0_t25 : Fin (k0_t25_loop d0 v18).trips, ∀ (k0_h452 : k0_cond452 v18 = 1#1), 8 ∣ (k0_mult308 d0 v18 k0_t25).toNat) ∧
  (∀ k0_t25 : Fin (k0_t25_loop d0 v18).trips, ∀ (k0_h452 : k0_cond452 v18 = 1#1), ∀ a, (k0_off436 d0 v18 k0_t25) a + S64x128.size a ≤ S16384x128.size a) ∧
  (∀ k0_t25 : Fin (k0_t25_loop d0 v18).trips, ∀ (k0_h452 : k0_cond452 v18 = 1#1), 8 ∣ (k0_mult309 d0 v18 k0_t25).toNat) ∧
  (∀ k0_t25 : Fin (k0_t25_loop d0 v18).trips, ∀ (k0_h452 : k0_cond452 v18 = 1#1), ∀ a, (k0_off437 d0 v18 k0_t25) a + S8x1024.size a ≤ S2048x1024.size a)
def k0_chk129_3 (d0 : Dev nD) (v18 : BitVec 32) : Prop :=
  (∀ (k0_h452 : k0_cond452 v18 = 1#1), (k0_t26_loop d0 v18).OK) ∧
  (∀ k0_t26 : Fin (k0_t26_loop d0 v18).trips, ∀ (k0_h452 : k0_cond452 v18 = 1#1), 8 ∣ (k0_mult310 d0 v18 k0_t26).toNat) ∧
  (∀ k0_t26 : Fin (k0_t26_loop d0 v18).trips, ∀ (k0_h452 : k0_cond452 v18 = 1#1), ∀ a, (k0_off438 d0 v18 k0_t26) a + S64x128.size a ≤ S16384x128.size a) ∧
  (∀ k0_t26 : Fin (k0_t26_loop d0 v18).trips, ∀ (k0_h452 : k0_cond452 v18 = 1#1), 8 ∣ (k0_mult311 d0 v18 k0_t26).toNat) ∧
  (∀ k0_t26 : Fin (k0_t26_loop d0 v18).trips, ∀ (k0_h452 : k0_cond452 v18 = 1#1), ∀ a, (k0_off439 d0 v18 k0_t26) a + S8x1024.size a ≤ S2048x1024.size a) ∧
  (∀ (k0_h453 : k0_cond453 v18 = 1#1), 8 ∣ (k0_mult312 d0 v18).toNat) ∧
  (∀ (k0_h453 : k0_cond453 v18 = 1#1), ∀ a, (k0_off440 d0 v18) a + S1024x128.size a ≤ S16384x128.size a) ∧
  (∀ (k0_h453 : k0_cond453 v18 = 1#1), (k0_t27_loop d0 v18).OK) ∧
  (∀ k0_t27 : Fin (k0_t27_loop d0 v18).trips, ∀ (k0_h453 : k0_cond453 v18 = 1#1), 8 ∣ (k0_mult313 d0 v18 k0_t27).toNat) ∧
  (∀ k0_t27 : Fin (k0_t27_loop d0 v18).trips, ∀ (k0_h453 : k0_cond453 v18 = 1#1), ∀ a, (k0_off441 d0 v18 k0_t27) a + S64x128.size a ≤ S16384x128.size a) ∧
  (∀ k0_t27 : Fin (k0_t27_loop d0 v18).trips, ∀ (k0_h453 : k0_cond453 v18 = 1#1), 8 ∣ (k0_mult314 d0 v18 k0_t27).toNat) ∧
  (∀ k0_t27 : Fin (k0_t27_loop d0 v18).trips, ∀ (k0_h453 : k0_cond453 v18 = 1#1), ∀ a, (k0_off442 d0 v18 k0_t27) a + S8x1024.size a ≤ S2048x1024.size a) ∧
  (∀ (k0_h453 : k0_cond453 v18 = 1#1), (k0_t28_loop d0 v18).OK) ∧
  (∀ k0_t28 : Fin (k0_t28_loop d0 v18).trips, ∀ (k0_h453 : k0_cond453 v18 = 1#1), 8 ∣ (k0_mult315 d0 v18 k0_t28).toNat) ∧
  (∀ k0_t28 : Fin (k0_t28_loop d0 v18).trips, ∀ (k0_h453 : k0_cond453 v18 = 1#1), ∀ a, (k0_off443 d0 v18 k0_t28) a + S64x128.size a ≤ S16384x128.size a) ∧
  (∀ k0_t28 : Fin (k0_t28_loop d0 v18).trips, ∀ (k0_h453 : k0_cond453 v18 = 1#1), 8 ∣ (k0_mult316 d0 v18 k0_t28).toNat) ∧
  (∀ k0_t28 : Fin (k0_t28_loop d0 v18).trips, ∀ (k0_h453 : k0_cond453 v18 = 1#1), ∀ a, (k0_off444 d0 v18 k0_t28) a + S8x1024.size a ≤ S2048x1024.size a) ∧
  (∀ (k0_h454 : k0_cond454 v18 = 1#1), 8 ∣ (k0_mult317 d0 v18).toNat) ∧
  (∀ (k0_h454 : k0_cond454 v18 = 1#1), ∀ a, (k0_off445 d0 v18) a + S1024x128.size a ≤ S16384x128.size a) ∧
  (∀ (k0_h454 : k0_cond454 v18 = 1#1), (k0_t29_loop d0 v18).OK) ∧
  (∀ k0_t29 : Fin (k0_t29_loop d0 v18).trips, ∀ (k0_h454 : k0_cond454 v18 = 1#1), 8 ∣ (k0_mult318 d0 v18 k0_t29).toNat) ∧
  (∀ k0_t29 : Fin (k0_t29_loop d0 v18).trips, ∀ (k0_h454 : k0_cond454 v18 = 1#1), ∀ a, (k0_off446 d0 v18 k0_t29) a + S64x128.size a ≤ S16384x128.size a) ∧
  (∀ k0_t29 : Fin (k0_t29_loop d0 v18).trips, ∀ (k0_h454 : k0_cond454 v18 = 1#1), 8 ∣ (k0_mult319 d0 v18 k0_t29).toNat) ∧
  (∀ k0_t29 : Fin (k0_t29_loop d0 v18).trips, ∀ (k0_h454 : k0_cond454 v18 = 1#1), ∀ a, (k0_off447 d0 v18 k0_t29) a + S8x1024.size a ≤ S2048x1024.size a) ∧
  (∀ (k0_h454 : k0_cond454 v18 = 1#1), (k0_t30_loop d0 v18).OK) ∧
  (∀ k0_t30 : Fin (k0_t30_loop d0 v18).trips, ∀ (k0_h454 : k0_cond454 v18 = 1#1), 8 ∣ (k0_mult320 d0 v18 k0_t30).toNat) ∧
  (∀ k0_t30 : Fin (k0_t30_loop d0 v18).trips, ∀ (k0_h454 : k0_cond454 v18 = 1#1), ∀ a, (k0_off448 d0 v18 k0_t30) a + S64x128.size a ≤ S16384x128.size a) ∧
  (∀ k0_t30 : Fin (k0_t30_loop d0 v18).trips, ∀ (k0_h454 : k0_cond454 v18 = 1#1), 8 ∣ (k0_mult321 d0 v18 k0_t30).toNat) ∧
  (∀ k0_t30 : Fin (k0_t30_loop d0 v18).trips, ∀ (k0_h454 : k0_cond454 v18 = 1#1), ∀ a, (k0_off449 d0 v18 k0_t30) a + S8x1024.size a ≤ S2048x1024.size a) ∧
  (∀ (k0_h455 : k0_cond455 v18 = 1#1), 8 ∣ (k0_mult322 d0 v18).toNat) ∧
  (∀ (k0_h455 : k0_cond455 v18 = 1#1), ∀ a, (k0_off450 d0 v18) a + S1024x128.size a ≤ S16384x128.size a) ∧
  (∀ (k0_h455 : k0_cond455 v18 = 1#1), (k0_t31_loop d0 v18).OK)
def k0_chk129_4 (d0 : Dev nD) (v18 : BitVec 32) : Prop :=
  (∀ k0_t31 : Fin (k0_t31_loop d0 v18).trips, ∀ (k0_h455 : k0_cond455 v18 = 1#1), 8 ∣ (k0_mult323 d0 v18 k0_t31).toNat) ∧
  (∀ k0_t31 : Fin (k0_t31_loop d0 v18).trips, ∀ (k0_h455 : k0_cond455 v18 = 1#1), ∀ a, (k0_off451 d0 v18 k0_t31) a + S64x128.size a ≤ S16384x128.size a) ∧
  (∀ k0_t31 : Fin (k0_t31_loop d0 v18).trips, ∀ (k0_h455 : k0_cond455 v18 = 1#1), 8 ∣ (k0_mult324 d0 v18 k0_t31).toNat) ∧
  (∀ k0_t31 : Fin (k0_t31_loop d0 v18).trips, ∀ (k0_h455 : k0_cond455 v18 = 1#1), ∀ a, (k0_off452 d0 v18 k0_t31) a + S8x1024.size a ≤ S2048x1024.size a) ∧
  (∀ (k0_h455 : k0_cond455 v18 = 1#1), (k0_t32_loop d0 v18).OK) ∧
  (∀ k0_t32 : Fin (k0_t32_loop d0 v18).trips, ∀ (k0_h455 : k0_cond455 v18 = 1#1), 8 ∣ (k0_mult325 d0 v18 k0_t32).toNat) ∧
  (∀ k0_t32 : Fin (k0_t32_loop d0 v18).trips, ∀ (k0_h455 : k0_cond455 v18 = 1#1), ∀ a, (k0_off453 d0 v18 k0_t32) a + S64x128.size a ≤ S16384x128.size a) ∧
  (∀ k0_t32 : Fin (k0_t32_loop d0 v18).trips, ∀ (k0_h455 : k0_cond455 v18 = 1#1), 8 ∣ (k0_mult326 d0 v18 k0_t32).toNat) ∧
  (∀ k0_t32 : Fin (k0_t32_loop d0 v18).trips, ∀ (k0_h455 : k0_cond455 v18 = 1#1), ∀ a, (k0_off454 d0 v18 k0_t32) a + S8x1024.size a ≤ S2048x1024.size a) ∧
  (∀ (k0_h456 : k0_cond456 v18 = 1#1), 8 ∣ (k0_mult327 d0 v18).toNat) ∧
  (∀ (k0_h456 : k0_cond456 v18 = 1#1), ∀ a, (k0_off455 d0 v18) a + S1024x128.size a ≤ S16384x128.size a) ∧
  (∀ (k0_h456 : k0_cond456 v18 = 1#1), (k0_t33_loop d0 v18).OK) ∧
  (∀ k0_t33 : Fin (k0_t33_loop d0 v18).trips, ∀ (k0_h456 : k0_cond456 v18 = 1#1), 8 ∣ (k0_mult328 d0 v18 k0_t33).toNat) ∧
  (∀ k0_t33 : Fin (k0_t33_loop d0 v18).trips, ∀ (k0_h456 : k0_cond456 v18 = 1#1), ∀ a, (k0_off456 d0 v18 k0_t33) a + S64x128.size a ≤ S16384x128.size a) ∧
  (∀ k0_t33 : Fin (k0_t33_loop d0 v18).trips, ∀ (k0_h456 : k0_cond456 v18 = 1#1), 8 ∣ (k0_mult329 d0 v18 k0_t33).toNat) ∧
  (∀ k0_t33 : Fin (k0_t33_loop d0 v18).trips, ∀ (k0_h456 : k0_cond456 v18 = 1#1), ∀ a, (k0_off457 d0 v18 k0_t33) a + S8x1024.size a ≤ S2048x1024.size a) ∧
  (∀ (k0_h456 : k0_cond456 v18 = 1#1), (k0_t34_loop d0 v18).OK) ∧
  (∀ k0_t34 : Fin (k0_t34_loop d0 v18).trips, ∀ (k0_h456 : k0_cond456 v18 = 1#1), 8 ∣ (k0_mult330 d0 v18 k0_t34).toNat) ∧
  (∀ k0_t34 : Fin (k0_t34_loop d0 v18).trips, ∀ (k0_h456 : k0_cond456 v18 = 1#1), ∀ a, (k0_off458 d0 v18 k0_t34) a + S64x128.size a ≤ S16384x128.size a) ∧
  (∀ k0_t34 : Fin (k0_t34_loop d0 v18).trips, ∀ (k0_h456 : k0_cond456 v18 = 1#1), 8 ∣ (k0_mult331 d0 v18 k0_t34).toNat) ∧
  (∀ k0_t34 : Fin (k0_t34_loop d0 v18).trips, ∀ (k0_h456 : k0_cond456 v18 = 1#1), ∀ a, (k0_off459 d0 v18 k0_t34) a + S8x1024.size a ≤ S2048x1024.size a) ∧
  (∀ (k0_h457 : k0_cond457 v18 = 1#1), 8 ∣ (k0_mult332 d0 v18).toNat) ∧
  (∀ (k0_h457 : k0_cond457 v18 = 1#1), ∀ a, (k0_off460 d0 v18) a + S1024x128.size a ≤ S16384x128.size a) ∧
  (∀ (k0_h457 : k0_cond457 v18 = 1#1), (k0_t35_loop d0 v18).OK) ∧
  (∀ k0_t35 : Fin (k0_t35_loop d0 v18).trips, ∀ (k0_h457 : k0_cond457 v18 = 1#1), 8 ∣ (k0_mult333 d0 v18 k0_t35).toNat) ∧
  (∀ k0_t35 : Fin (k0_t35_loop d0 v18).trips, ∀ (k0_h457 : k0_cond457 v18 = 1#1), ∀ a, (k0_off461 d0 v18 k0_t35) a + S64x128.size a ≤ S16384x128.size a) ∧
  (∀ k0_t35 : Fin (k0_t35_loop d0 v18).trips, ∀ (k0_h457 : k0_cond457 v18 = 1#1), 8 ∣ (k0_mult334 d0 v18 k0_t35).toNat) ∧
  (∀ k0_t35 : Fin (k0_t35_loop d0 v18).trips, ∀ (k0_h457 : k0_cond457 v18 = 1#1), ∀ a, (k0_off462 d0 v18 k0_t35) a + S8x1024.size a ≤ S2048x1024.size a) ∧
  (∀ (k0_h457 : k0_cond457 v18 = 1#1), (k0_t36_loop d0 v18).OK) ∧
  (∀ k0_t36 : Fin (k0_t36_loop d0 v18).trips, ∀ (k0_h457 : k0_cond457 v18 = 1#1), 8 ∣ (k0_mult335 d0 v18 k0_t36).toNat) ∧
  (∀ k0_t36 : Fin (k0_t36_loop d0 v18).trips, ∀ (k0_h457 : k0_cond457 v18 = 1#1), ∀ a, (k0_off463 d0 v18 k0_t36) a + S64x128.size a ≤ S16384x128.size a) ∧
  (∀ k0_t36 : Fin (k0_t36_loop d0 v18).trips, ∀ (k0_h457 : k0_cond457 v18 = 1#1), 8 ∣ (k0_mult336 d0 v18 k0_t36).toNat)
def k0_chk129_5 (d0 : Dev nD) (v18 : BitVec 32) : Prop :=
  (∀ k0_t36 : Fin (k0_t36_loop d0 v18).trips, ∀ (k0_h457 : k0_cond457 v18 = 1#1), ∀ a, (k0_off464 d0 v18 k0_t36) a + S8x1024.size a ≤ S2048x1024.size a) ∧
  (∀ (k0_h458 : k0_cond458 v18 = 1#1), 8 ∣ (k0_mult337 d0 v18).toNat) ∧
  (∀ (k0_h458 : k0_cond458 v18 = 1#1), ∀ a, (k0_off465 d0 v18) a + S1024x128.size a ≤ S16384x128.size a) ∧
  (∀ (k0_h458 : k0_cond458 v18 = 1#1), (k0_t37_loop d0 v18).OK) ∧
  (∀ k0_t37 : Fin (k0_t37_loop d0 v18).trips, ∀ (k0_h458 : k0_cond458 v18 = 1#1), 8 ∣ (k0_mult338 d0 v18 k0_t37).toNat) ∧
  (∀ k0_t37 : Fin (k0_t37_loop d0 v18).trips, ∀ (k0_h458 : k0_cond458 v18 = 1#1), ∀ a, (k0_off466 d0 v18 k0_t37) a + S64x128.size a ≤ S16384x128.size a) ∧
  (∀ k0_t37 : Fin (k0_t37_loop d0 v18).trips, ∀ (k0_h458 : k0_cond458 v18 = 1#1), 8 ∣ (k0_mult339 d0 v18 k0_t37).toNat) ∧
  (∀ k0_t37 : Fin (k0_t37_loop d0 v18).trips, ∀ (k0_h458 : k0_cond458 v18 = 1#1), ∀ a, (k0_off467 d0 v18 k0_t37) a + S8x1024.size a ≤ S2048x1024.size a) ∧
  (∀ (k0_h458 : k0_cond458 v18 = 1#1), (k0_t38_loop d0 v18).OK) ∧
  (∀ k0_t38 : Fin (k0_t38_loop d0 v18).trips, ∀ (k0_h458 : k0_cond458 v18 = 1#1), 8 ∣ (k0_mult340 d0 v18 k0_t38).toNat) ∧
  (∀ k0_t38 : Fin (k0_t38_loop d0 v18).trips, ∀ (k0_h458 : k0_cond458 v18 = 1#1), ∀ a, (k0_off468 d0 v18 k0_t38) a + S64x128.size a ≤ S16384x128.size a) ∧
  (∀ k0_t38 : Fin (k0_t38_loop d0 v18).trips, ∀ (k0_h458 : k0_cond458 v18 = 1#1), 8 ∣ (k0_mult341 d0 v18 k0_t38).toNat) ∧
  (∀ k0_t38 : Fin (k0_t38_loop d0 v18).trips, ∀ (k0_h458 : k0_cond458 v18 = 1#1), ∀ a, (k0_off469 d0 v18 k0_t38) a + S8x1024.size a ≤ S2048x1024.size a) ∧
  (∀ (k0_h459 : k0_cond459 v18 = 1#1), 8 ∣ (k0_mult342 d0 v18).toNat) ∧
  (∀ (k0_h459 : k0_cond459 v18 = 1#1), ∀ a, (k0_off470 d0 v18) a + S1024x128.size a ≤ S16384x128.size a) ∧
  (∀ (k0_h459 : k0_cond459 v18 = 1#1), (k0_t39_loop d0 v18).OK) ∧
  (∀ k0_t39 : Fin (k0_t39_loop d0 v18).trips, ∀ (k0_h459 : k0_cond459 v18 = 1#1), 8 ∣ (k0_mult343 d0 v18 k0_t39).toNat) ∧
  (∀ k0_t39 : Fin (k0_t39_loop d0 v18).trips, ∀ (k0_h459 : k0_cond459 v18 = 1#1), ∀ a, (k0_off471 d0 v18 k0_t39) a + S64x128.size a ≤ S16384x128.size a) ∧
  (∀ k0_t39 : Fin (k0_t39_loop d0 v18).trips, ∀ (k0_h459 : k0_cond459 v18 = 1#1), 8 ∣ (k0_mult344 d0 v18 k0_t39).toNat) ∧
  (∀ k0_t39 : Fin (k0_t39_loop d0 v18).trips, ∀ (k0_h459 : k0_cond459 v18 = 1#1), ∀ a, (k0_off472 d0 v18 k0_t39) a + S8x1024.size a ≤ S2048x1024.size a) ∧
  (∀ (k0_h459 : k0_cond459 v18 = 1#1), (k0_t40_loop d0 v18).OK) ∧
  (∀ k0_t40 : Fin (k0_t40_loop d0 v18).trips, ∀ (k0_h459 : k0_cond459 v18 = 1#1), 8 ∣ (k0_mult345 d0 v18 k0_t40).toNat) ∧
  (∀ k0_t40 : Fin (k0_t40_loop d0 v18).trips, ∀ (k0_h459 : k0_cond459 v18 = 1#1), ∀ a, (k0_off473 d0 v18 k0_t40) a + S64x128.size a ≤ S16384x128.size a) ∧
  (∀ k0_t40 : Fin (k0_t40_loop d0 v18).trips, ∀ (k0_h459 : k0_cond459 v18 = 1#1), 8 ∣ (k0_mult346 d0 v18 k0_t40).toNat) ∧
  (∀ k0_t40 : Fin (k0_t40_loop d0 v18).trips, ∀ (k0_h459 : k0_cond459 v18 = 1#1), ∀ a, (k0_off474 d0 v18 k0_t40) a + S8x1024.size a ≤ S2048x1024.size a) ∧
  (∀ (k0_h460 : k0_cond460 v18 = 1#1), 8 ∣ (k0_mult347 d0 v18).toNat) ∧
  (∀ (k0_h460 : k0_cond460 v18 = 1#1), ∀ a, (k0_off475 d0 v18) a + S1024x128.size a ≤ S16384x128.size a) ∧
  (∀ (k0_h460 : k0_cond460 v18 = 1#1), (k0_t41_loop d0 v18).OK) ∧
  (∀ k0_t41 : Fin (k0_t41_loop d0 v18).trips, ∀ (k0_h460 : k0_cond460 v18 = 1#1), 8 ∣ (k0_mult348 d0 v18 k0_t41).toNat) ∧
  (∀ k0_t41 : Fin (k0_t41_loop d0 v18).trips, ∀ (k0_h460 : k0_cond460 v18 = 1#1), ∀ a, (k0_off476 d0 v18 k0_t41) a + S64x128.size a ≤ S16384x128.size a) ∧
  (∀ k0_t41 : Fin (k0_t41_loop d0 v18).trips, ∀ (k0_h460 : k0_cond460 v18 = 1#1), 8 ∣ (k0_mult349 d0 v18 k0_t41).toNat) ∧
  (∀ k0_t41 : Fin (k0_t41_loop d0 v18).trips, ∀ (k0_h460 : k0_cond460 v18 = 1#1), ∀ a, (k0_off477 d0 v18 k0_t41) a + S8x1024.size a ≤ S2048x1024.size a)
def k0_chk129_6 (d0 : Dev nD) (v18 : BitVec 32) : Prop :=
  (∀ (k0_h460 : k0_cond460 v18 = 1#1), (k0_t42_loop d0 v18).OK) ∧
  (∀ k0_t42 : Fin (k0_t42_loop d0 v18).trips, ∀ (k0_h460 : k0_cond460 v18 = 1#1), 8 ∣ (k0_mult350 d0 v18 k0_t42).toNat) ∧
  (∀ k0_t42 : Fin (k0_t42_loop d0 v18).trips, ∀ (k0_h460 : k0_cond460 v18 = 1#1), ∀ a, (k0_off478 d0 v18 k0_t42) a + S64x128.size a ≤ S16384x128.size a) ∧
  (∀ k0_t42 : Fin (k0_t42_loop d0 v18).trips, ∀ (k0_h460 : k0_cond460 v18 = 1#1), 8 ∣ (k0_mult351 d0 v18 k0_t42).toNat) ∧
  (∀ k0_t42 : Fin (k0_t42_loop d0 v18).trips, ∀ (k0_h460 : k0_cond460 v18 = 1#1), ∀ a, (k0_off479 d0 v18 k0_t42) a + S8x1024.size a ≤ S2048x1024.size a) ∧
  (∀ (k0_h461 : k0_cond461 v18 = 1#1), 8 ∣ (k0_mult352 d0 v18).toNat) ∧
  (∀ (k0_h461 : k0_cond461 v18 = 1#1), ∀ a, (k0_off480 d0 v18) a + S1024x128.size a ≤ S16384x128.size a) ∧
  (∀ (k0_h461 : k0_cond461 v18 = 1#1), (k0_t43_loop d0 v18).OK) ∧
  (∀ k0_t43 : Fin (k0_t43_loop d0 v18).trips, ∀ (k0_h461 : k0_cond461 v18 = 1#1), 8 ∣ (k0_mult353 d0 v18 k0_t43).toNat) ∧
  (∀ k0_t43 : Fin (k0_t43_loop d0 v18).trips, ∀ (k0_h461 : k0_cond461 v18 = 1#1), ∀ a, (k0_off481 d0 v18 k0_t43) a + S64x128.size a ≤ S16384x128.size a) ∧
  (∀ k0_t43 : Fin (k0_t43_loop d0 v18).trips, ∀ (k0_h461 : k0_cond461 v18 = 1#1), 8 ∣ (k0_mult354 d0 v18 k0_t43).toNat) ∧
  (∀ k0_t43 : Fin (k0_t43_loop d0 v18).trips, ∀ (k0_h461 : k0_cond461 v18 = 1#1), ∀ a, (k0_off482 d0 v18 k0_t43) a + S8x1024.size a ≤ S2048x1024.size a) ∧
  (∀ (k0_h461 : k0_cond461 v18 = 1#1), (k0_t44_loop d0 v18).OK) ∧
  (∀ k0_t44 : Fin (k0_t44_loop d0 v18).trips, ∀ (k0_h461 : k0_cond461 v18 = 1#1), 8 ∣ (k0_mult355 d0 v18 k0_t44).toNat) ∧
  (∀ k0_t44 : Fin (k0_t44_loop d0 v18).trips, ∀ (k0_h461 : k0_cond461 v18 = 1#1), ∀ a, (k0_off483 d0 v18 k0_t44) a + S64x128.size a ≤ S16384x128.size a) ∧
  (∀ k0_t44 : Fin (k0_t44_loop d0 v18).trips, ∀ (k0_h461 : k0_cond461 v18 = 1#1), 8 ∣ (k0_mult356 d0 v18 k0_t44).toNat) ∧
  (∀ k0_t44 : Fin (k0_t44_loop d0 v18).trips, ∀ (k0_h461 : k0_cond461 v18 = 1#1), ∀ a, (k0_off484 d0 v18 k0_t44) a + S8x1024.size a ≤ S2048x1024.size a) ∧
  (∀ (k0_h462 : k0_cond462 v18 = 1#1), 8 ∣ (k0_mult357 d0 v18).toNat) ∧
  (∀ (k0_h462 : k0_cond462 v18 = 1#1), ∀ a, (k0_off485 d0 v18) a + S1024x128.size a ≤ S16384x128.size a) ∧
  (∀ (k0_h462 : k0_cond462 v18 = 1#1), (k0_t45_loop d0 v18).OK) ∧
  (∀ k0_t45 : Fin (k0_t45_loop d0 v18).trips, ∀ (k0_h462 : k0_cond462 v18 = 1#1), 8 ∣ (k0_mult358 d0 v18 k0_t45).toNat) ∧
  (∀ k0_t45 : Fin (k0_t45_loop d0 v18).trips, ∀ (k0_h462 : k0_cond462 v18 = 1#1), ∀ a, (k0_off486 d0 v18 k0_t45) a + S64x128.size a ≤ S16384x128.size a) ∧
  (∀ k0_t45 : Fin (k0_t45_loop d0 v18).trips, ∀ (k0_h462 : k0_cond462 v18 = 1#1), 8 ∣ (k0_mult359 d0 v18 k0_t45).toNat) ∧
  (∀ k0_t45 : Fin (k0_t45_loop d0 v18).trips, ∀ (k0_h462 : k0_cond462 v18 = 1#1), ∀ a, (k0_off487 d0 v18 k0_t45) a + S8x1024.size a ≤ S2048x1024.size a) ∧
  (∀ (k0_h462 : k0_cond462 v18 = 1#1), (k0_t46_loop d0 v18).OK) ∧
  (∀ k0_t46 : Fin (k0_t46_loop d0 v18).trips, ∀ (k0_h462 : k0_cond462 v18 = 1#1), 8 ∣ (k0_mult360 d0 v18 k0_t46).toNat) ∧
  (∀ k0_t46 : Fin (k0_t46_loop d0 v18).trips, ∀ (k0_h462 : k0_cond462 v18 = 1#1), ∀ a, (k0_off488 d0 v18 k0_t46) a + S64x128.size a ≤ S16384x128.size a) ∧
  (∀ k0_t46 : Fin (k0_t46_loop d0 v18).trips, ∀ (k0_h462 : k0_cond462 v18 = 1#1), 8 ∣ (k0_mult361 d0 v18 k0_t46).toNat) ∧
  (∀ k0_t46 : Fin (k0_t46_loop d0 v18).trips, ∀ (k0_h462 : k0_cond462 v18 = 1#1), ∀ a, (k0_off489 d0 v18 k0_t46) a + S8x1024.size a ≤ S2048x1024.size a) ∧
  (∀ (k0_h463 : k0_cond463 v18 = 1#1), 8 ∣ (k0_mult362 d0 v18).toNat) ∧
  (∀ (k0_h463 : k0_cond463 v18 = 1#1), ∀ a, (k0_off490 d0 v18) a + S1024x128.size a ≤ S16384x128.size a) ∧
  (∀ (k0_h463 : k0_cond463 v18 = 1#1), (k0_t47_loop d0 v18).OK)
def k0_chk129_7 (d0 : Dev nD) (v18 : BitVec 32) : Prop :=
  (∀ k0_t47 : Fin (k0_t47_loop d0 v18).trips, ∀ (k0_h463 : k0_cond463 v18 = 1#1), 8 ∣ (k0_mult363 d0 v18 k0_t47).toNat) ∧
  (∀ k0_t47 : Fin (k0_t47_loop d0 v18).trips, ∀ (k0_h463 : k0_cond463 v18 = 1#1), ∀ a, (k0_off491 d0 v18 k0_t47) a + S64x128.size a ≤ S16384x128.size a) ∧
  (∀ k0_t47 : Fin (k0_t47_loop d0 v18).trips, ∀ (k0_h463 : k0_cond463 v18 = 1#1), 8 ∣ (k0_mult364 d0 v18 k0_t47).toNat) ∧
  (∀ k0_t47 : Fin (k0_t47_loop d0 v18).trips, ∀ (k0_h463 : k0_cond463 v18 = 1#1), ∀ a, (k0_off492 d0 v18 k0_t47) a + S8x1024.size a ≤ S2048x1024.size a) ∧
  (∀ (k0_h463 : k0_cond463 v18 = 1#1), (k0_t48_loop d0 v18).OK) ∧
  (∀ k0_t48 : Fin (k0_t48_loop d0 v18).trips, ∀ (k0_h463 : k0_cond463 v18 = 1#1), 8 ∣ (k0_mult365 d0 v18 k0_t48).toNat) ∧
  (∀ k0_t48 : Fin (k0_t48_loop d0 v18).trips, ∀ (k0_h463 : k0_cond463 v18 = 1#1), ∀ a, (k0_off493 d0 v18 k0_t48) a + S64x128.size a ≤ S16384x128.size a) ∧
  (∀ k0_t48 : Fin (k0_t48_loop d0 v18).trips, ∀ (k0_h463 : k0_cond463 v18 = 1#1), 8 ∣ (k0_mult366 d0 v18 k0_t48).toNat) ∧
  (∀ k0_t48 : Fin (k0_t48_loop d0 v18).trips, ∀ (k0_h463 : k0_cond463 v18 = 1#1), ∀ a, (k0_off494 d0 v18 k0_t48) a + S8x1024.size a ≤ S2048x1024.size a) ∧
  (∀ (k0_h464 : k0_cond464 v18 = 1#1), 8 ∣ (k0_mult367 d0 v18).toNat) ∧
  (∀ (k0_h464 : k0_cond464 v18 = 1#1), ∀ a, (k0_off495 d0 v18) a + S1024x128.size a ≤ S16384x128.size a) ∧
  (∀ (k0_h464 : k0_cond464 v18 = 1#1), (k0_t49_loop d0 v18).OK) ∧
  (∀ k0_t49 : Fin (k0_t49_loop d0 v18).trips, ∀ (k0_h464 : k0_cond464 v18 = 1#1), 8 ∣ (k0_mult368 d0 v18 k0_t49).toNat) ∧
  (∀ k0_t49 : Fin (k0_t49_loop d0 v18).trips, ∀ (k0_h464 : k0_cond464 v18 = 1#1), ∀ a, (k0_off496 d0 v18 k0_t49) a + S64x128.size a ≤ S16384x128.size a) ∧
  (∀ k0_t49 : Fin (k0_t49_loop d0 v18).trips, ∀ (k0_h464 : k0_cond464 v18 = 1#1), 8 ∣ (k0_mult369 d0 v18 k0_t49).toNat) ∧
  (∀ k0_t49 : Fin (k0_t49_loop d0 v18).trips, ∀ (k0_h464 : k0_cond464 v18 = 1#1), ∀ a, (k0_off497 d0 v18 k0_t49) a + S8x1024.size a ≤ S2048x1024.size a) ∧
  (∀ (k0_h464 : k0_cond464 v18 = 1#1), (k0_t50_loop d0 v18).OK) ∧
  (∀ k0_t50 : Fin (k0_t50_loop d0 v18).trips, ∀ (k0_h464 : k0_cond464 v18 = 1#1), 8 ∣ (k0_mult370 d0 v18 k0_t50).toNat) ∧
  (∀ k0_t50 : Fin (k0_t50_loop d0 v18).trips, ∀ (k0_h464 : k0_cond464 v18 = 1#1), ∀ a, (k0_off498 d0 v18 k0_t50) a + S64x128.size a ≤ S16384x128.size a) ∧
  (∀ k0_t50 : Fin (k0_t50_loop d0 v18).trips, ∀ (k0_h464 : k0_cond464 v18 = 1#1), 8 ∣ (k0_mult371 d0 v18 k0_t50).toNat) ∧
  (∀ k0_t50 : Fin (k0_t50_loop d0 v18).trips, ∀ (k0_h464 : k0_cond464 v18 = 1#1), ∀ a, (k0_off499 d0 v18 k0_t50) a + S8x1024.size a ≤ S2048x1024.size a) ∧
  (∀ (k0_h465 : k0_cond465 v18 = 1#1), 8 ∣ (k0_mult372 d0 v18).toNat) ∧
  (∀ (k0_h465 : k0_cond465 v18 = 1#1), ∀ a, (k0_off500 d0 v18) a + S1024x128.size a ≤ S16384x128.size a) ∧
  (∀ (k0_h465 : k0_cond465 v18 = 1#1), (k0_t51_loop d0 v18).OK) ∧
  (∀ k0_t51 : Fin (k0_t51_loop d0 v18).trips, ∀ (k0_h465 : k0_cond465 v18 = 1#1), 8 ∣ (k0_mult373 d0 v18 k0_t51).toNat) ∧
  (∀ k0_t51 : Fin (k0_t51_loop d0 v18).trips, ∀ (k0_h465 : k0_cond465 v18 = 1#1), ∀ a, (k0_off501 d0 v18 k0_t51) a + S64x128.size a ≤ S16384x128.size a) ∧
  (∀ k0_t51 : Fin (k0_t51_loop d0 v18).trips, ∀ (k0_h465 : k0_cond465 v18 = 1#1), 8 ∣ (k0_mult374 d0 v18 k0_t51).toNat) ∧
  (∀ k0_t51 : Fin (k0_t51_loop d0 v18).trips, ∀ (k0_h465 : k0_cond465 v18 = 1#1), ∀ a, (k0_off502 d0 v18 k0_t51) a + S8x1024.size a ≤ S2048x1024.size a) ∧
  (∀ (k0_h465 : k0_cond465 v18 = 1#1), (k0_t52_loop d0 v18).OK) ∧
  (∀ k0_t52 : Fin (k0_t52_loop d0 v18).trips, ∀ (k0_h465 : k0_cond465 v18 = 1#1), 8 ∣ (k0_mult375 d0 v18 k0_t52).toNat) ∧
  (∀ k0_t52 : Fin (k0_t52_loop d0 v18).trips, ∀ (k0_h465 : k0_cond465 v18 = 1#1), ∀ a, (k0_off503 d0 v18 k0_t52) a + S64x128.size a ≤ S16384x128.size a) ∧
  (∀ k0_t52 : Fin (k0_t52_loop d0 v18).trips, ∀ (k0_h465 : k0_cond465 v18 = 1#1), 8 ∣ (k0_mult376 d0 v18 k0_t52).toNat)
def k0_chk129_8 (d0 : Dev nD) (v18 : BitVec 32) : Prop :=
  (∀ k0_t52 : Fin (k0_t52_loop d0 v18).trips, ∀ (k0_h465 : k0_cond465 v18 = 1#1), ∀ a, (k0_off504 d0 v18 k0_t52) a + S8x1024.size a ≤ S2048x1024.size a) ∧
  (∀ (k0_h466 : k0_cond466 v18 = 1#1), 8 ∣ (k0_mult377 d0 v18).toNat) ∧
  (∀ (k0_h466 : k0_cond466 v18 = 1#1), ∀ a, (k0_off505 d0 v18) a + S1024x128.size a ≤ S16384x128.size a) ∧
  (∀ (k0_h466 : k0_cond466 v18 = 1#1), (k0_t53_loop d0 v18).OK) ∧
  (∀ k0_t53 : Fin (k0_t53_loop d0 v18).trips, ∀ (k0_h466 : k0_cond466 v18 = 1#1), 8 ∣ (k0_mult378 d0 v18 k0_t53).toNat) ∧
  (∀ k0_t53 : Fin (k0_t53_loop d0 v18).trips, ∀ (k0_h466 : k0_cond466 v18 = 1#1), ∀ a, (k0_off506 d0 v18 k0_t53) a + S64x128.size a ≤ S16384x128.size a) ∧
  (∀ k0_t53 : Fin (k0_t53_loop d0 v18).trips, ∀ (k0_h466 : k0_cond466 v18 = 1#1), 8 ∣ (k0_mult379 d0 v18 k0_t53).toNat) ∧
  (∀ k0_t53 : Fin (k0_t53_loop d0 v18).trips, ∀ (k0_h466 : k0_cond466 v18 = 1#1), ∀ a, (k0_off507 d0 v18 k0_t53) a + S8x1024.size a ≤ S2048x1024.size a) ∧
  (∀ (k0_h466 : k0_cond466 v18 = 1#1), (k0_t54_loop d0 v18).OK) ∧
  (∀ k0_t54 : Fin (k0_t54_loop d0 v18).trips, ∀ (k0_h466 : k0_cond466 v18 = 1#1), 8 ∣ (k0_mult380 d0 v18 k0_t54).toNat) ∧
  (∀ k0_t54 : Fin (k0_t54_loop d0 v18).trips, ∀ (k0_h466 : k0_cond466 v18 = 1#1), ∀ a, (k0_off508 d0 v18 k0_t54) a + S64x128.size a ≤ S16384x128.size a) ∧
  (∀ k0_t54 : Fin (k0_t54_loop d0 v18).trips, ∀ (k0_h466 : k0_cond466 v18 = 1#1), 8 ∣ (k0_mult381 d0 v18 k0_t54).toNat) ∧
  (∀ k0_t54 : Fin (k0_t54_loop d0 v18).trips, ∀ (k0_h466 : k0_cond466 v18 = 1#1), ∀ a, (k0_off509 d0 v18 k0_t54) a + S8x1024.size a ≤ S2048x1024.size a) ∧
  (∀ (k0_h467 : k0_cond467 v18 = 1#1), 8 ∣ (k0_mult382 d0 v18).toNat) ∧
  (∀ (k0_h467 : k0_cond467 v18 = 1#1), ∀ a, (k0_off510 d0 v18) a + S1024x128.size a ≤ S16384x128.size a) ∧
  (∀ (k0_h467 : k0_cond467 v18 = 1#1), (k0_t55_loop d0 v18).OK) ∧
  (∀ k0_t55 : Fin (k0_t55_loop d0 v18).trips, ∀ (k0_h467 : k0_cond467 v18 = 1#1), 8 ∣ (k0_mult383 d0 v18 k0_t55).toNat) ∧
  (∀ k0_t55 : Fin (k0_t55_loop d0 v18).trips, ∀ (k0_h467 : k0_cond467 v18 = 1#1), ∀ a, (k0_off511 d0 v18 k0_t55) a + S64x128.size a ≤ S16384x128.size a) ∧
  (∀ k0_t55 : Fin (k0_t55_loop d0 v18).trips, ∀ (k0_h467 : k0_cond467 v18 = 1#1), 8 ∣ (k0_mult384 d0 v18 k0_t55).toNat) ∧
  (∀ k0_t55 : Fin (k0_t55_loop d0 v18).trips, ∀ (k0_h467 : k0_cond467 v18 = 1#1), ∀ a, (k0_off512 d0 v18 k0_t55) a + S8x1024.size a ≤ S2048x1024.size a) ∧
  (∀ (k0_h467 : k0_cond467 v18 = 1#1), (k0_t56_loop d0 v18).OK) ∧
  (∀ k0_t56 : Fin (k0_t56_loop d0 v18).trips, ∀ (k0_h467 : k0_cond467 v18 = 1#1), 8 ∣ (k0_mult385 d0 v18 k0_t56).toNat) ∧
  (∀ k0_t56 : Fin (k0_t56_loop d0 v18).trips, ∀ (k0_h467 : k0_cond467 v18 = 1#1), ∀ a, (k0_off513 d0 v18 k0_t56) a + S64x128.size a ≤ S16384x128.size a) ∧
  (∀ k0_t56 : Fin (k0_t56_loop d0 v18).trips, ∀ (k0_h467 : k0_cond467 v18 = 1#1), 8 ∣ (k0_mult386 d0 v18 k0_t56).toNat) ∧
  (∀ k0_t56 : Fin (k0_t56_loop d0 v18).trips, ∀ (k0_h467 : k0_cond467 v18 = 1#1), ∀ a, (k0_off514 d0 v18 k0_t56) a + S8x1024.size a ≤ S2048x1024.size a) ∧
  (∀ (k0_h468 : k0_cond468 v18 = 1#1), 16 ∣ (k0_mult387 v18).toNat) ∧
  (∀ (k0_h468 : k0_cond468 v18 = 1#1), 16 ∣ (k0_mult388 v18).toNat) ∧
  (∀ (k0_h468 : k0_cond468 v18 = 1#1), ∀ a, (k0_off515 v18) a + S512x128.size a ≤ S17408x128.size a) ∧
  (∀ (k0_h468 : k0_cond468 v18 = 1#1), ∀ a, (k0_off516 v18) a + S512x128.size a ≤ S16384x128.size a) ∧
  (∀ (k0_h468 : k0_cond468 v18 = 1#1), ∀ (hinb : ∀ a, (k0_off516 v18) a + S512x128.size a ≤ S16384x128.size a), (Rect.unit (s := S16384x128) (k0_off516 v18) S512x128.size hinb).WholeWords (EltTy.packing .bf16)) ∧
  (∀ (k0_h468 : k0_cond468 v18 = 1#1), ∀ (hinb : ∀ a, (k0_off515 v18) a + S512x128.size a ≤ S17408x128.size a), (Rect.unit (s := S17408x128) (k0_off515 v18) S512x128.size hinb).WholeWords (EltTy.packing .bf16)) ∧
  (∀ (k0_h468 : k0_cond468 v18 = 1#1), 16 ∣ (k0_mult389 v18).toNat)
def k0_chk129_9 (d0 : Dev nD) (v18 : BitVec 32) : Prop :=
  (∀ (k0_h468 : k0_cond468 v18 = 1#1), ∀ a, (k0_off517 v18) a + S512x128.size a ≤ S16384x128.size a) ∧
  (∀ (k0_h468 : k0_cond468 v18 = 1#1), 8 ∣ (k0_mult390 d0 v18).toNat) ∧
  (∀ (k0_h468 : k0_cond468 v18 = 1#1), ∀ a, (k0_off518 d0 v18) a + S512x128.size a ≤ S16384x128.size a) ∧
  (∀ (k0_h469 : k0_cond469 v18 = 1#1), 16 ∣ (k0_mult391 v18).toNat) ∧
  (∀ (k0_h469 : k0_cond469 v18 = 1#1), 16 ∣ (k0_mult392 v18).toNat) ∧
  (∀ (k0_h469 : k0_cond469 v18 = 1#1), ∀ a, (k0_off519 v18) a + S256x128.size a ≤ S17408x128.size a) ∧
  (∀ (k0_h469 : k0_cond469 v18 = 1#1), ∀ a, (k0_off520 v18) a + S256x128.size a ≤ S16384x128.size a) ∧
  (∀ (k0_h469 : k0_cond469 v18 = 1#1), ∀ (hinb : ∀ a, (k0_off520 v18) a + S256x128.size a ≤ S16384x128.size a), (Rect.unit (s := S16384x128) (k0_off520 v18) S256x128.size hinb).WholeWords (EltTy.packing .bf16)) ∧
  (∀ (k0_h469 : k0_cond469 v18 = 1#1), ∀ (hinb : ∀ a, (k0_off519 v18) a + S256x128.size a ≤ S17408x128.size a), (Rect.unit (s := S17408x128) (k0_off519 v18) S256x128.size hinb).WholeWords (EltTy.packing .bf16)) ∧
  (∀ (k0_h469 : k0_cond469 v18 = 1#1), 16 ∣ (k0_mult393 v18).toNat) ∧
  (∀ (k0_h469 : k0_cond469 v18 = 1#1), ∀ a, (k0_off521 v18) a + S256x128.size a ≤ S16384x128.size a) ∧
  (∀ (k0_h469 : k0_cond469 v18 = 1#1), 8 ∣ (k0_mult394 d0 v18).toNat) ∧
  (∀ (k0_h469 : k0_cond469 v18 = 1#1), ∀ a, (k0_off522 d0 v18) a + S256x128.size a ≤ S16384x128.size a) ∧
  (∀ (k0_h470 : k0_cond470 v18 = 1#1), 16 ∣ (k0_mult395 v18).toNat) ∧
  (∀ (k0_h470 : k0_cond470 v18 = 1#1), 16 ∣ (k0_mult396 v18).toNat) ∧
  (∀ (k0_h470 : k0_cond470 v18 = 1#1), ∀ a, (k0_off523 v18) a + S128x128.size a ≤ S17408x128.size a) ∧
  (∀ (k0_h470 : k0_cond470 v18 = 1#1), ∀ a, (k0_off524 v18) a + S128x128.size a ≤ S16384x128.size a) ∧
  (∀ (k0_h470 : k0_cond470 v18 = 1#1), ∀ (hinb : ∀ a, (k0_off524 v18) a + S128x128.size a ≤ S16384x128.size a), (Rect.unit (s := S16384x128) (k0_off524 v18) S128x128.size hinb).WholeWords (EltTy.packing .bf16)) ∧
  (∀ (k0_h470 : k0_cond470 v18 = 1#1), ∀ (hinb : ∀ a, (k0_off523 v18) a + S128x128.size a ≤ S17408x128.size a), (Rect.unit (s := S17408x128) (k0_off523 v18) S128x128.size hinb).WholeWords (EltTy.packing .bf16)) ∧
  (∀ (k0_h470 : k0_cond470 v18 = 1#1), 16 ∣ (k0_mult397 v18).toNat) ∧
  (∀ (k0_h470 : k0_cond470 v18 = 1#1), ∀ a, (k0_off525 v18) a + S128x128.size a ≤ S16384x128.size a) ∧
  (∀ (k0_h470 : k0_cond470 v18 = 1#1), 8 ∣ (k0_mult398 d0 v18).toNat) ∧
  (∀ (k0_h470 : k0_cond470 v18 = 1#1), ∀ a, (k0_off526 d0 v18) a + S128x128.size a ≤ S16384x128.size a) ∧
  (∀ (k0_h471 : k0_cond471 v18 = 1#1), 16 ∣ (k0_mult399 v18).toNat) ∧
  (∀ (k0_h471 : k0_cond471 v18 = 1#1), 16 ∣ (k0_mult400 v18).toNat) ∧
  (∀ (k0_h471 : k0_cond471 v18 = 1#1), ∀ a, (k0_off527 v18) a + S64x128.size a ≤ S17408x128.size a) ∧
  (∀ (k0_h471 : k0_cond471 v18 = 1#1), ∀ a, (k0_off528 v18) a + S64x128.size a ≤ S16384x128.size a) ∧
  (∀ (k0_h471 : k0_cond471 v18 = 1#1), ∀ (hinb : ∀ a, (k0_off528 v18) a + S64x128.size a ≤ S16384x128.size a), (Rect.unit (s := S16384x128) (k0_off528 v18) S64x128.size hinb).WholeWords (EltTy.packing .bf16)) ∧
  (∀ (k0_h471 : k0_cond471 v18 = 1#1), ∀ (hinb : ∀ a, (k0_off527 v18) a + S64x128.size a ≤ S17408x128.size a), (Rect.unit (s := S17408x128) (k0_off527 v18) S64x128.size hinb).WholeWords (EltTy.packing .bf16)) ∧
  (∀ (k0_h471 : k0_cond471 v18 = 1#1), 16 ∣ (k0_mult401 v18).toNat) ∧
  (∀ (k0_h471 : k0_cond471 v18 = 1#1), ∀ a, (k0_off529 v18) a + S64x128.size a ≤ S16384x128.size a) ∧
  (∀ (k0_h471 : k0_cond471 v18 = 1#1), 8 ∣ (k0_mult402 d0 v18).toNat)
def k0_chk129_10 (d0 : Dev nD) (v18 : BitVec 32) : Prop :=
  (∀ (k0_h471 : k0_cond471 v18 = 1#1), ∀ a, (k0_off530 d0 v18) a + S64x128.size a ≤ S16384x128.size a) ∧
  (∀ (k0_h472 : k0_cond472 v18 = 1#1), 16 ∣ (k0_mult403 v18).toNat) ∧
  (∀ (k0_h472 : k0_cond472 v18 = 1#1), 16 ∣ (k0_mult404 v18).toNat) ∧
  (∀ (k0_h472 : k0_cond472 v18 = 1#1), ∀ a, (k0_off531 v18) a + S32x128.size a ≤ S17408x128.size a) ∧
  (∀ (k0_h472 : k0_cond472 v18 = 1#1), ∀ a, (k0_off532 v18) a + S32x128.size a ≤ S16384x128.size a) ∧
  (∀ (k0_h472 : k0_cond472 v18 = 1#1), ∀ (hinb : ∀ a, (k0_off532 v18) a + S32x128.size a ≤ S16384x128.size a), (Rect.unit (s := S16384x128) (k0_off532 v18) S32x128.size hinb).WholeWords (EltTy.packing .bf16)) ∧
  (∀ (k0_h472 : k0_cond472 v18 = 1#1), ∀ (hinb : ∀ a, (k0_off531 v18) a + S32x128.size a ≤ S17408x128.size a), (Rect.unit (s := S17408x128) (k0_off531 v18) S32x128.size hinb).WholeWords (EltTy.packing .bf16)) ∧
  (∀ (k0_h472 : k0_cond472 v18 = 1#1), 16 ∣ (k0_mult405 v18).toNat) ∧
  (∀ (k0_h472 : k0_cond472 v18 = 1#1), ∀ a, (k0_off533 v18) a + S32x128.size a ≤ S16384x128.size a) ∧
  (∀ (k0_h472 : k0_cond472 v18 = 1#1), 8 ∣ (k0_mult406 d0 v18).toNat) ∧
  (∀ (k0_h472 : k0_cond472 v18 = 1#1), ∀ a, (k0_off534 d0 v18) a + S32x128.size a ≤ S16384x128.size a) ∧
  (∀ (k0_h473 : k0_cond473 v18 = 1#1), 16 ∣ (k0_mult407 v18).toNat) ∧
  (∀ (k0_h473 : k0_cond473 v18 = 1#1), 16 ∣ (k0_mult408 v18).toNat) ∧
  (∀ (k0_h473 : k0_cond473 v18 = 1#1), ∀ a, (k0_off535 v18) a + S16x128.size a ≤ S17408x128.size a) ∧
  (∀ (k0_h473 : k0_cond473 v18 = 1#1), ∀ a, (k0_off536 v18) a + S16x128.size a ≤ S16384x128.size a) ∧
  (∀ (k0_h473 : k0_cond473 v18 = 1#1), ∀ (hinb : ∀ a, (k0_off536 v18) a + S16x128.size a ≤ S16384x128.size a), (Rect.unit (s := S16384x128) (k0_off536 v18) S16x128.size hinb).WholeWords (EltTy.packing .bf16)) ∧
  (∀ (k0_h473 : k0_cond473 v18 = 1#1), ∀ (hinb : ∀ a, (k0_off535 v18) a + S16x128.size a ≤ S17408x128.size a), (Rect.unit (s := S17408x128) (k0_off535 v18) S16x128.size hinb).WholeWords (EltTy.packing .bf16)) ∧
  (∀ (k0_h473 : k0_cond473 v18 = 1#1), 16 ∣ (k0_mult409 v18).toNat) ∧
  (∀ (k0_h473 : k0_cond473 v18 = 1#1), ∀ a, (k0_off537 v18) a + S16x128.size a ≤ S16384x128.size a) ∧
  (∀ (k0_h473 : k0_cond473 v18 = 1#1), 8 ∣ (k0_mult410 d0 v18).toNat) ∧
  (∀ (k0_h473 : k0_cond473 v18 = 1#1), ∀ a, (k0_off538 d0 v18) a + S16x128.size a ≤ S16384x128.size a) ∧
  (∀ (k0_h474 : k0_cond474 v18 = 1#1), 8 ∣ (k0_mult411 v18).toNat) ∧
  (∀ (k0_h474 : k0_cond474 v18 = 1#1), 8 ∣ (k0_mult412 d0 v18).toNat) ∧
  (∀ (k0_h474 : k0_cond474 v18 = 1#1), ∀ a, (k0_off539 v18) a + S8x128.size a ≤ S17408x128.size a) ∧
  (∀ (k0_h474 : k0_cond474 v18 = 1#1), ∀ a, (k0_off540 d0 v18) a + S8x128.size a ≤ S16384x128.size a) ∧
  ((k0_t57_loop d0 v18).OK) ∧
  (∀ k0_t57 : Fin (k0_t57_loop d0 v18).trips, 8 ∣ (k0_mult413 d0 v18 k0_t57).toNat) ∧
  (∀ k0_t57 : Fin (k0_t57_loop d0 v18).trips, ∀ a, (k0_off541 d0 v18 k0_t57) a + S64x128.size a ≤ S16384x128.size a) ∧
  (∀ k0_t57 : Fin (k0_t57_loop d0 v18).trips, 8 ∣ (k0_mult414 d0 v18 k0_t57).toNat) ∧
  (∀ k0_t57 : Fin (k0_t57_loop d0 v18).trips, ∀ a, (k0_off542 d0 v18 k0_t57) a + S8x1024.size a ≤ S2048x1024.size a) ∧
  ((k0_t58_loop d0 v18).OK) ∧
  (∀ k0_t58 : Fin (k0_t58_loop d0 v18).trips, 8 ∣ (k0_mult415 d0 v18 k0_t58).toNat)
def k0_chk129_11 (d0 : Dev nD) (v18 : BitVec 32) : Prop :=
  (∀ k0_t58 : Fin (k0_t58_loop d0 v18).trips, ∀ a, (k0_off543 d0 v18 k0_t58) a + S64x128.size a ≤ S16384x128.size a) ∧
  (∀ k0_t58 : Fin (k0_t58_loop d0 v18).trips, 8 ∣ (k0_mult416 d0 v18 k0_t58).toNat) ∧
  (∀ k0_t58 : Fin (k0_t58_loop d0 v18).trips, ∀ a, (k0_off544 d0 v18 k0_t58) a + S8x1024.size a ≤ S2048x1024.size a)
def k0_chk129 (d0 : Dev nD) (v18 : BitVec 32) : Prop :=
  k0_chk129_0 d0 v18 ∧
  k0_chk129_1 d0 v18 ∧
  k0_chk129_2 d0 v18 ∧
  k0_chk129_3 d0 v18 ∧
  k0_chk129_4 d0 v18 ∧
  k0_chk129_5 d0 v18 ∧
  k0_chk129_6 d0 v18 ∧
  k0_chk129_7 d0 v18 ∧
  k0_chk129_8 d0 v18 ∧
  k0_chk129_9 d0 v18 ∧
  k0_chk129_10 d0 v18 ∧
  k0_chk129_11 d0 v18
theorem k0_mult273_dvd : ∀ (d0 : Dev nD) (v18 : BitVec 32) (k0_hw129 : k0_chk129 d0 v18), ∀ (k0_h441 : k0_cond441 v18 = 1#1), 16 ∣ (k0_mult273 v18).toNat := fun d0 v18 k0_hw129 k0_h441 => k0_hw129.1.1 k0_h441
theorem k0_off401_inb : ∀ (d0 : Dev nD) (v18 : BitVec 32) (k0_hw129 : k0_chk129 d0 v18), ∀ (k0_h441 : k0_cond441 v18 = 1#1), ∀ a, (k0_off401 v18) a + S1024x128.size a ≤ S17408x128.size a := fun d0 v18 k0_hw129 k0_h441 => k0_hw129.1.2.1 k0_h441
theorem k0_off401_packedbf16 : ∀ (d0 : Dev nD) (v18 : BitVec 32) (k0_hw129 : k0_chk129 d0 v18), ∀ (k0_h441 : k0_cond441 v18 = 1#1), (Rect.unit (s := S17408x128) (k0_off401 v18) S1024x128.size (k0_off401_inb d0 v18 k0_hw129 k0_h441)).PackedRows (EltTy.packing .bf16) := fun d0 v18 k0_hw129 k0_h441 => k0_hw129.1.2.2.1 k0_h441 (k0_off401_inb d0 v18 k0_hw129 k0_h441)
theorem k0_mult274_dvd : ∀ (d0 : Dev nD) (v18 : BitVec 32) (k0_hw129 : k0_chk129 d0 v18), ∀ (k0_h442 : k0_cond442 v18 = 1#1), 16 ∣ (k0_mult274 v18).toNat := fun d0 v18 k0_hw129 k0_h442 => k0_hw129.1.2.2.2.1 k0_h442
theorem k0_mult275_dvd : ∀ (d0 : Dev nD) (v18 : BitVec 32) (k0_hw129 : k0_chk129 d0 v18), ∀ (k0_h442 : k0_cond442 v18 = 1#1), 16 ∣ (k0_mult275 v18).toNat := fun d0 v18 k0_hw129 k0_h442 => k0_hw129.1.2.2.2.2.1 k0_h442
theorem k0_off402_inb : ∀ (d0 : Dev nD) (v18 : BitVec 32) (k0_hw129 : k0_chk129 d0 v18), ∀ (k0_h442 : k0_cond442 v18 = 1#1), ∀ a, (k0_off402 v18) a + S512x128.size a ≤ S16384x128.size a := fun d0 v18 k0_hw129 k0_h442 => k0_hw129.1.2.2.2.2.2.1 k0_h442
theorem k0_off403_inb : ∀ (d0 : Dev nD) (v18 : BitVec 32) (k0_hw129 : k0_chk129 d0 v18), ∀ (k0_h442 : k0_cond442 v18 = 1#1), ∀ a, (k0_off403 v18) a + S512x128.size a ≤ S17408x128.size a := fun d0 v18 k0_hw129 k0_h442 => k0_hw129.1.2.2.2.2.2.2.1 k0_h442
theorem k0_off403_wordsbf16 : ∀ (d0 : Dev nD) (v18 : BitVec 32) (k0_hw129 : k0_chk129 d0 v18), ∀ (k0_h442 : k0_cond442 v18 = 1#1), (Rect.unit (s := S17408x128) (k0_off403 v18) S512x128.size (k0_off403_inb d0 v18 k0_hw129 k0_h442)).WholeWords (EltTy.packing .bf16) := fun d0 v18 k0_hw129 k0_h442 => k0_hw129.1.2.2.2.2.2.2.2.1 k0_h442 (k0_off403_inb d0 v18 k0_hw129 k0_h442)
theorem k0_off402_wordsbf16 : ∀ (d0 : Dev nD) (v18 : BitVec 32) (k0_hw129 : k0_chk129 d0 v18), ∀ (k0_h442 : k0_cond442 v18 = 1#1), (Rect.unit (s := S16384x128) (k0_off402 v18) S512x128.size (k0_off402_inb d0 v18 k0_hw129 k0_h442)).WholeWords (EltTy.packing .bf16) := fun d0 v18 k0_hw129 k0_h442 => k0_hw129.1.2.2.2.2.2.2.2.2.1 k0_h442 (k0_off402_inb d0 v18 k0_hw129 k0_h442)
theorem k0_mult276_dvd : ∀ (d0 : Dev nD) (v18 : BitVec 32) (k0_hw129 : k0_chk129 d0 v18), ∀ (k0_h443 : k0_cond443 v18 = 1#1), 16 ∣ (k0_mult276 v18).toNat := fun d0 v18 k0_hw129 k0_h443 => k0_hw129.1.2.2.2.2.2.2.2.2.2.1 k0_h443
theorem k0_mult277_dvd : ∀ (d0 : Dev nD) (v18 : BitVec 32) (k0_hw129 : k0_chk129 d0 v18), ∀ (k0_h443 : k0_cond443 v18 = 1#1), 16 ∣ (k0_mult277 v18).toNat := fun d0 v18 k0_hw129 k0_h443 => k0_hw129.1.2.2.2.2.2.2.2.2.2.2.1 k0_h443
theorem k0_off404_inb : ∀ (d0 : Dev nD) (v18 : BitVec 32) (k0_hw129 : k0_chk129 d0 v18), ∀ (k0_h443 : k0_cond443 v18 = 1#1), ∀ a, (k0_off404 v18) a + S256x128.size a ≤ S16384x128.size a := fun d0 v18 k0_hw129 k0_h443 => k0_hw129.1.2.2.2.2.2.2.2.2.2.2.2.1 k0_h443
theorem k0_off405_inb : ∀ (d0 : Dev nD) (v18 : BitVec 32) (k0_hw129 : k0_chk129 d0 v18), ∀ (k0_h443 : k0_cond443 v18 = 1#1), ∀ a, (k0_off405 v18) a + S256x128.size a ≤ S17408x128.size a := fun d0 v18 k0_hw129 k0_h443 => k0_hw129.1.2.2.2.2.2.2.2.2.2.2.2.2.1 k0_h443
theorem k0_off405_wordsbf16 : ∀ (d0 : Dev nD) (v18 : BitVec 32) (k0_hw129 : k0_chk129 d0 v18), ∀ (k0_h443 : k0_cond443 v18 = 1#1), (Rect.unit (s := S17408x128) (k0_off405 v18) S256x128.size (k0_off405_inb d0 v18 k0_hw129 k0_h443)).WholeWords (EltTy.packing .bf16) := fun d0 v18 k0_hw129 k0_h443 => k0_hw129.1.2.2.2.2.2.2.2.2.2.2.2.2.2.1 k0_h443 (k0_off405_inb d0 v18 k0_hw129 k0_h443)
theorem k0_off404_wordsbf16 : ∀ (d0 : Dev nD) (v18 : BitVec 32) (k0_hw129 : k0_chk129 d0 v18), ∀ (k0_h443 : k0_cond443 v18 = 1#1), (Rect.unit (s := S16384x128) (k0_off404 v18) S256x128.size (k0_off404_inb d0 v18 k0_hw129 k0_h443)).WholeWords (EltTy.packing .bf16) := fun d0 v18 k0_hw129 k0_h443 => k0_hw129.1.2.2.2.2.2.2.2.2.2.2.2.2.2.2.1 k0_h443 (k0_off404_inb d0 v18 k0_hw129 k0_h443)
theorem k0_mult278_dvd : ∀ (d0 : Dev nD) (v18 : BitVec 32) (k0_hw129 : k0_chk129 d0 v18), ∀ (k0_h444 : k0_cond444 v18 = 1#1), 16 ∣ (k0_mult278 v18).toNat := fun d0 v18 k0_hw129 k0_h444 => k0_hw129.1.2.2.2.2.2.2.2.2.2.2.2.2.2.2.2.1 k0_h444
theorem k0_mult279_dvd : ∀ (d0 : Dev nD) (v18 : BitVec 32) (k0_hw129 : k0_chk129 d0 v18), ∀ (k0_h444 : k0_cond444 v18 = 1#1), 16 ∣ (k0_mult279 v18).toNat := fun d0 v18 k0_hw129 k0_h444 => k0_hw129.1.2.2.2.2.2.2.2.2.2.2.2.2.2.2.2.2.1 k0_h444
theorem k0_off406_inb : ∀ (d0 : Dev nD) (v18 : BitVec 32) (k0_hw129 : k0_chk129 d0 v18), ∀ (k0_h444 : k0_cond444 v18 = 1#1), ∀ a, (k0_off406 v18) a + S128x128.size a ≤ S16384x128.size a := fun d0 v18 k0_hw129 k0_h444 => k0_hw129.1.2.2.2.2.2.2.2.2.2.2.2.2.2.2.2.2.2.1 k0_h444
theorem k0_off407_inb : ∀ (d0 : Dev nD) (v18 : BitVec 32) (k0_hw129 : k0_chk129 d0 v18), ∀ (k0_h444 : k0_cond444 v18 = 1#1), ∀ a, (k0_off407 v18) a + S128x128.size a ≤ S17408x128.size a := fun d0 v18 k0_hw129 k0_h444 => k0_hw129.1.2.2.2.2.2.2.2.2.2.2.2.2.2.2.2.2.2.2.1 k0_h444
theorem k0_off407_wordsbf16 : ∀ (d0 : Dev nD) (v18 : BitVec 32) (k0_hw129 : k0_chk129 d0 v18), ∀ (k0_h444 : k0_cond444 v18 = 1#1), (Rect.unit (s := S17408x128) (k0_off407 v18) S128x128.size (k0_off407_inb d0 v18 k0_hw129 k0_h444)).WholeWords (EltTy.packing .bf16) := fun d0 v18 k0_hw129 k0_h444 => k0_hw129.1.2.2.2.2.2.2.2.2.2.2.2.2.2.2.2.2.2.2.2.1 k0_h444 (k0_off407_inb d0 v18 k0_hw129 k0_h444)
theorem k0_off406_wordsbf16 : ∀ (d0 : Dev nD) (v18 : BitVec 32) (k0_hw129 : k0_chk129 d0 v18), ∀ (k0_h444 : k0_cond444 v18 = 1#1), (Rect.unit (s := S16384x128) (k0_off406 v18) S128x128.size (k0_off406_inb d0 v18 k0_hw129 k0_h444)).WholeWords (EltTy.packing .bf16) := fun d0 v18 k0_hw129 k0_h444 => k0_hw129.1.2.2.2.2.2.2.2.2.2.2.2.2.2.2.2.2.2.2.2.2.1 k0_h444 (k0_off406_inb d0 v18 k0_hw129 k0_h444)
theorem k0_mult280_dvd : ∀ (d0 : Dev nD) (v18 : BitVec 32) (k0_hw129 : k0_chk129 d0 v18), ∀ (k0_h445 : k0_cond445 v18 = 1#1), 16 ∣ (k0_mult280 v18).toNat := fun d0 v18 k0_hw129 k0_h445 => k0_hw129.1.2.2.2.2.2.2.2.2.2.2.2.2.2.2.2.2.2.2.2.2.2.1 k0_h445
theorem k0_mult281_dvd : ∀ (d0 : Dev nD) (v18 : BitVec 32) (k0_hw129 : k0_chk129 d0 v18), ∀ (k0_h445 : k0_cond445 v18 = 1#1), 16 ∣ (k0_mult281 v18).toNat := fun d0 v18 k0_hw129 k0_h445 => k0_hw129.1.2.2.2.2.2.2.2.2.2.2.2.2.2.2.2.2.2.2.2.2.2.2.1 k0_h445
theorem k0_off408_inb : ∀ (d0 : Dev nD) (v18 : BitVec 32) (k0_hw129 : k0_chk129 d0 v18), ∀ (k0_h445 : k0_cond445 v18 = 1#1), ∀ a, (k0_off408 v18) a + S64x128.size a ≤ S16384x128.size a := fun d0 v18 k0_hw129 k0_h445 => k0_hw129.1.2.2.2.2.2.2.2.2.2.2.2.2.2.2.2.2.2.2.2.2.2.2.2.1 k0_h445
theorem k0_off409_inb : ∀ (d0 : Dev nD) (v18 : BitVec 32) (k0_hw129 : k0_chk129 d0 v18), ∀ (k0_h445 : k0_cond445 v18 = 1#1), ∀ a, (k0_off409 v18) a + S64x128.size a ≤ S17408x128.size a := fun d0 v18 k0_hw129 k0_h445 => k0_hw129.1.2.2.2.2.2.2.2.2.2.2.2.2.2.2.2.2.2.2.2.2.2.2.2.2.1 k0_h445
theorem k0_off409_wordsbf16 : ∀ (d0 : Dev nD) (v18 : BitVec 32) (k0_hw129 : k0_chk129 d0 v18), ∀ (k0_h445 : k0_cond445 v18 = 1#1), (Rect.unit (s := S17408x128) (k0_off409 v18) S64x128.size (k0_off409_inb d0 v18 k0_hw129 k0_h445)).WholeWords (EltTy.packing .bf16) := fun d0 v18 k0_hw129 k0_h445 => k0_hw129.1.2.2.2.2.2.2.2.2.2.2.2.2.2.2.2.2.2.2.2.2.2.2.2.2.2.1 k0_h445 (k0_off409_inb d0 v18 k0_hw129 k0_h445)
theorem k0_off408_wordsbf16 : ∀ (d0 : Dev nD) (v18 : BitVec 32) (k0_hw129 : k0_chk129 d0 v18), ∀ (k0_h445 : k0_cond445 v18 = 1#1), (Rect.unit (s := S16384x128) (k0_off408 v18) S64x128.size (k0_off408_inb d0 v18 k0_hw129 k0_h445)).WholeWords (EltTy.packing .bf16) := fun d0 v18 k0_hw129 k0_h445 => k0_hw129.1.2.2.2.2.2.2.2.2.2.2.2.2.2.2.2.2.2.2.2.2.2.2.2.2.2.2.1 k0_h445 (k0_off408_inb d0 v18 k0_hw129 k0_h445)
theorem k0_mult282_dvd : ∀ (d0 : Dev nD) (v18 : BitVec 32) (k0_hw129 : k0_chk129 d0 v18), ∀ (k0_h446 : k0_cond446 v18 = 1#1), 16 ∣ (k0_mult282 v18).toNat := fun d0 v18 k0_hw129 k0_h446 => k0_hw129.1.2.2.2.2.2.2.2.2.2.2.2.2.2.2.2.2.2.2.2.2.2.2.2.2.2.2.2.1 k0_h446
theorem k0_mult283_dvd : ∀ (d0 : Dev nD) (v18 : BitVec 32) (k0_hw129 : k0_chk129 d0 v18), ∀ (k0_h446 : k0_cond446 v18 = 1#1), 16 ∣ (k0_mult283 v18).toNat := fun d0 v18 k0_hw129 k0_h446 => k0_hw129.1.2.2.2.2.2.2.2.2.2.2.2.2.2.2.2.2.2.2.2.2.2.2.2.2.2.2.2.2.1 k0_h446
theorem k0_off410_inb : ∀ (d0 : Dev nD) (v18 : BitVec 32) (k0_hw129 : k0_chk129 d0 v18), ∀ (k0_h446 : k0_cond446 v18 = 1#1), ∀ a, (k0_off410 v18) a + S32x128.size a ≤ S16384x128.size a := fun d0 v18 k0_hw129 k0_h446 => k0_hw129.1.2.2.2.2.2.2.2.2.2.2.2.2.2.2.2.2.2.2.2.2.2.2.2.2.2.2.2.2.2.1 k0_h446
theorem k0_off411_inb : ∀ (d0 : Dev nD) (v18 : BitVec 32) (k0_hw129 : k0_chk129 d0 v18), ∀ (k0_h446 : k0_cond446 v18 = 1#1), ∀ a, (k0_off411 v18) a + S32x128.size a ≤ S17408x128.size a := fun d0 v18 k0_hw129 k0_h446 => k0_hw129.1.2.2.2.2.2.2.2.2.2.2.2.2.2.2.2.2.2.2.2.2.2.2.2.2.2.2.2.2.2.2.1 k0_h446
theorem k0_off411_wordsbf16 : ∀ (d0 : Dev nD) (v18 : BitVec 32) (k0_hw129 : k0_chk129 d0 v18), ∀ (k0_h446 : k0_cond446 v18 = 1#1), (Rect.unit (s := S17408x128) (k0_off411 v18) S32x128.size (k0_off411_inb d0 v18 k0_hw129 k0_h446)).WholeWords (EltTy.packing .bf16) := fun d0 v18 k0_hw129 k0_h446 => k0_hw129.1.2.2.2.2.2.2.2.2.2.2.2.2.2.2.2.2.2.2.2.2.2.2.2.2.2.2.2.2.2.2.2 k0_h446 (k0_off411_inb d0 v18 k0_hw129 k0_h446)
theorem k0_off410_wordsbf16 : ∀ (d0 : Dev nD) (v18 : BitVec 32) (k0_hw129 : k0_chk129 d0 v18), ∀ (k0_h446 : k0_cond446 v18 = 1#1), (Rect.unit (s := S16384x128) (k0_off410 v18) S32x128.size (k0_off410_inb d0 v18 k0_hw129 k0_h446)).WholeWords (EltTy.packing .bf16) := fun d0 v18 k0_hw129 k0_h446 => k0_hw129.2.1.1 k0_h446 (k0_off410_inb d0 v18 k0_hw129 k0_h446)
theorem k0_mult284_dvd : ∀ (d0 : Dev nD) (v18 : BitVec 32) (k0_hw129 : k0_chk129 d0 v18), ∀ (k0_h447 : k0_cond447 v18 = 1#1), 16 ∣ (k0_mult284 v18).toNat := fun d0 v18 k0_hw129 k0_h447 => k0_hw129.2.1.2.1 k0_h447
theorem k0_mult285_dvd : ∀ (d0 : Dev nD) (v18 : BitVec 32) (k0_hw129 : k0_chk129 d0 v18), ∀ (k0_h447 : k0_cond447 v18 = 1#1), 16 ∣ (k0_mult285 v18).toNat := fun d0 v18 k0_hw129 k0_h447 => k0_hw129.2.1.2.2.1 k0_h447
theorem k0_off412_inb : ∀ (d0 : Dev nD) (v18 : BitVec 32) (k0_hw129 : k0_chk129 d0 v18), ∀ (k0_h447 : k0_cond447 v18 = 1#1), ∀ a, (k0_off412 v18) a + S16x128.size a ≤ S16384x128.size a := fun d0 v18 k0_hw129 k0_h447 => k0_hw129.2.1.2.2.2.1 k0_h447
theorem k0_off413_inb : ∀ (d0 : Dev nD) (v18 : BitVec 32) (k0_hw129 : k0_chk129 d0 v18), ∀ (k0_h447 : k0_cond447 v18 = 1#1), ∀ a, (k0_off413 v18) a + S16x128.size a ≤ S17408x128.size a := fun d0 v18 k0_hw129 k0_h447 => k0_hw129.2.1.2.2.2.2.1 k0_h447
theorem k0_off413_wordsbf16 : ∀ (d0 : Dev nD) (v18 : BitVec 32) (k0_hw129 : k0_chk129 d0 v18), ∀ (k0_h447 : k0_cond447 v18 = 1#1), (Rect.unit (s := S17408x128) (k0_off413 v18) S16x128.size (k0_off413_inb d0 v18 k0_hw129 k0_h447)).WholeWords (EltTy.packing .bf16) := fun d0 v18 k0_hw129 k0_h447 => k0_hw129.2.1.2.2.2.2.2.1 k0_h447 (k0_off413_inb d0 v18 k0_hw129 k0_h447)
theorem k0_off412_wordsbf16 : ∀ (d0 : Dev nD) (v18 : BitVec 32) (k0_hw129 : k0_chk129 d0 v18), ∀ (k0_h447 : k0_cond447 v18 = 1#1), (Rect.unit (s := S16384x128) (k0_off412 v18) S16x128.size (k0_off412_inb d0 v18 k0_hw129 k0_h447)).WholeWords (EltTy.packing .bf16) := fun d0 v18 k0_hw129 k0_h447 => k0_hw129.2.1.2.2.2.2.2.2.1 k0_h447 (k0_off412_inb d0 v18 k0_hw129 k0_h447)
theorem k0_mult286_dvd : ∀ (d0 : Dev nD) (v18 : BitVec 32) (k0_hw129 : k0_chk129 d0 v18), ∀ (k0_h448 : k0_cond448 v18 = 1#1), 8 ∣ (k0_mult286 v18).toNat := fun d0 v18 k0_hw129 k0_h448 => k0_hw129.2.1.2.2.2.2.2.2.2.1 k0_h448
theorem k0_mult287_dvd : ∀ (d0 : Dev nD) (v18 : BitVec 32) (k0_hw129 : k0_chk129 d0 v18), ∀ (k0_h448 : k0_cond448 v18 = 1#1), 8 ∣ (k0_mult287 d0 v18).toNat := fun d0 v18 k0_hw129 k0_h448 => k0_hw129.2.1.2.2.2.2.2.2.2.2.1 k0_h448
theorem k0_off414_inb : ∀ (d0 : Dev nD) (v18 : BitVec 32) (k0_hw129 : k0_chk129 d0 v18), ∀ (k0_h448 : k0_cond448 v18 = 1#1), ∀ a, (k0_off414 d0 v18) a + S8x128.size a ≤ S16384x128.size a := fun d0 v18 k0_hw129 k0_h448 => k0_hw129.2.1.2.2.2.2.2.2.2.2.2.1 k0_h448
theorem k0_off415_inb : ∀ (d0 : Dev nD) (v18 : BitVec 32) (k0_hw129 : k0_chk129 d0 v18), ∀ (k0_h448 : k0_cond448 v18 = 1#1), ∀ a, (k0_off415 v18) a + S8x128.size a ≤ S17408x128.size a := fun d0 v18 k0_hw129 k0_h448 => k0_hw129.2.1.2.2.2.2.2.2.2.2.2.2.1 k0_h448
theorem k0_t17_ok : ∀ (d0 : Dev nD) (v18 : BitVec 32) (k0_hw129 : k0_chk129 d0 v18), (k0_t17_loop d0 v18).OK := fun d0 v18 k0_hw129 => k0_hw129.2.1.2.2.2.2.2.2.2.2.2.2.2.1
theorem k0_mult288_dvd : ∀ (d0 : Dev nD) (v18 : BitVec 32) (k0_hw129 : k0_chk129 d0 v18) (k0_t17 : Fin (k0_t17_loop d0 v18).trips), 8 ∣ (k0_mult288 d0 v18 k0_t17).toNat := fun d0 v18 k0_hw129 k0_t17 => k0_hw129.2.1.2.2.2.2.2.2.2.2.2.2.2.2.1 k0_t17
theorem k0_off416_inb : ∀ (d0 : Dev nD) (v18 : BitVec 32) (k0_hw129 : k0_chk129 d0 v18) (k0_t17 : Fin (k0_t17_loop d0 v18).trips), ∀ a, (k0_off416 d0 v18 k0_t17) a + S64x128.size a ≤ S16384x128.size a := fun d0 v18 k0_hw129 k0_t17 => k0_hw129.2.1.2.2.2.2.2.2.2.2.2.2.2.2.2.1 k0_t17
theorem k0_mult289_dvd : ∀ (d0 : Dev nD) (v18 : BitVec 32) (k0_hw129 : k0_chk129 d0 v18) (k0_t17 : Fin (k0_t17_loop d0 v18).trips), 8 ∣ (k0_mult289 d0 v18 k0_t17).toNat := fun d0 v18 k0_hw129 k0_t17 => k0_hw129.2.1.2.2.2.2.2.2.2.2.2.2.2.2.2.2.1 k0_t17
theorem k0_off417_inb : ∀ (d0 : Dev nD) (v18 : BitVec 32) (k0_hw129 : k0_chk129 d0 v18) (k0_t17 : Fin (k0_t17_loop d0 v18).trips), ∀ a, (k0_off417 d0 v18 k0_t17) a + S8x1024.size a ≤ S2048x1024.size a := fun d0 v18 k0_hw129 k0_t17 => k0_hw129.2.1.2.2.2.2.2.2.2.2.2.2.2.2.2.2.2.1 k0_t17
theorem k0_t18_ok : ∀ (d0 : Dev nD) (v18 : BitVec 32) (k0_hw129 : k0_chk129 d0 v18), (k0_t18_loop d0 v18).OK := fun d0 v18 k0_hw129 => k0_hw129.2.1.2.2.2.2.2.2.2.2.2.2.2.2.2.2.2.2.1
theorem k0_mult290_dvd : ∀ (d0 : Dev nD) (v18 : BitVec 32) (k0_hw129 : k0_chk129 d0 v18) (k0_t18 : Fin (k0_t18_loop d0 v18).trips), 8 ∣ (k0_mult290 d0 v18 k0_t18).toNat := fun d0 v18 k0_hw129 k0_t18 => k0_hw129.2.1.2.2.2.2.2.2.2.2.2.2.2.2.2.2.2.2.2.1 k0_t18
theorem k0_off418_inb : ∀ (d0 : Dev nD) (v18 : BitVec 32) (k0_hw129 : k0_chk129 d0 v18) (k0_t18 : Fin (k0_t18_loop d0 v18).trips), ∀ a, (k0_off418 d0 v18 k0_t18) a + S64x128.size a ≤ S16384x128.size a := fun d0 v18 k0_hw129 k0_t18 => k0_hw129.2.1.2.2.2.2.2.2.2.2.2.2.2.2.2.2.2.2.2.2.1 k0_t18
theorem k0_mult291_dvd : ∀ (d0 : Dev nD) (v18 : BitVec 32) (k0_hw129 : k0_chk129 d0 v18) (k0_t18 : Fin (k0_t18_loop d0 v18).trips), 8 ∣ (k0_mult291 d0 v18 k0_t18).toNat := fun d0 v18 k0_hw129 k0_t18 => k0_hw129.2.1.2.2.2.2.2.2.2.2.2.2.2.2.2.2.2.2.2.2.2.1 k0_t18
theorem k0_off419_inb : ∀ (d0 : Dev nD) (v18 : BitVec 32) (k0_hw129 : k0_chk129 d0 v18) (k0_t18 : Fin (k0_t18_loop d0 v18).trips), ∀ a, (k0_off419 d0 v18 k0_t18) a + S8x1024.size a ≤ S2048x1024.size a := fun d0 v18 k0_hw129 k0_t18 => k0_hw129.2.1.2.2.2.2.2.2.2.2.2.2.2.2.2.2.2.2.2.2.2.2.1 k0_t18
theorem k0_mult292_dvd : ∀ (d0 : Dev nD) (v18 : BitVec 32) (k0_hw129 : k0_chk129 d0 v18), ∀ (k0_h449 : k0_cond449 v18 = 1#1), 8 ∣ (k0_mult292 d0 v18).toNat := fun d0 v18 k0_hw129 k0_h449 => k0_hw129.2.1.2.2.2.2.2.2.2.2.2.2.2.2.2.2.2.2.2.2.2.2.2.1 k0_h449
theorem k0_off420_inb : ∀ (d0 : Dev nD) (v18 : BitVec 32) (k0_hw129 : k0_chk129 d0 v18), ∀ (k0_h449 : k0_cond449 v18 = 1#1), ∀ a, (k0_off420 d0 v18) a + S256x128.size a ≤ S16384x128.size a := fun d0 v18 k0_hw129 k0_h449 => k0_hw129.2.1.2.2.2.2.2.2.2.2.2.2.2.2.2.2.2.2.2.2.2.2.2.2.1 k0_h449
theorem k0_t19_ok : ∀ (d0 : Dev nD) (v18 : BitVec 32) (k0_hw129 : k0_chk129 d0 v18), ∀ (k0_h449 : k0_cond449 v18 = 1#1), (k0_t19_loop d0 v18).OK := fun d0 v18 k0_hw129 k0_h449 => k0_hw129.2.1.2.2.2.2.2.2.2.2.2.2.2.2.2.2.2.2.2.2.2.2.2.2.2.1 k0_h449
theorem k0_mult293_dvd : ∀ (d0 : Dev nD) (v18 : BitVec 32) (k0_hw129 : k0_chk129 d0 v18) (k0_t19 : Fin (k0_t19_loop d0 v18).trips), ∀ (k0_h449 : k0_cond449 v18 = 1#1), 8 ∣ (k0_mult293 d0 v18 k0_t19).toNat := fun d0 v18 k0_hw129 k0_t19 k0_h449 => k0_hw129.2.1.2.2.2.2.2.2.2.2.2.2.2.2.2.2.2.2.2.2.2.2.2.2.2.2.1 k0_t19 k0_h449
theorem k0_off421_inb : ∀ (d0 : Dev nD) (v18 : BitVec 32) (k0_hw129 : k0_chk129 d0 v18) (k0_t19 : Fin (k0_t19_loop d0 v18).trips), ∀ (k0_h449 : k0_cond449 v18 = 1#1), ∀ a, (k0_off421 d0 v18 k0_t19) a + S64x128.size a ≤ S16384x128.size a := fun d0 v18 k0_hw129 k0_t19 k0_h449 => k0_hw129.2.1.2.2.2.2.2.2.2.2.2.2.2.2.2.2.2.2.2.2.2.2.2.2.2.2.2.1 k0_t19 k0_h449
theorem k0_mult294_dvd : ∀ (d0 : Dev nD) (v18 : BitVec 32) (k0_hw129 : k0_chk129 d0 v18) (k0_t19 : Fin (k0_t19_loop d0 v18).trips), ∀ (k0_h449 : k0_cond449 v18 = 1#1), 8 ∣ (k0_mult294 d0 v18 k0_t19).toNat := fun d0 v18 k0_hw129 k0_t19 k0_h449 => k0_hw129.2.1.2.2.2.2.2.2.2.2.2.2.2.2.2.2.2.2.2.2.2.2.2.2.2.2.2.2.1 k0_t19 k0_h449
theorem k0_off422_inb : ∀ (d0 : Dev nD) (v18 : BitVec 32) (k0_hw129 : k0_chk129 d0 v18) (k0_t19 : Fin (k0_t19_loop d0 v18).trips), ∀ (k0_h449 : k0_cond449 v18 = 1#1), ∀ a, (k0_off422 d0 v18 k0_t19) a + S8x1024.size a ≤ S2048x1024.size a := fun d0 v18 k0_hw129 k0_t19 k0_h449 => k0_hw129.2.1.2.2.2.2.2.2.2.2.2.2.2.2.2.2.2.2.2.2.2.2.2.2.2.2.2.2.2.1 k0_t19 k0_h449
theorem k0_t20_ok : ∀ (d0 : Dev nD) (v18 : BitVec 32) (k0_hw129 : k0_chk129 d0 v18), ∀ (k0_h449 : k0_cond449 v18 = 1#1), (k0_t20_loop d0 v18).OK := fun d0 v18 k0_hw129 k0_h449 => k0_hw129.2.1.2.2.2.2.2.2.2.2.2.2.2.2.2.2.2.2.2.2.2.2.2.2.2.2.2.2.2.2.1 k0_h449
theorem k0_mult295_dvd : ∀ (d0 : Dev nD) (v18 : BitVec 32) (k0_hw129 : k0_chk129 d0 v18) (k0_t20 : Fin (k0_t20_loop d0 v18).trips), ∀ (k0_h449 : k0_cond449 v18 = 1#1), 8 ∣ (k0_mult295 d0 v18 k0_t20).toNat := fun d0 v18 k0_hw129 k0_t20 k0_h449 => k0_hw129.2.1.2.2.2.2.2.2.2.2.2.2.2.2.2.2.2.2.2.2.2.2.2.2.2.2.2.2.2.2.2.1 k0_t20 k0_h449
theorem k0_off423_inb : ∀ (d0 : Dev nD) (v18 : BitVec 32) (k0_hw129 : k0_chk129 d0 v18) (k0_t20 : Fin (k0_t20_loop d0 v18).trips), ∀ (k0_h449 : k0_cond449 v18 = 1#1), ∀ a, (k0_off423 d0 v18 k0_t20) a + S64x128.size a ≤ S16384x128.size a := fun d0 v18 k0_hw129 k0_t20 k0_h449 => k0_hw129.2.1.2.2.2.2.2.2.2.2.2.2.2.2.2.2.2.2.2.2.2.2.2.2.2.2.2.2.2.2.2.2.1 k0_t20 k0_h449
theorem k0_mult296_dvd : ∀ (d0 : Dev nD) (v18 : BitVec 32) (k0_hw129 : k0_chk129 d0 v18) (k0_t20 : Fin (k0_t20_loop d0 v18).trips), ∀ (k0_h449 : k0_cond449 v18 = 1#1), 8 ∣ (k0_mult296 d0 v18 k0_t20).toNat := fun d0 v18 k0_hw129 k0_t20 k0_h449 => k0_hw129.2.1.2.2.2.2.2.2.2.2.2.2.2.2.2.2.2.2.2.2.2.2.2.2.2.2.2.2.2.2.2.2.2 k0_t20 k0_h449
theorem k0_off424_inb : ∀ (d0 : Dev nD) (v18 : BitVec 32) (k0_hw129 : k0_chk129 d0 v18) (k0_t20 : Fin (k0_t20_loop d0 v18).trips), ∀ (k0_h449 : k0_cond449 v18 = 1#1), ∀ a, (k0_off424 d0 v18 k0_t20) a + S8x1024.size a ≤ S2048x1024.size a := fun d0 v18 k0_hw129 k0_t20 k0_h449 => k0_hw129.2.2.1.1 k0_t20 k0_h449
theorem k0_mult297_dvd : ∀ (d0 : Dev nD) (v18 : BitVec 32) (k0_hw129 : k0_chk129 d0 v18), ∀ (k0_h450 : k0_cond450 v18 = 1#1), 8 ∣ (k0_mult297 d0 v18).toNat := fun d0 v18 k0_hw129 k0_h450 => k0_hw129.2.2.1.2.1 k0_h450
theorem k0_off425_inb : ∀ (d0 : Dev nD) (v18 : BitVec 32) (k0_hw129 : k0_chk129 d0 v18), ∀ (k0_h450 : k0_cond450 v18 = 1#1), ∀ a, (k0_off425 d0 v18) a + S256x128.size a ≤ S16384x128.size a := fun d0 v18 k0_hw129 k0_h450 => k0_hw129.2.2.1.2.2.1 k0_h450
theorem k0_t21_ok : ∀ (d0 : Dev nD) (v18 : BitVec 32) (k0_hw129 : k0_chk129 d0 v18), ∀ (k0_h450 : k0_cond450 v18 = 1#1), (k0_t21_loop d0 v18).OK := fun d0 v18 k0_hw129 k0_h450 => k0_hw129.2.2.1.2.2.2.1 k0_h450
theorem k0_mult298_dvd : ∀ (d0 : Dev nD) (v18 : BitVec 32) (k0_hw129 : k0_chk129 d0 v18) (k0_t21 : Fin (k0_t21_loop d0 v18).trips), ∀ (k0_h450 : k0_cond450 v18 = 1#1), 8 ∣ (k0_mult298 d0 v18 k0_t21).toNat := fun d0 v18 k0_hw129 k0_t21 k0_h450 => k0_hw129.2.2.1.2.2.2.2.1 k0_t21 k0_h450
theorem k0_off426_inb : ∀ (d0 : Dev nD) (v18 : BitVec 32) (k0_hw129 : k0_chk129 d0 v18) (k0_t21 : Fin (k0_t21_loop d0 v18).trips), ∀ (k0_h450 : k0_cond450 v18 = 1#1), ∀ a, (k0_off426 d0 v18 k0_t21) a + S64x128.size a ≤ S16384x128.size a := fun d0 v18 k0_hw129 k0_t21 k0_h450 => k0_hw129.2.2.1.2.2.2.2.2.1 k0_t21 k0_h450
theorem k0_mult299_dvd : ∀ (d0 : Dev nD) (v18 : BitVec 32) (k0_hw129 : k0_chk129 d0 v18) (k0_t21 : Fin (k0_t21_loop d0 v18).trips), ∀ (k0_h450 : k0_cond450 v18 = 1#1), 8 ∣ (k0_mult299 d0 v18 k0_t21).toNat := fun d0 v18 k0_hw129 k0_t21 k0_h450 => k0_hw129.2.2.1.2.2.2.2.2.2.1 k0_t21 k0_h450
theorem k0_off427_inb : ∀ (d0 : Dev nD) (v18 : BitVec 32) (k0_hw129 : k0_chk129 d0 v18) (k0_t21 : Fin (k0_t21_loop d0 v18).trips), ∀ (k0_h450 : k0_cond450 v18 = 1#1), ∀ a, (k0_off427 d0 v18 k0_t21) a + S8x1024.size a ≤ S2048x1024.size a := fun d0 v18 k0_hw129 k0_t21 k0_h450 => k0_hw129.2.2.1.2.2.2.2.2.2.2.1 k0_t21 k0_h450
theorem k0_t22_ok : ∀ (d0 : Dev nD) (v18 : BitVec 32) (k0_hw129 : k0_chk129 d0 v18), ∀ (k0_h450 : k0_cond450 v18 = 1#1), (k0_t22_loop d0 v18).OK := fun d0 v18 k0_hw129 k0_h450 => k0_hw129.2.2.1.2.2.2.2.2.2.2.2.1 k0_h450
theorem k0_mult300_dvd : ∀ (d0 : Dev nD) (v18 : BitVec 32) (k0_hw129 : k0_chk129 d0 v18) (k0_t22 : Fin (k0_t22_loop d0 v18).trips), ∀ (k0_h450 : k0_cond450 v18 = 1#1), 8 ∣ (k0_mult300 d0 v18 k0_t22).toNat := fun d0 v18 k0_hw129 k0_t22 k0_h450 => k0_hw129.2.2.1.2.2.2.2.2.2.2.2.2.1 k0_t22 k0_h450
theorem k0_off428_inb : ∀ (d0 : Dev nD) (v18 : BitVec 32) (k0_hw129 : k0_chk129 d0 v18) (k0_t22 : Fin (k0_t22_loop d0 v18).trips), ∀ (k0_h450 : k0_cond450 v18 = 1#1), ∀ a, (k0_off428 d0 v18 k0_t22) a + S64x128.size a ≤ S16384x128.size a := fun d0 v18 k0_hw129 k0_t22 k0_h450 => k0_hw129.2.2.1.2.2.2.2.2.2.2.2.2.2.1 k0_t22 k0_h450
theorem k0_mult301_dvd : ∀ (d0 : Dev nD) (v18 : BitVec 32) (k0_hw129 : k0_chk129 d0 v18) (k0_t22 : Fin (k0_t22_loop d0 v18).trips), ∀ (k0_h450 : k0_cond450 v18 = 1#1), 8 ∣ (k0_mult301 d0 v18 k0_t22).toNat := fun d0 v18 k0_hw129 k0_t22 k0_h450 => k0_hw129.2.2.1.2.2.2.2.2.2.2.2.2.2.2.1 k0_t22 k0_h450
theorem k0_off429_inb : ∀ (d0 : Dev nD) (v18 : BitVec 32) (k0_hw129 : k0_chk129 d0 v18) (k0_t22 : Fin (k0_t22_loop d0 v18).trips), ∀ (k0_h450 : k0_cond450 v18 = 1#1), ∀ a, (k0_off429 d0 v18 k0_t22) a + S8x1024.size a ≤ S2048x1024.size a := fun d0 v18 k0_hw129 k0_t22 k0_h450 => k0_hw129.2.2.1.2.2.2.2.2.2.2.2.2.2.2.2.1 k0_t22 k0_h450
theorem k0_mult302_dvd : ∀ (d0 : Dev nD) (v18 : BitVec 32) (k0_hw129 : k0_chk129 d0 v18), ∀ (k0_h451 : k0_cond451 v18 = 1#1), 8 ∣ (k0_mult302 d0 v18).toNat := fun d0 v18 k0_hw129 k0_h451 => k0_hw129.2.2.1.2.2.2.2.2.2.2.2.2.2.2.2.2.1 k0_h451
theorem k0_off430_inb : ∀ (d0 : Dev nD) (v18 : BitVec 32) (k0_hw129 : k0_chk129 d0 v18), ∀ (k0_h451 : k0_cond451 v18 = 1#1), ∀ a, (k0_off430 d0 v18) a + S256x128.size a ≤ S16384x128.size a := fun d0 v18 k0_hw129 k0_h451 => k0_hw129.2.2.1.2.2.2.2.2.2.2.2.2.2.2.2.2.2.1 k0_h451
theorem k0_t23_ok : ∀ (d0 : Dev nD) (v18 : BitVec 32) (k0_hw129 : k0_chk129 d0 v18), ∀ (k0_h451 : k0_cond451 v18 = 1#1), (k0_t23_loop d0 v18).OK := fun d0 v18 k0_hw129 k0_h451 => k0_hw129.2.2.1.2.2.2.2.2.2.2.2.2.2.2.2.2.2.2.1 k0_h451
theorem k0_mult303_dvd : ∀ (d0 : Dev nD) (v18 : BitVec 32) (k0_hw129 : k0_chk129 d0 v18) (k0_t23 : Fin (k0_t23_loop d0 v18).trips), ∀ (k0_h451 : k0_cond451 v18 = 1#1), 8 ∣ (k0_mult303 d0 v18 k0_t23).toNat := fun d0 v18 k0_hw129 k0_t23 k0_h451 => k0_hw129.2.2.1.2.2.2.2.2.2.2.2.2.2.2.2.2.2.2.2.1 k0_t23 k0_h451
theorem k0_off431_inb : ∀ (d0 : Dev nD) (v18 : BitVec 32) (k0_hw129 : k0_chk129 d0 v18) (k0_t23 : Fin (k0_t23_loop d0 v18).trips), ∀ (k0_h451 : k0_cond451 v18 = 1#1), ∀ a, (k0_off431 d0 v18 k0_t23) a + S64x128.size a ≤ S16384x128.size a := fun d0 v18 k0_hw129 k0_t23 k0_h451 => k0_hw129.2.2.1.2.2.2.2.2.2.2.2.2.2.2.2.2.2.2.2.2.1 k0_t23 k0_h451
theorem k0_mult304_dvd : ∀ (d0 : Dev nD) (v18 : BitVec 32) (k0_hw129 : k0_chk129 d0 v18) (k0_t23 : Fin (k0_t23_loop d0 v18).trips), ∀ (k0_h451 : k0_cond451 v18 = 1#1), 8 ∣ (k0_mult304 d0 v18 k0_t23).toNat := fun d0 v18 k0_hw129 k0_t23 k0_h451 => k0_hw129.2.2.1.2.2.2.2.2.2.2.2.2.2.2.2.2.2.2.2.2.2.1 k0_t23 k0_h451
theorem k0_off432_inb : ∀ (d0 : Dev nD) (v18 : BitVec 32) (k0_hw129 : k0_chk129 d0 v18) (k0_t23 : Fin (k0_t23_loop d0 v18).trips), ∀ (k0_h451 : k0_cond451 v18 = 1#1), ∀ a, (k0_off432 d0 v18 k0_t23) a + S8x1024.size a ≤ S2048x1024.size a := fun d0 v18 k0_hw129 k0_t23 k0_h451 => k0_hw129.2.2.1.2.2.2.2.2.2.2.2.2.2.2.2.2.2.2.2.2.2.2.1 k0_t23 k0_h451
theorem k0_t24_ok : ∀ (d0 : Dev nD) (v18 : BitVec 32) (k0_hw129 : k0_chk129 d0 v18), ∀ (k0_h451 : k0_cond451 v18 = 1#1), (k0_t24_loop d0 v18).OK := fun d0 v18 k0_hw129 k0_h451 => k0_hw129.2.2.1.2.2.2.2.2.2.2.2.2.2.2.2.2.2.2.2.2.2.2.2.1 k0_h451
theorem k0_mult305_dvd : ∀ (d0 : Dev nD) (v18 : BitVec 32) (k0_hw129 : k0_chk129 d0 v18) (k0_t24 : Fin (k0_t24_loop d0 v18).trips), ∀ (k0_h451 : k0_cond451 v18 = 1#1), 8 ∣ (k0_mult305 d0 v18 k0_t24).toNat := fun d0 v18 k0_hw129 k0_t24 k0_h451 => k0_hw129.2.2.1.2.2.2.2.2.2.2.2.2.2.2.2.2.2.2.2.2.2.2.2.2.1 k0_t24 k0_h451
theorem k0_off433_inb : ∀ (d0 : Dev nD) (v18 : BitVec 32) (k0_hw129 : k0_chk129 d0 v18) (k0_t24 : Fin (k0_t24_loop d0 v18).trips), ∀ (k0_h451 : k0_cond451 v18 = 1#1), ∀ a, (k0_off433 d0 v18 k0_t24) a + S64x128.size a ≤ S16384x128.size a := fun d0 v18 k0_hw129 k0_t24 k0_h451 => k0_hw129.2.2.1.2.2.2.2.2.2.2.2.2.2.2.2.2.2.2.2.2.2.2.2.2.2.1 k0_t24 k0_h451
theorem k0_mult306_dvd : ∀ (d0 : Dev nD) (v18 : BitVec 32) (k0_hw129 : k0_chk129 d0 v18) (k0_t24 : Fin (k0_t24_loop d0 v18).trips), ∀ (k0_h451 : k0_cond451 v18 = 1#1), 8 ∣ (k0_mult306 d0 v18 k0_t24).toNat := fun d0 v18 k0_hw129 k0_t24 k0_h451 => k0_hw129.2.2.1.2.2.2.2.2.2.2.2.2.2.2.2.2.2.2.2.2.2.2.2.2.2.2.1 k0_t24 k0_h451
theorem k0_off434_inb : ∀ (d0 : Dev nD) (v18 : BitVec 32) (k0_hw129 : k0_chk129 d0 v18) (k0_t24 : Fin (k0_t24_loop d0 v18).trips), ∀ (k0_h451 : k0_cond451 v18 = 1#1), ∀ a, (k0_off434 d0 v18 k0_t24) a + S8x1024.size a ≤ S2048x1024.size a := fun d0 v18 k0_hw129 k0_t24 k0_h451 => k0_hw129.2.2.1.2.2.2.2.2.2.2.2.2.2.2.2.2.2.2.2.2.2.2.2.2.2.2.2.1 k0_t24 k0_h451
theorem k0_mult307_dvd : ∀ (d0 : Dev nD) (v18 : BitVec 32) (k0_hw129 : k0_chk129 d0 v18), ∀ (k0_h452 : k0_cond452 v18 = 1#1), 8 ∣ (k0_mult307 d0 v18).toNat := fun d0 v18 k0_hw129 k0_h452 => k0_hw129.2.2.1.2.2.2.2.2.2.2.2.2.2.2.2.2.2.2.2.2.2.2.2.2.2.2.2.2.1 k0_h452
theorem k0_off435_inb : ∀ (d0 : Dev nD) (v18 : BitVec 32) (k0_hw129 : k0_chk129 d0 v18), ∀ (k0_h452 : k0_cond452 v18 = 1#1), ∀ a, (k0_off435 d0 v18) a + S256x128.size a ≤ S16384x128.size a := fun d0 v18 k0_hw129 k0_h452 => k0_hw129.2.2.1.2.2.2.2.2.2.2.2.2.2.2.2.2.2.2.2.2.2.2.2.2.2.2.2.2.2.1 k0_h452
theorem k0_t25_ok : ∀ (d0 : Dev nD) (v18 : BitVec 32) (k0_hw129 : k0_chk129 d0 v18), ∀ (k0_h452 : k0_cond452 v18 = 1#1), (k0_t25_loop d0 v18).OK := fun d0 v18 k0_hw129 k0_h452 => k0_hw129.2.2.1.2.2.2.2.2.2.2.2.2.2.2.2.2.2.2.2.2.2.2.2.2.2.2.2.2.2.2.1 k0_h452
theorem k0_mult308_dvd : ∀ (d0 : Dev nD) (v18 : BitVec 32) (k0_hw129 : k0_chk129 d0 v18) (k0_t25 : Fin (k0_t25_loop d0 v18).trips), ∀ (k0_h452 : k0_cond452 v18 = 1#1), 8 ∣ (k0_mult308 d0 v18 k0_t25).toNat := fun d0 v18 k0_hw129 k0_t25 k0_h452 => k0_hw129.2.2.1.2.2.2.2.2.2.2.2.2.2.2.2.2.2.2.2.2.2.2.2.2.2.2.2.2.2.2.2.1 k0_t25 k0_h452
theorem k0_off436_inb : ∀ (d0 : Dev nD) (v18 : BitVec 32) (k0_hw129 : k0_chk129 d0 v18) (k0_t25 : Fin (k0_t25_loop d0 v18).trips), ∀ (k0_h452 : k0_cond452 v18 = 1#1), ∀ a, (k0_off436 d0 v18 k0_t25) a + S64x128.size a ≤ S16384x128.size a := fun d0 v18 k0_hw129 k0_t25 k0_h452 => k0_hw129.2.2.1.2.2.2.2.2.2.2.2.2.2.2.2.2.2.2.2.2.2.2.2.2.2.2.2.2.2.2.2.2.1 k0_t25 k0_h452
theorem k0_mult309_dvd : ∀ (d0 : Dev nD) (v18 : BitVec 32) (k0_hw129 : k0_chk129 d0 v18) (k0_t25 : Fin (k0_t25_loop d0 v18).trips), ∀ (k0_h452 : k0_cond452 v18 = 1#1), 8 ∣ (k0_mult309 d0 v18 k0_t25).toNat := fun d0 v18 k0_hw129 k0_t25 k0_h452 => k0_hw129.2.2.1.2.2.2.2.2.2.2.2.2.2.2.2.2.2.2.2.2.2.2.2.2.2.2.2.2.2.2.2.2.2.1 k0_t25 k0_h452
theorem k0_off437_inb : ∀ (d0 : Dev nD) (v18 : BitVec 32) (k0_hw129 : k0_chk129 d0 v18) (k0_t25 : Fin (k0_t25_loop d0 v18).trips), ∀ (k0_h452 : k0_cond452 v18 = 1#1), ∀ a, (k0_off437 d0 v18 k0_t25) a + S8x1024.size a ≤ S2048x1024.size a := fun d0 v18 k0_hw129 k0_t25 k0_h452 => k0_hw129.2.2.1.2.2.2.2.2.2.2.2.2.2.2.2.2.2.2.2.2.2.2.2.2.2.2.2.2.2.2.2.2.2.2 k0_t25 k0_h452
theorem k0_t26_ok : ∀ (d0 : Dev nD) (v18 : BitVec 32) (k0_hw129 : k0_chk129 d0 v18), ∀ (k0_h452 : k0_cond452 v18 = 1#1), (k0_t26_loop d0 v18).OK := fun d0 v18 k0_hw129 k0_h452 => k0_hw129.2.2.2.1.1 k0_h452
theorem k0_mult310_dvd : ∀ (d0 : Dev nD) (v18 : BitVec 32) (k0_hw129 : k0_chk129 d0 v18) (k0_t26 : Fin (k0_t26_loop d0 v18).trips), ∀ (k0_h452 : k0_cond452 v18 = 1#1), 8 ∣ (k0_mult310 d0 v18 k0_t26).toNat := fun d0 v18 k0_hw129 k0_t26 k0_h452 => k0_hw129.2.2.2.1.2.1 k0_t26 k0_h452
theorem k0_off438_inb : ∀ (d0 : Dev nD) (v18 : BitVec 32) (k0_hw129 : k0_chk129 d0 v18) (k0_t26 : Fin (k0_t26_loop d0 v18).trips), ∀ (k0_h452 : k0_cond452 v18 = 1#1), ∀ a, (k0_off438 d0 v18 k0_t26) a + S64x128.size a ≤ S16384x128.size a := fun d0 v18 k0_hw129 k0_t26 k0_h452 => k0_hw129.2.2.2.1.2.2.1 k0_t26 k0_h452
theorem k0_mult311_dvd : ∀ (d0 : Dev nD) (v18 : BitVec 32) (k0_hw129 : k0_chk129 d0 v18) (k0_t26 : Fin (k0_t26_loop d0 v18).trips), ∀ (k0_h452 : k0_cond452 v18 = 1#1), 8 ∣ (k0_mult311 d0 v18 k0_t26).toNat := fun d0 v18 k0_hw129 k0_t26 k0_h452 => k0_hw129.2.2.2.1.2.2.2.1 k0_t26 k0_h452
theorem k0_off439_inb : ∀ (d0 : Dev nD) (v18 : BitVec 32) (k0_hw129 : k0_chk129 d0 v18) (k0_t26 : Fin (k0_t26_loop d0 v18).trips), ∀ (k0_h452 : k0_cond452 v18 = 1#1), ∀ a, (k0_off439 d0 v18 k0_t26) a + S8x1024.size a ≤ S2048x1024.size a := fun d0 v18 k0_hw129 k0_t26 k0_h452 => k0_hw129.2.2.2.1.2.2.2.2.1 k0_t26 k0_h452
theorem k0_mult312_dvd : ∀ (d0 : Dev nD) (v18 : BitVec 32) (k0_hw129 : k0_chk129 d0 v18), ∀ (k0_h453 : k0_cond453 v18 = 1#1), 8 ∣ (k0_mult312 d0 v18).toNat := fun d0 v18 k0_hw129 k0_h453 => k0_hw129.2.2.2.1.2.2.2.2.2.1 k0_h453
theorem k0_off440_inb : ∀ (d0 : Dev nD) (v18 : BitVec 32) (k0_hw129 : k0_chk129 d0 v18), ∀ (k0_h453 : k0_cond453 v18 = 1#1), ∀ a, (k0_off440 d0 v18) a + S1024x128.size a ≤ S16384x128.size a := fun d0 v18 k0_hw129 k0_h453 => k0_hw129.2.2.2.1.2.2.2.2.2.2.1 k0_h453
theorem k0_t27_ok : ∀ (d0 : Dev nD) (v18 : BitVec 32) (k0_hw129 : k0_chk129 d0 v18), ∀ (k0_h453 : k0_cond453 v18 = 1#1), (k0_t27_loop d0 v18).OK := fun d0 v18 k0_hw129 k0_h453 => k0_hw129.2.2.2.1.2.2.2.2.2.2.2.1 k0_h453
theorem k0_mult313_dvd : ∀ (d0 : Dev nD) (v18 : BitVec 32) (k0_hw129 : k0_chk129 d0 v18) (k0_t27 : Fin (k0_t27_loop d0 v18).trips), ∀ (k0_h453 : k0_cond453 v18 = 1#1), 8 ∣ (k0_mult313 d0 v18 k0_t27).toNat := fun d0 v18 k0_hw129 k0_t27 k0_h453 => k0_hw129.2.2.2.1.2.2.2.2.2.2.2.2.1 k0_t27 k0_h453
theorem k0_off441_inb : ∀ (d0 : Dev nD) (v18 : BitVec 32) (k0_hw129 : k0_chk129 d0 v18) (k0_t27 : Fin (k0_t27_loop d0 v18).trips), ∀ (k0_h453 : k0_cond453 v18 = 1#1), ∀ a, (k0_off441 d0 v18 k0_t27) a + S64x128.size a ≤ S16384x128.size a := fun d0 v18 k0_hw129 k0_t27 k0_h453 => k0_hw129.2.2.2.1.2.2.2.2.2.2.2.2.2.1 k0_t27 k0_h453
theorem k0_mult314_dvd : ∀ (d0 : Dev nD) (v18 : BitVec 32) (k0_hw129 : k0_chk129 d0 v18) (k0_t27 : Fin (k0_t27_loop d0 v18).trips), ∀ (k0_h453 : k0_cond453 v18 = 1#1), 8 ∣ (k0_mult314 d0 v18 k0_t27).toNat := fun d0 v18 k0_hw129 k0_t27 k0_h453 => k0_hw129.2.2.2.1.2.2.2.2.2.2.2.2.2.2.1 k0_t27 k0_h453
theorem k0_off442_inb : ∀ (d0 : Dev nD) (v18 : BitVec 32) (k0_hw129 : k0_chk129 d0 v18) (k0_t27 : Fin (k0_t27_loop d0 v18).trips), ∀ (k0_h453 : k0_cond453 v18 = 1#1), ∀ a, (k0_off442 d0 v18 k0_t27) a + S8x1024.size a ≤ S2048x1024.size a := fun d0 v18 k0_hw129 k0_t27 k0_h453 => k0_hw129.2.2.2.1.2.2.2.2.2.2.2.2.2.2.2.1 k0_t27 k0_h453
theorem k0_t28_ok : ∀ (d0 : Dev nD) (v18 : BitVec 32) (k0_hw129 : k0_chk129 d0 v18), ∀ (k0_h453 : k0_cond453 v18 = 1#1), (k0_t28_loop d0 v18).OK := fun d0 v18 k0_hw129 k0_h453 => k0_hw129.2.2.2.1.2.2.2.2.2.2.2.2.2.2.2.2.1 k0_h453
theorem k0_mult315_dvd : ∀ (d0 : Dev nD) (v18 : BitVec 32) (k0_hw129 : k0_chk129 d0 v18) (k0_t28 : Fin (k0_t28_loop d0 v18).trips), ∀ (k0_h453 : k0_cond453 v18 = 1#1), 8 ∣ (k0_mult315 d0 v18 k0_t28).toNat := fun d0 v18 k0_hw129 k0_t28 k0_h453 => k0_hw129.2.2.2.1.2.2.2.2.2.2.2.2.2.2.2.2.2.1 k0_t28 k0_h453
theorem k0_off443_inb : ∀ (d0 : Dev nD) (v18 : BitVec 32) (k0_hw129 : k0_chk129 d0 v18) (k0_t28 : Fin (k0_t28_loop d0 v18).trips), ∀ (k0_h453 : k0_cond453 v18 = 1#1), ∀ a, (k0_off443 d0 v18 k0_t28) a + S64x128.size a ≤ S16384x128.size a := fun d0 v18 k0_hw129 k0_t28 k0_h453 => k0_hw129.2.2.2.1.2.2.2.2.2.2.2.2.2.2.2.2.2.2.1 k0_t28 k0_h453
theorem k0_mult316_dvd : ∀ (d0 : Dev nD) (v18 : BitVec 32) (k0_hw129 : k0_chk129 d0 v18) (k0_t28 : Fin (k0_t28_loop d0 v18).trips), ∀ (k0_h453 : k0_cond453 v18 = 1#1), 8 ∣ (k0_mult316 d0 v18 k0_t28).toNat := fun d0 v18 k0_hw129 k0_t28 k0_h453 => k0_hw129.2.2.2.1.2.2.2.2.2.2.2.2.2.2.2.2.2.2.2.1 k0_t28 k0_h453
theorem k0_off444_inb : ∀ (d0 : Dev nD) (v18 : BitVec 32) (k0_hw129 : k0_chk129 d0 v18) (k0_t28 : Fin (k0_t28_loop d0 v18).trips), ∀ (k0_h453 : k0_cond453 v18 = 1#1), ∀ a, (k0_off444 d0 v18 k0_t28) a + S8x1024.size a ≤ S2048x1024.size a := fun d0 v18 k0_hw129 k0_t28 k0_h453 => k0_hw129.2.2.2.1.2.2.2.2.2.2.2.2.2.2.2.2.2.2.2.2.1 k0_t28 k0_h453
theorem k0_mult317_dvd : ∀ (d0 : Dev nD) (v18 : BitVec 32) (k0_hw129 : k0_chk129 d0 v18), ∀ (k0_h454 : k0_cond454 v18 = 1#1), 8 ∣ (k0_mult317 d0 v18).toNat := fun d0 v18 k0_hw129 k0_h454 => k0_hw129.2.2.2.1.2.2.2.2.2.2.2.2.2.2.2.2.2.2.2.2.2.1 k0_h454
theorem k0_off445_inb : ∀ (d0 : Dev nD) (v18 : BitVec 32) (k0_hw129 : k0_chk129 d0 v18), ∀ (k0_h454 : k0_cond454 v18 = 1#1), ∀ a, (k0_off445 d0 v18) a + S1024x128.size a ≤ S16384x128.size a := fun d0 v18 k0_hw129 k0_h454 => k0_hw129.2.2.2.1.2.2.2.2.2.2.2.2.2.2.2.2.2.2.2.2.2.2.1 k0_h454
theorem k0_t29_ok : ∀ (d0 : Dev nD) (v18 : BitVec 32) (k0_hw129 : k0_chk129 d0 v18), ∀ (k0_h454 : k0_cond454 v18 = 1#1), (k0_t29_loop d0 v18).OK := fun d0 v18 k0_hw129 k0_h454 => k0_hw129.2.2.2.1.2.2.2.2.2.2.2.2.2.2.2.2.2.2.2.2.2.2.2.1 k0_h454
theorem k0_mult318_dvd : ∀ (d0 : Dev nD) (v18 : BitVec 32) (k0_hw129 : k0_chk129 d0 v18) (k0_t29 : Fin (k0_t29_loop d0 v18).trips), ∀ (k0_h454 : k0_cond454 v18 = 1#1), 8 ∣ (k0_mult318 d0 v18 k0_t29).toNat := fun d0 v18 k0_hw129 k0_t29 k0_h454 => k0_hw129.2.2.2.1.2.2.2.2.2.2.2.2.2.2.2.2.2.2.2.2.2.2.2.2.1 k0_t29 k0_h454
theorem k0_off446_inb : ∀ (d0 : Dev nD) (v18 : BitVec 32) (k0_hw129 : k0_chk129 d0 v18) (k0_t29 : Fin (k0_t29_loop d0 v18).trips), ∀ (k0_h454 : k0_cond454 v18 = 1#1), ∀ a, (k0_off446 d0 v18 k0_t29) a + S64x128.size a ≤ S16384x128.size a := fun d0 v18 k0_hw129 k0_t29 k0_h454 => k0_hw129.2.2.2.1.2.2.2.2.2.2.2.2.2.2.2.2.2.2.2.2.2.2.2.2.2.1 k0_t29 k0_h454
theorem k0_mult319_dvd : ∀ (d0 : Dev nD) (v18 : BitVec 32) (k0_hw129 : k0_chk129 d0 v18) (k0_t29 : Fin (k0_t29_loop d0 v18).trips), ∀ (k0_h454 : k0_cond454 v18 = 1#1), 8 ∣ (k0_mult319 d0 v18 k0_t29).toNat := fun d0 v18 k0_hw129 k0_t29 k0_h454 => k0_hw129.2.2.2.1.2.2.2.2.2.2.2.2.2.2.2.2.2.2.2.2.2.2.2.2.2.2.1 k0_t29 k0_h454
theorem k0_off447_inb : ∀ (d0 : Dev nD) (v18 : BitVec 32) (k0_hw129 : k0_chk129 d0 v18) (k0_t29 : Fin (k0_t29_loop d0 v18).trips), ∀ (k0_h454 : k0_cond454 v18 = 1#1), ∀ a, (k0_off447 d0 v18 k0_t29) a + S8x1024.size a ≤ S2048x1024.size a := fun d0 v18 k0_hw129 k0_t29 k0_h454 => k0_hw129.2.2.2.1.2.2.2.2.2.2.2.2.2.2.2.2.2.2.2.2.2.2.2.2.2.2.2.1 k0_t29 k0_h454
theorem k0_t30_ok : ∀ (d0 : Dev nD) (v18 : BitVec 32) (k0_hw129 : k0_chk129 d0 v18), ∀ (k0_h454 : k0_cond454 v18 = 1#1), (k0_t30_loop d0 v18).OK := fun d0 v18 k0_hw129 k0_h454 => k0_hw129.2.2.2.1.2.2.2.2.2.2.2.2.2.2.2.2.2.2.2.2.2.2.2.2.2.2.2.2.1 k0_h454
theorem k0_mult320_dvd : ∀ (d0 : Dev nD) (v18 : BitVec 32) (k0_hw129 : k0_chk129 d0 v18) (k0_t30 : Fin (k0_t30_loop d0 v18).trips), ∀ (k0_h454 : k0_cond454 v18 = 1#1), 8 ∣ (k0_mult320 d0 v18 k0_t30).toNat := fun d0 v18 k0_hw129 k0_t30 k0_h454 => k0_hw129.2.2.2.1.2.2.2.2.2.2.2.2.2.2.2.2.2.2.2.2.2.2.2.2.2.2.2.2.2.1 k0_t30 k0_h454
theorem k0_off448_inb : ∀ (d0 : Dev nD) (v18 : BitVec 32) (k0_hw129 : k0_chk129 d0 v18) (k0_t30 : Fin (k0_t30_loop d0 v18).trips), ∀ (k0_h454 : k0_cond454 v18 = 1#1), ∀ a, (k0_off448 d0 v18 k0_t30) a + S64x128.size a ≤ S16384x128.size a := fun d0 v18 k0_hw129 k0_t30 k0_h454 => k0_hw129.2.2.2.1.2.2.2.2.2.2.2.2.2.2.2.2.2.2.2.2.2.2.2.2.2.2.2.2.2.2.1 k0_t30 k0_h454
theorem k0_mult321_dvd : ∀ (d0 : Dev nD) (v18 : BitVec 32) (k0_hw129 : k0_chk129 d0 v18) (k0_t30 : Fin (k0_t30_loop d0 v18).trips), ∀ (k0_h454 : k0_cond454 v18 = 1#1), 8 ∣ (k0_mult321 d0 v18 k0_t30).toNat := fun d0 v18 k0_hw129 k0_t30 k0_h454 => k0_hw129.2.2.2.1.2.2.2.2.2.2.2.2.2.2.2.2.2.2.2.2.2.2.2.2.2.2.2.2.2.2.2.1 k0_t30 k0_h454
theorem k0_off449_inb : ∀ (d0 : Dev nD) (v18 : BitVec 32) (k0_hw129 : k0_chk129 d0 v18) (k0_t30 : Fin (k0_t30_loop d0 v18).trips), ∀ (k0_h454 : k0_cond454 v18 = 1#1), ∀ a, (k0_off449 d0 v18 k0_t30) a + S8x1024.size a ≤ S2048x1024.size a := fun d0 v18 k0_hw129 k0_t30 k0_h454 => k0_hw129.2.2.2.1.2.2.2.2.2.2.2.2.2.2.2.2.2.2.2.2.2.2.2.2.2.2.2.2.2.2.2.2.1 k0_t30 k0_h454
theorem k0_mult322_dvd : ∀ (d0 : Dev nD) (v18 : BitVec 32) (k0_hw129 : k0_chk129 d0 v18), ∀ (k0_h455 : k0_cond455 v18 = 1#1), 8 ∣ (k0_mult322 d0 v18).toNat := fun d0 v18 k0_hw129 k0_h455 => k0_hw129.2.2.2.1.2.2.2.2.2.2.2.2.2.2.2.2.2.2.2.2.2.2.2.2.2.2.2.2.2.2.2.2.2.1 k0_h455
theorem k0_off450_inb : ∀ (d0 : Dev nD) (v18 : BitVec 32) (k0_hw129 : k0_chk129 d0 v18), ∀ (k0_h455 : k0_cond455 v18 = 1#1), ∀ a, (k0_off450 d0 v18) a + S1024x128.size a ≤ S16384x128.size a := fun d0 v18 k0_hw129 k0_h455 => k0_hw129.2.2.2.1.2.2.2.2.2.2.2.2.2.2.2.2.2.2.2.2.2.2.2.2.2.2.2.2.2.2.2.2.2.2.1 k0_h455
theorem k0_t31_ok : ∀ (d0 : Dev nD) (v18 : BitVec 32) (k0_hw129 : k0_chk129 d0 v18), ∀ (k0_h455 : k0_cond455 v18 = 1#1), (k0_t31_loop d0 v18).OK := fun d0 v18 k0_hw129 k0_h455 => k0_hw129.2.2.2.1.2.2.2.2.2.2.2.2.2.2.2.2.2.2.2.2.2.2.2.2.2.2.2.2.2.2.2.2.2.2.2 k0_h455
theorem k0_mult323_dvd : ∀ (d0 : Dev nD) (v18 : BitVec 32) (k0_hw129 : k0_chk129 d0 v18) (k0_t31 : Fin (k0_t31_loop d0 v18).trips), ∀ (k0_h455 : k0_cond455 v18 = 1#1), 8 ∣ (k0_mult323 d0 v18 k0_t31).toNat := fun d0 v18 k0_hw129 k0_t31 k0_h455 => k0_hw129.2.2.2.2.1.1 k0_t31 k0_h455
theorem k0_off451_inb : ∀ (d0 : Dev nD) (v18 : BitVec 32) (k0_hw129 : k0_chk129 d0 v18) (k0_t31 : Fin (k0_t31_loop d0 v18).trips), ∀ (k0_h455 : k0_cond455 v18 = 1#1), ∀ a, (k0_off451 d0 v18 k0_t31) a + S64x128.size a ≤ S16384x128.size a := fun d0 v18 k0_hw129 k0_t31 k0_h455 => k0_hw129.2.2.2.2.1.2.1 k0_t31 k0_h455
theorem k0_mult324_dvd : ∀ (d0 : Dev nD) (v18 : BitVec 32) (k0_hw129 : k0_chk129 d0 v18) (k0_t31 : Fin (k0_t31_loop d0 v18).trips), ∀ (k0_h455 : k0_cond455 v18 = 1#1), 8 ∣ (k0_mult324 d0 v18 k0_t31).toNat := fun d0 v18 k0_hw129 k0_t31 k0_h455 => k0_hw129.2.2.2.2.1.2.2.1 k0_t31 k0_h455
theorem k0_off452_inb : ∀ (d0 : Dev nD) (v18 : BitVec 32) (k0_hw129 : k0_chk129 d0 v18) (k0_t31 : Fin (k0_t31_loop d0 v18).trips), ∀ (k0_h455 : k0_cond455 v18 = 1#1), ∀ a, (k0_off452 d0 v18 k0_t31) a + S8x1024.size a ≤ S2048x1024.size a := fun d0 v18 k0_hw129 k0_t31 k0_h455 => k0_hw129.2.2.2.2.1.2.2.2.1 k0_t31 k0_h455
theorem k0_t32_ok : ∀ (d0 : Dev nD) (v18 : BitVec 32) (k0_hw129 : k0_chk129 d0 v18), ∀ (k0_h455 : k0_cond455 v18 = 1#1), (k0_t32_loop d0 v18).OK := fun d0 v18 k0_hw129 k0_h455 => k0_hw129.2.2.2.2.1.2.2.2.2.1 k0_h455
theorem k0_mult325_dvd : ∀ (d0 : Dev nD) (v18 : BitVec 32) (k0_hw129 : k0_chk129 d0 v18) (k0_t32 : Fin (k0_t32_loop d0 v18).trips), ∀ (k0_h455 : k0_cond455 v18 = 1#1), 8 ∣ (k0_mult325 d0 v18 k0_t32).toNat := fun d0 v18 k0_hw129 k0_t32 k0_h455 => k0_hw129.2.2.2.2.1.2.2.2.2.2.1 k0_t32 k0_h455
theorem k0_off453_inb : ∀ (d0 : Dev nD) (v18 : BitVec 32) (k0_hw129 : k0_chk129 d0 v18) (k0_t32 : Fin (k0_t32_loop d0 v18).trips), ∀ (k0_h455 : k0_cond455 v18 = 1#1), ∀ a, (k0_off453 d0 v18 k0_t32) a + S64x128.size a ≤ S16384x128.size a := fun d0 v18 k0_hw129 k0_t32 k0_h455 => k0_hw129.2.2.2.2.1.2.2.2.2.2.2.1 k0_t32 k0_h455
theorem k0_mult326_dvd : ∀ (d0 : Dev nD) (v18 : BitVec 32) (k0_hw129 : k0_chk129 d0 v18) (k0_t32 : Fin (k0_t32_loop d0 v18).trips), ∀ (k0_h455 : k0_cond455 v18 = 1#1), 8 ∣ (k0_mult326 d0 v18 k0_t32).toNat := fun d0 v18 k0_hw129 k0_t32 k0_h455 => k0_hw129.2.2.2.2.1.2.2.2.2.2.2.2.1 k0_t32 k0_h455
theorem k0_off454_inb : ∀ (d0 : Dev nD) (v18 : BitVec 32) (k0_hw129 : k0_chk129 d0 v18) (k0_t32 : Fin (k0_t32_loop d0 v18).trips), ∀ (k0_h455 : k0_cond455 v18 = 1#1), ∀ a, (k0_off454 d0 v18 k0_t32) a + S8x1024.size a ≤ S2048x1024.size a := fun d0 v18 k0_hw129 k0_t32 k0_h455 => k0_hw129.2.2.2.2.1.2.2.2.2.2.2.2.2.1 k0_t32 k0_h455
theorem k0_mult327_dvd : ∀ (d0 : Dev nD) (v18 : BitVec 32) (k0_hw129 : k0_chk129 d0 v18), ∀ (k0_h456 : k0_cond456 v18 = 1#1), 8 ∣ (k0_mult327 d0 v18).toNat := fun d0 v18 k0_hw129 k0_h456 => k0_hw129.2.2.2.2.1.2.2.2.2.2.2.2.2.2.1 k0_h456
theorem k0_off455_inb : ∀ (d0 : Dev nD) (v18 : BitVec 32) (k0_hw129 : k0_chk129 d0 v18), ∀ (k0_h456 : k0_cond456 v18 = 1#1), ∀ a, (k0_off455 d0 v18) a + S1024x128.size a ≤ S16384x128.size a := fun d0 v18 k0_hw129 k0_h456 => k0_hw129.2.2.2.2.1.2.2.2.2.2.2.2.2.2.2.1 k0_h456
theorem k0_t33_ok : ∀ (d0 : Dev nD) (v18 : BitVec 32) (k0_hw129 : k0_chk129 d0 v18), ∀ (k0_h456 : k0_cond456 v18 = 1#1), (k0_t33_loop d0 v18).OK := fun d0 v18 k0_hw129 k0_h456 => k0_hw129.2.2.2.2.1.2.2.2.2.2.2.2.2.2.2.2.1 k0_h456
theorem k0_mult328_dvd : ∀ (d0 : Dev nD) (v18 : BitVec 32) (k0_hw129 : k0_chk129 d0 v18) (k0_t33 : Fin (k0_t33_loop d0 v18).trips), ∀ (k0_h456 : k0_cond456 v18 = 1#1), 8 ∣ (k0_mult328 d0 v18 k0_t33).toNat := fun d0 v18 k0_hw129 k0_t33 k0_h456 => k0_hw129.2.2.2.2.1.2.2.2.2.2.2.2.2.2.2.2.2.1 k0_t33 k0_h456
theorem k0_off456_inb : ∀ (d0 : Dev nD) (v18 : BitVec 32) (k0_hw129 : k0_chk129 d0 v18) (k0_t33 : Fin (k0_t33_loop d0 v18).trips), ∀ (k0_h456 : k0_cond456 v18 = 1#1), ∀ a, (k0_off456 d0 v18 k0_t33) a + S64x128.size a ≤ S16384x128.size a := fun d0 v18 k0_hw129 k0_t33 k0_h456 => k0_hw129.2.2.2.2.1.2.2.2.2.2.2.2.2.2.2.2.2.2.1 k0_t33 k0_h456
theorem k0_mult329_dvd : ∀ (d0 : Dev nD) (v18 : BitVec 32) (k0_hw129 : k0_chk129 d0 v18) (k0_t33 : Fin (k0_t33_loop d0 v18).trips), ∀ (k0_h456 : k0_cond456 v18 = 1#1), 8 ∣ (k0_mult329 d0 v18 k0_t33).toNat := fun d0 v18 k0_hw129 k0_t33 k0_h456 => k0_hw129.2.2.2.2.1.2.2.2.2.2.2.2.2.2.2.2.2.2.2.1 k0_t33 k0_h456
theorem k0_off457_inb : ∀ (d0 : Dev nD) (v18 : BitVec 32) (k0_hw129 : k0_chk129 d0 v18) (k0_t33 : Fin (k0_t33_loop d0 v18).trips), ∀ (k0_h456 : k0_cond456 v18 = 1#1), ∀ a, (k0_off457 d0 v18 k0_t33) a + S8x1024.size a ≤ S2048x1024.size a := fun d0 v18 k0_hw129 k0_t33 k0_h456 => k0_hw129.2.2.2.2.1.2.2.2.2.2.2.2.2.2.2.2.2.2.2.2.1 k0_t33 k0_h456
theorem k0_t34_ok : ∀ (d0 : Dev nD) (v18 : BitVec 32) (k0_hw129 : k0_chk129 d0 v18), ∀ (k0_h456 : k0_cond456 v18 = 1#1), (k0_t34_loop d0 v18).OK := fun d0 v18 k0_hw129 k0_h456 => k0_hw129.2.2.2.2.1.2.2.2.2.2.2.2.2.2.2.2.2.2.2.2.2.1 k0_h456
theorem k0_mult330_dvd : ∀ (d0 : Dev nD) (v18 : BitVec 32) (k0_hw129 : k0_chk129 d0 v18) (k0_t34 : Fin (k0_t34_loop d0 v18).trips), ∀ (k0_h456 : k0_cond456 v18 = 1#1), 8 ∣ (k0_mult330 d0 v18 k0_t34).toNat := fun d0 v18 k0_hw129 k0_t34 k0_h456 => k0_hw129.2.2.2.2.1.2.2.2.2.2.2.2.2.2.2.2.2.2.2.2.2.2.1 k0_t34 k0_h456
theorem k0_off458_inb : ∀ (d0 : Dev nD) (v18 : BitVec 32) (k0_hw129 : k0_chk129 d0 v18) (k0_t34 : Fin (k0_t34_loop d0 v18).trips), ∀ (k0_h456 : k0_cond456 v18 = 1#1), ∀ a, (k0_off458 d0 v18 k0_t34) a + S64x128.size a ≤ S16384x128.size a := fun d0 v18 k0_hw129 k0_t34 k0_h456 => k0_hw129.2.2.2.2.1.2.2.2.2.2.2.2.2.2.2.2.2.2.2.2.2.2.2.1 k0_t34 k0_h456
theorem k0_mult331_dvd : ∀ (d0 : Dev nD) (v18 : BitVec 32) (k0_hw129 : k0_chk129 d0 v18) (k0_t34 : Fin (k0_t34_loop d0 v18).trips), ∀ (k0_h456 : k0_cond456 v18 = 1#1), 8 ∣ (k0_mult331 d0 v18 k0_t34).toNat := fun d0 v18 k0_hw129 k0_t34 k0_h456 => k0_hw129.2.2.2.2.1.2.2.2.2.2.2.2.2.2.2.2.2.2.2.2.2.2.2.2.1 k0_t34 k0_h456
theorem k0_off459_inb : ∀ (d0 : Dev nD) (v18 : BitVec 32) (k0_hw129 : k0_chk129 d0 v18) (k0_t34 : Fin (k0_t34_loop d0 v18).trips), ∀ (k0_h456 : k0_cond456 v18 = 1#1), ∀ a, (k0_off459 d0 v18 k0_t34) a + S8x1024.size a ≤ S2048x1024.size a := fun d0 v18 k0_hw129 k0_t34 k0_h456 => k0_hw129.2.2.2.2.1.2.2.2.2.2.2.2.2.2.2.2.2.2.2.2.2.2.2.2.2.1 k0_t34 k0_h456
theorem k0_mult332_dvd : ∀ (d0 : Dev nD) (v18 : BitVec 32) (k0_hw129 : k0_chk129 d0 v18), ∀ (k0_h457 : k0_cond457 v18 = 1#1), 8 ∣ (k0_mult332 d0 v18).toNat := fun d0 v18 k0_hw129 k0_h457 => k0_hw129.2.2.2.2.1.2.2.2.2.2.2.2.2.2.2.2.2.2.2.2.2.2.2.2.2.2.1 k0_h457
theorem k0_off460_inb : ∀ (d0 : Dev nD) (v18 : BitVec 32) (k0_hw129 : k0_chk129 d0 v18), ∀ (k0_h457 : k0_cond457 v18 = 1#1), ∀ a, (k0_off460 d0 v18) a + S1024x128.size a ≤ S16384x128.size a := fun d0 v18 k0_hw129 k0_h457 => k0_hw129.2.2.2.2.1.2.2.2.2.2.2.2.2.2.2.2.2.2.2.2.2.2.2.2.2.2.2.1 k0_h457
theorem k0_t35_ok : ∀ (d0 : Dev nD) (v18 : BitVec 32) (k0_hw129 : k0_chk129 d0 v18), ∀ (k0_h457 : k0_cond457 v18 = 1#1), (k0_t35_loop d0 v18).OK := fun d0 v18 k0_hw129 k0_h457 => k0_hw129.2.2.2.2.1.2.2.2.2.2.2.2.2.2.2.2.2.2.2.2.2.2.2.2.2.2.2.2.1 k0_h457
theorem k0_mult333_dvd : ∀ (d0 : Dev nD) (v18 : BitVec 32) (k0_hw129 : k0_chk129 d0 v18) (k0_t35 : Fin (k0_t35_loop d0 v18).trips), ∀ (k0_h457 : k0_cond457 v18 = 1#1), 8 ∣ (k0_mult333 d0 v18 k0_t35).toNat := fun d0 v18 k0_hw129 k0_t35 k0_h457 => k0_hw129.2.2.2.2.1.2.2.2.2.2.2.2.2.2.2.2.2.2.2.2.2.2.2.2.2.2.2.2.2.1 k0_t35 k0_h457
theorem k0_off461_inb : ∀ (d0 : Dev nD) (v18 : BitVec 32) (k0_hw129 : k0_chk129 d0 v18) (k0_t35 : Fin (k0_t35_loop d0 v18).trips), ∀ (k0_h457 : k0_cond457 v18 = 1#1), ∀ a, (k0_off461 d0 v18 k0_t35) a + S64x128.size a ≤ S16384x128.size a := fun d0 v18 k0_hw129 k0_t35 k0_h457 => k0_hw129.2.2.2.2.1.2.2.2.2.2.2.2.2.2.2.2.2.2.2.2.2.2.2.2.2.2.2.2.2.2.1 k0_t35 k0_h457
theorem k0_mult334_dvd : ∀ (d0 : Dev nD) (v18 : BitVec 32) (k0_hw129 : k0_chk129 d0 v18) (k0_t35 : Fin (k0_t35_loop d0 v18).trips), ∀ (k0_h457 : k0_cond457 v18 = 1#1), 8 ∣ (k0_mult334 d0 v18 k0_t35).toNat := fun d0 v18 k0_hw129 k0_t35 k0_h457 => k0_hw129.2.2.2.2.1.2.2.2.2.2.2.2.2.2.2.2.2.2.2.2.2.2.2.2.2.2.2.2.2.2.2.1 k0_t35 k0_h457
theorem k0_off462_inb : ∀ (d0 : Dev nD) (v18 : BitVec 32) (k0_hw129 : k0_chk129 d0 v18) (k0_t35 : Fin (k0_t35_loop d0 v18).trips), ∀ (k0_h457 : k0_cond457 v18 = 1#1), ∀ a, (k0_off462 d0 v18 k0_t35) a + S8x1024.size a ≤ S2048x1024.size a := fun d0 v18 k0_hw129 k0_t35 k0_h457 => k0_hw129.2.2.2.2.1.2.2.2.2.2.2.2.2.2.2.2.2.2.2.2.2.2.2.2.2.2.2.2.2.2.2.2.1 k0_t35 k0_h457
theorem k0_t36_ok : ∀ (d0 : Dev nD) (v18 : BitVec 32) (k0_hw129 : k0_chk129 d0 v18), ∀ (k0_h457 : k0_cond457 v18 = 1#1), (k0_t36_loop d0 v18).OK := fun d0 v18 k0_hw129 k0_h457 => k0_hw129.2.2.2.2.1.2.2.2.2.2.2.2.2.2.2.2.2.2.2.2.2.2.2.2.2.2.2.2.2.2.2.2.2.1 k0_h457
theorem k0_mult335_dvd : ∀ (d0 : Dev nD) (v18 : BitVec 32) (k0_hw129 : k0_chk129 d0 v18) (k0_t36 : Fin (k0_t36_loop d0 v18).trips), ∀ (k0_h457 : k0_cond457 v18 = 1#1), 8 ∣ (k0_mult335 d0 v18 k0_t36).toNat := fun d0 v18 k0_hw129 k0_t36 k0_h457 => k0_hw129.2.2.2.2.1.2.2.2.2.2.2.2.2.2.2.2.2.2.2.2.2.2.2.2.2.2.2.2.2.2.2.2.2.2.1 k0_t36 k0_h457
theorem k0_off463_inb : ∀ (d0 : Dev nD) (v18 : BitVec 32) (k0_hw129 : k0_chk129 d0 v18) (k0_t36 : Fin (k0_t36_loop d0 v18).trips), ∀ (k0_h457 : k0_cond457 v18 = 1#1), ∀ a, (k0_off463 d0 v18 k0_t36) a + S64x128.size a ≤ S16384x128.size a := fun d0 v18 k0_hw129 k0_t36 k0_h457 => k0_hw129.2.2.2.2.1.2.2.2.2.2.2.2.2.2.2.2.2.2.2.2.2.2.2.2.2.2.2.2.2.2.2.2.2.2.2.1 k0_t36 k0_h457
theorem k0_mult336_dvd : ∀ (d0 : Dev nD) (v18 : BitVec 32) (k0_hw129 : k0_chk129 d0 v18) (k0_t36 : Fin (k0_t36_loop d0 v18).trips), ∀ (k0_h457 : k0_cond457 v18 = 1#1), 8 ∣ (k0_mult336 d0 v18 k0_t36).toNat := fun d0 v18 k0_hw129 k0_t36 k0_h457 => k0_hw129.2.2.2.2.1.2.2.2.2.2.2.2.2.2.2.2.2.2.2.2.2.2.2.2.2.2.2.2.2.2.2.2.2.2.2.2 k0_t36 k0_h457
theorem k0_off464_inb : ∀ (d0 : Dev nD) (v18 : BitVec 32) (k0_hw129 : k0_chk129 d0 v18) (k0_t36 : Fin (k0_t36_loop d0 v18).trips), ∀ (k0_h457 : k0_cond457 v18 = 1#1), ∀ a, (k0_off464 d0 v18 k0_t36) a + S8x1024.size a ≤ S2048x1024.size a := fun d0 v18 k0_hw129 k0_t36 k0_h457 => k0_hw129.2.2.2.2.2.1.1 k0_t36 k0_h457
theorem k0_mult337_dvd : ∀ (d0 : Dev nD) (v18 : BitVec 32) (k0_hw129 : k0_chk129 d0 v18), ∀ (k0_h458 : k0_cond458 v18 = 1#1), 8 ∣ (k0_mult337 d0 v18).toNat := fun d0 v18 k0_hw129 k0_h458 => k0_hw129.2.2.2.2.2.1.2.1 k0_h458
theorem k0_off465_inb : ∀ (d0 : Dev nD) (v18 : BitVec 32) (k0_hw129 : k0_chk129 d0 v18), ∀ (k0_h458 : k0_cond458 v18 = 1#1), ∀ a, (k0_off465 d0 v18) a + S1024x128.size a ≤ S16384x128.size a := fun d0 v18 k0_hw129 k0_h458 => k0_hw129.2.2.2.2.2.1.2.2.1 k0_h458
theorem k0_t37_ok : ∀ (d0 : Dev nD) (v18 : BitVec 32) (k0_hw129 : k0_chk129 d0 v18), ∀ (k0_h458 : k0_cond458 v18 = 1#1), (k0_t37_loop d0 v18).OK := fun d0 v18 k0_hw129 k0_h458 => k0_hw129.2.2.2.2.2.1.2.2.2.1 k0_h458
theorem k0_mult338_dvd : ∀ (d0 : Dev nD) (v18 : BitVec 32) (k0_hw129 : k0_chk129 d0 v18) (k0_t37 : Fin (k0_t37_loop d0 v18).trips), ∀ (k0_h458 : k0_cond458 v18 = 1#1), 8 ∣ (k0_mult338 d0 v18 k0_t37).toNat := fun d0 v18 k0_hw129 k0_t37 k0_h458 => k0_hw129.2.2.2.2.2.1.2.2.2.2.1 k0_t37 k0_h458
theorem k0_off466_inb : ∀ (d0 : Dev nD) (v18 : BitVec 32) (k0_hw129 : k0_chk129 d0 v18) (k0_t37 : Fin (k0_t37_loop d0 v18).trips), ∀ (k0_h458 : k0_cond458 v18 = 1#1), ∀ a, (k0_off466 d0 v18 k0_t37) a + S64x128.size a ≤ S16384x128.size a := fun d0 v18 k0_hw129 k0_t37 k0_h458 => k0_hw129.2.2.2.2.2.1.2.2.2.2.2.1 k0_t37 k0_h458
theorem k0_mult339_dvd : ∀ (d0 : Dev nD) (v18 : BitVec 32) (k0_hw129 : k0_chk129 d0 v18) (k0_t37 : Fin (k0_t37_loop d0 v18).trips), ∀ (k0_h458 : k0_cond458 v18 = 1#1), 8 ∣ (k0_mult339 d0 v18 k0_t37).toNat := fun d0 v18 k0_hw129 k0_t37 k0_h458 => k0_hw129.2.2.2.2.2.1.2.2.2.2.2.2.1 k0_t37 k0_h458
theorem k0_off467_inb : ∀ (d0 : Dev nD) (v18 : BitVec 32) (k0_hw129 : k0_chk129 d0 v18) (k0_t37 : Fin (k0_t37_loop d0 v18).trips), ∀ (k0_h458 : k0_cond458 v18 = 1#1), ∀ a, (k0_off467 d0 v18 k0_t37) a + S8x1024.size a ≤ S2048x1024.size a := fun d0 v18 k0_hw129 k0_t37 k0_h458 => k0_hw129.2.2.2.2.2.1.2.2.2.2.2.2.2.1 k0_t37 k0_h458
theorem k0_t38_ok : ∀ (d0 : Dev nD) (v18 : BitVec 32) (k0_hw129 : k0_chk129 d0 v18), ∀ (k0_h458 : k0_cond458 v18 = 1#1), (k0_t38_loop d0 v18).OK := fun d0 v18 k0_hw129 k0_h458 => k0_hw129.2.2.2.2.2.1.2.2.2.2.2.2.2.2.1 k0_h458
theorem k0_mult340_dvd : ∀ (d0 : Dev nD) (v18 : BitVec 32) (k0_hw129 : k0_chk129 d0 v18) (k0_t38 : Fin (k0_t38_loop d0 v18).trips), ∀ (k0_h458 : k0_cond458 v18 = 1#1), 8 ∣ (k0_mult340 d0 v18 k0_t38).toNat := fun d0 v18 k0_hw129 k0_t38 k0_h458 => k0_hw129.2.2.2.2.2.1.2.2.2.2.2.2.2.2.2.1 k0_t38 k0_h458
theorem k0_off468_inb : ∀ (d0 : Dev nD) (v18 : BitVec 32) (k0_hw129 : k0_chk129 d0 v18) (k0_t38 : Fin (k0_t38_loop d0 v18).trips), ∀ (k0_h458 : k0_cond458 v18 = 1#1), ∀ a, (k0_off468 d0 v18 k0_t38) a + S64x128.size a ≤ S16384x128.size a := fun d0 v18 k0_hw129 k0_t38 k0_h458 => k0_hw129.2.2.2.2.2.1.2.2.2.2.2.2.2.2.2.2.1 k0_t38 k0_h458
theorem k0_mult341_dvd : ∀ (d0 : Dev nD) (v18 : BitVec 32) (k0_hw129 : k0_chk129 d0 v18) (k0_t38 : Fin (k0_t38_loop d0 v18).trips), ∀ (k0_h458 : k0_cond458 v18 = 1#1), 8 ∣ (k0_mult341 d0 v18 k0_t38).toNat := fun d0 v18 k0_hw129 k0_t38 k0_h458 => k0_hw129.2.2.2.2.2.1.2.2.2.2.2.2.2.2.2.2.2.1 k0_t38 k0_h458
theorem k0_off469_inb : ∀ (d0 : Dev nD) (v18 : BitVec 32) (k0_hw129 : k0_chk129 d0 v18) (k0_t38 : Fin (k0_t38_loop d0 v18).trips), ∀ (k0_h458 : k0_cond458 v18 = 1#1), ∀ a, (k0_off469 d0 v18 k0_t38) a + S8x1024.size a ≤ S2048x1024.size a := fun d0 v18 k0_hw129 k0_t38 k0_h458 => k0_hw129.2.2.2.2.2.1.2.2.2.2.2.2.2.2.2.2.2.2.1 k0_t38 k0_h458
theorem k0_mult342_dvd : ∀ (d0 : Dev nD) (v18 : BitVec 32) (k0_hw129 : k0_chk129 d0 v18), ∀ (k0_h459 : k0_cond459 v18 = 1#1), 8 ∣ (k0_mult342 d0 v18).toNat := fun d0 v18 k0_hw129 k0_h459 => k0_hw129.2.2.2.2.2.1.2.2.2.2.2.2.2.2.2.2.2.2.2.1 k0_h459
theorem k0_off470_inb : ∀ (d0 : Dev nD) (v18 : BitVec 32) (k0_hw129 : k0_chk129 d0 v18), ∀ (k0_h459 : k0_cond459 v18 = 1#1), ∀ a, (k0_off470 d0 v18) a + S1024x128.size a ≤ S16384x128.size a := fun d0 v18 k0_hw129 k0_h459 => k0_hw129.2.2.2.2.2.1.2.2.2.2.2.2.2.2.2.2.2.2.2.2.1 k0_h459
theorem k0_t39_ok : ∀ (d0 : Dev nD) (v18 : BitVec 32) (k0_hw129 : k0_chk129 d0 v18), ∀ (k0_h459 : k0_cond459 v18 = 1#1), (k0_t39_loop d0 v18).OK := fun d0 v18 k0_hw129 k0_h459 => k0_hw129.2.2.2.2.2.1.2.2.2.2.2.2.2.2.2.2.2.2.2.2.2.1 k0_h459
theorem k0_mult343_dvd : ∀ (d0 : Dev nD) (v18 : BitVec 32) (k0_hw129 : k0_chk129 d0 v18) (k0_t39 : Fin (k0_t39_loop d0 v18).trips), ∀ (k0_h459 : k0_cond459 v18 = 1#1), 8 ∣ (k0_mult343 d0 v18 k0_t39).toNat := fun d0 v18 k0_hw129 k0_t39 k0_h459 => k0_hw129.2.2.2.2.2.1.2.2.2.2.2.2.2.2.2.2.2.2.2.2.2.2.1 k0_t39 k0_h459
theorem k0_off471_inb : ∀ (d0 : Dev nD) (v18 : BitVec 32) (k0_hw129 : k0_chk129 d0 v18) (k0_t39 : Fin (k0_t39_loop d0 v18).trips), ∀ (k0_h459 : k0_cond459 v18 = 1#1), ∀ a, (k0_off471 d0 v18 k0_t39) a + S64x128.size a ≤ S16384x128.size a := fun d0 v18 k0_hw129 k0_t39 k0_h459 => k0_hw129.2.2.2.2.2.1.2.2.2.2.2.2.2.2.2.2.2.2.2.2.2.2.2.1 k0_t39 k0_h459
theorem k0_mult344_dvd : ∀ (d0 : Dev nD) (v18 : BitVec 32) (k0_hw129 : k0_chk129 d0 v18) (k0_t39 : Fin (k0_t39_loop d0 v18).trips), ∀ (k0_h459 : k0_cond459 v18 = 1#1), 8 ∣ (k0_mult344 d0 v18 k0_t39).toNat := fun d0 v18 k0_hw129 k0_t39 k0_h459 => k0_hw129.2.2.2.2.2.1.2.2.2.2.2.2.2.2.2.2.2.2.2.2.2.2.2.2.1 k0_t39 k0_h459
theorem k0_off472_inb : ∀ (d0 : Dev nD) (v18 : BitVec 32) (k0_hw129 : k0_chk129 d0 v18) (k0_t39 : Fin (k0_t39_loop d0 v18).trips), ∀ (k0_h459 : k0_cond459 v18 = 1#1), ∀ a, (k0_off472 d0 v18 k0_t39) a + S8x1024.size a ≤ S2048x1024.size a := fun d0 v18 k0_hw129 k0_t39 k0_h459 => k0_hw129.2.2.2.2.2.1.2.2.2.2.2.2.2.2.2.2.2.2.2.2.2.2.2.2.2.1 k0_t39 k0_h459
theorem k0_t40_ok : ∀ (d0 : Dev nD) (v18 : BitVec 32) (k0_hw129 : k0_chk129 d0 v18), ∀ (k0_h459 : k0_cond459 v18 = 1#1), (k0_t40_loop d0 v18).OK := fun d0 v18 k0_hw129 k0_h459 => k0_hw129.2.2.2.2.2.1.2.2.2.2.2.2.2.2.2.2.2.2.2.2.2.2.2.2.2.2.1 k0_h459
theorem k0_mult345_dvd : ∀ (d0 : Dev nD) (v18 : BitVec 32) (k0_hw129 : k0_chk129 d0 v18) (k0_t40 : Fin (k0_t40_loop d0 v18).trips), ∀ (k0_h459 : k0_cond459 v18 = 1#1), 8 ∣ (k0_mult345 d0 v18 k0_t40).toNat := fun d0 v18 k0_hw129 k0_t40 k0_h459 => k0_hw129.2.2.2.2.2.1.2.2.2.2.2.2.2.2.2.2.2.2.2.2.2.2.2.2.2.2.2.1 k0_t40 k0_h459
theorem k0_off473_inb : ∀ (d0 : Dev nD) (v18 : BitVec 32) (k0_hw129 : k0_chk129 d0 v18) (k0_t40 : Fin (k0_t40_loop d0 v18).trips), ∀ (k0_h459 : k0_cond459 v18 = 1#1), ∀ a, (k0_off473 d0 v18 k0_t40) a + S64x128.size a ≤ S16384x128.size a := fun d0 v18 k0_hw129 k0_t40 k0_h459 => k0_hw129.2.2.2.2.2.1.2.2.2.2.2.2.2.2.2.2.2.2.2.2.2.2.2.2.2.2.2.2.1 k0_t40 k0_h459
theorem k0_mult346_dvd : ∀ (d0 : Dev nD) (v18 : BitVec 32) (k0_hw129 : k0_chk129 d0 v18) (k0_t40 : Fin (k0_t40_loop d0 v18).trips), ∀ (k0_h459 : k0_cond459 v18 = 1#1), 8 ∣ (k0_mult346 d0 v18 k0_t40).toNat := fun d0 v18 k0_hw129 k0_t40 k0_h459 => k0_hw129.2.2.2.2.2.1.2.2.2.2.2.2.2.2.2.2.2.2.2.2.2.2.2.2.2.2.2.2.2.1 k0_t40 k0_h459
theorem k0_off474_inb : ∀ (d0 : Dev nD) (v18 : BitVec 32) (k0_hw129 : k0_chk129 d0 v18) (k0_t40 : Fin (k0_t40_loop d0 v18).trips), ∀ (k0_h459 : k0_cond459 v18 = 1#1), ∀ a, (k0_off474 d0 v18 k0_t40) a + S8x1024.size a ≤ S2048x1024.size a := fun d0 v18 k0_hw129 k0_t40 k0_h459 => k0_hw129.2.2.2.2.2.1.2.2.2.2.2.2.2.2.2.2.2.2.2.2.2.2.2.2.2.2.2.2.2.2.1 k0_t40 k0_h459
theorem k0_mult347_dvd : ∀ (d0 : Dev nD) (v18 : BitVec 32) (k0_hw129 : k0_chk129 d0 v18), ∀ (k0_h460 : k0_cond460 v18 = 1#1), 8 ∣ (k0_mult347 d0 v18).toNat := fun d0 v18 k0_hw129 k0_h460 => k0_hw129.2.2.2.2.2.1.2.2.2.2.2.2.2.2.2.2.2.2.2.2.2.2.2.2.2.2.2.2.2.2.2.1 k0_h460
theorem k0_off475_inb : ∀ (d0 : Dev nD) (v18 : BitVec 32) (k0_hw129 : k0_chk129 d0 v18), ∀ (k0_h460 : k0_cond460 v18 = 1#1), ∀ a, (k0_off475 d0 v18) a + S1024x128.size a ≤ S16384x128.size a := fun d0 v18 k0_hw129 k0_h460 => k0_hw129.2.2.2.2.2.1.2.2.2.2.2.2.2.2.2.2.2.2.2.2.2.2.2.2.2.2.2.2.2.2.2.2.1 k0_h460
theorem k0_t41_ok : ∀ (d0 : Dev nD) (v18 : BitVec 32) (k0_hw129 : k0_chk129 d0 v18), ∀ (k0_h460 : k0_cond460 v18 = 1#1), (k0_t41_loop d0 v18).OK := fun d0 v18 k0_hw129 k0_h460 => k0_hw129.2.2.2.2.2.1.2.2.2.2.2.2.2.2.2.2.2.2.2.2.2.2.2.2.2.2.2.2.2.2.2.2.2.1 k0_h460
theorem k0_mult348_dvd : ∀ (d0 : Dev nD) (v18 : BitVec 32) (k0_hw129 : k0_chk129 d0 v18) (k0_t41 : Fin (k0_t41_loop d0 v18).trips), ∀ (k0_h460 : k0_cond460 v18 = 1#1), 8 ∣ (k0_mult348 d0 v18 k0_t41).toNat := fun d0 v18 k0_hw129 k0_t41 k0_h460 => k0_hw129.2.2.2.2.2.1.2.2.2.2.2.2.2.2.2.2.2.2.2.2.2.2.2.2.2.2.2.2.2.2.2.2.2.2.1 k0_t41 k0_h460
theorem k0_off476_inb : ∀ (d0 : Dev nD) (v18 : BitVec 32) (k0_hw129 : k0_chk129 d0 v18) (k0_t41 : Fin (k0_t41_loop d0 v18).trips), ∀ (k0_h460 : k0_cond460 v18 = 1#1), ∀ a, (k0_off476 d0 v18 k0_t41) a + S64x128.size a ≤ S16384x128.size a := fun d0 v18 k0_hw129 k0_t41 k0_h460 => k0_hw129.2.2.2.2.2.1.2.2.2.2.2.2.2.2.2.2.2.2.2.2.2.2.2.2.2.2.2.2.2.2.2.2.2.2.2.1 k0_t41 k0_h460
theorem k0_mult349_dvd : ∀ (d0 : Dev nD) (v18 : BitVec 32) (k0_hw129 : k0_chk129 d0 v18) (k0_t41 : Fin (k0_t41_loop d0 v18).trips), ∀ (k0_h460 : k0_cond460 v18 = 1#1), 8 ∣ (k0_mult349 d0 v18 k0_t41).toNat := fun d0 v18 k0_hw129 k0_t41 k0_h460 => k0_hw129.2.2.2.2.2.1.2.2.2.2.2.2.2.2.2.2.2.2.2.2.2.2.2.2.2.2.2.2.2.2.2.2.2.2.2.2.1 k0_t41 k0_h460
theorem k0_off477_inb : ∀ (d0 : Dev nD) (v18 : BitVec 32) (k0_hw129 : k0_chk129 d0 v18) (k0_t41 : Fin (k0_t41_loop d0 v18).trips), ∀ (k0_h460 : k0_cond460 v18 = 1#1), ∀ a, (k0_off477 d0 v18 k0_t41) a + S8x1024.size a ≤ S2048x1024.size a := fun d0 v18 k0_hw129 k0_t41 k0_h460 => k0_hw129.2.2.2.2.2.1.2.2.2.2.2.2.2.2.2.2.2.2.2.2.2.2.2.2.2.2.2.2.2.2.2.2.2.2.2.2.2 k0_t41 k0_h460
theorem k0_t42_ok : ∀ (d0 : Dev nD) (v18 : BitVec 32) (k0_hw129 : k0_chk129 d0 v18), ∀ (k0_h460 : k0_cond460 v18 = 1#1), (k0_t42_loop d0 v18).OK := fun d0 v18 k0_hw129 k0_h460 => k0_hw129.2.2.2.2.2.2.1.1 k0_h460
theorem k0_mult350_dvd : ∀ (d0 : Dev nD) (v18 : BitVec 32) (k0_hw129 : k0_chk129 d0 v18) (k0_t42 : Fin (k0_t42_loop d0 v18).trips), ∀ (k0_h460 : k0_cond460 v18 = 1#1), 8 ∣ (k0_mult350 d0 v18 k0_t42).toNat := fun d0 v18 k0_hw129 k0_t42 k0_h460 => k0_hw129.2.2.2.2.2.2.1.2.1 k0_t42 k0_h460
theorem k0_off478_inb : ∀ (d0 : Dev nD) (v18 : BitVec 32) (k0_hw129 : k0_chk129 d0 v18) (k0_t42 : Fin (k0_t42_loop d0 v18).trips), ∀ (k0_h460 : k0_cond460 v18 = 1#1), ∀ a, (k0_off478 d0 v18 k0_t42) a + S64x128.size a ≤ S16384x128.size a := fun d0 v18 k0_hw129 k0_t42 k0_h460 => k0_hw129.2.2.2.2.2.2.1.2.2.1 k0_t42 k0_h460
theorem k0_mult351_dvd : ∀ (d0 : Dev nD) (v18 : BitVec 32) (k0_hw129 : k0_chk129 d0 v18) (k0_t42 : Fin (k0_t42_loop d0 v18).trips), ∀ (k0_h460 : k0_cond460 v18 = 1#1), 8 ∣ (k0_mult351 d0 v18 k0_t42).toNat := fun d0 v18 k0_hw129 k0_t42 k0_h460 => k0_hw129.2.2.2.2.2.2.1.2.2.2.1 k0_t42 k0_h460
theorem k0_off479_inb : ∀ (d0 : Dev nD) (v18 : BitVec 32) (k0_hw129 : k0_chk129 d0 v18) (k0_t42 : Fin (k0_t42_loop d0 v18).trips), ∀ (k0_h460 : k0_cond460 v18 = 1#1), ∀ a, (k0_off479 d0 v18 k0_t42) a + S8x1024.size a ≤ S2048x1024.size a := fun d0 v18 k0_hw129 k0_t42 k0_h460 => k0_hw129.2.2.2.2.2.2.1.2.2.2.2.1 k0_t42 k0_h460
theorem k0_mult352_dvd : ∀ (d0 : Dev nD) (v18 : BitVec 32) (k0_hw129 : k0_chk129 d0 v18), ∀ (k0_h461 : k0_cond461 v18 = 1#1), 8 ∣ (k0_mult352 d0 v18).toNat := fun d0 v18 k0_hw129 k0_h461 => k0_hw129.2.2.2.2.2.2.1.2.2.2.2.2.1 k0_h461
theorem k0_off480_inb : ∀ (d0 : Dev nD) (v18 : BitVec 32) (k0_hw129 : k0_chk129 d0 v18), ∀ (k0_h461 : k0_cond461 v18 = 1#1), ∀ a, (k0_off480 d0 v18) a + S1024x128.size a ≤ S16384x128.size a := fun d0 v18 k0_hw129 k0_h461 => k0_hw129.2.2.2.2.2.2.1.2.2.2.2.2.2.1 k0_h461
theorem k0_t43_ok : ∀ (d0 : Dev nD) (v18 : BitVec 32) (k0_hw129 : k0_chk129 d0 v18), ∀ (k0_h461 : k0_cond461 v18 = 1#1), (k0_t43_loop d0 v18).OK := fun d0 v18 k0_hw129 k0_h461 => k0_hw129.2.2.2.2.2.2.1.2.2.2.2.2.2.2.1 k0_h461
theorem k0_mult353_dvd : ∀ (d0 : Dev nD) (v18 : BitVec 32) (k0_hw129 : k0_chk129 d0 v18) (k0_t43 : Fin (k0_t43_loop d0 v18).trips), ∀ (k0_h461 : k0_cond461 v18 = 1#1), 8 ∣ (k0_mult353 d0 v18 k0_t43).toNat := fun d0 v18 k0_hw129 k0_t43 k0_h461 => k0_hw129.2.2.2.2.2.2.1.2.2.2.2.2.2.2.2.1 k0_t43 k0_h461
theorem k0_off481_inb : ∀ (d0 : Dev nD) (v18 : BitVec 32) (k0_hw129 : k0_chk129 d0 v18) (k0_t43 : Fin (k0_t43_loop d0 v18).trips), ∀ (k0_h461 : k0_cond461 v18 = 1#1), ∀ a, (k0_off481 d0 v18 k0_t43) a + S64x128.size a ≤ S16384x128.size a := fun d0 v18 k0_hw129 k0_t43 k0_h461 => k0_hw129.2.2.2.2.2.2.1.2.2.2.2.2.2.2.2.2.1 k0_t43 k0_h461
theorem k0_mult354_dvd : ∀ (d0 : Dev nD) (v18 : BitVec 32) (k0_hw129 : k0_chk129 d0 v18) (k0_t43 : Fin (k0_t43_loop d0 v18).trips), ∀ (k0_h461 : k0_cond461 v18 = 1#1), 8 ∣ (k0_mult354 d0 v18 k0_t43).toNat := fun d0 v18 k0_hw129 k0_t43 k0_h461 => k0_hw129.2.2.2.2.2.2.1.2.2.2.2.2.2.2.2.2.2.1 k0_t43 k0_h461
theorem k0_off482_inb : ∀ (d0 : Dev nD) (v18 : BitVec 32) (k0_hw129 : k0_chk129 d0 v18) (k0_t43 : Fin (k0_t43_loop d0 v18).trips), ∀ (k0_h461 : k0_cond461 v18 = 1#1), ∀ a, (k0_off482 d0 v18 k0_t43) a + S8x1024.size a ≤ S2048x1024.size a := fun d0 v18 k0_hw129 k0_t43 k0_h461 => k0_hw129.2.2.2.2.2.2.1.2.2.2.2.2.2.2.2.2.2.2.1 k0_t43 k0_h461
theorem k0_t44_ok : ∀ (d0 : Dev nD) (v18 : BitVec 32) (k0_hw129 : k0_chk129 d0 v18), ∀ (k0_h461 : k0_cond461 v18 = 1#1), (k0_t44_loop d0 v18).OK := fun d0 v18 k0_hw129 k0_h461 => k0_hw129.2.2.2.2.2.2.1.2.2.2.2.2.2.2.2.2.2.2.2.1 k0_h461
theorem k0_mult355_dvd : ∀ (d0 : Dev nD) (v18 : BitVec 32) (k0_hw129 : k0_chk129 d0 v18) (k0_t44 : Fin (k0_t44_loop d0 v18).trips), ∀ (k0_h461 : k0_cond461 v18 = 1#1), 8 ∣ (k0_mult355 d0 v18 k0_t44).toNat := fun d0 v18 k0_hw129 k0_t44 k0_h461 => k0_hw129.2.2.2.2.2.2.1.2.2.2.2.2.2.2.2.2.2.2.2.2.1 k0_t44 k0_h461
theorem k0_off483_inb : ∀ (d0 : Dev nD) (v18 : BitVec 32) (k0_hw129 : k0_chk129 d0 v18) (k0_t44 : Fin (k0_t44_loop d0 v18).trips), ∀ (k0_h461 : k0_cond461 v18 = 1#1), ∀ a, (k0_off483 d0 v18 k0_t44) a + S64x128.size a ≤ S16384x128.size a := fun d0 v18 k0_hw129 k0_t44 k0_h461 => k0_hw129.2.2.2.2.2.2.1.2.2.2.2.2.2.2.2.2.2.2.2.2.2.1 k0_t44 k0_h461
theorem k0_mult356_dvd : ∀ (d0 : Dev nD) (v18 : BitVec 32) (k0_hw129 : k0_chk129 d0 v18) (k0_t44 : Fin (k0_t44_loop d0 v18).trips), ∀ (k0_h461 : k0_cond461 v18 = 1#1), 8 ∣ (k0_mult356 d0 v18 k0_t44).toNat := fun d0 v18 k0_hw129 k0_t44 k0_h461 => k0_hw129.2.2.2.2.2.2.1.2.2.2.2.2.2.2.2.2.2.2.2.2.2.2.1 k0_t44 k0_h461
theorem k0_off484_inb : ∀ (d0 : Dev nD) (v18 : BitVec 32) (k0_hw129 : k0_chk129 d0 v18) (k0_t44 : Fin (k0_t44_loop d0 v18).trips), ∀ (k0_h461 : k0_cond461 v18 = 1#1), ∀ a, (k0_off484 d0 v18 k0_t44) a + S8x1024.size a ≤ S2048x1024.size a := fun d0 v18 k0_hw129 k0_t44 k0_h461 => k0_hw129.2.2.2.2.2.2.1.2.2.2.2.2.2.2.2.2.2.2.2.2.2.2.2.1 k0_t44 k0_h461
theorem k0_mult357_dvd : ∀ (d0 : Dev nD) (v18 : BitVec 32) (k0_hw129 : k0_chk129 d0 v18), ∀ (k0_h462 : k0_cond462 v18 = 1#1), 8 ∣ (k0_mult357 d0 v18).toNat := fun d0 v18 k0_hw129 k0_h462 => k0_hw129.2.2.2.2.2.2.1.2.2.2.2.2.2.2.2.2.2.2.2.2.2.2.2.2.1 k0_h462
theorem k0_off485_inb : ∀ (d0 : Dev nD) (v18 : BitVec 32) (k0_hw129 : k0_chk129 d0 v18), ∀ (k0_h462 : k0_cond462 v18 = 1#1), ∀ a, (k0_off485 d0 v18) a + S1024x128.size a ≤ S16384x128.size a := fun d0 v18 k0_hw129 k0_h462 => k0_hw129.2.2.2.2.2.2.1.2.2.2.2.2.2.2.2.2.2.2.2.2.2.2.2.2.2.1 k0_h462
theorem k0_t45_ok : ∀ (d0 : Dev nD) (v18 : BitVec 32) (k0_hw129 : k0_chk129 d0 v18), ∀ (k0_h462 : k0_cond462 v18 = 1#1), (k0_t45_loop d0 v18).OK := fun d0 v18 k0_hw129 k0_h462 => k0_hw129.2.2.2.2.2.2.1.2.2.2.2.2.2.2.2.2.2.2.2.2.2.2.2.2.2.2.1 k0_h462
theorem k0_mult358_dvd : ∀ (d0 : Dev nD) (v18 : BitVec 32) (k0_hw129 : k0_chk129 d0 v18) (k0_t45 : Fin (k0_t45_loop d0 v18).trips), ∀ (k0_h462 : k0_cond462 v18 = 1#1), 8 ∣ (k0_mult358 d0 v18 k0_t45).toNat := fun d0 v18 k0_hw129 k0_t45 k0_h462 => k0_hw129.2.2.2.2.2.2.1.2.2.2.2.2.2.2.2.2.2.2.2.2.2.2.2.2.2.2.2.1 k0_t45 k0_h462
theorem k0_off486_inb : ∀ (d0 : Dev nD) (v18 : BitVec 32) (k0_hw129 : k0_chk129 d0 v18) (k0_t45 : Fin (k0_t45_loop d0 v18).trips), ∀ (k0_h462 : k0_cond462 v18 = 1#1), ∀ a, (k0_off486 d0 v18 k0_t45) a + S64x128.size a ≤ S16384x128.size a := fun d0 v18 k0_hw129 k0_t45 k0_h462 => k0_hw129.2.2.2.2.2.2.1.2.2.2.2.2.2.2.2.2.2.2.2.2.2.2.2.2.2.2.2.2.1 k0_t45 k0_h462
theorem k0_mult359_dvd : ∀ (d0 : Dev nD) (v18 : BitVec 32) (k0_hw129 : k0_chk129 d0 v18) (k0_t45 : Fin (k0_t45_loop d0 v18).trips), ∀ (k0_h462 : k0_cond462 v18 = 1#1), 8 ∣ (k0_mult359 d0 v18 k0_t45).toNat := fun d0 v18 k0_hw129 k0_t45 k0_h462 => k0_hw129.2.2.2.2.2.2.1.2.2.2.2.2.2.2.2.2.2.2.2.2.2.2.2.2.2.2.2.2.2.1 k0_t45 k0_h462
theorem k0_off487_inb : ∀ (d0 : Dev nD) (v18 : BitVec 32) (k0_hw129 : k0_chk129 d0 v18) (k0_t45 : Fin (k0_t45_loop d0 v18).trips), ∀ (k0_h462 : k0_cond462 v18 = 1#1), ∀ a, (k0_off487 d0 v18 k0_t45) a + S8x1024.size a ≤ S2048x1024.size a := fun d0 v18 k0_hw129 k0_t45 k0_h462 => k0_hw129.2.2.2.2.2.2.1.2.2.2.2.2.2.2.2.2.2.2.2.2.2.2.2.2.2.2.2.2.2.2.1 k0_t45 k0_h462
theorem k0_t46_ok : ∀ (d0 : Dev nD) (v18 : BitVec 32) (k0_hw129 : k0_chk129 d0 v18), ∀ (k0_h462 : k0_cond462 v18 = 1#1), (k0_t46_loop d0 v18).OK := fun d0 v18 k0_hw129 k0_h462 => k0_hw129.2.2.2.2.2.2.1.2.2.2.2.2.2.2.2.2.2.2.2.2.2.2.2.2.2.2.2.2.2.2.2.1 k0_h462
theorem k0_mult360_dvd : ∀ (d0 : Dev nD) (v18 : BitVec 32) (k0_hw129 : k0_chk129 d0 v18) (k0_t46 : Fin (k0_t46_loop d0 v18).trips), ∀ (k0_h462 : k0_cond462 v18 = 1#1), 8 ∣ (k0_mult360 d0 v18 k0_t46).toNat := fun d0 v18 k0_hw129 k0_t46 k0_h462 => k0_hw129.2.2.2.2.2.2.1.2.2.2.2.2.2.2.2.2.2.2.2.2.2.2.2.2.2.2.2.2.2.2.2.2.1 k0_t46 k0_h462
theorem k0_off488_inb : ∀ (d0 : Dev nD) (v18 : BitVec 32) (k0_hw129 : k0_chk129 d0 v18) (k0_t46 : Fin (k0_t46_loop d0 v18).trips), ∀ (k0_h462 : k0_cond462 v18 = 1#1), ∀ a, (k0_off488 d0 v18 k0_t46) a + S64x128.size a ≤ S16384x128.size a := fun d0 v18 k0_hw129 k0_t46 k0_h462 => k0_hw129.2.2.2.2.2.2.1.2.2.2.2.2.2.2.2.2.2.2.2.2.2.2.2.2.2.2.2.2.2.2.2.2.2.1 k0_t46 k0_h462
theorem k0_mult361_dvd : ∀ (d0 : Dev nD) (v18 : BitVec 32) (k0_hw129 : k0_chk129 d0 v18) (k0_t46 : Fin (k0_t46_loop d0 v18).trips), ∀ (k0_h462 : k0_cond462 v18 = 1#1), 8 ∣ (k0_mult361 d0 v18 k0_t46).toNat := fun d0 v18 k0_hw129 k0_t46 k0_h462 => k0_hw129.2.2.2.2.2.2.1.2.2.2.2.2.2.2.2.2.2.2.2.2.2.2.2.2.2.2.2.2.2.2.2.2.2.2.1 k0_t46 k0_h462
theorem k0_off489_inb : ∀ (d0 : Dev nD) (v18 : BitVec 32) (k0_hw129 : k0_chk129 d0 v18) (k0_t46 : Fin (k0_t46_loop d0 v18).trips), ∀ (k0_h462 : k0_cond462 v18 = 1#1), ∀ a, (k0_off489 d0 v18 k0_t46) a + S8x1024.size a ≤ S2048x1024.size a := fun d0 v18 k0_hw129 k0_t46 k0_h462 => k0_hw129.2.2.2.2.2.2.1.2.2.2.2.2.2.2.2.2.2.2.2.2.2.2.2.2.2.2.2.2.2.2.2.2.2.2.2.1 k0_t46 k0_h462
theorem k0_mult362_dvd : ∀ (d0 : Dev nD) (v18 : BitVec 32) (k0_hw129 : k0_chk129 d0 v18), ∀ (k0_h463 : k0_cond463 v18 = 1#1), 8 ∣ (k0_mult362 d0 v18).toNat := fun d0 v18 k0_hw129 k0_h463 => k0_hw129.2.2.2.2.2.2.1.2.2.2.2.2.2.2.2.2.2.2.2.2.2.2.2.2.2.2.2.2.2.2.2.2.2.2.2.2.1 k0_h463
theorem k0_off490_inb : ∀ (d0 : Dev nD) (v18 : BitVec 32) (k0_hw129 : k0_chk129 d0 v18), ∀ (k0_h463 : k0_cond463 v18 = 1#1), ∀ a, (k0_off490 d0 v18) a + S1024x128.size a ≤ S16384x128.size a := fun d0 v18 k0_hw129 k0_h463 => k0_hw129.2.2.2.2.2.2.1.2.2.2.2.2.2.2.2.2.2.2.2.2.2.2.2.2.2.2.2.2.2.2.2.2.2.2.2.2.2.1 k0_h463
theorem k0_t47_ok : ∀ (d0 : Dev nD) (v18 : BitVec 32) (k0_hw129 : k0_chk129 d0 v18), ∀ (k0_h463 : k0_cond463 v18 = 1#1), (k0_t47_loop d0 v18).OK := fun d0 v18 k0_hw129 k0_h463 => k0_hw129.2.2.2.2.2.2.1.2.2.2.2.2.2.2.2.2.2.2.2.2.2.2.2.2.2.2.2.2.2.2.2.2.2.2.2.2.2.2 k0_h463
theorem k0_mult363_dvd : ∀ (d0 : Dev nD) (v18 : BitVec 32) (k0_hw129 : k0_chk129 d0 v18) (k0_t47 : Fin (k0_t47_loop d0 v18).trips), ∀ (k0_h463 : k0_cond463 v18 = 1#1), 8 ∣ (k0_mult363 d0 v18 k0_t47).toNat := fun d0 v18 k0_hw129 k0_t47 k0_h463 => k0_hw129.2.2.2.2.2.2.2.1.1 k0_t47 k0_h463
theorem k0_off491_inb : ∀ (d0 : Dev nD) (v18 : BitVec 32) (k0_hw129 : k0_chk129 d0 v18) (k0_t47 : Fin (k0_t47_loop d0 v18).trips), ∀ (k0_h463 : k0_cond463 v18 = 1#1), ∀ a, (k0_off491 d0 v18 k0_t47) a + S64x128.size a ≤ S16384x128.size a := fun d0 v18 k0_hw129 k0_t47 k0_h463 => k0_hw129.2.2.2.2.2.2.2.1.2.1 k0_t47 k0_h463
theorem k0_mult364_dvd : ∀ (d0 : Dev nD) (v18 : BitVec 32) (k0_hw129 : k0_chk129 d0 v18) (k0_t47 : Fin (k0_t47_loop d0 v18).trips), ∀ (k0_h463 : k0_cond463 v18 = 1#1), 8 ∣ (k0_mult364 d0 v18 k0_t47).toNat := fun d0 v18 k0_hw129 k0_t47 k0_h463 => k0_hw129.2.2.2.2.2.2.2.1.2.2.1 k0_t47 k0_h463
theorem k0_off492_inb : ∀ (d0 : Dev nD) (v18 : BitVec 32) (k0_hw129 : k0_chk129 d0 v18) (k0_t47 : Fin (k0_t47_loop d0 v18).trips), ∀ (k0_h463 : k0_cond463 v18 = 1#1), ∀ a, (k0_off492 d0 v18 k0_t47) a + S8x1024.size a ≤ S2048x1024.size a := fun d0 v18 k0_hw129 k0_t47 k0_h463 => k0_hw129.2.2.2.2.2.2.2.1.2.2.2.1 k0_t47 k0_h463
theorem k0_t48_ok : ∀ (d0 : Dev nD) (v18 : BitVec 32) (k0_hw129 : k0_chk129 d0 v18), ∀ (k0_h463 : k0_cond463 v18 = 1#1), (k0_t48_loop d0 v18).OK := fun d0 v18 k0_hw129 k0_h463 => k0_hw129.2.2.2.2.2.2.2.1.2.2.2.2.1 k0_h463
theorem k0_mult365_dvd : ∀ (d0 : Dev nD) (v18 : BitVec 32) (k0_hw129 : k0_chk129 d0 v18) (k0_t48 : Fin (k0_t48_loop d0 v18).trips), ∀ (k0_h463 : k0_cond463 v18 = 1#1), 8 ∣ (k0_mult365 d0 v18 k0_t48).toNat := fun d0 v18 k0_hw129 k0_t48 k0_h463 => k0_hw129.2.2.2.2.2.2.2.1.2.2.2.2.2.1 k0_t48 k0_h463
theorem k0_off493_inb : ∀ (d0 : Dev nD) (v18 : BitVec 32) (k0_hw129 : k0_chk129 d0 v18) (k0_t48 : Fin (k0_t48_loop d0 v18).trips), ∀ (k0_h463 : k0_cond463 v18 = 1#1), ∀ a, (k0_off493 d0 v18 k0_t48) a + S64x128.size a ≤ S16384x128.size a := fun d0 v18 k0_hw129 k0_t48 k0_h463 => k0_hw129.2.2.2.2.2.2.2.1.2.2.2.2.2.2.1 k0_t48 k0_h463
theorem k0_mult366_dvd : ∀ (d0 : Dev nD) (v18 : BitVec 32) (k0_hw129 : k0_chk129 d0 v18) (k0_t48 : Fin (k0_t48_loop d0 v18).trips), ∀ (k0_h463 : k0_cond463 v18 = 1#1), 8 ∣ (k0_mult366 d0 v18 k0_t48).toNat := fun d0 v18 k0_hw129 k0_t48 k0_h463 => k0_hw129.2.2.2.2.2.2.2.1.2.2.2.2.2.2.2.1 k0_t48 k0_h463
theorem k0_off494_inb : ∀ (d0 : Dev nD) (v18 : BitVec 32) (k0_hw129 : k0_chk129 d0 v18) (k0_t48 : Fin (k0_t48_loop d0 v18).trips), ∀ (k0_h463 : k0_cond463 v18 = 1#1), ∀ a, (k0_off494 d0 v18 k0_t48) a + S8x1024.size a ≤ S2048x1024.size a := fun d0 v18 k0_hw129 k0_t48 k0_h463 => k0_hw129.2.2.2.2.2.2.2.1.2.2.2.2.2.2.2.2.1 k0_t48 k0_h463
theorem k0_mult367_dvd : ∀ (d0 : Dev nD) (v18 : BitVec 32) (k0_hw129 : k0_chk129 d0 v18), ∀ (k0_h464 : k0_cond464 v18 = 1#1), 8 ∣ (k0_mult367 d0 v18).toNat := fun d0 v18 k0_hw129 k0_h464 => k0_hw129.2.2.2.2.2.2.2.1.2.2.2.2.2.2.2.2.2.1 k0_h464
theorem k0_off495_inb : ∀ (d0 : Dev nD) (v18 : BitVec 32) (k0_hw129 : k0_chk129 d0 v18), ∀ (k0_h464 : k0_cond464 v18 = 1#1), ∀ a, (k0_off495 d0 v18) a + S1024x128.size a ≤ S16384x128.size a := fun d0 v18 k0_hw129 k0_h464 => k0_hw129.2.2.2.2.2.2.2.1.2.2.2.2.2.2.2.2.2.2.1 k0_h464
theorem k0_t49_ok : ∀ (d0 : Dev nD) (v18 : BitVec 32) (k0_hw129 : k0_chk129 d0 v18), ∀ (k0_h464 : k0_cond464 v18 = 1#1), (k0_t49_loop d0 v18).OK := fun d0 v18 k0_hw129 k0_h464 => k0_hw129.2.2.2.2.2.2.2.1.2.2.2.2.2.2.2.2.2.2.2.1 k0_h464
theorem k0_mult368_dvd : ∀ (d0 : Dev nD) (v18 : BitVec 32) (k0_hw129 : k0_chk129 d0 v18) (k0_t49 : Fin (k0_t49_loop d0 v18).trips), ∀ (k0_h464 : k0_cond464 v18 = 1#1), 8 ∣ (k0_mult368 d0 v18 k0_t49).toNat := fun d0 v18 k0_hw129 k0_t49 k0_h464 => k0_hw129.2.2.2.2.2.2.2.1.2.2.2.2.2.2.2.2.2.2.2.2.1 k0_t49 k0_h464
theorem k0_off496_inb : ∀ (d0 : Dev nD) (v18 : BitVec 32) (k0_hw129 : k0_chk129 d0 v18) (k0_t49 : Fin (k0_t49_loop d0 v18).trips), ∀ (k0_h464 : k0_cond464 v18 = 1#1), ∀ a, (k0_off496 d0 v18 k0_t49) a + S64x128.size a ≤ S16384x128.size a := fun d0 v18 k0_hw129 k0_t49 k0_h464 => k0_hw129.2.2.2.2.2.2.2.1.2.2.2.2.2.2.2.2.2.2.2.2.2.1 k0_t49 k0_h464
theorem k0_mult369_dvd : ∀ (d0 : Dev nD) (v18 : BitVec 32) (k0_hw129 : k0_chk129 d0 v18) (k0_t49 : Fin (k0_t49_loop d0 v18).trips), ∀ (k0_h464 : k0_cond464 v18 = 1#1), 8 ∣ (k0_mult369 d0 v18 k0_t49).toNat := fun d0 v18 k0_hw129 k0_t49 k0_h464 => k0_hw129.2.2.2.2.2.2.2.1.2.2.2.2.2.2.2.2.2.2.2.2.2.2.1 k0_t49 k0_h464
theorem k0_off497_inb : ∀ (d0 : Dev nD) (v18 : BitVec 32) (k0_hw129 : k0_chk129 d0 v18) (k0_t49 : Fin (k0_t49_loop d0 v18).trips), ∀ (k0_h464 : k0_cond464 v18 = 1#1), ∀ a, (k0_off497 d0 v18 k0_t49) a + S8x1024.size a ≤ S2048x1024.size a := fun d0 v18 k0_hw129 k0_t49 k0_h464 => k0_hw129.2.2.2.2.2.2.2.1.2.2.2.2.2.2.2.2.2.2.2.2.2.2.2.1 k0_t49 k0_h464
theorem k0_t50_ok : ∀ (d0 : Dev nD) (v18 : BitVec 32) (k0_hw129 : k0_chk129 d0 v18), ∀ (k0_h464 : k0_cond464 v18 = 1#1), (k0_t50_loop d0 v18).OK := fun d0 v18 k0_hw129 k0_h464 => k0_hw129.2.2.2.2.2.2.2.1.2.2.2.2.2.2.2.2.2.2.2.2.2.2.2.2.1 k0_h464
theorem k0_mult370_dvd : ∀ (d0 : Dev nD) (v18 : BitVec 32) (k0_hw129 : k0_chk129 d0 v18) (k0_t50 : Fin (k0_t50_loop d0 v18).trips), ∀ (k0_h464 : k0_cond464 v18 = 1#1), 8 ∣ (k0_mult370 d0 v18 k0_t50).toNat := fun d0 v18 k0_hw129 k0_t50 k0_h464 => k0_hw129.2.2.2.2.2.2.2.1.2.2.2.2.2.2.2.2.2.2.2.2.2.2.2.2.2.1 k0_t50 k0_h464
theorem k0_off498_inb : ∀ (d0 : Dev nD) (v18 : BitVec 32) (k0_hw129 : k0_chk129 d0 v18) (k0_t50 : Fin (k0_t50_loop d0 v18).trips), ∀ (k0_h464 : k0_cond464 v18 = 1#1), ∀ a, (k0_off498 d0 v18 k0_t50) a + S64x128.size a ≤ S16384x128.size a := fun d0 v18 k0_hw129 k0_t50 k0_h464 => k0_hw129.2.2.2.2.2.2.2.1.2.2.2.2.2.2.2.2.2.2.2.2.2.2.2.2.2.2.1 k0_t50 k0_h464
theorem k0_mult371_dvd : ∀ (d0 : Dev nD) (v18 : BitVec 32) (k0_hw129 : k0_chk129 d0 v18) (k0_t50 : Fin (k0_t50_loop d0 v18).trips), ∀ (k0_h464 : k0_cond464 v18 = 1#1), 8 ∣ (k0_mult371 d0 v18 k0_t50).toNat := fun d0 v18 k0_hw129 k0_t50 k0_h464 => k0_hw129.2.2.2.2.2.2.2.1.2.2.2.2.2.2.2.2.2.2.2.2.2.2.2.2.2.2.2.1 k0_t50 k0_h464
theorem k0_off499_inb : ∀ (d0 : Dev nD) (v18 : BitVec 32) (k0_hw129 : k0_chk129 d0 v18) (k0_t50 : Fin (k0_t50_loop d0 v18).trips), ∀ (k0_h464 : k0_cond464 v18 = 1#1), ∀ a, (k0_off499 d0 v18 k0_t50) a + S8x1024.size a ≤ S2048x1024.size a := fun d0 v18 k0_hw129 k0_t50 k0_h464 => k0_hw129.2.2.2.2.2.2.2.1.2.2.2.2.2.2.2.2.2.2.2.2.2.2.2.2.2.2.2.2.1 k0_t50 k0_h464
theorem k0_mult372_dvd : ∀ (d0 : Dev nD) (v18 : BitVec 32) (k0_hw129 : k0_chk129 d0 v18), ∀ (k0_h465 : k0_cond465 v18 = 1#1), 8 ∣ (k0_mult372 d0 v18).toNat := fun d0 v18 k0_hw129 k0_h465 => k0_hw129.2.2.2.2.2.2.2.1.2.2.2.2.2.2.2.2.2.2.2.2.2.2.2.2.2.2.2.2.2.1 k0_h465
theorem k0_off500_inb : ∀ (d0 : Dev nD) (v18 : BitVec 32) (k0_hw129 : k0_chk129 d0 v18), ∀ (k0_h465 : k0_cond465 v18 = 1#1), ∀ a, (k0_off500 d0 v18) a + S1024x128.size a ≤ S16384x128.size a := fun d0 v18 k0_hw129 k0_h465 => k0_hw129.2.2.2.2.2.2.2.1.2.2.2.2.2.2.2.2.2.2.2.2.2.2.2.2.2.2.2.2.2.2.1 k0_h465
theorem k0_t51_ok : ∀ (d0 : Dev nD) (v18 : BitVec 32) (k0_hw129 : k0_chk129 d0 v18), ∀ (k0_h465 : k0_cond465 v18 = 1#1), (k0_t51_loop d0 v18).OK := fun d0 v18 k0_hw129 k0_h465 => k0_hw129.2.2.2.2.2.2.2.1.2.2.2.2.2.2.2.2.2.2.2.2.2.2.2.2.2.2.2.2.2.2.2.1 k0_h465
theorem k0_mult373_dvd : ∀ (d0 : Dev nD) (v18 : BitVec 32) (k0_hw129 : k0_chk129 d0 v18) (k0_t51 : Fin (k0_t51_loop d0 v18).trips), ∀ (k0_h465 : k0_cond465 v18 = 1#1), 8 ∣ (k0_mult373 d0 v18 k0_t51).toNat := fun d0 v18 k0_hw129 k0_t51 k0_h465 => k0_hw129.2.2.2.2.2.2.2.1.2.2.2.2.2.2.2.2.2.2.2.2.2.2.2.2.2.2.2.2.2.2.2.2.1 k0_t51 k0_h465
theorem k0_off501_inb : ∀ (d0 : Dev nD) (v18 : BitVec 32) (k0_hw129 : k0_chk129 d0 v18) (k0_t51 : Fin (k0_t51_loop d0 v18).trips), ∀ (k0_h465 : k0_cond465 v18 = 1#1), ∀ a, (k0_off501 d0 v18 k0_t51) a + S64x128.size a ≤ S16384x128.size a := fun d0 v18 k0_hw129 k0_t51 k0_h465 => k0_hw129.2.2.2.2.2.2.2.1.2.2.2.2.2.2.2.2.2.2.2.2.2.2.2.2.2.2.2.2.2.2.2.2.2.1 k0_t51 k0_h465
theorem k0_mult374_dvd : ∀ (d0 : Dev nD) (v18 : BitVec 32) (k0_hw129 : k0_chk129 d0 v18) (k0_t51 : Fin (k0_t51_loop d0 v18).trips), ∀ (k0_h465 : k0_cond465 v18 = 1#1), 8 ∣ (k0_mult374 d0 v18 k0_t51).toNat := fun d0 v18 k0_hw129 k0_t51 k0_h465 => k0_hw129.2.2.2.2.2.2.2.1.2.2.2.2.2.2.2.2.2.2.2.2.2.2.2.2.2.2.2.2.2.2.2.2.2.2.1 k0_t51 k0_h465
theorem k0_off502_inb : ∀ (d0 : Dev nD) (v18 : BitVec 32) (k0_hw129 : k0_chk129 d0 v18) (k0_t51 : Fin (k0_t51_loop d0 v18).trips), ∀ (k0_h465 : k0_cond465 v18 = 1#1), ∀ a, (k0_off502 d0 v18 k0_t51) a + S8x1024.size a ≤ S2048x1024.size a := fun d0 v18 k0_hw129 k0_t51 k0_h465 => k0_hw129.2.2.2.2.2.2.2.1.2.2.2.2.2.2.2.2.2.2.2.2.2.2.2.2.2.2.2.2.2.2.2.2.2.2.2.1 k0_t51 k0_h465
theorem k0_t52_ok : ∀ (d0 : Dev nD) (v18 : BitVec 32) (k0_hw129 : k0_chk129 d0 v18), ∀ (k0_h465 : k0_cond465 v18 = 1#1), (k0_t52_loop d0 v18).OK := fun d0 v18 k0_hw129 k0_h465 => k0_hw129.2.2.2.2.2.2.2.1.2.2.2.2.2.2.2.2.2.2.2.2.2.2.2.2.2.2.2.2.2.2.2.2.2.2.2.2.1 k0_h465
theorem k0_mult375_dvd : ∀ (d0 : Dev nD) (v18 : BitVec 32) (k0_hw129 : k0_chk129 d0 v18) (k0_t52 : Fin (k0_t52_loop d0 v18).trips), ∀ (k0_h465 : k0_cond465 v18 = 1#1), 8 ∣ (k0_mult375 d0 v18 k0_t52).toNat := fun d0 v18 k0_hw129 k0_t52 k0_h465 => k0_hw129.2.2.2.2.2.2.2.1.2.2.2.2.2.2.2.2.2.2.2.2.2.2.2.2.2.2.2.2.2.2.2.2.2.2.2.2.2.1 k0_t52 k0_h465
theorem k0_off503_inb : ∀ (d0 : Dev nD) (v18 : BitVec 32) (k0_hw129 : k0_chk129 d0 v18) (k0_t52 : Fin (k0_t52_loop d0 v18).trips), ∀ (k0_h465 : k0_cond465 v18 = 1#1), ∀ a, (k0_off503 d0 v18 k0_t52) a + S64x128.size a ≤ S16384x128.size a := fun d0 v18 k0_hw129 k0_t52 k0_h465 => k0_hw129.2.2.2.2.2.2.2.1.2.2.2.2.2.2.2.2.2.2.2.2.2.2.2.2.2.2.2.2.2.2.2.2.2.2.2.2.2.2.1 k0_t52 k0_h465
theorem k0_mult376_dvd : ∀ (d0 : Dev nD) (v18 : BitVec 32) (k0_hw129 : k0_chk129 d0 v18) (k0_t52 : Fin (k0_t52_loop d0 v18).trips), ∀ (k0_h465 : k0_cond465 v18 = 1#1), 8 ∣ (k0_mult376 d0 v18 k0_t52).toNat := fun d0 v18 k0_hw129 k0_t52 k0_h465 => k0_hw129.2.2.2.2.2.2.2.1.2.2.2.2.2.2.2.2.2.2.2.2.2.2.2.2.2.2.2.2.2.2.2.2.2.2.2.2.2.2.2 k0_t52 k0_h465
theorem k0_off504_inb : ∀ (d0 : Dev nD) (v18 : BitVec 32) (k0_hw129 : k0_chk129 d0 v18) (k0_t52 : Fin (k0_t52_loop d0 v18).trips), ∀ (k0_h465 : k0_cond465 v18 = 1#1), ∀ a, (k0_off504 d0 v18 k0_t52) a + S8x1024.size a ≤ S2048x1024.size a := fun d0 v18 k0_hw129 k0_t52 k0_h465 => k0_hw129.2.2.2.2.2.2.2.2.1.1 k0_t52 k0_h465
theorem k0_mult377_dvd : ∀ (d0 : Dev nD) (v18 : BitVec 32) (k0_hw129 : k0_chk129 d0 v18), ∀ (k0_h466 : k0_cond466 v18 = 1#1), 8 ∣ (k0_mult377 d0 v18).toNat := fun d0 v18 k0_hw129 k0_h466 => k0_hw129.2.2.2.2.2.2.2.2.1.2.1 k0_h466
theorem k0_off505_inb : ∀ (d0 : Dev nD) (v18 : BitVec 32) (k0_hw129 : k0_chk129 d0 v18), ∀ (k0_h466 : k0_cond466 v18 = 1#1), ∀ a, (k0_off505 d0 v18) a + S1024x128.size a ≤ S16384x128.size a := fun d0 v18 k0_hw129 k0_h466 => k0_hw129.2.2.2.2.2.2.2.2.1.2.2.1 k0_h466
theorem k0_t53_ok : ∀ (d0 : Dev nD) (v18 : BitVec 32) (k0_hw129 : k0_chk129 d0 v18), ∀ (k0_h466 : k0_cond466 v18 = 1#1), (k0_t53_loop d0 v18).OK := fun d0 v18 k0_hw129 k0_h466 => k0_hw129.2.2.2.2.2.2.2.2.1.2.2.2.1 k0_h466
theorem k0_mult378_dvd : ∀ (d0 : Dev nD) (v18 : BitVec 32) (k0_hw129 : k0_chk129 d0 v18) (k0_t53 : Fin (k0_t53_loop d0 v18).trips), ∀ (k0_h466 : k0_cond466 v18 = 1#1), 8 ∣ (k0_mult378 d0 v18 k0_t53).toNat := fun d0 v18 k0_hw129 k0_t53 k0_h466 => k0_hw129.2.2.2.2.2.2.2.2.1.2.2.2.2.1 k0_t53 k0_h466
theorem k0_off506_inb : ∀ (d0 : Dev nD) (v18 : BitVec 32) (k0_hw129 : k0_chk129 d0 v18) (k0_t53 : Fin (k0_t53_loop d0 v18).trips), ∀ (k0_h466 : k0_cond466 v18 = 1#1), ∀ a, (k0_off506 d0 v18 k0_t53) a + S64x128.size a ≤ S16384x128.size a := fun d0 v18 k0_hw129 k0_t53 k0_h466 => k0_hw129.2.2.2.2.2.2.2.2.1.2.2.2.2.2.1 k0_t53 k0_h466
theorem k0_mult379_dvd : ∀ (d0 : Dev nD) (v18 : BitVec 32) (k0_hw129 : k0_chk129 d0 v18) (k0_t53 : Fin (k0_t53_loop d0 v18).trips), ∀ (k0_h466 : k0_cond466 v18 = 1#1), 8 ∣ (k0_mult379 d0 v18 k0_t53).toNat := fun d0 v18 k0_hw129 k0_t53 k0_h466 => k0_hw129.2.2.2.2.2.2.2.2.1.2.2.2.2.2.2.1 k0_t53 k0_h466
theorem k0_off507_inb : ∀ (d0 : Dev nD) (v18 : BitVec 32) (k0_hw129 : k0_chk129 d0 v18) (k0_t53 : Fin (k0_t53_loop d0 v18).trips), ∀ (k0_h466 : k0_cond466 v18 = 1#1), ∀ a, (k0_off507 d0 v18 k0_t53) a + S8x1024.size a ≤ S2048x1024.size a := fun d0 v18 k0_hw129 k0_t53 k0_h466 => k0_hw129.2.2.2.2.2.2.2.2.1.2.2.2.2.2.2.2.1 k0_t53 k0_h466
theorem k0_t54_ok : ∀ (d0 : Dev nD) (v18 : BitVec 32) (k0_hw129 : k0_chk129 d0 v18), ∀ (k0_h466 : k0_cond466 v18 = 1#1), (k0_t54_loop d0 v18).OK := fun d0 v18 k0_hw129 k0_h466 => k0_hw129.2.2.2.2.2.2.2.2.1.2.2.2.2.2.2.2.2.1 k0_h466
theorem k0_mult380_dvd : ∀ (d0 : Dev nD) (v18 : BitVec 32) (k0_hw129 : k0_chk129 d0 v18) (k0_t54 : Fin (k0_t54_loop d0 v18).trips), ∀ (k0_h466 : k0_cond466 v18 = 1#1), 8 ∣ (k0_mult380 d0 v18 k0_t54).toNat := fun d0 v18 k0_hw129 k0_t54 k0_h466 => k0_hw129.2.2.2.2.2.2.2.2.1.2.2.2.2.2.2.2.2.2.1 k0_t54 k0_h466
theorem k0_off508_inb : ∀ (d0 : Dev nD) (v18 : BitVec 32) (k0_hw129 : k0_chk129 d0 v18) (k0_t54 : Fin (k0_t54_loop d0 v18).trips), ∀ (k0_h466 : k0_cond466 v18 = 1#1), ∀ a, (k0_off508 d0 v18 k0_t54) a + S64x128.size a ≤ S16384x128.size a := fun d0 v18 k0_hw129 k0_t54 k0_h466 => k0_hw129.2.2.2.2.2.2.2.2.1.2.2.2.2.2.2.2.2.2.2.1 k0_t54 k0_h466
theorem k0_mult381_dvd : ∀ (d0 : Dev nD) (v18 : BitVec 32) (k0_hw129 : k0_chk129 d0 v18) (k0_t54 : Fin (k0_t54_loop d0 v18).trips), ∀ (k0_h466 : k0_cond466 v18 = 1#1), 8 ∣ (k0_mult381 d0 v18 k0_t54).toNat := fun d0 v18 k0_hw129 k0_t54 k0_h466 => k0_hw129.2.2.2.2.2.2.2.2.1.2.2.2.2.2.2.2.2.2.2.2.1 k0_t54 k0_h466
theorem k0_off509_inb : ∀ (d0 : Dev nD) (v18 : BitVec 32) (k0_hw129 : k0_chk129 d0 v18) (k0_t54 : Fin (k0_t54_loop d0 v18).trips), ∀ (k0_h466 : k0_cond466 v18 = 1#1), ∀ a, (k0_off509 d0 v18 k0_t54) a + S8x1024.size a ≤ S2048x1024.size a := fun d0 v18 k0_hw129 k0_t54 k0_h466 => k0_hw129.2.2.2.2.2.2.2.2.1.2.2.2.2.2.2.2.2.2.2.2.2.1 k0_t54 k0_h466
theorem k0_mult382_dvd : ∀ (d0 : Dev nD) (v18 : BitVec 32) (k0_hw129 : k0_chk129 d0 v18), ∀ (k0_h467 : k0_cond467 v18 = 1#1), 8 ∣ (k0_mult382 d0 v18).toNat := fun d0 v18 k0_hw129 k0_h467 => k0_hw129.2.2.2.2.2.2.2.2.1.2.2.2.2.2.2.2.2.2.2.2.2.2.1 k0_h467
theorem k0_off510_inb : ∀ (d0 : Dev nD) (v18 : BitVec 32) (k0_hw129 : k0_chk129 d0 v18), ∀ (k0_h467 : k0_cond467 v18 = 1#1), ∀ a, (k0_off510 d0 v18) a + S1024x128.size a ≤ S16384x128.size a := fun d0 v18 k0_hw129 k0_h467 => k0_hw129.2.2.2.2.2.2.2.2.1.2.2.2.2.2.2.2.2.2.2.2.2.2.2.1 k0_h467
theorem k0_t55_ok : ∀ (d0 : Dev nD) (v18 : BitVec 32) (k0_hw129 : k0_chk129 d0 v18), ∀ (k0_h467 : k0_cond467 v18 = 1#1), (k0_t55_loop d0 v18).OK := fun d0 v18 k0_hw129 k0_h467 => k0_hw129.2.2.2.2.2.2.2.2.1.2.2.2.2.2.2.2.2.2.2.2.2.2.2.2.1 k0_h467
theorem k0_mult383_dvd : ∀ (d0 : Dev nD) (v18 : BitVec 32) (k0_hw129 : k0_chk129 d0 v18) (k0_t55 : Fin (k0_t55_loop d0 v18).trips), ∀ (k0_h467 : k0_cond467 v18 = 1#1), 8 ∣ (k0_mult383 d0 v18 k0_t55).toNat := fun d0 v18 k0_hw129 k0_t55 k0_h467 => k0_hw129.2.2.2.2.2.2.2.2.1.2.2.2.2.2.2.2.2.2.2.2.2.2.2.2.2.1 k0_t55 k0_h467
theorem k0_off511_inb : ∀ (d0 : Dev nD) (v18 : BitVec 32) (k0_hw129 : k0_chk129 d0 v18) (k0_t55 : Fin (k0_t55_loop d0 v18).trips), ∀ (k0_h467 : k0_cond467 v18 = 1#1), ∀ a, (k0_off511 d0 v18 k0_t55) a + S64x128.size a ≤ S16384x128.size a := fun d0 v18 k0_hw129 k0_t55 k0_h467 => k0_hw129.2.2.2.2.2.2.2.2.1.2.2.2.2.2.2.2.2.2.2.2.2.2.2.2.2.2.1 k0_t55 k0_h467
theorem k0_mult384_dvd : ∀ (d0 : Dev nD) (v18 : BitVec 32) (k0_hw129 : k0_chk129 d0 v18) (k0_t55 : Fin (k0_t55_loop d0 v18).trips), ∀ (k0_h467 : k0_cond467 v18 = 1#1), 8 ∣ (k0_mult384 d0 v18 k0_t55).toNat := fun d0 v18 k0_hw129 k0_t55 k0_h467 => k0_hw129.2.2.2.2.2.2.2.2.1.2.2.2.2.2.2.2.2.2.2.2.2.2.2.2.2.2.2.1 k0_t55 k0_h467
theorem k0_off512_inb : ∀ (d0 : Dev nD) (v18 : BitVec 32) (k0_hw129 : k0_chk129 d0 v18) (k0_t55 : Fin (k0_t55_loop d0 v18).trips), ∀ (k0_h467 : k0_cond467 v18 = 1#1), ∀ a, (k0_off512 d0 v18 k0_t55) a + S8x1024.size a ≤ S2048x1024.size a := fun d0 v18 k0_hw129 k0_t55 k0_h467 => k0_hw129.2.2.2.2.2.2.2.2.1.2.2.2.2.2.2.2.2.2.2.2.2.2.2.2.2.2.2.2.1 k0_t55 k0_h467
theorem k0_t56_ok : ∀ (d0 : Dev nD) (v18 : BitVec 32) (k0_hw129 : k0_chk129 d0 v18), ∀ (k0_h467 : k0_cond467 v18 = 1#1), (k0_t56_loop d0 v18).OK := fun d0 v18 k0_hw129 k0_h467 => k0_hw129.2.2.2.2.2.2.2.2.1.2.2.2.2.2.2.2.2.2.2.2.2.2.2.2.2.2.2.2.2.1 k0_h467
theorem k0_mult385_dvd : ∀ (d0 : Dev nD) (v18 : BitVec 32) (k0_hw129 : k0_chk129 d0 v18) (k0_t56 : Fin (k0_t56_loop d0 v18).trips), ∀ (k0_h467 : k0_cond467 v18 = 1#1), 8 ∣ (k0_mult385 d0 v18 k0_t56).toNat := fun d0 v18 k0_hw129 k0_t56 k0_h467 => k0_hw129.2.2.2.2.2.2.2.2.1.2.2.2.2.2.2.2.2.2.2.2.2.2.2.2.2.2.2.2.2.2.1 k0_t56 k0_h467
theorem k0_off513_inb : ∀ (d0 : Dev nD) (v18 : BitVec 32) (k0_hw129 : k0_chk129 d0 v18) (k0_t56 : Fin (k0_t56_loop d0 v18).trips), ∀ (k0_h467 : k0_cond467 v18 = 1#1), ∀ a, (k0_off513 d0 v18 k0_t56) a + S64x128.size a ≤ S16384x128.size a := fun d0 v18 k0_hw129 k0_t56 k0_h467 => k0_hw129.2.2.2.2.2.2.2.2.1.2.2.2.2.2.2.2.2.2.2.2.2.2.2.2.2.2.2.2.2.2.2.1 k0_t56 k0_h467
theorem k0_mult386_dvd : ∀ (d0 : Dev nD) (v18 : BitVec 32) (k0_hw129 : k0_chk129 d0 v18) (k0_t56 : Fin (k0_t56_loop d0 v18).trips), ∀ (k0_h467 : k0_cond467 v18 = 1#1), 8 ∣ (k0_mult386 d0 v18 k0_t56).toNat := fun d0 v18 k0_hw129 k0_t56 k0_h467 => k0_hw129.2.2.2.2.2.2.2.2.1.2.2.2.2.2.2.2.2.2.2.2.2.2.2.2.2.2.2.2.2.2.2.2.1 k0_t56 k0_h467
theorem k0_off514_inb : ∀ (d0 : Dev nD) (v18 : BitVec 32) (k0_hw129 : k0_chk129 d0 v18) (k0_t56 : Fin (k0_t56_loop d0 v18).trips), ∀ (k0_h467 : k0_cond467 v18 = 1#1), ∀ a, (k0_off514 d0 v18 k0_t56) a + S8x1024.size a ≤ S2048x1024.size a := fun d0 v18 k0_hw129 k0_t56 k0_h467 => k0_hw129.2.2.2.2.2.2.2.2.1.2.2.2.2.2.2.2.2.2.2.2.2.2.2.2.2.2.2.2.2.2.2.2.2.1 k0_t56 k0_h467
theorem k0_mult387_dvd : ∀ (d0 : Dev nD) (v18 : BitVec 32) (k0_hw129 : k0_chk129 d0 v18), ∀ (k0_h468 : k0_cond468 v18 = 1#1), 16 ∣ (k0_mult387 v18).toNat := fun d0 v18 k0_hw129 k0_h468 => k0_hw129.2.2.2.2.2.2.2.2.1.2.2.2.2.2.2.2.2.2.2.2.2.2.2.2.2.2.2.2.2.2.2.2.2.2.1 k0_h468
theorem k0_mult388_dvd : ∀ (d0 : Dev nD) (v18 : BitVec 32) (k0_hw129 : k0_chk129 d0 v18), ∀ (k0_h468 : k0_cond468 v18 = 1#1), 16 ∣ (k0_mult388 v18).toNat := fun d0 v18 k0_hw129 k0_h468 => k0_hw129.2.2.2.2.2.2.2.2.1.2.2.2.2.2.2.2.2.2.2.2.2.2.2.2.2.2.2.2.2.2.2.2.2.2.2.1 k0_h468
theorem k0_off515_inb : ∀ (d0 : Dev nD) (v18 : BitVec 32) (k0_hw129 : k0_chk129 d0 v18), ∀ (k0_h468 : k0_cond468 v18 = 1#1), ∀ a, (k0_off515 v18) a + S512x128.size a ≤ S17408x128.size a := fun d0 v18 k0_hw129 k0_h468 => k0_hw129.2.2.2.2.2.2.2.2.1.2.2.2.2.2.2.2.2.2.2.2.2.2.2.2.2.2.2.2.2.2.2.2.2.2.2.2.1 k0_h468
theorem k0_off516_inb : ∀ (d0 : Dev nD) (v18 : BitVec 32) (k0_hw129 : k0_chk129 d0 v18), ∀ (k0_h468 : k0_cond468 v18 = 1#1), ∀ a, (k0_off516 v18) a + S512x128.size a ≤ S16384x128.size a := fun d0 v18 k0_hw129 k0_h468 => k0_hw129.2.2.2.2.2.2.2.2.1.2.2.2.2.2.2.2.2.2.2.2.2.2.2.2.2.2.2.2.2.2.2.2.2.2.2.2.2.1 k0_h468
theorem k0_off516_wordsbf16 : ∀ (d0 : Dev nD) (v18 : BitVec 32) (k0_hw129 : k0_chk129 d0 v18), ∀ (k0_h468 : k0_cond468 v18 = 1#1), (Rect.unit (s := S16384x128) (k0_off516 v18) S512x128.size (k0_off516_inb d0 v18 k0_hw129 k0_h468)).WholeWords (EltTy.packing .bf16) := fun d0 v18 k0_hw129 k0_h468 => k0_hw129.2.2.2.2.2.2.2.2.1.2.2.2.2.2.2.2.2.2.2.2.2.2.2.2.2.2.2.2.2.2.2.2.2.2.2.2.2.2.1 k0_h468 (k0_off516_inb d0 v18 k0_hw129 k0_h468)
theorem k0_off515_wordsbf16 : ∀ (d0 : Dev nD) (v18 : BitVec 32) (k0_hw129 : k0_chk129 d0 v18), ∀ (k0_h468 : k0_cond468 v18 = 1#1), (Rect.unit (s := S17408x128) (k0_off515 v18) S512x128.size (k0_off515_inb d0 v18 k0_hw129 k0_h468)).WholeWords (EltTy.packing .bf16) := fun d0 v18 k0_hw129 k0_h468 => k0_hw129.2.2.2.2.2.2.2.2.1.2.2.2.2.2.2.2.2.2.2.2.2.2.2.2.2.2.2.2.2.2.2.2.2.2.2.2.2.2.2.1 k0_h468 (k0_off515_inb d0 v18 k0_hw129 k0_h468)
theorem k0_mult389_dvd : ∀ (d0 : Dev nD) (v18 : BitVec 32) (k0_hw129 : k0_chk129 d0 v18), ∀ (k0_h468 : k0_cond468 v18 = 1#1), 16 ∣ (k0_mult389 v18).toNat := fun d0 v18 k0_hw129 k0_h468 => k0_hw129.2.2.2.2.2.2.2.2.1.2.2.2.2.2.2.2.2.2.2.2.2.2.2.2.2.2.2.2.2.2.2.2.2.2.2.2.2.2.2.2 k0_h468
theorem k0_off517_inb : ∀ (d0 : Dev nD) (v18 : BitVec 32) (k0_hw129 : k0_chk129 d0 v18), ∀ (k0_h468 : k0_cond468 v18 = 1#1), ∀ a, (k0_off517 v18) a + S512x128.size a ≤ S16384x128.size a := fun d0 v18 k0_hw129 k0_h468 => k0_hw129.2.2.2.2.2.2.2.2.2.1.1 k0_h468
theorem k0_mult390_dvd : ∀ (d0 : Dev nD) (v18 : BitVec 32) (k0_hw129 : k0_chk129 d0 v18), ∀ (k0_h468 : k0_cond468 v18 = 1#1), 8 ∣ (k0_mult390 d0 v18).toNat := fun d0 v18 k0_hw129 k0_h468 => k0_hw129.2.2.2.2.2.2.2.2.2.1.2.1 k0_h468
theorem k0_off518_inb : ∀ (d0 : Dev nD) (v18 : BitVec 32) (k0_hw129 : k0_chk129 d0 v18), ∀ (k0_h468 : k0_cond468 v18 = 1#1), ∀ a, (k0_off518 d0 v18) a + S512x128.size a ≤ S16384x128.size a := fun d0 v18 k0_hw129 k0_h468 => k0_hw129.2.2.2.2.2.2.2.2.2.1.2.2.1 k0_h468
theorem k0_mult391_dvd : ∀ (d0 : Dev nD) (v18 : BitVec 32) (k0_hw129 : k0_chk129 d0 v18), ∀ (k0_h469 : k0_cond469 v18 = 1#1), 16 ∣ (k0_mult391 v18).toNat := fun d0 v18 k0_hw129 k0_h469 => k0_hw129.2.2.2.2.2.2.2.2.2.1.2.2.2.1 k0_h469
theorem k0_mult392_dvd : ∀ (d0 : Dev nD) (v18 : BitVec 32) (k0_hw129 : k0_chk129 d0 v18), ∀ (k0_h469 : k0_cond469 v18 = 1#1), 16 ∣ (k0_mult392 v18).toNat := fun d0 v18 k0_hw129 k0_h469 => k0_hw129.2.2.2.2.2.2.2.2.2.1.2.2.2.2.1 k0_h469
theorem k0_off519_inb : ∀ (d0 : Dev nD) (v18 : BitVec 32) (k0_hw129 : k0_chk129 d0 v18), ∀ (k0_h469 : k0_cond469 v18 = 1#1), ∀ a, (k0_off519 v18) a + S256x128.size a ≤ S17408x128.size a := fun d0 v18 k0_hw129 k0_h469 => k0_hw129.2.2.2.2.2.2.2.2.2.1.2.2.2.2.2.1 k0_h469
theorem k0_off520_inb : ∀ (d0 : Dev nD) (v18 : BitVec 32) (k0_hw129 : k0_chk129 d0 v18), ∀ (k0_h469 : k0_cond469 v18 = 1#1), ∀ a, (k0_off520 v18) a + S256x128.size a ≤ S16384x128.size a := fun d0 v18 k0_hw129 k0_h469 => k0_hw129.2.2.2.2.2.2.2.2.2.1.2.2.2.2.2.2.1 k0_h469
theorem k0_off520_wordsbf16 : ∀ (d0 : Dev nD) (v18 : BitVec 32) (k0_hw129 : k0_chk129 d0 v18), ∀ (k0_h469 : k0_cond469 v18 = 1#1), (Rect.unit (s := S16384x128) (k0_off520 v18) S256x128.size (k0_off520_inb d0 v18 k0_hw129 k0_h469)).WholeWords (EltTy.packing .bf16) := fun d0 v18 k0_hw129 k0_h469 => k0_hw129.2.2.2.2.2.2.2.2.2.1.2.2.2.2.2.2.2.1 k0_h469 (k0_off520_inb d0 v18 k0_hw129 k0_h469)
theorem k0_off519_wordsbf16 : ∀ (d0 : Dev nD) (v18 : BitVec 32) (k0_hw129 : k0_chk129 d0 v18), ∀ (k0_h469 : k0_cond469 v18 = 1#1), (Rect.unit (s := S17408x128) (k0_off519 v18) S256x128.size (k0_off519_inb d0 v18 k0_hw129 k0_h469)).WholeWords (EltTy.packing .bf16) := fun d0 v18 k0_hw129 k0_h469 => k0_hw129.2.2.2.2.2.2.2.2.2.1.2.2.2.2.2.2.2.2.1 k0_h469 (k0_off519_inb d0 v18 k0_hw129 k0_h469)
theorem k0_mult393_dvd : ∀ (d0 : Dev nD) (v18 : BitVec 32) (k0_hw129 : k0_chk129 d0 v18), ∀ (k0_h469 : k0_cond469 v18 = 1#1), 16 ∣ (k0_mult393 v18).toNat := fun d0 v18 k0_hw129 k0_h469 => k0_hw129.2.2.2.2.2.2.2.2.2.1.2.2.2.2.2.2.2.2.2.1 k0_h469
theorem k0_off521_inb : ∀ (d0 : Dev nD) (v18 : BitVec 32) (k0_hw129 : k0_chk129 d0 v18), ∀ (k0_h469 : k0_cond469 v18 = 1#1), ∀ a, (k0_off521 v18) a + S256x128.size a ≤ S16384x128.size a := fun d0 v18 k0_hw129 k0_h469 => k0_hw129.2.2.2.2.2.2.2.2.2.1.2.2.2.2.2.2.2.2.2.2.1 k0_h469
theorem k0_mult394_dvd : ∀ (d0 : Dev nD) (v18 : BitVec 32) (k0_hw129 : k0_chk129 d0 v18), ∀ (k0_h469 : k0_cond469 v18 = 1#1), 8 ∣ (k0_mult394 d0 v18).toNat := fun d0 v18 k0_hw129 k0_h469 => k0_hw129.2.2.2.2.2.2.2.2.2.1.2.2.2.2.2.2.2.2.2.2.2.1 k0_h469
theorem k0_off522_inb : ∀ (d0 : Dev nD) (v18 : BitVec 32) (k0_hw129 : k0_chk129 d0 v18), ∀ (k0_h469 : k0_cond469 v18 = 1#1), ∀ a, (k0_off522 d0 v18) a + S256x128.size a ≤ S16384x128.size a := fun d0 v18 k0_hw129 k0_h469 => k0_hw129.2.2.2.2.2.2.2.2.2.1.2.2.2.2.2.2.2.2.2.2.2.2.1 k0_h469
theorem k0_mult395_dvd : ∀ (d0 : Dev nD) (v18 : BitVec 32) (k0_hw129 : k0_chk129 d0 v18), ∀ (k0_h470 : k0_cond470 v18 = 1#1), 16 ∣ (k0_mult395 v18).toNat := fun d0 v18 k0_hw129 k0_h470 => k0_hw129.2.2.2.2.2.2.2.2.2.1.2.2.2.2.2.2.2.2.2.2.2.2.2.1 k0_h470
theorem k0_mult396_dvd : ∀ (d0 : Dev nD) (v18 : BitVec 32) (k0_hw129 : k0_chk129 d0 v18), ∀ (k0_h470 : k0_cond470 v18 = 1#1), 16 ∣ (k0_mult396 v18).toNat := fun d0 v18 k0_hw129 k0_h470 => k0_hw129.2.2.2.2.2.2.2.2.2.1.2.2.2.2.2.2.2.2.2.2.2.2.2.2.1 k0_h470
theorem k0_off523_inb : ∀ (d0 : Dev nD) (v18 : BitVec 32) (k0_hw129 : k0_chk129 d0 v18), ∀ (k0_h470 : k0_cond470 v18 = 1#1), ∀ a, (k0_off523 v18) a + S128x128.size a ≤ S17408x128.size a := fun d0 v18 k0_hw129 k0_h470 => k0_hw129.2.2.2.2.2.2.2.2.2.1.2.2.2.2.2.2.2.2.2.2.2.2.2.2.2.1 k0_h470
theorem k0_off524_inb : ∀ (d0 : Dev nD) (v18 : BitVec 32) (k0_hw129 : k0_chk129 d0 v18), ∀ (k0_h470 : k0_cond470 v18 = 1#1), ∀ a, (k0_off524 v18) a + S128x128.size a ≤ S16384x128.size a := fun d0 v18 k0_hw129 k0_h470 => k0_hw129.2.2.2.2.2.2.2.2.2.1.2.2.2.2.2.2.2.2.2.2.2.2.2.2.2.2.1 k0_h470
theorem k0_off524_wordsbf16 : ∀ (d0 : Dev nD) (v18 : BitVec 32) (k0_hw129 : k0_chk129 d0 v18), ∀ (k0_h470 : k0_cond470 v18 = 1#1), (Rect.unit (s := S16384x128) (k0_off524 v18) S128x128.size (k0_off524_inb d0 v18 k0_hw129 k0_h470)).WholeWords (EltTy.packing .bf16) := fun d0 v18 k0_hw129 k0_h470 => k0_hw129.2.2.2.2.2.2.2.2.2.1.2.2.2.2.2.2.2.2.2.2.2.2.2.2.2.2.2.1 k0_h470 (k0_off524_inb d0 v18 k0_hw129 k0_h470)
theorem k0_off523_wordsbf16 : ∀ (d0 : Dev nD) (v18 : BitVec 32) (k0_hw129 : k0_chk129 d0 v18), ∀ (k0_h470 : k0_cond470 v18 = 1#1), (Rect.unit (s := S17408x128) (k0_off523 v18) S128x128.size (k0_off523_inb d0 v18 k0_hw129 k0_h470)).WholeWords (EltTy.packing .bf16) := fun d0 v18 k0_hw129 k0_h470 => k0_hw129.2.2.2.2.2.2.2.2.2.1.2.2.2.2.2.2.2.2.2.2.2.2.2.2.2.2.2.2.1 k0_h470 (k0_off523_inb d0 v18 k0_hw129 k0_h470)
theorem k0_mult397_dvd : ∀ (d0 : Dev nD) (v18 : BitVec 32) (k0_hw129 : k0_chk129 d0 v18), ∀ (k0_h470 : k0_cond470 v18 = 1#1), 16 ∣ (k0_mult397 v18).toNat := fun d0 v18 k0_hw129 k0_h470 => k0_hw129.2.2.2.2.2.2.2.2.2.1.2.2.2.2.2.2.2.2.2.2.2.2.2.2.2.2.2.2.2.1 k0_h470
theorem k0_off525_inb : ∀ (d0 : Dev nD) (v18 : BitVec 32) (k0_hw129 : k0_chk129 d0 v18), ∀ (k0_h470 : k0_cond470 v18 = 1#1), ∀ a, (k0_off525 v18) a + S128x128.size a ≤ S16384x128.size a := fun d0 v18 k0_hw129 k0_h470 => k0_hw129.2.2.2.2.2.2.2.2.2.1.2.2.2.2.2.2.2.2.2.2.2.2.2.2.2.2.2.2.2.2.1 k0_h470
theorem k0_mult398_dvd : ∀ (d0 : Dev nD) (v18 : BitVec 32) (k0_hw129 : k0_chk129 d0 v18), ∀ (k0_h470 : k0_cond470 v18 = 1#1), 8 ∣ (k0_mult398 d0 v18).toNat := fun d0 v18 k0_hw129 k0_h470 => k0_hw129.2.2.2.2.2.2.2.2.2.1.2.2.2.2.2.2.2.2.2.2.2.2.2.2.2.2.2.2.2.2.2.1 k0_h470
theorem k0_off526_inb : ∀ (d0 : Dev nD) (v18 : BitVec 32) (k0_hw129 : k0_chk129 d0 v18), ∀ (k0_h470 : k0_cond470 v18 = 1#1), ∀ a, (k0_off526 d0 v18) a + S128x128.size a ≤ S16384x128.size a := fun d0 v18 k0_hw129 k0_h470 => k0_hw129.2.2.2.2.2.2.2.2.2.1.2.2.2.2.2.2.2.2.2.2.2.2.2.2.2.2.2.2.2.2.2.2.1 k0_h470
theorem k0_mult399_dvd : ∀ (d0 : Dev nD) (v18 : BitVec 32) (k0_hw129 : k0_chk129 d0 v18), ∀ (k0_h471 : k0_cond471 v18 = 1#1), 16 ∣ (k0_mult399 v18).toNat := fun d0 v18 k0_hw129 k0_h471 => k0_hw129.2.2.2.2.2.2.2.2.2.1.2.2.2.2.2.2.2.2.2.2.2.2.2.2.2.2.2.2.2.2.2.2.2.1 k0_h471
theorem k0_mult400_dvd : ∀ (d0 : Dev nD) (v18 : BitVec 32) (k0_hw129 : k0_chk129 d0 v18), ∀ (k0_h471 : k0_cond471 v18 = 1#1), 16 ∣ (k0_mult400 v18).toNat := fun d0 v18 k0_hw129 k0_h471 => k0_hw129.2.2.2.2.2.2.2.2.2.1.2.2.2.2.2.2.2.2.2.2.2.2.2.2.2.2.2.2.2.2.2.2.2.2.1 k0_h471
theorem k0_off527_inb : ∀ (d0 : Dev nD) (v18 : BitVec 32) (k0_hw129 : k0_chk129 d0 v18), ∀ (k0_h471 : k0_cond471 v18 = 1#1), ∀ a, (k0_off527 v18) a + S64x128.size a ≤ S17408x128.size a := fun d0 v18 k0_hw129 k0_h471 => k0_hw129.2.2.2.2.2.2.2.2.2.1.2.2.2.2.2.2.2.2.2.2.2.2.2.2.2.2.2.2.2.2.2.2.2.2.2.1 k0_h471
theorem k0_off528_inb : ∀ (d0 : Dev nD) (v18 : BitVec 32) (k0_hw129 : k0_chk129 d0 v18), ∀ (k0_h471 : k0_cond471 v18 = 1#1), ∀ a, (k0_off528 v18) a + S64x128.size a ≤ S16384x128.size a := fun d0 v18 k0_hw129 k0_h471 => k0_hw129.2.2.2.2.2.2.2.2.2.1.2.2.2.2.2.2.2.2.2.2.2.2.2.2.2.2.2.2.2.2.2.2.2.2.2.2.1 k0_h471
theorem k0_off528_wordsbf16 : ∀ (d0 : Dev nD) (v18 : BitVec 32) (k0_hw129 : k0_chk129 d0 v18), ∀ (k0_h471 : k0_cond471 v18 = 1#1), (Rect.unit (s := S16384x128) (k0_off528 v18) S64x128.size (k0_off528_inb d0 v18 k0_hw129 k0_h471)).WholeWords (EltTy.packing .bf16) := fun d0 v18 k0_hw129 k0_h471 => k0_hw129.2.2.2.2.2.2.2.2.2.1.2.2.2.2.2.2.2.2.2.2.2.2.2.2.2.2.2.2.2.2.2.2.2.2.2.2.2.1 k0_h471 (k0_off528_inb d0 v18 k0_hw129 k0_h471)
theorem k0_off527_wordsbf16 : ∀ (d0 : Dev nD) (v18 : BitVec 32) (k0_hw129 : k0_chk129 d0 v18), ∀ (k0_h471 : k0_cond471 v18 = 1#1), (Rect.unit (s := S17408x128) (k0_off527 v18) S64x128.size (k0_off527_inb d0 v18 k0_hw129 k0_h471)).WholeWords (EltTy.packing .bf16) := fun d0 v18 k0_hw129 k0_h471 => k0_hw129.2.2.2.2.2.2.2.2.2.1.2.2.2.2.2.2.2.2.2.2.2.2.2.2.2.2.2.2.2.2.2.2.2.2.2.2.2.2.1 k0_h471 (k0_off527_inb d0 v18 k0_hw129 k0_h471)
theorem k0_mult401_dvd : ∀ (d0 : Dev nD) (v18 : BitVec 32) (k0_hw129 : k0_chk129 d0 v18), ∀ (k0_h471 : k0_cond471 v18 = 1#1), 16 ∣ (k0_mult401 v18).toNat := fun d0 v18 k0_hw129 k0_h471 => k0_hw129.2.2.2.2.2.2.2.2.2.1.2.2.2.2.2.2.2.2.2.2.2.2.2.2.2.2.2.2.2.2.2.2.2.2.2.2.2.2.2.1 k0_h471
theorem k0_off529_inb : ∀ (d0 : Dev nD) (v18 : BitVec 32) (k0_hw129 : k0_chk129 d0 v18), ∀ (k0_h471 : k0_cond471 v18 = 1#1), ∀ a, (k0_off529 v18) a + S64x128.size a ≤ S16384x128.size a := fun d0 v18 k0_hw129 k0_h471 => k0_hw129.2.2.2.2.2.2.2.2.2.1.2.2.2.2.2.2.2.2.2.2.2.2.2.2.2.2.2.2.2.2.2.2.2.2.2.2.2.2.2.2.1 k0_h471
theorem k0_mult402_dvd : ∀ (d0 : Dev nD) (v18 : BitVec 32) (k0_hw129 : k0_chk129 d0 v18), ∀ (k0_h471 : k0_cond471 v18 = 1#1), 8 ∣ (k0_mult402 d0 v18).toNat := fun d0 v18 k0_hw129 k0_h471 => k0_hw129.2.2.2.2.2.2.2.2.2.1.2.2.2.2.2.2.2.2.2.2.2.2.2.2.2.2.2.2.2.2.2.2.2.2.2.2.2.2.2.2.2 k0_h471
theorem k0_off530_inb : ∀ (d0 : Dev nD) (v18 : BitVec 32) (k0_hw129 : k0_chk129 d0 v18), ∀ (k0_h471 : k0_cond471 v18 = 1#1), ∀ a, (k0_off530 d0 v18) a + S64x128.size a ≤ S16384x128.size a := fun d0 v18 k0_hw129 k0_h471 => k0_hw129.2.2.2.2.2.2.2.2.2.2.1.1 k0_h471
theorem k0_mult403_dvd : ∀ (d0 : Dev nD) (v18 : BitVec 32) (k0_hw129 : k0_chk129 d0 v18), ∀ (k0_h472 : k0_cond472 v18 = 1#1), 16 ∣ (k0_mult403 v18).toNat := fun d0 v18 k0_hw129 k0_h472 => k0_hw129.2.2.2.2.2.2.2.2.2.2.1.2.1 k0_h472
theorem k0_mult404_dvd : ∀ (d0 : Dev nD) (v18 : BitVec 32) (k0_hw129 : k0_chk129 d0 v18), ∀ (k0_h472 : k0_cond472 v18 = 1#1), 16 ∣ (k0_mult404 v18).toNat := fun d0 v18 k0_hw129 k0_h472 => k0_hw129.2.2.2.2.2.2.2.2.2.2.1.2.2.1 k0_h472
theorem k0_off531_inb : ∀ (d0 : Dev nD) (v18 : BitVec 32) (k0_hw129 : k0_chk129 d0 v18), ∀ (k0_h472 : k0_cond472 v18 = 1#1), ∀ a, (k0_off531 v18) a + S32x128.size a ≤ S17408x128.size a := fun d0 v18 k0_hw129 k0_h472 => k0_hw129.2.2.2.2.2.2.2.2.2.2.1.2.2.2.1 k0_h472
theorem k0_off532_inb : ∀ (d0 : Dev nD) (v18 : BitVec 32) (k0_hw129 : k0_chk129 d0 v18), ∀ (k0_h472 : k0_cond472 v18 = 1#1), ∀ a, (k0_off532 v18) a + S32x128.size a ≤ S16384x128.size a := fun d0 v18 k0_hw129 k0_h472 => k0_hw129.2.2.2.2.2.2.2.2.2.2.1.2.2.2.2.1 k0_h472
theorem k0_off532_wordsbf16 : ∀ (d0 : Dev nD) (v18 : BitVec 32) (k0_hw129 : k0_chk129 d0 v18), ∀ (k0_h472 : k0_cond472 v18 = 1#1), (Rect.unit (s := S16384x128) (k0_off532 v18) S32x128.size (k0_off532_inb d0 v18 k0_hw129 k0_h472)).WholeWords (EltTy.packing .bf16) := fun d0 v18 k0_hw129 k0_h472 => k0_hw129.2.2.2.2.2.2.2.2.2.2.1.2.2.2.2.2.1 k0_h472 (k0_off532_inb d0 v18 k0_hw129 k0_h472)
theorem k0_off531_wordsbf16 : ∀ (d0 : Dev nD) (v18 : BitVec 32) (k0_hw129 : k0_chk129 d0 v18), ∀ (k0_h472 : k0_cond472 v18 = 1#1), (Rect.unit (s := S17408x128) (k0_off531 v18) S32x128.size (k0_off531_inb d0 v18 k0_hw129 k0_h472)).WholeWords (EltTy.packing .bf16) := fun d0 v18 k0_hw129 k0_h472 => k0_hw129.2.2.2.2.2.2.2.2.2.2.1.2.2.2.2.2.2.1 k0_h472 (k0_off531_inb d0 v18 k0_hw129 k0_h472)
theorem k0_mult405_dvd : ∀ (d0 : Dev nD) (v18 : BitVec 32) (k0_hw129 : k0_chk129 d0 v18), ∀ (k0_h472 : k0_cond472 v18 = 1#1), 16 ∣ (k0_mult405 v18).toNat := fun d0 v18 k0_hw129 k0_h472 => k0_hw129.2.2.2.2.2.2.2.2.2.2.1.2.2.2.2.2.2.2.1 k0_h472
theorem k0_off533_inb : ∀ (d0 : Dev nD) (v18 : BitVec 32) (k0_hw129 : k0_chk129 d0 v18), ∀ (k0_h472 : k0_cond472 v18 = 1#1), ∀ a, (k0_off533 v18) a + S32x128.size a ≤ S16384x128.size a := fun d0 v18 k0_hw129 k0_h472 => k0_hw129.2.2.2.2.2.2.2.2.2.2.1.2.2.2.2.2.2.2.2.1 k0_h472
theorem k0_mult406_dvd : ∀ (d0 : Dev nD) (v18 : BitVec 32) (k0_hw129 : k0_chk129 d0 v18), ∀ (k0_h472 : k0_cond472 v18 = 1#1), 8 ∣ (k0_mult406 d0 v18).toNat := fun d0 v18 k0_hw129 k0_h472 => k0_hw129.2.2.2.2.2.2.2.2.2.2.1.2.2.2.2.2.2.2.2.2.1 k0_h472
theorem k0_off534_inb : ∀ (d0 : Dev nD) (v18 : BitVec 32) (k0_hw129 : k0_chk129 d0 v18), ∀ (k0_h472 : k0_cond472 v18 = 1#1), ∀ a, (k0_off534 d0 v18) a + S32x128.size a ≤ S16384x128.size a := fun d0 v18 k0_hw129 k0_h472 => k0_hw129.2.2.2.2.2.2.2.2.2.2.1.2.2.2.2.2.2.2.2.2.2.1 k0_h472
theorem k0_mult407_dvd : ∀ (d0 : Dev nD) (v18 : BitVec 32) (k0_hw129 : k0_chk129 d0 v18), ∀ (k0_h473 : k0_cond473 v18 = 1#1), 16 ∣ (k0_mult407 v18).toNat := fun d0 v18 k0_hw129 k0_h473 => k0_hw129.2.2.2.2.2.2.2.2.2.2.1.2.2.2.2.2.2.2.2.2.2.2.1 k0_h473
theorem k0_mult408_dvd : ∀ (d0 : Dev nD) (v18 : BitVec 32) (k0_hw129 : k0_chk129 d0 v18), ∀ (k0_h473 : k0_cond473 v18 = 1#1), 16 ∣ (k0_mult408 v18).toNat := fun d0 v18 k0_hw129 k0_h473 => k0_hw129.2.2.2.2.2.2.2.2.2.2.1.2.2.2.2.2.2.2.2.2.2.2.2.1 k0_h473
theorem k0_off535_inb : ∀ (d0 : Dev nD) (v18 : BitVec 32) (k0_hw129 : k0_chk129 d0 v18), ∀ (k0_h473 : k0_cond473 v18 = 1#1), ∀ a, (k0_off535 v18) a + S16x128.size a ≤ S17408x128.size a := fun d0 v18 k0_hw129 k0_h473 => k0_hw129.2.2.2.2.2.2.2.2.2.2.1.2.2.2.2.2.2.2.2.2.2.2.2.2.1 k0_h473
theorem k0_off536_inb : ∀ (d0 : Dev nD) (v18 : BitVec 32) (k0_hw129 : k0_chk129 d0 v18), ∀ (k0_h473 : k0_cond473 v18 = 1#1), ∀ a, (k0_off536 v18) a + S16x128.size a ≤ S16384x128.size a := fun d0 v18 k0_hw129 k0_h473 => k0_hw129.2.2.2.2.2.2.2.2.2.2.1.2.2.2.2.2.2.2.2.2.2.2.2.2.2.1 k0_h473
theorem k0_off536_wordsbf16 : ∀ (d0 : Dev nD) (v18 : BitVec 32) (k0_hw129 : k0_chk129 d0 v18), ∀ (k0_h473 : k0_cond473 v18 = 1#1), (Rect.unit (s := S16384x128) (k0_off536 v18) S16x128.size (k0_off536_inb d0 v18 k0_hw129 k0_h473)).WholeWords (EltTy.packing .bf16) := fun d0 v18 k0_hw129 k0_h473 => k0_hw129.2.2.2.2.2.2.2.2.2.2.1.2.2.2.2.2.2.2.2.2.2.2.2.2.2.2.1 k0_h473 (k0_off536_inb d0 v18 k0_hw129 k0_h473)
theorem k0_off535_wordsbf16 : ∀ (d0 : Dev nD) (v18 : BitVec 32) (k0_hw129 : k0_chk129 d0 v18), ∀ (k0_h473 : k0_cond473 v18 = 1#1), (Rect.unit (s := S17408x128) (k0_off535 v18) S16x128.size (k0_off535_inb d0 v18 k0_hw129 k0_h473)).WholeWords (EltTy.packing .bf16) := fun d0 v18 k0_hw129 k0_h473 => k0_hw129.2.2.2.2.2.2.2.2.2.2.1.2.2.2.2.2.2.2.2.2.2.2.2.2.2.2.2.1 k0_h473 (k0_off535_inb d0 v18 k0_hw129 k0_h473)
theorem k0_mult409_dvd : ∀ (d0 : Dev nD) (v18 : BitVec 32) (k0_hw129 : k0_chk129 d0 v18), ∀ (k0_h473 : k0_cond473 v18 = 1#1), 16 ∣ (k0_mult409 v18).toNat := fun d0 v18 k0_hw129 k0_h473 => k0_hw129.2.2.2.2.2.2.2.2.2.2.1.2.2.2.2.2.2.2.2.2.2.2.2.2.2.2.2.2.1 k0_h473
theorem k0_off537_inb : ∀ (d0 : Dev nD) (v18 : BitVec 32) (k0_hw129 : k0_chk129 d0 v18), ∀ (k0_h473 : k0_cond473 v18 = 1#1), ∀ a, (k0_off537 v18) a + S16x128.size a ≤ S16384x128.size a := fun d0 v18 k0_hw129 k0_h473 => k0_hw129.2.2.2.2.2.2.2.2.2.2.1.2.2.2.2.2.2.2.2.2.2.2.2.2.2.2.2.2.2.1 k0_h473
theorem k0_mult410_dvd : ∀ (d0 : Dev nD) (v18 : BitVec 32) (k0_hw129 : k0_chk129 d0 v18), ∀ (k0_h473 : k0_cond473 v18 = 1#1), 8 ∣ (k0_mult410 d0 v18).toNat := fun d0 v18 k0_hw129 k0_h473 => k0_hw129.2.2.2.2.2.2.2.2.2.2.1.2.2.2.2.2.2.2.2.2.2.2.2.2.2.2.2.2.2.2.1 k0_h473
theorem k0_off538_inb : ∀ (d0 : Dev nD) (v18 : BitVec 32) (k0_hw129 : k0_chk129 d0 v18), ∀ (k0_h473 : k0_cond473 v18 = 1#1), ∀ a, (k0_off538 d0 v18) a + S16x128.size a ≤ S16384x128.size a := fun d0 v18 k0_hw129 k0_h473 => k0_hw129.2.2.2.2.2.2.2.2.2.2.1.2.2.2.2.2.2.2.2.2.2.2.2.2.2.2.2.2.2.2.2.1 k0_h473
theorem k0_mult411_dvd : ∀ (d0 : Dev nD) (v18 : BitVec 32) (k0_hw129 : k0_chk129 d0 v18), ∀ (k0_h474 : k0_cond474 v18 = 1#1), 8 ∣ (k0_mult411 v18).toNat := fun d0 v18 k0_hw129 k0_h474 => k0_hw129.2.2.2.2.2.2.2.2.2.2.1.2.2.2.2.2.2.2.2.2.2.2.2.2.2.2.2.2.2.2.2.2.1 k0_h474
theorem k0_mult412_dvd : ∀ (d0 : Dev nD) (v18 : BitVec 32) (k0_hw129 : k0_chk129 d0 v18), ∀ (k0_h474 : k0_cond474 v18 = 1#1), 8 ∣ (k0_mult412 d0 v18).toNat := fun d0 v18 k0_hw129 k0_h474 => k0_hw129.2.2.2.2.2.2.2.2.2.2.1.2.2.2.2.2.2.2.2.2.2.2.2.2.2.2.2.2.2.2.2.2.2.1 k0_h474
theorem k0_off539_inb : ∀ (d0 : Dev nD) (v18 : BitVec 32) (k0_hw129 : k0_chk129 d0 v18), ∀ (k0_h474 : k0_cond474 v18 = 1#1), ∀ a, (k0_off539 v18) a + S8x128.size a ≤ S17408x128.size a := fun d0 v18 k0_hw129 k0_h474 => k0_hw129.2.2.2.2.2.2.2.2.2.2.1.2.2.2.2.2.2.2.2.2.2.2.2.2.2.2.2.2.2.2.2.2.2.2.1 k0_h474
theorem k0_off540_inb : ∀ (d0 : Dev nD) (v18 : BitVec 32) (k0_hw129 : k0_chk129 d0 v18), ∀ (k0_h474 : k0_cond474 v18 = 1#1), ∀ a, (k0_off540 d0 v18) a + S8x128.size a ≤ S16384x128.size a := fun d0 v18 k0_hw129 k0_h474 => k0_hw129.2.2.2.2.2.2.2.2.2.2.1.2.2.2.2.2.2.2.2.2.2.2.2.2.2.2.2.2.2.2.2.2.2.2.2.1 k0_h474
theorem k0_t57_ok : ∀ (d0 : Dev nD) (v18 : BitVec 32) (k0_hw129 : k0_chk129 d0 v18), (k0_t57_loop d0 v18).OK := fun d0 v18 k0_hw129 => k0_hw129.2.2.2.2.2.2.2.2.2.2.1.2.2.2.2.2.2.2.2.2.2.2.2.2.2.2.2.2.2.2.2.2.2.2.2.2.1
theorem k0_mult413_dvd : ∀ (d0 : Dev nD) (v18 : BitVec 32) (k0_hw129 : k0_chk129 d0 v18) (k0_t57 : Fin (k0_t57_loop d0 v18).trips), 8 ∣ (k0_mult413 d0 v18 k0_t57).toNat := fun d0 v18 k0_hw129 k0_t57 => k0_hw129.2.2.2.2.2.2.2.2.2.2.1.2.2.2.2.2.2.2.2.2.2.2.2.2.2.2.2.2.2.2.2.2.2.2.2.2.2.1 k0_t57
theorem k0_off541_inb : ∀ (d0 : Dev nD) (v18 : BitVec 32) (k0_hw129 : k0_chk129 d0 v18) (k0_t57 : Fin (k0_t57_loop d0 v18).trips), ∀ a, (k0_off541 d0 v18 k0_t57) a + S64x128.size a ≤ S16384x128.size a := fun d0 v18 k0_hw129 k0_t57 => k0_hw129.2.2.2.2.2.2.2.2.2.2.1.2.2.2.2.2.2.2.2.2.2.2.2.2.2.2.2.2.2.2.2.2.2.2.2.2.2.2.1 k0_t57
theorem k0_mult414_dvd : ∀ (d0 : Dev nD) (v18 : BitVec 32) (k0_hw129 : k0_chk129 d0 v18) (k0_t57 : Fin (k0_t57_loop d0 v18).trips), 8 ∣ (k0_mult414 d0 v18 k0_t57).toNat := fun d0 v18 k0_hw129 k0_t57 => k0_hw129.2.2.2.2.2.2.2.2.2.2.1.2.2.2.2.2.2.2.2.2.2.2.2.2.2.2.2.2.2.2.2.2.2.2.2.2.2.2.2.1 k0_t57
theorem k0_off542_inb : ∀ (d0 : Dev nD) (v18 : BitVec 32) (k0_hw129 : k0_chk129 d0 v18) (k0_t57 : Fin (k0_t57_loop d0 v18).trips), ∀ a, (k0_off542 d0 v18 k0_t57) a + S8x1024.size a ≤ S2048x1024.size a := fun d0 v18 k0_hw129 k0_t57 => k0_hw129.2.2.2.2.2.2.2.2.2.2.1.2.2.2.2.2.2.2.2.2.2.2.2.2.2.2.2.2.2.2.2.2.2.2.2.2.2.2.2.2.1 k0_t57
theorem k0_t58_ok : ∀ (d0 : Dev nD) (v18 : BitVec 32) (k0_hw129 : k0_chk129 d0 v18), (k0_t58_loop d0 v18).OK := fun d0 v18 k0_hw129 => k0_hw129.2.2.2.2.2.2.2.2.2.2.1.2.2.2.2.2.2.2.2.2.2.2.2.2.2.2.2.2.2.2.2.2.2.2.2.2.2.2.2.2.2.1
theorem k0_mult415_dvd : ∀ (d0 : Dev nD) (v18 : BitVec 32) (k0_hw129 : k0_chk129 d0 v18) (k0_t58 : Fin (k0_t58_loop d0 v18).trips), 8 ∣ (k0_mult415 d0 v18 k0_t58).toNat := fun d0 v18 k0_hw129 k0_t58 => k0_hw129.2.2.2.2.2.2.2.2.2.2.1.2.2.2.2.2.2.2.2.2.2.2.2.2.2.2.2.2.2.2.2.2.2.2.2.2.2.2.2.2.2.2 k0_t58
theorem k0_off543_inb : ∀ (d0 : Dev nD) (v18 : BitVec 32) (k0_hw129 : k0_chk129 d0 v18) (k0_t58 : Fin (k0_t58_loop d0 v18).trips), ∀ a, (k0_off543 d0 v18 k0_t58) a + S64x128.size a ≤ S16384x128.size a := fun d0 v18 k0_hw129 k0_t58 => k0_hw129.2.2.2.2.2.2.2.2.2.2.2.1 k0_t58
theorem k0_mult416_dvd : ∀ (d0 : Dev nD) (v18 : BitVec 32) (k0_hw129 : k0_chk129 d0 v18) (k0_t58 : Fin (k0_t58_loop d0 v18).trips), 8 ∣ (k0_mult416 d0 v18 k0_t58).toNat := fun d0 v18 k0_hw129 k0_t58 => k0_hw129.2.2.2.2.2.2.2.2.2.2.2.2.1 k0_t58
theorem k0_off544_inb : ∀ (d0 : Dev nD) (v18 : BitVec 32) (k0_hw129 : k0_chk129 d0 v18) (k0_t58 : Fin (k0_t58_loop d0 v18).trips), ∀ a, (k0_off544 d0 v18 k0_t58) a + S8x1024.size a ≤ S2048x1024.size a := fun d0 v18 k0_hw129 k0_t58 => k0_hw129.2.2.2.2.2.2.2.2.2.2.2.2.2 k0_t58

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Base.lean ====
/-
The buffers of the kernel and what they are said to hold.

`X c` is device `c`'s block of `x`, `D c` its block of `dest` laid out as sixteen rows of 128 words. A row of
`x` is kept where its word of `dest` is the device's own place along the mesh axis `x`, and sent otherwise.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Mathlib.Data.Nat.Count

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU : Type := UR sig nD τ × UR sig nD τ

local notation "𝕄" => MT nD τ sig Unit (Elt F) ℕ UU ℕ

abbrev 𝒱₀ : Variants := Variants.none

/-- The contents of `x` and of `dest` (as words) a device starts from. -/
abbrev XBuf (F : FTy → Type) : Type := (cc0_stg0_0 : Ref sig .tc).ty.Contents (Elt F)
abbrev DBuf (F : FTy → Type) : Type := (cc0_stg1_0 : Ref sig .tc).ty.Contents (Elt F)

/-! ## The memrefs -/

abbrev xM : Memref sig .tc .vmem S2048x1024 .f32 := Memref.whole cc0_stg0_0
abbrev dM : Memref sig .tc .vmem S16x128 .i32 := Memref.whole cc0_stg1_0
abbrev oM : Memref sig .tc .vmem S2048x1024 .f32 := Memref.whole cc0_stg2_0
abbrev kM : Memref sig .tc .vmem S16384x128 .f32 := Memref.whole cc0_scratch0
abbrev sM : Memref sig .tc .vmem S17408x128 .f32 := Memref.whole cc0_scratch1
abbrev bsM : Memref sig .tc .vmem S17408x128 .bf16 := Memref.whole cc0_scratch2
abbrev brM : Memref sig .tc .vmem S16384x128 .bf16 := Memref.whole cc0_scratch3
abbrev wM : Memref sig .tc .smem S16x128 .i32 := Memref.whole cc0_scratch4

/-! ## The place along the mesh axis -/

/-- A device's place along the mesh axis `x`, and as the word the kernel computes. -/
def place (c : Dev nD) : ℕ := c.val / 16 % 2
def placeW (c : Dev nD) : BitVec 32 := Scalar.remsi (Scalar.divsi (Dev.word c) 16#32) 2#32

theorem place_lt (c : Dev nD) : place c < 2 := Nat.mod_lt _ (by decide)
theorem placeW_eq (c : Dev nD) : placeW c = BitVec.ofNat 32 (place c) := by revert c; decide +kernel

/-! ## Which rows are sent and which kept -/

/-- Word `p` of a device's `dest`. -/
def word (D : DBuf F) (p : ℕ) : BitVec 32 :=
  D (fun | 0 => ⟨p / 128 % 16, Nat.mod_lt _ (by decide)⟩ | 1 => ⟨p % 128, Nat.mod_lt _ (by decide)⟩)

/-- Entry `l` of row `p` of a device's `x`. -/
def entry (X : XBuf F) (p l : ℕ) : F .f32 :=
  X (fun | 0 => ⟨p % 2048, Nat.mod_lt _ (by decide)⟩ | 1 => ⟨l % 1024, Nat.mod_lt _ (by decide)⟩)

def Sent (D : DBuf F) (r : BitVec 32) (p : ℕ) : Prop := p < 2048 ∧ word D p ≠ r
def Kept (D : DBuf F) (r : BitVec 32) (p : ℕ) : Prop := p < 2048 ∧ word D p = r
instance (D : DBuf F) (r : BitVec 32) : DecidablePred (Sent D r) := fun _ => inferInstanceAs (Decidable (_ ∧ _))
instance (D : DBuf F) (r : BitVec 32) : DecidablePred (Kept D r) := fun _ => inferInstanceAs (Decidable (_ ∧ _))

/-- How many of the first `p` rows are sent, and kept. -/
def sCount (D : DBuf F) (r : BitVec 32) (p : ℕ) : ℕ := Nat.count (Sent D r) p
def kCount (D : DBuf F) (r : BitVec 32) (p : ℕ) : ℕ := Nat.count (Kept D r) p

/-- The number with `q` before it among those of which `P` holds. -/
def nthRow (P : ℕ → Prop) [DecidablePred P] (q : ℕ) : ℕ := Classical.epsilon fun p => P p ∧ Nat.count P p = q

theorem nthRow_count (P : ℕ → Prop) [DecidablePred P] {p : ℕ} (h : P p) : nthRow P (Nat.count P p) = p :=
  have hs := Classical.epsilon_spec (p := fun p' => P p' ∧ Nat.count P p' = Nat.count P p) ⟨p, h, rfl⟩
  Nat.count_injective hs.1 h hs.2

/-- The `q`-th row sent, and the `q`-th kept. -/
def sRow (D : DBuf F) (r : BitVec 32) (q : ℕ) : ℕ := nthRow (Sent D r) q
def kRow (D : DBuf F) (r : BitVec 32) (q : ℕ) : ℕ := nthRow (Kept D r) q

section Count
variable (D : DBuf F) (r : BitVec 32) (p : ℕ)

omit [FloatOps F] in
theorem sCount_zero : sCount D r 0 = 0 := Nat.count_zero _
omit [FloatOps F] in
theorem kCount_zero : kCount D r 0 = 0 := Nat.count_zero _

omit [FloatOps F] in
theorem sCount_sent (hp : p < 2048) (h : word D p ≠ r) : sCount D r (p + 1) = sCount D r p + 1 := by
  unfold sCount; rw [Nat.count_succ, if_pos ⟨hp, h⟩]
omit [FloatOps F] in
theorem sCount_kept (h : word D p = r) : sCount D r (p + 1) = sCount D r p := by
  unfold sCount; rw [Nat.count_succ, if_neg (fun h' => h'.2 h)]; rfl
omit [FloatOps F] in
theorem kCount_kept (hp : p < 2048) (h : word D p = r) : kCount D r (p + 1) = kCount D r p + 1 := by
  unfold kCount; rw [Nat.count_succ, if_pos ⟨hp, h⟩]
omit [FloatOps F] in
theorem kCount_sent (h : word D p ≠ r) : kCount D r (p + 1) = kCount D r p := by
  unfold kCount; rw [Nat.count_succ, if_neg (fun h' => h h'.2)]; rfl

omit [FloatOps F] in
theorem count_add (hp : p ≤ 2048) : sCount D r p + kCount D r p = p := by
  induction p with
  | zero => rw [sCount_zero, kCount_zero]
  | succ p ih =>
    have ih := ih (by omega)
    by_cases h : word D p = r
    · rw [sCount_kept D r p h, kCount_kept D r p (by omega) h]; omega
    · rw [sCount_sent D r p (by omega) h, kCount_sent D r p h]; omega

omit [FloatOps F] in
theorem sCount_mono {p q : ℕ} (h : p ≤ q) : sCount D r p ≤ sCount D r q := Nat.count_monotone _ h
omit [FloatOps F] in
theorem kCount_mono {p q : ℕ} (h : p ≤ q) : kCount D r p ≤ kCount D r q := Nat.count_monotone _ h

omit [FloatOps F] in
theorem sCount_le (hp : p ≤ 2048) : sCount D r p ≤ p := by have := count_add D r p hp; omega
omit [FloatOps F] in
theorem kCount_le (hp : p ≤ 2048) : kCount D r p ≤ p := by have := count_add D r p hp; omega

omit [FloatOps F] in
/-- A row sent is the one its count names. -/
theorem sRow_count (hp : p < 2048) (h : word D p ≠ r) : sRow D r (sCount D r p) = p := nthRow_count (Sent D r) ⟨hp, h⟩
omit [FloatOps F] in
theorem kRow_count (hp : p < 2048) (h : word D p = r) : kRow D r (kCount D r p) = p := nthRow_count (Kept D r) ⟨hp, h⟩

end Count

/-! ## The two packing buffers part way through -/

/-- Where the kept rows of device `c` start in its merge buffer. -/
def kBase (c : Dev nD) : ℕ := place c * 1024

abbrev SBuf (F : FTy → Type) : Type := (cc0_scratch1 : Ref sig .tc).ty.Contents (Elt F)
abbrev KBuf (F : FTy → Type) : Type := (cc0_scratch0 : Ref sig .tc).ty.Contents (Elt F)

/-- The send buffer's first `n` rows (of eight sublanes each) are the first `n` rows sent. -/
def SHolds (X : XBuf F) (D : DBuf F) (r : BitVec 32) (n : ℕ) (f : SBuf F) : Prop :=
  ∀ i : S17408x128.Idx, (i 0).val < 8 * n → f i = entry X (sRow D r ((i 0).val / 8)) (128 * ((i 0).val % 8) + (i 1).val)

/-- The merge buffer's `n` rows from `b` on are the first `n` rows kept. -/
def KHolds (X : XBuf F) (D : DBuf F) (r : BitVec 32) (b n : ℕ) (g : KBuf F) : Prop :=
  ∀ i : S16384x128.Idx, 8 * b ≤ (i 0).val → (i 0).val < 8 * (b + n) →
    g i = entry X (kRow D r ((i 0).val / 8 - b)) (128 * ((i 0).val % 8) + (i 1).val)

/-! ## The state a packing step is taken in -/

/-- The kernel's program at device `c`, run to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section State
variable (X : XBuf F) (D : DBuf F) (c : Dev nD)

def xHeld : sProp 𝕄 := ((c : Thread nD τ).loc cc0_stg0_0) ↦{fullShare} X
def wHeld : sProp 𝕄 := ((c : Thread nD τ).loc cc0_scratch4) ↦{fullShare} D
def sHeld (n : ℕ) : sProp 𝕄 :=
  iprop(∃ f : SBuf F, ⌜SHolds X D (placeW c) n f⌝ ∗ (((c : Thread nD τ).loc cc0_scratch1) ↦{fullShare} f))
def kHeld (n : ℕ) : sProp 𝕄 :=
  iprop(∃ g : KBuf F, ⌜KHolds X D (placeW c) (kBase c) n g⌝ ∗ (((c : Thread nD τ).loc cc0_scratch0) ↦{fullShare} g))

/-- The buffers of the packing loops with `n` rows sent and `k` kept, beside whatever else is held. -/
def Packing (n k : ℕ) (R : sProp 𝕄) : sProp 𝕄 :=
  iprop(xHeld X c ∗ wHeld D c ∗ sHeld X D c n ∗ kHeld X D c k ∗ R)

end State

end Cert.A2A

end
-- ==== Proof.Words.lean ====
/-
The words a packing step computes: its two conditions, its two running counts, and the offsets of its stores.
-/
module

public import proofs.«01_k».proof.Proof.Base

@[expose] public section

noncomputable section

namespace Cert.A2A

open Cert.KernelIdeal Cert.KernelIdeal.Gen
open Idealize.ShloMosaic

variable {F : FTy → Type}

/-! ## The words a step computes -/

theorem toNat_ofNat {n : ℕ} (h : n < 2 ^ 32) : (BitVec.ofNat 32 n).toNat = n := by
  rw [BitVec.toNat_ofNat]; exact Nat.mod_eq_of_lt h

section Words
variable (D : DBuf F) (c : Dev nD)

/-- Whether a word sends its row, and whether it keeps it, as the kernel's conditions. -/
def sCond (v : BitVec 32) : BitVec 1 := Scalar.cmpi .ne (Scalar.extui (Scalar.cmpi .ne v (placeW c))) 0#32
def kCond (v : BitVec 32) : BitVec 1 :=
  Scalar.cmpi .ne (Scalar.extui (Scalar.xori (Scalar.cmpi .ne v (placeW c)) 1#1)) 0#32

theorem ne_word (v w : BitVec 32) : Scalar.cmpi .ne v w = if v = w then 0#1 else 1#1 := by
  by_cases h : v = w
  · subst h; simp [Scalar.cmpi, IntOp.cmpi]
  · rw [if_neg h]; show BitVec.ofBool (v != w) = 1#1; rw [bne_iff_ne.mpr h]; rfl

theorem sCond_iff (v : BitVec 32) : sCond c v = 1#1 ↔ v ≠ placeW c := by
  unfold sCond; rw [ne_word v]; by_cases h : v = placeW c
  · rw [if_pos h]; simp [h, Scalar.cmpi, Scalar.extui, IntOp.cmpi]
  · rw [if_neg h]; simp [h, Scalar.cmpi, Scalar.extui, IntOp.cmpi]

theorem kCond_iff (v : BitVec 32) : kCond c v = 1#1 ↔ v = placeW c := by
  unfold kCond; rw [ne_word v]; by_cases h : v = placeW c
  · rw [if_pos h]; simp [h, Scalar.cmpi, Scalar.extui, Scalar.xori, IntOp.xori, IntOp.cmpi]
  · rw [if_neg h]; simp [h, Scalar.cmpi, Scalar.extui, Scalar.xori, IntOp.xori, IntOp.cmpi]

variable {D c} {p : ℕ} {a k : BitVec 32}

theorem carry_s (hp : p < 2048) (ha : a = BitVec.ofNat 32 (sCount D (placeW c) p)) :
    Scalar.addi a (Scalar.extui (Scalar.cmpi .ne (word D p) (placeW c))) = BitVec.ofNat 32 (sCount D (placeW c) (p + 1)) := by
  rw [ne_word]; by_cases h : word D p = placeW c
  · rw [if_pos h, sCount_kept _ _ _ h, ha]; simp [Scalar.addi, IntOp.addi, Scalar.extui]
  · rw [if_neg h, sCount_sent _ _ _ hp h, ha]; simp [Scalar.addi, IntOp.addi, Scalar.extui, BitVec.ofNat_add]

theorem carry_k (hp : p < 2048) (hk : k = BitVec.ofNat 32 (kCount D (placeW c) p)) :
    Scalar.subi (Scalar.addi k 1#32) (Scalar.extui (Scalar.cmpi .ne (word D p) (placeW c)))
      = BitVec.ofNat 32 (kCount D (placeW c) (p + 1)) := by
  rw [ne_word]; by_cases h : word D p = placeW c
  · rw [if_pos h, kCount_kept _ _ _ hp h, hk]; simp [Scalar.addi, Scalar.subi, IntOp.addi, IntOp.subi, Scalar.extui, BitVec.ofNat_add]
  · rw [if_neg h, kCount_sent _ _ _ h, hk]; exact BitVec.add_sub_cancel _ _

theorem off_s {n : ℕ} (hn : n ≤ 2048) (ha : a = BitVec.ofNat 32 n) :
    (![(Scalar.indexCast (Scalar.muli a 8#32)).toNat, 0] : Fin 2 → ℕ) = ![8 * n, 0] := by
  subst ha
  have : (Scalar.indexCast (Scalar.muli (BitVec.ofNat 32 n) 8#32)).toNat = 8 * n := by
    simp only [Scalar.indexCast, Scalar.muli, IntOp.muli, IntOp.addi, BitVec.toNat_mul, BitVec.toNat_ofNat]; omega
  rw [this]

theorem off_k {n : ℕ} (hn : n ≤ 1024) (hk : k = BitVec.ofNat 32 n) :
    (![(Scalar.indexCast (Scalar.muli (Scalar.addi (Scalar.muli (placeW c) 1024#32) k) 8#32)).toNat, 0] : Fin 2 → ℕ)
      = ![8 * (kBase c + n), 0] := by
  subst hk
  have h2 := place_lt c
  have : (Scalar.indexCast (Scalar.muli (Scalar.addi (Scalar.muli (placeW c) 1024#32) (BitVec.ofNat 32 n)) 8#32)).toNat = 8 * (kBase c + n) := by
    rw [placeW_eq]; unfold kBase
    simp only [Scalar.indexCast, Scalar.muli, IntOp.muli, IntOp.addi, Scalar.addi, BitVec.toNat_mul, BitVec.toNat_add, BitVec.toNat_ofNat]; omega
  rw [this]

/-- What the kernel assumes of a word it has read, at the running counts `a` and `k`. -/
def RowOk (c : Dev nD) (a k v : BitVec 32) : Prop :=
    (∀ _ : sCond c v = 1#1, 8 ∣ (Scalar.muli a 8#32).toNat)
      ∧ (∀ _ : sCond c v = 1#1, ∀ x, (![(Scalar.indexCast (Scalar.muli a 8#32)).toNat, 0] : Fin 2 → ℕ) x + S8x128.size x ≤ S17408x128.size x)
      ∧ (∀ _ : kCond c v = 1#1, 8 ∣ (Scalar.muli (Scalar.addi (Scalar.muli (placeW c) 1024#32) k) 8#32).toNat)
      ∧ (∀ _ : kCond c v = 1#1, ∀ x,
          (![(Scalar.indexCast (Scalar.muli (Scalar.addi (Scalar.muli (placeW c) 1024#32) k) 8#32)).toNat, 0] : Fin 2 → ℕ) x + S8x128.size x ≤ S16384x128.size x)

/-- What the kernel assumes once it has read row `p`'s word. -/
theorem row_ok {n m : ℕ} (hn : n ≤ 2048) (hm : m ≤ 1024) (hk1 : word D p = placeW c → m < 1024)
    (ha : a = BitVec.ofNat 32 n) (hk : k = BitVec.ofNat 32 m) :
    RowOk c a k (word D p) := by
  have h2 := place_lt c
  refine ⟨fun _ => ?_, fun _ x => ?_, fun _ => ?_, fun h x => ?_⟩
  · subst ha; simp only [Scalar.muli, IntOp.muli, IntOp.addi, BitVec.toNat_mul, BitVec.toNat_ofNat]; omega
  · rw [off_s hn ha]; fin_cases x
    · show 8 * n + 8 ≤ 17408; omega
    · show 0 + 128 ≤ 128; omega
  · subst hk; rw [placeW_eq]
    simp only [Scalar.muli, IntOp.muli, IntOp.addi, Scalar.addi, BitVec.toNat_mul, BitVec.toNat_add, BitVec.toNat_ofNat]; omega
  · have := hk1 ((kCond_iff c _).mp h)
    rw [off_k hm hk]; fin_cases x
    · show 8 * (kBase c + m) + 8 ≤ 16384; unfold kBase; omega
    · show 0 + 128 ≤ 128; omega

/-- Word `p` of `dest`, for `p` row `j` of trip `t` of loop `b`, is at row `b`. -/
theorem off_w {b t j p : ℕ} (ht : t < 16) (hj : j < 8) (hp : p = 128 * b + 8 * t + j) :
    (![b, (Scalar.indexCast (Scalar.addi (Scalar.muli (Scf.iv 0#32 1#32 t) 8#32) (BitVec.ofNat 32 j))).toNat] : Fin 2 → ℕ)
      = ![p / 128, p % 128] := by
  have h1 : (Scalar.indexCast (Scalar.addi (Scalar.muli (Scf.iv 0#32 1#32 t) 8#32) (BitVec.ofNat 32 j))).toNat = p % 128 := by
    simp only [Scalar.indexCast, Scalar.muli, Scalar.addi, IntOp.muli, IntOp.addi, Scf.iv, BitVec.toNat_mul, BitVec.toNat_add, BitVec.toNat_ofNat]; omega
  rw [h1, show p / 128 = b by omega]

/-- The eight rows of trip `t` of the loop that starts at row `s`. -/
theorem off_x {s t p : ℕ} (ht : t < 16) (hs : s < 2048) (hp : p = s + 8 * t) :
    (![(Scalar.indexCast (Scalar.addi (BitVec.ofNat 32 s) (Scalar.muli (Scf.iv 0#32 1#32 t) 8#32))).toNat, 0] : Fin 2 → ℕ) = ![p, 0] := by
  have h1 : (Scalar.indexCast (Scalar.addi (BitVec.ofNat 32 s) (Scalar.muli (Scf.iv 0#32 1#32 t) 8#32))).toNat = p := by
    simp only [Scalar.indexCast, Scalar.muli, Scalar.addi, IntOp.muli, IntOp.addi, Scf.iv, BitVec.toNat_mul, BitVec.toNat_add, BitVec.toNat_ofNat]; omega
  rw [h1]

end Words

end Cert.A2A

end
-- ==== Proof.Steps.lean ====
/-
The steps of a packing loop: loading eight rows of `x`, reading a word of `dest`, storing a row sent or a row
kept. Each takes the state before it to the state after it.
-/
module

public import proofs.«01_k».proof.Proof.Words
public import Idealize.ShloMosaic.Lib.Pipeline.Value

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Blocks of a buffer -/

omit [FloatOps F] in
/-- Reading a block of a whole buffer. -/
theorem read_block (b : Ref sig .tc) {off size : Fin b.ty.shape.rank → ℕ} (inb : ∀ a, off a + size a ≤ b.ty.shape.size a)
    (f : b.ty.Contents (Elt F)) (y : (Rect.unit (s := b.ty.shape) off size inb).shape.Idx) :
    (Memref.whole b).view.readAt (Elt F) (Rect.unit off size inb).toLoadRect f y
      = f fun a => ⟨off a + (y a).val, Nat.lt_of_lt_of_le (Nat.add_lt_add_left (y a).isLt _) (inb a)⟩ := by
  show f ((Rect.unit off size inb).toLoadRect.idx y) = _
  congr 1; funext a; apply Fin.ext
  show off a + 1 * (y a).val = off a + (y a).val
  rw [Nat.one_mul]

omit [FloatOps F] in
/-- After a block is stored, an element of it is the one stored. -/
theorem write_block_mem (b : Ref sig .tc) {off size : Fin b.ty.shape.rank → ℕ} (inb : ∀ a, off a + size a ≤ b.ty.shape.size a)
    (f : b.ty.Contents (Elt F)) (w : (Rect.unit (s := b.ty.shape) off size inb).shape.Idx → Elt F b.ty.elt) (i : b.ty.Idx)
    (y : (Rect.unit (s := b.ty.shape) off size inb).shape.Idx) (hy : ∀ a, (i a).val = off a + (y a).val) :
    ((Memref.whole b).access (Rect.unit off size inb) : View sig .tc _ _ _).write (Elt F) f w Finset.univ i = w y := by
  have hi : i = ((Memref.whole b).access (Rect.unit off size inb) : View sig .tc _ _ _).emb y := by
    funext a; apply Fin.ext; rw [hy a]
    show off a + (y a).val = off a + 1 * (y a).val
    rw [Nat.one_mul]
  rw [hi]
  exact View.write_emb_of_mem (v := ((Memref.whole b).access (Rect.unit off size inb) : View sig .tc _ _ _)) f w (Finset.mem_univ y)

omit [FloatOps F] in
/-- After a block is stored, an element outside it is unchanged. -/
theorem write_block_not (b : Ref sig .tc) {off size : Fin b.ty.shape.rank → ℕ} (inb : ∀ a, off a + size a ≤ b.ty.shape.size a)
    (f : b.ty.Contents (Elt F)) (w : (Rect.unit (s := b.ty.shape) off size inb).shape.Idx → Elt F b.ty.elt) (i : b.ty.Idx)
    (a : Fin b.ty.shape.rank) (ha : (i a).val < off a ∨ off a + size a ≤ (i a).val) :
    ((Memref.whole b).access (Rect.unit off size inb) : View sig .tc _ _ _).write (Elt F) f w Finset.univ i = f i := by
  apply View.write_of_not_mem
  intro h
  have h := View.setOn_subset_set _ _ h
  rw [show ((Memref.whole b).access (Rect.unit off size inb) : View sig .tc _ _ _).set = (Rect.unit off size inb).set from View.set_slice_whole b _] at h
  have := Rect.mem_set_unit.mp h a
  omega

/-! ## The rows of `x` -/

/-- Eight rows of `x` from row `p` on. -/
def rows (X : XBuf F) (p : ℕ) : FVec F S8x1024 .f32 := fun i => entry X (p + (i 0).val) (i 1).val

omit [FloatOps F] in
theorem entry_at (X : XBuf F) (i : S2048x1024.Idx) : X i = entry X (i 0).val (i 1).val := by
  unfold entry; congr 1; funext a; fin_cases a
  · exact Fin.ext (Nat.mod_eq_of_lt (i 0).isLt).symm
  · exact Fin.ext (Nat.mod_eq_of_lt (i 1).isLt).symm

omit [FloatOps F] in
/-- Eight sublanes, from the `o`-th on, of the eight rows read as 64 are row `p + o / 8`. -/
theorem row_val (X : XBuf F) (p : ℕ) {o : ℕ} {h1 h2 h3 h4} (y : S8x128.Idx) (ho : 8 ∣ o := by decide) :
    shapeCast S8x128 (extractStridedSlice S8x128 ![o, 0] (shapeCast S64x128 (shapeCast S8x1024 (rows X p) h1) h2) h3) h4 y
      = entry X (p + o / 8) (128 * (y 0).val + (y 1).val) := by
  have h0 : (y 0).val < 8 := (y 0).isLt
  have h1 : (y 1).val < 128 := (y 1).isLt
  have hs : o + 8 ≤ 64 := h3.2 0
  rw [shapeCast_self, shapeCast_self]
  unfold extractStridedSlice shapeCast
  rw [Shape.reshapeEquiv_eq_of_rowMajor (y := (fun | 0 => ⟨o / 8, by show _ < 8; omega⟩ | 1 => ⟨128 * (y 0).val + (y 1).val, by show _ < 1024; omega⟩ : S8x1024.Idx))]
  · rfl
  · rw [Shape.rowMajor_val_two, Shape.rowMajor_val_two]
    show o / 8 * 1024 + (128 * (y 0).val + (y 1).val) = (o + (y 0).val) * 128 + (0 + (y 1).val)
    omega

/-! ## A row stored -/

section Stored
variable {X : XBuf F} {D : DBuf F} {r : BitVec 32} {p : ℕ} {w : FVec F S8x128 .f32}

omit [FloatOps F] in
theorem sHolds_store {f : SBuf F} {off : Fin 2 → ℕ} (inb : ∀ a, off a + S8x128.size a ≤ S17408x128.size a)
    (hp : p < 2048) (h : word D p ≠ r) (ho : off = ![8 * sCount D r p, 0]) (hw : ∀ y, w y = entry X p (128 * (y 0).val + (y 1).val))
    (hf : SHolds X D r (sCount D r p) f) :
    SHolds X D r (sCount D r (p + 1)) ((sM.access (Rect.unit (s := S17408x128) off S8x128.size inb) : View sig .tc _ _ _).write (Elt F) f w Finset.univ) := by
  subst ho
  intro i hi
  rw [sCount_sent D r p hp h] at hi
  have h1 : (i 1).val < 128 := (i 1).isLt
  by_cases hlt : (i 0).val < 8 * sCount D r p
  · rw [write_block_not cc0_scratch1 inb f w i 0 (.inl hlt)]
    exact hf i hlt
  · rw [write_block_mem cc0_scratch1 inb f w i (fun | 0 => ⟨(i 0).val - 8 * sCount D r p, by show _ < 8; omega⟩ | 1 => ⟨(i 1).val, h1⟩)
      (fun a => by fin_cases a
                   · show (i 0).val = 8 * sCount D r p + ((i 0).val - 8 * sCount D r p); omega
                   · show (i 1).val = 0 + (i 1).val; omega)]
    rw [show (i 0).val / 8 = sCount D r p by omega, sRow_count D r p hp h]
    refine (hw _).trans ?_
    show entry X p (128 * ((i 0).val - 8 * sCount D r p) + (i 1).val) = _
    rw [show (i 0).val - 8 * sCount D r p = (i 0).val % 8 by omega]

omit [FloatOps F] in
theorem kHolds_store {b : ℕ} {g : KBuf F} {off : Fin 2 → ℕ} (inb : ∀ a, off a + S8x128.size a ≤ S16384x128.size a)
    (hp : p < 2048) (h : word D p = r) (ho : off = ![8 * (b + kCount D r p), 0]) (hw : ∀ y, w y = entry X p (128 * (y 0).val + (y 1).val))
    (hg : KHolds X D r b (kCount D r p) g) :
    KHolds X D r b (kCount D r (p + 1)) ((kM.access (Rect.unit (s := S16384x128) off S8x128.size inb) : View sig .tc _ _ _).write (Elt F) g w Finset.univ) := by
  subst ho
  intro i hb hi
  rw [kCount_kept D r p hp h] at hi
  have h1 : (i 1).val < 128 := (i 1).isLt
  by_cases hlt : (i 0).val < 8 * (b + kCount D r p)
  · rw [write_block_not cc0_scratch0 inb g w i 0 (.inl hlt)]
    exact hg i hb hlt
  · rw [write_block_mem cc0_scratch0 inb g w i (fun | 0 => ⟨(i 0).val - 8 * (b + kCount D r p), by show _ < 8; omega⟩ | 1 => ⟨(i 1).val, h1⟩)
      (fun a => by fin_cases a
                   · show (i 0).val = 8 * (b + kCount D r p) + ((i 0).val - 8 * (b + kCount D r p)); omega
                   · show (i 1).val = 0 + (i 1).val; omega)]
    rw [show (i 0).val / 8 - b = kCount D r p by omega, kRow_count D r p hp h]
    refine (hw _).trans ?_
    show entry X p (128 * ((i 0).val - 8 * (b + kCount D r p)) + (i 1).val) = _
    rw [show (i 0).val - 8 * (b + kCount D r p) = (i 0).val % 8 by omega]

end Stored

/-! ## The steps -/

section Steps
variable {X : XBuf F} {D : DBuf F} {c : Dev nD} {n k : ℕ} {α : Type}

omit [FloatOps F] in
theorem rows_read {off : Fin 2 → ℕ} (inb : ∀ a, off a + S8x1024.size a ≤ S2048x1024.size a) (p : ℕ) (ho : off = ![p, 0]) (X : XBuf F) :
    xM.view.readAt (Elt F) (Rect.unit (s := S2048x1024) off S8x1024.size inb).toLoadRect X = rows X p := by
  subst ho
  funext y
  rw [read_block cc0_stg0_0 inb X y]
  refine (entry_at X _).trans ?_
  show entry X (p + (y 0).val) (0 + (y 1).val) = entry X (p + (y 0).val) (y 1).val
  rw [Nat.zero_add]

omit [FloatOps F] in
theorem word_read {off : Fin 2 → ℕ} (inb : ∀ a, off a + S1x1.size a ≤ S16x128.size a) (p : ℕ) (hp : p < 2048) (ho : off = ![p / 128, p % 128])
    (D : DBuf F) (x : S1x1.Idx) :
    ((wM.access (Rect.unit (s := S16x128) off S1x1.size inb) : View sig .tc _ _ _).read (Elt F) D x : BitVec 32) = word D p := by
  subst ho
  have h0 : (x 0).val < 1 := (x 0).isLt
  have h1 : (x 1).val < 1 := (x 1).isLt
  refine (read_block cc0_scratch4 inb D x).trans ?_
  unfold word; congr 1; funext a; apply Fin.ext; fin_cases a
  · show p / 128 + (x 0).val = p / 128 % 16; omega
  · show p % 128 + (x 1).val = p % 128; omega

/-- Eight rows of `x` are loaded. -/
theorem step_rows {R : sProp 𝕄} {Q : α → sProp 𝕄} {off : Fin 2 → ℕ} {hi hl}
    {K : ((Rect.unit (s := S2048x1024) off S8x1024.size hi).toLoadRect.shape.Idx → Elt F .f32) → Prog (TpuEff nD τ sig (Elt F) Λ₀ .tc) α}
    (p : ℕ) (ho : off = ![p, 0]) (h : Packing X D c n k R ⊢ WP c (K (rows X p)) Q) :
    Packing X D c n k R ⊢ WP c (Prog.lift (.load (p := Proc.tc) (cs := .vmem) xM (Rect.unit (s := S2048x1024) off S8x1024.size hi).toLoadRect hl) >>= K) Q := by
  simp only [Prog.lift, Prog.bind_op, Prog.bind_ret]
  unfold Packing xHeld wHeld sHeld kHeld
  iintro ⟨Hx, Hw, ⟨%f, %hf, Hs⟩, ⟨%g, %hg, Hk⟩, HR⟩
  iapply (wp_load 𝒱₀ (c : Thread nD τ) none Set.univ (m := xM) (S := Finset.univ) (Finset.subset_univ _)) $$ Hx
  iintro Hx
  rw [rows_read hi p ho]
  iapply h
  unfold Packing xHeld wHeld sHeld kHeld
  isplitl [Hx]; · iexact Hx
  isplitl [Hw]; · iexact Hw
  isplitl [Hs]
  · iexists f; isplitr
    · ipureintro; exact hf
    iexact Hs
  isplitl [Hk]
  · iexists g; isplitr
    · ipureintro; exact hg
    iexact Hk
  iexact HR

/-- Row `p`'s word of `dest` is read, and what the kernel assumes of it holds. -/
theorem step_word {R : sProp 𝕄} {Q : α → sProp 𝕄} {off : Fin 2 → ℕ} {hi} {h1 hp1} {P : BitVec 32 → Prop} {dec : ∀ v, Decidable (P v)}
    {K : (v : BitVec 32) → PLift (P v) → Prog (TpuEff nD τ sig (Elt F) Λ₀ .tc) α}
    {p : ℕ} {a b : BitVec 32} (hbal : kCount D (placeW c) 2048 = 1024) (hP : P = RowOk c a b) (hp : p < 2048)
    (ho : off = ![p / 128, p % 128]) (ha : a = BitVec.ofNat 32 (sCount D (placeW c) p)) (hb : b = BitVec.ofNat 32 (kCount D (placeW c) p))
    (h : ∀ hP : P (word D p),
      Scalar.addi a (Scalar.extui (Scalar.cmpi .ne (word D p) (placeW c))) = BitVec.ofNat 32 (sCount D (placeW c) (p + 1)) →
      Scalar.subi (Scalar.addi b 1#32) (Scalar.extui (Scalar.cmpi .ne (word D p) (placeW c))) = BitVec.ofNat 32 (kCount D (placeW c) (p + 1)) →
      (Packing X D c (sCount D (placeW c) p) (kCount D (placeW c) p) R ⊢ WP c (K (word D p) ⟨hP⟩) Q)) :
    Packing X D c (sCount D (placeW c) p) (kCount D (placeW c) p) R ⊢ WP c (smemLoad wM (Rect.unit (s := S16x128) off S1x1.size hi) h1 hp1 >>= fun v =>
      Prog.lift (.assume (P v) (dec v)) >>= fun h => K v h) Q := by
  have hP : P (word D p) := by
    subst hP
    have hm := kCount_mono D (placeW c) (show p + 1 ≤ 2048 by omega)
    have hm' := kCount_mono D (placeW c) (show p ≤ 2048 by omega)
    exact row_ok ((sCount_le D _ p (by omega)).trans hp.le) (by omega) (fun he => by rw [kCount_kept _ _ _ hp he] at hm; omega) ha hb
  have h := h hP (carry_s hp ha) (carry_k hp hb)
  simp only [smemLoad, smemLoadElt, Prog.lift, Prog.bind_op, Prog.bind_ret]
  unfold Packing xHeld wHeld sHeld kHeld
  iintro ⟨Hx, Hw, ⟨%f, %hf, Hs⟩, ⟨%g, %hg, Hk⟩, HR⟩
  iapply (wp_load_rect 𝒱₀ (c : Thread nD τ) none Set.univ (m := wM) (r := Rect.unit (s := S16x128) off S1x1.size hi) (S := Finset.univ) (Finset.subset_univ _)) $$ Hw
  iintro Hw
  rw [word_read hi p hp ho]
  iapply (wp_assume 𝒱₀ (c : Thread nD τ) none Set.univ hP)
  iapply h
  unfold Packing xHeld wHeld sHeld kHeld
  isplitl [Hx]; · iexact Hx
  isplitl [Hw]; · iexact Hw
  isplitl [Hs]
  · iexists f; isplitr
    · ipureintro; exact hf
    iexact Hs
  isplitl [Hk]
  · iexists g; isplitr
    · ipureintro; exact hg
    iexact Hk
  iexact HR

/-- Where row `p` is sent, it is stored next in the send buffer. -/
theorem step_sent {R : sProp 𝕄} {Q : α → sProp 𝕄} {C : BitVec 1} {dC : Decidable (C = 1#1)} {off : Fin 2 → ℕ} {w : FVec F S8x128 .f32}
    {hi : C = 1#1 → ∀ a, off a + S8x128.size a ≤ S17408x128.size a}
    {hl : ∀ h : C = 1#1, sM.view.LoadsAt (Rect.unit (s := S17408x128) off S8x128.size (hi h)).toLoadRect}
    {hs1 : ∀ h : C = 1#1, (sM.access (Rect.unit (s := S17408x128) off S8x128.size (hi h))).Stores Finset.univ}
    {hs2 : ∀ h : C = 1#1, (Finset.univ : Finset (Rect.unit (s := S17408x128) off S8x128.size (hi h)).shape.Idx) = Finset.univ ∨ ∀ a, (Rect.unit (s := S17408x128) off S8x128.size (hi h)).stride a = 1}
    {K : Prog (TpuEff nD τ sig (Elt F) Λ₀ .tc) α}
    {p : ℕ} {a : BitVec 32} (hC : C = sCond c (word D p)) (ho : off = ![(Scalar.indexCast (Scalar.muli a 8#32)).toNat, 0])
    (hp : p < 2048) (ha : a = BitVec.ofNat 32 (sCount D (placeW c) p))
    (hw : ∀ y, w y = entry X p (128 * (y 0).val + (y 1).val))
    (h : Packing X D c (sCount D (placeW c) (p + 1)) k R ⊢ WP c K Q) :
    Packing X D c (sCount D (placeW c) p) k R ⊢ WP c (dite (C = 1#1)
      (fun h => Prog.lift (.load (p := Proc.tc) (cs := .vmem) sM (Rect.unit (s := S17408x128) off S8x128.size (hi h)).toLoadRect (hl h)) >>= fun _ =>
        Prog.lift (.store (p := Proc.tc) (cs := .vmem) sM (Rect.unit (s := S17408x128) off S8x128.size (hi h)) w Finset.univ (hs1 h) (hs2 h)) >>= fun _ => K)
      (fun _ => K)) Q := by
  subst hC
  have ho := ho.trans (off_s ((sCount_le D _ p (by omega)).trans hp.le) ha)
  by_cases hc : sCond c (word D p) = 1#1
  · rw [dif_pos hc]
    have hne := (sCond_iff c _).mp hc
    simp only [Prog.lift, Prog.bind_op, Prog.bind_ret]
    unfold Packing xHeld wHeld sHeld kHeld
    iintro ⟨Hx, Hw, ⟨%f, %hf, Hs⟩, ⟨%g, %hg, Hk⟩, HR⟩
    iapply (wp_load 𝒱₀ (c : Thread nD τ) none Set.univ (m := sM) (S := Finset.univ) (Finset.subset_univ _)) $$ Hs
    iintro Hs
    iapply (wp_store 𝒱₀ (c : Thread nD τ) none Set.univ (m := sM) (r := Rect.unit (s := S17408x128) off S8x128.size (hi hc)) (Mk := Finset.univ) (S := Finset.univ) (Finset.subset_univ _)) $$ Hs
    iintro Hs
    iapply h
    unfold Packing xHeld wHeld sHeld kHeld
    isplitl [Hx]; · iexact Hx
    isplitl [Hw]; · iexact Hw
    isplitl [Hs]
    · iexists _; isplitr
      · ipureintro; exact (sHolds_store (hi hc) hp hne ho hw hf)
      iexact Hs
    isplitl [Hk]
    · iexists g; isplitr
      · ipureintro; exact hg
      iexact Hk
    iexact HR
  · rw [dif_neg hc]
    have he := Classical.not_not.mp (fun h' => hc ((sCond_iff c _).mpr h'))
    rw [sCount_kept _ _ _ he] at h
    exact h

/-- Where row `p` is kept, it is stored next in the merge buffer. -/
theorem step_kept {R : sProp 𝕄} {Q : α → sProp 𝕄} {C : BitVec 1} {dC : Decidable (C = 1#1)} {off : Fin 2 → ℕ} {w : FVec F S8x128 .f32}
    {hi : C = 1#1 → ∀ a, off a + S8x128.size a ≤ S16384x128.size a}
    {hl : ∀ h : C = 1#1, kM.view.LoadsAt (Rect.unit (s := S16384x128) off S8x128.size (hi h)).toLoadRect}
    {hs1 : ∀ h : C = 1#1, (kM.access (Rect.unit (s := S16384x128) off S8x128.size (hi h))).Stores Finset.univ}
    {hs2 : ∀ h : C = 1#1, (Finset.univ : Finset (Rect.unit (s := S16384x128) off S8x128.size (hi h)).shape.Idx) = Finset.univ ∨ ∀ a, (Rect.unit (s := S16384x128) off S8x128.size (hi h)).stride a = 1}
    {K : Prog (TpuEff nD τ sig (Elt F) Λ₀ .tc) α}
    {p : ℕ} {b : BitVec 32} (hbal : kCount D (placeW c) 2048 = 1024) (hC : C = kCond c (word D p))
    (ho : off = ![(Scalar.indexCast (Scalar.muli (Scalar.addi (Scalar.muli (placeW c) 1024#32) b) 8#32)).toNat, 0])
    (hp : p < 2048) (hb : b = BitVec.ofNat 32 (kCount D (placeW c) p))
    (hw : ∀ y, w y = entry X p (128 * (y 0).val + (y 1).val))
    (h : Packing X D c n (kCount D (placeW c) (p + 1)) R ⊢ WP c K Q) :
    Packing X D c n (kCount D (placeW c) p) R ⊢ WP c (dite (C = 1#1)
      (fun h => Prog.lift (.load (p := Proc.tc) (cs := .vmem) kM (Rect.unit (s := S16384x128) off S8x128.size (hi h)).toLoadRect (hl h)) >>= fun _ =>
        Prog.lift (.store (p := Proc.tc) (cs := .vmem) kM (Rect.unit (s := S16384x128) off S8x128.size (hi h)) w Finset.univ (hs1 h) (hs2 h)) >>= fun _ => K)
      (fun _ => K)) Q := by
  subst hC
  have ho := ho.trans (off_k (by have := kCount_mono D (placeW c) (show p ≤ 2048 by omega); omega) hb)
  by_cases hc : kCond c (word D p) = 1#1
  · rw [dif_pos hc]
    have hne := (kCond_iff c _).mp hc
    simp only [Prog.lift, Prog.bind_op, Prog.bind_ret]
    unfold Packing xHeld wHeld sHeld kHeld
    iintro ⟨Hx, Hw, ⟨%f, %hf, Hs⟩, ⟨%g, %hg, Hk⟩, HR⟩
    iapply (wp_load 𝒱₀ (c : Thread nD τ) none Set.univ (m := kM) (S := Finset.univ) (Finset.subset_univ _)) $$ Hk
    iintro Hk
    iapply (wp_store 𝒱₀ (c : Thread nD τ) none Set.univ (m := kM) (r := Rect.unit (s := S16384x128) off S8x128.size (hi hc)) (Mk := Finset.univ) (S := Finset.univ) (Finset.subset_univ _)) $$ Hk
    iintro Hk
    iapply h
    unfold Packing xHeld wHeld sHeld kHeld
    isplitl [Hx]; · iexact Hx
    isplitl [Hw]; · iexact Hw
    isplitl [Hs]
    · iexists f; isplitr
      · ipureintro; exact hf
      iexact Hs
    isplitl [Hk]
    · iexists _; isplitr
      · ipureintro; exact (kHolds_store (hi hc) hp hne ho hw hg)
      iexact Hk
    iexact HR
  · rw [dif_neg hc]
    have he := fun h' => hc ((kCond_iff c _).mpr h')
    rw [kCount_sent _ _ _ he] at h
    exact h

omit [FloatOps F] in
theorem carry_congr {p q : ℕ} {f : ℕ → ℕ} {a : BitVec 32} (ha : a = BitVec.ofNat 32 (f p)) (h : p = q) : a = BitVec.ofNat 32 (f q) := h ▸ ha

/-- A program's first part is run alone. -/
theorem step_bind {P : sProp 𝕄} {β : Type} {Q : β → sProp 𝕄} {p : Prog (TpuEff nD τ sig (Elt F) Λ₀ .tc) α} {K : α → Prog (TpuEff nD τ sig (Elt F) Λ₀ .tc) β}
    (h : P ⊢ WP c p (fun a => WP c (K a) Q)) : P ⊢ WP c (p >>= K) Q := by
  show P ⊢ wp _ _ _ _ _
  rw [wp_bind]; exact h

/-- A part's result is handed on. -/
theorem step_pure {P : sProp 𝕄} {Q : α → sProp 𝕄} {a : α} (h : P ⊢ Q a) : P ⊢ WP c (pure a) Q := by
  show P ⊢ wp _ _ _ _ _
  rw [wp_pure]
  iintro HP
  imodintro
  iapply h; iexact HP

/-- A trip of a packing loop ends with the counts of the rows before the next. -/
theorem step_trip {R : sProp 𝕄} {p q : ℕ} {a b : BitVec 32} (ha : a = BitVec.ofNat 32 (sCount D (placeW c) p)) (hb : b = BitVec.ofNat 32 (kCount D (placeW c) p))
    (hq : p = q) :
    Packing X D c (sCount D (placeW c) p) (kCount D (placeW c) p) R ⊢ WP c (pure (a, b)) fun r =>
      iprop(⌜r = (BitVec.ofNat 32 (sCount D (placeW c) q), BitVec.ofNat 32 (kCount D (placeW c) q))⌝
        ∗ Packing X D c (sCount D (placeW c) q) (kCount D (placeW c) q) R) := by
  subst hq; subst ha; subst hb
  refine step_pure ?_
  iintro H
  isplitr
  · ipureintro; rfl
  iexact H

/-- A packing loop over the 128 rows from row `s` on. -/
theorem step_pack {R : sProp 𝕄} {Q : α → sProp 𝕄} {l : Scf.Loop 32} {hok : l.OK} {body : Fin l.trips → BitVec 32 × BitVec 32 → Prog (TpuEff nD τ sig (Elt F) Λ₀ .tc) (BitVec 32 × BitVec 32)}
    {K : BitVec 32 × BitVec 32 → Prog (TpuEff nD τ sig (Elt F) Λ₀ .tc) α} {a b : BitVec 32} (s : ℕ) (hl : l.trips = 16)
    (ha : a = BitVec.ofNat 32 (sCount D (placeW c) s)) (hb : b = BitVec.ofNat 32 (kCount D (placeW c) s))
    (hbody : ∀ (t : Fin l.trips) (a b : BitVec 32) (p : ℕ), t.val < 16 → p = s + 8 * t.val →
      a = BitVec.ofNat 32 (sCount D (placeW c) p) → b = BitVec.ofNat 32 (kCount D (placeW c) p) →
      (Packing X D c (sCount D (placeW c) p) (kCount D (placeW c) p) R ⊢ WP c (body t (a, b)) fun r =>
        iprop(⌜r = (BitVec.ofNat 32 (sCount D (placeW c) (p + 8)), BitVec.ofNat 32 (kCount D (placeW c) (p + 8)))⌝
          ∗ Packing X D c (sCount D (placeW c) (p + 8)) (kCount D (placeW c) (p + 8)) R)))
    (h : Packing X D c (sCount D (placeW c) (s + 128)) (kCount D (placeW c) (s + 128)) R
      ⊢ WP c (K (BitVec.ofNat 32 (sCount D (placeW c) (s + 128)), BitVec.ofNat 32 (kCount D (placeW c) (s + 128)))) Q) :
    Packing X D c (sCount D (placeW c) s) (kCount D (placeW c) s) R ⊢ WP c (Scf.Loop.for l hok (a, b) body >>= K) Q := by
  iintro H
  iapply (Scf.wp_for_bind frame (wpE (defs₀ (F := F)) 𝒱₀ (c : Thread nD τ) none) Set.univ l.lb l.ub l.st hok (a, b) body
    (fun t r => iprop(⌜r = (BitVec.ofNat 32 (sCount D (placeW c) (s + 8 * t)), BitVec.ofNat 32 (kCount D (placeW c) (s + 8 * t)))⌝
          ∗ Packing X D c (sCount D (placeW c) (s + 8 * t)) (kCount D (placeW c) (s + 8 * t)) R))
    (fun t r => by
      have ht : t.val < 16 := hl ▸ t.isLt
      iintro ⟨%hr, H⟩
      subst hr
      iapply (hbody t _ _ (s + 8 * t.val) ht rfl rfl rfl) $$ H)) $$ [H]
  · isplitr
    · ipureintro; rw [ha, hb]; rfl
    iexact H
  iintro %r ⟨%hr, H⟩
  have h16 : Scf.trips l.lb l.ub l.st = 16 := hl
  rw [h16] at hr ⊢
  subst hr
  iapply h; iexact H

end Steps
end Cert.A2A
end
-- ==== Proof.Sched.lean ====
/-
The exchange between a device and its peer along the mesh axis `x`, as a schedule of rounds.

Each device has a cell its copy of `dest` raises, a barrier cell its peer raises once, a cell each of eleven messages
raises when it has left, and a cell each of the peer's eleven messages raises when it has landed.
-/
module

public import proofs.«01_k».proof.Proof.Steps

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The peer -/

/-- The device at the other place along the mesh axis `x`. -/
def peer (c : Dev nD) : Dev nD := ⟨(c.val + 16) % 32, Nat.mod_lt _ (by decide)⟩

theorem peer_peer (c : Dev nD) : peer (peer c) = c := by revert c; decide
theorem dev_eq (c : Dev nD) : (⟨k0_dev1 c, k0_dev1_lt c⟩ : Dev nD) = peer c := by revert c; decide +kernel

def swap : Dev nD ≃ Dev nD := ⟨peer, peer, peer_peer, peer_peer⟩

/-! ## The messages -/

/-- Message `j` is the block of `len j` sublanes from sublane `off j` on. -/
def off (j : ℕ) : ℕ := if j < 4 then 256 * j else 1024 * (j - 3)
def len (j : ℕ) : ℕ := if j < 4 then 256 else 1024

theorem off_succ (j : ℕ) : off (j + 1) = off j + len j := by unfold off len; split <;> split <;> omega
theorem off_mono {j k : ℕ} (h : j ≤ k) : off j ≤ off k := by unfold off; split <;> split <;> omega
theorem off_eight (j : ℕ) : 8 ∣ off j := by unfold off; split <;> omega
theorem off_le (j : Fin 11) : off j.val + len j.val ≤ 8192 := by revert j; decide
theorem len_pos (j : ℕ) : 0 < len j := by unfold len; split <;> decide

theorem bs_inb (j : Fin 11) : ∀ a, (![off j.val, 0] : Fin 2 → ℕ) a + (![len j.val, 128] : Fin 2 → ℕ) a ≤ S17408x128.size a := by
  have := off_le j
  intro a; fin_cases a
  · show off j.val + len j.val ≤ 17408; omega
  · show 0 + 128 ≤ 128; omega
theorem br_inb (j : Fin 11) : ∀ a, (![off j.val, 0] : Fin 2 → ℕ) a + (![len j.val, 128] : Fin 2 → ℕ) a ≤ S16384x128.size a := by
  have := off_le j
  intro a; fin_cases a
  · show off j.val + len j.val ≤ 16384; omega
  · show 0 + 128 ≤ 128; omega

/-- Message `j`'s block of the rounded send buffer, and of the landing buffer. -/
abbrev bsl (j : Fin 11) : Memref sig .tc .vmem ⟨2, ![len j.val, 128]⟩ .bf16 :=
  bsM.slice (Rect.unit (s := S17408x128) ![off j.val, 0] ![len j.val, 128] (bs_inb j)) (fun _ => rfl)
abbrev brl (j : Fin 11) : Memref sig .tc .vmem ⟨2, ![len j.val, 128]⟩ .bf16 :=
  brM.slice (Rect.unit (s := S16384x128) ![off j.val, 0] ![len j.val, 128] (br_inb j)) (fun _ => rfl)

/-- The credit of message `j`. -/
def N (j : Fin 11) : ℕ := (brl j).view.dmaCredit
theorem N_pos (j : Fin 11) : 0 < N j := View.dmaCredit_pos _ (by revert j; decide)
theorem bs_credit (j : Fin 11) : (bsl j).view.dmaCredit = N j := by revert j; decide

/-! ## The cells -/

theorem sem_inb (j : Fin 11) : ∀ a, (![j.val] : Fin 1 → ℕ) a + S1.size a ≤ S19.size a := by
  have := j.isLt
  intro a; fin_cases a
  show j.val + 1 ≤ 19; omega

abbrev barS : Sem sig := (SemArray.scalar (sig.barrier 0 rfl) : Sems sig S_).sem
def sendS (j : Fin 11) : DmaSem sig := ((cc0_scratch5.slice (Rect.unit (s := S19) ![j.val] S1.size (sem_inb j))).squeeze S_ squeezes_S1_S_).sem
def recvS (j : Fin 11) : DmaSem sig := ((cc0_scratch6.slice (Rect.unit (s := S19) ![j.val] S1.size (sem_inb j))).squeeze S_ squeezes_S1_S_).sem
abbrev localS : DmaSem sig := cc0_scratch9.sem

/-- The cells of a device: its own copy's, its barrier, its messages' leaving and its peer's messages' landing. -/
abbrev CellId : Type := Option (Option (Bool × Fin 11))
def osem : CellId → SemLoc sig
  | none => .dma localS
  | some none => .reg barS
  | some (some (false, j)) => .dma (sendS j)
  | some (some (true, j)) => .dma (recvS j)

theorem osem_inj : Function.Injective osem := by decide +kernel

abbrev cellAt (c : Dev nD) (k : CellId) : GSem nD τ sig := ((c : Thread nD τ), osem k)
abbrev localCell (c : Dev nD) : GSem nD τ sig := cellAt c none
abbrev barCell (c : Dev nD) : GSem nD τ sig := cellAt c (some none)
abbrev sendCell (c : Dev nD) (j : Fin 11) : GSem nD τ sig := cellAt c (some (some (false, j)))
abbrev recvCell (c : Dev nD) (j : Fin 11) : GSem nD τ sig := cellAt c (some (some (true, j)))

theorem cellAt_inj : Function.Injective fun ck : Dev nD × CellId => cellAt ck.1 ck.2 := by
  rintro ⟨c, k⟩ ⟨c', k'⟩ h
  have h1 : c = c' := congrArg (fun g : GSem nD τ sig => g.1.1) h
  have h2 : k = k' := osem_inj (congrArg Prod.snd h)
  rw [h1, h2]

/-! ## What the messages hold -/

/-- Half of a buffer's share. -/
abbrev qHalf : PosShare TreeShare := (fullShare : PosShare TreeShare).left

abbrev BSBuf (F : FTy → Type) : Type := (cc0_scratch2 : Ref sig .tc).ty.Contents (Elt F)
abbrev BRBuf (F : FTy → Type) : Type := (cc0_scratch3 : Ref sig .tc).ty.Contents (Elt F)

/-- The rows a device sends, rounded, laid out eight sublanes a row. -/
def rounded (X : XBuf F) (D : DBuf F) (r : BitVec 32) (i0 i1 : ℕ) : F .bf16 :=
  FloatOps.truncf .bf16 bitsLt_bf16_f32 (entry X (sRow D r (i0 / 8)) (128 * (i0 % 8) + i1))

/-- The landing buffer has the peer's rounded rows in the block of message `j`. -/
def Landed (X : XBuf F) (D : DBuf F) (r : BitVec 32) (j : ℕ) (g : BRBuf F) : Prop :=
  ∀ i : S16384x128.Idx, off j ≤ (i 0).val → (i 0).val < off (j + 1) → g i = rounded X D r (i 0).val (i 1).val

/-- The sublanes of the landing buffer messages write. -/
def brBand : Finset S16384x128.Idx := Finset.univ.filter fun i => (i 0).val < 8192

variable (XX : Dev nD → XBuf F) (DD : Dev nD → DBuf F)

/-- What the barrier of `c` hands it: the part of the peer's landing buffer messages write, and that the peer has entered the kernel. -/
def barPay (c : Dev nD) : sProp 𝕄 := iprop((∃ g : BRBuf F, ((peer c : Thread nD τ).loc cc0_scratch3) ↦[brBand]{fullShare} g)
  ∗ bigSep Finset.univ fun j : Fin 11 => reached ER (recvCell (peer c) j) 0)
/-- What message `j`'s leaving hands back: its block. -/
def sendPay (c : Dev nD) (j : Fin 11) : sProp 𝕄 :=
  iprop(∃ f : BSBuf F, ((bsl j).view.loc (c : Thread nD τ)) ↦[(bsl j).view.set]{fullShare} f)
/-- What the peer's message `j`'s landing hands over: its block, holding what the peer sent. -/
def recvPay (c : Dev nD) (j : Fin 11) : sProp 𝕄 :=
  iprop(∃ g : BRBuf F, ⌜Landed (XX (peer c)) (DD (peer c)) (placeW (peer c)) j.val g⌝
    ∗ ((brl j).view.loc (c : Thread nD τ)) ↦[(brl j).view.set]{fullShare} g)

/-- What the copy of `dest` into the words' buffer hands back: both buffers, of the first a half share. -/
def localPay (c : Dev nD) : sProp 𝕄 :=
  iprop((wM.view.loc (c : Thread nD τ) ↦[wM.view.set]{fullShare} (DD c : DBuf F))
    ∗ (dM.view.loc (c : Thread nD τ) ↦[dM.view.set]{qHalf} (DD c : DBuf F)))

def pay (c : Dev nD) : CellId → sProp 𝕄
  | none => localPay DD c
  | some none => barPay c
  | some (some (false, j)) => sendPay c j
  | some (some (true, j)) => recvPay XX DD c j

/-- The credit of the copy of `dest`. -/
def Nw : ℕ := wM.view.dmaCredit
theorem Nw_pos : 0 < Nw := View.dmaCredit_pos _ (by decide)

def amt : CellId → ℕ
  | none => Nw
  | some none => 1
  | some (some (_, j)) => N j

theorem amt_pos (k : CellId) : 0 < amt k := by rcases k with _ | _ | ⟨b, j⟩; exacts [Nw_pos, Nat.one_pos, N_pos j]

instance pay_storable (c : Dev nD) (k : CellId) : BI.Storable (upEmb : UEmb _ 𝕄) (pay (F := F) XX DD c k) := by
  rcases k with _ | _ | ⟨_ | _, j⟩
  · show BI.Storable _ (localPay DD c); unfold localPay; infer_instance
  · show BI.Storable _ (barPay c); unfold barPay; infer_instance
  · show BI.Storable _ (sendPay c j); unfold sendPay; infer_instance
  · show BI.Storable _ (recvPay XX DD c j); unfold recvPay; infer_instance

open Classical in
/-- The cell a semaphore is, if it is one of the exchange's. -/
def cellId (s : SemLoc sig) : Option CellId := if h : ∃ k, osem k = s then some h.choose else none

theorem cellId_osem (k : CellId) : cellId (osem k) = some k := by
  unfold cellId
  have h : ∃ k', osem k' = osem k := ⟨k, rfl⟩
  rw [dif_pos h]; exact congrArg some (osem_inj h.choose_spec)

def rd : Rounds.Schedule (GSem nD τ sig) Unit 𝕄 where
  duties g r := if r = 0 ∧ g.1.2 = .tc ∧ (cellId g.2).isSome then {()} else ∅
  unitless _ := False
  amount g _ _ := (cellId g.2).elim 1 amt
  payload g _ _ := (cellId g.2).elim iprop(emp) (pay XX DD g.1.1)
  amount_pos g _ _ _ := by
    rcases h : cellId g.2 with _ | k
    · exact Nat.one_pos
    · exact amt_pos k

instance rd_payload_storable (g : GSem nD τ sig) (r : ℕ) (d : Unit) : BI.Storable (upEmb : UEmb _ 𝕄) ((rd (F := F) XX DD).payload g r d) := by
  show BI.Storable upEmb ((cellId g.2).elim iprop(emp) (pay XX DD g.1.1))
  rcases cellId g.2 with _ | k
  · show BI.Storable upEmb iprop(emp); infer_instance
  · show BI.Storable upEmb (pay XX DD g.1.1 k); infer_instance

section Cells
variable (c : Dev nD) (k : CellId)

theorem duties_cell : (rd (F := F) XX DD).duties (cellAt c k) 0 = {()} := by
  dsimp only [rd]; rw [cellId_osem]; exact if_pos ⟨rfl, rfl, rfl⟩
theorem duties_later (g : GSem nD τ sig) : ∀ r, 1 ≤ r → (rd (F := F) XX DD).duties g r = ∅ :=
  fun r hr => by dsimp only [rd]; exact if_neg fun h => by omega
theorem amount_cell (u : Unit) : (rd (F := F) XX DD).amount (cellAt c k) 0 u = amt k := by dsimp only [rd]; rw [cellId_osem]; rfl
theorem expect_cell : (rd (F := F) XX DD).expect (cellAt c k) 0 = amt k := by
  unfold Schedule.expect Schedule.amountOf; rw [duties_cell, Finset.sum_singleton, amount_cell]
theorem payload_cell (u : Unit) : (rd (F := F) XX DD).payload (cellAt c k) 0 u = pay XX DD c k := by
  dsimp only [rd]; rw [cellId_osem]; rfl
theorem rest_cell : bigSep ((rd (F := F) XX DD).duties (cellAt c k) 0 \ ∅) (fun u => (rd (F := F) XX DD).payload (cellAt c k) 0 u) = pay XX DD c k := by
  rw [Finset.sdiff_empty, duties_cell, bigSep_singleton, payload_cell]

variable {c k}
theorem rest_of {s : SemLoc sig} (hs : osem k = s) :
    bigSep ((rd (F := F) XX DD).duties ((c : Thread nD τ), s) 0 \ ∅) (fun u => (rd (F := F) XX DD).payload ((c : Thread nD τ), s) 0 u) ⊢ pay XX DD c k := by
  subst hs; exact Entails.of_eq (rest_cell XX DD c k)
theorem expect_of {s : SemLoc sig} (hs : osem k = s) : (rd (F := F) XX DD).expect ((c : Thread nD τ), s) 0 = amt k := by
  subst hs; exact expect_cell XX DD c k
theorem payload_of {s : SemLoc sig} (hs : osem k = s) (u : Unit) : pay XX DD c k ⊢ (rd (F := F) XX DD).payload ((c : Thread nD τ), s) 0 u := by
  subst hs; exact Entails.of_eq (payload_cell XX DD c k u).symm

end Cells

/-! ## What a device owes -/

/-- The messages from `k` on, and those before it. -/
def fromJ (k : ℕ) : Finset (Fin 11) := Finset.univ.filter fun j => k ≤ j.val
def uptoJ (k : ℕ) : Finset (Fin 11) := Finset.univ.filter fun j => j.val < k

theorem fromJ_succ (j : Fin 11) : fromJ j.val = insert j (fromJ (j.val + 1)) := by revert j; decide
theorem not_mem_fromJ (j : Fin 11) : j ∉ fromJ (j.val + 1) := by revert j; decide
theorem uptoJ_succ (j : Fin 11) : uptoJ (j.val + 1) = insert j (uptoJ j.val) := by revert j; decide
theorem not_mem_uptoJ (j : Fin 11) : j ∉ uptoJ j.val := by revert j; decide
theorem fromJ_zero : fromJ 0 = Finset.univ := by decide
theorem fromJ_all : fromJ 11 = ∅ := by decide
theorem uptoJ_zero : uptoJ 0 = ∅ := by decide
theorem uptoJ_all : uptoJ 11 = Finset.univ := by decide

/-- With `k` messages sent, the credit of the rest is owed to the peer's landing cells. -/
def owed (c : Dev nD) (k : ℕ) : CellTallies nD τ sig Unit := ∑ j ∈ fromJ k, tallyAt (recvCell (peer c) j) () (N j)
/-- At the start the peer's barrier is owed too. -/
def owed₀ (c : Dev nD) : CellTallies nD τ sig Unit := owed c 0 + tallyAt (barCell (peer c)) () 1

theorem owed_succ (c : Dev nD) (j : Fin 11) : owed c j.val = owed c (j.val + 1) + tallyAt (recvCell (peer c) j) () (N j) := by
  unfold owed; rw [fromJ_succ, Finset.sum_insert (not_mem_fromJ j), add_comm]
theorem owed_all (c : Dev nD) : owed c 11 = 0 := by unfold owed; rw [fromJ_all, Finset.sum_empty]

/-! ## The levels -/

def L (g : GSem nD τ sig) : Finset Unit := if g.1.2 = .tc then {()} else ∅
def lvId : Option CellId → ℕ
  | some (some none) => 1
  | some (some (some (true, _))) => 2
  | _ => 0
def lv (g : GSem nD τ sig) (_ : Unit) : ℕ := lvId (cellId g.2)
theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (j : Fin 11) (u : Unit) : lv (recvCell c j) u = 2 := by unfold lv; rw [cellId_osem]; rfl
theorem lv_bar (c : Dev nD) (u : Unit) : lv (barCell c) u = 1 := by unfold lv; rw [cellId_osem]; rfl
theorem lv_local (c : Dev nD) (u : Unit) : lv (localCell c) u = 0 := by unfold lv; rw [cellId_osem]; rfl
theorem lv_other (c : Dev nD) (s : SemLoc sig) (h : ∀ k, osem k ≠ s) (u : Unit) : lv ((c : Thread nD τ), s) u = 0 := by
  unfold lv cellId; rw [dif_neg (fun ⟨k, hk⟩ => h k hk)]; rfl

theorem owed_pos {c : Dev nD} {k : ℕ} {g : GSem nD τ sig} {u : Unit} (h : 0 < owed c k g u) : ∃ j, g = recvCell (peer c) j := by
  unfold owed at h
  rw [Finset.sum_apply, Finsupp.finset_sum_apply] at h
  obtain ⟨j, -, hj⟩ := Finset.exists_ne_zero_of_sum_ne_zero h.ne'
  rw [tallyAt_apply] at hj
  by_contra hn
  exact hj (if_neg fun h' => hn ⟨j, h'.1⟩)

theorem owed₀_pos {c : Dev nD} {g : GSem nD τ sig} {u : Unit} (h : 0 < owed₀ c g u) : (∃ j, g = recvCell (peer c) j) ∨ g = barCell (peer c) := by
  unfold owed₀ at h
  rw [Pi.add_apply, Finsupp.add_apply] at h
  by_cases h' : 0 < owed c 0 g u
  · exact .inl (owed_pos h')
  · right
    rw [tallyAt_apply] at h
    by_contra hn
    rw [if_neg (fun h'' => hn h''.1)] at h
    omega

omit [FloatOps F] in
/-- While messages are owed, a device may wait on its barrier. -/
theorem mayWait_bar (c : Dev nD) (k : ℕ) : (levAts L lv : sProp 𝕄) ⊢ MayWait (c : Thread nD τ) (.reg barS) () (owed c k) :=
  MayOwe.of_cut (L := L) (lev := lv) 1 (fun p hp => by rw [Finset.mem_singleton.mp hp, L_tc]; exact Finset.mem_singleton_self _)
    (fun g u hg => by obtain ⟨j, rfl⟩ := owed_pos hg; exact Finset.mem_singleton_self _)
    (fun p hp => by rw [Finset.mem_singleton.mp hp]; exact (lv_bar c ()).le)
    (fun g u hg => by obtain ⟨j, rfl⟩ := owed_pos hg; rw [lv_recv]; decide)

omit [FloatOps F] in
/-- While messages are owed, a device may wait on its own copy. -/
theorem mayWait_local (c : Dev nD) (k : ℕ) : (levAts L lv : sProp 𝕄) ⊢ MayWait (c : Thread nD τ) (.dma localS) () (owed c k) :=
  MayOwe.of_cut (L := L) (lev := lv) 0 (fun p hp => by rw [Finset.mem_singleton.mp hp, L_tc]; exact Finset.mem_singleton_self _)
    (fun g u hg => by obtain ⟨j, rfl⟩ := owed_pos hg; exact Finset.mem_singleton_self _)
    (fun p hp => by rw [Finset.mem_singleton.mp hp]; exact (lv_local c ()).le)
    (fun g u hg => by obtain ⟨j, rfl⟩ := owed_pos hg; rw [lv_recv]; decide)

omit [FloatOps F] in
theorem mayWait_start (c : Dev nD) (s : SemLoc sig) (hs : ∀ k, osem k ≠ s) : (levAts L lv : sProp 𝕄) ⊢ MayWait (c : Thread nD τ) s () (owed₀ c) :=
  MayOwe.of_cut (L := L) (lev := lv) 0 (fun p hp => by rw [Finset.mem_singleton.mp hp, L_tc]; exact Finset.mem_singleton_self _)
    (fun g u hg => by rcases owed₀_pos hg with ⟨j, rfl⟩ | rfl <;> exact Finset.mem_singleton_self _)
    (fun p hp => by rw [Finset.mem_singleton.mp hp]; exact (lv_other c s hs ()).le)
    (fun g u hg => by
      rcases owed₀_pos hg with ⟨j, rfl⟩ | rfl
      · rw [lv_recv]; decide
      · rw [lv_bar]; decide)

end Cert.A2A

end
-- ==== Proof.Messages.lean ====
/-
Sending a message: its rows are rounded into the second send buffer, and that block is copied to the peer.
-/
module

public import proofs.«01_k».proof.Proof.Sched

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## How many messages have gone -/

/-- How many rows must be sent before message `j` goes. -/
def lim (j : ℕ) : ℕ := off (j + 1) / 8

theorem eight_lim (j : ℕ) : 8 * lim j = off (j + 1) := Nat.mul_div_cancel' (off_eight _)
theorem lim_big {j : ℕ} (h : 11 ≤ j) : 1024 < lim j := by unfold lim off; rw [if_neg (by omega)]; omega

/-- How many of the messages `n` rows suffice for. -/
def mc (n : ℕ) : ℕ := (Finset.univ.filter fun j : Fin 11 => lim j.val ≤ n).card

theorem mc_zero : mc 0 = 0 := by decide
theorem mc_all : mc 1024 = 11 := by decide
theorem lt_mc : ∀ n : Fin 1025, ∀ j : Fin 11, j.val < mc n.val ↔ lim j.val ≤ n.val := by decide +kernel
theorem mc_le (n : ℕ) : mc n ≤ 11 := (Finset.card_le_univ _).trans (by rw [Fintype.card_fin])

/-- How many messages have gone when the first `j` have been looked at after the rows sent went from `n` to `n'`. -/
def gone (n n' j : ℕ) : ℕ := max (mc n) (min j (mc n'))

theorem gone_at {n n' j : ℕ} (hn : n ≤ 1024) (hn' : n' ≤ 1024) (hj : j < 11) (h : n < lim j ∧ lim j ≤ n') :
    gone n n' j = j ∧ gone n n' (j + 1) = j + 1 := by
  have h1 := lt_mc ⟨n, by omega⟩ ⟨j, hj⟩
  have h2 := lt_mc ⟨n', by omega⟩ ⟨j, hj⟩
  dsimp only at h1 h2
  unfold gone; omega

theorem gone_skip {n n' j : ℕ} (hn : n ≤ 1024) (hn' : n' ≤ 1024) (hj : j < 11) (h : ¬ (n < lim j ∧ lim j ≤ n')) :
    gone n n' (j + 1) = gone n n' j := by
  have h1 := lt_mc ⟨n, by omega⟩ ⟨j, hj⟩
  have h2 := lt_mc ⟨n', by omega⟩ ⟨j, hj⟩
  have h3 : mc n' ≤ mc n ∨ n ≤ n' := by
    by_cases h' : n ≤ n'
    · exact .inr h'
    · exact .inl (Finset.card_le_card fun i hi => Finset.mem_filter.mpr ⟨Finset.mem_univ _, by have := (Finset.mem_filter.mp hi).2; omega⟩)
  dsimp only at h1 h2
  unfold gone; omega

theorem gone_big {n n' j : ℕ} (hj : 11 ≤ j) : gone n n' (j + 1) = gone n n' j := by
  have := mc_le n'
  unfold gone; omega

/-! ## The condition a message goes on -/

/-- Whether a message goes, as the kernel's condition on the rows sent before and after. -/
def msgCond (a a' hi : BitVec 32) : BitVec 1 :=
  Scalar.cmpi .ne (Scalar.extui (Scalar.andi (Scalar.cmpi .slt a hi) (Scalar.cmpi .sge a' hi))) 0#32

theorem msgCond_iff {n n' h : ℕ} (hn : n ≤ 2048) (hn' : n' ≤ 2048) (hh : h ≤ 4096) :
    msgCond (BitVec.ofNat 32 n) (BitVec.ofNat 32 n') (BitVec.ofNat 32 h) = 1#1 ↔ n < h ∧ h ≤ n' := by
  have e : ∀ m : ℕ, m ≤ 4096 → (BitVec.ofNat 32 m).toInt = m := fun m hm => by
    rw [BitVec.toInt_eq_toNat_of_lt (by rw [BitVec.toNat_ofNat]; omega), BitVec.toNat_ofNat, Nat.mod_eq_of_lt (by omega)]
  have e1 : Scalar.cmpi .slt (BitVec.ofNat 32 n) (BitVec.ofNat 32 h) = BitVec.ofBool (decide (n < h)) := by
    show BitVec.ofBool ((BitVec.ofNat 32 n).slt (BitVec.ofNat 32 h)) = _
    rw [BitVec.slt, e n (by omega), e h hh]; congr 1; exact decide_eq_decide.mpr (by omega)
  have e2 : Scalar.cmpi .sge (BitVec.ofNat 32 n') (BitVec.ofNat 32 h) = BitVec.ofBool (decide (h ≤ n')) := by
    show BitVec.ofBool ((BitVec.ofNat 32 h).sle (BitVec.ofNat 32 n')) = _
    rw [BitVec.sle, e n' (by omega), e h hh]; congr 1; exact decide_eq_decide.mpr (by omega)
  unfold msgCond
  rw [e1, e2]
  by_cases h1 : n < h <;> by_cases h2 : h ≤ n' <;> simp [h1, h2, Scalar.cmpi, Scalar.extui, Scalar.andi, IntOp.andi, IntOp.cmpi]

/-! ## The blocks of the messages -/

/-- The sublanes of the rounded send buffer from message `k`'s on, and those of the landing buffer messages write. -/
def bsFrom (k : ℕ) : Finset S17408x128.Idx := Finset.univ.filter fun i => off k ≤ (i 0).val
def brFrom (k : ℕ) : Finset S16384x128.Idx := Finset.univ.filter fun i => off k ≤ (i 0).val ∧ (i 0).val < 8192

theorem mem_bsl (j : Fin 11) (i : S17408x128.Idx) : i ∈ (bsl j).view.set ↔ off j.val ≤ (i 0).val ∧ (i 0).val < off (j.val + 1) := by
  rw [show (bsl j).view.set = (Rect.unit (s := S17408x128) ![off j.val, 0] ![len j.val, 128] (bs_inb j)).set from View.set_slice_whole cc0_scratch2 _,
    Rect.mem_set_unit, off_succ]
  have h1 : (i 1).val < 128 := (i 1).isLt
  constructor
  · intro h; exact h 0
  · intro h a; fin_cases a
    · exact h
    · exact ⟨Nat.zero_le _, by show (i 1).val < 0 + 128; omega⟩

theorem mem_brl (j : Fin 11) (i : S16384x128.Idx) : i ∈ (brl j).view.set ↔ off j.val ≤ (i 0).val ∧ (i 0).val < off (j.val + 1) := by
  rw [show (brl j).view.set = (Rect.unit (s := S16384x128) ![off j.val, 0] ![len j.val, 128] (br_inb j)).set from View.set_slice_whole cc0_scratch3 _,
    Rect.mem_set_unit, off_succ]
  have h1 : (i 1).val < 128 := (i 1).isLt
  constructor
  · intro h; exact h 0
  · intro h a; fin_cases a
    · exact h
    · exact ⟨Nat.zero_le _, by show (i 1).val < 0 + 128; omega⟩

theorem bsl_sub (j : Fin 11) : (bsl j).view.set ⊆ bsFrom j.val := fun i hi =>
  Finset.mem_filter.mpr ⟨Finset.mem_univ _, ((mem_bsl j i).mp hi).1⟩
theorem brl_sub (j : Fin 11) : (brl j).view.set ⊆ brFrom j.val := fun i hi =>
  Finset.mem_filter.mpr ⟨Finset.mem_univ _, ((mem_brl j i).mp hi).1, by
    have := ((mem_brl j i).mp hi).2; have := off_le j; have := off_succ j.val; omega⟩
theorem bsFrom_succ (j : Fin 11) : bsFrom j.val \ (bsl j).view.set = bsFrom (j.val + 1) := by
  ext i
  rw [Finset.mem_sdiff, mem_bsl]; unfold bsFrom; rw [Finset.mem_filter, Finset.mem_filter]
  have := off_mono (Nat.le_add_right j.val 1)
  constructor
  · rintro ⟨⟨h1, h2⟩, h3⟩; exact ⟨h1, by omega⟩
  · rintro ⟨h1, h2⟩; exact ⟨⟨h1, by omega⟩, by omega⟩
theorem brFrom_succ (j : Fin 11) : brFrom j.val \ (brl j).view.set = brFrom (j.val + 1) := by
  ext i
  rw [Finset.mem_sdiff, mem_brl]; unfold brFrom; rw [Finset.mem_filter, Finset.mem_filter]
  have := off_mono (Nat.le_add_right j.val 1)
  constructor
  · rintro ⟨⟨h1, h2, h4⟩, h3⟩; exact ⟨h1, by omega⟩
  · rintro ⟨h1, h2⟩; exact ⟨⟨h1, by omega⟩, by omega⟩

omit [FloatOps F] in
/-- A block copied from the rounded send buffer lands as it was. -/
theorem copied (j : Fin 11) (f : BSBuf F) (g : BRBuf F) (i : S16384x128.Idx) (h1 : off j.val ≤ (i 0).val) (h2 : (i 0).val < off (j.val + 1)) :
    (brl j).view.write (Elt F) g ((bsl j).view.read (Elt F) f) Finset.univ i
      = f (fun | 0 => ⟨(i 0).val, by have := (i 0).isLt; show _ < 17408; have : (i 0).val < 16384 := this; omega⟩ | 1 => i 1) := by
  have hi1 : (i 1).val < 128 := (i 1).isLt
  rw [off_succ] at h2
  refine (write_block_mem cc0_scratch3 (br_inb j) g _ i (fun | 0 => ⟨(i 0).val - off j.val, by show _ < len j.val; omega⟩ | 1 => ⟨(i 1).val, hi1⟩)
      (fun a => by fin_cases a
                   · show (i 0).val = off j.val + ((i 0).val - off j.val); omega
                   · show (i 1).val = 0 + (i 1).val; omega)).trans ?_
  refine (read_block cc0_scratch2 (bs_inb j) f _).trans ?_
  congr 1; funext a; apply Fin.ext; fin_cases a
  · show off j.val + ((i 0).val - off j.val) = (i 0).val; omega
  · show 0 + (i 1).val = (i 1).val; omega

/-- The block of message `j` lands as the rows sent, rounded. -/
theorem landed_copied {X : XBuf F} {D : DBuf F} {r : BitVec 32} {n : ℕ} (j : Fin 11) (f : SBuf F) (b : BSBuf F) (g : BRBuf F)
    (inb inb') (hn : lim j.val ≤ n) (hf : SHolds X D r n f) {h2} :
    Landed X D r j.val ((brl j).view.write (Elt F) g ((bsl j).view.read (Elt F)
      ((bsM.access (Rect.unit (s := S17408x128) ![off j.val, 0] ![len j.val, 128] inb) : View sig .tc _ _ _).write (Elt F) b
        (shapeCast ⟨2, ![len j.val, 128]⟩ (truncf .bf16 (sM.view.readAt (Elt F) (Rect.unit (s := S17408x128) ![off j.val, 0] ![len j.val, 128] inb').toLoadRect f) bitsLt_bf16_f32) h2)
        Finset.univ)) Finset.univ) := by
  intro i hi1 hi2
  rw [copied j _ g i hi1 hi2]
  have hi : (i 1).val < 128 := (i 1).isLt
  have hs := off_succ j.val
  rw [write_block_mem cc0_scratch2 inb b _ _ (fun | 0 => ⟨(i 0).val - off j.val, by show _ < len j.val; omega⟩ | 1 => ⟨(i 1).val, hi⟩)
      (fun a => by fin_cases a
                   · show (i 0).val = off j.val + ((i 0).val - off j.val); omega
                   · show (i 1).val = 0 + (i 1).val; omega)]
  refine (congrFun (shapeCast_self _ h2) _).trans ?_
  show FloatOps.truncf .bf16 bitsLt_bf16_f32 (sM.view.readAt (Elt F) _ f _) = _
  rw [read_block cc0_scratch1 inb' f]
  unfold rounded
  congr 1
  have he := eight_lim j.val
  refine (hf _ (by show off j.val + ((i 0).val - off j.val) < 8 * n; omega)).trans ?_
  show entry X (sRow D r ((off j.val + ((i 0).val - off j.val)) / 8)) (128 * ((off j.val + ((i 0).val - off j.val)) % 8) + (0 + (i 1).val)) = _
  rw [show off j.val + ((i 0).val - off j.val) = (i 0).val by omega, Nat.zero_add]

/-! ## The state between messages -/

section Post
variable (XX : Dev nD → XBuf F) (DD : Dev nD → DBuf F) (K : Dev nD × CellId → ℕ) (c : Dev nD)

/-- What is known of message `j`'s two cells throughout. -/
def known (j : Fin 11) : sProp 𝕄 :=
  iprop(cellInv ER (rd XX DD) (K (c, some (some (false, j)))) (sendCell c j)
    ∗ cellInv ER (rd XX DD) (K (peer c, some (some (true, j)))) (recvCell (peer c) j)
    ∗ reached ER (sendCell c j) 0 ∗ reached ER (recvCell (peer c) j) 0)

/-- What a device knows of them before its peer has entered the kernel. -/
def knownOwn (j : Fin 11) : sProp 𝕄 :=
  iprop(cellInv ER (rd XX DD) (K (c, some (some (false, j)))) (sendCell c j) ∗ cellInv ER (rd XX DD) (K (peer c, some (some (true, j)))) (recvCell (peer c) j)
    ∗ reached ER (sendCell c j) 0)

instance knownOwn_persistent (j : Fin 11) : BI.Persistent (knownOwn XX DD K c j) := by unfold knownOwn; infer_instance

theorem known_of_own (j : Fin 11) : iprop(knownOwn XX DD K c j ∗ reached ER (recvCell (peer c) j) 0) ⊢ known XX DD K c j := by
  unfold knownOwn known
  iintro ⟨⟨#H1, #H2, #H3⟩, #H4⟩
  isplitr; · iexact H1
  isplitr; · iexact H2
  isplitr; · iexact H3
  iexact H4

instance known_persistent (j : Fin 11) : BI.Persistent (known XX DD K c j) := by unfold known; infer_instance

def toks (j : Fin 11) : sProp 𝕄 := iprop(dutyTok ER (sendCell c j) 0 () ∗ dutyTok ER (recvCell (peer c) j) 0 ())

/-- `k` messages have gone: the blocks of the rest are held here and at the peer, and their credit is owed. -/
def Posting (k : ℕ) (R : sProp 𝕄) : sProp 𝕄 :=
  iprop((∃ f : BSBuf F, ((c : Thread nD τ).loc cc0_scratch2) ↦[bsFrom k]{fullShare} f)
    ∗ (∃ g : BRBuf F, ((peer c : Thread nD τ).loc cc0_scratch3) ↦[brFrom k]{fullShare} g)
    ∗ (∃ W, owes (c : Thread nD τ) (owed c k) W)
    ∗ bigSep (fromJ k) (toks c)
    ∗ bigSep (uptoJ k) (fun j => cred (tallyAt (sendCell c j) () (N j)))
    ∗ (bigSep Finset.univ (known XX DD K c))
    ∗ R)

omit [FloatOps F] in
theorem one_of {Φ : Fin 11 → sProp 𝕄} (j : Fin 11) : bigSep Finset.univ Φ ⊢ Φ j := by
  exact bigSep_elim (Finset.mem_univ j)

omit [FloatOps F] in
theorem bigSep_cons {Φ : Fin 11 → sProp 𝕄} {a : Fin 11} {s : Finset (Fin 11)} (h : a ∉ s) : bigSep (insert a s) Φ = iprop(Φ a ∗ bigSep s Φ) :=
  bigSep_insert h

end Post

section Step
variable {XX : Dev nD → XBuf F} {DD : Dev nD → DBuf F} {K : Dev nD × CellId → ℕ} {c : Dev nD} {α : Type}

/-- A message's copy to the peer. -/
theorem send_copy (j : Fin 11) {Q : α → sProp 𝕄} {n : Dev nD} {sS sR : DmaSem sig} {hsc} {h1 h2}
    {h3 : DmaTarget.Typed .vmem (.dma sR) (.remote (Dev.tc n : Thread nD τ) (brl j) (.dma sS) hsc)}
    {k : PUnit → Prog (TpuEff nD τ sig (Elt F) Λ₀ .tc) α} (hn : n = peer c) (hS : sS = sendS j) (hR : sR = recvS j)
    (f : BSBuf F) (g : BRBuf F) (W : Waits sig Unit)
    (hL : Landed (XX c) (DD c) (placeW c) j.val ((brl j).view.write (Elt F) g ((bsl j).view.read (Elt F) f) Finset.univ)) :
    iprop(known XX DD K c j ∗ ((bsl j).view.loc (c : Thread nD τ) ↦[(bsl j).view.set]{fullShare} f)
        ∗ ((brl j).view.loc (peer c : Thread nD τ) ↦[(brl j).view.set]{fullShare} g)
        ∗ owes (c : Thread nD τ) (owed c j.val) W ∗ toks c j)
      ⊢ iprop(((cred (tallyAt (sendCell c j) () (N j)) ∗ owes (c : Thread nD τ) (owed c (j.val + 1)) W) -∗ WP c (k ⟨⟩) Q)
          -∗ WP c (.op (.enqueueDma (bsl j) (.remote (Dev.tc n : Thread nD τ) (brl j) (.dma sS) hsc) (.dma sR) h1 h2 h3) k) Q) := by
  subst hn; subst hS; subst hR
  have hd₁ : () ∈ (rd (F := F) XX DD).duties (sendCell c j) 0 := by rw [duties_cell]; exact Finset.mem_singleton_self _
  have hd₂ : () ∈ (rd (F := F) XX DD).duties (recvCell (peer c) j) 0 := by rw [duties_cell]; exact Finset.mem_singleton_self _
  have hp₁ : ((bsl j).view.loc (c : Thread nD τ) ↦[(bsl j).view.set]{fullShare} f) ⊢ (rd (F := F) XX DD).payload (sendCell c j) 0 () := by
    rw [payload_cell]
    show _ ⊢ sendPay c j
    unfold sendPay; iintro H; iexists f; iexact H
  have hp₂ : ((brl j).view.loc (peer c : Thread nD τ) ↦[(brl j).view.set]{fullShare} ((brl j).view.write (Elt F) g ((bsl j).view.read (Elt F) f) Finset.univ))
      ⊢ (rd (F := F) XX DD).payload (recvCell (peer c) j) 0 () := by
    rw [payload_cell]
    show _ ⊢ recvPay XX DD (peer c) j
    unfold recvPay
    rw [peer_peer]
    iintro H; iexists _; isplitr
    · ipureintro; exact hL
    iexact H
  unfold known toks
  iintro ⟨⟨#HIs, #HIr, #Hrs, #Hrr⟩, Hbs, Hbr, HO, Hts, Htr⟩ Hk
  iapply (Rounds.wp_send_pointsTo 𝒱₀ ER (rd XX DD) (c : Thread nD τ) none (c' := (peer c : Thread nD τ)) (src := bsl j) (dst := brl j) (κ₁ := K (c, some (some (false, j)))) (κ₂ := K (peer c, some (some (true, j))))
    (r₁ := 0) (r₂ := 0) (d₁ := ()) (d₂ := ()) (fd := g) (fs := f) (q := fullShare) hd₁ hd₂
    () () (N j) rfl (amount_cell XX DD c (some (some (false, j))) ()) (amount_cell XX DD (peer c) (some (some (true, j))) ()) (owed c (j.val + 1)) (owed_succ c j) (W := W)
    hp₁ hp₂) $$ [Hbs Hbr HO Hts Htr]
  · isplitr; · iexact HIs
    isplitr; · iexact HIr
    isplitl [Hbs]; · iexact Hbs
    isplitl [Hbr]; · iexact Hbr
    isplitl [HO]; · iexact HO
    isplitl [Hts]; · iexact Hts
    isplitr; · iexact Hrs
    isplitl [Htr]; · iexact Htr
    iexact Hrr
  iexact Hk

/-- A message goes if the rows sent have come to its last, and else not. -/
theorem step_message {R : sProp 𝕄} {Q : α → sProp 𝕄} {C : BitVec 1} {dC : Decidable (C = 1#1)} {o m : ℕ} {d : Dev nD} {sS sR : DmaSem sig}
    {hi1 : ∀ a, (![o, 0] : Fin 2 → ℕ) a + (![m, 128] : Fin 2 → ℕ) a ≤ S17408x128.size a}
    {hi2 : ∀ a, (![o, 0] : Fin 2 → ℕ) a + (![m, 128] : Fin 2 → ℕ) a ≤ S16384x128.size a} {hl1 hl2 hs1 hs2 hu1 hu2 hw1 hc}
    {hw2 : (brM.slice (Rect.unit (s := S16384x128) ![o, 0] ![m, 128] hi2) hu2).view.WordExact} {hsc}
    {h3 : DmaTarget.Typed .vmem (.dma sR) (.remote (Dev.tc d : Thread nD τ) (brM.slice (Rect.unit (s := S16384x128) ![o, 0] ![m, 128] hi2) hu2) (.dma sS) hsc)}
    {k : Prog (TpuEff nD τ sig (Elt F) Λ₀ .tc) α} {n n' q : ℕ} {a a' hi : BitVec 32}
    (j : ℕ) (hC : C = msgCond a a' hi) (hhi : hi = BitVec.ofNat 32 (lim j)) (ho : o = off j) (hm : m = len j) (hd : d = peer c)
    (hj : j < 19)
    (hS : ∀ h : j < 11, sS = sendS ⟨j, h⟩) (hR : ∀ h : j < 11, sR = recvS ⟨j, h⟩)
    (ha : a = BitVec.ofNat 32 n) (ha' : a' = BitVec.ofNat 32 n') (hn : n ≤ 1024) (hn' : n' ≤ 1024)
    (h : Packing (XX c) (DD c) c n' q (Posting XX DD K c (gone n n' (j + 1)) R) ⊢ WP c k Q) :
    Packing (XX c) (DD c) c n' q (Posting XX DD K c (gone n n' j) R) ⊢ WP c (ite (C = 1#1)
      (Prog.lift (.load (p := Proc.tc) (cs := .vmem) sM (Rect.unit (s := S17408x128) ![o, 0] ![m, 128] hi1).toLoadRect hl1) >>= fun v =>
        Prog.lift (.load (p := Proc.tc) (cs := .vmem) bsM (Rect.unit (s := S17408x128) ![o, 0] ![m, 128] hi1).toLoadRect hl2) >>= fun _ =>
        Prog.lift (.store (p := Proc.tc) (cs := .vmem) bsM (Rect.unit (s := S17408x128) ![o, 0] ![m, 128] hi1)
          (shapeCast ⟨2, ![m, 128]⟩ (truncf .bf16 v bitsLt_bf16_f32) hc) Finset.univ hs1 hs2) >>= fun _ =>
        Prog.lift (.enqueueDma (bsM.slice (Rect.unit (s := S17408x128) ![o, 0] ![m, 128] hi1) hu1)
          (.remote (Dev.tc d : Thread nD τ) (brM.slice (Rect.unit (s := S16384x128) ![o, 0] ![m, 128] hi2) hu2) (.dma sS) hsc) (.dma sR) hw1 hw2 h3) >>= fun _ => k)
      k) Q := by
  subst hC; subst hhi; subst ho; subst hm; subst ha; subst ha'
  have hl : lim j ≤ 4096 := by unfold lim off; split <;> omega
  have hiff := msgCond_iff (n := n) (n' := n') (h := lim j) (by omega) (by omega) hl
  by_cases hc' : msgCond (BitVec.ofNat 32 n) (BitVec.ofNat 32 n') (BitVec.ofNat 32 (lim j)) = 1#1
  · rw [if_pos hc']
    have hlim := hiff.mp hc'
    have hj11 : j < 11 := by
      by_contra h'
      have := lim_big (j := j) (by omega); omega
    obtain ⟨e1, e2⟩ := gone_at hn hn' hj11 hlim
    rw [e1]; rw [e2] at h
    let J : Fin 11 := ⟨j, hj11⟩
    simp only [Prog.lift, Prog.bind_op, Prog.bind_ret]
    unfold Packing xHeld wHeld sHeld kHeld Posting
    iintro ⟨Hx, Hw, ⟨%f, %hf, Hs⟩, ⟨%g, %hg, Hk⟩, ⟨%b, Hb⟩, ⟨%l, Hl⟩, ⟨%W, HO⟩, Ht, Hcr, #Hkn, HR⟩
    iapply (wp_load 𝒱₀ (c : Thread nD τ) none Set.univ (m := sM) (S := Finset.univ) (Finset.subset_univ _)) $$ Hs
    iintro Hs
    iapply (wp_load_rect 𝒱₀ (c : Thread nD τ) none Set.univ (m := bsM) (r := Rect.unit (s := S17408x128) ![off j, 0] ![len j, 128] hi1) (S := bsFrom j) (bsl_sub J)) $$ Hb
    iintro Hb
    iapply (wp_store 𝒱₀ (c : Thread nD τ) none Set.univ (m := bsM) (r := Rect.unit (s := S17408x128) ![off j, 0] ![len j, 128] hi1) (Mk := Finset.univ) (S := bsFrom j) (bsl_sub J)) $$ Hb
    iintro Hb
    ihave Hb' := (pointsTo_split_subset (bsl_sub J)).1 $$ Hb
    icases Hb' with ⟨Hb1, Hb2⟩
    ihave Hl' := (pointsTo_split_subset (brl_sub J)).1 $$ Hl
    icases Hl' with ⟨Hl1, Hl2⟩
    rw [bsFrom_succ J, brFrom_succ J, show fromJ j = insert J (fromJ (j + 1)) from fromJ_succ J]
    ihave Ht' := (Entails.of_eq (bigSep_cons (not_mem_fromJ J))) $$ Ht
    icases Ht' with ⟨Ht1, Ht2⟩
    iapply (send_copy (XX := XX) (DD := DD) (K := K) J hd (hS hj11) (hR hj11) _ l W (landed_copied J f b l hi1 hi1 hlim.2 hf)) $$ [Hb1 Hl1 HO Ht1]
    · isplitr; · iapply (one_of J); iexact Hkn
      isplitl [Hb1]; · iexact Hb1
      isplitl [Hl1]; · iexact Hl1
      isplitl [HO]; · iexact HO
      iexact Ht1
    iintro ⟨Hc, HO⟩
    iapply h
    unfold Packing xHeld wHeld sHeld kHeld Posting
    isplitl [Hx]; · iexact Hx
    isplitl [Hw]; · iexact Hw
    isplitl [Hs]
    · iexists f; isplitr
      · ipureintro; exact hf
      iexact Hs
    isplitl [Hk]
    · iexists g; isplitr
      · ipureintro; exact hg
      iexact Hk
    isplitl [Hb2]; · iexists _; iexact Hb2
    isplitl [Hl2]; · iexists l; iexact Hl2
    isplitl [HO]; · iexists W; iexact HO
    isplitl [Ht2]; · iexact Ht2
    isplitl [Hcr Hc]
    · rw [show uptoJ (j + 1) = insert J (uptoJ j) from uptoJ_succ J]
      iapply (Entails.of_eq (bigSep_cons (not_mem_uptoJ J)).symm)
      isplitl [Hc]; · iexact Hc
      iexact Hcr
    isplitr; · iexact Hkn
    iexact HR
  · rw [if_neg hc']
    have hno := fun h' => hc' (hiff.mpr h')
    have e : gone n n' (j + 1) = gone n n' j := by
      by_cases hj' : j < 11
      · exact gone_skip hn hn' hj' hno
      · exact gone_big (by omega)
    rw [e] at h
    exact h

/-- A conditional whose condition is false is passed over. -/
theorem step_never {P : sProp 𝕄} {Q : α → sProp 𝕄} {C : Prop} {dC : Decidable C} {p : C → Prog (TpuEff nD τ sig (Elt F) Λ₀ .tc) α}
    {k : Prog (TpuEff nD τ sig (Elt F) Λ₀ .tc) α} (hC : ¬ C) (h : P ⊢ WP c k Q) : P ⊢ WP c (dite C p fun _ => k) Q := by
  rw [dif_neg hC]; exact h

end Step

end Cert.A2A

end
-- ==== Proof.Start.lean ====
/-
The first steps of the kernel: the copy of `dest` into the words' buffer, the count of the rows sent, and the barrier.
-/
module

public import proofs.«01_k».proof.Proof.Messages

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Start
variable {XX : Dev nD → XBuf F} {DD : Dev nD → DBuf F} {K : Dev nD × CellId → ℕ} {c : Dev nD}

/-- A device's block of `dest`, at a share. -/
def dHeld (D : DBuf F) (c : Dev nD) (q : PosShare TreeShare) : sProp 𝕄 := ((c : Thread nD τ).loc cc0_stg1_0) ↦{q} D

/-- The copy of `dest` is started, with half the share of `dest`. -/
theorem start_copy {α : Type} {Q : α → sProp 𝕄} {h1 h2 h3} {k : PUnit → Prog (TpuEff nD τ sig (Elt F) Λ₀ .tc) α} (f : DBuf F) :
    iprop(dHeld (DD c) c fullShare ∗ (((c : Thread nD τ).loc cc0_scratch4) ↦{fullShare} f)
        ∗ cellInv ER (rd XX DD) (K (c, none)) (localCell c) ∗ reached ER (localCell c) 0 ∗ dutyTok ER (localCell c) 0 ())
      ⊢ iprop(((cred (tallyAt (localCell c) () Nw) ∗ dHeld (DD c) c (fullShare : PosShare TreeShare).right) -∗ WP c (k ⟨⟩) Q)
          -∗ WP c (.op (.enqueueDma dM (.here wM) (.dma localS) h1 h2 h3) k) Q) := by
  have hd : () ∈ (rd (F := F) XX DD).duties (localCell c) 0 := by rw [duties_cell]; exact Finset.mem_singleton_self _
  have hp : iprop((wM.view.loc (c : Thread nD τ) ↦[wM.view.set]{fullShare} (wM.view.write (Elt F) f (dM.view.read (Elt F) (DD c)) Finset.univ))
      ∗ (dM.view.loc (c : Thread nD τ) ↦[dM.view.set]{qHalf} (DD c : DBuf F))) ⊢ (rd (F := F) XX DD).payload (localCell c) 0 () := by
    rw [payload_cell]
    show _ ⊢ localPay DD c
    unfold localPay
    rw [show wM.view.write (Elt F) f (dM.view.read (Elt F) (DD c)) Finset.univ = DD c from
      (congrArg (fun w => wM.view.write (Elt F) f w Finset.univ) (View.read_whole cc0_stg1_0 (DD c))).trans (View.write_whole_univ cc0_scratch4 f (DD c))]
  unfold dHeld
  iintro ⟨Hd, Hw, #HI, #Hr, Ht⟩ Hk
  ihave Hd' := (pointsTo_share (PosShare.mem_left_op_right fullShare)).1 $$ Hd
  icases Hd' with ⟨Hd1, Hd2⟩
  iapply (Rounds.wp_copy_pointsTo 𝒱₀ ER (rd XX DD) (c : Thread nD τ) none (src := dM) (dst := wM) (κ := K (c, none)) (r := 0) (d := ()) (q := qHalf) (fs := DD c) (fd := f)
    hd () Nw rfl (amount_cell XX DD c none ()) hp) $$ [Hd1 Hw Ht]
  · isplitr; · iexact HI
    simp only [Memref.view_whole, View.set_whole]
    isplitl [Hd1]; · iexact Hd1
    isplitl [Hw]; · iexact Hw
    isplitl [Ht]; · iexact Ht
    iexact Hr
  iintro Hc
  iapply Hk
  isplitl [Hc]; · iexact Hc
  iexact Hd2

/-- `dest` is read whole. -/
theorem start_read {α : Type} {Q : α → sProp 𝕄} {hi hl} {q : PosShare TreeShare}
    {k : ((Rect.unit (s := S16x128) ![0, 0] S16x128.size hi).toLoadRect.shape.Idx → Elt F .i32) → Prog (TpuEff nD τ sig (Elt F) Λ₀ .tc) α} :
    dHeld (DD c) c q ⊢ iprop((dHeld (DD c) c q -∗ WP c (k (DD c)) Q)
      -∗ WP c (.op (.load (p := Proc.tc) (cs := .vmem) dM (Rect.unit (s := S16x128) ![0, 0] S16x128.size hi).toLoadRect hl) k) Q) := by
  unfold dHeld
  iintro Hd Hk
  iapply (wp_load 𝒱₀ (c : Thread nD τ) none Set.univ (m := dM) (S := Finset.univ) (Finset.subset_univ _)) $$ Hd
  iintro Hd
  rw [show dM.view.readAt (Elt F) (Rect.unit (s := S16x128) ![0, 0] S16x128.size hi).toLoadRect (DD c) = DD c from
    Memref.readAt_unit_zero (Elt F) cc0_stg1_0 (funext fun a => by fin_cases a <;> rfl) hi (DD c)]
  iapply Hk; iexact Hd

/-- The peer's barrier is raised, which hands it the part of the landing buffer messages write. -/
theorem start_signal {α : Type} {Q : α → sProp 𝕄} {n : Dev nD} (hn : n = peer c) {k : PUnit → Prog (TpuEff nD τ sig (Elt F) Λ₀ .tc) α} (g : BRBuf F) (W : Waits sig Unit) :
    iprop(cellInv ER (rd XX DD) (K (peer c, some none)) (barCell (peer c)) ∗ reached ER (barCell (peer c)) 0 ∗ dutyTok ER (barCell (peer c)) 0 ()
        ∗ owes (c : Thread nD τ) (owed₀ c) W ∗ (((c : Thread nD τ).loc cc0_scratch3) ↦[brBand]{fullShare} g)
        ∗ bigSep Finset.univ fun j : Fin 11 => reached ER (recvCell c j) 0)
      ⊢ iprop((owes (c : Thread nD τ) (owed c 0) W -∗ WP c (k ⟨⟩) Q) -∗ WP c (semSignalWord n barS 1#32 >>= k) Q) := by
  subst hn
  have hd : () ∈ (rd (F := F) XX DD).duties (barCell (peer c)) 0 := by rw [duties_cell]; exact Finset.mem_singleton_self _
  have hp : iprop((((c : Thread nD τ).loc cc0_scratch3) ↦[brBand]{fullShare} g) ∗ bigSep Finset.univ fun j : Fin 11 => reached ER (recvCell c j) 0)
      ⊢ pay XX DD (peer c) (some none) := by
    show _ ⊢ barPay (peer c)
    unfold barPay
    rw [peer_peer]
    iintro ⟨H, HR⟩
    isplitl [H]; · iexists g; iexact H
    iexact HR
  simp only [semSignalWord, Prog.lift, Prog.bind_op, Prog.bind_ret]
  iintro ⟨#HI, #Hr, Ht, HO, Hg, HR⟩ Hk
  iapply (Rounds.wp_signal 𝒱₀ ER (rd XX DD) (c : Thread nD τ) none (dst := (peer c : Thread nD τ)) (κ := K (peer c, some none))
      hd ((amount_cell XX DD (peer c) (some none) ()).trans (by decide)) () (owed c 0) rfl) $$ [HO Ht Hg HR]
  · isplitr; · iexact HI
    isplitl [HO]; · iexact HO
    isplitl [Ht]; · iexact Ht
    isplitl [Hg HR]
    · iapply (payload_of XX DD (k := some none) (s := .reg barS) rfl ())
      iapply hp
      isplitl [Hg] <;> iassumption
    iexact Hr
  iexact Hk

/-- The device waits at its own barrier, which hands it the part of the peer's landing buffer it will write. -/
theorem start_barrier {α : Type} {Q : α → sProp 𝕄} {k : PUnit → Prog (TpuEff nD τ sig (Elt F) Λ₀ .tc) α} (W : Waits sig Unit) :
    iprop(cellInv ER (rd XX DD) (K (c, some none)) (barCell c) ∗ levAts L lv ∗ cred (tallyAt (barCell c) () 1) ∗ atPos ER (barCell c) 0 ∅ 0
        ∗ owes (c : Thread nD τ) (owed c 0) W)
      ⊢ iprop(((∃ W, owes (c : Thread nD τ) (owed c 0) W) ∗ (∃ g : BRBuf F, ((peer c : Thread nD τ).loc cc0_scratch3) ↦[brBand]{fullShare} g) ∗ (bigSep Finset.univ fun j : Fin 11 => reached ER (recvCell (peer c) j) 0)
            ∗ semVal (barCell c) 0 -∗ WP c (k ⟨⟩) Q) -∗ WP c (semWaitWord barS 1#32 >>= k) Q) := by
  simp only [semWaitWord, Prog.lift, Prog.bind_op, Prog.bind_ret]
  iintro ⟨#HI, #Hlev, Hc, Hat, HO⟩ Hk
  iapply (Rounds.wp_wait_rest_token 𝒱₀ ER (rd XX DD) (c : Thread nD τ) none (κ := K (c, some none))
      (wpE_semWait_eq 𝒱₀ (c : Thread nD τ) none Set.univ) (Set.mem_univ _) () (O := owed c 0) (W := W) (R := 0) (m := 0) (T := ∅)
      (by rw [expect_of XX DD (k := some none) (s := .reg barS) rfl]; rfl)) $$ [Hc HO Hat]
  · isplitr; · iexact HI
    isplitl [Hc]; · iexact Hc
    isplitl [HO]; · iexact HO
    isplitr; · iapply (mayWait_bar c 0); iexact Hlev
    iexact Hat
  iintro ⟨HO, Hat, -, Hpay⟩
  ihave Hp := (rest_of XX DD (k := some none) (s := .reg barS) rfl) $$ Hpay
  imod (cell_close ER (rd XX DD) (Set.mem_univ (K (c, some none))) (fun h => h) (R := 0 + 1) (duties_later XX DD (barCell c))) $$ [Hat] with Hz
  · isplitr; · iexact HI
    iexact Hat
  iapply Hk
  isplitl [HO]; · iexists _; iexact HO
  ihave Hp' := (Entails.of_eq (show pay XX DD c (some none) = barPay c from rfl)) $$ Hp
  unfold barPay
  icases Hp' with ⟨Hp, HR⟩
  isplitl [Hp]; · iexact Hp
  isplitl [HR]; · iexact HR
  iexact Hz

/-- The device waits for its copy of `dest`, and holds `dest` and the words whole. -/
theorem start_local {α : Type} {Q : α → sProp 𝕄} {h1 h2} {k : PUnit → Prog (TpuEff nD τ sig (Elt F) Λ₀ .tc) α} (W : Waits sig Unit) :
    iprop(cellInv ER (rd XX DD) (K (c, none)) (localCell c) ∗ levAts L lv ∗ cred (tallyAt (localCell c) () Nw) ∗ atPos ER (localCell c) 0 ∅ 0
        ∗ owes (c : Thread nD τ) (owed c 0) W ∗ dHeld (DD c) c (fullShare : PosShare TreeShare).right)
      ⊢ iprop(((∃ W, owes (c : Thread nD τ) (owed c 0) W) ∗ dHeld (DD c) c fullShare ∗ wHeld (DD c) c ∗ semVal (localCell c) 0 -∗ WP c (k ⟨⟩) Q)
          -∗ WP c (.op (.waitDma2 localS dM wM h1 h2) k) Q) := by
  iintro ⟨#HI, #Hlev, Hc, Hat, HO, Hd⟩ Hk
  iapply (Rounds.wp_wait_rest_token 𝒱₀ ER (rd XX DD) (c : Thread nD τ) none (κ := K (c, none))
      (wpE_waitDma2_eq 𝒱₀ (c : Thread nD τ) none Set.univ) (Set.mem_univ _) () (O := owed c 0) (W := W) (R := 0) (m := 0) (T := ∅)
      (by rw [expect_of XX DD (k := none) (s := .dma localS) rfl, Nat.zero_add]; rfl)) $$ [Hc HO Hat]
  · isplitr; · iexact HI
    isplitl [Hc]; · iexact Hc
    isplitl [HO]; · iexact HO
    isplitr; · iapply (mayWait_local c 0); iexact Hlev
    iexact Hat
  iintro ⟨HO, Hat, -, Hpay⟩
  ihave Hp := (rest_of XX DD (k := none) (s := .dma localS) rfl) $$ Hpay
  imod (cell_close ER (rd XX DD) (Set.mem_univ (K (c, none))) (fun h => h) (R := 0 + 1) (duties_later XX DD (localCell c))) $$ [Hat] with Hz
  · isplitr; · iexact HI
    iexact Hat
  iapply Hk
  unfold dHeld wHeld
  isplitl [HO]; · iexists _; iexact HO
  ihave Hp' := (Entails.of_eq (show pay XX DD c none = localPay DD c from rfl)) $$ Hp
  unfold localPay
  simp only [Memref.view_whole, View.set_whole]
  icases Hp' with ⟨Hw, Hd1⟩
  isplitl [Hd Hd1]
  · iapply (pointsTo_share (PosShare.mem_left_op_right fullShare)).2
    isplitl [Hd1]; · iexact Hd1
    iexact Hd
  isplitl [Hw]; · iexact Hw
  iexact Hz

/-! ## The steps in a row -/

omit [FloatOps F] in
theorem brFrom_zero : brFrom 0 = brBand := by
  unfold brFrom brBand
  refine Finset.filter_congr fun i _ => ?_
  show (0 ≤ (i 0).val ∧ (i 0).val < 8192) ↔ (i 0).val < 8192
  omega

omit [FloatOps F] in
theorem bsFrom_zero : bsFrom 0 = Finset.univ := Finset.filter_true_of_mem fun i _ => Nat.zero_le _

variable (XX DD K c) in
/-- What is known throughout of the cells of the copy and of the two barriers. -/
def startKnown : sProp 𝕄 :=
  iprop(cellInv ER (rd XX DD) (K (c, none)) (localCell c) ∗ cellInv ER (rd XX DD) (K (c, some none)) (barCell c)
    ∗ cellInv ER (rd XX DD) (K (peer c, some none)) (barCell (peer c)) ∗ reached ER (localCell c) 0 ∗ reached ER (barCell (peer c)) 0 ∗ levAts L lv
    ∗ bigSep Finset.univ fun j : Fin 11 => reached ER (recvCell c j) 0)

instance startKnown_persistent : BI.Persistent (startKnown XX DD K c) := by unfold startKnown; infer_instance

variable (XX DD K c) in
/-- What a device holds at its start, beside `R`. -/
def AtStart (R : sProp 𝕄) : sProp 𝕄 :=
  iprop(startKnown XX DD K c ∗ bigSep Finset.univ (knownOwn XX DD K c)
    ∗ (atPos ER (localCell c) 0 ∅ 0 ∗ dutyTok ER (localCell c) 0 () ∗ atPos ER (barCell c) 0 ∅ 0 ∗ dutyTok ER (barCell (peer c)) 0 ()
      ∗ cred (tallyAt (barCell c) () 1) ∗ (∃ W, owes (c : Thread nD τ) (owed₀ c) W) ∗ bigSep Finset.univ (toks c))
    ∗ xHeld (XX c) c ∗ dHeld (DD c) c fullShare
    ∗ (∃ f : KBuf F, ((c : Thread nD τ).loc cc0_scratch0) ↦{fullShare} f) ∗ (∃ f : SBuf F, ((c : Thread nD τ).loc cc0_scratch1) ↦{fullShare} f)
    ∗ (∃ f : BSBuf F, ((c : Thread nD τ).loc cc0_scratch2) ↦{fullShare} f) ∗ (∃ f : BRBuf F, ((c : Thread nD τ).loc cc0_scratch3) ↦[brBand]{fullShare} f)
    ∗ (∃ f : DBuf F, ((c : Thread nD τ).loc cc0_scratch4) ↦{fullShare} f) ∗ R)

variable (XX DD K c) in
/-- The same once the copy of `dest` is under way. -/
def Copying (R : sProp 𝕄) : sProp 𝕄 :=
  iprop(startKnown XX DD K c ∗ bigSep Finset.univ (knownOwn XX DD K c)
    ∗ (atPos ER (localCell c) 0 ∅ 0 ∗ cred (tallyAt (localCell c) () Nw) ∗ atPos ER (barCell c) 0 ∅ 0 ∗ dutyTok ER (barCell (peer c)) 0 ()
      ∗ cred (tallyAt (barCell c) () 1) ∗ (∃ W, owes (c : Thread nD τ) (owed₀ c) W) ∗ bigSep Finset.univ (toks c))
    ∗ xHeld (XX c) c ∗ dHeld (DD c) c (fullShare : PosShare TreeShare).right
    ∗ (∃ f : KBuf F, ((c : Thread nD τ).loc cc0_scratch0) ↦{fullShare} f) ∗ (∃ f : SBuf F, ((c : Thread nD τ).loc cc0_scratch1) ↦{fullShare} f)
    ∗ (∃ f : BSBuf F, ((c : Thread nD τ).loc cc0_scratch2) ↦{fullShare} f) ∗ (∃ f : BRBuf F, ((c : Thread nD τ).loc cc0_scratch3) ↦[brBand]{fullShare} f)
    ∗ R)

variable (c) in
/-- What the start leaves beside the packing loops' buffers and the messages'. -/
def Started (D : DBuf F) (R : sProp 𝕄) : sProp 𝕄 := iprop(dHeld D c fullShare ∗ semVal (localCell c) 0 ∗ semVal (barCell c) 0 ∗ R)

/-- The copy is started, `dest` read, and what the kernel assumes of the count of rows sent holds. -/
theorem start_run {α : Type} {Q : α → sProp 𝕄} {R : sProp 𝕄} {h1 h2 h3 hi hl} {P : DBuf F → Prop} {dec : ∀ v, Decidable (P v)}
    {k : (v : DBuf F) → PLift (P v) → Prog (TpuEff nD τ sig (Elt F) Λ₀ .tc) α} (hP : P (DD c))
    (h : Copying XX DD K c R ⊢ WP c (k (DD c) ⟨hP⟩) Q) :
    AtStart XX DD K c R ⊢ WP c (Prog.lift (.enqueueDma dM (.here wM) (.dma localS) h1 h2 h3) >>= fun _ =>
      Prog.lift (.load (p := Proc.tc) (cs := .vmem) dM (Rect.unit (s := S16x128) ![0, 0] S16x128.size hi).toLoadRect hl) >>= fun v =>
      Prog.lift (.assume (P v) (dec v)) >>= fun h => k v h) Q := by
  simp only [Prog.lift, Prog.bind_op, Prog.bind_ret]
  unfold AtStart startKnown
  iintro ⟨⟨#H1, #H2, #H3, #H4, #H5, #H6, #H7⟩, #Hkn, ⟨Hal, Htl, Hab, Htb, Hcb, HO, Ht⟩, Hx, Hd, Hk, Hs, Hb, Hr, ⟨%f, Hw⟩, HR⟩
  iapply (start_copy (XX := XX) (DD := DD) (K := K) (c := c) f) $$ [Hd Hw Htl]
  · isplitl [Hd]; · iexact Hd
    isplitl [Hw]; · iexact Hw
    isplitr; · iexact H1
    isplitr; · iexact H4
    iexact Htl
  iintro ⟨Hcl, Hd⟩
  iapply (start_read (DD := DD) (c := c)) $$ Hd
  iintro Hd
  iapply (wp_assume 𝒱₀ (c : Thread nD τ) none Set.univ hP)
  iapply h
  unfold Copying startKnown
  isplitr
  · isplitr; · iexact H1
    isplitr; · iexact H2
    isplitr; · iexact H3
    isplitr; · iexact H4
    isplitr; · iexact H5
    isplitr; · iexact H6
    iexact H7
  isplitr; · iexact Hkn
  isplitl [Hal Hcl Hab Htb Hcb HO Ht]; · iframe
  iframe

/-- The peers meet at their barriers and the copy of `dest` is waited for. -/
theorem sync_run {α : Type} {Q : α → sProp 𝕄} {R : sProp 𝕄} {n : Dev nD} {h1 h2} {k : PUnit → Prog (TpuEff nD τ sig (Elt F) Λ₀ .tc) α} (hn : n = peer c)
    (h : Packing (XX c) (DD c) c 0 0 (Posting XX DD K c 0 (Started c (DD c) R)) ⊢ WP c (k ⟨⟩) Q) :
    Copying XX DD K c R ⊢ WP c (semSignalWord n barS 1#32 >>= fun _ => semWaitWord barS 1#32 >>= fun _ =>
      Prog.lift (.waitDma2 localS dM wM h1 h2) >>= k) Q := by
  unfold Copying startKnown
  iintro ⟨⟨#H1, #H2, #H3, #H4, #H5, #H6, #H7⟩, #Hkn, ⟨Hal, Hcl, Hab, Htb, Hcb, ⟨%W, HO⟩, Ht⟩, Hx, Hd, ⟨%k, Hk⟩, ⟨%s, Hs⟩, ⟨%b, Hb⟩, ⟨%g, Hr⟩, HR⟩
  iapply (start_signal (XX := XX) (DD := DD) (K := K) (c := c) hn g W) $$ [Htb HO Hr]
  · isplitr; · iexact H3
    isplitr; · iexact H5
    isplitl [Htb]; · iexact Htb
    isplitl [HO]; · iexact HO
    isplitl [Hr]; · iexact Hr
    iexact H7
  iintro HO
  iapply (start_barrier (XX := XX) (DD := DD) (K := K) (c := c) W) $$ [Hcb Hab HO]
  · isplitr; · iexact H2
    isplitr; · iexact H6
    isplitl [Hcb]; · iexact Hcb
    isplitl [Hab]; · iexact Hab
    iexact HO
  iintro ⟨⟨%W', HO⟩, Hp, #Hre, Hzb⟩
  ihave #Hkn' := (show iprop((bigSep Finset.univ (knownOwn XX DD K c)) ∗ bigSep Finset.univ fun j : Fin 11 => reached ER (recvCell (peer c) j) 0)
      ⊢ bigSep Finset.univ (known XX DD K c) from (Entails.of_eq (bigSep_sep _ _ _).symm).trans (bigSep_mono fun j _ => known_of_own XX DD K c j)) $$ [Hkn Hre]
  · isplitr; · iexact Hkn
    iexact Hre
  simp only [Prog.lift, Prog.bind_op, Prog.bind_ret]
  iapply (start_local (XX := XX) (DD := DD) (K := K) (c := c) W') $$ [Hcl Hal HO Hd]
  · isplitr; · iexact H1
    isplitr; · iexact H6
    isplitl [Hcl]; · iexact Hcl
    isplitl [Hal]; · iexact Hal
    isplitl [HO]; · iexact HO
    iexact Hd
  iintro ⟨HO, Hd, Hw, Hzl⟩
  iapply h
  unfold Packing Posting Started
  rw [brFrom_zero, bsFrom_zero, fromJ_zero, uptoJ_zero]
  isplitl [Hx]; · iexact Hx
  isplitl [Hw]; · iexact Hw
  isplitl [Hs]
  · unfold sHeld; iexists s; isplitr
    · ipureintro; intro i hi; omega
    iexact Hs
  isplitl [Hk]
  · unfold kHeld; iexists k; isplitr
    · ipureintro; intro i hi hi'; omega
    iexact Hk
  isplitl [Hb]; · iexists b; iexact Hb
  isplitl [Hp]; · iexact Hp
  isplitl [HO]; · iexact HO
  isplitl [Ht]; · iexact Ht
  isplitr; · rw [bigSep_empty]; iempintro
  isplitr; · iexact Hkn'
  iframe

end Start
end Cert.A2A

end
-- ==== Proof.Check.lean ====
/-
What the kernel assumes of the count of rows sent holds of 1024 on every device.
-/
module

public import proofs.«01_k».proof.Proof.Base

@[expose] public section

namespace Cert.A2A

open Cert.KernelIdeal Cert.KernelIdeal.Gen
open Idealize.ShloMosaic

theorem count_ok (c : Dev nD) : k0_chk129 c 1024#32 := by revert c; decide +kernel

end Cert.A2A

end
-- ==== Proof.Packing.lean ====
/-
Between the packing loops: a loop, the messages looked at after it, and how the count of messages gone is carried on.
-/
module

public import proofs.«01_k».proof.Proof.Start
public import proofs.«01_k».proof.Proof.Check

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The count of rows sent, as the kernel computes it. -/
def sentWord (D : DBuf F) (r : BitVec 32) : BitVec 32 :=
  extractAt ![0, 0, 0] (shapeCast S1x1x1 (multiReductionI .add [1, 2] S1 (shapeCast S1x16x128
    (extui 32 (cmpi .ne (shapeCast S16x128 D shapeCasts_S16x128_S16x128) (broadcast S16x128 r)) natLt_1_32) shapeCasts_S16x128_S1x16x128) 0#32
    reduces_S1x16x128_S1 rfl) shapeCasts_S1_S1x1x1) inpos_S1x1x1_p0_0_0

omit [FloatOps F] in
/-- Where half the rows are kept, at most half are sent. -/
theorem sCount_half {D : DBuf F} {r : BitVec 32} (hbal : kCount D r 2048 = 1024) (s : ℕ) : sCount D r s ≤ 1024 := by
  have h := count_add D r 2048 le_rfl
  rcases Nat.le_total s 2048 with hs | hs
  · have := sCount_mono D r hs; omega
  · have e : ∀ k, sCount D r (2048 + k) = sCount D r 2048 := fun k => by
      induction k with
      | zero => rfl
      | succ k ih =>
        rw [← ih]; show Nat.count _ (2048 + k + 1) = _
        rw [Nat.count_succ, if_neg (fun h' => absurd h'.1 (by omega))]; rfl
    obtain ⟨k, rfl⟩ := Nat.exists_eq_add_of_le hs
    rw [e]; omega

/-- The messages gone before the first is looked at. -/
theorem gone_zero (n n' : ℕ) : gone n n' 0 = mc n := by unfold gone; omega
/-- The messages gone once those the rows suffice for have been looked at. -/
theorem gone_done {n n' j : ℕ} (hn : n ≤ n') (hn' : n' ≤ 1024) (hj : n' < lim j) : gone n n' j = mc n' := by
  have h1 : mc n ≤ mc n' := Finset.card_le_card fun i hi => by
    rw [Finset.mem_filter] at hi ⊢; exact ⟨hi.1, hi.2.trans hn⟩
  have h2 : mc n' ≤ j := by
    by_cases h : j < 11
    · have := lt_mc ⟨n', by omega⟩ ⟨j, h⟩
      dsimp only at this; omega
    · have := mc_le n'; omega
  unfold gone; omega

/-! ## The words the unpacking starts from -/

/-- The first row of the merge buffer received rows go to. -/
def recvBase (c : Dev nD) : BitVec 32 := Scalar.select (Scalar.cmpi .eq (placeW c) 0#32) 1024#32 0#32
/-- The first block of eight kept rows, and how many there are. -/
def firstTrip (c : Dev nD) : BitVec 32 := Scalar.select (Scalar.cmpi .eq (placeW c) 0#32) 0#32 (Scalar.shrsi (Scalar.subi (Scalar.addi 1024#32 8#32) 1#32) 3#32)
def tripCount (c : Dev nD) : BitVec 32 :=
  Scalar.divsi (Scalar.subi (Scalar.select (Scalar.cmpi .eq (placeW c) 0#32) (Scalar.shrsi 1024#32 3#32) 256#32) (firstTrip c)) 1#32
/-- How many blocks are left after the last message. -/
def lastCount (c : Dev nD) : BitVec 32 :=
  Scalar.subi (Scalar.select (Scalar.cmpi .eq (placeW c) 0#32) 256#32 (Scalar.shrsi (Scalar.subi (Scalar.addi 1024#32 8#32) 1#32) 3#32))
    (Scalar.shrsi (Scalar.addi (recvBase c) 1024#32) 3#32)

section Chain
variable {XX : Dev nD → XBuf F} {DD : Dev nD → DBuf F} {K : Dev nD × CellId → ℕ} {c : Dev nD} {α : Type}

theorem step_device {P : sProp 𝕄} {Q : α → sProp 𝕄} {k : Dev nD → Prog (TpuEff nD τ sig (Elt F) Λ₀ .tc) α}
    (h : P ⊢ WP c (k c) Q) : P ⊢ WP c (Prog.lift .deviceId >>= k) Q := by
  simp only [Prog.lift, Prog.bind_op, Prog.bind_ret, wp_deviceId]; exact h

/-- A packing loop, after which no message has been looked at. -/
theorem step_loop {R : sProp 𝕄} {Q : α → sProp 𝕄} {l : Scf.Loop 32} {hok : l.OK} {body : Fin l.trips → BitVec 32 × BitVec 32 → Prog (TpuEff nD τ sig (Elt F) Λ₀ .tc) (BitVec 32 × BitVec 32)}
    {k : BitVec 32 × BitVec 32 → Prog (TpuEff nD τ sig (Elt F) Λ₀ .tc) α} {a b : BitVec 32} {s : ℕ}
    (hbody : ∀ (R : sProp 𝕄) (t : Fin l.trips) (a b : BitVec 32) (p : ℕ), t.val < 16 → p = s + 8 * t.val →
      a = BitVec.ofNat 32 (sCount (DD c) (placeW c) p) → b = BitVec.ofNat 32 (kCount (DD c) (placeW c) p) →
      (Packing (XX c) (DD c) c (sCount (DD c) (placeW c) p) (kCount (DD c) (placeW c) p) R ⊢ WP c (body t (a, b)) fun r =>
        iprop(⌜r = (BitVec.ofNat 32 (sCount (DD c) (placeW c) (p + 8)), BitVec.ofNat 32 (kCount (DD c) (placeW c) (p + 8)))⌝
          ∗ Packing (XX c) (DD c) c (sCount (DD c) (placeW c) (p + 8)) (kCount (DD c) (placeW c) (p + 8)) R)))
    (h : Packing (XX c) (DD c) c (sCount (DD c) (placeW c) (s + 128)) (kCount (DD c) (placeW c) (s + 128))
        (Posting XX DD K c (gone (sCount (DD c) (placeW c) s) (sCount (DD c) (placeW c) (s + 128)) 0) R)
      ⊢ WP c (k (BitVec.ofNat 32 (sCount (DD c) (placeW c) (s + 128)), BitVec.ofNat 32 (kCount (DD c) (placeW c) (s + 128)))) Q)
    (hl : l.trips = 16 := by rfl)
    (ha : a = BitVec.ofNat 32 (sCount (DD c) (placeW c) s) := by rfl) (hb : b = BitVec.ofNat 32 (kCount (DD c) (placeW c) s) := by rfl) :
    Packing (XX c) (DD c) c (sCount (DD c) (placeW c) s) (kCount (DD c) (placeW c) s) (Posting XX DD K c (mc (sCount (DD c) (placeW c) s)) R)
      ⊢ WP c (Scf.Loop.for l hok (a, b) body >>= k) Q :=
  step_pack s hl ha hb (hbody _) (gone_zero _ _ ▸ h)

/-- A message looked at. -/
theorem step_look {R : sProp 𝕄} {Q : α → sProp 𝕄} {C : BitVec 1} {dC : Decidable (C = 1#1)} {o m : ℕ} {d : Dev nD} {sS sR : DmaSem sig}
    {hi1 : ∀ a, (![o, 0] : Fin 2 → ℕ) a + (![m, 128] : Fin 2 → ℕ) a ≤ S17408x128.size a}
    {hi2 : ∀ a, (![o, 0] : Fin 2 → ℕ) a + (![m, 128] : Fin 2 → ℕ) a ≤ S16384x128.size a} {hl1 hl2 hs1 hs2 hu1 hu2 hw1 hc}
    {hw2 : (brM.slice (Rect.unit (s := S16384x128) ![o, 0] ![m, 128] hi2) hu2).view.WordExact} {hsc}
    {h3 : DmaTarget.Typed .vmem (.dma sR) (.remote (Dev.tc d : Thread nD τ) (brM.slice (Rect.unit (s := S16384x128) ![o, 0] ![m, 128] hi2) hu2) (.dma sS) hsc)}
    {k : Prog (TpuEff nD τ sig (Elt F) Λ₀ .tc) α} {s j q : ℕ} {a a' hi : BitVec 32}
    (hle : ∀ s, sCount (DD c) (placeW c) s ≤ 1024)
    (h : Packing (XX c) (DD c) c (sCount (DD c) (placeW c) (s + 128)) q
        (Posting XX DD K c (gone (sCount (DD c) (placeW c) s) (sCount (DD c) (placeW c) (s + 128)) (j + 1)) R) ⊢ WP c k Q)
    (hC : C = msgCond a a' hi := by rfl) (hhi : hi = BitVec.ofNat 32 (lim j) := by rfl) (ho : o = off j := by rfl) (hm : m = len j := by rfl)
    (hd : d = peer c := by exact dev_eq _) (hj : j < 19 := by decide)
    (hS : ∀ h : j < 11, sS = sendS ⟨j, h⟩ := by exact fun _ => rfl) (hR : ∀ h : j < 11, sR = recvS ⟨j, h⟩ := by exact fun _ => rfl)
    (ha : a = BitVec.ofNat 32 (sCount (DD c) (placeW c) s) := by rfl) (ha' : a' = BitVec.ofNat 32 (sCount (DD c) (placeW c) (s + 128)) := by rfl) :
    Packing (XX c) (DD c) c (sCount (DD c) (placeW c) (s + 128)) q
        (Posting XX DD K c (gone (sCount (DD c) (placeW c) s) (sCount (DD c) (placeW c) (s + 128)) j) R) ⊢ WP c (ite (C = 1#1)
      (Prog.lift (.load (p := Proc.tc) (cs := .vmem) sM (Rect.unit (s := S17408x128) ![o, 0] ![m, 128] hi1).toLoadRect hl1) >>= fun v =>
        Prog.lift (.load (p := Proc.tc) (cs := .vmem) bsM (Rect.unit (s := S17408x128) ![o, 0] ![m, 128] hi1).toLoadRect hl2) >>= fun _ =>
        Prog.lift (.store (p := Proc.tc) (cs := .vmem) bsM (Rect.unit (s := S17408x128) ![o, 0] ![m, 128] hi1)
          (shapeCast ⟨2, ![m, 128]⟩ (truncf .bf16 v bitsLt_bf16_f32) hc) Finset.univ hs1 hs2) >>= fun _ =>
        Prog.lift (.enqueueDma (bsM.slice (Rect.unit (s := S17408x128) ![o, 0] ![m, 128] hi1) hu1)
          (.remote (Dev.tc d : Thread nD τ) (brM.slice (Rect.unit (s := S16384x128) ![o, 0] ![m, 128] hi2) hu2) (.dma sS) hsc) (.dma sR) hw1 hw2 h3) >>= fun _ => k)
      k) Q :=
  step_message j hC hhi ho hm hd hj hS hR ha ha' (hle _) (hle _) h

/-- The messages after a loop have been looked at. -/
theorem step_looked {P : sProp 𝕄} {R : sProp 𝕄} {s j q : ℕ} (hle : ∀ s, sCount (DD c) (placeW c) s ≤ 1024) (hs : s + 128 ≤ 2048)
    (hj : s + 128 < lim j ∨ 1024 < lim j)
    (h : Packing (XX c) (DD c) c (sCount (DD c) (placeW c) (s + 128)) q (Posting XX DD K c (mc (sCount (DD c) (placeW c) (s + 128))) R) ⊢ P) :
    Packing (XX c) (DD c) c (sCount (DD c) (placeW c) (s + 128)) q
        (Posting XX DD K c (gone (sCount (DD c) (placeW c) s) (sCount (DD c) (placeW c) (s + 128)) j) R) ⊢ P := by
  have h1 := sCount_le (DD c) (placeW c) _ hs
  have h2 := hle (s + 128)
  rw [gone_done (sCount_mono _ _ (Nat.le_add_right _ _)) h2 (by omega)]
  exact h

end Chain

end Cert.A2A

end
-- ==== Proof.Even.lean ====
/-
Counting the words of `dest`: where each is zero or one and they sum to 1024, a device keeps 1024 of its 2048 rows and
sends the other 1024, whichever its place, and the kernel's own count of the rows sent is 1024.
-/
module

public import proofs.«01_k».proof.Proof.Packing
public import proofs.«01_k».proof.Pre_balanced_Kernel
public import Idealize.ShloMosaic.Lib.WordSum
public import Idealize.ShloMosaic.Lib.SortFacts
public import Idealize.ShloMosaic.Lib.Pipeline.Value
public import Idealize.ShloMosaic.Lib.ReduceAll

@[expose] public section

noncomputable section

namespace Cert.A2A

open Cert.KernelIdeal Cert.KernelIdeal.Gen
open Idealize.ShloMosaic

variable {F : FTy → Type}

/-! ## The words of `dest`, as the kernel stages them -/

/-- A reshape moves the elements about, so a sum over them stays what it was. -/
theorem sum_shapeCast {s t : Shape} {α : Type} (x : s.Idx → α) (h : s.ShapeCasts t) (f : α → ℕ) :
    ∑ j : t.Idx, f (shapeCast t x h j) = ∑ i : s.Idx, f (x i) :=
  Equiv.sum_comp (Shape.reshapeEquiv h) fun i => f (x i)

/-- A sum over the indices of a vector is a sum over its positions. -/
theorem sum_ofFin {n : ℕ} (f : (⟨1, ![n]⟩ : Shape).Idx → ℕ) : ∑ i, f i = ∑ p : Fin n, f (Shape.Idx.ofFin p) :=
  (Fintype.sum_equiv ⟨fun i => i 0, fun p => Shape.Idx.ofFin p, fun i => (Shape.Idx.eq_ofFin i).symm, fun p => Shape.Idx.ofFin_zero p⟩
    f (fun p => f (Shape.Idx.ofFin p)) fun i => congrArg f (Shape.Idx.eq_ofFin i))

/-- The destinations, sixteen rows of 128 words. -/
abbrev staged (d : IVec S2048 32) : DBuf F := shapeCast S16x128 d shapeCasts_S2048_S16x128

/-- The word at position `p` is the destination of row `p`. -/
theorem word_staged (d : IVec S2048 32) (p : Fin 2048) : word (F := F) (staged d) p.val = d (Shape.Idx.ofFin p) := by
  refine shapeCast_apply d shapeCasts_S2048_S16x128 _ _ ?_
  rw [Shape.rowMajor_val_one, Shape.rowMajor_val_two]
  show p.val = (p.val / 128 % 16) * 128 + p.val % 128
  have := p.isLt; omega

/-- How many words differ from `r`, and how many equal it. -/
def differing (d : IVec S2048 32) (r : BitVec 32) : ℕ := ∑ p : Fin 2048, if d (Shape.Idx.ofFin p) = r then 0 else 1

theorem count_staged (d : IVec S2048 32) (r : BitVec 32) : kCount (F := F) (staged d) r 2048 + differing d r = 2048 := by
  have h : kCount (F := F) (staged d) r 2048 = ∑ p : Fin 2048, if d (Shape.Idx.ofFin p) = r then 1 else 0 := by
    rw [kCount, Nat.count_eq_card_filter_range, Finset.card_filter, Finset.sum_range]
    refine Finset.sum_congr rfl fun p _ => ?_
    have : Kept (F := F) (staged d) r p.val ↔ d (Shape.Idx.ofFin p) = r := by
      rw [← word_staged (F := F) d p]; exact ⟨fun h => h.2, fun h => ⟨p.isLt, h⟩⟩
    by_cases e : d (Shape.Idx.ofFin p) = r
    · rw [if_pos (this.mpr e), if_pos e]
    · rw [if_neg (fun k => e (this.mp k)), if_neg e]
  rw [h, differing, ← Finset.sum_add_distrib]
  refine (Finset.sum_congr rfl fun p _ => ?_).trans (show ∑ _p : Fin 2048, 1 = 2048 by simp)
  by_cases e : d (Shape.Idx.ofFin p) = r <;> simp [e]

/-- The kernel's count is that number. -/
theorem sentWord_staged (d : IVec S2048 32) (r : BitVec 32) : sentWord (F := F) (staged d) r = BitVec.ofNat 32 (differing d r) := by
  have hle : differing d r ≤ 2048 := by have := count_staged (F := F) d r; omega
  apply BitVec.eq_of_toNat_eq
  rw [BitVec.toNat_ofNat, Nat.mod_eq_of_lt (by omega)]
  unfold sentWord extractAt
  have hone : ∀ i, ((extui 32 (cmpi .ne (shapeCast S16x128 (staged (F := F) d) shapeCasts_S16x128_S16x128) (broadcast S16x128 r)) natLt_1_32 : IVec S16x128 32) i).toNat
      = (fun v : BitVec 32 => if v = r then 0 else 1) (staged (F := F) d i) := by
    intro i
    refine Eq.trans ?_ (congrArg (fun v : BitVec 32 => if v = r then 0 else 1) (congrFun (shapeCast_self (staged (F := F) d) shapeCasts_S16x128_S16x128) i))
    exact (show ∀ v : BitVec 32, (BitVec.setWidth 32 (BitVec.ofBool (v != r))).toNat = if v = r then 0 else 1 from fun v => by
      by_cases e : v = r
      · rw [if_pos e, e]; simp
      · rw [if_neg e, bne_iff_ne.mpr e]; rfl) _
  have hsum : ∀ j, (∑ i ∈ Finset.univ.filter (fun i => reduces_S1x16x128_S1.drop i = j), ((shapeCast S1x16x128
      (extui 32 (cmpi .ne (shapeCast S16x128 (staged (F := F) d) shapeCasts_S16x128_S16x128) (broadcast S16x128 r)) natLt_1_32) shapeCasts_S16x128_S1x16x128 : IVec S1x16x128 32) i).toNat)
      = differing d r := by
    intro j
    rw [Finset.filter_true_of_mem fun i _ => ?_]
    · refine (sum_shapeCast _ _ BitVec.toNat).trans ?_
      rw [Finset.sum_congr rfl fun i _ => hone i]
      refine (sum_shapeCast d shapeCasts_S2048_S16x128 fun v => if v = r then 0 else 1).trans ?_
      exact sum_ofFin _
    · funext a
      have := (reduces_S1x16x128_S1.drop i a).isLt; have := (j a).isLt
      have : S1.size a = 1 := by have : a = 0 := Subsingleton.elim _ _; subst this; rfl
      apply Fin.ext; omega
  show BitVec.toNat (multiReductionI .add [1, 2] S1 _ 0#32 _ _ (Shape.reshapeEquiv _ _)) = _
  refine (WordSum.toNat_multiReductionI_add _ reduces_S1x16x128_S1 rfl _ ?_).trans (hsum _)
  rw [hsum]; omega

/-! ## The precondition -/

/-- Zeros and ones that sum to 1024 are 1024 ones. -/
theorem ones_of_sum (d : IVec S2048 32) (h01 : ∀ p, d (Shape.Idx.ofFin p) = 0#32 ∨ d (Shape.Idx.ofFin p) = 1#32)
    (hsum : (∑ i, d i).toNat = 1024) : differing d 0#32 = 1024 ∧ differing d 1#32 = 1024 := by
  have h0 : ∀ p, (d (Shape.Idx.ofFin p)).toNat = if d (Shape.Idx.ofFin p) = 0#32 then 0 else 1 := by
    intro p; rcases h01 p with h | h <;> rw [h] <;> rfl
  have h1 : ∀ p, (if d (Shape.Idx.ofFin p) = 0#32 then 0 else 1) + (if d (Shape.Idx.ofFin p) = 1#32 then 0 else 1) = 1 := by
    intro p; rcases h01 p with h | h <;> rw [h] <;> rfl
  have hs : ∑ i, (d i).toNat = differing d 0#32 := by
    rw [sum_ofFin fun i => (d i).toNat]; exact Finset.sum_congr rfl fun p _ => h0 p
  have hadd : differing d 0#32 + differing d 1#32 = 2048 := by
    unfold differing; rw [← Finset.sum_add_distrib, Finset.sum_congr rfl fun p _ => h1 p]; simp
  rw [WordSum.toNat_sum _ _ (by rw [hs]; omega), hs] at hsum
  omega

/-- What the precondition says of a device's destinations. -/
theorem words_of_balanced [Cert.Pre_balanced_Kernel.Facts] {x : FVec F S2048x1024 .f32} {d : IVec S2048 32} [FloatOps F]
    (h : Cert.Pre_balanced_Kernel.fn x d = fun _ => 1#1) :
    (∀ p, d (Shape.Idx.ofFin p) = 0#32 ∨ d (Shape.Idx.ofFin p) = 1#32) ∧ (∑ i, d i).toNat = 1024 := by
  have h' := congrFun h (fun a => a.elim0)
  obtain ⟨hall, hsum⟩ := IntOp.andi_eq_one.mp h'
  have : Subsingleton Cert.Pre_balanced_Kernel.S_.Idx := ⟨fun a b => funext fun k => k.elim0⟩
  constructor
  · intro p
    have hp := Host.reduce_andi_all _ _ _ _ _ hall (Shape.Idx.ofFin p)
    have e : ∀ v w : BitVec 32, IntOp.cmpi .eq v w = 1#1 → v = w := fun v w hv => by
      by_contra hne
      have : BitVec.ofBool (v == w) = 1#1 := hv
      rw [beq_eq_false_iff_ne.mpr hne] at this
      exact absurd this (by decide)
    rcases (show ∀ a b : BitVec 1, IntOp.ori a b = 1#1 → a = 1#1 ∨ b = 1#1 by decide) _ _ hp with h0 | h0
    · exact Or.inl (e _ _ h0)
    · exact Or.inr (e _ _ h0)
  · have hv : Host.reduce IntOp.addi d (constantI Cert.Pre_balanced_Kernel.S_ 32 0#32) Cert.Pre_balanced_Kernel.Facts.reducesTo_S2048_S_d0
        Cert.Pre_balanced_Kernel.Facts.h_S_ (fun a => a.elim0) = 1024#32 := by
      by_contra hne
      have : BitVec.ofBool (_ == 1024#32) = 1#1 := hsum
      rw [beq_eq_false_iff_ne.mpr hne] at this
      exact absurd this (by decide)
    rw [Host.reduce_eq_fold, Finset.filter_true_of_mem fun i _ => Subsingleton.elim _ _] at hv
    have hf : Finset.univ.fold IntOp.addi 0#32 d = ∑ i, d i := rfl
    rw [← hf]
    exact congrArg BitVec.toNat hv

end Cert.A2A

end
-- ==== Proof.Chain.lean ====
/-
The kernel up to the last packing loop's messages: every row is in the send buffer or the merge buffer, and
eleven messages have gone.
-/
module

public import proofs.«01_k».proof.Proof.Packing

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem part74_run {XX : Dev nD → XBuf F} {DD : Dev nD → DBuf F} {c : Dev nD} {K : Dev nD × CellId → ℕ} {R : sProp 𝕄} {α : Type} {Q : α → sProp 𝕄} {k}
   (hs : sentWord (DD c) (placeW c) = 1024#32)
   (h : ∀ v5 v8 v9 hw, Copying XX DD K c R ⊢ WP c (k ⟨c, placeW c, v5, v8, v9, 1024#32, hw, 1024#32, Scalar.muli (placeW c) 1024#32, Scalar.muli (placeW c) 1024#32, 1024#32, 0#32, SemArray.scalar (sig.barrier 0 rfl)⟩) Q) :
   AtStart XX DD K c R ⊢ WP c (k0_part74 xM (Memref.isWhole_whole _) dM (Memref.isWhole_whole _) oM (Memref.isWhole_whole _) kM (Memref.isWhole_whole _) sM (Memref.isWhole_whole _) bsM (Memref.isWhole_whole _) brM (Memref.isWhole_whole _) wM (Memref.isWhole_whole _) cc0_scratch5 cc0_scratch6 cc0_scratch7 cc0_scratch8 cc0_scratch9 >>= k) Q := by
  have hw : k0_chk129 c (sentWord (DD c) (placeW c)) := by rw [hs]; exact count_ok c
  have h' : ∀ v (hw : k0_chk129 c v), v = 1024#32 → ∀ v5 v8 v9, Copying XX DD K c R ⊢ WP c (k ⟨c, placeW c, v5, v8, v9, v, hw, Scalar.subi 2048#32 v, Scalar.muli (placeW c) v,
    Scalar.muli (placeW c) (Scalar.subi 2048#32 v), Scalar.select (Scalar.cmpi .sge v 128#32) (Scalar.shli (Scalar.shrsi v 7#32) 7#32) (Scalar.shli (Scalar.shrsi v 5#32) 5#32),
    Scalar.subi v (Scalar.select (Scalar.cmpi .sge v 128#32) (Scalar.shli (Scalar.shrsi v 7#32) 7#32) (Scalar.shli (Scalar.shrsi v 5#32) 5#32)), SemArray.scalar (sig.barrier 0 rfl)⟩) Q := by
    intro v hw hv v5 v8 v9
    subst hv
    exact h v5 v8 v9 hw
  refine step_bind (F := F) ?_
  unfold k0_part74
  refine step_device (F := F) ?_
  refine start_run (F := F) (P := fun v => k0_chk129 c (sentWord v (placeW c))) hw ?_
  refine step_pure (F := F) ?_
  exact h' _ hw hs _ _ _

set_option maxHeartbeats 16000000 in
/-- The kernel as far as the messages after the last packing loop. -/
theorem pack_run {XX : Dev nD → XBuf F} {DD : Dev nD → DBuf F} {c : Dev nD} {K : Dev nD × CellId → ℕ} {R S : sProp 𝕄} {Q} (hbal : kCount (DD c) (placeW c) 2048 = 1024)
    (hs : sentWord (DD c) (placeW c) = 1024#32)
    (hrest : ∀ v5 v8 v9 hw (k : PUnit → Prog (TpuEff nD τ sig (Elt F) Λ₀ .tc) _), (S ⊢ WP c (k ⟨⟩) Q) →
      (Packing (XX c) (DD c) c 1024 1024 (Posting XX DD K c 11 (Started c (DD c) R)) ⊢ WP c (k0_part106 xM (Memref.isWhole_whole _) dM (Memref.isWhole_whole _) oM (Memref.isWhole_whole _) kM (Memref.isWhole_whole _) sM (Memref.isWhole_whole _) bsM (Memref.isWhole_whole _) brM (Memref.isWhole_whole _) wM (Memref.isWhole_whole _) cc0_scratch5 cc0_scratch6 cc0_scratch7 cc0_scratch8 cc0_scratch9 c v5 v8 v9 1024#32 hw (recvBase c) (firstTrip c) 1#32 (tripCount c)
        >>= fun _ => k0_part107 xM (Memref.isWhole_whole _) dM (Memref.isWhole_whole _) oM (Memref.isWhole_whole _) kM (Memref.isWhole_whole _) sM (Memref.isWhole_whole _) bsM (Memref.isWhole_whole _) brM (Memref.isWhole_whole _) wM (Memref.isWhole_whole _) cc0_scratch5 cc0_scratch6 cc0_scratch7 cc0_scratch8 cc0_scratch9 c v5 v8 v9 1024#32 hw (recvBase c)
        >>= fun _ => k0_part108 xM (Memref.isWhole_whole _) dM (Memref.isWhole_whole _) oM (Memref.isWhole_whole _) kM (Memref.isWhole_whole _) sM (Memref.isWhole_whole _) bsM (Memref.isWhole_whole _) brM (Memref.isWhole_whole _) wM (Memref.isWhole_whole _) cc0_scratch5 cc0_scratch6 cc0_scratch7 cc0_scratch8 cc0_scratch9 c v5 v8 v9 1024#32 hw 1024#32 0#32 (recvBase c) >>= k) Q))
    (h : ∀ hw, S ⊢ Q ⟨c, 1024#32, hw, Scalar.shrsi (Scalar.addi (recvBase c) 1024#32) 3#32, lastCount c, 1#32⟩) :
    AtStart XX DD K c R ⊢ WP c (k0_part109 xM (Memref.isWhole_whole _) dM (Memref.isWhole_whole _) oM (Memref.isWhole_whole _) kM (Memref.isWhole_whole _) sM (Memref.isWhole_whole _) bsM (Memref.isWhole_whole _) brM (Memref.isWhole_whole _) wM (Memref.isWhole_whole _) cc0_scratch5 cc0_scratch6 cc0_scratch7 cc0_scratch8 cc0_scratch9) Q := by
  have hle := sCount_half hbal
  unfold k0_part109
  refine part74_run (F := F) hs fun v5 v8 v9 hw => ?_
  refine step_bind (F := F) ?_
  unfold k0_part75
  refine sync_run (F := F) (dev_eq c) ?_
  have hS0 : sCount (DD c) (placeW c) 0 = 0 := sCount_zero _ _
  have hK0 : kCount (DD c) (placeW c) 0 = 0 := kCount_zero _ _
  rw [show Packing (XX c) (DD c) c 0 0 (Posting XX DD K c 0 (Started c (DD c) R)) = Packing (XX c) (DD c) c (sCount (DD c) (placeW c) 0) (kCount (DD c) (placeW c) 0)
    (Posting XX DD K c (mc (sCount (DD c) (placeW c) 0)) (Started c (DD c) R)) by rw [hS0, hK0, mc_zero]]
  refine step_loop (F := F) ?_ ?_
  swap
  iterate 4 refine step_look (F := F) hle ?_
  refine step_looked hle (by decide) (by decide) ?_
  refine step_loop (F := F) ?_ ?_
  swap
  refine step_pure (F := F) ?_
  refine step_bind (F := F) ?_
  unfold k0_part76
  iterate 5 refine step_look (F := F) hle ?_
  refine step_looked hle (by decide) (by decide) ?_
  refine step_loop (F := F) ?_ ?_
  swap
  refine step_look (F := F) hle ?_
  refine step_pure (F := F) ?_
  refine step_bind (F := F) ?_
  unfold k0_part77
  iterate 5 refine step_look (F := F) hle ?_
  refine step_looked hle (by decide) (by decide) ?_
  refine step_loop (F := F) ?_ ?_
  swap
  refine step_look (F := F) hle ?_
  refine step_pure (F := F) ?_
  refine step_bind (F := F) ?_
  unfold k0_part78
  iterate 6 refine step_look (F := F) hle ?_
  refine step_looked hle (by decide) (by decide) ?_
  refine step_loop (F := F) ?_ ?_
  swap
  refine step_pure (F := F) ?_
  refine step_bind (F := F) ?_
  unfold k0_part79
  iterate 6 refine step_look (F := F) hle ?_
  refine step_pure (F := F) ?_
  refine step_bind (F := F) ?_
  unfold k0_part80
  iterate 2 refine step_look (F := F) hle ?_
  refine step_looked hle (by decide) (by decide) ?_
  refine step_loop (F := F) ?_ ?_
  swap
  iterate 4 refine step_look (F := F) hle ?_
  refine step_pure (F := F) ?_
  refine step_bind (F := F) ?_
  unfold k0_part81
  iterate 5 refine step_look (F := F) hle ?_
  refine step_looked hle (by decide) (by decide) ?_
  refine step_loop (F := F) ?_ ?_
  swap
  refine step_look (F := F) hle ?_
  refine step_pure (F := F) ?_
  refine step_bind (F := F) ?_
  unfold k0_part82
  iterate 7 refine step_look (F := F) hle ?_
  refine step_pure (F := F) ?_
  refine step_bind (F := F) ?_
  unfold k0_part83
  iterate 2 refine step_look (F := F) hle ?_
  refine step_looked hle (by decide) (by decide) ?_
  refine step_loop (F := F) ?_ ?_
  swap
  iterate 4 refine step_look (F := F) hle ?_
  refine step_pure (F := F) ?_
  refine step_bind (F := F) ?_
  unfold k0_part84
  iterate 7 refine step_look (F := F) hle ?_
  refine step_pure (F := F) ?_
  refine step_bind (F := F) ?_
  unfold k0_part85
  refine step_looked hle (by decide) (by decide) ?_
  refine step_loop (F := F) ?_ ?_
  swap
  iterate 6 refine step_look (F := F) hle ?_
  refine step_pure (F := F) ?_
  refine step_bind (F := F) ?_
  unfold k0_part86
  iterate 6 refine step_look (F := F) hle ?_
  refine step_looked hle (by decide) (by decide) ?_
  refine step_loop (F := F) ?_ ?_
  swap
  refine step_pure (F := F) ?_
  refine step_bind (F := F) ?_
  unfold k0_part87
  iterate 6 refine step_look (F := F) hle ?_
  refine step_pure (F := F) ?_
  refine step_bind (F := F) ?_
  unfold k0_part88
  iterate 7 refine step_look (F := F) hle ?_
  refine step_pure (F := F) ?_
  refine step_bind (F := F) ?_
  unfold k0_part89
  refine step_looked hle (by decide) (by decide) ?_
  refine step_loop (F := F) ?_ ?_
  swap
  iterate 6 refine step_look (F := F) hle ?_
  refine step_pure (F := F) ?_
  refine step_bind (F := F) ?_
  unfold k0_part90
  iterate 7 refine step_look (F := F) hle ?_
  refine step_pure (F := F) ?_
  refine step_bind (F := F) ?_
  unfold k0_part91
  refine step_look (F := F) hle ?_
  refine step_looked hle (by decide) (by decide) ?_
  refine step_loop (F := F) ?_ ?_
  swap
  iterate 5 refine step_look (F := F) hle ?_
  refine step_pure (F := F) ?_
  refine step_bind (F := F) ?_
  unfold k0_part92
  iterate 6 refine step_look (F := F) hle ?_
  refine step_pure (F := F) ?_
  refine step_bind (F := F) ?_
  unfold k0_part93
  iterate 4 refine step_look (F := F) hle ?_
  refine step_looked hle (by decide) (by decide) ?_
  refine step_loop (F := F) ?_ ?_
  swap
  iterate 2 refine step_look (F := F) hle ?_
  refine step_pure (F := F) ?_
  refine step_bind (F := F) ?_
  unfold k0_part94
  iterate 7 refine step_look (F := F) hle ?_
  refine step_pure (F := F) ?_
  refine step_bind (F := F) ?_
  unfold k0_part95
  iterate 7 refine step_look (F := F) hle ?_
  refine step_pure (F := F) ?_
  refine step_bind (F := F) ?_
  unfold k0_part96
  refine step_looked hle (by decide) (by decide) ?_
  refine step_loop (F := F) ?_ ?_
  swap
  iterate 6 refine step_look (F := F) hle ?_
  refine step_pure (F := F) ?_
  refine step_bind (F := F) ?_
  unfold k0_part97
  iterate 6 refine step_look (F := F) hle ?_
  refine step_pure (F := F) ?_
  refine step_bind (F := F) ?_
  unfold k0_part98
  iterate 5 refine step_look (F := F) hle ?_
  refine step_looked hle (by decide) (by decide) ?_
  refine step_loop (F := F) ?_ ?_
  swap
  refine step_look (F := F) hle ?_
  refine step_pure (F := F) ?_
  refine step_bind (F := F) ?_
  unfold k0_part99
  iterate 7 refine step_look (F := F) hle ?_
  refine step_pure (F := F) ?_
  refine step_bind (F := F) ?_
  unfold k0_part100
  iterate 7 refine step_look (F := F) hle ?_
  refine step_pure (F := F) ?_
  refine step_bind (F := F) ?_
  unfold k0_part101
  iterate 3 refine step_look (F := F) hle ?_
  refine step_looked hle (by decide) (by decide) ?_
  refine step_loop (F := F) ?_ ?_
  swap
  iterate 3 refine step_look (F := F) hle ?_
  refine step_pure (F := F) ?_
  refine step_bind (F := F) ?_
  unfold k0_part102
  iterate 6 refine step_look (F := F) hle ?_
  refine step_pure (F := F) ?_
  refine step_bind (F := F) ?_
  unfold k0_part103
  iterate 7 refine step_look (F := F) hle ?_
  refine step_pure (F := F) ?_
  refine step_bind (F := F) ?_
  unfold k0_part104
  iterate 3 refine step_look (F := F) hle ?_
  refine step_looked hle (by decide) (by decide) ?_
  iterate 4 refine step_never (F := F) (by decide) ?_
  refine step_pure (F := F) ?_
  refine step_bind (F := F) ?_
  unfold k0_part105
  iterate 4 refine step_never (F := F) (by decide) ?_
  refine step_pure (F := F) ?_
  · have hS : sCount (DD c) (placeW c) (128 + 1792 + 128) = 1024 := by have := count_add (DD c) (placeW c) 2048 le_rfl; show sCount _ _ 2048 = 1024; omega
    have hK : kCount (DD c) (placeW c) (128 + 1664 + 128 + 128) = 1024 := hbal
    rw [hS, hK, mc_all]
    refine hrest v5 v8 v9 hw _ ?_
    refine step_never (F := F) (by decide) ?_
    exact step_pure (F := F) (h hw)
  all_goals
    intro R' t a b p ht hp ha hb
    refine step_bind (F := F) ?_
    first
      | unfold k0_part1 | unfold k0_part4 | unfold k0_part7 | unfold k0_part10
      | unfold k0_part13 | unfold k0_part16 | unfold k0_part19 | unfold k0_part22
      | unfold k0_part25 | unfold k0_part28 | unfold k0_part31 | unfold k0_part34
      | unfold k0_part37 | unfold k0_part40 | unfold k0_part43 | unfold k0_part46
    refine step_rows (F := F) p (off_x ht (by decide) hp) ?_
    refine step_word (F := F) hbal rfl (by omega) (off_w ht (by decide) (by omega)) ha hb fun _ ha' hb' => ?_
    refine step_sent (F := F) rfl rfl (by omega) ha (fun y => (row_val (XX c) p y).trans rfl) ?_
    refine step_kept (F := F) hbal rfl rfl (by omega) hb (fun y => (row_val (XX c) p y).trans rfl) ?_
    refine step_word (F := F) hbal rfl (by omega) (off_w ht (by decide) (by omega)) ha' hb' fun _ ha hb => ?_
    refine step_sent (F := F) rfl rfl (by omega) ha' (fun y => (row_val (XX c) p y).trans rfl) ?_
    refine step_kept (F := F) hbal rfl rfl (by omega) hb' (fun y => (row_val (XX c) p y).trans rfl) ?_
    refine step_pure (F := F) ?_
    refine step_bind (F := F) ?_
    first
      | unfold k0_part2 | unfold k0_part5 | unfold k0_part8 | unfold k0_part11
      | unfold k0_part14 | unfold k0_part17 | unfold k0_part20 | unfold k0_part23
      | unfold k0_part26 | unfold k0_part29 | unfold k0_part32 | unfold k0_part35
      | unfold k0_part38 | unfold k0_part41 | unfold k0_part44 | unfold k0_part47
    refine step_word (F := F) hbal rfl (by omega) (off_w ht (by decide) (by omega)) ha hb fun _ ha' hb' => ?_
    refine step_sent (F := F) rfl rfl (by omega) ha (fun y => (row_val (XX c) p y).trans rfl) ?_
    refine step_kept (F := F) hbal rfl rfl (by omega) hb (fun y => (row_val (XX c) p y).trans rfl) ?_
    refine step_word (F := F) hbal rfl (by omega) (off_w ht (by decide) (by omega)) ha' hb' fun _ ha hb => ?_
    refine step_sent (F := F) rfl rfl (by omega) ha' (fun y => (row_val (XX c) p y).trans rfl) ?_
    refine step_kept (F := F) hbal rfl rfl (by omega) hb' (fun y => (row_val (XX c) p y).trans rfl) ?_
    refine step_word (F := F) hbal rfl (by omega) (off_w ht (by decide) (by omega)) ha hb fun _ ha' hb' => ?_
    refine step_pure (F := F) ?_
    refine step_bind (F := F) ?_
    first
      | unfold k0_part3 | unfold k0_part6 | unfold k0_part9 | unfold k0_part12
      | unfold k0_part15 | unfold k0_part18 | unfold k0_part21 | unfold k0_part24
      | unfold k0_part27 | unfold k0_part30 | unfold k0_part33 | unfold k0_part36
      | unfold k0_part39 | unfold k0_part42 | unfold k0_part45 | unfold k0_part48
    refine step_sent (F := F) rfl rfl (by omega) ha (fun y => (row_val (XX c) p y).trans rfl) ?_
    refine step_kept (F := F) hbal rfl rfl (by omega) hb (fun y => (row_val (XX c) p y).trans rfl) ?_
    refine step_word (F := F) hbal rfl (by omega) (off_w ht (by decide) (by omega)) ha' hb' fun _ ha hb => ?_
    refine step_sent (F := F) rfl rfl (by omega) ha' (fun y => (row_val (XX c) p y).trans rfl) ?_
    refine step_kept (F := F) hbal rfl rfl (by omega) hb' (fun y => (row_val (XX c) p y).trans rfl) ?_
    refine step_word (F := F) hbal rfl (by omega) (off_w ht (by decide) (by omega)) ha hb fun _ ha' hb' => ?_
    refine step_sent (F := F) rfl rfl (by omega) ha (fun y => (row_val (XX c) p y).trans rfl) ?_
    refine step_pure (F := F) ?_
    refine step_kept (F := F) hbal rfl rfl (by omega) hb (fun y => (row_val (XX c) p y).trans rfl) ?_
    refine step_word (F := F) hbal rfl (by omega) (off_w ht (by decide) (by omega)) ha' hb' fun _ ha hb => ?_
    refine step_sent (F := F) rfl rfl (by omega) ha' (fun y => (row_val (XX c) p y).trans rfl) ?_
    refine step_kept (F := F) hbal rfl rfl (by omega) hb' (fun y => (row_val (XX c) p y).trans rfl) ?_
    exact step_trip (F := F) ha hb rfl

end Cert.A2A

end
-- ==== Proof.Unpack.lean ====
/-
Unpacking: a message is waited for and its rows, widened again, are put in the merge buffer beside the rows kept;
then the blocks of eight whole rows are moved to the result.
-/
module

public import proofs.«01_k».proof.Proof.Packing

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the merge buffer and the result hold -/

abbrev OBuf (F : FTy → Type) : Type := (cc0_stg2_0 : Ref sig .tc).ty.Contents (Elt F)

/-- Where the rows received by device `c` start in its merge buffer. -/
def rBase (c : Dev nD) : ℕ := (1 - place c) * 1024

/-- Entry `i1` of sublane `i0` of the merge buffer at the end: of a row kept, or of a row the peer sent, rounded. -/
def merged (XX : Dev nD → XBuf F) (DD : Dev nD → DBuf F) (c : Dev nD) (i0 i1 : ℕ) : F .f32 :=
  if kBase c ≤ i0 / 8 ∧ i0 / 8 < kBase c + 1024 then entry (XX c) (kRow (DD c) (placeW c) (i0 / 8 - kBase c)) (128 * (i0 % 8) + i1)
  else FloatOps.extf .f32 bitsLt_bf16_f32 (rounded (XX (peer c)) (DD (peer c)) (placeW (peer c)) (i0 - 8 * rBase c) i1)

/-- The rows there once the first `j` messages are taken. -/
def Got (c : Dev nD) (j q : ℕ) : Prop := (kBase c ≤ q ∧ q < kBase c + 1024) ∨ (rBase c ≤ q ∧ q < rBase c + off j / 8)

section Held
variable (XX : Dev nD → XBuf F) (DD : Dev nD → DBuf F) (c : Dev nD)

def MHolds (A : ℕ → Prop) (g : KBuf F) : Prop := ∀ i : S16384x128.Idx, A ((i 0).val / 8) → g i = merged XX DD c (i 0).val (i 1).val
def OHolds (B : ℕ → Prop) (o : OBuf F) : Prop :=
  ∀ i : S2048x1024.Idx, B (i 0).val → o i = merged XX DD c (8 * (i 0).val + (i 1).val / 128) ((i 1).val % 128)

def mHeld (A : ℕ → Prop) : sProp 𝕄 :=
  iprop(∃ g : KBuf F, ⌜MHolds XX DD c A g⌝ ∗ (((c : Thread nD τ).loc cc0_scratch0) ↦{fullShare} g))
def oHeld (B : ℕ → Prop) : sProp 𝕄 :=
  iprop(∃ o : OBuf F, ⌜OHolds XX DD c B o⌝ ∗ (((c : Thread nD τ).loc cc0_stg2_0) ↦{fullShare} o))

end Held

/-! ## The state between messages taken -/

/-- The sublanes of the rounded send buffer, and of the landing buffer, back once `j` messages are taken. -/
def bsGot (j : ℕ) : Finset S17408x128.Idx := Finset.univ.filter fun i => (i 0).val < off j ∨ 8192 ≤ (i 0).val
def brGot (j : ℕ) : Finset S16384x128.Idx := Finset.univ.filter fun i => (i 0).val < off j ∨ 8192 ≤ (i 0).val

theorem bsGot_succ (j : Fin 11) : (bsl j).view.set ∪ bsGot j.val = bsGot (j.val + 1) := by
  have := off_mono (Nat.le_add_right j.val 1)
  ext i
  rw [Finset.mem_union, mem_bsl]; unfold bsGot; simp only [Finset.mem_filter, Finset.mem_univ, true_and]
  omega
theorem brGot_succ (j : Fin 11) : (brl j).view.set ∪ brGot j.val = brGot (j.val + 1) := by
  have := off_mono (Nat.le_add_right j.val 1)
  ext i
  rw [Finset.mem_union, mem_brl]; unfold brGot; simp only [Finset.mem_filter, Finset.mem_univ, true_and]
  omega
theorem bsGot_disj (j : Fin 11) : Disjoint (bsl j).view.set (bsGot j.val) := by
  have := off_le j
  rw [Finset.disjoint_left]; intro i h1 h2
  rw [mem_bsl, off_succ] at h1; unfold bsGot at h2; rw [Finset.mem_filter] at h2
  omega
theorem brGot_disj (j : Fin 11) : Disjoint (brl j).view.set (brGot j.val) := by
  have := off_le j
  rw [Finset.disjoint_left]; intro i h1 h2
  rw [mem_brl, off_succ] at h1; unfold brGot at h2; rw [Finset.mem_filter] at h2
  omega
theorem bsGot_zero : bsGot 0 = bsFrom 11 := by
  unfold bsGot bsFrom; refine Finset.filter_congr fun i _ => ?_
  show ((i 0).val < 0 ∨ 8192 ≤ (i 0).val) ↔ 8192 ≤ (i 0).val
  omega
theorem bsGot_all : bsGot 11 = Finset.univ := by
  refine Finset.filter_true_of_mem fun i _ => ?_
  show (i 0).val < 8192 ∨ 8192 ≤ (i 0).val
  omega
theorem brGot_all : brGot 11 = Finset.univ := by
  refine Finset.filter_true_of_mem fun i _ => ?_
  show (i 0).val < 8192 ∨ 8192 ≤ (i 0).val
  omega

section State
variable (XX : Dev nD → XBuf F) (DD : Dev nD → DBuf F) (K : Dev nD × CellId → ℕ) (c : Dev nD)

/-- What is held of message `j`'s two cells before it is waited for, and after. -/
def pend (j : Fin 11) : sProp 𝕄 :=
  iprop(cred (tallyAt (sendCell c j) () (N j)) ∗ cred (tallyAt (recvCell c j) () (N j))
    ∗ atPos ER (sendCell c j) 0 ∅ 0 ∗ atPos ER (recvCell c j) 0 ∅ 0)
def spent (j : Fin 11) : sProp 𝕄 := iprop(semVal (sendCell c j) 0 ∗ semVal (recvCell c j) 0)

/-- What is known throughout of the two cells a device waits on for message `j`. -/
def knownIn (j : Fin 11) : sProp 𝕄 :=
  iprop(cellInv ER (rd XX DD) (K (c, some (some (false, j)))) (sendCell c j)
    ∗ cellInv ER (rd XX DD) (K (c, some (some (true, j)))) (recvCell c j))

instance knownIn_persistent (j : Fin 11) : BI.Persistent (knownIn XX DD K c j) := by unfold knownIn; infer_instance

/-- `j` messages have been taken, and the rows of `B` moved to the result. -/
def Unpacking (j : ℕ) (B : ℕ → Prop) (R : sProp 𝕄) : sProp 𝕄 :=
  iprop(mHeld XX DD c (Got c j) ∗ oHeld XX DD c B
    ∗ (∃ f : BSBuf F, ((c : Thread nD τ).loc cc0_scratch2) ↦[bsGot j]{fullShare} f)
    ∗ (∃ g : BRBuf F, ((c : Thread nD τ).loc cc0_scratch3) ↦[brGot j]{fullShare} g)
    ∗ (∃ W, owes (c : Thread nD τ) 0 W)
    ∗ bigSep (fromJ j) (pend c) ∗ bigSep (uptoJ j) (spent c)
    ∗ (bigSep Finset.univ (knownIn XX DD K c)) ∗ R)

end State

/-! ## One message taken -/

theorem bases (c : Dev nD) : (kBase c = 0 ∧ rBase c = 1024) ∨ (kBase c = 1024 ∧ rBase c = 0) := by
  have := place_lt c
  unfold kBase rBase; omega

theorem off_lt (j : Fin 11) : off (j.val + 1) ≤ 8192 := by have := off_le j; have := off_succ j.val; omega

/-- The rows of message `j` put in the merge buffer. -/
theorem mHolds_store {XX : Dev nD → XBuf F} {DD : Dev nD → DBuf F} {c : Dev nD} (j : Fin 11) {g : KBuf F} {b : BRBuf F} {ko : Fin 2 → ℕ}
    (hko : ko = ![8 * (rBase c + off j.val / 8), 0]) (inb : ∀ a, ko a + (![len j.val, 128] : Fin 2 → ℕ) a ≤ S16384x128.size a) (inb')
    {hc} (hg : MHolds XX DD c (Got c j.val) g) (hb : Landed (XX (peer c)) (DD (peer c)) (placeW (peer c)) j.val b) :
    MHolds XX DD c (Got c (j.val + 1)) ((kM.access (Rect.unit (s := S16384x128) ko ![len j.val, 128] inb) : View sig .tc _ _ _).write (Elt F) g
      (shapeCast ⟨2, ![len j.val, 128]⟩ (extf .f32 (brM.view.readAt (Elt F) (Rect.unit (s := S16384x128) ![off j.val, 0] ![len j.val, 128] inb').toLoadRect b) bitsLt_bf16_f32) hc)
      Finset.univ) := by
  subst hko
  intro i hi
  have h8 := off_eight j.val
  have h8' := off_eight (j.val + 1)
  have hs := off_succ j.val
  have hl := off_lt j
  have hB := bases c
  have hi1 : (i 1).val < 128 := (i 1).isLt
  by_cases hin : 8 * (rBase c + off j.val / 8) ≤ (i 0).val ∧ (i 0).val < 8 * (rBase c + off j.val / 8) + len j.val
  · rw [write_block_mem cc0_scratch0 inb g _ i (fun | 0 => ⟨(i 0).val - 8 * (rBase c + off j.val / 8), by show _ < len j.val; omega⟩ | 1 => ⟨(i 1).val, hi1⟩)
      (fun a => by fin_cases a
                   · show (i 0).val = 8 * (rBase c + off j.val / 8) + ((i 0).val - 8 * (rBase c + off j.val / 8)); omega
                   · show (i 1).val = 0 + (i 1).val; omega)]
    refine (congrFun (shapeCast_self _ hc) _).trans ?_
    show FloatOps.extf .f32 bitsLt_bf16_f32 (brM.view.readAt (Elt F) _ b _) = _
    rw [read_block cc0_scratch3 inb' b]
    unfold merged
    rw [if_neg (by omega)]
    congr 1
    refine (hb _ (by show off j.val ≤ off j.val + _; omega)
      (by show off j.val + ((i 0).val - 8 * (rBase c + off j.val / 8)) < off (j.val + 1); omega)).trans ?_
    show rounded _ _ _ (off j.val + ((i 0).val - 8 * (rBase c + off j.val / 8))) (0 + (i 1).val) = _
    rw [show off j.val + ((i 0).val - 8 * (rBase c + off j.val / 8)) = (i 0).val - 8 * rBase c by omega, Nat.zero_add]
  · rw [write_block_not cc0_scratch0 inb g _ i 0 (by
      show (i 0).val < 8 * (rBase c + off j.val / 8) ∨ 8 * (rBase c + off j.val / 8) + len j.val ≤ (i 0).val
      omega)]
    refine hg i ?_
    unfold Got at hi ⊢
    omega

/-! ## The words of the unpacking loops -/

/-- The block a row is the first of, as the kernel computes it. -/
def blkW (c : Dev nD) (n : ℕ) : BitVec 32 := Scalar.shrsi (Scalar.addi (recvBase c) (BitVec.ofNat 32 n)) 3#32
/-- The last block of message `j`, as the two loops compute it. -/
def endW (c : Dev nD) (j : ℕ) : BitVec 32 :=
  Scalar.addi (blkW c (off j / 8)) (Scalar.muli (Scalar.divsi (Scalar.subi (blkW c (off (j + 1) / 8)) (blkW c (off j / 8))) 1#32) 1#32)
def topW (c : Dev nD) (j : ℕ) : BitVec 32 :=
  Scalar.addi (blkW c (off j / 8)) (Scalar.subi (blkW c (off (j + 1) / 8)) (blkW c (off j / 8)))

theorem blkW_eq : ∀ (c : Dev nD) (j : Fin 11), blkW c (off j.val / 8) = BitVec.ofNat 32 ((rBase c + off j.val / 8) / 8) := by decide +kernel
theorem msg_trips : ∀ (c : Dev nD) (j : Fin 11), Scf.trips (blkW c (off j.val / 8)) (endW c j.val) 1#32 = len j.val / 64 := by decide +kernel
theorem rest_trips : ∀ (c : Dev nD) (j : Fin 11), Scf.trips (endW c j.val) (topW c j.val) 1#32 = 0 := by decide +kernel
theorem fill_eq : ∀ (c : Dev nD) (j : Fin 11),
    (![(Scalar.indexCast (Scalar.muli (Scalar.addi (recvBase c) (BitVec.ofNat 32 (off j.val / 8))) 8#32)).toNat, 0] : Fin 2 → ℕ)
      = ![8 * (rBase c + off j.val / 8), 0] := by decide +kernel

/-- The offsets of trip `t` of a loop from block `b` on. -/
theorem off_m {w : BitVec 32} {b t : ℕ} (hw : w = BitVec.ofNat 32 b) (h : b + t < 4096) :
    (![(Scalar.indexCast (Scalar.muli (Scalar.muli (Scf.iv w 1#32 t) 8#32) 8#32)).toNat, 0] : Fin 2 → ℕ) = ![64 * (b + t), 0] := by
  subst hw
  have : (Scalar.indexCast (Scalar.muli (Scalar.muli (Scf.iv (BitVec.ofNat 32 b) 1#32 t) 8#32) 8#32)).toNat = 64 * (b + t) := by
    simp only [Scalar.indexCast, Scalar.muli, IntOp.muli, Scf.iv, BitVec.toNat_mul, BitVec.toNat_add, BitVec.toNat_ofNat]; omega
  rw [this]
theorem off_o {w : BitVec 32} {b t : ℕ} (hw : w = BitVec.ofNat 32 b) (h : b + t < 4096) :
    (![(Scalar.indexCast (Scalar.muli (Scf.iv w 1#32 t) 8#32)).toNat, 0] : Fin 2 → ℕ) = ![8 * (b + t), 0] := by
  subst hw
  have : (Scalar.indexCast (Scalar.muli (Scf.iv (BitVec.ofNat 32 b) 1#32 t) 8#32)).toNat = 8 * (b + t) := by
    simp only [Scalar.indexCast, Scalar.muli, IntOp.muli, Scf.iv, BitVec.toNat_mul, BitVec.toNat_add, BitVec.toNat_ofNat]; omega
  rw [this]

/-! ## One block moved to the result -/

section Moved
variable {XX : Dev nD → XBuf F} {DD : Dev nD → DBuf F} {c : Dev nD}

/-- Block `b` of the merge buffer moved to the result. -/
theorem oHolds_store {A B : ℕ → Prop} {g : KBuf F} {o : OBuf F} {ko oo : Fin 2 → ℕ} (b : ℕ)
    (hko : ko = ![64 * b, 0]) (hoo : oo = ![8 * b, 0]) (inb : ∀ a, ko a + S64x128.size a ≤ S16384x128.size a)
    (inb' : ∀ a, oo a + S8x1024.size a ≤ S2048x1024.size a) {hc}
    (hA : ∀ q, 8 * b ≤ q → q < 8 * b + 8 → A q) (hg : MHolds XX DD c A g) (ho : OHolds XX DD c B o) :
    OHolds XX DD c (fun q => B q ∨ 8 * b ≤ q ∧ q < 8 * b + 8) ((oM.access (Rect.unit (s := S2048x1024) oo S8x1024.size inb') : View sig .tc _ _ _).write (Elt F) o
      (shapeCast S8x1024 (kM.view.readAt (Elt F) (Rect.unit (s := S16384x128) ko S64x128.size inb).toLoadRect g) hc) Finset.univ) := by
  subst hko hoo
  intro i hi
  have hi1 : (i 1).val < 1024 := (i 1).isLt
  by_cases hin : 8 * b ≤ (i 0).val ∧ (i 0).val < 8 * b + 8
  · rw [write_block_mem cc0_stg2_0 inb' o _ i (fun | 0 => ⟨(i 0).val - 8 * b, by show _ < 8; omega⟩ | 1 => ⟨(i 1).val, hi1⟩)
      (fun a => by fin_cases a
                   · show (i 0).val = 8 * b + ((i 0).val - 8 * b); omega
                   · show (i 1).val = 0 + (i 1).val; omega)]
    unfold shapeCast
    rw [Shape.reshapeEquiv_eq_of_rowMajor (y := (fun | 0 => ⟨8 * ((i 0).val - 8 * b) + (i 1).val / 128, by show _ < 64; omega⟩ | 1 => ⟨(i 1).val % 128, by show _ < 128; omega⟩ : S64x128.Idx))]
    · rw [read_block cc0_scratch0 inb g]
      refine (hg _ ?_).trans ?_
      · apply hA
        · show 8 * b ≤ (64 * b + (8 * ((i 0).val - 8 * b) + (i 1).val / 128)) / 8; omega
        · show (64 * b + (8 * ((i 0).val - 8 * b) + (i 1).val / 128)) / 8 < 8 * b + 8; omega
      · show merged XX DD c (64 * b + (8 * ((i 0).val - 8 * b) + (i 1).val / 128)) (0 + (i 1).val % 128) = _
        rw [show 64 * b + (8 * ((i 0).val - 8 * b) + (i 1).val / 128) = 8 * (i 0).val + (i 1).val / 128 by omega, Nat.zero_add]
    · rw [Shape.rowMajor_val_two, Shape.rowMajor_val_two]
      show (8 * ((i 0).val - 8 * b) + (i 1).val / 128) * 128 + (i 1).val % 128 = ((i 0).val - 8 * b) * 1024 + (i 1).val
      omega
  · rw [write_block_not cc0_stg2_0 inb' o _ i 0 (by
      show (i 0).val < 8 * b ∨ 8 * b + 8 ≤ (i 0).val
      omega)]
    exact ho i (hi.resolve_right hin)

end Moved

section Step
variable {XX : Dev nD → XBuf F} {DD : Dev nD → DBuf F} {K : Dev nD × CellId → ℕ} {c : Dev nD} {α : Type}

/-- A conditional whose condition holds is entered. -/
theorem step_now {P : sProp 𝕄} {Q : α → sProp 𝕄} {C : Prop} {dC : Decidable C} {p : C → Prog (TpuEff nD τ sig (Elt F) Λ₀ .tc) α}
    {q : ¬ C → Prog (TpuEff nD τ sig (Elt F) Λ₀ .tc) α} (hC : C) (h : P ⊢ WP c (p hC) Q) : P ⊢ WP c (dite C p q) Q := by
  rw [dif_pos hC]; exact h

/-- A loop of no trips is passed over. -/
theorem step_empty {P : sProp 𝕄} {Q : α → sProp 𝕄} {l : Scf.Loop 32} {hok : l.OK} {body : Fin l.trips → PUnit → Prog (TpuEff nD τ sig (Elt F) Λ₀ .tc) PUnit}
    {k : PUnit → Prog (TpuEff nD τ sig (Elt F) Λ₀ .tc) α} (hl : l.trips = 0) (h : P ⊢ WP c (k ⟨⟩) Q) :
    P ⊢ WP c (Scf.Loop.for l hok ⟨⟩ body >>= k) Q := by
  iintro H
  iapply (Scf.wp_for_bind frame (wpE (defs₀ (F := F)) 𝒱₀ (c : Thread nD τ) none) Set.univ l.lb l.ub l.st hok ⟨⟩ body
    (fun t r => P) (fun t r => absurd t.isLt (by have : Scf.trips l.lb l.ub l.st = 0 := hl; omega))) $$ [H]
  · iexact H
  iintro %r H
  iapply h; iexact H

/-- A loop moves `T` blocks from block `b` on to the result. -/
theorem step_move {R : sProp 𝕄} {Q : α → sProp 𝕄} {l : Scf.Loop 32} {hok : l.OK} {ko oo : Fin l.trips → Fin 2 → ℕ}
    {hk : ∀ t a, ko t a + S64x128.size a ≤ S16384x128.size a} {ho : ∀ t a, oo t a + S8x1024.size a ≤ S2048x1024.size a}
    {k : PUnit → Prog (TpuEff nD τ sig (Elt F) Λ₀ .tc) α} {j : ℕ} {B B' : ℕ → Prop} (b T : ℕ)
    (hl : l.trips = T) (hko : ∀ t : Fin l.trips, ko t = ![64 * (b + t.val), 0]) (hoo : ∀ t : Fin l.trips, oo t = ![8 * (b + t.val), 0])
    (hA : ∀ q, 8 * b ≤ q → q < 8 * b + 8 * T → Got c j q) (hB : ∀ q, B' q → B q ∨ 8 * b ≤ q ∧ q < 8 * b + 8 * T)
    (h : Unpacking XX DD K c j B' R ⊢ WP c (k ⟨⟩) Q) :
    Unpacking XX DD K c j B R ⊢ WP c (Scf.Loop.for l hok ⟨⟩ (fun t _ =>
      Prog.lift (.load (p := Proc.tc) (cs := .vmem) kM (Rect.unit (s := S16384x128) (ko t) S64x128.size (hk t)).toLoadRect (View.loadsAt_vmem h_S64x128)) >>= fun v =>
      Prog.lift (.load (p := Proc.tc) (cs := .vmem) oM (Rect.unit (s := S2048x1024) (oo t) S8x1024.size (ho t)).toLoadRect (View.loadsAt_vmem h_S8x1024)) >>= fun _ =>
      Prog.lift (.store (p := Proc.tc) (cs := .vmem) oM (Rect.unit (s := S2048x1024) (oo t) S8x1024.size (ho t)) (shapeCast S8x1024 v shapeCasts_S64x128_S8x1024) Finset.univ (View.stores_vmem_bits_univ h_S8x1024 rfl) (.inl rfl)) >>= fun _ =>
      pure ⟨⟩) >>= k) Q := by
  iintro H
  iapply (Scf.wp_for_bind frame (wpE (defs₀ (F := F)) 𝒱₀ (c : Thread nD τ) none) Set.univ l.lb l.ub l.st hok ⟨⟩ _
    (fun t r => Unpacking XX DD K c j (fun q => B q ∨ 8 * b ≤ q ∧ q < 8 * b + 8 * t) R)
    (fun t r => by
      have ht : t.val < T := hl ▸ t.isLt
      unfold Unpacking mHeld oHeld
      iintro ⟨⟨%g, %hg, Hk⟩, ⟨%o, %ho', Ho⟩, HR⟩
      simp only [Prog.lift, Prog.bind_op, Prog.bind_ret]
      iapply (wp_load 𝒱₀ (c : Thread nD τ) none Set.univ (m := kM) (S := Finset.univ) (Finset.subset_univ _)) $$ Hk
      iintro Hk
      iapply (wp_load 𝒱₀ (c : Thread nD τ) none Set.univ (m := oM) (S := Finset.univ) (Finset.subset_univ _)) $$ Ho
      iintro Ho
      iapply (wp_store 𝒱₀ (c : Thread nD τ) none Set.univ (m := oM) (r := Rect.unit (s := S2048x1024) (oo t) S8x1024.size (ho t)) (Mk := Finset.univ) (S := Finset.univ) (Finset.subset_univ _)) $$ Ho
      iintro Ho
      have hnew := oHolds_store (XX := XX) (DD := DD) (c := c) (b + t.val) (hko t) (hoo t) (hk t) (ho t) (hc := shapeCasts_S64x128_S8x1024)
        (fun q h1 h2 => hA q (by omega) (by omega)) hg ho'
      iapply (step_pure (c := c) (P := iprop((((c : Thread nD τ).loc cc0_scratch0) ↦{fullShare} g) ∗ (((c : Thread nD τ).loc cc0_stg2_0) ↦{fullShare}
        ((oM.access (Rect.unit (s := S2048x1024) (oo t) S8x1024.size (ho t)) : View sig .tc _ _ _).write (Elt F) o
          (shapeCast S8x1024 (kM.view.readAt (Elt F) (Rect.unit (s := S16384x128) (ko t) S64x128.size (hk t)).toLoadRect g) shapeCasts_S64x128_S8x1024) Finset.univ)) ∗ _)) ?_) $$ [Hk Ho HR]
      · iintro ⟨Hk, Ho, HR⟩
        isplitl [Hk]
        · iexists g; isplitr
          · ipureintro; exact hg
          iexact Hk
        isplitl [Ho]
        · iexists _; isplitr
          · ipureintro
            intro i hi
            refine hnew i ?_
            dsimp only at hi ⊢
            rcases hi with hi | ⟨h1, h2⟩
            · exact .inl (.inl hi)
            · by_cases h' : (i 0).val < 8 * b + 8 * t.val
              · exact .inl (.inr ⟨h1, h'⟩)
              · exact .inr ⟨by omega, by omega⟩
          iexact Ho
        iexact HR
      · isplitl [Hk]; · iexact Hk
        isplitl [Ho]; · iexact Ho
        iexact HR)) $$ [H]
  · unfold Unpacking oHeld
    icases H with ⟨Hm, ⟨%o, %ho', Ho⟩, HR⟩
    isplitl [Hm]; · iexact Hm
    isplitl [Ho]
    · iexists o; isplitr
      · ipureintro; intro i hi; exact ho' i (hi.resolve_right fun h => by omega)
      iexact Ho
    iexact HR
  iintro %r H
  iapply h
  have hT : Scf.trips l.lb l.ub l.st = T := hl
  rw [hT]
  unfold Unpacking oHeld
  icases H with ⟨Hm, ⟨%o, %ho', Ho⟩, HR⟩
  isplitl [Hm]; · iexact Hm
  isplitl [Ho]
  · iexists o; isplitr
    · ipureintro; intro i hi; exact ho' i (hB _ hi)
    iexact Ho
  iexact HR

/-- A message's two cells are waited on, and its blocks come back. -/
theorem recv_wait {Q : α → sProp 𝕄} (j : Fin 11) {h1 h2 h1' h2'} {k : PUnit → Prog (TpuEff nD τ sig (Elt F) Λ₀ .tc) α} (W : Waits sig Unit) :
    iprop(knownIn XX DD K c j ∗ pend c j ∗ owes (c : Thread nD τ) 0 W)
      ⊢ iprop((((∃ W, owes (c : Thread nD τ) 0 W) ∗ spent c j ∗ sendPay c j ∗ recvPay XX DD c j) -∗ WP c (k ⟨⟩) Q)
          -∗ WP c (.op (.waitDma2 (sendS j) (brl j) (bsl j) h1 h2) fun _ => .op (.waitDma2 (recvS j) (bsl j) (brl j) h1' h2') k) Q) := by
  unfold knownIn pend spent
  iintro ⟨⟨#HIs, #HIr⟩, ⟨Hcs, Hcr, Has, Har⟩, HO⟩ Hk
  iapply (Rounds.wp_wait_rest_token 𝒱₀ ER (rd XX DD) (c : Thread nD τ) none (κ := K (c, some (some (false, j))))
      (wpE_waitDma2_eq 𝒱₀ (c : Thread nD τ) none Set.univ) (Set.mem_univ _) () (O := 0) (W := W) (R := 0) (m := 0) (T := ∅)
      (by rw [expect_of XX DD (k := some (some (false, j))) (s := .dma (sendS j)) rfl, Nat.zero_add]; exact bs_credit j)) $$ [Hcs HO Has]
  · isplitr; · iexact HIs
    isplitl [Hcs]; · iapply (Entails.of_eq (congrArg (fun n => cred (tallyAt (sendCell c j) () n)) (bs_credit j).symm)); iexact Hcs
    isplitl [HO]; · iexact HO
    isplitr; · iapply (Entails.of_eq (MayWait_zero _ _ _).symm); iempintro
    iexact Has
  iintro ⟨HO, Has, -, Hps⟩
  ihave Hps := (rest_of XX DD (k := some (some (false, j))) (s := .dma (sendS j)) rfl) $$ Hps
  imod (cell_close ER (rd XX DD) (Set.mem_univ (K (c, some (some (false, j))))) (fun h => h) (R := 0 + 1) (duties_later XX DD (sendCell c j))) $$ [Has] with Hzs
  · isplitr; · iexact HIs
    iexact Has
  iapply (Rounds.wp_wait_rest_token 𝒱₀ ER (rd XX DD) (c : Thread nD τ) none (κ := K (c, some (some (true, j))))
      (wpE_waitDma2_eq 𝒱₀ (c : Thread nD τ) none Set.univ) (Set.mem_univ _) () (O := 0) (R := 0) (m := 0) (T := ∅)
      (by rw [expect_of XX DD (k := some (some (true, j))) (s := .dma (recvS j)) rfl, Nat.zero_add]; rfl)) $$ [Hcr HO Har]
  · isplitr; · iexact HIr
    isplitl [Hcr]; · iexact Hcr
    isplitl [HO]; · iexact HO
    isplitr; · iapply (Entails.of_eq (MayWait_zero _ _ _).symm); iempintro
    iexact Har
  iintro ⟨HO, Har, -, Hpr⟩
  ihave Hpr := (rest_of XX DD (k := some (some (true, j))) (s := .dma (recvS j)) rfl) $$ Hpr
  imod (cell_close ER (rd XX DD) (Set.mem_univ (K (c, some (some (true, j))))) (fun h => h) (R := 0 + 1) (duties_later XX DD (recvCell c j))) $$ [Har] with Hzr
  · isplitr; · iexact HIr
    iexact Har
  iapply Hk
  isplitl [HO]; · iexists _; iexact HO
  isplitl [Hzs Hzr]
  · isplitl [Hzs]; · iexact Hzs
    iexact Hzr
  isplitl [Hps]; · iapply (show pay XX DD c (some (some (false, j))) ⊢ sendPay c j from Entails.of_eq rfl); iexact Hps
  iapply (show pay XX DD c (some (some (true, j))) ⊢ recvPay XX DD c j from Entails.of_eq rfl); iexact Hpr

/-- A message is waited for and its rows are put in the merge buffer. -/
theorem step_fill {R : sProp 𝕄} {Q : α → sProp 𝕄} {o m : ℕ} {sS sR : DmaSem sig} {ko : Fin 2 → ℕ}
    {hi1 : ∀ a, (![o, 0] : Fin 2 → ℕ) a + (![m, 128] : Fin 2 → ℕ) a ≤ S17408x128.size a}
    {hi2 : ∀ a, (![o, 0] : Fin 2 → ℕ) a + (![m, 128] : Fin 2 → ℕ) a ≤ S16384x128.size a}
    {hk : ∀ a, ko a + (![m, 128] : Fin 2 → ℕ) a ≤ S16384x128.size a} {hu1 hu2 h1 h2 h1' h2' hl1 hl2 hs1 hs2 hc}
    {k : Prog (TpuEff nD τ sig (Elt F) Λ₀ .tc) α} {j : ℕ} {B : ℕ → Prop}
    (h : Unpacking XX DD K c (j + 1) B R ⊢ WP c k Q)
    (hj : j < 11 := by decide) (ho : o = off j := by rfl) (hm : m = len j := by rfl)
    (hko : ko = ![(Scalar.indexCast (Scalar.muli (Scalar.addi (recvBase c) (BitVec.ofNat 32 (off j / 8))) 8#32)).toNat, 0] := by rfl)
    (hS : sS = sendS ⟨j, hj⟩ := by rfl) (hR : sR = recvS ⟨j, hj⟩ := by rfl) :
    Unpacking XX DD K c j B R ⊢ WP c (
      Prog.lift (.waitDma2 sS (brM.slice (Rect.unit (s := S16384x128) ![o, 0] ![m, 128] hi2) hu2) (bsM.slice (Rect.unit (s := S17408x128) ![o, 0] ![m, 128] hi1) hu1) h1 h2) >>= fun _ =>
      Prog.lift (.waitDma2 sR (bsM.slice (Rect.unit (s := S17408x128) ![o, 0] ![m, 128] hi1) hu1) (brM.slice (Rect.unit (s := S16384x128) ![o, 0] ![m, 128] hi2) hu2) h1' h2') >>= fun _ =>
      Prog.lift (.load (p := Proc.tc) (cs := .vmem) brM (Rect.unit (s := S16384x128) ![o, 0] ![m, 128] hi2).toLoadRect hl1) >>= fun v =>
      Prog.lift (.load (p := Proc.tc) (cs := .vmem) kM (Rect.unit (s := S16384x128) ko ![m, 128] hk).toLoadRect hl2) >>= fun _ =>
      Prog.lift (.store (p := Proc.tc) (cs := .vmem) kM (Rect.unit (s := S16384x128) ko ![m, 128] hk)
        (shapeCast ⟨2, ![m, 128]⟩ (extf .f32 v bitsLt_bf16_f32) hc) Finset.univ hs1 hs2) >>= fun _ => k) Q := by
  subst ho hm hS hR
  have hko := hko.trans (fill_eq c ⟨j, hj⟩)
  simp only [Prog.lift, Prog.bind_op, Prog.bind_ret]
  unfold Unpacking mHeld
  rw [show fromJ j = insert (⟨j, hj⟩ : Fin 11) (fromJ (j + 1)) from fromJ_succ ⟨j, hj⟩]
  iintro ⟨⟨%g, %hg, Hm⟩, Ho, ⟨%f, Hb⟩, ⟨%r, Hr⟩, ⟨%W, HO⟩, Hp, Hz, #Hkn, HR⟩
  ihave Hp' := (Entails.of_eq (bigSep_cons (not_mem_fromJ ⟨j, hj⟩))) $$ Hp
  icases Hp' with ⟨Hp1, Hp2⟩
  iapply (recv_wait (XX := XX) (DD := DD) (K := K) (c := c) ⟨j, hj⟩ W) $$ [Hp1 HO]
  · isplitr; · iapply (one_of ⟨j, hj⟩); iexact Hkn
    isplitl [Hp1]; · iexact Hp1
    iexact HO
  unfold sendPay recvPay
  iintro ⟨HO, Hz1, ⟨%f1, Hb1⟩, ⟨%r1, %hr1, Hr1⟩⟩
  iapply (wp_load_rect 𝒱₀ (c : Thread nD τ) none Set.univ (m := brM) (r := Rect.unit (s := S16384x128) ![off j, 0] ![len j, 128] hi2) (S := (brl ⟨j, hj⟩).view.set) (Finset.Subset.refl _)) $$ Hr1
  iintro Hr1
  iapply (wp_load 𝒱₀ (c : Thread nD τ) none Set.univ (m := kM) (S := Finset.univ) (Finset.subset_univ _)) $$ Hm
  iintro Hm
  iapply (wp_store 𝒱₀ (c : Thread nD τ) none Set.univ (m := kM) (r := Rect.unit (s := S16384x128) ko ![len j, 128] hk) (Mk := Finset.univ) (S := Finset.univ) (Finset.subset_univ _)) $$ Hm
  iintro Hm
  have hnew := mHolds_store (XX := XX) (DD := DD) (c := c) ⟨j, hj⟩ hko hk hi2 (hc := hc) hg hr1
  iapply h
  unfold Unpacking mHeld
  isplitl [Hm]
  · iexists _; isplitr
    · ipureintro; exact hnew
    iexact Hm
  isplitl [Ho]; · iexact Ho
  isplitl [Hb Hb1]
  · rw [show bsGot (j + 1) = _ from (bsGot_succ ⟨j, hj⟩).symm]
    ihave Hj := (pointsTo_join (ℓ := (c : Thread nD τ).loc cc0_scratch2) (I := (bsl ⟨j, hj⟩).view.set) (J := bsGot j) (bsGot_disj ⟨j, hj⟩)) $$ [Hb Hb1]
    · isplitl [Hb1]; · iexact Hb1
      iexact Hb
    iexists _; iexact Hj
  isplitl [Hr Hr1]
  · rw [show brGot (j + 1) = _ from (brGot_succ ⟨j, hj⟩).symm]
    ihave Hj := (pointsTo_join (ℓ := (c : Thread nD τ).loc cc0_scratch3) (I := (brl ⟨j, hj⟩).view.set) (J := brGot j) (brGot_disj ⟨j, hj⟩)) $$ [Hr Hr1]
    · isplitl [Hr1]; · iexact Hr1
      iexact Hr
    iexists _; iexact Hj
  isplitl [HO]; · iexact HO
  isplitl [Hp2]; · iexact Hp2
  isplitl [Hz Hz1]
  · rw [show uptoJ (j + 1) = insert (⟨j, hj⟩ : Fin 11) (uptoJ j) from uptoJ_succ ⟨j, hj⟩]
    iapply (Entails.of_eq (bigSep_cons (not_mem_uptoJ ⟨j, hj⟩)).symm)
    isplitl [Hz1]; · iexact Hz1
    iexact Hz
  isplitr; · iexact Hkn
  iexact HR

/-- A message's blocks are moved to the result; the loop over what is left of them has no trips. -/
theorem step_unload {R : sProp 𝕄} {Q : α → sProp 𝕄} {l l' : Scf.Loop 32} {hok : l.OK} {hok' : l'.OK} {ko oo : Fin l.trips → Fin 2 → ℕ}
    {hk : ∀ t a, ko t a + S64x128.size a ≤ S16384x128.size a} {ho : ∀ t a, oo t a + S8x1024.size a ≤ S2048x1024.size a}
    {body : Fin l'.trips → PUnit → Prog (TpuEff nD τ sig (Elt F) Λ₀ .tc) PUnit} {k : PUnit → Prog (TpuEff nD τ sig (Elt F) Λ₀ .tc) α} {j : ℕ}
    (h : Unpacking XX DD K c (j + 1) (Got c (j + 1)) R ⊢ WP c (k ⟨⟩) Q) (hj : j < 11 := by decide)
    (hl : l = ⟨blkW c (off j / 8), endW c j, 1#32⟩ := by rfl) (hl' : l' = ⟨endW c j, topW c j, 1#32⟩ := by rfl)
    (hko : ∀ t : Fin l.trips, ko t = ![(Scalar.indexCast (Scalar.muli (Scalar.muli (Scf.iv (blkW c (off j / 8)) 1#32 t) 8#32) 8#32)).toNat, 0] := by exact fun _ => rfl)
    (hoo : ∀ t : Fin l.trips, oo t = ![(Scalar.indexCast (Scalar.muli (Scf.iv (blkW c (off j / 8)) 1#32 t) 8#32)).toNat, 0] := by exact fun _ => rfl) :
    Unpacking XX DD K c (j + 1) (Got c j) R ⊢ WP c (Scf.Loop.for l hok PUnit.unit (fun t _ =>
      Prog.lift (.load (p := Proc.tc) (cs := .vmem) kM (Rect.unit (s := S16384x128) (ko t) S64x128.size (hk t)).toLoadRect (View.loadsAt_vmem h_S64x128)) >>= fun v =>
      Prog.lift (.load (p := Proc.tc) (cs := .vmem) oM (Rect.unit (s := S2048x1024) (oo t) S8x1024.size (ho t)).toLoadRect (View.loadsAt_vmem h_S8x1024)) >>= fun _ =>
      Prog.lift (.store (p := Proc.tc) (cs := .vmem) oM (Rect.unit (s := S2048x1024) (oo t) S8x1024.size (ho t)) (shapeCast S8x1024 v shapeCasts_S64x128_S8x1024) Finset.univ (View.stores_vmem_bits_univ h_S8x1024 rfl) (.inl rfl)) >>= fun _ =>
      pure PUnit.unit) >>= fun _ => Scf.Loop.for l' hok' PUnit.unit body >>= k) Q := by
  have hT : l.trips = len j / 64 := by rw [hl]; exact msg_trips c ⟨j, hj⟩
  have hL : 64 ∣ len j ∧ 64 ∣ off j := by unfold len off; split <;> omega
  have hs := off_succ j
  have hle := off_lt ⟨j, hj⟩
  dsimp only at hle
  have hb := bases c
  have hw := blkW_eq c ⟨j, hj⟩
  dsimp only at hw
  have hlt : ∀ t : Fin l.trips, (rBase c + off j / 8) / 8 + t.val < 4096 := fun t => by have := t.isLt; omega
  have hko' : ∀ t : Fin l.trips, ko t = ![64 * ((rBase c + off j / 8) / 8 + t.val), 0] := fun t => (hko t).trans (off_m hw (hlt t))
  have hoo' : ∀ t : Fin l.trips, oo t = ![8 * ((rBase c + off j / 8) / 8 + t.val), 0] := fun t => (hoo t).trans (off_o hw (hlt t))
  have hT' : l'.trips = 0 := by rw [hl']; exact rest_trips c ⟨j, hj⟩
  have hA : ∀ q, 8 * ((rBase c + off j / 8) / 8) ≤ q → q < 8 * ((rBase c + off j / 8) / 8) + 8 * (len j / 64) → Got c (j + 1) q :=
    fun q h1 h2 => by unfold Got; omega
  have hB : ∀ q, Got c (j + 1) q → Got c j q ∨ 8 * ((rBase c + off j / 8) / 8) ≤ q ∧ q < 8 * ((rBase c + off j / 8) / 8) + 8 * (len j / 64) :=
    fun q hq => by unfold Got at hq ⊢; omega
  exact step_move ((rBase c + off j / 8) / 8) (len j / 64) hT hko' hoo' hA hB (step_empty hT' h)

end Step

end Cert.A2A

end
-- ==== Proof.Unpacked.lean ====
/-
The whole of the unpacking: the kept rows are moved to the result, then the eleven messages are taken one after another.
-/
module

public import proofs.«01_k».proof.Proof.Unpack

@[expose] public section

set_option maxHeartbeats 16000000

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Chain
variable (XX : Dev nD → XBuf F) (DD : Dev nD → DBuf F) (K : Dev nD × CellId → ℕ) (c : Dev nD)

/-- What a device holds of the messages it will take, from the start on. -/
def pendIn (j : Fin 11) : sProp 𝕄 :=
  iprop(cred (tallyAt (recvCell c j) () (N j)) ∗ atPos ER (sendCell c j) 0 ∅ 0 ∗ atPos ER (recvCell c j) 0 ∅ 0)
def invIn (j : Fin 11) : sProp 𝕄 := cellInv ER (rd XX DD) (K (c, some (some (true, j)))) (recvCell c j)
instance invIn_persistent (j : Fin 11) : BI.Persistent (invIn XX DD K c j) := by unfold invIn; infer_instance
def Receiving : sProp 𝕄 :=
  iprop((∃ o : OBuf F, ((c : Thread nD τ).loc cc0_stg2_0) ↦{fullShare} o)
    ∗ (∃ g : BRBuf F, ((c : Thread nD τ).loc cc0_scratch3) ↦[brGot 0]{fullShare} g)
    ∗ bigSep Finset.univ (pendIn c) ∗ bigSep Finset.univ (invIn XX DD K c))

/-- What is held beside the buffers the unpacking uses. -/
def Beside : sProp 𝕄 :=
  iprop(xHeld (XX c) c ∗ wHeld (DD c) c ∗ sHeld (XX c) (DD c) c 1024 ∗ dHeld (DD c) c fullShare ∗ semVal (localCell c) 0 ∗ semVal (barCell c) 0)

variable {XX DD K c}

/-- The rows kept are those the merge buffer starts from. -/
theorem mHolds_kept {g : KBuf F} (hg : KHolds (XX c) (DD c) (placeW c) (kBase c) 1024 g) : MHolds XX DD c (Got c 0) g := by
  intro i hi
  have h0 : off 0 = 0 := rfl
  have hk : kBase c ≤ (i 0).val / 8 ∧ (i 0).val / 8 < kBase c + 1024 := by
    unfold Got at hi; rw [h0] at hi; omega
  unfold merged
  rw [if_pos hk]
  exact hg i (by omega) (by omega)

theorem known_in (j : Fin 11) : iprop(known XX DD K c j ∗ invIn XX DD K c j) ⊢ knownIn XX DD K c j := by
  unfold known invIn knownIn
  iintro ⟨⟨#H1, -⟩, #H2⟩
  isplitr; · iexact H1
  iexact H2

theorem begin_unpack :
    Packing (XX c) (DD c) c 1024 1024 (Posting XX DD K c 11 (Started c (DD c) (Receiving XX DD K c)))
      ⊢ Unpacking XX DD K c 0 (fun _ => False) (Beside XX DD c) := by
  unfold Packing kHeld Posting Started Receiving Unpacking mHeld oHeld Beside
  rw [bsGot_zero, uptoJ_all, fromJ_zero, uptoJ_zero, owed_all]
  iintro ⟨Hx, Hw, Hs, ⟨%g, %hg, Hk⟩, Hb, -, HO, -, Hcs, #Hkn, Hd, Hzl, Hzb, ⟨%o, Ho⟩, Hr, Hp, #Hin⟩
  isplitl [Hk]
  · iexists g; isplitr
    · ipureintro; exact mHolds_kept hg
    iexact Hk
  isplitl [Ho]
  · iexists o; isplitr
    · ipureintro; intro i hi; exact hi.elim
    iexact Ho
  isplitl [Hb]; · iexact Hb
  isplitl [Hr]; · iexact Hr
  isplitl [HO]; · iexact HO
  isplitl [Hcs Hp]
  · iapply (show iprop(bigSep Finset.univ (fun j => (cred (tallyAt (sendCell c j) () (N j)) : sProp 𝕄)) ∗ bigSep Finset.univ (pendIn c)) ⊢ bigSep Finset.univ (pend c)
      from Entails.of_eq (bigSep_sep _ _ _).symm)
    isplitl [Hcs]; · iexact Hcs
    iexact Hp
  isplitr; · rw [bigSep_empty]; iempintro
  isplitr
  · iapply (show iprop(bigSep Finset.univ (known XX DD K c) ∗ bigSep Finset.univ (invIn XX DD K c)) ⊢ bigSep Finset.univ (knownIn XX DD K c) from
      (Entails.of_eq (bigSep_sep _ _ _).symm).trans (bigSep_mono fun j _ => known_in j))
    isplitr; · iexact Hkn
    iexact Hin
  iframe

/-! ## The kept rows moved -/

theorem keep_trips : ∀ c : Dev nD, (k0_t17_loop c 1024#32).trips = 128 := by decide +kernel
theorem keep_rest : ∀ c : Dev nD, (k0_t18_loop c 1024#32).trips = 0 := by decide +kernel
theorem last_trips : ∀ c : Dev nD, (k0_t57_loop c 1024#32).trips = 0 := by decide +kernel
theorem keep_first : ∀ c : Dev nD, firstTrip c = BitVec.ofNat 32 (kBase c / 8) := by decide +kernel

/-- From the kept rows packed and the messages gone to the last message taken. -/
theorem unpack_run {α : Type} {Q : α → sProp 𝕄} (v5 v8 v9 : BitVec 32) (hw : k0_chk129 c 1024#32) (k : PUnit → Prog (TpuEff nD τ sig (Elt F) Λ₀ .tc) α)
    (h : Unpacking XX DD K c 11 (Got c 11) (Beside XX DD c) ⊢ WP c (k ⟨⟩) Q) :
    Packing (XX c) (DD c) c 1024 1024 (Posting XX DD K c 11 (Started c (DD c) (Receiving XX DD K c))) ⊢ WP c
      (k0_part106 xM (Memref.isWhole_whole _) dM (Memref.isWhole_whole _) oM (Memref.isWhole_whole _) kM (Memref.isWhole_whole _) sM (Memref.isWhole_whole _) bsM (Memref.isWhole_whole _) brM (Memref.isWhole_whole _) wM (Memref.isWhole_whole _) cc0_scratch5 cc0_scratch6 cc0_scratch7 cc0_scratch8 cc0_scratch9 c v5 v8 v9 1024#32 hw (recvBase c) (firstTrip c) 1#32 (tripCount c) >>= fun _ =>
        k0_part107 xM (Memref.isWhole_whole _) dM (Memref.isWhole_whole _) oM (Memref.isWhole_whole _) kM (Memref.isWhole_whole _) sM (Memref.isWhole_whole _) bsM (Memref.isWhole_whole _) brM (Memref.isWhole_whole _) wM (Memref.isWhole_whole _) cc0_scratch5 cc0_scratch6 cc0_scratch7 cc0_scratch8 cc0_scratch9 c v5 v8 v9 1024#32 hw (recvBase c) >>= fun _ => k0_part108 xM (Memref.isWhole_whole _) dM (Memref.isWhole_whole _) oM (Memref.isWhole_whole _) kM (Memref.isWhole_whole _) sM (Memref.isWhole_whole _) bsM (Memref.isWhole_whole _) brM (Memref.isWhole_whole _) wM (Memref.isWhole_whole _) cc0_scratch5 cc0_scratch6 cc0_scratch7 cc0_scratch8 cc0_scratch9 c v5 v8 v9 1024#32 hw 1024#32 0#32 (recvBase c) >>= k) Q := by
  refine begin_unpack.trans ?_
  have hb := bases c
  refine step_bind ?_
  unfold k0_part106
  refine step_move (F := F) (B' := Got c 0) (kBase c / 8) 128 (keep_trips c) (fun t => off_m (keep_first c) (by have := lt_of_lt_of_eq t.isLt (keep_trips c); omega))
    (fun t => off_o (keep_first c) (by have := lt_of_lt_of_eq t.isLt (keep_trips c); omega)) (fun q h1 h2 => by unfold Got; omega)
    (fun q hq => by have h0 : off 0 = 0 := rfl; unfold Got at hq; rw [h0] at hq; omega) ?_
  refine step_empty (keep_rest c) ?_
  refine step_now (F := F) (by decide) (step_bind (F := F) ?_)
  unfold k0_part49
  refine step_fill (F := F) (step_pure (F := F) ?_)
  refine step_unload (F := F) ?_
  refine step_now (F := F) (by decide) (step_bind (F := F) ?_)
  unfold k0_part50
  refine step_fill (F := F) (step_pure (F := F) ?_)
  refine step_unload (F := F) ?_
  refine step_now (F := F) (by decide) (step_bind (F := F) ?_)
  unfold k0_part51
  refine step_fill (F := F) (step_pure (F := F) ?_)
  refine step_unload (F := F) ?_
  refine step_now (F := F) (by decide) (step_bind (F := F) ?_)
  unfold k0_part52
  refine step_fill (F := F) (step_pure (F := F) ?_)
  refine step_unload (F := F) ?_
  refine step_now (F := F) (by decide) (step_bind (F := F) ?_)
  unfold k0_part53
  refine step_fill (F := F) (step_pure (F := F) ?_)
  refine step_unload (F := F) ?_
  refine step_now (F := F) (by decide) (step_bind (F := F) ?_)
  unfold k0_part54
  refine step_fill (F := F) (step_pure (F := F) ?_)
  refine step_unload (F := F) ?_
  refine step_now (F := F) (by decide) (step_bind (F := F) ?_)
  unfold k0_part55
  refine step_fill (F := F) (step_pure (F := F) ?_)
  refine step_unload (F := F) ?_
  refine step_now (F := F) (by decide) (step_bind (F := F) ?_)
  unfold k0_part56
  refine step_fill (F := F) (step_pure (F := F) ?_)
  refine step_unload (F := F) ?_
  refine step_now (F := F) (by decide) (step_bind (F := F) ?_)
  unfold k0_part57
  refine step_fill (F := F) (step_pure (F := F) ?_)
  refine step_unload (F := F) ?_
  refine step_pure (F := F) (step_bind (F := F) ?_)
  unfold k0_part107
  refine step_now (F := F) (by decide) (step_bind (F := F) ?_)
  unfold k0_part58
  refine step_fill (F := F) (step_pure (F := F) ?_)
  refine step_unload (F := F) ?_
  refine step_now (F := F) (by decide) (step_bind (F := F) ?_)
  unfold k0_part59
  refine step_fill (F := F) (step_pure (F := F) ?_)
  refine step_unload (F := F) ?_
  iterate 8 refine step_never (F := F) (by decide) ?_
  refine step_pure (F := F) (step_bind (F := F) ?_)
  unfold k0_part108
  iterate 6 refine step_never (F := F) (by decide) ?_
  refine step_pure (F := F) ?_
  exact h

end Chain
end Cert.A2A
end
-- ==== Proof.Body.lean ====
/-
A whole run of the kernel's body: from the start of the exchange to the result filled and every cell at zero.
-/
module

public import proofs.«01_k».proof.Proof.Chain
public import proofs.«01_k».proof.Proof.Unpacked

@[expose] public section

set_option maxHeartbeats 16000000

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable {XX : Dev nD → XBuf F} {DD : Dev nD → DBuf F} {K : Dev nD × CellId → ℕ} {c : Dev nD}

theorem last_rest : ∀ c : Dev nD, (k0_t58_loop c 1024#32).trips = 0 := by decide +kernel

/-- A run of the body. -/
theorem body_run (hbal : kCount (DD c) (placeW c) 2048 = 1024) (hs : sentWord (DD c) (placeW c) = 1024#32) :
    AtStart XX DD K c (Receiving XX DD K c) ⊢ WP c (cc0_body xM (Memref.isWhole_whole _) dM (Memref.isWhole_whole _) oM (Memref.isWhole_whole _) kM (Memref.isWhole_whole _) sM (Memref.isWhole_whole _) bsM (Memref.isWhole_whole _) brM (Memref.isWhole_whole _) wM (Memref.isWhole_whole _) cc0_scratch5 cc0_scratch6 cc0_scratch7 cc0_scratch8 cc0_scratch9) fun _ => Unpacking XX DD K c 11 (Got c 11) (Beside XX DD c) := by
  unfold cc0_body
  refine step_bind (F := F) (pack_run (F := F) hbal hs (fun v5 v8 v9 hw k h => unpack_run (F := F) v5 v8 v9 hw k h) fun hw => ?_)
  refine step_empty (F := F) (last_trips c) ?_
  exact step_empty (F := F) (last_rest c) (step_pure (Entails.refl _))

end Body
end Cert.A2A
end
-- ==== Proof.Region.lean ====
/-
The kernel region of a device: what its arrays hold before and after, what it holds at its entry and exit,
and that its body takes the one to the other.
-/
module

public import proofs.«01_k».proof.Proof.Body
public import proofs.«01_k».proof.Proof.Gen.KernelIdeal.Launch
public import proofs.«01_k».proof.Proof.Gen.KernelIdeal.Points
public import Idealize.ShloMosaic.Lib.Pipeline.RegionTalk

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What the arrays hold -/

/-- A device's buffers at launch, and when the kernel is entered. -/
def V₀ (c : Dev nD) : Valuation τ sig (Elt F) := fun b => m (c, b)
def V₁ (c : Dev nD) : Valuation τ sig (Elt F) := StableHlo.after hostOps0 (V₀ m c)

/-- A device's blocks of `x` and of `dest`, and what the kernel makes of all of them. -/
def XX (c : Dev nD) : XBuf F := V₁ m c (Proc.devRef .tc main_arg0)
def DD (c : Dev nD) : DBuf F := V₁ m c (Proc.devRef .tc main_v1)
def outAt (c : Dev nD) : OBuf F := fun i => merged (XX m) (DD m) c (8 * (i 0).val + (i 1).val / 128) ((i 1).val % 128)

/-- A device's buffers when the kernel is left. -/
def V₂ (c : Dev nD) : Valuation τ sig (Elt F) := Function.update (V₁ m c) (Proc.devRef .tc main_v2) (outAt m c)

theorem V₂_out (c : Dev nD) : V₂ m c (Proc.devRef .tc main_v2) = outAt m c := Function.update_self ..
theorem V₂_ne (c : Dev nD) {b : DevRef τ sig} (h : b ≠ Proc.devRef .tc main_v2) : V₂ m c b = V₁ m c b := Function.update_of_ne h ..

/-- A device's rows are split evenly, and the kernel's count of them says so. -/
def Even : Prop := ∀ c : Dev nD, kCount (DD m c) (placeW c) 2048 = 1024 ∧ sentWord (DD m c) (placeW c) = 1024#32

/-! ## The proof data -/

section Held
variable (K : Dev nD × CellId → ℕ) (c : Dev nD)

/-- What a device holds of the exchange when it enters the kernel. -/
def entered : sProp 𝕄 :=
  iprop((startKnown (XX m) (DD m) K c ∗ bigSep Finset.univ (knownOwn (XX m) (DD m) K c) ∗ bigSep Finset.univ (invIn (XX m) (DD m) K c))
    ∗ (atPos ER (localCell c) 0 ∅ 0 ∗ dutyTok ER (localCell c) 0 () ∗ atPos ER (barCell c) 0 ∅ 0 ∗ dutyTok ER (barCell (peer c)) 0 ()
      ∗ cred (tallyAt (barCell c) () 1) ∗ bigSep Finset.univ (toks c))
    ∗ bigSep Finset.univ (pendIn c))

/-- What it holds of the exchange's counters when it leaves. -/
def left : sProp 𝕄 := iprop((semVal (localCell c) 0 ∗ bigSep Finset.univ (spent c)) ∗ semVal (barCell c) 0)

/-- The buffers no window stages, at any contents. -/
abbrev scratch : sProp 𝕄 := Pipeline.scopedRest (Ix := Unit) (Name := ℕ) (U := UU) (Lvl := ℕ) (Val := Elt F) spec0 c

end Held

def dat0 (c : Dev nD) : Dat τ (Elt F) Unit ℕ UU ℕ cfg0 c where
  A w := V₁ m c (Proc.devRef .tc (Pipeline.arrRef spec0 w))
  after w _ := match w with
    | ⟨0, _⟩ => XX m c
    | ⟨1, _⟩ => DD m c
    | ⟨2, _⟩ => outAt m c
  Φ t := match t with
    | ⟨0, _⟩ => iprop((∃ K, entered m K c) ∗ scratch c ∗ ∃ r, prngReg c r)
    | ⟨_ + 1, _⟩ => iprop(left c ∗ scratch c ∗ ∃ r, prngReg c r)
  q _ := fullShare
  owed t := match t with
    | ⟨0, _⟩ => owed₀ c
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

/-! ## The windows -/

omit [FloatOps F] in
theorem read_win0 (t : Fin grid0.N) (f : (main_arg0 : Ref sig .tc).ty.Contents (Elt F)) : (win0_0.blk t).view.read (Elt F) f = f :=
  Memref.read_access_unit_zero (Elt F) main_arg0 (funext fun a => by fin_cases a <;> rfl) _ f
omit [FloatOps F] in
theorem read_win1 (t : Fin grid0.N) (f : (main_v1 : Ref sig .tc).ty.Contents (Elt F)) : (win0_1.blk t).view.read (Elt F) f = f :=
  Memref.read_access_unit_zero (Elt F) main_v1 (funext fun a => by fin_cases a <;> rfl) _ f
omit [FloatOps F] in
theorem write_win2 (t : Fin grid0.N) (f w : (main_v2 : Ref sig .tc).ty.Contents (Elt F)) : (win0_2.blk t).view.write (Elt F) f w Finset.univ = w :=
  Memref.write_access_unit_zero_univ (Elt F) main_v2 (funext fun a => by fin_cases a <;> rfl) _ f w

theorem before_x (c : Dev nD) (d) : (dat0 m c).before (0 : Fin 3) t0_0 d = XX m c := by
  unfold Dat.before; rw [if_pos (fetch0_0 t0_0)]
  exact read_win0 t0_0 (XX m c)
theorem before_dest (c : Dev nD) (d) : (dat0 m c).before (1 : Fin 3) t0_0 d = DD m c := by
  unfold Dat.before; rw [if_pos (fetch0_1 t0_0)]
  exact read_win1 t0_0 (DD m c)

theorem arr_x (c : Dev nD) (n : ℕ) : (dat0 m c).arrAt (0 : Fin 3) n = XX m c := (dat0 m c).arrAt_in (0 : Fin 3) rfl n
theorem arr_dest (c : Dev nD) (n : ℕ) : (dat0 m c).arrAt (1 : Fin 3) n = DD m c := (dat0 m c).arrAt_in (1 : Fin 3) rfl n
theorem arr_out (c : Dev nD) : (dat0 m c).arrAt (2 : Fin 3) cfg0.N = outAt m c := by
  rw [show cfg0.N = t0_0.val + 1 from N_0, (dat0 m c).arrAt_succ (2 : Fin 3) t0_0, if_pos (flush0_2 t0_0)]
  exact write_win2 t0_0 _ (outAt m c)

/-! ## The body -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(((∃ K, entered m K c) ∗ scratch c ∗ ∃ r, prngReg c r)
    ∗ (dat0 m c).owesAt () t0_0.castSucc
    ∗ (∃ d, stg c cc0_stg0_0 ((dat0 m c).before (0 : Fin 3) t0_0 d))
    ∗ (∃ d, stg c cc0_stg1_0 ((dat0 m c).before (1 : Fin 3) t0_0 d))
    ∗ (∃ d, stg c cc0_stg2_0 ((dat0 m c).before (2 : Fin 3) t0_0 d)))
def bodyPost (c : Dev nD) : sProp 𝕄 :=
  iprop((left c ∗ scratch c ∗ ∃ r, prngReg c r)
    ∗ (dat0 m c).owesAt () t0_0.succ
    ∗ stg c cc0_stg0_0 (XX m c) ∗ stg c cc0_stg1_0 (DD m c) ∗ stg c cc0_stg2_0 (outAt m c))

omit [FloatOps F] in
theorem band_rest : (Finset.univ : Finset S16384x128.Idx) \ brBand = brGot 0 := by
  ext i
  unfold brBand brGot
  simp only [Finset.mem_sdiff, Finset.mem_univ, true_and, Finset.mem_filter]
  show ¬ (i 0).val < 8192 ↔ ((i 0).val < 0 ∨ 8192 ≤ (i 0).val)
  omega

theorem owes_in (c : Dev nD) : ((dat0 m c).owesAt () t0_0.castSucc : sProp 𝕄) ⊢ iprop(∃ W, owes (c : Thread nD τ) (owed₀ c) W) := by
  unfold Dat.owesAt Pipeline.owesWithin
  rw [show (dat0 m c).owed t0_0.castSucc = owed₀ c from rfl]
  iintro ⟨%W, -, HO⟩; iexists W; iexact HO
theorem owes_out (c : Dev nD) : iprop(∃ W, owes (c : Thread nD τ) 0 W) ⊢ ((dat0 m c).owesAt () t0_0.succ : sProp 𝕄) := by
  unfold Dat.owesAt Pipeline.owesWithin
  rw [show (dat0 m c).owed t0_0.succ = 0 from rfl]
  iintro ⟨%W, HO⟩; iexists W
  isplitr; · ipureintro; exact fun _ _ => Or.inl trivial
  iexact HO

/-- What the region gives the body is what the body starts from. -/
theorem pre_start (c : Dev nD) : bodyPre m c ⊢ iprop((∃ K, AtStart (XX m) (DD m) K c (Receiving (XX m) (DD m) K c)) ∗ ∃ r, prngReg c r) := by
  unfold bodyPre scratch
  rw [scopedRest0_eq]
  unfold entered AtStart Receiving
  iintro ⟨⟨⟨%K, ⟨#H1, #H2, #H3⟩, ⟨Ha, Hb, Hc, Hd, He, Hf⟩, Hp⟩, ⟨Hs0, Hs1, Hs2, ⟨%g, Hs3⟩, Hs4⟩, Hr⟩, HO, ⟨%dx, %fx, %hx, Hx⟩, ⟨%dd, %fd, %hd, Hdd⟩, ⟨%d2, %fo, %ho, Ho⟩⟩
  rw [before_x] at hx; rw [before_dest] at hd
  subst hx; subst hd
  ihave HO' := (owes_in m c) $$ HO
  ihave Hs := (pointsTo_split_subset (ℓ := (c : Thread nD τ).loc cc0_scratch3) (Finset.subset_univ brBand)).1 $$ Hs3
  icases Hs with ⟨Hs3, Hs3'⟩
  isplitr [Hr]
  · iexists K
    isplitr; · iexact H1
    isplitr; · iexact H2
    isplitl [Ha Hb Hc Hd He Hf HO']; · iframe
    unfold xHeld dHeld
    isplitl [Hx]; · iexact Hx
    isplitl [Hdd]; · iexact Hdd
    isplitl [Hs0]; · iexact Hs0
    isplitl [Hs1]; · iexact Hs1
    isplitl [Hs2]; · iexact Hs2
    isplitl [Hs3]; · iexists g; iexact Hs3
    isplitl [Hs4]; · iexact Hs4
    isplitl [Ho]; · iexists fo; iexact Ho
    isplitl [Hs3']; · iexists g; rw [← band_rest]; iexact Hs3'
    isplitl [Hp]; · iexact Hp
    iexact H3
  iexact Hr

omit [FloatOps F] in
theorem got_all (c : Dev nD) (q : ℕ) (hq : q < 2048) : Got c 11 q := by
  have hp : place c < 2 := Nat.mod_lt _ (by decide)
  have h11 : off 11 / 8 = 1024 := rfl
  unfold Got rBase kBase
  rw [h11]; omega

/-- What the body ends with is what the region takes back. -/
theorem end_post (c : Dev nD) (K : Dev nD × CellId → ℕ) :
    iprop(Unpacking (XX m) (DD m) K c 11 (Got c 11) (Beside (XX m) (DD m) c) ∗ ∃ r, prngReg c r) ⊢ bodyPost m c := by
  unfold bodyPost scratch Unpacking Beside mHeld oHeld
  rw [scopedRest0_eq, bsGot_all, brGot_all, uptoJ_all]
  unfold xHeld wHeld sHeld dHeld left
  iintro ⟨⟨⟨%g, -, Hs0⟩, ⟨%o, %ho, Ho⟩, Hs2, Hs3, HO, -, Hsp, -, Hx, Hw, ⟨%f, -, Hs1⟩, Hd, Hl, Hb⟩, Hr⟩
  have heq : o = outAt m c := funext fun i => ho i (got_all c _ (i 0).isLt)
  isplitr [HO Hx Hd Ho]
  · isplitl [Hsp Hl Hb]; · iframe
    isplitr [Hr]
    · isplitl [Hs0]; · iexists g; iexact Hs0
      isplitl [Hs1]; · iexists f; iexact Hs1
      isplitl [Hs2]; · iexact Hs2
      isplitl [Hs3]; · iexact Hs3
      iexists (DD m c); iexact Hw
    iexact Hr
  isplitl [HO]; · iapply (owes_out m c); iexact HO
  isplitl [Hx]
  · iexists (XX m c); isplitr; · ipureintro; rfl
    iexact Hx
  isplitl [Hd]
  · iexists (DD m c); isplitr; · ipureintro; rfl
    iexact Hd
  iexists o; isplitr; · ipureintro; exact heq
  iexact Ho

theorem body_sound (hE : Even m) (c : Dev nD) :
    bodyPre m c ⊢ WP c (cc0_body xM (Memref.isWhole_whole _) dM (Memref.isWhole_whole _) oM (Memref.isWhole_whole _) kM (Memref.isWhole_whole _) sM (Memref.isWhole_whole _) bsM (Memref.isWhole_whole _) brM (Memref.isWhole_whole _) wM (Memref.isWhole_whole _) cc0_scratch5 cc0_scratch6 cc0_scratch7 cc0_scratch8 cc0_scratch9) fun _ => bodyPost m c := by
  refine (pre_start m c).trans ?_
  iintro ⟨⟨%K, H⟩, Hr⟩
  ihave HW := (body_run (F := F) (K := K) (hE c).1 (hE c).2) $$ H
  iapply (show iprop(WP c _ (fun _ => Unpacking (XX m) (DD m) K c 11 (Got c 11) (Beside (XX m) (DD m) c)) ∗ ∃ r, prngReg c r) ⊢ WP c _ fun _ => bodyPost m c from
    (Idealize.SL.Sem.wp_frame_r _ _ _).trans (Idealize.SL.Sem.wp_mono _ _ _ fun _ => end_post m c K))
  isplitl [HW] <;> iassumption

theorem body_obligation (hE : Even m) (c : Dev nD) : BodyObligation (dat0 m c) (defs₀ (F := F)) 𝒱₀ () Set.univ := fun t => by
  rw [fin_N0 t]
  rw [bigSep_W0, bigSep_W0]
  simp only [owns_whole_eq]
  exact body_sound m hE c

end Cert.A2A

end
-- ==== Proof.Segments.lean ====
/-
The kernel as a segment of the program: what a device brings to it of the exchange, how the counters it is given on entry
become the exchange's cells, and what it leaves.
-/
module

public import proofs.«01_k».proof.Proof.Region
public import Idealize.ShloMosaic.Lib.Rounds.Family

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The cells whose counters the kernel's entry supplies -/

/-- All cells but the barrier. -/
abbrev ScId : Type := Option (Bool × Fin 11)
def sc (s : ScId) : CellId := s.map some
theorem sc_inj : Function.Injective sc := by decide +kernel
abbrev scSem (s : ScId) : SemLoc sig := osem (sc s)
theorem sc_ne_bar (s : ScId) : sc s ≠ some none := by revert s; decide

theorem scSem_facts : Pipeline.OwnSemFacts spec0 scSem := by decide +kernel

section Split
variable {M : Type} [URA M]

theorem sep_option {α : Type} [Fintype α] [DecidableEq α] (Φ : Option α → sProp M) :
    bigSep Finset.univ Φ = iprop(Φ none ∗ bigSep Finset.univ fun a => Φ (some a)) := by
  rw [bigSep_univ_at Φ none]
  congr 1
  rw [show (Finset.univ : Finset (Option α)).erase none = Finset.univ.map Function.Embedding.some from by
    ext x; cases x <;> simp, bigSep_map]
  rfl
theorem sep_sides (Φ : Bool × Fin 11 → sProp M) :
    bigSep Finset.univ Φ = iprop((bigSep Finset.univ fun j => Φ (false, j)) ∗ bigSep Finset.univ fun j => Φ (true, j)) := by
  rw [bigSep_univ_prod, show (Finset.univ : Finset Bool) = {false, true} from by decide, bigSep_insert (by decide), bigSep_singleton]; rfl
theorem sep_sc (Φ : ScId → sProp M) :
    bigSep Finset.univ Φ = iprop(Φ none ∗ (bigSep Finset.univ fun j => Φ (some (false, j))) ∗ bigSep Finset.univ fun j => Φ (some (true, j))) := by
  rw [sep_option, sep_sides]

variable {ι : Type} [Fintype ι] {Φ Ψ : ι → sProp M}
theorem sep_zip : iprop(bigSep Finset.univ Φ ∗ bigSep Finset.univ Ψ) ⊢ bigSep Finset.univ fun a => iprop(Φ a ∗ Ψ a) :=
  Entails.of_eq (bigSep_sep _ _ _).symm
theorem sep_unzip : (bigSep Finset.univ fun a => iprop(Φ a ∗ Ψ a)) ⊢ iprop(bigSep Finset.univ Φ ∗ bigSep Finset.univ Ψ) :=
  Entails.of_eq (bigSep_sep _ _ _)

theorem sep_each (h : ∀ a, Φ a ⊢ Ψ a) : bigSep Finset.univ Φ ⊢ bigSep Finset.univ Ψ := bigSep_mono fun a _ => h a
theorem sep_pick {α : Type} [DecidableEq α] {s : Finset α} {Θ : α → sProp M} {a : α} (h : a ∈ s) : bigSep s Θ ⊢ Θ a := bigSep_elim h

end Split

/-! ## What a device brings -/

section Brought
variable (K : Dev nD × CellId → ℕ) (c : Dev nD)

abbrev scInv (s : ScId) : sProp 𝕄 := cellInv ER (rd (XX m) (DD m)) (K (c, sc s)) (cellAt c (sc s))
abbrev outInv (j : Fin 11) : sProp 𝕄 := cellInv ER (rd (XX m) (DD m)) (K (peer c, some (some (true, j)))) (recvCell (peer c) j)

/-- What a device knows before it enters. -/
def facts : sProp 𝕄 :=
  iprop(bigSep Finset.univ (scInv m K c) ∗ cellInv ER (rd (XX m) (DD m)) (K (c, some none)) (barCell c)
    ∗ cellInv ER (rd (XX m) (DD m)) (K (peer c, some none)) (barCell (peer c)) ∗ bigSep Finset.univ (outInv m K c) ∗ reached ER (barCell (peer c)) 0)
instance facts_persistent : BI.Persistent (facts m K c) := by unfold facts; infer_instance

/-- What it holds before it enters: the rights to open its cells, its place at its barrier, the right to pay each cell it pays. -/
def carried : sProp 𝕄 :=
  iprop((bigSep Finset.univ fun s : ScId => openTok ER (cellAt c (sc s)))
    ∗ dutyTok ER (localCell c) 0 () ∗ atPos ER (barCell c) 0 ∅ 0 ∗ dutyTok ER (barCell (peer c)) 0 () ∗ bigSep Finset.univ (toks c))

end Brought

/-- The credit of the barrier, and of the messages landing here. -/
def due (c : Dev nD) : sProp 𝕄 := iprop(cred (tallyAt (barCell c) () 1) ∗ bigSep Finset.univ fun j : Fin 11 => cred (tallyAt (recvCell c j) () (N j)))

def Tk (c : Dev nD) : sProp 𝕄 := iprop((∃ K, facts m K c ∗ carried c) ∗ due c)
def Xk (c : Dev nD) : sProp 𝕄 := iprop(∃ K, entered m K c)

theorem sems_eq (c : Dev nD) : (Pipeline.ownSems0 scSem c : sProp 𝕄) = bigSep Finset.univ fun s : ScId => semVal (cellAt c (sc s)) 0 := rfl

/-- Given its counters at zero a device opens its cells. -/
theorem opened (c : Dev nD) : iprop(Tk m c ∗ Pipeline.ownSems0 scSem c ∗ levAts L lv) ⊢ (|={Set.univ}=> Xk m c : sProp 𝕄) := by
  unfold Tk Xk carried due
  iintro ⟨⟨⟨%K, #Hf, Hop, Htl, Hab, Htb, Hts⟩, Hcb, Hcr⟩, Hsem, #Hlev⟩
  unfold facts
  icases Hf with ⟨#Hsc, #Hb, #Hbp, #Hout, #Hrb⟩
  imod (Rounds.cells_open ER (rd (XX m) (DD m)) Finset.univ (fun s => cellAt c (sc s)) (fun s => K (c, sc s)) (Es := Set.univ) fun s _ => Set.mem_univ _) $$ [Hop Hsem] with Hat
  · isplitl [Hop]
    · iapply sep_zip
      isplitr; · iexact Hsc
      iexact Hop
    iapply (Entails.of_eq (sems_eq c)); iexact Hsem
  ihave Hat' := sep_unzip $$ Hat
  icases Hat' with ⟨Hat, #Hre⟩
  imodintro
  ihave Hat2 := (Entails.of_eq (sep_sc fun s => (atPos ER (cellAt c (sc s)) 0 ∅ 0 : sProp 𝕄))) $$ Hat
  ihave Hre2 := (Entails.of_eq (sep_sc fun s => (reached ER (cellAt c (sc s)) 0 : sProp 𝕄))) $$ Hre
  ihave Hsc2 := (Entails.of_eq (sep_sc (scInv m K c))) $$ Hsc
  icases Hat2 with ⟨Hal, Has, Har⟩
  icases Hre2 with ⟨#Hrl, #Hrs, #Hrr⟩
  icases Hsc2 with ⟨#Hil, #His, #Hir⟩
  iexists K
  unfold entered startKnown
  isplitr
  · isplitr
    · isplitr; · iexact Hil
      isplitr; · iexact Hb
      isplitr; · iexact Hbp
      isplitr; · iexact Hrl
      isplitr; · iexact Hrb
      isplitr; · iexact Hlev
      iexact Hrr
    isplitr
    · unfold knownOwn
      iapply sep_zip; isplitr; · iexact His
      iapply sep_zip; isplitr; · iexact Hout
      iexact Hrs
    unfold invIn
    iexact Hir
  isplitl [Hal Htl Hab Htb Hcb Hts]
  · isplitl [Hal]; · iexact Hal
    iframe
  unfold pendIn
  iapply sep_zip; isplitl [Hcr]; · iexact Hcr
  iapply sep_zip
  isplitl [Has]; · iexact Has
  iexact Har

/-! ## The segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- The buffers of the whole program, and those the kernel has no window over. -/
abbrev bufs : Finset (DevRef τ sig) := Pipeline.ucRefs τ sig
abbrev arrs : Finset (DevRef τ sig) := Pipeline.arrRefs (τ := τ) (pcfgs (F := F) 0).spec
abbrev others : Finset (DevRef τ sig) := bufs \ arrs (F := F)

theorem arrs_sub : arrs (F := F) ⊆ bufs := Pipeline.arrRefs_sub_ucRefs _ (by decide : ∀ w, (Pipeline.arrRef spec0 w).isScoped = false)
theorem out_mem : Proc.devRef .tc main_v2 ∈ arrs (F := F) := by
  unfold arrs Pipeline.arrRefs
  exact Finset.mem_map.mpr ⟨main_v2, Finset.mem_image.mpr ⟨(2 : Fin 3), Finset.mem_univ _, rfl⟩, rfl⟩

/-- What goes along with the buffers up to the kernel. -/
def R (c : Dev nD) : sProp 𝕄 := iprop((Tk m c ∗ ∃ r, prngReg c r) ∗ ∃ W, owes (c : Thread nD τ) (owed₀ c) W)

def seg0 : ℍ := Pipeline.HostSeg.ofOps _ _ _ _ _ bufs hostOps0
  (fun op h => Pipeline.sub_ucRefs op ((List.forall_iff_forall_mem.mp hostOps0_sub) op h))
  (fun op h => by rw [List.mem_singleton.mp h]; rfl) (V₀ m) (R m)

theorem levels_cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  obtain ⟨_ | n, ht⟩ := t
  · have h' : 0 < owed₀ c g i := h
    rcases owed₀_pos h' with ⟨j, rfl⟩ | rfl
    · rw [lv_recv]; exact ⟨Finset.mem_singleton_self _, by decide⟩
    · rw [lv_bar]; exact ⟨Finset.mem_singleton_self _, by decide⟩
  · exact absurd h (Nat.lt_irrefl 0)

theorem window_level (c : Dev nD) (w : Fin (Pipeline.pin (pcfgs (F := F)) adm 0).W) (s : Fin ((Pipeline.pin (pcfgs (F := F)) adm 0).win w).nbuf) :
    lv ((c : Thread nD τ), .dma (((Pipeline.pin (pcfgs (F := F)) adm 0).win w).sem s)) () ≤ 0 := by
  refine (lv_other c _ (fun k => ?_) ()).le
  revert k
  have h : ∀ (w : Fin 3) (s) (k : CellId), osem k ≠ .dma ((spec0 w).sem s) := by decide +kernel
  exact h w s

theorem phi_in (c : Dev nD) : iprop(Pipeline.scopedRest (Pipeline.pin (pcfgs (F := F)) adm 0).spec c ∗ (∃ r, prngReg c r)
    ∗ StableHlo.held (c.tc : Thread nD τ) ∅ (V₁ m c) ∗ Xk m c) ⊢ (pdats m 0 c).Φ 0 := by
  rw [show (pdats m 0 c).Φ 0 = iprop((∃ K, entered m K c) ∗ scratch c ∗ ∃ r, prngReg c r) from rfl]
  unfold Xk
  iintro ⟨Hs, Hp, -, HK⟩
  isplitl [HK]; · iexact HK
  isplitl [Hs]; · iexact Hs
  iexact Hp

theorem own_sems (c : Dev nD) : (Pipeline.ownSems0 scSem c : sProp 𝕄)
    = iprop(semVal (localCell c) 0 ∗ (bigSep Finset.univ fun j => semVal (sendCell c j) 0) ∗ bigSep Finset.univ fun j => semVal (recvCell c j) 0) :=
  sep_sc fun s => (semVal (cellAt c (sc s)) 0 : sProp 𝕄)

theorem phi_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
      ∗ Pipeline.ownSems0 scSem c ∗ semVal (barCell c) 0) := by
  rw [show (pdats m 0 c).Φ (Fin.last _) = iprop(left c ∗ scratch c ∗ ∃ r, prngReg c r) from rfl, own_sems]
  unfold left
  iintro ⟨⟨⟨Hl, Hsp⟩, Hb⟩, Hs, Hp⟩
  isplitl [Hs]; · iexact Hs
  isplitl [Hp]; · iexact Hp
  isplitr
  · unfold StableHlo.held; rw [bigSep_empty]; iempintro
  isplitr [Hb]
  · isplitl [Hl]; · iexact Hl
    iapply sep_unzip
    unfold spent
    iexact Hsp
  iexact Hb

theorem arr_start (c : Dev nD) (w) : (pdats m 0 c).arrAt w 0 = V₁ m c (Proc.devRef .tc (Pipeline.arrRef (Pipeline.pin (pcfgs (F := F)) adm 0).spec w)) := rfl
theorem arr_end (c : Dev nD) (w) : (pdats m 0 c).arrAt w (Pipeline.pin (pcfgs (F := F)) adm 0).N
    = V₂ m c (Proc.devRef .tc (Pipeline.arrRef (Pipeline.pin (pcfgs (F := F)) adm 0).spec w)) := by
  match w with
  | ⟨0, _⟩ => exact (arr_x m c _).trans (V₂_ne m c (by decide)).symm
  | ⟨1, _⟩ => exact (arr_dest m c _).trans (V₂_ne m c (by decide)).symm
  | ⟨2, _⟩ => exact (arr_out m c).trans (V₂_out m c).symm

theorem launchP : Pipeline.PLaunchFacts (nD := nD) (τ := τ) (pcfgs (F := F)) 0 := launch0.toP

set_option backward.isDefEq.respectTransparency.types false in
def reg0 (hE : Even m) : ℝ𝕊 0 :=
  Pipeline.RegionSeg.ofTalk (pcfgs (F := F)) adm (pdats m) () defs₀ 𝒱₀ L lv 0 scSem scSem_facts
    ∅ (others (F := F)) (Finset.empty_subset _) launchP rfl (fun c => (body_obligation m hE c).loose)
    (fun _ => 0) owed₀ (fun c => (zero_add _).symm) (fun _ => rfl) (fun _ => rfl) (fun c w => by unfold Dat.share; split <;> rfl)
    (V₁ m) (V₂ m) (fun c b hb => V₂_ne m c fun h => (Finset.mem_sdiff.mp (Finset.mem_sdiff.mp hb).1).2 (h ▸ out_mem))
    (Tk m) (fun c => semVal (barCell c) 0) (Xk m) (fun c => semVal (barCell c) 0) (opened m) (phi_in m) (phi_out m)
    (fun c => by iintro H; imodintro; iexact H)
    (fun _ => 0)
    ⟨fun c w s => by rw [L_tc]; exact Finset.mem_singleton_self _, fun c w s => window_level c w s, fun c t g i h => levels_cut m c t g i h⟩
    (fun _ => iprop(emp))
    (arr_start m) (arr_end m)

theorem reg0_pre (hE : Even m) (c : Dev nD) : iprop(StableHlo.held (c : Thread nD τ) bufs (V₁ m c) ∗ R m c) ⊢ (reg0 m hE).pre c := by
  show _ ⊢ iprop(StableHlo.held (c.tc : Thread nD τ) arrs (V₁ m c) ∗ (∃ r, prngReg c r)
    ∗ (StableHlo.held (c.tc : Thread nD τ) (others (F := F)) (V₁ m c) ∗ emp) ∗ Tk m c ∗ ∃ Wd, owes (c : Thread nD τ) (0 + owed₀ c) Wd)
  rw [zero_add, StableHlo.held_sub_split (c.tc : Thread nD τ) (arrs_sub (F := F)) (V₁ m c)]
  unfold R
  iintro ⟨⟨Ha, Ho⟩, ⟨HT, Hp⟩, HO⟩
  isplitl [Ha]; · iexact Ha
  isplitl [Hp]; · iexact Hp
  isplitl [Ho]
  · isplitl [Ho]; · iexact Ho
    iempintro
  isplitl [HT] <;> iassumption

theorem reg0_post (hE : Even m) (c : Dev nD) : (reg0 m hE).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) (others (F := F)) (V₂ m c) ∗ emp) ∗ semVal (barCell c) 0 ∗ ∃ Wd, owes (c : Thread nD τ) (0 : CellTallies nD τ sig Unit) Wd) ⊢ _
  rw [StableHlo.held_sub_split (c.tc : Thread nD τ) (arrs_sub (F := F)) (V₂ m c)]
  iintro ⟨Ha, -, ⟨Ho, -⟩, Hb, HO⟩
  isplitr [HO]
  · isplitr [Hb]
    · isplitl [Ha] <;> iassumption
    iexact Hb
  iexact HO

def segs (hE : Even m) : List (Pipeline.Seg (pcfgs (F := F)) adm (pdats m) () defs₀ 𝒱₀ L lv) :=
  [.host (seg0 m), .region (reg0 m hE)]

theorem main_run (hE : Even m) (c : Dev nD) : main (F := F) c = Pipeline.Seg.run (segs m hE) :=
  main_segs adm (pdats m) () 𝒱₀ L lv (seg0 m) (reg0 m hE) rfl c

end Cert.A2A

end
-- ==== Proof.Launch.lean ====
/-
The launch of the exchange, and the run of the whole program: when every device's rows are split evenly, every device
ends with its arguments as they were, its result what the kernel makes of its rows and its peer's, and no counter raised.
-/
module

public import proofs.«01_k».proof.Proof.Segments

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- A cell of some device, by its name, and the cells of a set of names. -/
def nameEmb : Dev nD × CellId ↪ GSem nD τ sig := ⟨fun ck => cellAt ck.1 ck.2, cellAt_inj⟩
def barEmb : Dev nD ↪ GSem nD τ sig := ⟨barCell, fun _ _ h => congrArg Prod.fst (cellAt_inj (a₁ := (_, some none)) (a₂ := (_, some none)) h)⟩
def scEmb : Dev nD × ScId ↪ GSem nD τ sig := ⟨fun cs => cellAt cs.1 (sc cs.2), fun a b h => by
  have h' := cellAt_inj (a₁ := (a.1, sc a.2)) (a₂ := (b.1, sc b.2)) h
  exact Prod.ext (congrArg (fun p : Dev nD × CellId => p.1) h') (sc_inj (congrArg (fun p : Dev nD × CellId => p.2) h'))⟩
def tokEmb : Dev nD × CellId ↪ GSem nD τ sig × ℕ × Unit := ⟨fun ck => (cellAt ck.1 ck.2, 0, ()), fun _ _ h => cellAt_inj (congrArg Prod.fst h)⟩

/-- The barriers, whose counters the launch has; the other cells; the right to pay each cell once. -/
abbrev barCells : Finset (GSem nD τ sig) := Finset.univ.map barEmb
abbrev scCells : Finset (GSem nD τ sig) := Finset.univ.map scEmb
abbrev payToks : Finset (GSem nD τ sig × ℕ × Unit) := Finset.univ.map tokEmb

theorem cells_disjoint : Disjoint barCells scCells := by
  rw [Finset.disjoint_left]
  intro g h₁ h₂
  obtain ⟨c, -, rfl⟩ := Finset.mem_map.mp h₁
  obtain ⟨cs, -, h⟩ := Finset.mem_map.mp h₂
  exact sc_ne_bar cs.2 (congrArg Prod.snd (cellAt_inj (a₁ := (cs.1, sc cs.2)) (a₂ := (c, some none)) h))
theorem bar_mem (c : Dev nD) : cellAt c (some none) ∈ barCells ∪ scCells := Finset.mem_union_left _ (Finset.mem_map_of_mem barEmb (Finset.mem_univ c))
theorem sc_mem (c : Dev nD) (s : ScId) : cellAt c (sc s) ∈ barCells ∪ scCells :=
  Finset.mem_union_right _ (Finset.mem_map_of_mem scEmb (Finset.mem_univ (c, s)))

def u₀ : UU :=
  (initOf (Pipeline.cells (Pipeline.pin (pcfgs (F := F)) adm) cellOf_inj) (Pipeline.launchToks (Pipeline.pin (pcfgs (F := F)) adm) cellOf_inj),
    launchOf barCells scCells payToks)

/-- What is dealt to device zero only. -/
def atZero (P : sProp 𝕄) (c : Dev nD) : sProp 𝕄 := if c = 0 then P else iprop(emp)
theorem sep_atZero (P : sProp 𝕄) : bigSep Finset.univ (atZero P) = P := by
  rw [bigSep_univ_at _ (0 : Dev nD), bigSep_congr (s := Finset.univ.erase (0 : Dev nD)) (Ψ := fun _ => (BI.emp : sProp 𝕄)) fun c hc => by unfold atZero; rw [if_neg (Finset.ne_of_mem_erase hc)]; rfl,
    BI.bigSep_emp_const]
  unfold atZero; rw [if_pos rfl]
  exact BI.equiv_iff.mp sep_emp
abbrev G : Dev nD → sProp 𝕄 := atZero (BI.own (ER (launchOf barCells scCells payToks)))

/-! ## The records -/

section Records
variable (κ : GSem nD τ sig → ℕ)

def records : sProp 𝕄 :=
  iprop((bigSep (barCells ∪ scCells) fun g => cellInv ER (rd (XX m) (DD m)) (κ g) g) ∗ bigSep barCells fun g => reached ER g 0)
instance records_persistent : BI.Persistent (records m κ) := by unfold records; infer_instance

/-- The records by the cells' names. -/
def names (ck : Dev nD × CellId) : ℕ := κ (cellAt ck.1 ck.2)

theorem inv_of {g : GSem nD τ sig} (h : g ∈ barCells ∪ scCells) :
    (bigSep (barCells ∪ scCells) fun g => (cellInv ER (rd (XX m) (DD m)) (κ g) g : sProp 𝕄)) ⊢ cellInv ER (rd (XX m) (DD m)) (κ g) g :=
  sep_pick h
theorem reached_of (c : Dev nD) : (bigSep barCells fun g => (reached ER g 0 : sProp 𝕄)) ⊢ reached ER (barCell c) 0 :=
  sep_pick (Finset.mem_map_of_mem barEmb (Finset.mem_univ c))

theorem invs_of (c : Dev nD) {ι : Type} [Fintype ι] [DecidableEq ι] (f : ι → CellId) (hf : ∀ i, cellAt c (f i) ∈ barCells ∪ scCells) :
    (bigSep (barCells ∪ scCells) fun g => (cellInv ER (rd (XX m) (DD m)) (κ g) g : sProp 𝕄))
      ⊢ bigSep Finset.univ fun i => cellInv ER (rd (XX m) (DD m)) (names κ (c, f i)) (cellAt c (f i)) := by
  iintro #H
  iapply (bigSep_with_persistent (R := bigSep (barCells ∪ scCells) fun g => (cellInv ER (rd (XX m) (DD m)) (κ g) g : sProp 𝕄)) (Φ := fun _ : ι => (BI.emp : sProp 𝕄))
    fun i _ => (show iprop(_ ∗ BI.emp) ⊢ _ from by iintro ⟨H, -⟩; iexact H).trans (inv_of m κ (hf i)))
  isplitr; · iexact H
  rw [BI.bigSep_emp_const]; iempintro

theorem facts_of (c : Dev nD) : records m κ ⊢ facts m (names κ) c := by
  unfold records facts
  iintro ⟨#HI, #HR⟩
  isplitr; · iapply (invs_of m κ c sc (sc_mem c)); iexact HI
  isplitr; · iapply (inv_of m κ (bar_mem c)); iexact HI
  isplitr; · iapply (inv_of m κ (bar_mem (peer c))); iexact HI
  isplitr; · iapply (invs_of m κ (peer c) (fun j : Fin 11 => some (some (true, j))) (fun j => sc_mem (peer c) (some (true, j)))); iexact HI
  iapply (reached_of (F := F) (peer c)); iexact HR

end Records

/-! ## The rights to pay, dealt to who pays -/

theorem toks_dealt : bigSep payToks (fun x => (dutyTok ER x.1 x.2.1 x.2.2 : sProp 𝕄))
    ⊢ bigSep Finset.univ fun c : Dev nD => iprop(dutyTok ER (localCell c) 0 () ∗ dutyTok ER (barCell (peer c)) 0 () ∗ bigSep Finset.univ (toks c)) := by
  unfold toks
  rw [bigSep_map, bigSep_univ_prod]
  rw [bigSep_congr (s := Finset.univ) (Ψ := fun c : Dev nD => iprop(dutyTok ER (localCell c) 0 () ∗ dutyTok ER (barCell c) 0 ()
      ∗ (bigSep Finset.univ fun j => dutyTok ER (sendCell c j) 0 ()) ∗ bigSep Finset.univ fun j => dutyTok ER (recvCell c j) 0 ()))
    fun c _ => by
      rw [sep_option, sep_option, sep_sides]; rfl]
  iintro H
  ihave H := sep_unzip $$ H; icases H with ⟨Hl, H⟩
  ihave H := sep_unzip $$ H; icases H with ⟨Hb, H⟩
  ihave H := sep_unzip $$ H; icases H with ⟨Hs, Hr⟩
  iapply sep_zip; isplitl [Hl]; · iexact Hl
  iapply sep_zip; isplitl [Hb]
  · iapply (Entails.of_eq (bigSep_univ_equiv swap fun c : Dev nD => (dutyTok ER (barCell c) 0 () : sProp 𝕄))); iexact Hb
  iapply (sep_each fun c : Dev nD => sep_zip (Φ := fun j => (dutyTok ER (sendCell c j) 0 () : sProp 𝕄)) (Ψ := fun j => dutyTok ER (recvCell (peer c) j) 0 ()))
  iapply sep_zip; isplitl [Hs]; · iexact Hs
  iapply (Entails.of_eq (bigSep_univ_equiv swap fun c : Dev nD => (bigSep Finset.univ fun j => dutyTok ER (recvCell c j) 0 () : sProp 𝕄))); iexact Hr

/-! ## The credit of what is owed -/

theorem cell_eq {c d : Dev nD} {k k' : CellId} : cellAt c k = cellAt d k' ↔ c = d ∧ k = k' :=
  ⟨fun h => by have := cellAt_inj (a₁ := (c, k)) (a₂ := (d, k')) h; exact ⟨congrArg Prod.fst this, congrArg Prod.snd this⟩, fun ⟨h, h'⟩ => by rw [h, h']⟩

theorem eq_peer {c d : Dev nD} : c = peer d ↔ d = peer c := ⟨fun h => by rw [h, peer_peer], fun h => by rw [h, peer_peer]⟩

theorem owed_bar (d c : Dev nD) : owed₀ d (barCell c) () = if d = peer c then 1 else 0 := by
  unfold owed₀
  rw [Pi.add_apply, Finsupp.add_apply, tallyAt_apply]
  have h : owed d 0 (barCell c) () = 0 := by
    by_contra hn
    obtain ⟨j, hj⟩ := owed_pos (Nat.pos_of_ne_zero hn)
    exact absurd (cell_eq.mp hj).2 (by simp)
  rw [h, Nat.zero_add]
  by_cases hd : d = peer c
  · rw [if_pos hd, if_pos ⟨cell_eq.mpr ⟨eq_peer.mp hd, rfl⟩, rfl⟩]
  · rw [if_neg hd, if_neg fun h' => hd (eq_peer.mpr (cell_eq.mp h'.1).1)]

theorem owed_recv (d c : Dev nD) (j : Fin 11) : owed₀ d (recvCell c j) () = if d = peer c then N j else 0 := by
  unfold owed₀
  rw [Pi.add_apply, Finsupp.add_apply, tallyAt_apply, if_neg (fun h => absurd (cell_eq.mp h.1).2 (by simp)), Nat.add_zero]
  unfold owed
  rw [Finset.sum_apply, Finsupp.finset_sum_apply, fromJ_zero, Finset.sum_congr rfl fun k _ => tallyAt_apply ..]
  by_cases hd : d = peer c
  · rw [if_pos hd, Finset.sum_eq_single j]
    · exact if_pos ⟨cell_eq.mpr ⟨eq_peer.mp hd, rfl⟩, rfl⟩
    · intro k _ hk
      exact if_neg fun h => hk (by have := (cell_eq.mp h.1).2; simpa using this.symm)
    · intro h; exact absurd (Finset.mem_univ j) h
  · rw [if_neg hd]
    exact Finset.sum_eq_zero fun k _ => if_neg fun h => hd (eq_peer.mpr (cell_eq.mp h.1).1)

theorem launch_at (c : Dev nD) (k : CellId) (n : ℕ) (h : ∀ d, owed₀ d (cellAt c k) () = if d = peer c then n else 0) :
    tallyOn (cellAt c k) (launchCredit (Pipeline.owing owed₀) 0 (cellAt c k)) = (tallyAt (cellAt c k) () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (peer c) fun _ => n,
    if_pos (Finset.mem_univ _)]

def recvEmb : Fin 11 ↪ SemLoc sig := ⟨fun j => osem (some (some (true, j))), fun i j h => by have := osem_inj h; simpa using this⟩

theorem due_of (c : Dev nD) : (Pipeline.launchCred owed₀ c : sProp 𝕄) ⊢ due c := by
  unfold Pipeline.launchCred due
  rw [bigSep_univ_at _ (SemLoc.reg barS)]
  refine BI.sep_mono (Entails.of_eq (congrArg cred (launch_at c (some none) 1 fun d => owed_bar d c))) ?_
  have hsub : Finset.univ.map recvEmb ⊆ Finset.univ.erase (SemLoc.reg barS : SemLoc sig) := fun s hs => by
    obtain ⟨j, -, rfl⟩ := Finset.mem_map.mp hs
    exact Finset.mem_erase.mpr ⟨fun h => absurd (osem_inj (a₁ := some (some (true, j))) (a₂ := some none) h) (by simp), Finset.mem_univ _⟩
  refine (bigSep_subset hsub).trans ?_
  rw [bigSep_map]
  exact bigSep_mono fun j _ => Entails.of_eq (congrArg cred (launch_at c (some (some (true, j))) (N j) fun d => owed_recv d c j))

/-! ## The start -/

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- What a device has at launch beside its part of the exchange. -/
def bundle (c : Dev nD) : sProp 𝕄 :=
  iprop(StableHlo.held (c : Thread nD τ) bufs (V₀ m c) ∗ due c ∗ owes (c : Thread nD τ) (owed₀ c) ∅ ∗ ∃ r, prngReg c r)

theorem T₀_of (κ : GSem nD τ sig → ℕ) (c : Dev nD) : iprop(records m κ ∗ (carried c ∗ bundle m c)) ⊢ T₀ m c := by
  unfold bundle T₀ R Tk
  iintro ⟨#HR, Hc, Hh, Hd, HO, Hp⟩
  isplitl [Hh]; · iexact Hh
  isplitr [HO]
  · isplitr [Hp]
    · isplitr [Hd]
      · iexists names κ
        isplitr; · iapply (facts_of m κ c); iexact HR
        iexact Hc
      iexact Hd
    iexact Hp
  iexists ∅; iexact HO

theorem bar_only : (Finset.univ.filter fun sm : SemLoc sig => ¬ sm.isScoped .tc) = {SemLoc.reg barS} := by decide +kernel
theorem unscoped_bar (sm : SemLoc sig) (h : sm.isScoped .tc = false) : sm = .reg barS := by
  have := bar_only ▸ Finset.mem_filter.mpr ⟨Finset.mem_univ sm, by rw [h]; decide⟩
  exact Finset.mem_singleton.mp this

abbrev given (c : Dev nD) : sProp 𝕄 :=
  iprop(unscopedBufs c (fun b => m ((c : Thread nD τ).loc b)) ∗ unscopedSems0 c
    ∗ owes (c : Thread nD τ) (owed₀ c) ∅ ∗ Pipeline.launchCred owed₀ c ∗ prngReg c (ρ c) ∗ G c)

theorem given_split (c : Dev nD) : given m ρ c ⊢ (iprop(bundle m c ∗ (semVal (barCell c) 0 ∗ G c)) : sProp 𝕄) := by
  unfold given
  rw [show unscopedBufs c (fun b => m ((c : Thread nD τ).loc b)) = StableHlo.held (c : Thread nD τ) bufs (V₀ m c) from Pipeline.unscopedBufs_held c (V₀ m c)]
  unfold unscopedSems0
  rw [bar_only, bigSep_singleton]
  unfold bundle
  iintro ⟨Hh, Hus, HO, Hcr, Hp, HG⟩
  ihave Hd := (due_of (F := F) c) $$ Hcr
  isplitr [Hus HG]
  · isplitl [Hh]; · iexact Hh
    isplitl [Hd]; · iexact Hd
    isplitl [HO]; · iexact HO
    iexists (ρ c); iexact Hp
  isplitl [Hus]; · iexact Hus
  iexact HG

theorem init : iprop((bigSep Finset.univ (given m ρ)) ∗ levAts L lv) ⊢ (|={Set.univ}=> bigSep Finset.univ (T₀ m) : sProp 𝕄) := by
  have hat (Φ : GSem nD τ sig → sProp 𝕄) : bigSep barCells Φ = bigSep Finset.univ fun c => Φ (barCell c) := bigSep_map barEmb
  have hsc (Φ : GSem nD τ sig → sProp 𝕄) : bigSep scCells Φ = bigSep Finset.univ fun c : Dev nD => bigSep Finset.univ fun s : ScId => Φ (cellAt c (sc s)) :=
    (bigSep_map scEmb).trans (bigSep_univ_prod _)
  iintro ⟨H, -⟩
  ihave H := (sep_each fun c : Dev nD => given_split m ρ c) $$ H
  ihave H := sep_unzip $$ H; icases H with ⟨HB, H⟩
  ihave H := sep_unzip $$ H; icases H with ⟨Hv, HG⟩
  ihave Hu := (Entails.of_eq (sep_atZero (BI.own (ER (launchOf barCells scCells payToks)) : sProp 𝕄))) $$ HG
  ihave Hv := (Entails.of_eq (hat fun g => semVal g 0).symm) $$ Hv
  imod (Rounds.fund_launch ER (rd (XX m) (DD m)) cells_disjoint (fun g _ h => h) payToks (Es := Set.univ)) $$ [Hv Hu] with ⟨%κ, -, #Hinv, #Hr, Hat, Hopen, Htok⟩
  · isplitl [Hv] <;> iassumption
  imodintro
  iapply (bigSep_with_persistent (R := records m κ) (Φ := fun c => iprop(carried c ∗ bundle m c)) fun c _ => T₀_of m κ c)
  isplitr
  · unfold records
    isplitr; · iexact Hinv
    iexact Hr
  iapply sep_zip
  isplitr [HB]
  · ihave Hat := (Entails.of_eq (hat fun g => atPos ER g 0 ∅ 0)) $$ Hat
    ihave Hopen := (Entails.of_eq (hsc fun g => openTok ER g)) $$ Hopen
    ihave Htok := (toks_dealt (F := F)) $$ Htok
    ihave Htok := sep_unzip $$ Htok; icases Htok with ⟨Htl, Htok⟩
    ihave Htok := sep_unzip $$ Htok; icases Htok with ⟨Htb, Hts⟩
    unfold carried
    iapply sep_zip; isplitl [Hopen]; · iexact Hopen
    iapply sep_zip; isplitl [Htl]; · iexact Htl
    iapply sep_zip; isplitl [Hat]; · iexact Hat
    iapply sep_zip; isplitl [Htb]; · iexact Htb
    iexact Hts
  iexact HB

/-! ## The run -/

theorem V₁_of_ne (c : Dev nD) (b : Ref sig .tc) (h : b ≠ main_v1) : V₁ m c (Proc.devRef .tc b) = m ((c : Thread nD τ).loc b) := by
  unfold V₁ hostOps0
  rw [StableHlo.after_cons, StableHlo.after_nil]
  exact StableHlo.reshape_result_ne main_arg1 main_v1 _ _ _ _ _ h

theorem read_held (c : Dev nD) (b : Ref sig .tc) (hb : Proc.devRef .tc b ∈ bufs) (s : Phys nD τ sig (Elt F)) :
    iprop(StableHlo.held (c : Thread nD τ) bufs (V₂ m c) ∗ SI s) ⊢ (⌜s.mem.mem ((c : Thread nD τ).loc b) = V₂ m c (Proc.devRef .tc b)⌝ : sProp 𝕄) := by
  unfold StableHlo.held
  iintro ⟨H, HSI⟩
  ihave Hb := (sep_pick hb) $$ H
  icombine HSI Hb gives %hx
  ipureintro
  exact Buf.eq_of_forall_mem_univ hx

/-- What a device ends with. -/
def Ends (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_v2) = outAt m c) ∧ s.sem (barCell c) = 0

theorem ends (c : Dev nD) (s : Phys nD τ sig (Elt F)) : iprop(Tₙ m c ∗ SI s) ⊢ (|={Set.univ}=> iprop(⌜Ends m c s.mem⌝ ∗ SI s) : sProp 𝕄) := by
  iintro ⟨⟨H, Hb⟩, HSI⟩
  ihave %h0 := (read_held m c main_arg0 (by decide) s) $$ [H HSI]
  · isplitl [H] <;> iassumption
  ihave %h1 := (read_held m c main_arg1 (by decide) s) $$ [H HSI]
  · isplitl [H] <;> iassumption
  ihave %h2 := (read_held m c main_v2 (by decide) s) $$ [H HSI]
  · isplitl [H] <;> iassumption
  icombine HSI Hb gives %hb
  imodintro
  isplitr
  · ipureintro
    exact ⟨⟨h0.trans ((V₂_ne m c (by decide)).trans (V₁_of_ne m c _ (by decide))), h1.trans ((V₂_ne m c (by decide)).trans (V₁_of_ne m c _ (by decide))),
      h2.trans (V₂_out m c)⟩, by simpa using hb⟩
  iexact HSI

set_option backward.isDefEq.respectTransparency.types false in
theorem run_main (hE : Even m) : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outAt m c) ∧ r.2.sem = fun _ => 0) :=
  Pipeline.θ_run_regions_kit_sems (pcfgs (F := F)) adm (pdats m) () cellOf_inj EP defs₀ 𝒱₀ L lv m ρ main (segs m hE)
    (fun c Q => by rw [main_run m hE c])
    (by simp only [segs, Pipeline.Seg.pipes_host, Pipeline.Seg.pipes_region, Pipeline.Seg.pipes_nil]; decide)
    (O₀ := owed₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [sep_atZero]; iexact HX)
    (T₀ := T₀ m) (Tₙ := Tₙ m)
    (hch := ⟨fun c => .rfl, fun c => reg0_pre m hE c, fun c => reg0_post m hE c⟩)
    (hinit := init m ρ)
    (QY := fun c s => Ends m c s)
    (hfin := fun c s => ends m c s)
    (hQ := fun s h hs => ⟨fun c => (h c).1, sem_eq_zero hs fun c sm hsm => by rw [unscoped_bar sm hsm]; exact (h c).2⟩)

end Cert.A2A

end
-- ==== Proof.Balanced.lean ====
/-
The balance the claims assume, at a launch: every device then keeps half its rows, so the run of the whole launch applies.
-/
module

public import proofs.«01_k».proof.Defs
public import proofs.«01_k».proof.Proof.Even
public import proofs.«01_k».proof.Proof.Launch

@[expose] public section

noncomputable section

/-! ## The predicates' side conditions -/

instance Cert.A2A.facts_balanced : Cert.Pre_balanced_Kernel.Facts where
  bcast_S_S2048 := by decide
  reducesTo_S2048_S_d0 := by decide
  h_S_ := by decide

instance Cert.A2A.facts_whole : Cert.Pre_balanced_ReferenceIdeal.Facts where
  bcast_S_S4096 := by decide
  reducesTo_S4096_S_d0 := by decide
  h_S_ := by decide

namespace Cert.A2A

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

/-- A device's rows and destinations, as the launch has them. -/
abbrev rowsOf (c : Dev nD) : FVec F S2048x1024 .f32 := m ((c.tc : Thread nD τ).loc main_arg0)
abbrev destOf (c : Dev nD) : IVec S2048 32 := m ((c.tc : Thread nD τ).loc main_arg1)

theorem DD_eq (c : Dev nD) : DD m c = staged (F := F) (destOf m c) := by
  rfl

theorem XX_eq (c : Dev nD) : XX m c = rowsOf m c := V₁_of_ne m c main_arg0 (by decide)

variable {m} in
/-- Where every device is balanced, every device keeps half its rows. -/
theorem even_of_balanced (h : ∀ c, Cert.Pre_balanced_Kernel.fn (rowsOf m c) (destOf m c) = fun _ => 1#1) : Even m := by
  intro c
  obtain ⟨h01, hsum⟩ := words_of_balanced (h c)
  obtain ⟨h0, h1⟩ := ones_of_sum _ h01 hsum
  have ho : differing (destOf m c) (placeW c) = 1024 := by
    rw [placeW_eq]
    rcases (show place c = 0 ∨ place c = 1 by unfold place; omega) with e | e <;> rw [e]
    · exact h0
    · exact h1
  rw [DD_eq]
  have hc := count_staged (F := F) (destOf m c) (placeW c)
  exact ⟨by omega, by rw [sentWord_staged, ho]⟩

end Cert.A2A

end
-- ==== Proof.Same.lean ====
/-
The printed kernel and its idealization are one text, so over words they are one program.
-/
module

public import proofs.«01_k».proof.Defs
public import proofs.«01_k».proof.Proof.Gen.Kernel
public import proofs.«01_k».proof.Proof.Gen.KernelIdeal

@[expose] public section

noncomputable section

namespace Cert.Same

open Idealize.ShloMosaic Idealize.SL.Sem

/-- Two sequences are one where their first steps are one and their rests are. -/
theorem bind_same {M : Type → Type _} [Monad M] {α β : Type} {a b : M α} {f g : α → M β} (h : a = b) (hk : ∀ x, f x = g x) :
    (a >>= f) = (b >>= g) := by
  rw [h, funext hk]

set_option maxHeartbeats 0 in
set_option maxRecDepth 100000 in
/-- The checked part of the body, over words. -/
theorem part_same : Cert.Kernel.k0_part109 (F := Bits) = Cert.KernelIdeal.k0_part109 (F := Bits) := by
  exact rfl

/-- The body. -/
theorem body_same : Cert.Kernel.cc0_body (F := Bits) = Cert.KernelIdeal.cc0_body (F := Bits) := by
  unfold Cert.Kernel.cc0_body Cert.KernelIdeal.cc0_body
  repeat (apply funext; intro _)
  refine bind_same ?_ fun x => ?_
  · rw [part_same]
  · rfl

/-- The bodies by their labels. -/
theorem start_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    show Cert.Kernel.cc0_body _ _ _ _ _ _ _ _ _ _ _ _ _ _ _ _ _ _ _ _ _ = _
    rw [body_same]

/-- The definitions a run looks labels up in. -/
theorem defs_same : Cert.Kernel.defs (F := Bits) = Cert.KernelIdeal.defs (F := Bits) := by
  unfold Cert.Kernel.defs Cert.KernelIdeal.defs
  rw [start_same]
  rfl

end Cert.Same

end
-- ==== Proof.Frames.lean ====
/-
The frames: from a memory each device of which is balanced, the program ends with its arguments as they were and no
counter raised, in words and in exact values alike.  And the reference's, from any memory.
-/
module

public import proofs.«01_k».proof.Proof.Balanced
public import proofs.«01_k».proof.Proof.Same
public import proofs.«01_k».proof.Proof.Gen.ReferenceIdeal.Run

@[expose] public section

noncomputable section

namespace Cert.Proof

open Idealize.ShloMosaic Idealize.ShloMosaic.TcCoe Idealize.SL.Sem

theorem frame_kernel : Cert.quiescent_Kernel := by
  intro m ρ h
  rw [Cert.Same.defs_same]
  exact (θ_run Cert.KernelIdeal.defs _ _).mono (fun _ h => ⟨fun c => ⟨(h.1 c).1, (h.1 c).2.1⟩, h.2⟩)
    (Cert.A2A.run_main (F := Bits) m ρ (Cert.A2A.even_of_balanced h))

theorem frame_ideal : Cert.quiescent_KernelIdeal := fun m ρ h =>
  (θ_run Cert.KernelIdeal.defs _ _).mono (fun _ h => ⟨fun c => ⟨(h.1 c).1, (h.1 c).2.1⟩, h.2⟩)
    (Cert.A2A.run_main (F := Ideal) m ρ (Cert.A2A.even_of_balanced h))

theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

theorem frame_reference_balanced : Cert.quiescent_ReferenceIdeal_pre_balanced_ReferenceIdeal := fun m ρ _ =>
  frame_reference m ρ trivial

end Cert.Proof

end
-- ==== Proof.Sorted.lean ====
/-
Sorting 4096 keys of zero and one, stably: the rows of key `b` of the half `a` come, in their order, from position
`2048 b + 1024 a` on, where each half has 1024 keys of either kind.
-/
module

public import Idealize.ShloMosaic.Lib.PlanTiles.StableSort
public import Mathlib.Data.Nat.Count

@[expose] public section

noncomputable section

namespace Cert.A2A

open Idealize.ShloMosaic

/-! ## A stable sort places an element by the number of those before it -/

/-- Whether `u` comes before `t`: its key is greater, or the same with a lower position. -/
abbrev Ahead {n : ℕ} (G : Fin n → ℕ) (u t : Fin n) : Prop := PlanTiles.Lex G (· < ·) u t

theorem sortedFrom_of_rank {n : ℕ} (G : Fin n → ℕ) (t k : Fin n)
    (hk : (Finset.univ.filter fun u => G t < G u ∨ (G u = G t ∧ u < t)).card = k.val) :
    sortedFrom (fun a b : Fin n => decide (G b < G a)) k = t := by
  set B : Fin n → Fin n → Bool := fun a b => decide (G b < G a) with hB
  have hlex : ∀ {i j : Fin n}, i < j → Ahead G (sortedFrom B i) (sortedFrom B j) := by
    intro i j hij
    have hp := PlanTiles.pairwise_stableSort_lex G (· < ·) (List.finRange n) (List.pairwise_lt_finRange n)
    exact List.pairwise_iff_get.mp hp _ _ (show i.val < j.val from hij)
  have hirr : ∀ u v, Ahead G u v → ¬ Ahead G v u := by
    rintro u v (h | ⟨h, h'⟩) (k | ⟨k, k'⟩)
    · omega
    · omega
    · omega
    · exact absurd h' (not_lt.mpr k'.le)
  obtain ⟨j, rfl⟩ := sortedFrom_surjective B t
  have himg : (Finset.univ.filter fun u => G (sortedFrom B j) < G u ∨ (G u = G (sortedFrom B j) ∧ u < sortedFrom B j))
      = (Finset.Iio j).image (sortedFrom B) := by
    ext u
    simp only [Finset.mem_filter, Finset.mem_univ, true_and, Finset.mem_image, Finset.mem_Iio]
    constructor
    · intro h
      obtain ⟨i, rfl⟩ := sortedFrom_surjective B u
      refine ⟨i, ?_, rfl⟩
      rcases lt_trichotomy i j with hij | hij | hij
      · exact hij
      · subst hij; exact absurd h (hirr _ _ h)
      · exact absurd (hlex hij) (hirr _ _ h)
    · rintro ⟨i, hi, rfl⟩
      exact hlex hi
  rw [himg, Finset.card_image_of_injective _ (sortedFrom_injective B), Fin.card_Iio] at hk
  rw [Fin.ext hk]

/-! ## Keys of zero and one, in two halves -/

/-- The number of positions below `t` of which `P` holds, counted in a longer range. -/
theorem sum_below (P : ℕ → Prop) [DecidablePred P] {t n : ℕ} (h : t ≤ n) :
    (∑ u ∈ Finset.range n, if P u ∧ u < t then 1 else 0) = Nat.count P t := by
  rw [← Finset.card_filter, Nat.count_eq_card_filter_range]
  congr 1
  ext u
  simp only [Finset.mem_filter, Finset.mem_range]
  constructor
  · rintro ⟨_, hp, ht⟩; exact ⟨ht, hp⟩
  · rintro ⟨ht, hp⟩; exact ⟨by omega, hp, ht⟩

section Halves
variable (w : ℕ → ℕ)

/-- How many of the first `r` keys of the half `a` are `b`. -/
abbrev halfCount (a b r : ℕ) : ℕ := Nat.count (fun p => w (2048 * a + p) = b) r

variable {w}

/-- The rows before a row of key `b`. -/
theorem card_ahead (h01 : ∀ p < 4096, w p = 0 ∨ w p = 1) (t : Fin 4096) :
    (Finset.univ.filter fun u : Fin 4096 => 1 - w t.val < 1 - w u.val ∨ (1 - w u.val = 1 - w t.val ∧ u < t)).card
      = (if w t.val = 1 then Nat.count (fun p => w p = 0) 4096 else 0) + Nat.count (fun p => w p = w t.val) t.val := by
  have hpt : ∀ u : Fin 4096, (if 1 - w t.val < 1 - w u.val ∨ (1 - w u.val = 1 - w t.val ∧ u < t) then 1 else 0)
      = (fun p => (if w t.val = 1 then (if w p = 0 ∧ p < 4096 then 1 else 0) else 0) + (if w p = w t.val ∧ p < t.val then 1 else 0)) u.val := by
    intro u
    have hu := u.isLt
    have hlt : u < t ↔ u.val < t.val := Iff.rfl
    rcases h01 _ u.isLt with e | e <;> rcases h01 _ t.isLt with e' | e' <;> simp only [e, e', hlt] <;> simp [hu]
  rw [Finset.card_filter, Finset.sum_congr rfl fun u _ => hpt u]
  refine (Fin.sum_univ_eq_sum_range (fun p => (if w t.val = 1 then (if w p = 0 ∧ p < 4096 then 1 else 0) else 0)
    + (if w p = w t.val ∧ p < t.val then 1 else 0)) 4096).trans ?_
  rw [Finset.sum_add_distrib, sum_below (fun p => w p = w t.val) t.isLt.le]
  refine congrArg (· + Nat.count (fun p => w p = w t.val) t.val) ?_
  by_cases h : w t.val = 1
  · rw [if_pos h, ← sum_below (fun p => w p = 0) (le_refl 4096)]
    exact Finset.sum_congr rfl fun u _ => if_pos h
  · rw [if_neg h]
    exact Finset.sum_eq_zero fun u _ => if_neg h

theorem count_half (heven : ∀ a < 2, ∀ b < 2, halfCount w a b 2048 = 1024) {a b : ℕ} (ha : a < 2) (hb : b < 2) (r : ℕ) :
    Nat.count (fun p => w p = b) (2048 * a + r) = 1024 * a + halfCount w a b r := by
  rw [Nat.count_add]
  refine congrArg (· + _) ?_
  rcases (show a = 0 ∨ a = 1 by omega) with rfl | rfl
  · exact Nat.count_zero _
  · have := heven 0 (by omega) b hb
    simpa [halfCount] using this

/-- Where a stable sort takes its rows from. -/
theorem sorted_half (h01 : ∀ p < 4096, w p = 0 ∨ w p = 1) (heven : ∀ a < 2, ∀ b < 2, halfCount w a b 2048 = 1024) {a b r : ℕ}
    (ha : a < 2) (hb : b < 2) (hr : r < 2048) (hw : w (2048 * a + r) = b) (k : Fin 4096) (hk : k.val = 2048 * b + 1024 * a + halfCount w a b r) :
    (sortedFrom (fun x y : Fin 4096 => decide (1 - w y.val < 1 - w x.val)) k).val = 2048 * a + r := by
  have ht : 2048 * a + r < 4096 := by omega
  refine congrArg Fin.val (sortedFrom_of_rank (fun u : Fin 4096 => 1 - w u.val) ⟨2048 * a + r, ht⟩ k ?_)
  rw [card_ahead h01, hk]
  show (if w (2048 * a + r) = 1 then _ else 0) + Nat.count (fun p => w p = w (2048 * a + r)) (2048 * a + r) = _
  rw [hw, count_half heven ha hb]
  have hall : Nat.count (fun p => w p = 0) 4096 = 2048 := by
    have h := count_half heven (a := 1) (b := 0) (by omega) (by omega) 2048
    rw [heven 1 (by omega) 0 (by omega)] at h
    exact h
  rw [hall]
  rcases (show b = 0 ∨ b = 1 by omega) with rfl | rfl
  · simp
  · simp; omega

end Halves

end Cert.A2A

end
-- ==== Proof.Rows.lean ====
/-
The rows a device keeps and the rows it sends, as rows of the whole array: the one at position `q` of them is the row
a stable sort of all the destinations puts in its place.
-/
module

public import proofs.«01_k».proof.Proof.Balanced
public import proofs.«01_k».proof.Proof.Sorted

@[expose] public section

noncomputable section

namespace Cert.A2A

open Cert.KernelIdeal Cert.KernelIdeal.Gen
open Idealize.ShloMosaic Idealize.ShloMosaic.TcCoe Idealize.SL.Sem

variable {F : FTy → Type} [FloatOps F]

/-! ## Counting -/

/-- Predicates that agree below a bound count alike below it. -/
theorem count_iff (P Q : ℕ → Prop) [DecidablePred P] [DecidablePred Q] {n : ℕ} (h : ∀ p < n, P p ↔ Q p) : Nat.count P n = Nat.count Q n := by
  induction n with
  | zero => simp
  | succ n ih =>
    rw [Nat.count_succ, Nat.count_succ, ih fun p hp => h p (by omega)]
    simp only [h n (by omega)]

/-- The row at position `q` of those a predicate picks, where it picks more than `q` below `n`. -/
theorem nthRow_spec (P : ℕ → Prop) [DecidablePred P] {q n : ℕ} (h : q < Nat.count P n) :
    nthRow P q < n ∧ P (nthRow P q) ∧ Nat.count P (nthRow P q) = q := by
  induction n with
  | zero => simp at h
  | succ n ih =>
    by_cases hq : q < Nat.count P n
    · obtain ⟨h1, h2⟩ := ih hq
      exact ⟨by omega, h2⟩
    · rw [Nat.count_succ] at h
      have hp : P n := by by_contra hn; rw [if_neg hn] at h; omega
      rw [if_pos hp] at h
      obtain rfl : q = Nat.count P n := by omega
      rw [nthRow_count P hp]
      exact ⟨by omega, hp, rfl⟩

/-! ## One half of the keys -/

variable {w : ℕ → ℕ}

/-- The row at position `q` of the rows of key `b` in half `a`. -/
theorem half_row (h01 : ∀ p < 4096, w p = 0 ∨ w p = 1) (heven : ∀ a < 2, ∀ b < 2, halfCount w a b 2048 = 1024) {a b q : ℕ} (ha : a < 2) (hb : b < 2)
    (hq : q < 1024) (P : ℕ → Prop) [DecidablePred P] (hP : ∀ p < 2048, P p ↔ w (2048 * a + p) = b) (k : Fin 4096) (hk : k.val = 2048 * b + 1024 * a + q) :
    nthRow P q < 2048 ∧ (sortedFrom (fun x y : Fin 4096 => decide (1 - w y.val < 1 - w x.val)) k).val = 2048 * a + nthRow P q := by
  have hc : ∀ n ≤ 2048, Nat.count P n = halfCount w a b n := fun n hn => count_iff _ _ fun p hp => hP p (by omega)
  obtain ⟨h1, h2, h3⟩ := nthRow_spec P (q := q) (n := 2048) (by rw [hc _ le_rfl, heven a ha b hb]; exact hq)
  refine ⟨h1, sorted_half h01 heven ha hb h1 ((hP _ h1).mp h2) k ?_⟩
  rw [← hc _ h1.le, h3, hk]

/-- A word of a key below two is that number. -/
theorem key_word {v b : ℕ} (hv : v = 0 ∨ v = 1) (hb : b < 2) : BitVec.ofNat 32 v = BitVec.ofNat 32 b ↔ v = b := by
  rcases hv with rfl | rfl <;> rcases (show b = 0 ∨ b = 1 by omega) with rfl | rfl <;> decide

/-! ## A device's rows -/

variable (D : DBuf F) {a : ℕ}

/-- The rows kept, by their keys. -/
theorem kept_iff (h01 : ∀ p < 4096, w p = 0 ∨ w p = 1) (ha : a < 2) (hD : ∀ p < 2048, word D p = BitVec.ofNat 32 (w (2048 * a + p))) {b : ℕ} (hb : b < 2)
    (p : ℕ) (hp : p < 2048) : Kept D (BitVec.ofNat 32 b) p ↔ w (2048 * a + p) = b := by
  unfold Kept
  rw [hD p hp, key_word (h01 _ (by omega)) hb]
  exact and_iff_right hp

/-- The rows sent, by their keys. -/
theorem sent_iff (h01 : ∀ p < 4096, w p = 0 ∨ w p = 1) (ha : a < 2) (hD : ∀ p < 2048, word D p = BitVec.ofNat 32 (w (2048 * a + p))) {b : ℕ} (hb : b < 2)
    (p : ℕ) (hp : p < 2048) : Sent D (BitVec.ofNat 32 (1 - b)) p ↔ w (2048 * a + p) = b := by
  unfold Sent
  have h := h01 (2048 * a + p) (by omega)
  rw [hD p hp, Ne, key_word h (by omega)]
  omega

/-- Where the device has as many rows of either key, its half of the keys has. -/
theorem half_even (h01 : ∀ p < 4096, w p = 0 ∨ w p = 1) (ha : a < 2) {d : IVec S2048 32} (hD : ∀ p < 2048, word (F := F) (staged d) p = BitVec.ofNat 32 (w (2048 * a + p)))
    (hd : differing d 0#32 = 1024 ∧ differing d 1#32 = 1024) (b : ℕ) (hb : b < 2) : halfCount w a b 2048 = 1024 := by
  have hk : kCount (F := F) (staged d) (BitVec.ofNat 32 b) 2048 = halfCount w a b 2048 :=
    count_iff _ _ fun p hp => kept_iff (F := F) (staged d) h01 ha hD hb p hp
  have hc := count_staged (F := F) d (BitVec.ofNat 32 b)
  have ho : differing d (BitVec.ofNat 32 b) = 1024 := by
    rcases (show b = 0 ∨ b = 1 by omega) with rfl | rfl
    · exact hd.1
    · exact hd.2
  omega

end Cert.A2A

end
-- ==== Proof.RefVal.lean ====
/-
The reference's result: row `g` is the row of `x` that a stable sort of the destinations puts at position `g`.
-/
module

public import proofs.«01_k».proof.Proof.Gen.ReferenceIdeal.Run
public import Idealize.ShloMosaic.Lib.Routing.Ops

@[expose] public section

noncomputable section

namespace Cert.RefVal

open Cert.ReferenceIdeal Cert.ReferenceIdeal.Gen
open Idealize.ShloMosaic Idealize.ShloMosaic.ValueIdx

/-- A sort that carries a second operand, read at a position. -/
theorem sort_carried {n : ℕ} {α β : Type} (cmp : α × β → α × β → BitVec 1) (x : (⟨1, ![n]⟩ : Shape).Idx → α) (y : (⟨1, ![n]⟩ : Shape).Idx → β) (g : Fin n) :
    (Host.sort2 ⟨1, ![n]⟩ 0 cmp x y).2 (Shape.Idx.ofFin g)
      = y (Shape.Idx.ofFin (sortedFrom (fun k k' : Fin n => cmp (x (Shape.Idx.ofFin k), y (Shape.Idx.ofFin k)) (x (Shape.Idx.ofFin k'), y (Shape.Idx.ofFin k')) == 1#1) g)) := by
  have hd : 0 < (⟨1, ![n]⟩ : Shape).rank := Nat.one_pos
  have h : (Host.sort2 ⟨1, ![n]⟩ 0 cmp x y).2 = fun j => y (j.along (0 : Fin 1) (sortedFrom (fun k k' : Fin n =>
      cmp (x (j.along (0 : Fin 1) k), y (j.along (0 : Fin 1) k)) (x (j.along (0 : Fin 1) k'), y (j.along (0 : Fin 1) k')) == 1#1) (j 0))) := by
    unfold Host.sort2
    rw [dif_pos hd]
    rfl
  rw [h]
  simp only [Shape.Idx.along_rank1, Shape.Idx.ofFin_zero]
  exact congrArg y (Shape.Idx.along_rank1 _ _)

/-- Where an index is a natural number, counting negative ones from the end leaves it. -/
theorem select_nonneg {s : Shape} (v z a : IVec s 32) (j : s.Idx) {n : ℕ} (hz : z j = 0#32) (hv : v j = BitVec.ofNat 32 n) (hn : n < 2 ^ 31) :
    select (cmpi .slt v z) a v j = BitVec.ofNat 32 n := by
  have h : cmpi .slt v z j = 0#1 := by
    show BitVec.ofBool (BitVec.slt (v j) (z j)) = 0#1
    rw [hz, hv, BitVec.slt_eq_decide, BitVec.toInt_eq_toNat_of_lt (by rw [BitVec.toNat_ofNat]; omega)]
    rw [decide_eq_false (by simp only [BitVec.toInt_zero]; omega)]; rfl
  unfold select
  rw [h]
  exact hv

/-- The counting vector at a position. -/
theorem iota_ofFin {n : ℕ} (k : Fin n) : iotaInDim (⟨1, ![n]⟩ : Shape) 32 0 (Shape.Idx.ofFin k) = BitVec.ofNat 32 k.val := rfl

/-- The row of `x` at position `g` once the rows are sorted by destination. -/
def sourceRow (d : IVec S4096 32) (g : Fin 4096) : Fin 4096 :=
  sortedFrom (fun k k' : Fin 4096 => IntOp.cmpi .slt (d (Shape.Idx.ofFin k)) (d (Shape.Idx.ofFin k')) == 1#1) g

/-- The indices the reference sorts. -/
abbrev order (d : IVec S4096 32) : IVec S4096 32 := (Host.sort2 S4096 0 comparator_i32_i32_d0 d (iotaInDim S4096 32 0)).2

theorem order_apply (d : IVec S4096 32) (g : Fin 4096) : order d (Shape.Idx.ofFin g) = BitVec.ofNat 32 (sourceRow d g).val := by
  have h := sort_carried (n := 4096) comparator_i32_i32_d0 d (iotaInDim S4096 32 0) g
  exact h.trans (iota_ofFin _)

/-- The index a row is read at. -/
theorem read_index (d : IVec S4096 32) (g : Fin 4096) :
    (select (cmpi .slt (order d) (broadcastInDim S4096 ![] bcast_S_S4096 (constantI S_ 32 0#32)))
      (addi (order d) (broadcastInDim S4096 ![] bcast_S_S4096 (constantI S_ 32 4096#32))) (order d) : IVec S4096 32) (Shape.Idx.ofFin g)
      = BitVec.ofNat 32 (sourceRow d g).val :=
  select_nonneg _ _ _ _ rfl (order_apply d g) (by have := (sourceRow d g).isLt; omega)

variable {F : FTy → Type} [FloatOps F]

/-- The reference's result. -/
def value (x : FVec F S4096x1024 .f32) (d : IVec S4096 32) : FVec F S4096x1024 .f32 :=
  Host.gather gather_S4096x1024_S4096x1_S4096x1024_1_0_n_n_0_1_11024 x (broadcastInDim S4096x1 ![0] bcast_S4096_S4096x1_0
    (select (cmpi .slt (order d) (broadcastInDim S4096 ![] bcast_S_S4096 (constantI S_ 32 0#32)))
      (addi (order d) (broadcastInDim S4096 ![] bcast_S_S4096 (constantI S_ 32 4096#32))) (order d)))

theorem value_apply (x : FVec F S4096x1024 .f32) (d : IVec S4096 32) (g : Fin 4096) (l : Fin 1024) :
    value x d (ix2 g l) = x (ix2 (sourceRow d g) l) := by
  have hi : ∀ v : IVec S4096 32, broadcastInDim S4096x1 ![0] bcast_S4096_S4096x1_0 v (ix2 g (0 : Fin 1)) = v (Shape.Idx.ofFin g) := fun v => by
    refine congrArg v (funext fun a => ?_)
    obtain rfl : a = 0 := Subsingleton.elim _ _
    rfl
  exact Routing.gather_row (nb := 4096) (B := 1024) (n := 4096) gather_S4096x1024_S4096x1_S4096x1024_1_0_n_n_0_1_11024
    rfl rfl rfl rfl rfl x _ g l (sourceRow d g) ((hi _).trans (read_index d g)) (by norm_num)

end Cert.RefVal

end
-- ==== Proof.Equation.lean ====
/-
The equation: from shards of one pair of arrays, every device ends with its shard of the rows sorted by destination.
-/
module

public import proofs.«01_k».proof.Defs
public import proofs.«01_k».proof.Proof.Rows
public import proofs.«01_k».proof.Proof.RefVal

@[expose] public section

noncomputable section

namespace Cert.A2A

open Cert.KernelIdeal Cert.KernelIdeal.Gen
open Cert.ReferenceIdeal (S4096 S4096x1024)
open Idealize.ShloMosaic Idealize.ShloMosaic.ValueIdx Idealize.ShloMosaic.TcCoe Idealize.SL.Sem

/-! ## Shards -/

theorem axis_place : ∀ c : Dev nD, Layout.meshLin [2, 4, 4] c.val [0] = place c := by decide +kernel

theorem place_peer (c : Dev nD) : place (peer c) = 1 - place c := by revert c; decide +kernel

/-- An entry of a device's shard of the rows. -/
theorem block_rows {α : Type} (c : Dev nD) (v : (⟨2, ![4096, 1024]⟩ : Shape).Idx → α) (p : Fin 2048) (l : Fin 1024) (g : Fin 4096)
    (hg : g.val = 2048 * place c + p.val) :
    (Layout.blockN ⟨2, ![2048, 1024]⟩ ⟨2, ![4096, 1024]⟩ (Layout.meshBlock [2, 4, 4] ![[0], []] c) v) (ix2 p l) = v (ix2 g l) := by
  rw [Layout.blockN_apply]
  refine congrArg v (funext fun b => Fin.ext ?_)
  rw [Layout.TilesN.idx_val]
  match b with
  | 0 =>
    show Layout.meshLin [2, 4, 4] c.val [0] * 2048 + p.val = g.val
    rw [axis_place]; omega
  | 1 =>
    show 0 * 1024 + l.val = l.val
    omega

/-- A destination of a device's shard of them. -/
theorem block_dest {α : Type} (c : Dev nD) (v : (⟨1, ![4096]⟩ : Shape).Idx → α) (p : Fin 2048) (g : Fin 4096)
    (hg : g.val = 2048 * place c + p.val) :
    (Layout.blockN ⟨1, ![2048]⟩ ⟨1, ![4096]⟩ (Layout.meshBlock [2, 4, 4] ![[0]] c) v) (Shape.Idx.ofFin p) = v (Shape.Idx.ofFin g) := by
  rw [Layout.blockN_apply]
  refine congrArg v (funext fun b => Fin.ext ?_)
  rw [Layout.TilesN.idx_val]
  obtain rfl : b = 0 := Subsingleton.elim _ _
  show Layout.meshLin [2, 4, 4] c.val [0] * 2048 + p.val = g.val
  rw [axis_place]; omega

/-! ## The keys -/

/-- The destinations of the whole array, as numbers. -/
def keys (d : IVec S4096 32) (p : ℕ) : ℕ := if h : p < 4096 then (d (Shape.Idx.ofFin ⟨p, h⟩)).toNat else 0

theorem keys_val (d : IVec S4096 32) (p : Fin 4096) : keys d p.val = (d (Shape.Idx.ofFin p)).toNat := dif_pos p.isLt

/-- Destinations of zero and one compare as the keys do. -/
theorem slt_keys {v u : BitVec 32} (hv : v = 0#32 ∨ v = 1#32) (hu : u = 0#32 ∨ u = 1#32) :
    (IntOp.cmpi .slt v u == 1#1) = decide (1 - u.toNat < 1 - v.toNat) := by
  rcases hv with rfl | rfl <;> rcases hu with rfl | rfl <;> decide

theorem sourceRow_eq (d : IVec S4096 32) (h01 : ∀ p, d (Shape.Idx.ofFin p) = 0#32 ∨ d (Shape.Idx.ofFin p) = 1#32) (g : Fin 4096) :
    Cert.RefVal.sourceRow d g = sortedFrom (fun x y : Fin 4096 => decide (1 - keys d y.val < 1 - keys d x.val)) g := by
  unfold Cert.RefVal.sourceRow
  refine congrArg (fun r => sortedFrom r g) (funext fun x => funext fun y => ?_)
  rw [slt_keys (h01 x) (h01 y), keys_val, keys_val]

/-! ## The result -/

section

variable {F : FTy → Type} [FloatOps F] (m : (ℓ : Loc nD τ sig) → Buf (Elt F) ℓ)

/-- The whole arrays a memory's devices hold shards of. -/
structure Shards (x : FVec F S4096x1024 .f32) (d : IVec S4096 32) : Prop where
  rows : ∀ c : Dev nD, rowsOf m c = Layout.blockN ⟨2, ![2048, 1024]⟩ ⟨2, ![4096, 1024]⟩ (Layout.meshBlock [2, 4, 4] ![[0], []] c) x
  dest : ∀ c : Dev nD, destOf m c = Layout.blockN ⟨1, ![2048]⟩ ⟨1, ![4096]⟩ (Layout.meshBlock [2, 4, 4] ![[0]] c) d

variable {m} {x : FVec F S4096x1024 .f32} {d : IVec S4096 32} (hS : Shards m x d)
include hS

/-- A row a device has, as a row of the whole array. -/
theorem entry_row (c : Dev nD) {p : ℕ} (hp : p < 2048) (l : Fin 1024) (g : Fin 4096) (hg : g.val = 2048 * place c + p) :
    entry (XX m c) p l.val = x (ix2 g l) := by
  rw [XX_eq, hS.rows c, ← block_rows c x ⟨p, hp⟩ l g hg]
  refine congrArg _ (funext fun b => Fin.ext ?_)
  match b with
  | 0 => exact Nat.mod_eq_of_lt hp
  | 1 => exact Nat.mod_eq_of_lt l.isLt

variable (hB : ∀ c, Cert.Pre_balanced_Kernel.fn (rowsOf m c) (destOf m c) = fun _ => 1#1)
include hB

theorem dest_01 (p : Fin 4096) : d (Shape.Idx.ofFin p) = 0#32 ∨ d (Shape.Idx.ofFin p) = 1#32 := by
  obtain ⟨c, hc⟩ : ∃ c : Dev nD, place c = p.val / 2048 :=
    ⟨⟨16 * (p.val / 2048), by show _ < 32; omega⟩, by unfold place; show 16 * (p.val / 2048) / 16 % 2 = _; omega⟩
  have h := (words_of_balanced (hB c)).1 ⟨p.val % 2048, by omega⟩
  rw [hS.dest c, block_dest c d _ p (by rw [hc]; show p.val = 2048 * (p.val / 2048) + p.val % 2048; omega)] at h
  exact h

theorem keys_01 (p : ℕ) (hp : p < 4096) : keys d p = 0 ∨ keys d p = 1 := by
  rw [show p = (⟨p, hp⟩ : Fin 4096).val from rfl, keys_val]
  rcases dest_01 hS hB ⟨p, hp⟩ with h | h <;> rw [h]
  · exact Or.inl rfl
  · exact Or.inr rfl

theorem dest_keys (c : Dev nD) (p : ℕ) (hp : p < 2048) : word (F := F) (staged (destOf m c)) p = BitVec.ofNat 32 (keys d (2048 * place c + p)) := by
  have hpl := place_lt c
  have hg : 2048 * place c + p < 4096 := by omega
  have h := word_staged (F := F) (destOf m c) ⟨p, hp⟩
  rw [show word (F := F) (staged (destOf m c)) p = word (F := F) (staged (destOf m c)) (⟨p, hp⟩ : Fin 2048).val from rfl, h, hS.dest c,
    block_dest c d ⟨p, hp⟩ ⟨2048 * place c + p, hg⟩ rfl,
    show keys d (2048 * place c + p) = keys d (⟨2048 * place c + p, hg⟩ : Fin 4096).val from rfl, keys_val, BitVec.ofNat_toNat, BitVec.setWidth_eq]

theorem keys_even (a : ℕ) (ha : a < 2) (b : ℕ) (hb : b < 2) : halfCount (keys d) a b 2048 = 1024 := by
  obtain ⟨c, hc⟩ : ∃ c : Dev nD, place c = a :=
    ⟨⟨16 * a, by show _ < 32; omega⟩, by unfold place; show 16 * a / 16 % 2 = a; omega⟩
  subst hc
  obtain ⟨h01, hsum⟩ := words_of_balanced (hB c)
  exact half_even (F := F) (keys_01 hS hB) ha (dest_keys hS hB c) (ones_of_sum _ h01 hsum) b hb

/-- The source of a row kept. -/
theorem kept_source (c : Dev nD) {q : ℕ} (hq : q < 1024) (g : Fin 4096) (hg : g.val = 2048 * place c + 1024 * place c + q) :
    kRow (DD m c) (placeW c) q < 2048 ∧ (Cert.RefVal.sourceRow d g).val = 2048 * place c + kRow (DD m c) (placeW c) q := by
  rw [DD_eq, placeW_eq, sourceRow_eq d (dest_01 hS hB)]
  exact half_row (keys_01 hS hB) (keys_even hS hB) (place_lt c) (place_lt c) hq _
    (kept_iff (F := F) _ (keys_01 hS hB) (place_lt c) (dest_keys hS hB c) (place_lt c)) g hg

/-- The source of a row the peer sent. -/
theorem sent_source (c : Dev nD) {q : ℕ} (hq : q < 1024) (g : Fin 4096) (hg : g.val = 2048 * place c + 1024 * place (peer c) + q) :
    sRow (DD m (peer c)) (placeW (peer c)) q < 2048
      ∧ (Cert.RefVal.sourceRow d g).val = 2048 * place (peer c) + sRow (DD m (peer c)) (placeW (peer c)) q := by
  have hs := sent_iff (F := F) (staged (destOf m (peer c))) (keys_01 hS hB) (place_lt (peer c)) (dest_keys hS hB (peer c)) (place_lt c)
  rw [DD_eq, placeW_eq, sourceRow_eq d (dest_01 hS hB), place_peer] at *
  exact half_row (keys_01 hS hB) (keys_even hS hB) (by have := place_lt c; omega) (place_lt c) hq _ hs g hg

end

/-- Each device ends with its shard of the sorted rows. -/
theorem outAt_eq {m : (ℓ : Loc nD τ sig) → Buf (Elt Ideal) ℓ} {x : FVec Ideal S4096x1024 .f32} {d : IVec S4096 32} (hS : Shards m x d)
    (hB : ∀ c, Cert.Pre_balanced_Kernel.fn (rowsOf m c) (destOf m c) = fun _ => 1#1) (c : Dev nD) :
    outAt m c = Layout.blockN ⟨2, ![2048, 1024]⟩ ⟨2, ![4096, 1024]⟩ (Layout.meshBlock [2, 4, 4] ![[0], []] c) (Cert.RefVal.value x d) := by
  funext i
  obtain ⟨p, l, rfl⟩ : ∃ (p : Fin 2048) (l : Fin 1024), i = ix2 p l := ⟨i 0, i 1, eq_ix2 i⟩
  have hpl := place_lt c
  have hp := p.isLt
  have hl := l.isLt
  obtain ⟨g, hg⟩ : ∃ g : Fin 4096, g.val = 2048 * place c + p.val := ⟨⟨2048 * place c + p.val, by omega⟩, rfl⟩
  rw [block_rows c _ p l g hg, Cert.RefVal.value_apply]
  show merged (XX m) (DD m) c (8 * p.val + l.val / 128) (l.val % 128) = _
  have e0 : (8 * p.val + l.val / 128) / 8 = p.val := by omega
  have e1 : 128 * ((8 * p.val + l.val / 128) % 8) + l.val % 128 = l.val := by omega
  unfold merged
  rw [e0, e1]
  split
  · next h =>
    obtain ⟨h1, h2⟩ := h
    unfold kBase at *
    obtain ⟨hr, hs⟩ := kept_source hS hB c (q := p.val - place c * 1024) (by omega) g (by omega)
    exact entry_row hS c hr l _ hs
  · next h =>
    have hpp := place_peer c
    have hb : rBase c ≤ p.val ∧ p.val < rBase c + 1024 := by
      unfold kBase at h; unfold rBase
      rcases (show place c = 0 ∨ place c = 1 by omega) with e | e <;> rw [e] at h ⊢ <;> omega
    obtain ⟨hr, hs⟩ := sent_source hS hB c (q := p.val - rBase c) (by omega) g (by unfold rBase at *; rw [hpp]; omega)
    unfold rounded
    rw [show (8 * p.val + l.val / 128 - 8 * rBase c) / 8 = p.val - rBase c by omega,
      show 128 * ((8 * p.val + l.val / 128 - 8 * rBase c) % 8) + l.val % 128 = l.val by omega]
    exact entry_row hS (peer c) hr l _ hs

end Cert.A2A

namespace Cert.Proof

open Idealize.ShloMosaic Idealize.ShloMosaic.TcCoe Idealize.SL.Sem

theorem algebraic : Cert.algebraic_KernelIdeal_ReferenceIdeal := by
  intro m g m' g' hB hm
  refine ⟨Cert.RefVal.value (F := Ideal) (m' ((0 : Dev Cert.ReferenceIdeal.nD).tc.loc Cert.ReferenceIdeal.main_arg0))
    (m' ((0 : Dev Cert.ReferenceIdeal.nD).tc.loc Cert.ReferenceIdeal.main_arg1)), ?_, ?_⟩
  · refine (θ_run Cert.KernelIdeal.defs _ _).mono (fun r h c => ⟨?_, (h.1 c).1, (h.1 c).2.1⟩)
      (Cert.A2A.run_main (F := Ideal) m g (Cert.A2A.even_of_balanced hB))
    exact (h.1 c).2.2.trans (Cert.A2A.outAt_eq ⟨fun c => (hm c).1, fun c => (hm c).2⟩ hB c)
  · exact (θ_run Cert.ReferenceIdeal.defs _ _).mono (fun r h => ⟨(h 0).1, (h 0).2.1, (h 0).2.2⟩)
      (Cert.ReferenceIdeal.Value.run (F := Ideal) m' g')

end Cert.Proof

end
-- ==== Proof.lean ====
/-
The claims: the exchange of rows between a device and its peer runs, leaves its arguments as they were and every counter
at zero, and makes of the rows what sorting them by destination makes.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equation

@[expose] public section

noncomputable section

namespace Cert.Proof

theorem claim : Cert.Claim :=
  ⟨Cert.Kernel.Gen.facts, Cert.KernelIdeal.Gen.facts, Cert.ReferenceIdeal.Gen.facts, Cert.A2A.facts_balanced, Cert.A2A.facts_whole,
    frame_kernel, frame_ideal, frame_reference, frame_reference_balanced, trivial, algebraic⟩

end Cert.Proof

end
